-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_in [hPre_finite_in : Cert.Pre_finite_in.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.2.1 = (fun _ => 1#1)
    ∧ (Cert.Pre_finite_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.2.2 = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_finite_in [hPre_finite_in : Cert.Pre_finite_in.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.2.1 = (fun _ => 1#1)
    ∧ (Cert.Pre_finite_in.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool [hPre_finite_pool : Cert.Pre_finite_pool.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4))).2.2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite_pool [hPre_finite_pool : Cert.Pre_finite_pool.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4))).2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))).2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_S5Bwd (m : (ℓ : Loc Cert.S5Bwd.nD Cert.S5Bwd.τ Cert.S5Bwd.sig) → Buf (Elt Bits) ℓ) : Prop :=
  True

def Pre_S5BwdIdeal (m : (ℓ : Loc Cert.S5BwdIdeal.nD Cert.S5BwdIdeal.τ Cert.S5BwdIdeal.sig) → Buf (Elt Ideal) ℓ) : Prop :=
  True

def Pre_S5BwdRefIdeal (m : (ℓ : Loc Cert.S5BwdRefIdeal.nD Cert.S5BwdRefIdeal.τ Cert.S5BwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_pool_fwd [hPre_finite_pool_fwd : Cert.Pre_finite_pool_fwd.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_pool_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_pool_fwd [hPre_finite_pool_fwd : Cert.Pre_finite_pool_fwd.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_pool_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3))) = (fun _ => 1#1)

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRefIdeal (m : (ℓ : Loc Cert.FwdInRefIdeal.nD Cert.FwdInRefIdeal.τ Cert.FwdInRefIdeal.sig) → Buf (Elt Ideal) ℓ) : Prop :=
  True

def Pre_S5Fwd (m : (ℓ : Loc Cert.S5Fwd.nD Cert.S5Fwd.τ Cert.S5Fwd.sig) → Buf (Elt Bits) ℓ) : Prop :=
  True

def Pre_S5FwdIdeal (m : (ℓ : Loc Cert.S5FwdIdeal.nD Cert.S5FwdIdeal.τ Cert.S5FwdIdeal.sig) → Buf (Elt Ideal) ℓ) : Prop :=
  True

def Pre_S5FwdRefIdeal (m : (ℓ : Loc Cert.S5FwdRefIdeal.nD Cert.S5FwdRefIdeal.τ Cert.S5FwdRefIdeal.sig) → Buf (Elt Ideal) ℓ) : Prop :=
  True

def Pre_BwdOut (m : (ℓ : Loc Cert.BwdOut.nD Cert.BwdOut.τ Cert.BwdOut.sig) → Buf (Elt Bits) ℓ) : Prop :=
  True

def Pre_BwdOutIdeal (m : (ℓ : Loc Cert.BwdOutIdeal.nD Cert.BwdOutIdeal.τ Cert.BwdOutIdeal.sig) → Buf (Elt Ideal) ℓ) : Prop :=
  True

def Pre_BwdOutRefIdeal (m : (ℓ : Loc Cert.BwdOutRefIdeal.nD Cert.BwdOutRefIdeal.τ Cert.BwdOutRefIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnRefIdeal (m : (ℓ : Loc Cert.GradFfnRefIdeal.nD Cert.GradFfnRefIdeal.τ Cert.GradFfnRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInIdeal_pre_finite_in [hBwdInIdeal : Cert.BwdInIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_in m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_BwdInRefIdeal_pre_finite_in [hBwdInRefIdeal : Cert.BwdInRefIdeal.Facts] [hPre_finite_in : Cert.Pre_finite_in.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_finite_in m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdIdeal_pre_finite_pool [hPoolBwdIdeal : Cert.PoolBwdIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_PoolBwdRefIdeal_pre_finite_pool [hPoolBwdRefIdeal : Cert.PoolBwdRefIdeal.Facts] [hPre_finite_pool : Cert.Pre_finite_pool.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite_pool m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_S5Bwd [hS5Bwd : Cert.S5Bwd.Facts] : Prop :=
  ∀ (m : (ℓ : Loc Cert.S5Bwd.nD Cert.S5Bwd.τ Cert.S5Bwd.sig) → Buf (Elt Bits) ℓ) (g : Dev Cert.S5Bwd.nD → PrngReg), Pre_S5Bwd m →
    θ_run (Cert.S5Bwd.defs (F := Bits)) (onTc (τ := Cert.S5Bwd.τ) (Cert.S5Bwd.main (F := Bits))) ⟨m, fun _ => 0, g⟩ (fun r => (∀ c : Dev Cert.S5Bwd.nD,
      r.2.mem ((c.tc : Thread Cert.S5Bwd.nD Cert.S5Bwd.τ).loc Cert.S5Bwd.main_arg0) = m ((c.tc : Thread Cert.S5Bwd.nD Cert.S5Bwd.τ).loc Cert.S5Bwd.main_arg0)
      ∧ r.2.mem ((c.tc : Thread Cert.S5Bwd.nD Cert.S5Bwd.τ).loc Cert.S5Bwd.main_arg1) = m ((c.tc : Thread Cert.S5Bwd.nD Cert.S5Bwd.τ).loc Cert.S5Bwd.main_arg1)
      ∧ r.2.mem ((c.tc : Thread Cert.S5Bwd.nD Cert.S5Bwd.τ).loc Cert.S5Bwd.main_arg2) = m ((c.tc : Thread Cert.S5Bwd.nD Cert.S5Bwd.τ).loc Cert.S5Bwd.main_arg2)
      ∧ r.2.mem ((c.tc : Thread Cert.S5Bwd.nD Cert.S5Bwd.τ).loc Cert.S5Bwd.main_arg3) = m ((c.tc : Thread Cert.S5Bwd.nD Cert.S5Bwd.τ).loc Cert.S5Bwd.main_arg3)
      ∧ r.2.mem ((c.tc : Thread Cert.S5Bwd.nD Cert.S5Bwd.τ).loc Cert.S5Bwd.main_arg4) = m ((c.tc : Thread Cert.S5Bwd.nD Cert.S5Bwd.τ).loc Cert.S5Bwd.main_arg4)
      ∧ r.2.mem ((c.tc : Thread Cert.S5Bwd.nD Cert.S5Bwd.τ).loc Cert.S5Bwd.main_arg5) = m ((c.tc : Thread Cert.S5Bwd.nD Cert.S5Bwd.τ).loc Cert.S5Bwd.main_arg5)
      ∧ r.2.mem ((c.tc : Thread Cert.S5Bwd.nD Cert.S5Bwd.τ).loc Cert.S5Bwd.main_arg6) = m ((c.tc : Thread Cert.S5Bwd.nD Cert.S5Bwd.τ).loc Cert.S5Bwd.main_arg6)
      ∧ r.2.mem ((c.tc : Thread Cert.S5Bwd.nD Cert.S5Bwd.τ).loc Cert.S5Bwd.main_arg7) = m ((c.tc : Thread Cert.S5Bwd.nD Cert.S5Bwd.τ).loc Cert.S5Bwd.main_arg7)
      ∧ r.2.mem ((c.tc : Thread Cert.S5Bwd.nD Cert.S5Bwd.τ).loc Cert.S5Bwd.main_arg8) = m ((c.tc : Thread Cert.S5Bwd.nD Cert.S5Bwd.τ).loc Cert.S5Bwd.main_arg8)
      ∧ r.2.mem ((c.tc : Thread Cert.S5Bwd.nD Cert.S5Bwd.τ).loc Cert.S5Bwd.main_arg9) = m ((c.tc : Thread Cert.S5Bwd.nD Cert.S5Bwd.τ).loc Cert.S5Bwd.main_arg9)
      ∧ r.2.mem ((c.tc : Thread Cert.S5Bwd.nD Cert.S5Bwd.τ).loc Cert.S5Bwd.main_arg10) = m ((c.tc : Thread Cert.S5Bwd.nD Cert.S5Bwd.τ).loc Cert.S5Bwd.main_arg10)
      ∧ r.2.mem ((c.tc : Thread Cert.S5Bwd.nD Cert.S5Bwd.τ).loc Cert.S5Bwd.main_arg11) = m ((c.tc : Thread Cert.S5Bwd.nD Cert.S5Bwd.τ).loc Cert.S5Bwd.main_arg11)
      ∧ r.2.mem ((c.tc : Thread Cert.S5Bwd.nD Cert.S5Bwd.τ).loc Cert.S5Bwd.main_arg12) = m ((c.tc : Thread Cert.S5Bwd.nD Cert.S5Bwd.τ).loc Cert.S5Bwd.main_arg12))
      ∧ r.2.sem = fun _ => 0)

def quiescent_S5BwdIdeal [hS5BwdIdeal : Cert.S5BwdIdeal.Facts] : Prop :=
  ∀ (m : (ℓ : Loc Cert.S5BwdIdeal.nD Cert.S5BwdIdeal.τ Cert.S5BwdIdeal.sig) → Buf (Elt Ideal) ℓ) (g : Dev Cert.S5BwdIdeal.nD → PrngReg), Pre_S5BwdIdeal m →
    θ_run (Cert.S5BwdIdeal.defs (F := Ideal)) (onTc (τ := Cert.S5BwdIdeal.τ) (Cert.S5BwdIdeal.main (F := Ideal))) ⟨m, fun _ => 0, g⟩ (fun r => (∀ c : Dev Cert.S5BwdIdeal.nD,
      r.2.mem ((c.tc : Thread Cert.S5BwdIdeal.nD Cert.S5BwdIdeal.τ).loc Cert.S5BwdIdeal.main_arg0) = m ((c.tc : Thread Cert.S5BwdIdeal.nD Cert.S5BwdIdeal.τ).loc Cert.S5BwdIdeal.main_arg0)
      ∧ r.2.mem ((c.tc : Thread Cert.S5BwdIdeal.nD Cert.S5BwdIdeal.τ).loc Cert.S5BwdIdeal.main_arg1) = m ((c.tc : Thread Cert.S5BwdIdeal.nD Cert.S5BwdIdeal.τ).loc Cert.S5BwdIdeal.main_arg1)
      ∧ r.2.mem ((c.tc : Thread Cert.S5BwdIdeal.nD Cert.S5BwdIdeal.τ).loc Cert.S5BwdIdeal.main_arg2) = m ((c.tc : Thread Cert.S5BwdIdeal.nD Cert.S5BwdIdeal.τ).loc Cert.S5BwdIdeal.main_arg2)
      ∧ r.2.mem ((c.tc : Thread Cert.S5BwdIdeal.nD Cert.S5BwdIdeal.τ).loc Cert.S5BwdIdeal.main_arg3) = m ((c.tc : Thread Cert.S5BwdIdeal.nD Cert.S5BwdIdeal.τ).loc Cert.S5BwdIdeal.main_arg3)
      ∧ r.2.mem ((c.tc : Thread Cert.S5BwdIdeal.nD Cert.S5BwdIdeal.τ).loc Cert.S5BwdIdeal.main_arg4) = m ((c.tc : Thread Cert.S5BwdIdeal.nD Cert.S5BwdIdeal.τ).loc Cert.S5BwdIdeal.main_arg4)
      ∧ r.2.mem ((c.tc : Thread Cert.S5BwdIdeal.nD Cert.S5BwdIdeal.τ).loc Cert.S5BwdIdeal.main_arg5) = m ((c.tc : Thread Cert.S5BwdIdeal.nD Cert.S5BwdIdeal.τ).loc Cert.S5BwdIdeal.main_arg5)
      ∧ r.2.mem ((c.tc : Thread Cert.S5BwdIdeal.nD Cert.S5BwdIdeal.τ).loc Cert.S5BwdIdeal.main_arg6) = m ((c.tc : Thread Cert.S5BwdIdeal.nD Cert.S5BwdIdeal.τ).loc Cert.S5BwdIdeal.main_arg6)
      ∧ r.2.mem ((c.tc : Thread Cert.S5BwdIdeal.nD Cert.S5BwdIdeal.τ).loc Cert.S5BwdIdeal.main_arg7) = m ((c.tc : Thread Cert.S5BwdIdeal.nD Cert.S5BwdIdeal.τ).loc Cert.S5BwdIdeal.main_arg7)
      ∧ r.2.mem ((c.tc : Thread Cert.S5BwdIdeal.nD Cert.S5BwdIdeal.τ).loc Cert.S5BwdIdeal.main_arg8) = m ((c.tc : Thread Cert.S5BwdIdeal.nD Cert.S5BwdIdeal.τ).loc Cert.S5BwdIdeal.main_arg8)
      ∧ r.2.mem ((c.tc : Thread Cert.S5BwdIdeal.nD Cert.S5BwdIdeal.τ).loc Cert.S5BwdIdeal.main_arg9) = m ((c.tc : Thread Cert.S5BwdIdeal.nD Cert.S5BwdIdeal.τ).loc Cert.S5BwdIdeal.main_arg9)
      ∧ r.2.mem ((c.tc : Thread Cert.S5BwdIdeal.nD Cert.S5BwdIdeal.τ).loc Cert.S5BwdIdeal.main_arg10) = m ((c.tc : Thread Cert.S5BwdIdeal.nD Cert.S5BwdIdeal.τ).loc Cert.S5BwdIdeal.main_arg10)
      ∧ r.2.mem ((c.tc : Thread Cert.S5BwdIdeal.nD Cert.S5BwdIdeal.τ).loc Cert.S5BwdIdeal.main_arg11) = m ((c.tc : Thread Cert.S5BwdIdeal.nD Cert.S5BwdIdeal.τ).loc Cert.S5BwdIdeal.main_arg11)
      ∧ r.2.mem ((c.tc : Thread Cert.S5BwdIdeal.nD Cert.S5BwdIdeal.τ).loc Cert.S5BwdIdeal.main_arg12) = m ((c.tc : Thread Cert.S5BwdIdeal.nD Cert.S5BwdIdeal.τ).loc Cert.S5BwdIdeal.main_arg12))
      ∧ r.2.sem = fun _ => 0)

def quiescent_S5BwdRefIdeal [hS5BwdRefIdeal : Cert.S5BwdRefIdeal.Facts] : Prop :=
  ∀ (m : (ℓ : Loc Cert.S5BwdRefIdeal.nD Cert.S5BwdRefIdeal.τ Cert.S5BwdRefIdeal.sig) → Buf (Elt Ideal) ℓ) (g : Dev Cert.S5BwdRefIdeal.nD → PrngReg), Pre_S5BwdRefIdeal m →
    θ_run (Cert.S5BwdRefIdeal.defs (F := Ideal)) (onTc (τ := Cert.S5BwdRefIdeal.τ) (Cert.S5BwdRefIdeal.main (F := Ideal))) ⟨m, fun _ => 0, g⟩ (fun r => (∀ c : Dev Cert.S5BwdRefIdeal.nD,
      r.2.mem ((c.tc : Thread Cert.S5BwdRefIdeal.nD Cert.S5BwdRefIdeal.τ).loc Cert.S5BwdRefIdeal.main_arg0) = m ((c.tc : Thread Cert.S5BwdRefIdeal.nD Cert.S5BwdRefIdeal.τ).loc Cert.S5BwdRefIdeal.main_arg0)
      ∧ r.2.mem ((c.tc : Thread Cert.S5BwdRefIdeal.nD Cert.S5BwdRefIdeal.τ).loc Cert.S5BwdRefIdeal.main_arg1) = m ((c.tc : Thread Cert.S5BwdRefIdeal.nD Cert.S5BwdRefIdeal.τ).loc Cert.S5BwdRefIdeal.main_arg1)
      ∧ r.2.mem ((c.tc : Thread Cert.S5BwdRefIdeal.nD Cert.S5BwdRefIdeal.τ).loc Cert.S5BwdRefIdeal.main_arg2) = m ((c.tc : Thread Cert.S5BwdRefIdeal.nD Cert.S5BwdRefIdeal.τ).loc Cert.S5BwdRefIdeal.main_arg2)
      ∧ r.2.mem ((c.tc : Thread Cert.S5BwdRefIdeal.nD Cert.S5BwdRefIdeal.τ).loc Cert.S5BwdRefIdeal.main_arg3) = m ((c.tc : Thread Cert.S5BwdRefIdeal.nD Cert.S5BwdRefIdeal.τ).loc Cert.S5BwdRefIdeal.main_arg3)
      ∧ r.2.mem ((c.tc : Thread Cert.S5BwdRefIdeal.nD Cert.S5BwdRefIdeal.τ).loc Cert.S5BwdRefIdeal.main_arg4) = m ((c.tc : Thread Cert.S5BwdRefIdeal.nD Cert.S5BwdRefIdeal.τ).loc Cert.S5BwdRefIdeal.main_arg4)
      ∧ r.2.mem ((c.tc : Thread Cert.S5BwdRefIdeal.nD Cert.S5BwdRefIdeal.τ).loc Cert.S5BwdRefIdeal.main_arg5) = m ((c.tc : Thread Cert.S5BwdRefIdeal.nD Cert.S5BwdRefIdeal.τ).loc Cert.S5BwdRefIdeal.main_arg5)
      ∧ r.2.mem ((c.tc : Thread Cert.S5BwdRefIdeal.nD Cert.S5BwdRefIdeal.τ).loc Cert.S5BwdRefIdeal.main_arg6) = m ((c.tc : Thread Cert.S5BwdRefIdeal.nD Cert.S5BwdRefIdeal.τ).loc Cert.S5BwdRefIdeal.main_arg6)
      ∧ r.2.mem ((c.tc : Thread Cert.S5BwdRefIdeal.nD Cert.S5BwdRefIdeal.τ).loc Cert.S5BwdRefIdeal.main_arg7) = m ((c.tc : Thread Cert.S5BwdRefIdeal.nD Cert.S5BwdRefIdeal.τ).loc Cert.S5BwdRefIdeal.main_arg7)
      ∧ r.2.mem ((c.tc : Thread Cert.S5BwdRefIdeal.nD Cert.S5BwdRefIdeal.τ).loc Cert.S5BwdRefIdeal.main_arg8) = m ((c.tc : Thread Cert.S5BwdRefIdeal.nD Cert.S5BwdRefIdeal.τ).loc Cert.S5BwdRefIdeal.main_arg8)
      ∧ r.2.mem ((c.tc : Thread Cert.S5BwdRefIdeal.nD Cert.S5BwdRefIdeal.τ).loc Cert.S5BwdRefIdeal.main_arg9) = m ((c.tc : Thread Cert.S5BwdRefIdeal.nD Cert.S5BwdRefIdeal.τ).loc Cert.S5BwdRefIdeal.main_arg9)
      ∧ r.2.mem ((c.tc : Thread Cert.S5BwdRefIdeal.nD Cert.S5BwdRefIdeal.τ).loc Cert.S5BwdRefIdeal.main_arg10) = m ((c.tc : Thread Cert.S5BwdRefIdeal.nD Cert.S5BwdRefIdeal.τ).loc Cert.S5BwdRefIdeal.main_arg10)
      ∧ r.2.mem ((c.tc : Thread Cert.S5BwdRefIdeal.nD Cert.S5BwdRefIdeal.τ).loc Cert.S5BwdRefIdeal.main_arg11) = m ((c.tc : Thread Cert.S5BwdRefIdeal.nD Cert.S5BwdRefIdeal.τ).loc Cert.S5BwdRefIdeal.main_arg11)
      ∧ r.2.mem ((c.tc : Thread Cert.S5BwdRefIdeal.nD Cert.S5BwdRefIdeal.τ).loc Cert.S5BwdRefIdeal.main_arg12) = m ((c.tc : Thread Cert.S5BwdRefIdeal.nD Cert.S5BwdRefIdeal.τ).loc Cert.S5BwdRefIdeal.main_arg12))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdIdeal_pre_finite_pool_fwd [hPoolFwdIdeal : Cert.PoolFwdIdeal.Facts] [hPre_finite_pool_fwd : Cert.Pre_finite_pool_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_pool_fwd m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_PoolFwdRefIdeal_pre_finite_pool_fwd [hPoolFwdRefIdeal : Cert.PoolFwdRefIdeal.Facts] [hPre_finite_pool_fwd : Cert.Pre_finite_pool_fwd.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_pool_fwd m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2)
      ∧ r.2.mem ((c.tc : Thread Cert.FwdIn.nD Cert.FwdIn.τ).loc Cert.FwdIn.main_arg3) = m ((c.tc : Thread Cert.FwdIn.nD Cert.FwdIn.τ).loc Cert.FwdIn.main_arg3))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
      ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ r.2.sem = fun _ => 0)

def quiescent_FwdInRefIdeal [hFwdInRefIdeal : Cert.FwdInRefIdeal.Facts] : Prop :=
  ∀ (m : (ℓ : Loc Cert.FwdInRefIdeal.nD Cert.FwdInRefIdeal.τ Cert.FwdInRefIdeal.sig) → Buf (Elt Ideal) ℓ) (g : Dev Cert.FwdInRefIdeal.nD → PrngReg), Pre_FwdInRefIdeal m →
    θ_run (Cert.FwdInRefIdeal.defs (F := Ideal)) (onTc (τ := Cert.FwdInRefIdeal.τ) (Cert.FwdInRefIdeal.main (F := Ideal))) ⟨m, fun _ => 0, g⟩ (fun r => (∀ c : Dev Cert.FwdInRefIdeal.nD,
      r.2.mem ((c.tc : Thread Cert.FwdInRefIdeal.nD Cert.FwdInRefIdeal.τ).loc Cert.FwdInRefIdeal.main_arg0) = m ((c.tc : Thread Cert.FwdInRefIdeal.nD Cert.FwdInRefIdeal.τ).loc Cert.FwdInRefIdeal.main_arg0)
      ∧ r.2.mem ((c.tc : Thread Cert.FwdInRefIdeal.nD Cert.FwdInRefIdeal.τ).loc Cert.FwdInRefIdeal.main_arg1) = m ((c.tc : Thread Cert.FwdInRefIdeal.nD Cert.FwdInRefIdeal.τ).loc Cert.FwdInRefIdeal.main_arg1)
      ∧ r.2.mem ((c.tc : Thread Cert.FwdInRefIdeal.nD Cert.FwdInRefIdeal.τ).loc Cert.FwdInRefIdeal.main_arg2) = m ((c.tc : Thread Cert.FwdInRefIdeal.nD Cert.FwdInRefIdeal.τ).loc Cert.FwdInRefIdeal.main_arg2)
      ∧ r.2.mem ((c.tc : Thread Cert.FwdInRefIdeal.nD Cert.FwdInRefIdeal.τ).loc Cert.FwdInRefIdeal.main_arg3) = m ((c.tc : Thread Cert.FwdInRefIdeal.nD Cert.FwdInRefIdeal.τ).loc Cert.FwdInRefIdeal.main_arg3))
      ∧ r.2.sem = fun _ => 0)

def quiescent_S5Fwd [hS5Fwd : Cert.S5Fwd.Facts] : Prop :=
  ∀ (m : (ℓ : Loc Cert.S5Fwd.nD Cert.S5Fwd.τ Cert.S5Fwd.sig) → Buf (Elt Bits) ℓ) (g : Dev Cert.S5Fwd.nD → PrngReg), Pre_S5Fwd m →
    θ_run (Cert.S5Fwd.defs (F := Bits)) (onTc (τ := Cert.S5Fwd.τ) (Cert.S5Fwd.main (F := Bits))) ⟨m, fun _ => 0, g⟩ (fun r => (∀ c : Dev Cert.S5Fwd.nD,
      r.2.mem ((c.tc : Thread Cert.S5Fwd.nD Cert.S5Fwd.τ).loc Cert.S5Fwd.main_arg0) = m ((c.tc : Thread Cert.S5Fwd.nD Cert.S5Fwd.τ).loc Cert.S5Fwd.main_arg0)
      ∧ r.2.mem ((c.tc : Thread Cert.S5Fwd.nD Cert.S5Fwd.τ).loc Cert.S5Fwd.main_arg1) = m ((c.tc : Thread Cert.S5Fwd.nD Cert.S5Fwd.τ).loc Cert.S5Fwd.main_arg1)
      ∧ r.2.mem ((c.tc : Thread Cert.S5Fwd.nD Cert.S5Fwd.τ).loc Cert.S5Fwd.main_arg2) = m ((c.tc : Thread Cert.S5Fwd.nD Cert.S5Fwd.τ).loc Cert.S5Fwd.main_arg2)
      ∧ r.2.mem ((c.tc : Thread Cert.S5Fwd.nD Cert.S5Fwd.τ).loc Cert.S5Fwd.main_arg3) = m ((c.tc : Thread Cert.S5Fwd.nD Cert.S5Fwd.τ).loc Cert.S5Fwd.main_arg3)
      ∧ r.2.mem ((c.tc : Thread Cert.S5Fwd.nD Cert.S5Fwd.τ).loc Cert.S5Fwd.main_arg4) = m ((c.tc : Thread Cert.S5Fwd.nD Cert.S5Fwd.τ).loc Cert.S5Fwd.main_arg4)
      ∧ r.2.mem ((c.tc : Thread Cert.S5Fwd.nD Cert.S5Fwd.τ).loc Cert.S5Fwd.main_arg5) = m ((c.tc : Thread Cert.S5Fwd.nD Cert.S5Fwd.τ).loc Cert.S5Fwd.main_arg5)
      ∧ r.2.mem ((c.tc : Thread Cert.S5Fwd.nD Cert.S5Fwd.τ).loc Cert.S5Fwd.main_arg6) = m ((c.tc : Thread Cert.S5Fwd.nD Cert.S5Fwd.τ).loc Cert.S5Fwd.main_arg6)
      ∧ r.2.mem ((c.tc : Thread Cert.S5Fwd.nD Cert.S5Fwd.τ).loc Cert.S5Fwd.main_arg7) = m ((c.tc : Thread Cert.S5Fwd.nD Cert.S5Fwd.τ).loc Cert.S5Fwd.main_arg7)
      ∧ r.2.mem ((c.tc : Thread Cert.S5Fwd.nD Cert.S5Fwd.τ).loc Cert.S5Fwd.main_arg8) = m ((c.tc : Thread Cert.S5Fwd.nD Cert.S5Fwd.τ).loc Cert.S5Fwd.main_arg8)
      ∧ r.2.mem ((c.tc : Thread Cert.S5Fwd.nD Cert.S5Fwd.τ).loc Cert.S5Fwd.main_arg9) = m ((c.tc : Thread Cert.S5Fwd.nD Cert.S5Fwd.τ).loc Cert.S5Fwd.main_arg9)
      ∧ r.2.mem ((c.tc : Thread Cert.S5Fwd.nD Cert.S5Fwd.τ).loc Cert.S5Fwd.main_arg10) = m ((c.tc : Thread Cert.S5Fwd.nD Cert.S5Fwd.τ).loc Cert.S5Fwd.main_arg10)
      ∧ r.2.mem ((c.tc : Thread Cert.S5Fwd.nD Cert.S5Fwd.τ).loc Cert.S5Fwd.main_arg11) = m ((c.tc : Thread Cert.S5Fwd.nD Cert.S5Fwd.τ).loc Cert.S5Fwd.main_arg11))
      ∧ r.2.sem = fun _ => 0)

def quiescent_S5FwdIdeal [hS5FwdIdeal : Cert.S5FwdIdeal.Facts] : Prop :=
  ∀ (m : (ℓ : Loc Cert.S5FwdIdeal.nD Cert.S5FwdIdeal.τ Cert.S5FwdIdeal.sig) → Buf (Elt Ideal) ℓ) (g : Dev Cert.S5FwdIdeal.nD → PrngReg), Pre_S5FwdIdeal m →
    θ_run (Cert.S5FwdIdeal.defs (F := Ideal)) (onTc (τ := Cert.S5FwdIdeal.τ) (Cert.S5FwdIdeal.main (F := Ideal))) ⟨m, fun _ => 0, g⟩ (fun r => (∀ c : Dev Cert.S5FwdIdeal.nD,
      r.2.mem ((c.tc : Thread Cert.S5FwdIdeal.nD Cert.S5FwdIdeal.τ).loc Cert.S5FwdIdeal.main_arg0) = m ((c.tc : Thread Cert.S5FwdIdeal.nD Cert.S5FwdIdeal.τ).loc Cert.S5FwdIdeal.main_arg0)
      ∧ r.2.mem ((c.tc : Thread Cert.S5FwdIdeal.nD Cert.S5FwdIdeal.τ).loc Cert.S5FwdIdeal.main_arg1) = m ((c.tc : Thread Cert.S5FwdIdeal.nD Cert.S5FwdIdeal.τ).loc Cert.S5FwdIdeal.main_arg1)
      ∧ r.2.mem ((c.tc : Thread Cert.S5FwdIdeal.nD Cert.S5FwdIdeal.τ).loc Cert.S5FwdIdeal.main_arg2) = m ((c.tc : Thread Cert.S5FwdIdeal.nD Cert.S5FwdIdeal.τ).loc Cert.S5FwdIdeal.main_arg2)
      ∧ r.2.mem ((c.tc : Thread Cert.S5FwdIdeal.nD Cert.S5FwdIdeal.τ).loc Cert.S5FwdIdeal.main_arg3) = m ((c.tc : Thread Cert.S5FwdIdeal.nD Cert.S5FwdIdeal.τ).loc Cert.S5FwdIdeal.main_arg3)
      ∧ r.2.mem ((c.tc : Thread Cert.S5FwdIdeal.nD Cert.S5FwdIdeal.τ).loc Cert.S5FwdIdeal.main_arg4) = m ((c.tc : Thread Cert.S5FwdIdeal.nD Cert.S5FwdIdeal.τ).loc Cert.S5FwdIdeal.main_arg4)
      ∧ r.2.mem ((c.tc : Thread Cert.S5FwdIdeal.nD Cert.S5FwdIdeal.τ).loc Cert.S5FwdIdeal.main_arg5) = m ((c.tc : Thread Cert.S5FwdIdeal.nD Cert.S5FwdIdeal.τ).loc Cert.S5FwdIdeal.main_arg5)
      ∧ r.2.mem ((c.tc : Thread Cert.S5FwdIdeal.nD Cert.S5FwdIdeal.τ).loc Cert.S5FwdIdeal.main_arg6) = m ((c.tc : Thread Cert.S5FwdIdeal.nD Cert.S5FwdIdeal.τ).loc Cert.S5FwdIdeal.main_arg6)
      ∧ r.2.mem ((c.tc : Thread Cert.S5FwdIdeal.nD Cert.S5FwdIdeal.τ).loc Cert.S5FwdIdeal.main_arg7) = m ((c.tc : Thread Cert.S5FwdIdeal.nD Cert.S5FwdIdeal.τ).loc Cert.S5FwdIdeal.main_arg7)
      ∧ r.2.mem ((c.tc : Thread Cert.S5FwdIdeal.nD Cert.S5FwdIdeal.τ).loc Cert.S5FwdIdeal.main_arg8) = m ((c.tc : Thread Cert.S5FwdIdeal.nD Cert.S5FwdIdeal.τ).loc Cert.S5FwdIdeal.main_arg8)
      ∧ r.2.mem ((c.tc : Thread Cert.S5FwdIdeal.nD Cert.S5FwdIdeal.τ).loc Cert.S5FwdIdeal.main_arg9) = m ((c.tc : Thread Cert.S5FwdIdeal.nD Cert.S5FwdIdeal.τ).loc Cert.S5FwdIdeal.main_arg9)
      ∧ r.2.mem ((c.tc : Thread Cert.S5FwdIdeal.nD Cert.S5FwdIdeal.τ).loc Cert.S5FwdIdeal.main_arg10) = m ((c.tc : Thread Cert.S5FwdIdeal.nD Cert.S5FwdIdeal.τ).loc Cert.S5FwdIdeal.main_arg10)
      ∧ r.2.mem ((c.tc : Thread Cert.S5FwdIdeal.nD Cert.S5FwdIdeal.τ).loc Cert.S5FwdIdeal.main_arg11) = m ((c.tc : Thread Cert.S5FwdIdeal.nD Cert.S5FwdIdeal.τ).loc Cert.S5FwdIdeal.main_arg11))
      ∧ r.2.sem = fun _ => 0)

def quiescent_S5FwdRefIdeal [hS5FwdRefIdeal : Cert.S5FwdRefIdeal.Facts] : Prop :=
  ∀ (m : (ℓ : Loc Cert.S5FwdRefIdeal.nD Cert.S5FwdRefIdeal.τ Cert.S5FwdRefIdeal.sig) → Buf (Elt Ideal) ℓ) (g : Dev Cert.S5FwdRefIdeal.nD → PrngReg), Pre_S5FwdRefIdeal m →
    θ_run (Cert.S5FwdRefIdeal.defs (F := Ideal)) (onTc (τ := Cert.S5FwdRefIdeal.τ) (Cert.S5FwdRefIdeal.main (F := Ideal))) ⟨m, fun _ => 0, g⟩ (fun r => (∀ c : Dev Cert.S5FwdRefIdeal.nD,
      r.2.mem ((c.tc : Thread Cert.S5FwdRefIdeal.nD Cert.S5FwdRefIdeal.τ).loc Cert.S5FwdRefIdeal.main_arg0) = m ((c.tc : Thread Cert.S5FwdRefIdeal.nD Cert.S5FwdRefIdeal.τ).loc Cert.S5FwdRefIdeal.main_arg0)
      ∧ r.2.mem ((c.tc : Thread Cert.S5FwdRefIdeal.nD Cert.S5FwdRefIdeal.τ).loc Cert.S5FwdRefIdeal.main_arg1) = m ((c.tc : Thread Cert.S5FwdRefIdeal.nD Cert.S5FwdRefIdeal.τ).loc Cert.S5FwdRefIdeal.main_arg1)
      ∧ r.2.mem ((c.tc : Thread Cert.S5FwdRefIdeal.nD Cert.S5FwdRefIdeal.τ).loc Cert.S5FwdRefIdeal.main_arg2) = m ((c.tc : Thread Cert.S5FwdRefIdeal.nD Cert.S5FwdRefIdeal.τ).loc Cert.S5FwdRefIdeal.main_arg2)
      ∧ r.2.mem ((c.tc : Thread Cert.S5FwdRefIdeal.nD Cert.S5FwdRefIdeal.τ).loc Cert.S5FwdRefIdeal.main_arg3) = m ((c.tc : Thread Cert.S5FwdRefIdeal.nD Cert.S5FwdRefIdeal.τ).loc Cert.S5FwdRefIdeal.main_arg3)
      ∧ r.2.mem ((c.tc : Thread Cert.S5FwdRefIdeal.nD Cert.S5FwdRefIdeal.τ).loc Cert.S5FwdRefIdeal.main_arg4) = m ((c.tc : Thread Cert.S5FwdRefIdeal.nD Cert.S5FwdRefIdeal.τ).loc Cert.S5FwdRefIdeal.main_arg4)
      ∧ r.2.mem ((c.tc : Thread Cert.S5FwdRefIdeal.nD Cert.S5FwdRefIdeal.τ).loc Cert.S5FwdRefIdeal.main_arg5) = m ((c.tc : Thread Cert.S5FwdRefIdeal.nD Cert.S5FwdRefIdeal.τ).loc Cert.S5FwdRefIdeal.main_arg5)
      ∧ r.2.mem ((c.tc : Thread Cert.S5FwdRefIdeal.nD Cert.S5FwdRefIdeal.τ).loc Cert.S5FwdRefIdeal.main_arg6) = m ((c.tc : Thread Cert.S5FwdRefIdeal.nD Cert.S5FwdRefIdeal.τ).loc Cert.S5FwdRefIdeal.main_arg6)
      ∧ r.2.mem ((c.tc : Thread Cert.S5FwdRefIdeal.nD Cert.S5FwdRefIdeal.τ).loc Cert.S5FwdRefIdeal.main_arg7) = m ((c.tc : Thread Cert.S5FwdRefIdeal.nD Cert.S5FwdRefIdeal.τ).loc Cert.S5FwdRefIdeal.main_arg7)
      ∧ r.2.mem ((c.tc : Thread Cert.S5FwdRefIdeal.nD Cert.S5FwdRefIdeal.τ).loc Cert.S5FwdRefIdeal.main_arg8) = m ((c.tc : Thread Cert.S5FwdRefIdeal.nD Cert.S5FwdRefIdeal.τ).loc Cert.S5FwdRefIdeal.main_arg8)
      ∧ r.2.mem ((c.tc : Thread Cert.S5FwdRefIdeal.nD Cert.S5FwdRefIdeal.τ).loc Cert.S5FwdRefIdeal.main_arg9) = m ((c.tc : Thread Cert.S5FwdRefIdeal.nD Cert.S5FwdRefIdeal.τ).loc Cert.S5FwdRefIdeal.main_arg9)
      ∧ r.2.mem ((c.tc : Thread Cert.S5FwdRefIdeal.nD Cert.S5FwdRefIdeal.τ).loc Cert.S5FwdRefIdeal.main_arg10) = m ((c.tc : Thread Cert.S5FwdRefIdeal.nD Cert.S5FwdRefIdeal.τ).loc Cert.S5FwdRefIdeal.main_arg10)
      ∧ r.2.mem ((c.tc : Thread Cert.S5FwdRefIdeal.nD Cert.S5FwdRefIdeal.τ).loc Cert.S5FwdRefIdeal.main_arg11) = m ((c.tc : Thread Cert.S5FwdRefIdeal.nD Cert.S5FwdRefIdeal.τ).loc Cert.S5FwdRefIdeal.main_arg11))
      ∧ r.2.sem = fun _ => 0)

def quiescent_BwdOut [hBwdOut : Cert.BwdOut.Facts] : Prop :=
  ∀ (m : (ℓ : Loc Cert.BwdOut.nD Cert.BwdOut.τ Cert.BwdOut.sig) → Buf (Elt Bits) ℓ) (g : Dev Cert.BwdOut.nD → PrngReg), Pre_BwdOut m →
    θ_run (Cert.BwdOut.defs (F := Bits)) (onTc (τ := Cert.BwdOut.τ) (Cert.BwdOut.main (F := Bits))) ⟨m, fun _ => 0, g⟩ (fun r => (∀ c : Dev Cert.BwdOut.nD,
      r.2.mem ((c.tc : Thread Cert.BwdOut.nD Cert.BwdOut.τ).loc Cert.BwdOut.main_arg0) = m ((c.tc : Thread Cert.BwdOut.nD Cert.BwdOut.τ).loc Cert.BwdOut.main_arg0)
      ∧ r.2.mem ((c.tc : Thread Cert.BwdOut.nD Cert.BwdOut.τ).loc Cert.BwdOut.main_arg1) = m ((c.tc : Thread Cert.BwdOut.nD Cert.BwdOut.τ).loc Cert.BwdOut.main_arg1)
      ∧ r.2.mem ((c.tc : Thread Cert.BwdOut.nD Cert.BwdOut.τ).loc Cert.BwdOut.main_arg2) = m ((c.tc : Thread Cert.BwdOut.nD Cert.BwdOut.τ).loc Cert.BwdOut.main_arg2))
      ∧ r.2.sem = fun _ => 0)

def quiescent_BwdOutIdeal [hBwdOutIdeal : Cert.BwdOutIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg), Pre_BwdOutIdeal m →
    θ_run (Cert.BwdOutIdeal.defs (F := Ideal)) (onTc (τ := Cert.BwdOutIdeal.τ) (Cert.BwdOutIdeal.main (F := Ideal))) ⟨m, fun _ => 0, g⟩ (fun r => (∀ c : Dev Cert.BwdOutIdeal.nD,
      r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
      ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
      ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2))
      ∧ r.2.sem = fun _ => 0)

def quiescent_BwdOutRefIdeal [hBwdOutRefIdeal : Cert.BwdOutRefIdeal.Facts] : Prop :=
  ∀ (m : (ℓ : Loc Cert.BwdOutRefIdeal.nD Cert.BwdOutRefIdeal.τ Cert.BwdOutRefIdeal.sig) → Buf (Elt Ideal) ℓ) (g : Dev Cert.BwdOutRefIdeal.nD → PrngReg), Pre_BwdOutRefIdeal m →
    θ_run (Cert.BwdOutRefIdeal.defs (F := Ideal)) (onTc (τ := Cert.BwdOutRefIdeal.τ) (Cert.BwdOutRefIdeal.main (F := Ideal))) ⟨m, fun _ => 0, g⟩ (fun r => (∀ c : Dev Cert.BwdOutRefIdeal.nD,
      r.2.mem ((c.tc : Thread Cert.BwdOutRefIdeal.nD Cert.BwdOutRefIdeal.τ).loc Cert.BwdOutRefIdeal.main_arg0) = m ((c.tc : Thread Cert.BwdOutRefIdeal.nD Cert.BwdOutRefIdeal.τ).loc Cert.BwdOutRefIdeal.main_arg0)
      ∧ r.2.mem ((c.tc : Thread Cert.BwdOutRefIdeal.nD Cert.BwdOutRefIdeal.τ).loc Cert.BwdOutRefIdeal.main_arg1) = m ((c.tc : Thread Cert.BwdOutRefIdeal.nD Cert.BwdOutRefIdeal.τ).loc Cert.BwdOutRefIdeal.main_arg1)
      ∧ r.2.mem ((c.tc : Thread Cert.BwdOutRefIdeal.nD Cert.BwdOutRefIdeal.τ).loc Cert.BwdOutRefIdeal.main_arg2) = m ((c.tc : Thread Cert.BwdOutRefIdeal.nD Cert.BwdOutRefIdeal.τ).loc Cert.BwdOutRefIdeal.main_arg2))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1)
      ∧ r.2.mem ((c.tc : Thread Cert.GradFfn.nD Cert.GradFfn.τ).loc Cert.GradFfn.main_arg2) = m ((c.tc : Thread Cert.GradFfn.nD Cert.GradFfn.τ).loc Cert.GradFfn.main_arg2)
      ∧ r.2.mem ((c.tc : Thread Cert.GradFfn.nD Cert.GradFfn.τ).loc Cert.GradFfn.main_arg3) = m ((c.tc : Thread Cert.GradFfn.nD Cert.GradFfn.τ).loc Cert.GradFfn.main_arg3)
      ∧ r.2.mem ((c.tc : Thread Cert.GradFfn.nD Cert.GradFfn.τ).loc Cert.GradFfn.main_arg4) = m ((c.tc : Thread Cert.GradFfn.nD Cert.GradFfn.τ).loc Cert.GradFfn.main_arg4))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1)
      ∧ r.2.mem ((c.tc : Thread Cert.GradFfnIdeal.nD Cert.GradFfnIdeal.τ).loc Cert.GradFfnIdeal.main_arg2) = m ((c.tc : Thread Cert.GradFfnIdeal.nD Cert.GradFfnIdeal.τ).loc Cert.GradFfnIdeal.main_arg2)
      ∧ r.2.mem ((c.tc : Thread Cert.GradFfnIdeal.nD Cert.GradFfnIdeal.τ).loc Cert.GradFfnIdeal.main_arg3) = m ((c.tc : Thread Cert.GradFfnIdeal.nD Cert.GradFfnIdeal.τ).loc Cert.GradFfnIdeal.main_arg3)
      ∧ r.2.mem ((c.tc : Thread Cert.GradFfnIdeal.nD Cert.GradFfnIdeal.τ).loc Cert.GradFfnIdeal.main_arg4) = m ((c.tc : Thread Cert.GradFfnIdeal.nD Cert.GradFfnIdeal.τ).loc Cert.GradFfnIdeal.main_arg4))
      ∧ r.2.sem = fun _ => 0)

def quiescent_GradFfnRefIdeal [hGradFfnRefIdeal : Cert.GradFfnRefIdeal.Facts] : Prop :=
  ∀ (m : (ℓ : Loc Cert.GradFfnRefIdeal.nD Cert.GradFfnRefIdeal.τ Cert.GradFfnRefIdeal.sig) → Buf (Elt Ideal) ℓ) (g : Dev Cert.GradFfnRefIdeal.nD → PrngReg), Pre_GradFfnRefIdeal m →
    θ_run (Cert.GradFfnRefIdeal.defs (F := Ideal)) (onTc (τ := Cert.GradFfnRefIdeal.τ) (Cert.GradFfnRefIdeal.main (F := Ideal))) ⟨m, fun _ => 0, g⟩ (fun r => (∀ c : Dev Cert.GradFfnRefIdeal.nD,
      r.2.mem ((c.tc : Thread Cert.GradFfnRefIdeal.nD Cert.GradFfnRefIdeal.τ).loc Cert.GradFfnRefIdeal.main_arg0) = m ((c.tc : Thread Cert.GradFfnRefIdeal.nD Cert.GradFfnRefIdeal.τ).loc Cert.GradFfnRefIdeal.main_arg0)
      ∧ r.2.mem ((c.tc : Thread Cert.GradFfnRefIdeal.nD Cert.GradFfnRefIdeal.τ).loc Cert.GradFfnRefIdeal.main_arg1) = m ((c.tc : Thread Cert.GradFfnRefIdeal.nD Cert.GradFfnRefIdeal.τ).loc Cert.GradFfnRefIdeal.main_arg1)
      ∧ r.2.mem ((c.tc : Thread Cert.GradFfnRefIdeal.nD Cert.GradFfnRefIdeal.τ).loc Cert.GradFfnRefIdeal.main_arg2) = m ((c.tc : Thread Cert.GradFfnRefIdeal.nD Cert.GradFfnRefIdeal.τ).loc Cert.GradFfnRefIdeal.main_arg2)
      ∧ r.2.mem ((c.tc : Thread Cert.GradFfnRefIdeal.nD Cert.GradFfnRefIdeal.τ).loc Cert.GradFfnRefIdeal.main_arg3) = m ((c.tc : Thread Cert.GradFfnRefIdeal.nD Cert.GradFfnRefIdeal.τ).loc Cert.GradFfnRefIdeal.main_arg3)
      ∧ r.2.mem ((c.tc : Thread Cert.GradFfnRefIdeal.nD Cert.GradFfnRefIdeal.τ).loc Cert.GradFfnRefIdeal.main_arg4) = m ((c.tc : Thread Cert.GradFfnRefIdeal.nD Cert.GradFfnRefIdeal.τ).loc Cert.GradFfnRefIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_BwdIn_BwdInIdeal : Prop :=
  True

def algebraic_BwdInIdeal_BwdInRefIdeal_pre_finite_in [hBwdInIdeal : Cert.BwdInIdeal.Facts] [hBwdInRefIdeal : Cert.BwdInRefIdeal.Facts] [hPre_finite_in : Cert.Pre_finite_in.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_finite_in m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)) →
    ∃ (v0 : (c : Dev Cert.BwdInIdeal.nD) → Buf (Elt Ideal) ((c.tc : Thread Cert.BwdInIdeal.nD Cert.BwdInIdeal.τ).loc Cert.BwdInIdeal.main_v10_0)) (v1 : (c : Dev Cert.BwdInIdeal.nD) → Buf (Elt Ideal) ((c.tc : Thread Cert.BwdInIdeal.nD Cert.BwdInIdeal.τ).loc Cert.BwdInIdeal.main_v10_1)) (v2 : (c : Dev Cert.BwdInIdeal.nD) → Buf (Elt Ideal) ((c.tc : Thread Cert.BwdInIdeal.nD Cert.BwdInIdeal.τ).loc Cert.BwdInIdeal.main_v10_2)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v10_0) = v0 c
          ∧ r.2.mem ((c.tc : Thread Cert.BwdInIdeal.nD Cert.BwdInIdeal.τ).loc Cert.BwdInIdeal.main_v10_1) = v1 c
          ∧ r.2.mem ((c.tc : Thread Cert.BwdInIdeal.nD Cert.BwdInIdeal.τ).loc Cert.BwdInIdeal.main_v10_2) = v2 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v47) = v0 c
          ∧ r.2.mem ((c.tc : Thread Cert.BwdInRefIdeal.nD Cert.BwdInRefIdeal.τ).loc Cert.BwdInRefIdeal.main_v48) = v1 c
          ∧ r.2.mem ((c.tc : Thread Cert.BwdInRefIdeal.nD Cert.BwdInRefIdeal.τ).loc Cert.BwdInRefIdeal.main_v46) = v2 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5))

def preserves_PoolBwd_PoolBwdIdeal : Prop :=
  True

def algebraic_PoolBwdIdeal_PoolBwdRefIdeal_pre_finite_pool [hPoolBwdIdeal : Cert.PoolBwdIdeal.Facts] [hPoolBwdRefIdeal : Cert.PoolBwdRefIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite_pool m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)) →
    ∃ (v0 : (c : Dev Cert.PoolBwdIdeal.nD) → Buf (Elt Ideal) ((c.tc : Thread Cert.PoolBwdIdeal.nD Cert.PoolBwdIdeal.τ).loc Cert.PoolBwdIdeal.main_v75_0)) (v1 : (c : Dev Cert.PoolBwdIdeal.nD) → Buf (Elt Ideal) ((c.tc : Thread Cert.PoolBwdIdeal.nD Cert.PoolBwdIdeal.τ).loc Cert.PoolBwdIdeal.main_v75_1)) (v2 : (c : Dev Cert.PoolBwdIdeal.nD) → Buf (Elt Ideal) ((c.tc : Thread Cert.PoolBwdIdeal.nD Cert.PoolBwdIdeal.τ).loc Cert.PoolBwdIdeal.main_v75_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v75_0) = v0 c
          ∧ r.2.mem ((c.tc : Thread Cert.PoolBwdIdeal.nD Cert.PoolBwdIdeal.τ).loc Cert.PoolBwdIdeal.main_v75_1) = v1 c
          ∧ r.2.mem ((c.tc : Thread Cert.PoolBwdIdeal.nD Cert.PoolBwdIdeal.τ).loc Cert.PoolBwdIdeal.main_v75_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v195) = v0 c
          ∧ r.2.mem ((c.tc : Thread Cert.PoolBwdRefIdeal.nD Cert.PoolBwdRefIdeal.τ).loc Cert.PoolBwdRefIdeal.main_v196) = v1 c
          ∧ r.2.mem ((c.tc : Thread Cert.PoolBwdRefIdeal.nD Cert.PoolBwdRefIdeal.τ).loc Cert.PoolBwdRefIdeal.main_v199) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v40_0)) (v1 : (c : Dev Cert.FfnBwdIdeal.nD) → Buf (Elt Ideal) ((c.tc : Thread Cert.FfnBwdIdeal.nD Cert.FfnBwdIdeal.τ).loc Cert.FfnBwdIdeal.main_v40_1)) (v2 : (c : Dev Cert.FfnBwdIdeal.nD) → Buf (Elt Ideal) ((c.tc : Thread Cert.FfnBwdIdeal.nD Cert.FfnBwdIdeal.τ).loc Cert.FfnBwdIdeal.main_v40_2)) (v3 : (c : Dev Cert.FfnBwdIdeal.nD) → Buf (Elt Ideal) ((c.tc : Thread Cert.FfnBwdIdeal.nD Cert.FfnBwdIdeal.τ).loc Cert.FfnBwdIdeal.main_v40_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v40_0) = v0 c
          ∧ r.2.mem ((c.tc : Thread Cert.FfnBwdIdeal.nD Cert.FfnBwdIdeal.τ).loc Cert.FfnBwdIdeal.main_v40_1) = v1 c
          ∧ r.2.mem ((c.tc : Thread Cert.FfnBwdIdeal.nD Cert.FfnBwdIdeal.τ).loc Cert.FfnBwdIdeal.main_v40_2) = v2 c
          ∧ r.2.mem ((c.tc : Thread Cert.FfnBwdIdeal.nD Cert.FfnBwdIdeal.τ).loc Cert.FfnBwdIdeal.main_v40_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v68) = v0 c
          ∧ r.2.mem ((c.tc : Thread Cert.FfnBwdRefIdeal.nD Cert.FfnBwdRefIdeal.τ).loc Cert.FfnBwdRefIdeal.main_v72) = v1 c
          ∧ r.2.mem ((c.tc : Thread Cert.FfnBwdRefIdeal.nD Cert.FfnBwdRefIdeal.τ).loc Cert.FfnBwdRefIdeal.main_v73) = v2 c
          ∧ r.2.mem ((c.tc : Thread Cert.FfnBwdRefIdeal.nD Cert.FfnBwdRefIdeal.τ).loc Cert.FfnBwdRefIdeal.main_v64) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_Loss_LossIdeal : Prop :=
  True

def preserves_S5Bwd_S5BwdIdeal : Prop :=
  True

def preserves_PoolFwd_PoolFwdIdeal : Prop :=
  True

def algebraic_PoolFwdIdeal_PoolFwdRefIdeal_pre_finite_pool_fwd [hPoolFwdIdeal : Cert.PoolFwdIdeal.Facts] [hPoolFwdRefIdeal : Cert.PoolFwdRefIdeal.Facts] [hPre_finite_pool_fwd : Cert.Pre_finite_pool_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_pool_fwd m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)) →
    ∃ (v0 : (c : Dev Cert.PoolFwdIdeal.nD) → Buf (Elt Ideal) ((c.tc : Thread Cert.PoolFwdIdeal.nD Cert.PoolFwdIdeal.τ).loc Cert.PoolFwdIdeal.main_v7_0)) (v1 : (c : Dev Cert.PoolFwdIdeal.nD) → Buf (Elt Ideal) ((c.tc : Thread Cert.PoolFwdIdeal.nD Cert.PoolFwdIdeal.τ).loc Cert.PoolFwdIdeal.main_v7_1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v7_0) = v0 c
          ∧ r.2.mem ((c.tc : Thread Cert.PoolFwdIdeal.nD Cert.PoolFwdIdeal.τ).loc Cert.PoolFwdIdeal.main_v7_1) = v1 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v72) = v0 c
          ∧ r.2.mem ((c.tc : Thread Cert.PoolFwdRefIdeal.nD Cert.PoolFwdRefIdeal.τ).loc Cert.PoolFwdRefIdeal.main_v87) = v1 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3))

def preserves_FwdIn_FwdInIdeal : Prop :=
  True

def algebraic_FwdInIdeal_FwdInRefIdeal [hFwdInIdeal : Cert.FwdInIdeal.Facts] [hFwdInRefIdeal : Cert.FwdInRefIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRefIdeal.nD Cert.FwdInRefIdeal.τ Cert.FwdInRefIdeal.sig) → Buf (Elt Ideal) ℓ) (g' : Dev Cert.FwdInRefIdeal.nD → PrngReg), Pre_FwdInIdeal m →
    (∀ c : Dev Cert.FwdInIdeal.nD,
      m' ((c.tc : Thread Cert.FwdInRefIdeal.nD Cert.FwdInRefIdeal.τ).loc Cert.FwdInRefIdeal.main_arg0) = m ((c.tc : Thread Cert.FwdInIdeal.nD Cert.FwdInIdeal.τ).loc Cert.FwdInIdeal.main_arg0)
      ∧ m' ((c.tc : Thread Cert.FwdInRefIdeal.nD Cert.FwdInRefIdeal.τ).loc Cert.FwdInRefIdeal.main_arg1) = m ((c.tc : Thread Cert.FwdInIdeal.nD Cert.FwdInIdeal.τ).loc Cert.FwdInIdeal.main_arg1)
      ∧ m' ((c.tc : Thread Cert.FwdInRefIdeal.nD Cert.FwdInRefIdeal.τ).loc Cert.FwdInRefIdeal.main_arg2) = m ((c.tc : Thread Cert.FwdInIdeal.nD Cert.FwdInIdeal.τ).loc Cert.FwdInIdeal.main_arg2)
      ∧ m' ((c.tc : Thread Cert.FwdInRefIdeal.nD Cert.FwdInRefIdeal.τ).loc Cert.FwdInRefIdeal.main_arg3) = m ((c.tc : Thread Cert.FwdInIdeal.nD Cert.FwdInIdeal.τ).loc Cert.FwdInIdeal.main_arg3)) →
    ∃ (v0 : (c : Dev Cert.FwdInIdeal.nD) → Buf (Elt Ideal) ((c.tc : Thread Cert.FwdInIdeal.nD Cert.FwdInIdeal.τ).loc Cert.FwdInIdeal.main_v6_0)) (v1 : (c : Dev Cert.FwdInIdeal.nD) → Buf (Elt Ideal) ((c.tc : Thread Cert.FwdInIdeal.nD Cert.FwdInIdeal.τ).loc Cert.FwdInIdeal.main_v6_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v6_0) = v0 c
          ∧ r.2.mem ((c.tc : Thread Cert.FwdInIdeal.nD Cert.FwdInIdeal.τ).loc Cert.FwdInIdeal.main_v6_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2)
          ∧ r.2.mem ((c.tc : Thread Cert.FwdInIdeal.nD Cert.FwdInIdeal.τ).loc Cert.FwdInIdeal.main_arg3) = m ((c.tc : Thread Cert.FwdInIdeal.nD Cert.FwdInIdeal.τ).loc Cert.FwdInIdeal.main_arg3))
      ∧ θ_run (Cert.FwdInRefIdeal.defs (F := Ideal)) (onTc (τ := Cert.FwdInRefIdeal.τ) (Cert.FwdInRefIdeal.main (F := Ideal))) ⟨m', fun _ => 0, g'⟩ (fun r => ∀ c : Dev Cert.FwdInRefIdeal.nD,
          r.2.mem ((c.tc : Thread Cert.FwdInRefIdeal.nD Cert.FwdInRefIdeal.τ).loc Cert.FwdInRefIdeal.main_v21) = v0 c
          ∧ r.2.mem ((c.tc : Thread Cert.FwdInRefIdeal.nD Cert.FwdInRefIdeal.τ).loc Cert.FwdInRefIdeal.main_v22) = v1 c
          ∧ r.2.mem ((c.tc : Thread Cert.FwdInRefIdeal.nD Cert.FwdInRefIdeal.τ).loc Cert.FwdInRefIdeal.main_arg0) = m' ((c.tc : Thread Cert.FwdInRefIdeal.nD Cert.FwdInRefIdeal.τ).loc Cert.FwdInRefIdeal.main_arg0)
          ∧ r.2.mem ((c.tc : Thread Cert.FwdInRefIdeal.nD Cert.FwdInRefIdeal.τ).loc Cert.FwdInRefIdeal.main_arg1) = m' ((c.tc : Thread Cert.FwdInRefIdeal.nD Cert.FwdInRefIdeal.τ).loc Cert.FwdInRefIdeal.main_arg1)
          ∧ r.2.mem ((c.tc : Thread Cert.FwdInRefIdeal.nD Cert.FwdInRefIdeal.τ).loc Cert.FwdInRefIdeal.main_arg2) = m' ((c.tc : Thread Cert.FwdInRefIdeal.nD Cert.FwdInRefIdeal.τ).loc Cert.FwdInRefIdeal.main_arg2)
          ∧ r.2.mem ((c.tc : Thread Cert.FwdInRefIdeal.nD Cert.FwdInRefIdeal.τ).loc Cert.FwdInRefIdeal.main_arg3) = m' ((c.tc : Thread Cert.FwdInRefIdeal.nD Cert.FwdInRefIdeal.τ).loc Cert.FwdInRefIdeal.main_arg3))

def preserves_S5Fwd_S5FwdIdeal : Prop :=
  True

def preserves_BwdOut_BwdOutIdeal : Prop :=
  True

def algebraic_BwdOutIdeal_BwdOutRefIdeal [hBwdOutIdeal : Cert.BwdOutIdeal.Facts] [hBwdOutRefIdeal : Cert.BwdOutRefIdeal.Facts] : Prop :=
  ∀ (m : (ℓ : Loc Cert.BwdOutIdeal.nD Cert.BwdOutIdeal.τ Cert.BwdOutIdeal.sig) → Buf (Elt Ideal) ℓ) (g : Dev Cert.BwdOutIdeal.nD → PrngReg)
    (m' : (ℓ : Loc Cert.BwdOutRefIdeal.nD Cert.BwdOutRefIdeal.τ Cert.BwdOutRefIdeal.sig) → Buf (Elt Ideal) ℓ) (g' : Dev Cert.BwdOutRefIdeal.nD → PrngReg), Pre_BwdOutIdeal m →
    (∀ c : Dev Cert.BwdOutIdeal.nD,
      m' ((c.tc : Thread Cert.BwdOutRefIdeal.nD Cert.BwdOutRefIdeal.τ).loc Cert.BwdOutRefIdeal.main_arg0) = m ((c.tc : Thread Cert.BwdOutIdeal.nD Cert.BwdOutIdeal.τ).loc Cert.BwdOutIdeal.main_arg0)
      ∧ m' ((c.tc : Thread Cert.BwdOutRefIdeal.nD Cert.BwdOutRefIdeal.τ).loc Cert.BwdOutRefIdeal.main_arg1) = m ((c.tc : Thread Cert.BwdOutIdeal.nD Cert.BwdOutIdeal.τ).loc Cert.BwdOutIdeal.main_arg1)
      ∧ m' ((c.tc : Thread Cert.BwdOutRefIdeal.nD Cert.BwdOutRefIdeal.τ).loc Cert.BwdOutRefIdeal.main_arg2) = m ((c.tc : Thread Cert.BwdOutIdeal.nD Cert.BwdOutIdeal.τ).loc Cert.BwdOutIdeal.main_arg2)) →
    ∃ (v0 : (c : Dev Cert.BwdOutIdeal.nD) → Buf (Elt Ideal) ((c.tc : Thread Cert.BwdOutIdeal.nD Cert.BwdOutIdeal.τ).loc Cert.BwdOutIdeal.main_v10_0)) (v1 : (c : Dev Cert.BwdOutIdeal.nD) → Buf (Elt Ideal) ((c.tc : Thread Cert.BwdOutIdeal.nD Cert.BwdOutIdeal.τ).loc Cert.BwdOutIdeal.main_v10_1)) (v2 : (c : Dev Cert.BwdOutIdeal.nD) → Buf (Elt Ideal) ((c.tc : Thread Cert.BwdOutIdeal.nD Cert.BwdOutIdeal.τ).loc Cert.BwdOutIdeal.main_v10_2)),
      θ_run (Cert.BwdOutIdeal.defs (F := Ideal)) (onTc (τ := Cert.BwdOutIdeal.τ) (Cert.BwdOutIdeal.main (F := Ideal))) ⟨m, fun _ => 0, g⟩ (fun r => ∀ c : Dev Cert.BwdOutIdeal.nD,
          r.2.mem ((c.tc : Thread Cert.BwdOutIdeal.nD Cert.BwdOutIdeal.τ).loc Cert.BwdOutIdeal.main_v10_0) = v0 c
          ∧ r.2.mem ((c.tc : Thread Cert.BwdOutIdeal.nD Cert.BwdOutIdeal.τ).loc Cert.BwdOutIdeal.main_v10_1) = v1 c
          ∧ r.2.mem ((c.tc : Thread Cert.BwdOutIdeal.nD Cert.BwdOutIdeal.τ).loc Cert.BwdOutIdeal.main_v10_2) = v2 c
          ∧ r.2.mem ((c.tc : Thread Cert.BwdOutIdeal.nD Cert.BwdOutIdeal.τ).loc Cert.BwdOutIdeal.main_arg0) = m ((c.tc : Thread Cert.BwdOutIdeal.nD Cert.BwdOutIdeal.τ).loc Cert.BwdOutIdeal.main_arg0)
          ∧ r.2.mem ((c.tc : Thread Cert.BwdOutIdeal.nD Cert.BwdOutIdeal.τ).loc Cert.BwdOutIdeal.main_arg1) = m ((c.tc : Thread Cert.BwdOutIdeal.nD Cert.BwdOutIdeal.τ).loc Cert.BwdOutIdeal.main_arg1)
          ∧ r.2.mem ((c.tc : Thread Cert.BwdOutIdeal.nD Cert.BwdOutIdeal.τ).loc Cert.BwdOutIdeal.main_arg2) = m ((c.tc : Thread Cert.BwdOutIdeal.nD Cert.BwdOutIdeal.τ).loc Cert.BwdOutIdeal.main_arg2))
      ∧ θ_run (Cert.BwdOutRefIdeal.defs (F := Ideal)) (onTc (τ := Cert.BwdOutRefIdeal.τ) (Cert.BwdOutRefIdeal.main (F := Ideal))) ⟨m', fun _ => 0, g'⟩ (fun r => ∀ c : Dev Cert.BwdOutRefIdeal.nD,
          r.2.mem ((c.tc : Thread Cert.BwdOutRefIdeal.nD Cert.BwdOutRefIdeal.τ).loc Cert.BwdOutRefIdeal.main_v9) = v0 c
          ∧ r.2.mem ((c.tc : Thread Cert.BwdOutRefIdeal.nD Cert.BwdOutRefIdeal.τ).loc Cert.BwdOutRefIdeal.main_v10) = v1 c
          ∧ r.2.mem ((c.tc : Thread Cert.BwdOutRefIdeal.nD Cert.BwdOutRefIdeal.τ).loc Cert.BwdOutRefIdeal.main_v11) = v2 c
          ∧ r.2.mem ((c.tc : Thread Cert.BwdOutRefIdeal.nD Cert.BwdOutRefIdeal.τ).loc Cert.BwdOutRefIdeal.main_arg0) = m' ((c.tc : Thread Cert.BwdOutRefIdeal.nD Cert.BwdOutRefIdeal.τ).loc Cert.BwdOutRefIdeal.main_arg0)
          ∧ r.2.mem ((c.tc : Thread Cert.BwdOutRefIdeal.nD Cert.BwdOutRefIdeal.τ).loc Cert.BwdOutRefIdeal.main_arg1) = m' ((c.tc : Thread Cert.BwdOutRefIdeal.nD Cert.BwdOutRefIdeal.τ).loc Cert.BwdOutRefIdeal.main_arg1)
          ∧ r.2.mem ((c.tc : Thread Cert.BwdOutRefIdeal.nD Cert.BwdOutRefIdeal.τ).loc Cert.BwdOutRefIdeal.main_arg2) = m' ((c.tc : Thread Cert.BwdOutRefIdeal.nD Cert.BwdOutRefIdeal.τ).loc Cert.BwdOutRefIdeal.main_arg2))

def preserves_GradFfn_GradFfnIdeal : Prop :=
  True

def algebraic_GradFfnIdeal_GradFfnRefIdeal [hGradFfnIdeal : Cert.GradFfnIdeal.Facts] [hGradFfnRefIdeal : Cert.GradFfnRefIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnRefIdeal.nD Cert.GradFfnRefIdeal.τ Cert.GradFfnRefIdeal.sig) → Buf (Elt Ideal) ℓ) (g' : Dev Cert.GradFfnRefIdeal.nD → PrngReg), Pre_GradFfnIdeal m →
    (∀ c : Dev Cert.GradFfnIdeal.nD,
      m' ((c.tc : Thread Cert.GradFfnRefIdeal.nD Cert.GradFfnRefIdeal.τ).loc Cert.GradFfnRefIdeal.main_arg0) = m ((c.tc : Thread Cert.GradFfnIdeal.nD Cert.GradFfnIdeal.τ).loc Cert.GradFfnIdeal.main_arg0)
      ∧ m' ((c.tc : Thread Cert.GradFfnRefIdeal.nD Cert.GradFfnRefIdeal.τ).loc Cert.GradFfnRefIdeal.main_arg1) = m ((c.tc : Thread Cert.GradFfnIdeal.nD Cert.GradFfnIdeal.τ).loc Cert.GradFfnIdeal.main_arg1)
      ∧ m' ((c.tc : Thread Cert.GradFfnRefIdeal.nD Cert.GradFfnRefIdeal.τ).loc Cert.GradFfnRefIdeal.main_arg2) = m ((c.tc : Thread Cert.GradFfnIdeal.nD Cert.GradFfnIdeal.τ).loc Cert.GradFfnIdeal.main_arg2)
      ∧ m' ((c.tc : Thread Cert.GradFfnRefIdeal.nD Cert.GradFfnRefIdeal.τ).loc Cert.GradFfnRefIdeal.main_arg3) = m ((c.tc : Thread Cert.GradFfnIdeal.nD Cert.GradFfnIdeal.τ).loc Cert.GradFfnIdeal.main_arg3)
      ∧ m' ((c.tc : Thread Cert.GradFfnRefIdeal.nD Cert.GradFfnRefIdeal.τ).loc Cert.GradFfnRefIdeal.main_arg4) = m ((c.tc : Thread Cert.GradFfnIdeal.nD Cert.GradFfnIdeal.τ).loc Cert.GradFfnIdeal.main_arg4)) →
    ∃ (v0 : (c : Dev Cert.GradFfnIdeal.nD) → Buf (Elt Ideal) ((c.tc : Thread Cert.GradFfnIdeal.nD Cert.GradFfnIdeal.τ).loc Cert.GradFfnIdeal.main_v16_0)) (v1 : (c : Dev Cert.GradFfnIdeal.nD) → Buf (Elt Ideal) ((c.tc : Thread Cert.GradFfnIdeal.nD Cert.GradFfnIdeal.τ).loc Cert.GradFfnIdeal.main_v16_1)) (v2 : (c : Dev Cert.GradFfnIdeal.nD) → Buf (Elt Ideal) ((c.tc : Thread Cert.GradFfnIdeal.nD Cert.GradFfnIdeal.τ).loc Cert.GradFfnIdeal.main_v16_2)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v16_0) = v0 c
          ∧ r.2.mem ((c.tc : Thread Cert.GradFfnIdeal.nD Cert.GradFfnIdeal.τ).loc Cert.GradFfnIdeal.main_v16_1) = v1 c
          ∧ r.2.mem ((c.tc : Thread Cert.GradFfnIdeal.nD Cert.GradFfnIdeal.τ).loc Cert.GradFfnIdeal.main_v16_2) = v2 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1)
          ∧ r.2.mem ((c.tc : Thread Cert.GradFfnIdeal.nD Cert.GradFfnIdeal.τ).loc Cert.GradFfnIdeal.main_arg2) = m ((c.tc : Thread Cert.GradFfnIdeal.nD Cert.GradFfnIdeal.τ).loc Cert.GradFfnIdeal.main_arg2)
          ∧ r.2.mem ((c.tc : Thread Cert.GradFfnIdeal.nD Cert.GradFfnIdeal.τ).loc Cert.GradFfnIdeal.main_arg3) = m ((c.tc : Thread Cert.GradFfnIdeal.nD Cert.GradFfnIdeal.τ).loc Cert.GradFfnIdeal.main_arg3)
          ∧ r.2.mem ((c.tc : Thread Cert.GradFfnIdeal.nD Cert.GradFfnIdeal.τ).loc Cert.GradFfnIdeal.main_arg4) = m ((c.tc : Thread Cert.GradFfnIdeal.nD Cert.GradFfnIdeal.τ).loc Cert.GradFfnIdeal.main_arg4))
      ∧ θ_run (Cert.GradFfnRefIdeal.defs (F := Ideal)) (onTc (τ := Cert.GradFfnRefIdeal.τ) (Cert.GradFfnRefIdeal.main (F := Ideal))) ⟨m', fun _ => 0, g'⟩ (fun r => ∀ c : Dev Cert.GradFfnRefIdeal.nD,
          r.2.mem ((c.tc : Thread Cert.GradFfnRefIdeal.nD Cert.GradFfnRefIdeal.τ).loc Cert.GradFfnRefIdeal.main_v12) = v0 c
          ∧ r.2.mem ((c.tc : Thread Cert.GradFfnRefIdeal.nD Cert.GradFfnRefIdeal.τ).loc Cert.GradFfnRefIdeal.main_v14) = v1 c
          ∧ r.2.mem ((c.tc : Thread Cert.GradFfnRefIdeal.nD Cert.GradFfnRefIdeal.τ).loc Cert.GradFfnRefIdeal.main_v15) = v2 c
          ∧ r.2.mem ((c.tc : Thread Cert.GradFfnRefIdeal.nD Cert.GradFfnRefIdeal.τ).loc Cert.GradFfnRefIdeal.main_arg0) = m' ((c.tc : Thread Cert.GradFfnRefIdeal.nD Cert.GradFfnRefIdeal.τ).loc Cert.GradFfnRefIdeal.main_arg0)
          ∧ r.2.mem ((c.tc : Thread Cert.GradFfnRefIdeal.nD Cert.GradFfnRefIdeal.τ).loc Cert.GradFfnRefIdeal.main_arg1) = m' ((c.tc : Thread Cert.GradFfnRefIdeal.nD Cert.GradFfnRefIdeal.τ).loc Cert.GradFfnRefIdeal.main_arg1)
          ∧ r.2.mem ((c.tc : Thread Cert.GradFfnRefIdeal.nD Cert.GradFfnRefIdeal.τ).loc Cert.GradFfnRefIdeal.main_arg2) = m' ((c.tc : Thread Cert.GradFfnRefIdeal.nD Cert.GradFfnRefIdeal.τ).loc Cert.GradFfnRefIdeal.main_arg2)
          ∧ r.2.mem ((c.tc : Thread Cert.GradFfnRefIdeal.nD Cert.GradFfnRefIdeal.τ).loc Cert.GradFfnRefIdeal.main_arg3) = m' ((c.tc : Thread Cert.GradFfnRefIdeal.nD Cert.GradFfnRefIdeal.τ).loc Cert.GradFfnRefIdeal.main_arg3)
          ∧ r.2.mem ((c.tc : Thread Cert.GradFfnRefIdeal.nD Cert.GradFfnRefIdeal.τ).loc Cert.GradFfnRefIdeal.main_arg4) = m' ((c.tc : Thread Cert.GradFfnRefIdeal.nD Cert.GradFfnRefIdeal.τ).loc Cert.GradFfnRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hBwdIn : Cert.BwdIn.Facts) (hBwdInIdeal : Cert.BwdInIdeal.Facts) (hBwdInRefIdeal : Cert.BwdInRefIdeal.Facts) (hPoolBwd : Cert.PoolBwd.Facts) (hPoolBwdIdeal : Cert.PoolBwdIdeal.Facts) (hPoolBwdRefIdeal : Cert.PoolBwdRefIdeal.Facts) (hFfnBwd : Cert.FfnBwd.Facts) (hFfnBwdIdeal : Cert.FfnBwdIdeal.Facts) (hFfnBwdRefIdeal : Cert.FfnBwdRefIdeal.Facts) (hLoss : Cert.Loss.Facts) (hLossIdeal : Cert.LossIdeal.Facts) (hLossRefIdeal : Cert.LossRefIdeal.Facts) (hS5Bwd : Cert.S5Bwd.Facts) (hS5BwdIdeal : Cert.S5BwdIdeal.Facts) (hS5BwdRefIdeal : Cert.S5BwdRefIdeal.Facts) (hPoolFwd : Cert.PoolFwd.Facts) (hPoolFwdIdeal : Cert.PoolFwdIdeal.Facts) (hPoolFwdRefIdeal : Cert.PoolFwdRefIdeal.Facts) (hFwdIn : Cert.FwdIn.Facts) (hFwdInIdeal : Cert.FwdInIdeal.Facts) (hFwdInRefIdeal : Cert.FwdInRefIdeal.Facts) (hS5Fwd : Cert.S5Fwd.Facts) (hS5FwdIdeal : Cert.S5FwdIdeal.Facts) (hS5FwdRefIdeal : Cert.S5FwdRefIdeal.Facts) (hBwdOut : Cert.BwdOut.Facts) (hBwdOutIdeal : Cert.BwdOutIdeal.Facts) (hBwdOutRefIdeal : Cert.BwdOutRefIdeal.Facts) (hGradFfn : Cert.GradFfn.Facts) (hGradFfnIdeal : Cert.GradFfnIdeal.Facts) (hGradFfnRefIdeal : Cert.GradFfnRefIdeal.Facts) (hAdamw : Cert.Adamw.Facts) (hAdamwIdeal : Cert.AdamwIdeal.Facts) (hAdamwRefIdeal : Cert.AdamwRefIdeal.Facts) (hPre_finite_in : Cert.Pre_finite_in.Facts) (hPre_finite_pool : Cert.Pre_finite_pool.Facts) (hPre_finite_ffn : Cert.Pre_finite_ffn.Facts) (hPre_finite_pool_fwd : Cert.Pre_finite_pool_fwd.Facts),
    quiescent_BwdIn (hBwdIn := hBwdIn)
    ∧ quiescent_BwdInIdeal (hBwdInIdeal := hBwdInIdeal)
    ∧ quiescent_BwdInIdeal_pre_finite_in (hBwdInIdeal := hBwdInIdeal) (hPre_finite_in := hPre_finite_in)
    ∧ quiescent_BwdInRefIdeal (hBwdInRefIdeal := hBwdInRefIdeal)
    ∧ quiescent_BwdInRefIdeal_pre_finite_in (hBwdInRefIdeal := hBwdInRefIdeal) (hPre_finite_in := hPre_finite_in)
    ∧ quiescent_PoolBwd (hPoolBwd := hPoolBwd)
    ∧ quiescent_PoolBwdIdeal (hPoolBwdIdeal := hPoolBwdIdeal)
    ∧ quiescent_PoolBwdIdeal_pre_finite_pool (hPoolBwdIdeal := hPoolBwdIdeal) (hPre_finite_pool := hPre_finite_pool)
    ∧ quiescent_PoolBwdRefIdeal (hPoolBwdRefIdeal := hPoolBwdRefIdeal)
    ∧ quiescent_PoolBwdRefIdeal_pre_finite_pool (hPoolBwdRefIdeal := hPoolBwdRefIdeal) (hPre_finite_pool := hPre_finite_pool)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_Loss (hLoss := hLoss)
    ∧ quiescent_LossIdeal (hLossIdeal := hLossIdeal)
    ∧ quiescent_LossRefIdeal (hLossRefIdeal := hLossRefIdeal)
    ∧ quiescent_S5Bwd (hS5Bwd := hS5Bwd)
    ∧ quiescent_S5BwdIdeal (hS5BwdIdeal := hS5BwdIdeal)
    ∧ quiescent_S5BwdRefIdeal (hS5BwdRefIdeal := hS5BwdRefIdeal)
    ∧ quiescent_PoolFwd (hPoolFwd := hPoolFwd)
    ∧ quiescent_PoolFwdIdeal (hPoolFwdIdeal := hPoolFwdIdeal)
    ∧ quiescent_PoolFwdIdeal_pre_finite_pool_fwd (hPoolFwdIdeal := hPoolFwdIdeal) (hPre_finite_pool_fwd := hPre_finite_pool_fwd)
    ∧ quiescent_PoolFwdRefIdeal (hPoolFwdRefIdeal := hPoolFwdRefIdeal)
    ∧ quiescent_PoolFwdRefIdeal_pre_finite_pool_fwd (hPoolFwdRefIdeal := hPoolFwdRefIdeal) (hPre_finite_pool_fwd := hPre_finite_pool_fwd)
    ∧ quiescent_FwdIn (hFwdIn := hFwdIn)
    ∧ quiescent_FwdInIdeal (hFwdInIdeal := hFwdInIdeal)
    ∧ quiescent_FwdInRefIdeal (hFwdInRefIdeal := hFwdInRefIdeal)
    ∧ quiescent_S5Fwd (hS5Fwd := hS5Fwd)
    ∧ quiescent_S5FwdIdeal (hS5FwdIdeal := hS5FwdIdeal)
    ∧ quiescent_S5FwdRefIdeal (hS5FwdRefIdeal := hS5FwdRefIdeal)
    ∧ quiescent_BwdOut (hBwdOut := hBwdOut)
    ∧ quiescent_BwdOutIdeal (hBwdOutIdeal := hBwdOutIdeal)
    ∧ quiescent_BwdOutRefIdeal (hBwdOutRefIdeal := hBwdOutRefIdeal)
    ∧ quiescent_GradFfn (hGradFfn := hGradFfn)
    ∧ quiescent_GradFfnIdeal (hGradFfnIdeal := hGradFfnIdeal)
    ∧ quiescent_GradFfnRefIdeal (hGradFfnRefIdeal := hGradFfnRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_BwdIn_BwdInIdeal
    ∧ algebraic_BwdInIdeal_BwdInRefIdeal_pre_finite_in (hBwdInIdeal := hBwdInIdeal) (hBwdInRefIdeal := hBwdInRefIdeal) (hPre_finite_in := hPre_finite_in)
    ∧ preserves_PoolBwd_PoolBwdIdeal
    ∧ algebraic_PoolBwdIdeal_PoolBwdRefIdeal_pre_finite_pool (hPoolBwdIdeal := hPoolBwdIdeal) (hPoolBwdRefIdeal := hPoolBwdRefIdeal) (hPre_finite_pool := hPre_finite_pool)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_Loss_LossIdeal
    ∧ preserves_S5Bwd_S5BwdIdeal
    ∧ preserves_PoolFwd_PoolFwdIdeal
    ∧ algebraic_PoolFwdIdeal_PoolFwdRefIdeal_pre_finite_pool_fwd (hPoolFwdIdeal := hPoolFwdIdeal) (hPoolFwdRefIdeal := hPoolFwdRefIdeal) (hPre_finite_pool_fwd := hPre_finite_pool_fwd)
    ∧ preserves_FwdIn_FwdInIdeal
    ∧ algebraic_FwdInIdeal_FwdInRefIdeal (hFwdInIdeal := hFwdInIdeal) (hFwdInRefIdeal := hFwdInRefIdeal)
    ∧ preserves_S5Fwd_S5FwdIdeal
    ∧ preserves_BwdOut_BwdOutIdeal
    ∧ algebraic_BwdOutIdeal_BwdOutRefIdeal (hBwdOutIdeal := hBwdOutIdeal) (hBwdOutRefIdeal := hBwdOutRefIdeal)
    ∧ preserves_GradFfn_GradFfnIdeal
    ∧ algebraic_GradFfnIdeal_GradFfnRefIdeal (hGradFfnIdeal := hGradFfnIdeal) (hGradFfnRefIdeal := hGradFfnRefIdeal)
    ∧ preserves_Adamw_AdamwIdeal
    ∧ algebraic_AdamwIdeal_AdamwRefIdeal (hAdamwIdeal := hAdamwIdeal) (hAdamwRefIdeal := hAdamwRefIdeal)
-- ==== Pre_finite_ffn.lean ====
abbrev S4112x1024 : Shape := ⟨2, ![4112, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4112x1024 : S_.BroadcastsInDim S4112x1024 (![] : Fin 0 → Fin S4112x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S4112x1024 .f32) (main_arg1 : FVec F S1x1024 .f32) (main_arg2 : FVec F S1x1024x2816 .f32) (main_arg3 : FVec F S1x1024x2816 .f32) (main_arg4 : FVec F S1x2816x1024 .f32) (main_arg5 : FVec F S4112x1024 .f32) : IVec S4112x1024 1 × IVec S1x1024 1 × IVec S1x1024x2816 1 × IVec S1x1024x2816 1 × IVec S1x2816x1024 1 × IVec S4112x1024 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S4112x1024 .f32 := Host.absf main_arg5
  let main_cst_4 : FVec F S_ .f32 := constant S_ .f32 0x7F800000#32
  let main_v16 : FVec F S4112x1024 .f32 := broadcastInDim S4112x1024 ![] bcast_S_S4112x1024 main_cst_4
  let main_v17 : IVec S4112x1024 1 := cmpf .olt main_v15 main_v16
  (main_v2, main_v5, main_v8, main_v11, main_v14, main_v17)
-- ==== Pre_finite_in.lean ====
abbrev S16x1024 : Shape := ⟨2, ![16, 1024]⟩
abbrev S1x4096x1024 : Shape := ⟨3, ![1, 4096, 1024]⟩
abbrev S1x1024 : Shape := ⟨2, ![1, 1024]⟩
abbrev S1x1024x1024 : Shape := ⟨3, ![1, 1024, 1024]⟩
abbrev S4112x1024 : Shape := ⟨2, ![4112, 1024]⟩
abbrev S_ : Shape := ⟨0, ![]⟩

class Facts : Prop where
  bcast_S_S16x1024 : S_.BroadcastsInDim S16x1024 (![] : Fin 0 → Fin S16x1024.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S4112x1024 : S_.BroadcastsInDim S4112x1024 (![] : Fin 0 → Fin S4112x1024.rank)

variable [Facts]

def fn {F : FTy → Type} [FloatOps F] (main_arg0 : FVec F S16x1024 .f32) (main_arg1 : FVec F S1x4096x1024 .f32) (main_arg2 : FVec F S1x1024 .f32) (main_arg3 : FVec F S1x1024x1024 .f32) (main_arg4 : FVec F S4112x1024 .f32) (main_arg5 : FVec F S4112x1024 .f32) : IVec S16x1024 1 × IVec S1x4096x1024 1 × IVec S1x1024 1 × IVec S1x1024x1024 1 × IVec S4112x1024 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S4112x1024 .f32 := Host.absf main_arg4
  let main_cst_3 : FVec F S_ .f32 := constant S_ .f32 0x7F800000#32
  let main_v13 : FVec F S4112x1024 .f32 := broadcastInDim S4112x1024 ![] bcast_S_S4112x1024 main_cst_3
  let main_v14 : IVec S4112x1024 1 := cmpf .olt main_v12 main_v13
  (main_v2, main_v5, main_v8, main_v11, main_v14)
-- ==== Pre_finite_pool.lean ====
abbrev S4112x512 : Shape := ⟨2, ![4112, 512]⟩
abbrev S1x4x128x128 : Shape := ⟨4, ![1, 4, 128, 128]⟩
abbrev S1x4x128 : Shape := ⟨3, ![1, 4, 128]⟩
abbrev S1x512 : Shape := ⟨2, ![1, 512]⟩
abbrev S_ : Shape := ⟨0, ![]⟩

class Facts : Prop where
  bcast_S_S4112x512 : S_.BroadcastsInDim S4112x512 (![] : Fin 0 → Fin S4112x512.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x512 : S_.BroadcastsInDim S1x512 (![] : Fin 0 → Fin S1x512.rank)

variable [Facts]

def fn {F : FTy → Type} [FloatOps F] (main_arg0 : FVec F S4112x512 .f32) (main_arg1 : FVec F S1x4x128x128 .f32) (main_arg2 : FVec F S1x4x128 .f32) (main_arg3 : FVec F S1x512 .f32) (main_arg4 : FVec F S4112x512 .f32) : IVec S4112x512 1 × IVec S1x4x128x128 1 × IVec S1x4x128 1 × IVec S1x512 1 × IVec S4112x512 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S1x4x128x128 .f32 := Host.absf main_arg1
  let main_cst_0 : FVec F S_ .f32 := constant S_ .f32 0x7F800000#32
  let main_v4 : FVec F S1x4x128x128 .f32 := broadcastInDim S1x4x128x128 ![] bcast_S_S1x4x128x128 main_cst_0
  let main_v5 : IVec S1x4x128x128 1 := cmpf .olt main_v3 main_v4
  let main_v6 : FVec F S1x4x128 .f32 := Host.absf main_arg2
  let main_cst_1 : FVec F S_ .f32 := constant S_ .f32 0x7F800000#32
  let main_v7 : FVec F S1x4x128 .f32 := broadcastInDim S1x4x128 ![] bcast_S_S1x4x128 main_cst_1
  let main_v8 : IVec S1x4x128 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_v12 : FVec F S4112x512 .f32 := Host.absf main_arg4
  let main_cst_3 : FVec F S_ .f32 := constant S_ .f32 0x7F800000#32
  let main_v13 : FVec F S4112x512 .f32 := broadcastInDim S4112x512 ![] bcast_S_S4112x512 main_cst_3
  let main_v14 : IVec S4112x512 1 := cmpf .olt main_v12 main_v13
  (main_v2, main_v5, main_v8, main_v11, main_v14)
-- ==== Pre_finite_pool_fwd.lean ====
abbrev S4112x512 : Shape := ⟨2, ![4112, 512]⟩
abbrev S1x4x128x128 : Shape := ⟨4, ![1, 4, 128, 128]⟩
abbrev S1x4x128 : Shape := ⟨3, ![1, 4, 128]⟩
abbrev S1x512 : Shape := ⟨2, ![1, 512]⟩
abbrev S_ : Shape := ⟨0, ![]⟩

class Facts : Prop where
  bcast_S_S4112x512 : S_.BroadcastsInDim S4112x512 (![] : Fin 0 → Fin S4112x512.rank)

variable [Facts]

def fn {F : FTy → Type} [FloatOps F] (main_arg0 : FVec F S4112x512 .f32) (main_arg1 : FVec F S1x4x128x128 .f32) (main_arg2 : FVec F S1x4x128 .f32) (main_arg3 : FVec F S1x512 .f32) : IVec S4112x512 1 :=
  let main_v0 : FVec F S4112x512 .f32 := Host.absf main_arg0
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  main_v2
-- ==== BwdIn.lean ====
abbrev S16x1024 : Shape := ⟨2, ![16, 1024]⟩
abbrev S1x4096x1024 : Shape := ⟨3, ![1, 4096, 1024]⟩
abbrev S1x1024 : Shape := ⟨2, ![1, 1024]⟩
abbrev S1x1024x1024 : Shape := ⟨3, ![1, 1024, 1024]⟩
abbrev S4112x1024 : Shape := ⟨2, ![4112, 1024]⟩
abbrev S4096x1024 : Shape := ⟨2, ![4096, 1024]⟩
abbrev S_ : Shape := ⟨0, ![]⟩
abbrev S4160x1024 : Shape := ⟨2, ![4160, 1024]⟩
abbrev S1024x1024 : Shape := ⟨2, ![1024, 1024]⟩
abbrev S4112x512 : Shape := ⟨2, ![4112, 512]⟩
abbrev S4160x512 : Shape := ⟨2, ![4160, 512]⟩
abbrev S832x512 : Shape := ⟨2, ![832, 512]⟩
abbrev S832x1024 : Shape := ⟨2, ![832, 1024]⟩
abbrev S1024x512 : Shape := ⟨2, ![1024, 512]⟩
abbrev S832 : Shape := ⟨1, ![832]⟩
abbrev S832x1 : Shape := ⟨2, ![832, 1]⟩
abbrev S1024 : Shape := ⟨1, ![1024]⟩

abbrev nBuf : Space → Nat
  | .hbm => 27
  | .vmem => 14
  | .smem => 0
  | _ => 0

abbrev bufTy : (tb : Table) → Fin (tcTables nBuf tb) → BufTy
  | .hbm, ⟨0, _⟩ => ⟨S16x1024, .f32⟩
  | .hbm, ⟨1, _⟩ => ⟨S1x4096x1024, .f32⟩
  | .hbm, ⟨2, _⟩ => ⟨S1x1024, .f32⟩
  | .hbm, ⟨3, _⟩ => ⟨S1x1024x1024, .f32⟩
  | .hbm, ⟨4, _⟩ => ⟨S4112x1024, .f32⟩
  | .hbm, ⟨5, _⟩ => ⟨S4112x1024, .f32⟩
  | .hbm, ⟨6, _⟩ => ⟨S4096x1024, .f32⟩
  | .hbm, ⟨7, _⟩ => ⟨S4112x1024, .f32⟩
  | .hbm, ⟨8, _⟩ => ⟨S_, .i32⟩
  | .hbm, ⟨9, _⟩ => ⟨S_, .f32⟩
  | .hbm, ⟨10, _⟩ => ⟨S4160x1024, .f32⟩
  | .hbm, ⟨11, _⟩ => ⟨S1024x1024, .f32⟩
  | .hbm, ⟨12, _⟩ => ⟨S1024x1024, .bf16⟩
  | .hbm, ⟨13, _⟩ => ⟨S4112x512, .f32⟩
  | .hbm, ⟨14, _⟩ => ⟨S_, .i32⟩
  | .hbm, ⟨15, _⟩ => ⟨S_, .f32⟩
  | .hbm, ⟨16, _⟩ => ⟨S4160x512, .f32⟩
  | .hbm, ⟨17, _⟩ => ⟨S4112x512, .f32⟩
  | .hbm, ⟨18, _⟩ => ⟨S_, .i32⟩
  | .hbm, ⟨19, _⟩ => ⟨S_, .f32⟩
  | .hbm, ⟨20, _⟩ => ⟨S4160x512, .f32⟩
  | .hbm, ⟨21, _⟩ => ⟨S_, .i32⟩
  | .hbm, ⟨22, _⟩ => ⟨S_, .f32⟩
  | .hbm, ⟨23, _⟩ => ⟨S4160x1024, .f32⟩
  | .hbm, ⟨24, _⟩ => ⟨S4160x1024, .f32⟩
  | .hbm, ⟨25, _⟩ => ⟨S1024x1024, .f32⟩
  | .hbm, ⟨26, _⟩ => ⟨S1x1024, .f32⟩
  | .local _ .vmem, ⟨0, _⟩ => ⟨S832x512, .f32⟩
  | .local _ .vmem, ⟨1, _⟩ => ⟨S832x512, .f32⟩
  | .local _ .vmem, ⟨2, _⟩ => ⟨S832x512, .f32⟩
  | .local _ .vmem, ⟨3, _⟩ => ⟨S832x512, .f32⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | .local _ .vmem, ⟨7, _⟩ => ⟨S832x1024, .f32⟩
  | .local _ .vmem, ⟨8, _⟩ => ⟨S1x1024, .f32⟩
  | .local _ .vmem, ⟨9, _⟩ => ⟨S1024x1024, .bf16⟩
  | .local _ .vmem, ⟨10, _⟩ => ⟨S832x1024, .f32⟩
  | .local _ .vmem, ⟨11, _⟩ => ⟨S832x1024, .f32⟩
  | .local _ .vmem, ⟨12, _⟩ => ⟨S1024x1024, .f32⟩
  | .local _ .vmem, ⟨13, _⟩ => ⟨S1x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdInRefIdeal.lean ====
abbrev S16x1024 : Shape := ⟨2, ![16, 1024]⟩
abbrev S1x4096x1024 : Shape := ⟨3, ![1, 4096, 1024]⟩
abbrev S1x1024 : Shape := ⟨2, ![1, 1024]⟩
abbrev S1x1024x1024 : Shape := ⟨3, ![1, 1024, 1024]⟩
abbrev S4112x1024 : Shape := ⟨2, ![4112, 1024]⟩
abbrev S4096x1024 : Shape := ⟨2, ![4096, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x1024 : Shape := ⟨2, ![1024, 1024]⟩
abbrev S4160x1024 : Shape := ⟨2, ![4160, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x4096x1024, .f32⟩
  | .hbm, ⟨2, _⟩ => ⟨S1x1024, .f32⟩
  | .hbm, ⟨3, _⟩ => ⟨S1x1024x1024, .f32⟩
  | .hbm, ⟨4, _⟩ => ⟨S4112x1024, .f32⟩
  | .hbm, ⟨5, _⟩ => ⟨S4112x1024, .f32⟩
  | .hbm, ⟨6, _⟩ => ⟨S4096x1024, .f32⟩
  | .hbm, ⟨7, _⟩ => ⟨S4112x1024, .f32⟩
  | .hbm, ⟨8, _⟩ => ⟨S1024, .f32⟩
  | .hbm, ⟨9, _⟩ => ⟨S4112x1024, .f32⟩
  | .hbm, ⟨10, _⟩ => ⟨S_, .f32⟩
  | .hbm, ⟨11, _⟩ => ⟨S4112, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S_, .f32⟩
  | .hbm, ⟨22, _⟩ => ⟨S4112x1, .f32⟩
  | .hbm, ⟨23, _⟩ => ⟨S4112x1, .f32⟩
  | .hbm, ⟨24, _⟩ => ⟨S4112x1024, .f32⟩
  | .hbm, ⟨25, _⟩ => ⟨S4112x1024, .f32⟩
  | .hbm, ⟨26, _⟩ => ⟨S1x1024, .f32⟩
  | .hbm, ⟨27, _⟩ => ⟨S4112x1024, .f32⟩
  | .hbm, ⟨28, _⟩ => ⟨S4112x1024, .f32⟩
  | .hbm, ⟨29, _⟩ => ⟨S1024x1024, .f32⟩
  | .hbm, ⟨30, _⟩ => ⟨S4112x1024, .f32⟩
  | .hbm, ⟨31, _⟩ => ⟨S1024x1024, .f32⟩
  | .hbm, ⟨32, _⟩ => ⟨S1024x1024, .f32⟩
  | .hbm, ⟨33, _⟩ => ⟨S4112x1024, .f32⟩
  | .hbm, ⟨34, _⟩ => ⟨S1x1024x1024, .f32⟩
  | .hbm, ⟨35, _⟩ => ⟨S4112x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4112x1024, .f32⟩
  | .hbm, ⟨40, _⟩ => ⟨S4112x1024, .f32⟩
  | .hbm, ⟨41, _⟩ => ⟨S_, .f32⟩
  | .hbm, ⟨42, _⟩ => ⟨S1024, .f32⟩
  | .hbm, ⟨43, _⟩ => ⟨S4112x1024, .f32⟩
  | .hbm, ⟨44, _⟩ => ⟨S_, .f32⟩
  | .hbm, ⟨45, _⟩ => ⟨S4112, .f32⟩
  | .hbm, ⟨46, _⟩ => ⟨S4112x1, .f32⟩
  | .hbm, ⟨47, _⟩ => ⟨S4112x1024, .f32⟩
  | .hbm, ⟨48, _⟩ => ⟨S4112x1024, .f32⟩
  | .hbm, ⟨49, _⟩ => ⟨S4112x1024, .f32⟩
  | .hbm, ⟨50, _⟩ => ⟨S4112x1, .f32⟩
  | .hbm, ⟨51, _⟩ => ⟨S_, .f32⟩
  | .hbm, ⟨52, _⟩ => ⟨S4112x1, .f32⟩
  | .hbm, ⟨53, _⟩ => ⟨S4112x1, .f32⟩
  | .hbm, ⟨54, _⟩ => ⟨S_, .f32⟩
  | .hbm, ⟨55, _⟩ => ⟨S4112, .f32⟩
  | .hbm, ⟨56, _⟩ => ⟨S4112x1024, .f32⟩
  | .hbm, ⟨57, _⟩ => ⟨S4112x1024, .f32⟩
  | .hbm, ⟨58, _⟩ => ⟨S4112x1024, .f32⟩
  | .hbm, ⟨59, _⟩ => ⟨S4112x1024, .f32⟩
  | .hbm, ⟨60, _⟩ => ⟨S4112x1024, .f32⟩
  | .hbm, ⟨61, _⟩ => ⟨S1x1024, .f32⟩
  | .hbm, ⟨62, _⟩ => ⟨S_, .i32⟩
  | .hbm, ⟨63, _⟩ => ⟨S_, .f32⟩
  | .hbm, ⟨64, _⟩ => ⟨S4160x1024, .f32⟩
  | .hbm, ⟨65, _⟩ => ⟨S1024x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call0_v0 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== PoolBwd.lean ====
abbrev S4112x512 : Shape := ⟨2, ![4112, 512]⟩
abbrev S1x4x128x128 : Shape := ⟨4, ![1, 4, 128, 128]⟩
abbrev S1x4x128 : Shape := ⟨3, ![1, 4, 128]⟩
abbrev S1x512 : Shape := ⟨2, ![1, 512]⟩
abbrev S2x512 : Shape := ⟨2, ![2, 512]⟩
abbrev S_ : Shape := ⟨0, ![]⟩
abbrev S8x512 : Shape := ⟨2, ![8, 512]⟩
abbrev S4x128x128 : Shape := ⟨3, ![4, 128, 128]⟩
abbrev S4112x4x128 : Shape := ⟨3, ![4112, 4, 128]⟩
abbrev S4112 : Shape := ⟨1, ![4112]⟩
abbrev S4112x1x128 : Shape := ⟨3, ![4112, 1, 128]⟩
abbrev S4112x128 : Shape := ⟨2, ![4112, 128]⟩
abbrev S2x128 : Shape := ⟨2, ![2, 128]⟩
abbrev S4110x128 : Shape := ⟨2, ![4110, 128]⟩
abbrev S4112x1 : Shape := ⟨2, ![4112, 1]⟩
abbrev S4x128 : Shape := ⟨2, ![4, 128]⟩
abbrev S4108x128 : Shape := ⟨2, ![4108, 128]⟩
abbrev S8x128 : Shape := ⟨2, ![8, 128]⟩
abbrev S4104x128 : Shape := ⟨2, ![4104, 128]⟩
abbrev S16x128 : Shape := ⟨2, ![16, 128]⟩
abbrev S4096x128 : Shape := ⟨2, ![4096, 128]⟩
abbrev S4160x512 : Shape := ⟨2, ![4160, 512]⟩
abbrev S320x512 : Shape := ⟨2, ![320, 512]⟩
abbrev S16x512 : Shape := ⟨2, ![16, 512]⟩
abbrev S320x128 : Shape := ⟨2, ![320, 128]⟩
abbrev S1x128x128 : Shape := ⟨3, ![1, 128, 128]⟩
abbrev S128x128 : Shape := ⟨2, ![128, 128]⟩
abbrev S320 : Shape := ⟨1, ![320]⟩
abbrev S320x1 : Shape := ⟨2, ![320, 1]⟩
abbrev S512 : Shape := ⟨1, ![512]⟩
abbrev S336x512 : Shape := ⟨2, ![336, 512]⟩
abbrev S336x128 : Shape := ⟨2, ![336, 128]⟩

abbrev nBuf : Space → Nat
  | .hbm => 100
  | .vmem => 11
  | .smem => 0
  | _ => 0

abbrev bufTy : (tb : Table) → Fin (tcTables nBuf tb) → BufTy
  | .hbm, ⟨0, _⟩ => ⟨S4112x512, .f32⟩
  | .hbm, ⟨1, _⟩ => ⟨S1x4x128x128, .f32⟩
  | .hbm, ⟨2, _⟩ => ⟨S1x4x128, .f32⟩
  | .hbm, ⟨3, _⟩ => ⟨S1x512, .f32⟩
  | .hbm, ⟨4, _⟩ => ⟨S4112x512, .f32⟩
  | .hbm, ⟨5, _⟩ => ⟨S1x512, .f32⟩
  | .hbm, ⟨6, _⟩ => ⟨S2x512, .f32⟩
  | .hbm, ⟨7, _⟩ => ⟨S_, .i32⟩
  | .hbm, ⟨8, _⟩ => ⟨S_, .f32⟩
  | .hbm, ⟨9, _⟩ => ⟨S8x512, .f32⟩
  | .hbm, ⟨10, _⟩ => ⟨S4x128x128, .f32⟩
  | .hbm, ⟨11, _⟩ => ⟨S4x128x128, .bf16⟩
  | .hbm, ⟨12, _⟩ => ⟨S4112x4x128, .f32⟩
  | .hbm, ⟨13, _⟩ => ⟨S_, .f32⟩
  | .hbm, ⟨14, _⟩ => ⟨S_, .f32⟩
  | .hbm, ⟨15, _⟩ => ⟨S4112x4x128, .f32⟩
  | .hbm, ⟨16, _⟩ => ⟨S4112, .f32⟩
  | .hbm, ⟨17, _⟩ => ⟨S_, .f32⟩
  | .hbm, ⟨18, _⟩ => ⟨S4112, .f32⟩
  | .hbm, ⟨19, _⟩ => ⟨S4112, .f32⟩
  | .hbm, ⟨20, _⟩ => ⟨S4112x1x128, .f32⟩
  | .hbm, ⟨21, _⟩ => ⟨S4112x128, .f32⟩
  | .hbm, ⟨22, _⟩ => ⟨S_, .f32⟩
  | .hbm, ⟨23, _⟩ => ⟨S2x128, .f32⟩
  | .hbm, ⟨24, _⟩ => ⟨S4110x128, .f32⟩
  | .hbm, ⟨25, _⟩ => ⟨S4112x128, .f32⟩
  | .hbm, ⟨26, _⟩ => ⟨S_, .f32⟩
  | .hbm, ⟨27, _⟩ => ⟨S4112, .f32⟩
  | .hbm, ⟨28, _⟩ => ⟨S4112, .f32⟩
  | .hbm, ⟨29, _⟩ => ⟨S4112x1, .f32⟩
  | .hbm, ⟨30, _⟩ => ⟨S4112x128, .f32⟩
  | .hbm, ⟨31, _⟩ => ⟨S4112x128, .f32⟩
  | .hbm, ⟨32, _⟩ => ⟨S4112x128, .f32⟩
  | .hbm, ⟨33, _⟩ => ⟨S4112x1x128, .f32⟩
  | .hbm, ⟨34, _⟩ => ⟨S4112x128, .f32⟩
  | .hbm, ⟨35, _⟩ => ⟨S4112x128, .f32⟩
  | .hbm, ⟨36, _⟩ => ⟨S4112x1x128, .f32⟩
  | .hbm, ⟨37, _⟩ => ⟨S4112x128, .f32⟩
  | .hbm, ⟨38, _⟩ => ⟨S_, .f32⟩
  | .hbm, ⟨39, _⟩ => ⟨S4x128, .f32⟩
  | .hbm, ⟨40, _⟩ => ⟨S4108x128, .f32⟩
  | .hbm, ⟨41, _⟩ => ⟨S4112x128, .f32⟩
  | .hbm, ⟨42, _⟩ => ⟨S_, .f32⟩
  | .hbm, ⟨43, _⟩ => ⟨S4112, .f32⟩
  | .hbm, ⟨44, _⟩ => ⟨S4112, .f32⟩
  | .hbm, ⟨45, _⟩ => ⟨S4112x1, .f32⟩
  | .hbm, ⟨46, _⟩ => ⟨S4112x128, .f32⟩
  | .hbm, ⟨47, _⟩ => ⟨S4112x128, .f32⟩
  | .hbm, ⟨48, _⟩ => ⟨S4112x128, .f32⟩
  | .hbm, ⟨49, _⟩ => ⟨S4112x1x128, .f32⟩
  | .hbm, ⟨50, _⟩ => ⟨S4112x128, .f32⟩
  | .hbm, ⟨51, _⟩ => ⟨S4112x128, .f32⟩
  | .hbm, ⟨52, _⟩ => ⟨S4112x1x128, .f32⟩
  | .hbm, ⟨53, _⟩ => ⟨S4112x128, .f32⟩
  | .hbm, ⟨54, _⟩ => ⟨S_, .f32⟩
  | .hbm, ⟨55, _⟩ => ⟨S8x128, .f32⟩
  | .hbm, ⟨56, _⟩ => ⟨S4104x128, .f32⟩
  | .hbm, ⟨57, _⟩ => ⟨S4112x128, .f32⟩
  | .hbm, ⟨58, _⟩ => ⟨S_, .f32⟩
  | .hbm, ⟨59, _⟩ => ⟨S4112, .f32⟩
  | .hbm, ⟨60, _⟩ => ⟨S4112, .f32⟩
  | .hbm, ⟨61, _⟩ => ⟨S4112x1, .f32⟩
  | .hbm, ⟨62, _⟩ => ⟨S4112x128, .f32⟩
  | .hbm, ⟨63, _⟩ => ⟨S4112x128, .f32⟩
  | .hbm, ⟨64, _⟩ => ⟨S4112x128, .f32⟩
  | .hbm, ⟨65, _⟩ => ⟨S4112x1x128, .f32⟩
  | .hbm, ⟨66, _⟩ => ⟨S4112x128, .f32⟩
  | .hbm, ⟨67, _⟩ => ⟨S4112x128, .f32⟩
  | .hbm, ⟨68, _⟩ => ⟨S4112x1x128, .f32⟩
  | .hbm, ⟨69, _⟩ => ⟨S4112x128, .f32⟩
  | .hbm, ⟨70, _⟩ => ⟨S_, .f32⟩
  | .hbm, ⟨71, _⟩ => ⟨S16x128, .f32⟩
  | .hbm, ⟨72, _⟩ => ⟨S4096x128, .f32⟩
  | .hbm, ⟨73, _⟩ => ⟨S4112x128, .f32⟩
  | .hbm, ⟨74, _⟩ => ⟨S_, .f32⟩
  | .hbm, ⟨75, _⟩ => ⟨S4112, .f32⟩
  | .hbm, ⟨76, _⟩ => ⟨S4112, .f32⟩
  | .hbm, ⟨77, _⟩ => ⟨S4112x1, .f32⟩
  | .hbm, ⟨78, _⟩ => ⟨S4112x128, .f32⟩
  | .hbm, ⟨79, _⟩ => ⟨S4112x128, .f32⟩
  | .hbm, ⟨80, _⟩ => ⟨S4112x128, .f32⟩
  | .hbm, ⟨81, _⟩ => ⟨S4112x1x128, .f32⟩
  | .hbm, ⟨82, _⟩ => ⟨S4112x128, .f32⟩
  | .hbm, ⟨83, _⟩ => ⟨S4112x128, .f32⟩
  | .hbm, ⟨84, _⟩ => ⟨S4112x1x128, .f32⟩
  | .hbm, ⟨85, _⟩ => ⟨S4112x1x128, .f32⟩
  | .hbm, ⟨86, _⟩ => ⟨S4112x1x128, .f32⟩
  | .hbm, ⟨87, _⟩ => ⟨S4112x1x128, .f32⟩
  | .hbm, ⟨88, _⟩ => ⟨S4112x4x128, .f32⟩
  | .hbm, ⟨89, _⟩ => ⟨S4112x512, .f32⟩
  | .hbm, ⟨90, _⟩ => ⟨S4112x512, .bf16⟩
  | .hbm, ⟨91, _⟩ => ⟨S_, .i32⟩
  | .hbm, ⟨92, _⟩ => ⟨S_, .bf16⟩
  | .hbm, ⟨93, _⟩ => ⟨S4160x512, .bf16⟩
  | .hbm, ⟨94, _⟩ => ⟨S_, .i32⟩
  | .hbm, ⟨95, _⟩ => ⟨S_, .f32⟩
  | .hbm, ⟨96, _⟩ => ⟨S4160x512, .f32⟩
  | .hbm, ⟨97, _⟩ => ⟨S4160x512, .f32⟩
  | .hbm, ⟨98, _⟩ => ⟨S4x128x128, .f32⟩
  | .hbm, ⟨99, _⟩ => ⟨S8x512, .f32⟩
  | .local _ .vmem, ⟨0, _⟩ => ⟨S320x512, .f32⟩
  | .local _ .vmem, ⟨1, _⟩ => ⟨S320x512, .f32⟩
  | .local _ .vmem, ⟨2, _⟩ => ⟨S320x512, .bf16⟩
  | .local _ .vmem, ⟨3, _⟩ => ⟨S320x512, .bf16⟩
  | .local _ .vmem, ⟨4, _⟩ => ⟨S4x128x128, .bf16⟩
  | .local _ .vmem, ⟨5, _⟩ => ⟨S8x512, .f32⟩
  | .local _ .vmem, ⟨6, _⟩ => ⟨S320x512, .f32⟩
  | .local _ .vmem, ⟨7, _⟩ => ⟨S320x512, .f32⟩
  | .local _ .vmem, ⟨8, _⟩ => ⟨S4x128x128, .f32⟩
  | .local _ .vmem, ⟨9, _⟩ => ⟨S8x512, .f32⟩
  | .local _ .vmem, ⟨10, _⟩ => ⟨S16x512, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_call0_cst : Ref sig .tc := ⟨.hbm, 13, rfl⟩
abbrev main_call1_call0_v0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_8 : Ref sig .tc := ⟨.hbm, 91, rfl⟩
abbrev main_call2_v0 : Ref sig .tc := ⟨.hbm, 92, rfl⟩
abbrev main_v73 : Ref sig .tc := ⟨.hbm, 93, rfl⟩
abbrev main_c_9 : Ref sig .tc := ⟨.hbm, 94, rfl⟩
abbrev main_call3_v0 : Ref sig .tc := ⟨.hbm, 95, rfl⟩
abbrev main_v74 : Ref sig .tc := ⟨.hbm, 96, rfl⟩
abbrev main_v75_0 : Ref sig .tc := ⟨.hbm, 97, rfl⟩
abbrev main_v75_1 : Ref sig .tc := ⟨.hbm, 98, rfl⟩
abbrev main_v75_2 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolBwdRefIdeal.lean ====
abbrev S4112x512 : Shape := ⟨2, ![4112, 512]⟩
abbrev S1x4x128x128 : Shape := ⟨4, ![1, 4, 128, 128]⟩
abbrev S1x4x128 : Shape := ⟨3, ![1, 4, 128]⟩
abbrev S1x512 : Shape := ⟨2, ![1, 512]⟩
abbrev S4112x4x128 : Shape := ⟨3, ![4112, 4, 128]⟩
abbrev S_ : Shape := ⟨0, ![]⟩
abbrev S4112 : Shape := ⟨1, ![4112]⟩
abbrev S4112x1x128 : Shape := ⟨3, ![4112, 1, 128]⟩
abbrev S4112x128 : Shape := ⟨2, ![4112, 128]⟩
abbrev S2x128 : Shape := ⟨2, ![2, 128]⟩
abbrev S4110x128 : Shape := ⟨2, ![4110, 128]⟩
abbrev S4112x1 : Shape := ⟨2, ![4112, 1]⟩
abbrev S4x128 : Shape := ⟨2, ![4, 128]⟩
abbrev S4108x128 : Shape := ⟨2, ![4108, 128]⟩
abbrev S8x128 : Shape := ⟨2, ![8, 128]⟩
abbrev S4104x128 : Shape := ⟨2, ![4104, 128]⟩
abbrev S16x128 : Shape := ⟨2, ![16, 128]⟩
abbrev S4096x128 : Shape := ⟨2, ![4096, 128]⟩
abbrev S4x128x128 : Shape := ⟨3, ![4, 128, 128]⟩
abbrev S4x128x4112 : Shape := ⟨3, ![4, 128, 4112]⟩
abbrev S512 : Shape := ⟨1, ![512]⟩
abbrev S4x4112x128 : Shape := ⟨3, ![4, 4112, 128]⟩
abbrev S4160x512 : Shape := ⟨2, ![4160, 512]⟩
abbrev S6x512 : Shape := ⟨2, ![6, 512]⟩
abbrev S8x512 : Shape := ⟨2, ![8, 512]⟩

abbrev nBuf : Space → Nat
  | .hbm => 248
  | .vmem => 0
  | .smem => 0
  | _ => 0

abbrev hbmTy0_0 (i : Nat) : BufTy := match i % 128 with
  | 0 => ⟨S4112x512, .f32⟩
  | 1 => ⟨S1x4x128x128, .f32⟩
  | 2 => ⟨S1x4x128, .f32⟩
  | 3 => ⟨S1x512, .f32⟩
  | 4 => ⟨S4112x512, .f32⟩
  | 5 => ⟨S4112x4x128, .f32⟩
  | 6 => ⟨S_, .f32⟩
  | 7 => ⟨S_, .f32⟩
  | 8 => ⟨S4112x4x128, .f32⟩
  | 9 => ⟨S4112, .f32⟩
  | 10 => ⟨S_, .f32⟩
  | 11 => ⟨S4112, .f32⟩
  | 12 => ⟨S4112, .f32⟩
  | 13 => ⟨S4112x1x128, .f32⟩
  | 14 => ⟨S4112x128, .f32⟩
  | 15 => ⟨S_, .f32⟩
  | 16 => ⟨S2x128, .f32⟩
  | 17 => ⟨S4110x128, .f32⟩
  | 18 => ⟨S4112x128, .f32⟩
  | 19 => ⟨S_, .f32⟩
  | 20 => ⟨S2x128, .f32⟩
  | 21 => ⟨S_, .f32⟩
  | 22 => ⟨S4112, .f32⟩
  | 23 => ⟨S4112, .f32⟩
  | 24 => ⟨S4112x1, .f32⟩
  | 25 => ⟨S4112x128, .f32⟩
  | 26 => ⟨S4112x128, .f32⟩
  | 27 => ⟨S4112x128, .f32⟩
  | 28 => ⟨S4112x1x128, .f32⟩
  | 29 => ⟨S4112x128, .f32⟩
  | 30 => ⟨S4112x128, .f32⟩
  | 31 => ⟨S4112x1x128, .f32⟩
  | 32 => ⟨S4112x128, .f32⟩
  | 33 => ⟨S_, .f32⟩
  | 34 => ⟨S4x128, .f32⟩
  | 35 => ⟨S4108x128, .f32⟩
  | 36 => ⟨S4112x128, .f32⟩
  | 37 => ⟨S_, .f32⟩
  | 38 => ⟨S4x128, .f32⟩
  | 39 => ⟨S_, .f32⟩
  | 40 => ⟨S4112, .f32⟩
  | 41 => ⟨S4112, .f32⟩
  | 42 => ⟨S4112x1, .f32⟩
  | 43 => ⟨S4112x128, .f32⟩
  | 44 => ⟨S4112x128, .f32⟩
  | 45 => ⟨S4112x128, .f32⟩
  | 46 => ⟨S4112x1x128, .f32⟩
  | 47 => ⟨S4112x128, .f32⟩
  | 48 => ⟨S4112x128, .f32⟩
  | 49 => ⟨S4112x1x128, .f32⟩
  | 50 => ⟨S4112x128, .f32⟩
  | 51 => ⟨S_, .f32⟩
  | 52 => ⟨S8x128, .f32⟩
  | 53 => ⟨S4104x128, .f32⟩
  | 54 => ⟨S4112x128, .f32⟩
  | 55 => ⟨S_, .f32⟩
  | 56 => ⟨S8x128, .f32⟩
  | 57 => ⟨S_, .f32⟩
  | 58 => ⟨S4112, .f32⟩
  | 59 => ⟨S4112, .f32⟩
  | 60 => ⟨S4112x1, .f32⟩
  | 61 => ⟨S4112x128, .f32⟩
  | 62 => ⟨S4112x128, .f32⟩
  | 63 => ⟨S4112x128, .f32⟩
  | 64 => ⟨S4112x1x128, .f32⟩
  | 65 => ⟨S4112x128, .f32⟩
  | 66 => ⟨S4112x128, .f32⟩
  | 67 => ⟨S4112x1x128, .f32⟩
  | 68 => ⟨S4112x128, .f32⟩
  | 69 => ⟨S_, .f32⟩
  | 70 => ⟨S16x128, .f32⟩
  | 71 => ⟨S4096x128, .f32⟩
  | 72 => ⟨S4112x128, .f32⟩
  | 73 => ⟨S_, .f32⟩
  | 74 => ⟨S16x128, .f32⟩
  | 75 => ⟨S_, .f32⟩
  | 76 => ⟨S4112, .f32⟩
  | 77 => ⟨S4112, .f32⟩
  | 78 => ⟨S4112x1, .f32⟩
  | 79 => ⟨S4112x128, .f32⟩
  | 80 => ⟨S4112x128, .f32⟩
  | 81 => ⟨S4112x128, .f32⟩
  | 82 => ⟨S4112x1x128, .f32⟩
  | 83 => ⟨S4112x128, .f32⟩
  | 84 => ⟨S4112x128, .f32⟩
  | 85 => ⟨S4112x1x128, .f32⟩
  | 86 => ⟨S4112x1x128, .f32⟩
  | 87 => ⟨S4112x1x128, .f32⟩
  | 88 => ⟨S4112x1x128, .f32⟩
  | 89 => ⟨S4112x4x128, .f32⟩
  | 90 => ⟨S4x128x128, .f32⟩
  | 91 => ⟨S4x128x4112, .f32⟩
  | 92 => ⟨S4112x4x128, .f32⟩
  | 93 => ⟨S4x128, .f32⟩
  | 94 => ⟨S1x4x128, .f32⟩
  | 95 => ⟨S4112x4x128, .f32⟩
  | 96 => ⟨S4112x4x128, .f32⟩
  | 97 => ⟨S4112x512, .f32⟩
  | 98 => ⟨S512, .f32⟩
  | 99 => ⟨S4112x512, .f32⟩
  | 100 => ⟨S_, .f32⟩
  | 101 => ⟨S4112, .f32⟩
  | 102 => ⟨S4112x1, .f32⟩
  | 103 => ⟨S_, .f32⟩
  | 104 => ⟨S4112x1, .f32⟩
  | 105 => ⟨S4112x1, .f32⟩
  | 106 => ⟨S_, .f32⟩
  | 107 => ⟨S4112x1, .f32⟩
  | 108 => ⟨S4112x1, .f32⟩
  | 109 => ⟨S4112x1, .f32⟩
  | 110 => ⟨S4112x1, .f32⟩
  | 111 => ⟨S_, .f32⟩
  | 112 => ⟨S4112x1, .f32⟩
  | 113 => ⟨S4112x1, .f32⟩
  | 114 => ⟨S4112x512, .f32⟩
  | 115 => ⟨S4112x512, .f32⟩
  | 116 => ⟨S1x512, .f32⟩
  | 117 => ⟨S4112x512, .f32⟩
  | 118 => ⟨S4112x512, .f32⟩
  | 119 => ⟨S4112x512, .f32⟩
  | 120 => ⟨S_, .f32⟩
  | 121 => ⟨S512, .f32⟩
  | 122 => ⟨S1x512, .f32⟩
  | 123 => ⟨S4112x512, .f32⟩
  | 124 => ⟨S4112x512, .f32⟩
  | 125 => ⟨S_, .f32⟩
  | 126 => ⟨S512, .f32⟩
  | 127 => ⟨S4112x512, .f32⟩
  | _ => ⟨S4112x512, .f32⟩

abbrev hbmTy0_1 (i : Nat) : BufTy := match i % 128 with
  | 0 => ⟨S_, .f32⟩
  | 1 => ⟨S4112, .f32⟩
  | 2 => ⟨S4112x1, .f32⟩
  | 3 => ⟨S4112x512, .f32⟩
  | 4 => ⟨S4112x512, .f32⟩
  | 5 => ⟨S4112x1, .f32⟩
  | 6 => ⟨S_, .f32⟩
  | 7 => ⟨S4112x1, .f32⟩
  | 8 => ⟨S4112x1, .f32⟩
  | 9 => ⟨S_, .f32⟩
  | 10 => ⟨S4112, .f32⟩
  | 11 => ⟨S4112x512, .f32⟩
  | 12 => ⟨S4112x512, .f32⟩
  | 13 => ⟨S4112x512, .f32⟩
  | 14 => ⟨S4112x512, .f32⟩
  | 15 => ⟨S4112x512, .f32⟩
  | 16 => ⟨S1x512, .f32⟩
  | 17 => ⟨S4112x4x128, .f32⟩
  | 18 => ⟨S4112x4x128, .f32⟩
  | 19 => ⟨S_, .f32⟩
  | 20 => ⟨S4x128, .f32⟩
  | 21 => ⟨S1x4x128, .f32⟩
  | 22 => ⟨S4112x4x128, .f32⟩
  | 23 => ⟨S4112x4x128, .f32⟩
  | 24 => ⟨S_, .f32⟩
  | 25 => ⟨S4x128, .f32⟩
  | 26 => ⟨S1x4x128, .f32⟩
  | 27 => ⟨S4x128x4112, .f32⟩
  | 28 => ⟨S4x4112x128, .f32⟩
  | 29 => ⟨S4112x4x128, .f32⟩
  | 30 => ⟨S4x128x128, .f32⟩
  | 31 => ⟨S4x128x128, .f32⟩
  | 32 => ⟨S1x4x128x128, .f32⟩
  | 33 => ⟨S4112x1x128, .f32⟩
  | 34 => ⟨S4112x128, .f32⟩
  | 35 => ⟨S4112x1x128, .f32⟩
  | 36 => ⟨S4112x128, .f32⟩
  | 37 => ⟨S4112x1x128, .f32⟩
  | 38 => ⟨S4112x128, .f32⟩
  | 39 => ⟨S4112x1x128, .f32⟩
  | 40 => ⟨S4112x128, .f32⟩
  | 41 => ⟨S4112x128, .f32⟩
  | 42 => ⟨S4112x1x128, .f32⟩
  | 43 => ⟨S_, .f32⟩
  | 44 => ⟨S4112x4x128, .f32⟩
  | 45 => ⟨S4112x128, .f32⟩
  | 46 => ⟨S4112x128, .f32⟩
  | 47 => ⟨S4112x128, .f32⟩
  | 48 => ⟨S16x128, .f32⟩
  | 49 => ⟨S4096x128, .f32⟩
  | 50 => ⟨S_, .f32⟩
  | 51 => ⟨S4112x128, .f32⟩
  | 52 => ⟨S4112x128, .f32⟩
  | 53 => ⟨S4112x1x128, .f32⟩
  | 54 => ⟨S_, .f32⟩
  | 55 => ⟨S4112x4x128, .f32⟩
  | 56 => ⟨S4112x128, .f32⟩
  | 57 => ⟨S4112x1x128, .f32⟩
  | 58 => ⟨S_, .f32⟩
  | 59 => ⟨S4112x4x128, .f32⟩
  | 60 => ⟨S4112x4x128, .f32⟩
  | 61 => ⟨S4112x128, .f32⟩
  | 62 => ⟨S4112x128, .f32⟩
  | 63 => ⟨S4112x128, .f32⟩
  | 64 => ⟨S8x128, .f32⟩
  | 65 => ⟨S4104x128, .f32⟩
  | 66 => ⟨S_, .f32⟩
  | 67 => ⟨S4112x128, .f32⟩
  | 68 => ⟨S4112x128, .f32⟩
  | 69 => ⟨S4112x1x128, .f32⟩
  | 70 => ⟨S_, .f32⟩
  | 71 => ⟨S4112x4x128, .f32⟩
  | 72 => ⟨S4112x4x128, .f32⟩
  | 73 => ⟨S4112x128, .f32⟩
  | 74 => ⟨S4112x1x128, .f32⟩
  | 75 => ⟨S_, .f32⟩
  | 76 => ⟨S4112x4x128, .f32⟩
  | 77 => ⟨S4112x4x128, .f32⟩
  | 78 => ⟨S4112x128, .f32⟩
  | 79 => ⟨S4112x128, .f32⟩
  | 80 => ⟨S4112x128, .f32⟩
  | 81 => ⟨S4x128, .f32⟩
  | 82 => ⟨S4108x128, .f32⟩
  | 83 => ⟨S_, .f32⟩
  | 84 => ⟨S4112x128, .f32⟩
  | 85 => ⟨S4112x128, .f32⟩
  | 86 => ⟨S4112x1x128, .f32⟩
  | 87 => ⟨S_, .f32⟩
  | 88 => ⟨S4112x4x128, .f32⟩
  | 89 => ⟨S4112x4x128, .f32⟩
  | 90 => ⟨S4112x128, .f32⟩
  | 91 => ⟨S4112x1x128, .f32⟩
  | 92 => ⟨S_, .f32⟩
  | 93 => ⟨S4112x4x128, .f32⟩
  | 94 => ⟨S4112x4x128, .f32⟩
  | 95 => ⟨S4112x128, .f32⟩
  | 96 => ⟨S4112x128, .f32⟩
  | 97 => ⟨S4112x128, .f32⟩
  | 98 => ⟨S2x128, .f32⟩
  | 99 => ⟨S4110x128, .f32⟩
  | 100 => ⟨S_, .f32⟩
  | 101 => ⟨S4112x128, .f32⟩
  | 102 => ⟨S4112x128, .f32⟩
  | 103 => ⟨S4112x1x128, .f32⟩
  | 104 => ⟨S_, .f32⟩
  | 105 => ⟨S4112x4x128, .f32⟩
  | 106 => ⟨S4112x4x128, .f32⟩
  | 107 => ⟨S_, .f32⟩
  | 108 => ⟨S_, .f32⟩
  | 109 => ⟨S4112x4x128, .f32⟩
  | 110 => ⟨S4112x4x128, .f32⟩
  | 111 => ⟨S4112x512, .f32⟩
  | 112 => ⟨S_, .i32⟩
  | 113 => ⟨S_, .f32⟩
  | 114 => ⟨S4160x512, .f32⟩
  | 115 => ⟨S4x128x128, .f32⟩
  | 116 => ⟨S1x512, .f32⟩
  | 117 => ⟨S_, .f32⟩
  | 118 => ⟨S6x512, .f32⟩
  | 119 => ⟨S8x512, .f32⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_16 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_17 : Ref sig .tc := ⟨.hbm, 125, rfl⟩
abbrev main_v100 : Ref sig .tc := ⟨.hbm, 126, rfl⟩
abbrev main_v101 : Ref sig .tc := ⟨.hbm, 127, rfl⟩
abbrev main_cst_18 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_19 : Ref sig .tc := ⟨.hbm, 134, rfl⟩
abbrev main_v107 : Ref sig .tc := ⟨.hbm, 135, rfl⟩
abbrev main_v108 : Ref sig .tc := ⟨.hbm, 136, rfl⟩
abbrev main_cst_20 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_22 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_23 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_24 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_25 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_26 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_cst_27 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_28 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_29 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_30 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_31 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_cst_32 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_33 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_cst_34 : Ref sig .tc := ⟨.hbm, 232, rfl⟩
abbrev main_v190 : Ref sig .tc := ⟨.hbm, 233, rfl⟩
abbrev main_v191 : Ref sig .tc := ⟨.hbm, 234, rfl⟩
abbrev main_call1_call0_cst : Ref sig .tc := ⟨.hbm, 235, rfl⟩
abbrev main_call1_call0_v0 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_c : Ref sig .tc := ⟨.hbm, 240, rfl⟩
abbrev main_call2_v0 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_cst_35 : Ref sig .tc := ⟨.hbm, 245, rfl⟩
abbrev main_v198 : Ref sig .tc := ⟨.hbm, 246, rfl⟩
abbrev main_v199 : Ref sig .tc := ⟨.hbm, 247, rfl⟩

abbrev nD : Nat := 1
abbrev τ : Topo := Topo.v7x

variable {F : FTy → Type} [FloatOps F]
-- ==== FfnBwd.lean ====
abbrev S4112x1024 : Shape := ⟨2, ![4112, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4x704x1024 : Shape := ⟨3, ![4, 704, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S4112x2816 : Shape := ⟨2, ![4112, 2816]⟩
abbrev S4160x2816 : Shape := ⟨2, ![4160, 2816]⟩
abbrev S4160x4x704 : Shape := ⟨3, ![4160, 4, 704]⟩
abbrev S4x4160x704 : Shape := ⟨3, ![4, 4160, 704]⟩
abbrev S4160x1024 : Shape := ⟨2, ![4160, 1024]⟩
abbrev S320x1024 : Shape := ⟨2, ![320, 1024]⟩
abbrev S4x320x704 : Shape := ⟨3, ![4, 320, 704]⟩
abbrev S3 : Shape := ⟨1, ![3]⟩
abbrev S1 : Shape := ⟨1, ![1]⟩
abbrev S1x704x1024 : Shape := ⟨3, ![1, 704, 1024]⟩
abbrev S704x1024 : Shape := ⟨2, ![704, 1024]⟩
abbrev S320x704 : Shape := ⟨2, ![320, 704]⟩
abbrev S1x320x704 : Shape := ⟨3, ![1, 320, 704]⟩
abbrev S320 : Shape := ⟨1, ![320]⟩
abbrev S320x1 : Shape := ⟨2, ![320, 1]⟩

abbrev nBuf : Space → Nat
  | .hbm => 61
  | .vmem => 22
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4112x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S4x704x1024, .bf16⟩
  | .hbm, ⟨14, _⟩ => ⟨S2816x1024, .f32⟩
  | .hbm, ⟨15, _⟩ => ⟨S2816x1024, .bf16⟩
  | .hbm, ⟨16, _⟩ => ⟨S4x704x1024, .bf16⟩
  | .hbm, ⟨17, _⟩ => ⟨S1024, .f32⟩
  | .hbm, ⟨18, _⟩ => ⟨S4112x1024, .f32⟩
  | .hbm, ⟨19, _⟩ => ⟨S_, .f32⟩
  | .hbm, ⟨20, _⟩ => ⟨S4112, .f32⟩
  | .hbm, ⟨21, _⟩ => ⟨S4112x1, .f32⟩
  | .hbm, ⟨22, _⟩ => ⟨S_, .f32⟩
  | .hbm, ⟨23, _⟩ => ⟨S4112x1, .f32⟩
  | .hbm, ⟨24, _⟩ => ⟨S4112x1, .f32⟩
  | .hbm, ⟨25, _⟩ => ⟨S_, .f32⟩
  | .hbm, ⟨26, _⟩ => ⟨S4112x1, .f32⟩
  | .hbm, ⟨27, _⟩ => ⟨S4112x1, .f32⟩
  | .hbm, ⟨28, _⟩ => ⟨S4112x1, .f32⟩
  | .hbm, ⟨29, _⟩ => ⟨S4112x1024, .f32⟩
  | .hbm, ⟨30, _⟩ => ⟨S4112x1024, .f32⟩
  | .hbm, ⟨31, _⟩ => ⟨S1x1024, .f32⟩
  | .hbm, ⟨32, _⟩ => ⟨S4112x1024, .f32⟩
  | .hbm, ⟨33, _⟩ => ⟨S4112x1024, .f32⟩
  | .hbm, ⟨34, _⟩ => ⟨S1024x2816, .f32⟩
  | .hbm, ⟨35, _⟩ => ⟨S4112x2816, .f32⟩
  | .hbm, ⟨36, _⟩ => ⟨S_, .i32⟩
  | .hbm, ⟨37, _⟩ => ⟨S_, .f32⟩
  | .hbm, ⟨38, _⟩ => ⟨S4160x2816, .f32⟩
  | .hbm, ⟨39, _⟩ => ⟨S4160x4x704, .f32⟩
  | .hbm, ⟨40, _⟩ => ⟨S4x4160x704, .f32⟩
  | .hbm, ⟨41, _⟩ => ⟨S4x4160x704, .bf16⟩
  | .hbm, ⟨42, _⟩ => ⟨S1024x2816, .f32⟩
  | .hbm, ⟨43, _⟩ => ⟨S4112x2816, .f32⟩
  | .hbm, ⟨44, _⟩ => ⟨S_, .i32⟩
  | .hbm, ⟨45, _⟩ => ⟨S_, .f32⟩
  | .hbm, ⟨46, _⟩ => ⟨S4160x2816, .f32⟩
  | .hbm, ⟨47, _⟩ => ⟨S4160x4x704, .f32⟩
  | .hbm, ⟨48, _⟩ => ⟨S4x4160x704, .f32⟩
  | .hbm, ⟨49, _⟩ => ⟨S4x4160x704, .bf16⟩
  | .hbm, ⟨50, _⟩ => ⟨S_, .i32⟩
  | .hbm, ⟨51, _⟩ => ⟨S_, .f32⟩
  | .hbm, ⟨52, _⟩ => ⟨S4160x1024, .f32⟩
  | .hbm, ⟨53, _⟩ => ⟨S4160x1024, .bf16⟩
  | .hbm, ⟨54, _⟩ => ⟨S_, .i32⟩
  | .hbm, ⟨55, _⟩ => ⟨S_, .f32⟩
  | .hbm, ⟨56, _⟩ => ⟨S4160x1024, .f32⟩
  | .hbm, ⟨57, _⟩ => ⟨S4x4160x704, .bf16⟩
  | .hbm, ⟨58, _⟩ => ⟨S4x4160x704, .bf16⟩
  | .hbm, ⟨59, _⟩ => ⟨S4160x1024, .f32⟩
  | .hbm, ⟨60, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .bf16⟩
  | .local _ .vmem, ⟨3, _⟩ => ⟨S320x1024, .bf16⟩
  | .local _ .vmem, ⟨4, _⟩ => ⟨S4x320x704, .bf16⟩
  | .local _ .vmem, ⟨5, _⟩ => ⟨S4x320x704, .bf16⟩
  | .local _ .vmem, ⟨6, _⟩ => ⟨S4x320x704, .bf16⟩
  | .local _ .vmem, ⟨7, _⟩ => ⟨S4x320x704, .bf16⟩
  | .local _ .vmem, ⟨8, _⟩ => ⟨S320x1024, .f32⟩
  | .local _ .vmem, ⟨9, _⟩ => ⟨S320x1024, .f32⟩
  | .local _ .vmem, ⟨10, _⟩ => ⟨S1x1024, .f32⟩
  | .local _ .vmem, ⟨11, _⟩ => ⟨S4x320x704, .bf16⟩
  | .local _ .vmem, ⟨12, _⟩ => ⟨S4x320x704, .bf16⟩
  | .local _ .vmem, ⟨13, _⟩ => ⟨S4x320x704, .bf16⟩
  | .local _ .vmem, ⟨14, _⟩ => ⟨S4x320x704, .bf16⟩
  | .local _ .vmem, ⟨15, _⟩ => ⟨S320x1024, .f32⟩
  | .local _ .vmem, ⟨16, _⟩ => ⟨S320x1024, .f32⟩
  | .local _ .vmem, ⟨17, _⟩ => ⟨S1x1024, .f32⟩
  | .local _ .vmem, ⟨18, _⟩ => ⟨S4x704x1024, .bf16⟩
  | .local _ .vmem, ⟨19, _⟩ => ⟨S4x704x1024, .bf16⟩
  | .local _ .vmem, ⟨20, _⟩ => ⟨S4x704x1024, .bf16⟩
  | .local _ .vmem, ⟨21, _⟩ => ⟨S320x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_call1_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_call2_v0 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_call3_v0 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x320x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x320x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x320x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x320x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnBwdRefIdeal.lean ====
abbrev S4112x1024 : Shape := ⟨2, ![4112, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x2816 : Shape := ⟨2, ![1024, 2816]⟩
abbrev S4112x2816 : Shape := ⟨2, ![4112, 2816]⟩
abbrev S2816x1024 : Shape := ⟨2, ![2816, 1024]⟩
abbrev S4160x2816 : Shape := ⟨2, ![4160, 2816]⟩
abbrev S4160x4x704 : Shape := ⟨3, ![4160, 4, 704]⟩
abbrev S4x4160x704 : Shape := ⟨3, ![4, 4160, 704]⟩
abbrev S4160x1024 : Shape := ⟨2, ![4160, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4112x1024, .f32⟩
  | .hbm, ⟨6, _⟩ => ⟨S1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S1024x2816, .f32⟩
  | .hbm, ⟨28, _⟩ => ⟨S4112x2816, .f32⟩
  | .hbm, ⟨29, _⟩ => ⟨S1024x2816, .f32⟩
  | .hbm, ⟨30, _⟩ => ⟨S4112x2816, .f32⟩
  | .hbm, ⟨31, _⟩ => ⟨S4112x2816, .f32⟩
  | .hbm, ⟨32, _⟩ => ⟨S4112x2816, .f32⟩
  | .hbm, ⟨33, _⟩ => ⟨S_, .f32⟩
  | .hbm, ⟨34, _⟩ => ⟨S4112x2816, .f32⟩
  | .hbm, ⟨35, _⟩ => ⟨S4112x2816, .f32⟩
  | .hbm, ⟨36, _⟩ => ⟨S_, .f32⟩
  | .hbm, ⟨37, _⟩ => ⟨S4112x2816, .f32⟩
  | .hbm, ⟨38, _⟩ => ⟨S4112x2816, .f32⟩
  | .hbm, ⟨39, _⟩ => ⟨S_, .f32⟩
  | .hbm, ⟨40, _⟩ => ⟨S4112x2816, .f32⟩
  | .hbm, ⟨41, _⟩ => ⟨S4112x2816, .f32⟩
  | .hbm, ⟨42, _⟩ => ⟨S4112x2816, .f32⟩
  | .hbm, ⟨43, _⟩ => ⟨S4112x2816, .f32⟩
  | .hbm, ⟨44, _⟩ => ⟨S4112x2816, .f32⟩
  | .hbm, ⟨45, _⟩ => ⟨S2816x1024, .f32⟩
  | .hbm, ⟨46, _⟩ => ⟨S4112x1024, .f32⟩
  | .hbm, ⟨47, _⟩ => ⟨S4112x1024, .f32⟩
  | .hbm, ⟨48, _⟩ => ⟨S4112x1024, .f32⟩
  | .hbm, ⟨49, _⟩ => ⟨S1024x2816, .f32⟩
  | .hbm, ⟨50, _⟩ => ⟨S2816x1024, .f32⟩
  | .hbm, ⟨51, _⟩ => ⟨S4112x2816, .f32⟩
  | .hbm, ⟨52, _⟩ => ⟨S1x2816x1024, .f32⟩
  | .hbm, ⟨53, _⟩ => ⟨S4112x2816, .f32⟩
  | .hbm, ⟨54, _⟩ => ⟨S4112x2816, .f32⟩
  | .hbm, ⟨55, _⟩ => ⟨S4112x2816, .f32⟩
  | .hbm, ⟨56, _⟩ => ⟨S4112x2816, .f32⟩
  | .hbm, ⟨57, _⟩ => ⟨S4112x2816, .f32⟩
  | .hbm, ⟨58, _⟩ => ⟨S4112x2816, .f32⟩
  | .hbm, ⟨59, _⟩ => ⟨S2816x1024, .f32⟩
  | .hbm, ⟨60, _⟩ => ⟨S1024x2816, .f32⟩
  | .hbm, ⟨61, _⟩ => ⟨S4112x1024, .f32⟩
  | .hbm, ⟨62, _⟩ => ⟨S1x1024x2816, .f32⟩
  | .hbm, ⟨63, _⟩ => ⟨S2816x1024, .f32⟩
  | .hbm, ⟨64, _⟩ => ⟨S1024x2816, .f32⟩
  | .hbm, ⟨65, _⟩ => ⟨S4112x1024, .f32⟩
  | .hbm, ⟨66, _⟩ => ⟨S4112x1024, .f32⟩
  | .hbm, ⟨67, _⟩ => ⟨S1x1024x2816, .f32⟩
  | .hbm, ⟨68, _⟩ => ⟨S4112x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4112x1024, .f32⟩
  | .hbm, ⟨73, _⟩ => ⟨S4112x1024, .f32⟩
  | .hbm, ⟨74, _⟩ => ⟨S_, .f32⟩
  | .hbm, ⟨75, _⟩ => ⟨S1024, .f32⟩
  | .hbm, ⟨76, _⟩ => ⟨S4112x1024, .f32⟩
  | .hbm, ⟨77, _⟩ => ⟨S_, .f32⟩
  | .hbm, ⟨78, _⟩ => ⟨S4112, .f32⟩
  | .hbm, ⟨79, _⟩ => ⟨S4112x1, .f32⟩
  | .hbm, ⟨80, _⟩ => ⟨S4112x1024, .f32⟩
  | .hbm, ⟨81, _⟩ => ⟨S4112x1024, .f32⟩
  | .hbm, ⟨82, _⟩ => ⟨S4112x1024, .f32⟩
  | .hbm, ⟨83, _⟩ => ⟨S4112x1, .f32⟩
  | .hbm, ⟨84, _⟩ => ⟨S_, .f32⟩
  | .hbm, ⟨85, _⟩ => ⟨S4112x1, .f32⟩
  | .hbm, ⟨86, _⟩ => ⟨S4112x1, .f32⟩
  | .hbm, ⟨87, _⟩ => ⟨S_, .f32⟩
  | .hbm, ⟨88, _⟩ => ⟨S4112, .f32⟩
  | .hbm, ⟨89, _⟩ => ⟨S4112x1024, .f32⟩
  | .hbm, ⟨90, _⟩ => ⟨S4112x1024, .f32⟩
  | .hbm, ⟨91, _⟩ => ⟨S4112x1024, .f32⟩
  | .hbm, ⟨92, _⟩ => ⟨S4112x1024, .f32⟩
  | .hbm, ⟨93, _⟩ => ⟨S4112x1024, .f32⟩
  | .hbm, ⟨94, _⟩ => ⟨S1x1024, .f32⟩
  | .hbm, ⟨95, _⟩ => ⟨S_, .i32⟩
  | .hbm, ⟨96, _⟩ => ⟨S_, .f32⟩
  | .hbm, ⟨97, _⟩ => ⟨S4160x2816, .f32⟩
  | .hbm, ⟨98, _⟩ => ⟨S4160x4x704, .f32⟩
  | .hbm, ⟨99, _⟩ => ⟨S4x4160x704, .f32⟩
  | .hbm, ⟨100, _⟩ => ⟨S4x4160x704, .bf16⟩
  | .hbm, ⟨101, _⟩ => ⟨S_, .i32⟩
  | .hbm, ⟨102, _⟩ => ⟨S_, .f32⟩
  | .hbm, ⟨103, _⟩ => ⟨S4160x2816, .f32⟩
  | .hbm, ⟨104, _⟩ => ⟨S4160x4x704, .f32⟩
  | .hbm, ⟨105, _⟩ => ⟨S4x4160x704, .f32⟩
  | .hbm, ⟨106, _⟩ => ⟨S4x4160x704, .bf16⟩
  | .hbm, ⟨107, _⟩ => ⟨S_, .i32⟩
  | .hbm, ⟨108, _⟩ => ⟨S_, .f32⟩
  | .hbm, ⟨109, _⟩ => ⟨S4160x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_8 : Ref sig .tc := ⟨.hbm, 101, rfl⟩
abbrev main_call3_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_9 : Ref sig .tc := ⟨.hbm, 107, rfl⟩
abbrev main_call4_v0 : Ref sig .tc := ⟨.hbm, 108, rfl⟩
abbrev main_v73 : Ref sig .tc := ⟨.hbm, 109, rfl⟩

abbrev nD : Nat := 1
abbrev τ : Topo := Topo.v7x

variable {F : FTy → Type} [FloatOps F]
-- ==== Loss.lean ====
abbrev S4112x1024 : Shape := ⟨2, ![4112, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1x4096x1024 : Shape := ⟨3, ![1, 4096, 1024]⟩
abbrev S1024x1024 : Shape := ⟨2, ![1024, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S16x1024 : Shape := ⟨2, ![16, 1024]⟩
abbrev S4096x1024 : Shape := ⟨2, ![4096, 1024]⟩
abbrev S4160x1024 : Shape := ⟨2, ![4160, 1024]⟩
abbrev S4112x512 : Shape := ⟨2, ![4112, 512]⟩
abbrev S4160x512 : Shape := ⟨2, ![4160, 512]⟩
abbrev S4x4160x704 : Shape := ⟨3, ![4, 4160, 704]⟩
abbrev S8x128 : Shape := ⟨2, ![8, 128]⟩
abbrev S320x1024 : Shape := ⟨2, ![320, 1024]⟩
abbrev S320x512 : Shape := ⟨2, ![320, 512]⟩
abbrev S4x320x704 : Shape := ⟨3, ![4, 320, 704]⟩
abbrev S3 : Shape := ⟨1, ![3]⟩
abbrev S1 : Shape := ⟨1, ![1]⟩
abbrev S512x1024 : Shape := ⟨2, ![512, 1024]⟩
abbrev S320 : Shape := ⟨1, ![320]⟩
abbrev S320x1 : Shape := ⟨2, ![320, 1]⟩
abbrev S1x704x1024 : Shape := ⟨3, ![1, 704, 1024]⟩
abbrev S704x1024 : Shape := ⟨2, ![704, 1024]⟩
abbrev S320x704 : Shape := ⟨2, ![320, 704]⟩
abbrev S1x320x704 : Shape := ⟨3, ![1, 320, 704]⟩
abbrev S1x320x1024 : Shape := ⟨3, ![1, 320, 1024]⟩
abbrev S1x1x1 : Shape := ⟨3, ![1, 1, 1]⟩

abbrev nBuf : Space → Nat
  | .hbm => 52
  | .vmem => 31
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1x1024x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1x4096x1024, .f32⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S4x704x1024, .bf16⟩
  | .hbm, ⟨16, _⟩ => ⟨S1024x2816, .f32⟩
  | .hbm, ⟨17, _⟩ => ⟨S2816x1024, .f32⟩
  | .hbm, ⟨18, _⟩ => ⟨S2816x1024, .bf16⟩
  | .hbm, ⟨19, _⟩ => ⟨S4x704x1024, .bf16⟩
  | .hbm, ⟨20, _⟩ => ⟨S2816x1024, .f32⟩
  | .hbm, ⟨21, _⟩ => ⟨S2816x1024, .bf16⟩
  | .hbm, ⟨22, _⟩ => ⟨S4x704x1024, .bf16⟩
  | .hbm, ⟨23, _⟩ => ⟨S_, .f32⟩
  | .hbm, ⟨24, _⟩ => ⟨S16x1024, .f32⟩
  | .hbm, ⟨25, _⟩ => ⟨S4096x1024, .f32⟩
  | .hbm, ⟨26, _⟩ => ⟨S4112x1024, .f32⟩
  | .hbm, ⟨27, _⟩ => ⟨S_, .i32⟩
  | .hbm, ⟨28, _⟩ => ⟨S_, .f32⟩
  | .hbm, ⟨29, _⟩ => ⟨S4160x1024, .f32⟩
  | .hbm, ⟨30, _⟩ => ⟨S4112x512, .f32⟩
  | .hbm, ⟨31, _⟩ => ⟨S4112x512, .f32⟩
  | .hbm, ⟨32, _⟩ => ⟨S_, .i32⟩
  | .hbm, ⟨33, _⟩ => ⟨S_, .f32⟩
  | .hbm, ⟨34, _⟩ => ⟨S4160x512, .f32⟩
  | .hbm, ⟨35, _⟩ => ⟨S4160x512, .bf16⟩
  | .hbm, ⟨36, _⟩ => ⟨S_, .i32⟩
  | .hbm, ⟨37, _⟩ => ⟨S_, .f32⟩
  | .hbm, ⟨38, _⟩ => ⟨S4160x512, .f32⟩
  | .hbm, ⟨39, _⟩ => ⟨S4160x512, .bf16⟩
  | .hbm, ⟨40, _⟩ => ⟨S_, .i32⟩
  | .hbm, ⟨41, _⟩ => ⟨S_, .f32⟩
  | .hbm, ⟨42, _⟩ => ⟨S4160x1024, .f32⟩
  | .hbm, ⟨43, _⟩ => ⟨S4160x1024, .f32⟩
  | .hbm, ⟨44, _⟩ => ⟨S4160x1024, .bf16⟩
  | .hbm, ⟨45, _⟩ => ⟨S4x4160x704, .bf16⟩
  | .hbm, ⟨46, _⟩ => ⟨S4x4160x704, .bf16⟩
  | .hbm, ⟨47, _⟩ => ⟨S4x4160x704, .bf16⟩
  | .hbm, ⟨48, _⟩ => ⟨S4160x1024, .f32⟩
  | .hbm, ⟨49, _⟩ => ⟨S4160x1024, .bf16⟩
  | .hbm, ⟨50, _⟩ => ⟨S8x128, .f32⟩
  | .hbm, ⟨51, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x512, .bf16⟩
  | .local _ .vmem, ⟨3, _⟩ => ⟨S320x512, .bf16⟩
  | .local _ .vmem, ⟨4, _⟩ => ⟨S320x512, .bf16⟩
  | .local _ .vmem, ⟨5, _⟩ => ⟨S320x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .bf16⟩
  | .local _ .vmem, ⟨14, _⟩ => ⟨S320x1024, .bf16⟩
  | .local _ .vmem, ⟨15, _⟩ => ⟨S4x320x704, .bf16⟩
  | .local _ .vmem, ⟨16, _⟩ => ⟨S4x320x704, .bf16⟩
  | .local _ .vmem, ⟨17, _⟩ => ⟨S4x320x704, .bf16⟩
  | .local _ .vmem, ⟨18, _⟩ => ⟨S4x320x704, .bf16⟩
  | .local _ .vmem, ⟨19, _⟩ => ⟨S4x320x704, .bf16⟩
  | .local _ .vmem, ⟨20, _⟩ => ⟨S4x320x704, .bf16⟩
  | .local _ .vmem, ⟨21, _⟩ => ⟨S320x1024, .f32⟩
  | .local _ .vmem, ⟨22, _⟩ => ⟨S320x1024, .f32⟩
  | .local _ .vmem, ⟨23, _⟩ => ⟨S320x1024, .bf16⟩
  | .local _ .vmem, ⟨24, _⟩ => ⟨S320x1024, .bf16⟩
  | .local _ .vmem, ⟨25, _⟩ => ⟨S8x128, .f32⟩
  | .local _ .vmem, ⟨26, _⟩ => ⟨S1x1024, .f32⟩
  | .local _ .vmem, ⟨27, _⟩ => ⟨S4x704x1024, .bf16⟩
  | .local _ .vmem, ⟨28, _⟩ => ⟨S4x704x1024, .bf16⟩
  | .local _ .vmem, ⟨29, _⟩ => ⟨S4x704x1024, .bf16⟩
  | .local _ .vmem, ⟨30, _⟩ => ⟨S320x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_call1_v0 : Ref sig .tc := ⟨.hbm, 33, rfl⟩
abbrev main_v20 : Ref sig .tc := ⟨.hbm, 34, rfl⟩
abbrev main_v21 : Ref sig .tc := ⟨.hbm, 35, rfl⟩
abbrev main_c_1 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_call3_v0 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v25_3 : Ref sig .tc := ⟨.hbm, 46, rfl⟩
abbrev main_v25_4 : Ref sig .tc := ⟨.hbm, 47, rfl⟩
abbrev main_v25_5 : Ref sig .tc := ⟨.hbm, 48, rfl⟩
abbrev main_v25_6 : Ref sig .tc := ⟨.hbm, 49, rfl⟩
abbrev main_v25_7 : Ref sig .tc := ⟨.hbm, 50, rfl⟩
abbrev main_v25_8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨2, ![13, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S320x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S320x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S320x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x320x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x320x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x320x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S320x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S320x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== LossRefIdeal.lean ====
abbrev S4112x1024 : Shape := ⟨2, ![4112, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1x4096x1024 : Shape := ⟨3, ![1, 4096, 1024]⟩
abbrev S1024x1024 : Shape := ⟨2, ![1024, 1024]⟩
abbrev S_ : Shape := ⟨0, ![]⟩
abbrev S4112 : Shape := ⟨1, ![4112]⟩
abbrev S4112x1 : Shape := ⟨2, ![4112, 1]⟩
abbrev S1024x2816 : Shape := ⟨2, ![1024, 2816]⟩
abbrev S4112x2816 : Shape := ⟨2, ![4112, 2816]⟩
abbrev S2816x1024 : Shape := ⟨2, ![2816, 1024]⟩
abbrev S4096x1024 : Shape := ⟨2, ![4096, 1024]⟩
abbrev S4096 : Shape := ⟨1, ![4096]⟩
abbrev S4160x1024 : Shape := ⟨2, ![4160, 1024]⟩
abbrev S4160x2816 : Shape := ⟨2, ![4160, 2816]⟩
abbrev S4160x4x704 : Shape := ⟨3, ![4160, 4, 704]⟩
abbrev S4x4160x704 : Shape := ⟨3, ![4, 4160, 704]⟩
abbrev S8x128 : Shape := ⟨2, ![8, 128]⟩

abbrev nBuf : Space → Nat
  | .hbm => 152
  | .vmem => 0
  | .smem => 0
  | _ => 0

abbrev hbmTy0_0 (i : Nat) : BufTy := match i % 128 with
  | 0 => ⟨S4112x1024, .f32⟩
  | 1 => ⟨S4112x1024, .f32⟩
  | 2 => ⟨S1x1024x1024, .f32⟩
  | 3 => ⟨S1x1024, .f32⟩
  | 4 => ⟨S1x1024x2816, .f32⟩
  | 5 => ⟨S1x1024x2816, .f32⟩
  | 6 => ⟨S1x2816x1024, .f32⟩
  | 7 => ⟨S1024, .f32⟩
  | 8 => ⟨S1x4096x1024, .f32⟩
  | 9 => ⟨S1024x1024, .f32⟩
  | 10 => ⟨S4112x1024, .f32⟩
  | 11 => ⟨S4112x1024, .f32⟩
  | 12 => ⟨S1024, .f32⟩
  | 13 => ⟨S4112x1024, .f32⟩
  | 14 => ⟨S_, .f32⟩
  | 15 => ⟨S4112, .f32⟩
  | 16 => ⟨S4112x1, .f32⟩
  | 17 => ⟨S_, .f32⟩
  | 18 => ⟨S4112x1, .f32⟩
  | 19 => ⟨S4112x1, .f32⟩
  | 20 => ⟨S_, .f32⟩
  | 21 => ⟨S4112x1, .f32⟩
  | 22 => ⟨S4112x1, .f32⟩
  | 23 => ⟨S4112x1, .f32⟩
  | 24 => ⟨S4112x1024, .f32⟩
  | 25 => ⟨S4112x1024, .f32⟩
  | 26 => ⟨S1x1024, .f32⟩
  | 27 => ⟨S4112x1024, .f32⟩
  | 28 => ⟨S4112x1024, .f32⟩
  | 29 => ⟨S1024x2816, .f32⟩
  | 30 => ⟨S4112x2816, .f32⟩
  | 31 => ⟨S1024x2816, .f32⟩
  | 32 => ⟨S4112x2816, .f32⟩
  | 33 => ⟨S4112x2816, .f32⟩
  | 34 => ⟨S4112x2816, .f32⟩
  | 35 => ⟨S_, .f32⟩
  | 36 => ⟨S4112x2816, .f32⟩
  | 37 => ⟨S4112x2816, .f32⟩
  | 38 => ⟨S_, .f32⟩
  | 39 => ⟨S4112x2816, .f32⟩
  | 40 => ⟨S4112x2816, .f32⟩
  | 41 => ⟨S4112x2816, .f32⟩
  | 42 => ⟨S4112x2816, .f32⟩
  | 43 => ⟨S2816x1024, .f32⟩
  | 44 => ⟨S4112x1024, .f32⟩
  | 45 => ⟨S4112x1024, .f32⟩
  | 46 => ⟨S4112x1024, .f32⟩
  | 47 => ⟨S_, .f32⟩
  | 48 => ⟨S4112, .f32⟩
  | 49 => ⟨S4112x1, .f32⟩
  | 50 => ⟨S_, .f32⟩
  | 51 => ⟨S4112x1, .f32⟩
  | 52 => ⟨S4112x1, .f32⟩
  | 53 => ⟨S_, .f32⟩
  | 54 => ⟨S4112x1, .f32⟩
  | 55 => ⟨S4112x1, .f32⟩
  | 56 => ⟨S4112x1, .f32⟩
  | 57 => ⟨S4112x1, .f32⟩
  | 58 => ⟨S_, .f32⟩
  | 59 => ⟨S4112x1, .f32⟩
  | 60 => ⟨S4112x1, .f32⟩
  | 61 => ⟨S4112x1024, .f32⟩
  | 62 => ⟨S4112x1024, .f32⟩
  | 63 => ⟨S1x1024, .f32⟩
  | 64 => ⟨S4112x1024, .f32⟩
  | 65 => ⟨S4112x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096, .f32⟩
  | 75 => ⟨S_, .f32⟩
  | 76 => ⟨S4096, .f32⟩
  | 77 => ⟨S4096, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S4096, .f32⟩
  | 86 => ⟨S_, .f32⟩
  | 87 => ⟨S4096, .f32⟩
  | 88 => ⟨S4096, .f32⟩
  | 89 => ⟨S4096x1024, .f32⟩
  | 90 => ⟨S4096x1024, .f32⟩
  | 91 => ⟨S_, .f32⟩
  | 92 => ⟨S4112x1024, .f32⟩
  | 93 => ⟨S4112x1024, .f32⟩
  | 94 => ⟨S_, .f32⟩
  | 95 => ⟨S1024, .f32⟩
  | 96 => ⟨S1x1024, .f32⟩
  | 97 => ⟨S4112x1024, .f32⟩
  | 98 => ⟨S4112x1024, .f32⟩
  | 99 => ⟨S_, .f32⟩
  | 100 => ⟨S1024, .f32⟩
  | 101 => ⟨S4112x1024, .f32⟩
  | 102 => ⟨S_, .f32⟩
  | 103 => ⟨S4112, .f32⟩
  | 104 => ⟨S4112x1, .f32⟩
  | 105 => ⟨S4112x1024, .f32⟩
  | 106 => ⟨S4112x1024, .f32⟩
  | 107 => ⟨S4112x1, .f32⟩
  | 108 => ⟨S_, .f32⟩
  | 109 => ⟨S4112x1, .f32⟩
  | 110 => ⟨S4112x1, .f32⟩
  | 111 => ⟨S_, .f32⟩
  | 112 => ⟨S4112, .f32⟩
  | 113 => ⟨S4112x1024, .f32⟩
  | 114 => ⟨S4112x1024, .f32⟩
  | 115 => ⟨S4112x1024, .f32⟩
  | 116 => ⟨S4112x1024, .f32⟩
  | 117 => ⟨S4112x1024, .f32⟩
  | 118 => ⟨S_, .i32⟩
  | 119 => ⟨S_, .f32⟩
  | 120 => ⟨S4160x1024, .f32⟩
  | 121 => ⟨S_, .i32⟩
  | 122 => ⟨S_, .f32⟩
  | 123 => ⟨S4160x1024, .f32⟩
  | 124 => ⟨S4160x1024, .bf16⟩
  | 125 => ⟨S_, .i32⟩
  | 126 => ⟨S_, .f32⟩
  | 127 => ⟨S4160x2816, .f32⟩
  | _ => ⟨S4112x1024, .f32⟩

abbrev hbmTy0_1 (i : Nat) : BufTy := match i % 128 with
  | 0 => ⟨S4160x4x704, .f32⟩
  | 1 => ⟨S4x4160x704, .f32⟩
  | 2 => ⟨S4x4160x704, .bf16⟩
  | 3 => ⟨S_, .i32⟩
  | 4 => ⟨S_, .f32⟩
  | 5 => ⟨S4160x2816, .f32⟩
  | 6 => ⟨S4160x4x704, .f32⟩
  | 7 => ⟨S4x4160x704, .f32⟩
  | 8 => ⟨S4x4160x704, .bf16⟩
  | 9 => ⟨S_, .i32⟩
  | 10 => ⟨S_, .f32⟩
  | 11 => ⟨S4160x2816, .f32⟩
  | 12 => ⟨S4160x4x704, .f32⟩
  | 13 => ⟨S4x4160x704, .f32⟩
  | 14 => ⟨S4x4160x704, .bf16⟩
  | 15 => ⟨S_, .i32⟩
  | 16 => ⟨S_, .f32⟩
  | 17 => ⟨S4160x1024, .f32⟩
  | 18 => ⟨S_, .i32⟩
  | 19 => ⟨S_, .f32⟩
  | 20 => ⟨S4160x1024, .f32⟩
  | 21 => ⟨S4160x1024, .bf16⟩
  | 22 => ⟨S8x128, .f32⟩
  | 23 => ⟨S1x1024, .f32⟩
  | _ => ⟨S4112x1024, .f32⟩

abbrev hbmTy (i : Nat) : BufTy := match i / 128 with
  | 0 => hbmTy0_0 i
  | 1 => hbmTy0_1 i
  | _ => ⟨S4112x1024, .f32⟩

abbrev bufTy : (tb : Table) → Fin (tcTables nBuf tb) → BufTy
  | .hbm, ⟨i, _⟩ => hbmTy i
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_14 : Ref sig .tc := ⟨.hbm, 91, rfl⟩
abbrev main_v59 : Ref sig .tc := ⟨.hbm, 92, rfl⟩
abbrev main_v60 : Ref sig .tc := ⟨.hbm, 93, rfl⟩
abbrev main_cst_15 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_16 : Ref sig .tc := ⟨.hbm, 99, rfl⟩
abbrev main_v65 : Ref sig .tc := ⟨.hbm, 100, rfl⟩
abbrev main_v66 : Ref sig .tc := ⟨.hbm, 101, rfl⟩
abbrev main_cst_17 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c : Ref sig .tc := ⟨.hbm, 118, rfl⟩
abbrev main_call1_v0 : Ref sig .tc := ⟨.hbm, 119, rfl⟩
abbrev main_v80 : Ref sig .tc := ⟨.hbm, 120, rfl⟩
abbrev main_c_20 : Ref sig .tc := ⟨.hbm, 121, rfl⟩
abbrev main_call2_v0 : Ref sig .tc := ⟨.hbm, 122, rfl⟩
abbrev main_v81 : Ref sig .tc := ⟨.hbm, 123, rfl⟩
abbrev main_v82 : Ref sig .tc := ⟨.hbm, 124, rfl⟩
abbrev main_c_21 : Ref sig .tc := ⟨.hbm, 125, rfl⟩
abbrev main_call3_v0 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_c_22 : Ref sig .tc := ⟨.hbm, 131, rfl⟩
abbrev main_call4_v0 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_23 : Ref sig .tc := ⟨.hbm, 137, rfl⟩
abbrev main_call5_v0 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_c_24 : Ref sig .tc := ⟨.hbm, 143, rfl⟩
abbrev main_call6_v0 : Ref sig .tc := ⟨.hbm, 144, rfl⟩
abbrev main_v95 : Ref sig .tc := ⟨.hbm, 145, rfl⟩
abbrev main_c_25 : Ref sig .tc := ⟨.hbm, 146, rfl⟩
abbrev main_call7_v0 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩

abbrev nD : Nat := 1
abbrev τ : Topo := Topo.v7x

variable {F : FTy → Type} [FloatOps F]
-- ==== S5Bwd.lean ====
abbrev S4112x512 : Shape := ⟨2, ![4112, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x32x16x16 : Shape := ⟨4, ![1, 32, 16, 16]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16x16 : Shape := ⟨3, ![32, 16, 16]⟩
abbrev S_ : Shape := ⟨0, ![]⟩
abbrev S32x1 : Shape := ⟨2, ![32, 1]⟩
abbrev S32x64x1 : Shape := ⟨3, ![32, 64, 1]⟩
abbrev S8x8 : Shape := ⟨2, ![8, 8]⟩
abbrev S1x8x1x8x1 : Shape := ⟨5, ![1, 8, 1, 8, 1]⟩
abbrev S4x8x16x16 : Shape := ⟨4, ![4, 8, 16, 16]⟩
abbrev S4x8x16x1x16 : Shape := ⟨5, ![4, 8, 16, 1, 16]⟩
abbrev S4x8x16x8x16 : Shape := ⟨5, ![4, 8, 16, 8, 16]⟩
abbrev S4x128x128 : Shape := ⟨3, ![4, 128, 128]⟩
abbrev S1x2048 : Shape := ⟨2, ![1, 2048]⟩
abbrev S2x2048 : Shape := ⟨2, ![2, 2048]⟩
abbrev S8x2048 : Shape := ⟨2, ![8, 2048]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S3x512 : Shape := ⟨2, ![3, 512]⟩
abbrev S8x512 : Shape := ⟨2, ![8, 512]⟩
abbrev S4112x32x16 : Shape := ⟨3, ![4112, 32, 16]⟩
abbrev S32x64x4112 : Shape := ⟨3, ![32, 64, 4112]⟩
abbrev S4112x32x64 : Shape := ⟨3, ![4112, 32, 64]⟩
abbrev S4111x32x64 : Shape := ⟨3, ![4111, 32, 64]⟩
abbrev S2x32x64 : Shape := ⟨3, ![2, 32, 64]⟩
abbrev S4110x32x64 : Shape := ⟨3, ![4110, 32, 64]⟩
abbrev S4x32x64 : Shape := ⟨3, ![4, 32, 64]⟩
abbrev S4108x32x64 : Shape := ⟨3, ![4108, 32, 64]⟩
abbrev S8x32x64 : Shape := ⟨3, ![8, 32, 64]⟩
abbrev S4104x32x64 : Shape := ⟨3, ![4104, 32, 64]⟩
abbrev S16x32x64 : Shape := ⟨3, ![16, 32, 64]⟩
abbrev S4096x32x64 : Shape := ⟨3, ![4096, 32, 64]⟩
abbrev S32x32x64 : Shape := ⟨3, ![32, 32, 64]⟩
abbrev S4080x32x64 : Shape := ⟨3, ![4080, 32, 64]⟩
abbrev S64x32x64 : Shape := ⟨3, ![64, 32, 64]⟩
abbrev S4048x32x64 : Shape := ⟨3, ![4048, 32, 64]⟩
abbrev S128x32x64 : Shape := ⟨3, ![128, 32, 64]⟩
abbrev S3984x32x64 : Shape := ⟨3, ![3984, 32, 64]⟩
abbrev S256x32x64 : Shape := ⟨3, ![256, 32, 64]⟩
abbrev S3856x32x64 : Shape := ⟨3, ![3856, 32, 64]⟩
abbrev S512x32x64 : Shape := ⟨3, ![512, 32, 64]⟩
abbrev S3600x32x64 : Shape := ⟨3, ![3600, 32, 64]⟩
abbrev S1024x32x64 : Shape := ⟨3, ![1024, 32, 64]⟩
abbrev S3088x32x64 : Shape := ⟨3, ![3088, 32, 64]⟩
abbrev S2048x32x64 : Shape := ⟨3, ![2048, 32, 64]⟩
abbrev S2064x32x64 : Shape := ⟨3, ![2064, 32, 64]⟩
abbrev S32x16x4112 : Shape := ⟨3, ![32, 16, 4112]⟩
abbrev S32x16 : Shape := ⟨2, ![32, 16]⟩
abbrev S8x128 : Shape := ⟨2, ![8, 128]⟩
abbrev S4160x512 : Shape := ⟨2, ![4160, 512]⟩
abbrev S4160x4x128 : Shape := ⟨3, ![4160, 4, 128]⟩
abbrev S4x4160x128 : Shape := ⟨3, ![4, 4160, 128]⟩
abbrev S13x8x40x512 : Shape := ⟨4, ![13, 8, 40, 512]⟩
abbrev S13x40x8x512 : Shape := ⟨4, ![13, 40, 8, 512]⟩
abbrev S4112x2048 : Shape := ⟨2, ![4112, 2048]⟩
abbrev S4160x2048 : Shape := ⟨2, ![4160, 2048]⟩
abbrev S13x8x40x2048 : Shape := ⟨4, ![13, 8, 40, 2048]⟩
abbrev S13x40x8x2048 : Shape := ⟨4, ![13, 40, 8, 2048]⟩
abbrev S16x2048 : Shape := ⟨2, ![16, 2048]⟩
abbrev S4x320x128 : Shape := ⟨3, ![4, 320, 128]⟩
abbrev S320x512 : Shape := ⟨2, ![320, 512]⟩
abbrev S320x2048 : Shape := ⟨2, ![320, 2048]⟩
abbrev S1x8x128 : Shape := ⟨3, ![1, 8, 128]⟩
abbrev S320x128 : Shape := ⟨2, ![320, 128]⟩
abbrev S1x128x128 : Shape := ⟨3, ![1, 128, 128]⟩
abbrev S128x128 : Shape := ⟨2, ![128, 128]⟩
abbrev S320 : Shape := ⟨1, ![320]⟩
abbrev S320x1 : Shape := ⟨2, ![320, 1]⟩
abbrev S512 : Shape := ⟨1, ![512]⟩
abbrev S1x512x128 : Shape := ⟨3, ![1, 512, 128]⟩
abbrev S512x128 : Shape := ⟨2, ![512, 128]⟩
abbrev S8x1 : Shape := ⟨2, ![8, 1]⟩
abbrev S1x128x512 : Shape := ⟨3, ![1, 128, 512]⟩
abbrev S128x512 : Shape := ⟨2, ![128, 512]⟩
abbrev S1x320x128 : Shape := ⟨3, ![1, 320, 128]⟩

abbrev nBuf : Space → Nat
  | .hbm => 606
  | .vmem => 37
  | .smem => 0
  | _ => 0

abbrev hbmTy0_0 (i : Nat) : BufTy := match i % 128 with
  | 0 => ⟨S4112x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x16, .f32⟩
  | 9 => ⟨S1x32x16x16, .f32⟩
  | 10 => ⟨S1x32x16, .f32⟩
  | 11 => ⟨S1x512, .f32⟩
  | 12 => ⟨S4112x512, .f32⟩
  | 13 => ⟨S32x64, .f32⟩
  | 14 => ⟨S32x64, .f32⟩
  | 15 => ⟨S32, .f32⟩
  | 16 => ⟨S32x64x16, .f32⟩
  | 17 => ⟨S32x64x16, .f32⟩
  | 18 => ⟨S32x16x64, .f32⟩
  | 19 => ⟨S32x16x64, .f32⟩
  | 20 => ⟨S32x16x16, .f32⟩
  | 21 => ⟨S_, .f32⟩
  | 22 => ⟨S32x64, .f32⟩
  | 23 => ⟨S32x64, .f32⟩
  | 24 => ⟨S32, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64x1, .f32⟩
  | 46 => ⟨S32x64, .f32⟩
  | 47 => ⟨S32x64, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S8x8, .i32⟩
  | 62 => ⟨S8x8, .i32⟩
  | 63 => ⟨S_, .i32⟩
  | 64 => ⟨S8x8, .i32⟩
  | 65 => ⟨S8x8, .i32⟩
  | 66 => ⟨S8x8, .i1⟩
  | 67 => ⟨S8x8, .f32⟩
  | 68 => ⟨S1x8x1x8x1, .f32⟩
  | 69 => ⟨S4x8x16x16, .f32⟩
  | 70 => ⟨S4x8x16x1x16, .f32⟩
  | 71 => ⟨S4x8x16x8x16, .f32⟩
  | 72 => ⟨S4x8x16x8x16, .f32⟩
  | 73 => ⟨S4x8x16x8x16, .f32⟩
  | 74 => ⟨S4x128x128, .f32⟩
  | 75 => ⟨S1x2048, .f32⟩
  | 76 => ⟨S1x2048, .f32⟩
  | 77 => ⟨S2x2048, .f32⟩
  | 78 => ⟨S_, .i32⟩
  | 79 => ⟨S_, .f32⟩
  | 80 => ⟨S8x2048, .f32⟩
  | 81 => ⟨S1x8x1x8x1, .f32⟩
  | 82 => ⟨S4x8x64x16, .f32⟩
  | 83 => ⟨S4x8x16x64, .f32⟩
  | 84 => ⟨S4x8x16x1x64, .f32⟩
  | 85 => ⟨S4x8x16x8x64, .f32⟩
  | 86 => ⟨S4x8x16x8x64, .f32⟩
  | 87 => ⟨S4x8x16x8x64, .f32⟩
  | 88 => ⟨S4x128x512, .f32⟩
  | 89 => ⟨S1x8x1x8x1, .f32⟩
  | 90 => ⟨S4x8x64x16, .f32⟩
  | 91 => ⟨S4x8x16x64, .f32⟩
  | 92 => ⟨S4x8x16x1x64, .f32⟩
  | 93 => ⟨S4x8x16x8x64, .f32⟩
  | 94 => ⟨S4x8x16x8x64, .f32⟩
  | 95 => ⟨S4x8x16x8x64, .f32⟩
  | 96 => ⟨S4x128x512, .f32⟩
  | 97 => ⟨S8x8, .f32⟩
  | 98 => ⟨S1x8x1x8x1, .f32⟩
  | 99 => ⟨S4x8x16x64, .f32⟩
  | 100 => ⟨S4x64x8x16, .f32⟩
  | 101 => ⟨S4x1x64x8x16, .f32⟩
  | 102 => ⟨S4x8x64x8x16, .f32⟩
  | 103 => ⟨S4x8x64x8x16, .f32⟩
  | 104 => ⟨S4x8x64x8x16, .f32⟩
  | 105 => ⟨S4x512x128, .f32⟩
  | 106 => ⟨S8x8, .f32⟩
  | 107 => ⟨S1x8x1x8x1, .f32⟩
  | 108 => ⟨S4x8x16x64, .f32⟩
  | 109 => ⟨S4x64x8x16, .f32⟩
  | 110 => ⟨S4x1x64x8x16, .f32⟩
  | 111 => ⟨S4x8x64x8x16, .f32⟩
  | 112 => ⟨S4x8x64x8x16, .f32⟩
  | 113 => ⟨S4x8x64x8x16, .f32⟩
  | 114 => ⟨S4x512x128, .f32⟩
  | 115 => ⟨S4x128x512, .bf16⟩
  | 116 => ⟨S4x128x512, .bf16⟩
  | 117 => ⟨S4x512x128, .bf16⟩
  | 118 => ⟨S4x512x128, .bf16⟩
  | 119 => ⟨S4x128x128, .bf16⟩
  | 120 => ⟨S1x512, .f32⟩
  | 121 => ⟨S1x512, .f32⟩
  | 122 => ⟨S3x512, .f32⟩
  | 123 => ⟨S_, .i32⟩
  | 124 => ⟨S_, .f32⟩
  | 125 => ⟨S8x512, .f32⟩
  | 126 => ⟨S32x64, .f32⟩
  | 127 => ⟨S32x64, .f32⟩
  | _ => ⟨S4112x512, .f32⟩

abbrev hbmTy0_1 (i : Nat) : BufTy := match i % 128 with
  | 0 => ⟨S32, .f32⟩
  | 1 => ⟨S32x64x16, .f32⟩
  | 2 => ⟨S32x64x16, .f32⟩
  | 3 => ⟨S_, .f32⟩
  | 4 => ⟨S32x64, .f32⟩
  | 5 => ⟨S32x64, .f32⟩
  | 6 => ⟨S32, .f32⟩
  | 7 => ⟨S32x1, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S_, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64x1, .f32⟩
  | 28 => ⟨S32x64, .f32⟩
  | 29 => ⟨S32x64, .f32⟩
  | 30 => ⟨S32x64, .f32⟩
  | 31 => ⟨S32x64, .f32⟩
  | 32 => ⟨S32x64x1, .f32⟩
  | 33 => ⟨S32x64x16, .f32⟩
  | 34 => ⟨S32x64x16, .f32⟩
  | 35 => ⟨S32x64x16, .f32⟩
  | 36 => ⟨S32x64x16, .f32⟩
  | 37 => ⟨S32x64x16, .f32⟩
  | 38 => ⟨S32x64x16, .f32⟩
  | 39 => ⟨S32x64x16, .f32⟩
  | 40 => ⟨S32x64x16, .f32⟩
  | 41 => ⟨S32x64x16, .f32⟩
  | 42 => ⟨S32x64x16, .f32⟩
  | 43 => ⟨S4112x32x16, .f32⟩
  | 44 => ⟨S32x64x4112, .f32⟩
  | 45 => ⟨S4112x32x64, .f32⟩
  | 46 => ⟨S32x64x4112, .f32⟩
  | 47 => ⟨S4112x32x64, .f32⟩
  | 48 => ⟨S_, .f32⟩
  | 49 => ⟨S1x32x64, .f32⟩
  | 50 => ⟨S4111x32x64, .f32⟩
  | 51 => ⟨S4112x32x64, .f32⟩
  | 52 => ⟨S4111x32x64, .f32⟩
  | 53 => ⟨S4112x32x64, .f32⟩
  | 54 => ⟨S1x32x64, .f32⟩
  | 55 => ⟨S4112x32x64, .f32⟩
  | 56 => ⟨S4112x32x64, .f32⟩
  | 57 => ⟨S4112x32x64, .f32⟩
  | 58 => ⟨S1x32x64, .f32⟩
  | 59 => ⟨S4112x32x64, .f32⟩
  | 60 => ⟨S4112x32x64, .f32⟩
  | 61 => ⟨S4112x32x64, .f32⟩
  | 62 => ⟨S1x32x64, .f32⟩
  | 63 => ⟨S4112x32x64, .f32⟩
  | 64 => ⟨S4112x32x64, .f32⟩
  | 65 => ⟨S4112x32x64, .f32⟩
  | 66 => ⟨S1x32x64, .f32⟩
  | 67 => ⟨S4112x32x64, .f32⟩
  | 68 => ⟨S4112x32x64, .f32⟩
  | 69 => ⟨S4112x32x64, .f32⟩
  | 70 => ⟨S32x64, .f32⟩
  | 71 => ⟨S32x64, .f32⟩
  | 72 => ⟨S32x64, .f32⟩
  | 73 => ⟨S_, .f32⟩
  | 74 => ⟨S32x64, .f32⟩
  | 75 => ⟨S32x64, .f32⟩
  | 76 => ⟨S32x64, .f32⟩
  | 77 => ⟨S_, .f32⟩
  | 78 => ⟨S2x32x64, .f32⟩
  | 79 => ⟨S4110x32x64, .f32⟩
  | 80 => ⟨S4112x32x64, .f32⟩
  | 81 => ⟨S4110x32x64, .f32⟩
  | 82 => ⟨S4112x32x64, .f32⟩
  | 83 => ⟨S1x32x64, .f32⟩
  | 84 => ⟨S4112x32x64, .f32⟩
  | 85 => ⟨S4112x32x64, .f32⟩
  | 86 => ⟨S4112x32x64, .f32⟩
  | 87 => ⟨S1x32x64, .f32⟩
  | 88 => ⟨S4112x32x64, .f32⟩
  | 89 => ⟨S4112x32x64, .f32⟩
  | 90 => ⟨S4112x32x64, .f32⟩
  | 91 => ⟨S1x32x64, .f32⟩
  | 92 => ⟨S4112x32x64, .f32⟩
  | 93 => ⟨S4112x32x64, .f32⟩
  | 94 => ⟨S4112x32x64, .f32⟩
  | 95 => ⟨S1x32x64, .f32⟩
  | 96 => ⟨S4112x32x64, .f32⟩
  | 97 => ⟨S4112x32x64, .f32⟩
  | 98 => ⟨S4112x32x64, .f32⟩
  | 99 => ⟨S32x64, .f32⟩
  | 100 => ⟨S32x64, .f32⟩
  | 101 => ⟨S32x64, .f32⟩
  | 102 => ⟨S_, .f32⟩
  | 103 => ⟨S32x64, .f32⟩
  | 104 => ⟨S32x64, .f32⟩
  | 105 => ⟨S32x64, .f32⟩
  | 106 => ⟨S_, .f32⟩
  | 107 => ⟨S4x32x64, .f32⟩
  | 108 => ⟨S4108x32x64, .f32⟩
  | 109 => ⟨S4112x32x64, .f32⟩
  | 110 => ⟨S4108x32x64, .f32⟩
  | 111 => ⟨S4112x32x64, .f32⟩
  | 112 => ⟨S1x32x64, .f32⟩
  | 113 => ⟨S4112x32x64, .f32⟩
  | 114 => ⟨S4112x32x64, .f32⟩
  | 115 => ⟨S4112x32x64, .f32⟩
  | 116 => ⟨S1x32x64, .f32⟩
  | 117 => ⟨S4112x32x64, .f32⟩
  | 118 => ⟨S4112x32x64, .f32⟩
  | 119 => ⟨S4112x32x64, .f32⟩
  | 120 => ⟨S1x32x64, .f32⟩
  | 121 => ⟨S4112x32x64, .f32⟩
  | 122 => ⟨S4112x32x64, .f32⟩
  | 123 => ⟨S4112x32x64, .f32⟩
  | 124 => ⟨S1x32x64, .f32⟩
  | 125 => ⟨S4112x32x64, .f32⟩
  | 126 => ⟨S4112x32x64, .f32⟩
  | 127 => ⟨S4112x32x64, .f32⟩
  | _ => ⟨S4112x512, .f32⟩

abbrev hbmTy0_2 (i : Nat) : BufTy := match i % 128 with
  | 0 => ⟨S32x64, .f32⟩
  | 1 => ⟨S32x64, .f32⟩
  | 2 => ⟨S32x64, .f32⟩
  | 3 => ⟨S_, .f32⟩
  | 4 => ⟨S32x64, .f32⟩
  | 5 => ⟨S32x64, .f32⟩
  | 6 => ⟨S32x64, .f32⟩
  | 7 => ⟨S_, .f32⟩
  | 8 => ⟨S8x32x64, .f32⟩
  | 9 => ⟨S4104x32x64, .f32⟩
  | 10 => ⟨S4112x32x64, .f32⟩
  | 11 => ⟨S4104x32x64, .f32⟩
  | 12 => ⟨S4112x32x64, .f32⟩
  | 13 => ⟨S1x32x64, .f32⟩
  | 14 => ⟨S4112x32x64, .f32⟩
  | 15 => ⟨S4112x32x64, .f32⟩
  | 16 => ⟨S4112x32x64, .f32⟩
  | 17 => ⟨S1x32x64, .f32⟩
  | 18 => ⟨S4112x32x64, .f32⟩
  | 19 => ⟨S4112x32x64, .f32⟩
  | 20 => ⟨S4112x32x64, .f32⟩
  | 21 => ⟨S1x32x64, .f32⟩
  | 22 => ⟨S4112x32x64, .f32⟩
  | 23 => ⟨S4112x32x64, .f32⟩
  | 24 => ⟨S4112x32x64, .f32⟩
  | 25 => ⟨S1x32x64, .f32⟩
  | 26 => ⟨S4112x32x64, .f32⟩
  | 27 => ⟨S4112x32x64, .f32⟩
  | 28 => ⟨S4112x32x64, .f32⟩
  | 29 => ⟨S32x64, .f32⟩
  | 30 => ⟨S32x64, .f32⟩
  | 31 => ⟨S32x64, .f32⟩
  | 32 => ⟨S_, .f32⟩
  | 33 => ⟨S32x64, .f32⟩
  | 34 => ⟨S32x64, .f32⟩
  | 35 => ⟨S32x64, .f32⟩
  | 36 => ⟨S_, .f32⟩
  | 37 => ⟨S16x32x64, .f32⟩
  | 38 => ⟨S4096x32x64, .f32⟩
  | 39 => ⟨S4112x32x64, .f32⟩
  | 40 => ⟨S4096x32x64, .f32⟩
  | 41 => ⟨S4112x32x64, .f32⟩
  | 42 => ⟨S1x32x64, .f32⟩
  | 43 => ⟨S4112x32x64, .f32⟩
  | 44 => ⟨S4112x32x64, .f32⟩
  | 45 => ⟨S4112x32x64, .f32⟩
  | 46 => ⟨S1x32x64, .f32⟩
  | 47 => ⟨S4112x32x64, .f32⟩
  | 48 => ⟨S4112x32x64, .f32⟩
  | 49 => ⟨S4112x32x64, .f32⟩
  | 50 => ⟨S1x32x64, .f32⟩
  | 51 => ⟨S4112x32x64, .f32⟩
  | 52 => ⟨S4112x32x64, .f32⟩
  | 53 => ⟨S4112x32x64, .f32⟩
  | 54 => ⟨S1x32x64, .f32⟩
  | 55 => ⟨S4112x32x64, .f32⟩
  | 56 => ⟨S4112x32x64, .f32⟩
  | 57 => ⟨S4112x32x64, .f32⟩
  | 58 => ⟨S32x64, .f32⟩
  | 59 => ⟨S32x64, .f32⟩
  | 60 => ⟨S32x64, .f32⟩
  | 61 => ⟨S_, .f32⟩
  | 62 => ⟨S32x64, .f32⟩
  | 63 => ⟨S32x64, .f32⟩
  | 64 => ⟨S32x64, .f32⟩
  | 65 => ⟨S_, .f32⟩
  | 66 => ⟨S32x32x64, .f32⟩
  | 67 => ⟨S4080x32x64, .f32⟩
  | 68 => ⟨S4112x32x64, .f32⟩
  | 69 => ⟨S4080x32x64, .f32⟩
  | 70 => ⟨S4112x32x64, .f32⟩
  | 71 => ⟨S1x32x64, .f32⟩
  | 72 => ⟨S4112x32x64, .f32⟩
  | 73 => ⟨S4112x32x64, .f32⟩
  | 74 => ⟨S4112x32x64, .f32⟩
  | 75 => ⟨S1x32x64, .f32⟩
  | 76 => ⟨S4112x32x64, .f32⟩
  | 77 => ⟨S4112x32x64, .f32⟩
  | 78 => ⟨S4112x32x64, .f32⟩
  | 79 => ⟨S1x32x64, .f32⟩
  | 80 => ⟨S4112x32x64, .f32⟩
  | 81 => ⟨S4112x32x64, .f32⟩
  | 82 => ⟨S4112x32x64, .f32⟩
  | 83 => ⟨S1x32x64, .f32⟩
  | 84 => ⟨S4112x32x64, .f32⟩
  | 85 => ⟨S4112x32x64, .f32⟩
  | 86 => ⟨S4112x32x64, .f32⟩
  | 87 => ⟨S32x64, .f32⟩
  | 88 => ⟨S32x64, .f32⟩
  | 89 => ⟨S32x64, .f32⟩
  | 90 => ⟨S_, .f32⟩
  | 91 => ⟨S32x64, .f32⟩
  | 92 => ⟨S32x64, .f32⟩
  | 93 => ⟨S32x64, .f32⟩
  | 94 => ⟨S_, .f32⟩
  | 95 => ⟨S64x32x64, .f32⟩
  | 96 => ⟨S4048x32x64, .f32⟩
  | 97 => ⟨S4112x32x64, .f32⟩
  | 98 => ⟨S4048x32x64, .f32⟩
  | 99 => ⟨S4112x32x64, .f32⟩
  | 100 => ⟨S1x32x64, .f32⟩
  | 101 => ⟨S4112x32x64, .f32⟩
  | 102 => ⟨S4112x32x64, .f32⟩
  | 103 => ⟨S4112x32x64, .f32⟩
  | 104 => ⟨S1x32x64, .f32⟩
  | 105 => ⟨S4112x32x64, .f32⟩
  | 106 => ⟨S4112x32x64, .f32⟩
  | 107 => ⟨S4112x32x64, .f32⟩
  | 108 => ⟨S1x32x64, .f32⟩
  | 109 => ⟨S4112x32x64, .f32⟩
  | 110 => ⟨S4112x32x64, .f32⟩
  | 111 => ⟨S4112x32x64, .f32⟩
  | 112 => ⟨S1x32x64, .f32⟩
  | 113 => ⟨S4112x32x64, .f32⟩
  | 114 => ⟨S4112x32x64, .f32⟩
  | 115 => ⟨S4112x32x64, .f32⟩
  | 116 => ⟨S32x64, .f32⟩
  | 117 => ⟨S32x64, .f32⟩
  | 118 => ⟨S32x64, .f32⟩
  | 119 => ⟨S_, .f32⟩
  | 120 => ⟨S32x64, .f32⟩
  | 121 => ⟨S32x64, .f32⟩
  | 122 => ⟨S32x64, .f32⟩
  | 123 => ⟨S_, .f32⟩
  | 124 => ⟨S128x32x64, .f32⟩
  | 125 => ⟨S3984x32x64, .f32⟩
  | 126 => ⟨S4112x32x64, .f32⟩
  | 127 => ⟨S3984x32x64, .f32⟩
  | _ => ⟨S4112x512, .f32⟩

abbrev hbmTy0_3 (i : Nat) : BufTy := match i % 128 with
  | 0 => ⟨S4112x32x64, .f32⟩
  | 1 => ⟨S1x32x64, .f32⟩
  | 2 => ⟨S4112x32x64, .f32⟩
  | 3 => ⟨S4112x32x64, .f32⟩
  | 4 => ⟨S4112x32x64, .f32⟩
  | 5 => ⟨S1x32x64, .f32⟩
  | 6 => ⟨S4112x32x64, .f32⟩
  | 7 => ⟨S4112x32x64, .f32⟩
  | 8 => ⟨S4112x32x64, .f32⟩
  | 9 => ⟨S1x32x64, .f32⟩
  | 10 => ⟨S4112x32x64, .f32⟩
  | 11 => ⟨S4112x32x64, .f32⟩
  | 12 => ⟨S4112x32x64, .f32⟩
  | 13 => ⟨S1x32x64, .f32⟩
  | 14 => ⟨S4112x32x64, .f32⟩
  | 15 => ⟨S4112x32x64, .f32⟩
  | 16 => ⟨S4112x32x64, .f32⟩
  | 17 => ⟨S32x64, .f32⟩
  | 18 => ⟨S32x64, .f32⟩
  | 19 => ⟨S32x64, .f32⟩
  | 20 => ⟨S_, .f32⟩
  | 21 => ⟨S32x64, .f32⟩
  | 22 => ⟨S32x64, .f32⟩
  | 23 => ⟨S32x64, .f32⟩
  | 24 => ⟨S_, .f32⟩
  | 25 => ⟨S256x32x64, .f32⟩
  | 26 => ⟨S3856x32x64, .f32⟩
  | 27 => ⟨S4112x32x64, .f32⟩
  | 28 => ⟨S3856x32x64, .f32⟩
  | 29 => ⟨S4112x32x64, .f32⟩
  | 30 => ⟨S1x32x64, .f32⟩
  | 31 => ⟨S4112x32x64, .f32⟩
  | 32 => ⟨S4112x32x64, .f32⟩
  | 33 => ⟨S4112x32x64, .f32⟩
  | 34 => ⟨S1x32x64, .f32⟩
  | 35 => ⟨S4112x32x64, .f32⟩
  | 36 => ⟨S4112x32x64, .f32⟩
  | 37 => ⟨S4112x32x64, .f32⟩
  | 38 => ⟨S1x32x64, .f32⟩
  | 39 => ⟨S4112x32x64, .f32⟩
  | 40 => ⟨S4112x32x64, .f32⟩
  | 41 => ⟨S4112x32x64, .f32⟩
  | 42 => ⟨S1x32x64, .f32⟩
  | 43 => ⟨S4112x32x64, .f32⟩
  | 44 => ⟨S4112x32x64, .f32⟩
  | 45 => ⟨S4112x32x64, .f32⟩
  | 46 => ⟨S32x64, .f32⟩
  | 47 => ⟨S32x64, .f32⟩
  | 48 => ⟨S32x64, .f32⟩
  | 49 => ⟨S_, .f32⟩
  | 50 => ⟨S32x64, .f32⟩
  | 51 => ⟨S32x64, .f32⟩
  | 52 => ⟨S32x64, .f32⟩
  | 53 => ⟨S_, .f32⟩
  | 54 => ⟨S512x32x64, .f32⟩
  | 55 => ⟨S3600x32x64, .f32⟩
  | 56 => ⟨S4112x32x64, .f32⟩
  | 57 => ⟨S3600x32x64, .f32⟩
  | 58 => ⟨S4112x32x64, .f32⟩
  | 59 => ⟨S1x32x64, .f32⟩
  | 60 => ⟨S4112x32x64, .f32⟩
  | 61 => ⟨S4112x32x64, .f32⟩
  | 62 => ⟨S4112x32x64, .f32⟩
  | 63 => ⟨S1x32x64, .f32⟩
  | 64 => ⟨S4112x32x64, .f32⟩
  | 65 => ⟨S4112x32x64, .f32⟩
  | 66 => ⟨S4112x32x64, .f32⟩
  | 67 => ⟨S1x32x64, .f32⟩
  | 68 => ⟨S4112x32x64, .f32⟩
  | 69 => ⟨S4112x32x64, .f32⟩
  | 70 => ⟨S4112x32x64, .f32⟩
  | 71 => ⟨S1x32x64, .f32⟩
  | 72 => ⟨S4112x32x64, .f32⟩
  | 73 => ⟨S4112x32x64, .f32⟩
  | 74 => ⟨S4112x32x64, .f32⟩
  | 75 => ⟨S32x64, .f32⟩
  | 76 => ⟨S32x64, .f32⟩
  | 77 => ⟨S32x64, .f32⟩
  | 78 => ⟨S_, .f32⟩
  | 79 => ⟨S32x64, .f32⟩
  | 80 => ⟨S32x64, .f32⟩
  | 81 => ⟨S32x64, .f32⟩
  | 82 => ⟨S_, .f32⟩
  | 83 => ⟨S1024x32x64, .f32⟩
  | 84 => ⟨S3088x32x64, .f32⟩
  | 85 => ⟨S4112x32x64, .f32⟩
  | 86 => ⟨S3088x32x64, .f32⟩
  | 87 => ⟨S4112x32x64, .f32⟩
  | 88 => ⟨S1x32x64, .f32⟩
  | 89 => ⟨S4112x32x64, .f32⟩
  | 90 => ⟨S4112x32x64, .f32⟩
  | 91 => ⟨S4112x32x64, .f32⟩
  | 92 => ⟨S1x32x64, .f32⟩
  | 93 => ⟨S4112x32x64, .f32⟩
  | 94 => ⟨S4112x32x64, .f32⟩
  | 95 => ⟨S4112x32x64, .f32⟩
  | 96 => ⟨S1x32x64, .f32⟩
  | 97 => ⟨S4112x32x64, .f32⟩
  | 98 => ⟨S4112x32x64, .f32⟩
  | 99 => ⟨S4112x32x64, .f32⟩
  | 100 => ⟨S1x32x64, .f32⟩
  | 101 => ⟨S4112x32x64, .f32⟩
  | 102 => ⟨S4112x32x64, .f32⟩
  | 103 => ⟨S4112x32x64, .f32⟩
  | 104 => ⟨S32x64, .f32⟩
  | 105 => ⟨S32x64, .f32⟩
  | 106 => ⟨S32x64, .f32⟩
  | 107 => ⟨S_, .f32⟩
  | 108 => ⟨S32x64, .f32⟩
  | 109 => ⟨S32x64, .f32⟩
  | 110 => ⟨S32x64, .f32⟩
  | 111 => ⟨S_, .f32⟩
  | 112 => ⟨S2048x32x64, .f32⟩
  | 113 => ⟨S2064x32x64, .f32⟩
  | 114 => ⟨S4112x32x64, .f32⟩
  | 115 => ⟨S2064x32x64, .f32⟩
  | 116 => ⟨S4112x32x64, .f32⟩
  | 117 => ⟨S1x32x64, .f32⟩
  | 118 => ⟨S4112x32x64, .f32⟩
  | 119 => ⟨S4112x32x64, .f32⟩
  | 120 => ⟨S4112x32x64, .f32⟩
  | 121 => ⟨S1x32x64, .f32⟩
  | 122 => ⟨S4112x32x64, .f32⟩
  | 123 => ⟨S4112x32x64, .f32⟩
  | 124 => ⟨S4112x32x64, .f32⟩
  | 125 => ⟨S1x32x64, .f32⟩
  | 126 => ⟨S4112x32x64, .f32⟩
  | 127 => ⟨S4112x32x64, .f32⟩
  | _ => ⟨S4112x512, .f32⟩

abbrev hbmTy0_4 (i : Nat) : BufTy := match i % 128 with
  | 0 => ⟨S4112x32x64, .f32⟩
  | 1 => ⟨S1x32x64, .f32⟩
  | 2 => ⟨S4112x32x64, .f32⟩
  | 3 => ⟨S4112x32x64, .f32⟩
  | 4 => ⟨S4112x32x64, .f32⟩
  | 5 => ⟨S32x64, .f32⟩
  | 6 => ⟨S32x64, .f32⟩
  | 7 => ⟨S32x64, .f32⟩
  | 8 => ⟨S_, .f32⟩
  | 9 => ⟨S32x64, .f32⟩
  | 10 => ⟨S32x64, .f32⟩
  | 11 => ⟨S32x64, .f32⟩
  | 12 => ⟨S_, .f32⟩
  | 13 => ⟨S4096x32x64, .f32⟩
  | 14 => ⟨S16x32x64, .f32⟩
  | 15 => ⟨S4112x32x64, .f32⟩
  | 16 => ⟨S16x32x64, .f32⟩
  | 17 => ⟨S4112x32x64, .f32⟩
  | 18 => ⟨S1x32x64, .f32⟩
  | 19 => ⟨S4112x32x64, .f32⟩
  | 20 => ⟨S4112x32x64, .f32⟩
  | 21 => ⟨S4112x32x64, .f32⟩
  | 22 => ⟨S1x32x64, .f32⟩
  | 23 => ⟨S4112x32x64, .f32⟩
  | 24 => ⟨S4112x32x64, .f32⟩
  | 25 => ⟨S4112x32x64, .f32⟩
  | 26 => ⟨S1x32x64, .f32⟩
  | 27 => ⟨S4112x32x64, .f32⟩
  | 28 => ⟨S4112x32x64, .f32⟩
  | 29 => ⟨S4112x32x64, .f32⟩
  | 30 => ⟨S1x32x64, .f32⟩
  | 31 => ⟨S4112x32x64, .f32⟩
  | 32 => ⟨S4112x32x64, .f32⟩
  | 33 => ⟨S4112x32x64, .f32⟩
  | 34 => ⟨S32x64, .f32⟩
  | 35 => ⟨S32x64, .f32⟩
  | 36 => ⟨S32x64, .f32⟩
  | 37 => ⟨S_, .f32⟩
  | 38 => ⟨S32x64, .f32⟩
  | 39 => ⟨S32x64, .f32⟩
  | 40 => ⟨S32x64, .f32⟩
  | 41 => ⟨S32x16x64, .f32⟩
  | 42 => ⟨S32x16x4112, .f32⟩
  | 43 => ⟨S4112x32x16, .f32⟩
  | 44 => ⟨S32x16x64, .f32⟩
  | 45 => ⟨S32x16x4112, .f32⟩
  | 46 => ⟨S4112x32x16, .f32⟩
  | 47 => ⟨S4112x32x16, .f32⟩
  | 48 => ⟨S32x16, .f32⟩
  | 49 => ⟨S1x32x16, .f32⟩
  | 50 => ⟨S4112x32x16, .f32⟩
  | 51 => ⟨S4112x32x16, .f32⟩
  | 52 => ⟨S4112x32x16, .f32⟩
  | 53 => ⟨S_, .f32⟩
  | 54 => ⟨S8x128, .f32⟩
  | 55 => ⟨S_, .i32⟩
  | 56 => ⟨S_, .f32⟩
  | 57 => ⟨S4160x512, .f32⟩
  | 58 => ⟨S4160x4x128, .f32⟩
  | 59 => ⟨S4x4160x128, .f32⟩
  | 60 => ⟨S4112x512, .f32⟩
  | 61 => ⟨S_, .i32⟩
  | 62 => ⟨S_, .f32⟩
  | 63 => ⟨S4160x512, .f32⟩
  | 64 => ⟨S13x8x40x512, .f32⟩
  | 65 => ⟨S13x40x8x512, .f32⟩
  | 66 => ⟨S4160x512, .f32⟩
  | 67 => ⟨S_, .i32⟩
  | 68 => ⟨S_, .f32⟩
  | 69 => ⟨S4160x512, .f32⟩
  | 70 => ⟨S4160x4x128, .f32⟩
  | 71 => ⟨S4x4160x128, .f32⟩
  | 72 => ⟨S4112x2048, .f32⟩
  | 73 => ⟨S_, .i32⟩
  | 74 => ⟨S_, .f32⟩
  | 75 => ⟨S4160x2048, .f32⟩
  | 76 => ⟨S13x8x40x2048, .f32⟩
  | 77 => ⟨S13x40x8x2048, .f32⟩
  | 78 => ⟨S4160x2048, .f32⟩
  | 79 => ⟨S4112x2048, .f32⟩
  | 80 => ⟨S_, .i32⟩
  | 81 => ⟨S_, .f32⟩
  | 82 => ⟨S4160x2048, .f32⟩
  | 83 => ⟨S13x8x40x2048, .f32⟩
  | 84 => ⟨S13x40x8x2048, .f32⟩
  | 85 => ⟨S4160x2048, .f32⟩
  | 86 => ⟨S4160x512, .f32⟩
  | 87 => ⟨S4x128x512, .f32⟩
  | 88 => ⟨S4x128x512, .f32⟩
  | 89 => ⟨S4x512x128, .f32⟩
  | 90 => ⟨S4x512x128, .f32⟩
  | 91 => ⟨S4x128x128, .f32⟩
  | 92 => ⟨S8x512, .f32⟩
  | 93 => ⟨S16x2048, .f32⟩
  | _ => ⟨S4112x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4112x512, .f32⟩

abbrev bufTy : (tb : Table) → Fin (tcTables nBuf tb) → BufTy
  | .hbm, ⟨i, _⟩ => hbmTy i
  | .local _ .vmem, ⟨0, _⟩ => ⟨S4x320x128, .f32⟩
  | .local _ .vmem, ⟨1, _⟩ => ⟨S4x320x128, .f32⟩
  | .local _ .vmem, ⟨2, _⟩ => ⟨S320x512, .f32⟩
  | .local _ .vmem, ⟨3, _⟩ => ⟨S320x512, .f32⟩
  | .local _ .vmem, ⟨4, _⟩ => ⟨S4x320x128, .f32⟩
  | .local _ .vmem, ⟨5, _⟩ => ⟨S4x320x128, .f32⟩
  | .local _ .vmem, ⟨6, _⟩ => ⟨S320x2048, .f32⟩
  | .local _ .vmem, ⟨7, _⟩ => ⟨S320x2048, .f32⟩
  | .local _ .vmem, ⟨8, _⟩ => ⟨S320x2048, .f32⟩
  | .local _ .vmem, ⟨9, _⟩ => ⟨S320x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | .local _ .vmem, ⟨13, _⟩ => ⟨S8x2048, .f32⟩
  | .local _ .vmem, ⟨14, _⟩ => ⟨S8x2048, .f32⟩
  | .local _ .vmem, ⟨15, _⟩ => ⟨S4x128x512, .bf16⟩
  | .local _ .vmem, ⟨16, _⟩ => ⟨S4x128x512, .bf16⟩
  | .local _ .vmem, ⟨17, _⟩ => ⟨S4x512x128, .bf16⟩
  | .local _ .vmem, ⟨18, _⟩ => ⟨S4x512x128, .bf16⟩
  | .local _ .vmem, ⟨19, _⟩ => ⟨S8x512, .f32⟩
  | .local _ .vmem, ⟨20, _⟩ => ⟨S4x128x128, .bf16⟩
  | .local _ .vmem, ⟨21, _⟩ => ⟨S320x512, .f32⟩
  | .local _ .vmem, ⟨22, _⟩ => ⟨S320x512, .f32⟩
  | .local _ .vmem, ⟨23, _⟩ => ⟨S4x128x512, .f32⟩
  | .local _ .vmem, ⟨24, _⟩ => ⟨S4x128x512, .f32⟩
  | .local _ .vmem, ⟨25, _⟩ => ⟨S4x512x128, .f32⟩
  | .local _ .vmem, ⟨26, _⟩ => ⟨S4x512x128, .f32⟩
  | .local _ .vmem, ⟨27, _⟩ => ⟨S4x128x128, .f32⟩
  | .local _ .vmem, ⟨28, _⟩ => ⟨S8x512, .f32⟩
  | .local _ .vmem, ⟨29, _⟩ => ⟨S16x2048, .f32⟩
  | .local _ .vmem, ⟨30, _⟩ => ⟨S320x2048, .f32⟩
  | .local _ .vmem, ⟨31, _⟩ => ⟨S320x2048, .f32⟩
  | .local _ .vmem, ⟨32, _⟩ => ⟨S8x2048, .f32⟩
  | .local _ .vmem, ⟨33, _⟩ => ⟨S8x2048, .f32⟩
  | .local _ .vmem, ⟨34, _⟩ => ⟨S320x2048, .f32⟩
  | .local _ .vmem, ⟨35, _⟩ => ⟨S320x2048, .f32⟩
  | .local _ .vmem, ⟨36, _⟩ => ⟨S4x320x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_1 : Ref sig .tc := ⟨.hbm, 78, rfl⟩
abbrev main_call0_v0 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_c_2 : Ref sig .tc := ⟨.hbm, 123, rfl⟩
abbrev main_call1_v0 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_3 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_cst_4 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_cst_5 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_cst_6 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_cst_7 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_cst_8 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_cst_9 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_cst_10 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_cst_11 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_cst_12 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_cst_13 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_14 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_cst_15 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_v312 : Ref sig .tc := ⟨.hbm, 345, rfl⟩
abbrev main_cst_16 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_cst_17 : Ref sig .tc := ⟨.hbm, 350, rfl⟩
abbrev main_v316 : Ref sig .tc := ⟨.hbm, 351, rfl⟩
abbrev main_v317 : Ref sig .tc := ⟨.hbm, 352, rfl⟩
abbrev main_v318 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_v326 : Ref sig .tc := ⟨.hbm, 361, rfl⟩
abbrev main_v327 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_v332 : Ref sig .tc := ⟨.hbm, 367, rfl⟩
abbrev main_v333 : Ref sig .tc := ⟨.hbm, 368, rfl⟩
abbrev main_v334 : Ref sig .tc := ⟨.hbm, 369, rfl⟩
abbrev main_v335 : Ref sig .tc := ⟨.hbm, 370, rfl⟩
abbrev main_v336 : Ref sig .tc := ⟨.hbm, 371, rfl⟩
abbrev main_v337 : Ref sig .tc := ⟨.hbm, 372, rfl⟩
abbrev main_v338 : Ref sig .tc := ⟨.hbm, 373, rfl⟩
abbrev main_v339 : Ref sig .tc := ⟨.hbm, 374, rfl⟩
abbrev main_cst_18 : Ref sig .tc := ⟨.hbm, 375, rfl⟩
abbrev main_v340 : Ref sig .tc := ⟨.hbm, 376, rfl⟩
abbrev main_v341 : Ref sig .tc := ⟨.hbm, 377, rfl⟩
abbrev main_v342 : Ref sig .tc := ⟨.hbm, 378, rfl⟩
abbrev main_cst_19 : Ref sig .tc := ⟨.hbm, 379, rfl⟩
abbrev main_v343 : Ref sig .tc := ⟨.hbm, 380, rfl⟩
abbrev main_v344 : Ref sig .tc := ⟨.hbm, 381, rfl⟩
abbrev main_v345 : Ref sig .tc := ⟨.hbm, 382, rfl⟩
abbrev main_v346 : Ref sig .tc := ⟨.hbm, 383, rfl⟩
abbrev main_v347 : Ref sig .tc := ⟨.hbm, 384, rfl⟩
abbrev main_v348 : Ref sig .tc := ⟨.hbm, 385, rfl⟩
abbrev main_v349 : Ref sig .tc := ⟨.hbm, 386, rfl⟩
abbrev main_v350 : Ref sig .tc := ⟨.hbm, 387, rfl⟩
abbrev main_v351 : Ref sig .tc := ⟨.hbm, 388, rfl⟩
abbrev main_v352 : Ref sig .tc := ⟨.hbm, 389, rfl⟩
abbrev main_v353 : Ref sig .tc := ⟨.hbm, 390, rfl⟩
abbrev main_v354 : Ref sig .tc := ⟨.hbm, 391, rfl⟩
abbrev main_v355 : Ref sig .tc := ⟨.hbm, 392, rfl⟩
abbrev main_v356 : Ref sig .tc := ⟨.hbm, 393, rfl⟩
abbrev main_v357 : Ref sig .tc := ⟨.hbm, 394, rfl⟩
abbrev main_v358 : Ref sig .tc := ⟨.hbm, 395, rfl⟩
abbrev main_v359 : Ref sig .tc := ⟨.hbm, 396, rfl⟩
abbrev main_v360 : Ref sig .tc := ⟨.hbm, 397, rfl⟩
abbrev main_v361 : Ref sig .tc := ⟨.hbm, 398, rfl⟩
abbrev main_v362 : Ref sig .tc := ⟨.hbm, 399, rfl⟩
abbrev main_v363 : Ref sig .tc := ⟨.hbm, 400, rfl⟩
abbrev main_v364 : Ref sig .tc := ⟨.hbm, 401, rfl⟩
abbrev main_v365 : Ref sig .tc := ⟨.hbm, 402, rfl⟩
abbrev main_v366 : Ref sig .tc := ⟨.hbm, 403, rfl⟩
abbrev main_cst_20 : Ref sig .tc := ⟨.hbm, 404, rfl⟩
abbrev main_v367 : Ref sig .tc := ⟨.hbm, 405, rfl⟩
abbrev main_v368 : Ref sig .tc := ⟨.hbm, 406, rfl⟩
abbrev main_v369 : Ref sig .tc := ⟨.hbm, 407, rfl⟩
abbrev main_cst_21 : Ref sig .tc := ⟨.hbm, 408, rfl⟩
abbrev main_v370 : Ref sig .tc := ⟨.hbm, 409, rfl⟩
abbrev main_v371 : Ref sig .tc := ⟨.hbm, 410, rfl⟩
abbrev main_v372 : Ref sig .tc := ⟨.hbm, 411, rfl⟩
abbrev main_v373 : Ref sig .tc := ⟨.hbm, 412, rfl⟩
abbrev main_v374 : Ref sig .tc := ⟨.hbm, 413, rfl⟩
abbrev main_v375 : Ref sig .tc := ⟨.hbm, 414, rfl⟩
abbrev main_v376 : Ref sig .tc := ⟨.hbm, 415, rfl⟩
abbrev main_v377 : Ref sig .tc := ⟨.hbm, 416, rfl⟩
abbrev main_v378 : Ref sig .tc := ⟨.hbm, 417, rfl⟩
abbrev main_v379 : Ref sig .tc := ⟨.hbm, 418, rfl⟩
abbrev main_v380 : Ref sig .tc := ⟨.hbm, 419, rfl⟩
abbrev main_v381 : Ref sig .tc := ⟨.hbm, 420, rfl⟩
abbrev main_v382 : Ref sig .tc := ⟨.hbm, 421, rfl⟩
abbrev main_v383 : Ref sig .tc := ⟨.hbm, 422, rfl⟩
abbrev main_v384 : Ref sig .tc := ⟨.hbm, 423, rfl⟩
abbrev main_v385 : Ref sig .tc := ⟨.hbm, 424, rfl⟩
abbrev main_v386 : Ref sig .tc := ⟨.hbm, 425, rfl⟩
abbrev main_v387 : Ref sig .tc := ⟨.hbm, 426, rfl⟩
abbrev main_v388 : Ref sig .tc := ⟨.hbm, 427, rfl⟩
abbrev main_v389 : Ref sig .tc := ⟨.hbm, 428, rfl⟩
abbrev main_v390 : Ref sig .tc := ⟨.hbm, 429, rfl⟩
abbrev main_v391 : Ref sig .tc := ⟨.hbm, 430, rfl⟩
abbrev main_v392 : Ref sig .tc := ⟨.hbm, 431, rfl⟩
abbrev main_v393 : Ref sig .tc := ⟨.hbm, 432, rfl⟩
abbrev main_cst_22 : Ref sig .tc := ⟨.hbm, 433, rfl⟩
abbrev main_v394 : Ref sig .tc := ⟨.hbm, 434, rfl⟩
abbrev main_v395 : Ref sig .tc := ⟨.hbm, 435, rfl⟩
abbrev main_v396 : Ref sig .tc := ⟨.hbm, 436, rfl⟩
abbrev main_cst_23 : Ref sig .tc := ⟨.hbm, 437, rfl⟩
abbrev main_v397 : Ref sig .tc := ⟨.hbm, 438, rfl⟩
abbrev main_v398 : Ref sig .tc := ⟨.hbm, 439, rfl⟩
abbrev main_v399 : Ref sig .tc := ⟨.hbm, 440, rfl⟩
abbrev main_v400 : Ref sig .tc := ⟨.hbm, 441, rfl⟩
abbrev main_v401 : Ref sig .tc := ⟨.hbm, 442, rfl⟩
abbrev main_v402 : Ref sig .tc := ⟨.hbm, 443, rfl⟩
abbrev main_v403 : Ref sig .tc := ⟨.hbm, 444, rfl⟩
abbrev main_v404 : Ref sig .tc := ⟨.hbm, 445, rfl⟩
abbrev main_v405 : Ref sig .tc := ⟨.hbm, 446, rfl⟩
abbrev main_v406 : Ref sig .tc := ⟨.hbm, 447, rfl⟩
abbrev main_v407 : Ref sig .tc := ⟨.hbm, 448, rfl⟩
abbrev main_v408 : Ref sig .tc := ⟨.hbm, 449, rfl⟩
abbrev main_v409 : Ref sig .tc := ⟨.hbm, 450, rfl⟩
abbrev main_v410 : Ref sig .tc := ⟨.hbm, 451, rfl⟩
abbrev main_v411 : Ref sig .tc := ⟨.hbm, 452, rfl⟩
abbrev main_v412 : Ref sig .tc := ⟨.hbm, 453, rfl⟩
abbrev main_v413 : Ref sig .tc := ⟨.hbm, 454, rfl⟩
abbrev main_v414 : Ref sig .tc := ⟨.hbm, 455, rfl⟩
abbrev main_v415 : Ref sig .tc := ⟨.hbm, 456, rfl⟩
abbrev main_v416 : Ref sig .tc := ⟨.hbm, 457, rfl⟩
abbrev main_v417 : Ref sig .tc := ⟨.hbm, 458, rfl⟩
abbrev main_v418 : Ref sig .tc := ⟨.hbm, 459, rfl⟩
abbrev main_v419 : Ref sig .tc := ⟨.hbm, 460, rfl⟩
abbrev main_v420 : Ref sig .tc := ⟨.hbm, 461, rfl⟩
abbrev main_cst_24 : Ref sig .tc := ⟨.hbm, 462, rfl⟩
abbrev main_v421 : Ref sig .tc := ⟨.hbm, 463, rfl⟩
abbrev main_v422 : Ref sig .tc := ⟨.hbm, 464, rfl⟩
abbrev main_v423 : Ref sig .tc := ⟨.hbm, 465, rfl⟩
abbrev main_cst_25 : Ref sig .tc := ⟨.hbm, 466, rfl⟩
abbrev main_v424 : Ref sig .tc := ⟨.hbm, 467, rfl⟩
abbrev main_v425 : Ref sig .tc := ⟨.hbm, 468, rfl⟩
abbrev main_v426 : Ref sig .tc := ⟨.hbm, 469, rfl⟩
abbrev main_v427 : Ref sig .tc := ⟨.hbm, 470, rfl⟩
abbrev main_v428 : Ref sig .tc := ⟨.hbm, 471, rfl⟩
abbrev main_v429 : Ref sig .tc := ⟨.hbm, 472, rfl⟩
abbrev main_v430 : Ref sig .tc := ⟨.hbm, 473, rfl⟩
abbrev main_v431 : Ref sig .tc := ⟨.hbm, 474, rfl⟩
abbrev main_v432 : Ref sig .tc := ⟨.hbm, 475, rfl⟩
abbrev main_v433 : Ref sig .tc := ⟨.hbm, 476, rfl⟩
abbrev main_v434 : Ref sig .tc := ⟨.hbm, 477, rfl⟩
abbrev main_v435 : Ref sig .tc := ⟨.hbm, 478, rfl⟩
abbrev main_v436 : Ref sig .tc := ⟨.hbm, 479, rfl⟩
abbrev main_v437 : Ref sig .tc := ⟨.hbm, 480, rfl⟩
abbrev main_v438 : Ref sig .tc := ⟨.hbm, 481, rfl⟩
abbrev main_v439 : Ref sig .tc := ⟨.hbm, 482, rfl⟩
abbrev main_v440 : Ref sig .tc := ⟨.hbm, 483, rfl⟩
abbrev main_v441 : Ref sig .tc := ⟨.hbm, 484, rfl⟩
abbrev main_v442 : Ref sig .tc := ⟨.hbm, 485, rfl⟩
abbrev main_v443 : Ref sig .tc := ⟨.hbm, 486, rfl⟩
abbrev main_v444 : Ref sig .tc := ⟨.hbm, 487, rfl⟩
abbrev main_v445 : Ref sig .tc := ⟨.hbm, 488, rfl⟩
abbrev main_v446 : Ref sig .tc := ⟨.hbm, 489, rfl⟩
abbrev main_v447 : Ref sig .tc := ⟨.hbm, 490, rfl⟩
abbrev main_cst_26 : Ref sig .tc := ⟨.hbm, 491, rfl⟩
abbrev main_v448 : Ref sig .tc := ⟨.hbm, 492, rfl⟩
abbrev main_v449 : Ref sig .tc := ⟨.hbm, 493, rfl⟩
abbrev main_v450 : Ref sig .tc := ⟨.hbm, 494, rfl⟩
abbrev main_cst_27 : Ref sig .tc := ⟨.hbm, 495, rfl⟩
abbrev main_v451 : Ref sig .tc := ⟨.hbm, 496, rfl⟩
abbrev main_v452 : Ref sig .tc := ⟨.hbm, 497, rfl⟩
abbrev main_v453 : Ref sig .tc := ⟨.hbm, 498, rfl⟩
abbrev main_v454 : Ref sig .tc := ⟨.hbm, 499, rfl⟩
abbrev main_v455 : Ref sig .tc := ⟨.hbm, 500, rfl⟩
abbrev main_v456 : Ref sig .tc := ⟨.hbm, 501, rfl⟩
abbrev main_v457 : Ref sig .tc := ⟨.hbm, 502, rfl⟩
abbrev main_v458 : Ref sig .tc := ⟨.hbm, 503, rfl⟩
abbrev main_v459 : Ref sig .tc := ⟨.hbm, 504, rfl⟩
abbrev main_v460 : Ref sig .tc := ⟨.hbm, 505, rfl⟩
abbrev main_v461 : Ref sig .tc := ⟨.hbm, 506, rfl⟩
abbrev main_v462 : Ref sig .tc := ⟨.hbm, 507, rfl⟩
abbrev main_v463 : Ref sig .tc := ⟨.hbm, 508, rfl⟩
abbrev main_v464 : Ref sig .tc := ⟨.hbm, 509, rfl⟩
abbrev main_v465 : Ref sig .tc := ⟨.hbm, 510, rfl⟩
abbrev main_v466 : Ref sig .tc := ⟨.hbm, 511, rfl⟩
abbrev main_v467 : Ref sig .tc := ⟨.hbm, 512, rfl⟩
abbrev main_v468 : Ref sig .tc := ⟨.hbm, 513, rfl⟩
abbrev main_v469 : Ref sig .tc := ⟨.hbm, 514, rfl⟩
abbrev main_v470 : Ref sig .tc := ⟨.hbm, 515, rfl⟩
abbrev main_v471 : Ref sig .tc := ⟨.hbm, 516, rfl⟩
abbrev main_v472 : Ref sig .tc := ⟨.hbm, 517, rfl⟩
abbrev main_v473 : Ref sig .tc := ⟨.hbm, 518, rfl⟩
abbrev main_v474 : Ref sig .tc := ⟨.hbm, 519, rfl⟩
abbrev main_cst_28 : Ref sig .tc := ⟨.hbm, 520, rfl⟩
abbrev main_v475 : Ref sig .tc := ⟨.hbm, 521, rfl⟩
abbrev main_v476 : Ref sig .tc := ⟨.hbm, 522, rfl⟩
abbrev main_v477 : Ref sig .tc := ⟨.hbm, 523, rfl⟩
abbrev main_cst_29 : Ref sig .tc := ⟨.hbm, 524, rfl⟩
abbrev main_v478 : Ref sig .tc := ⟨.hbm, 525, rfl⟩
abbrev main_v479 : Ref sig .tc := ⟨.hbm, 526, rfl⟩
abbrev main_v480 : Ref sig .tc := ⟨.hbm, 527, rfl⟩
abbrev main_v481 : Ref sig .tc := ⟨.hbm, 528, rfl⟩
abbrev main_v482 : Ref sig .tc := ⟨.hbm, 529, rfl⟩
abbrev main_v483 : Ref sig .tc := ⟨.hbm, 530, rfl⟩
abbrev main_v484 : Ref sig .tc := ⟨.hbm, 531, rfl⟩
abbrev main_v485 : Ref sig .tc := ⟨.hbm, 532, rfl⟩
abbrev main_v486 : Ref sig .tc := ⟨.hbm, 533, rfl⟩
abbrev main_v487 : Ref sig .tc := ⟨.hbm, 534, rfl⟩
abbrev main_v488 : Ref sig .tc := ⟨.hbm, 535, rfl⟩
abbrev main_v489 : Ref sig .tc := ⟨.hbm, 536, rfl⟩
abbrev main_v490 : Ref sig .tc := ⟨.hbm, 537, rfl⟩
abbrev main_v491 : Ref sig .tc := ⟨.hbm, 538, rfl⟩
abbrev main_v492 : Ref sig .tc := ⟨.hbm, 539, rfl⟩
abbrev main_v493 : Ref sig .tc := ⟨.hbm, 540, rfl⟩
abbrev main_v494 : Ref sig .tc := ⟨.hbm, 541, rfl⟩
abbrev main_v495 : Ref sig .tc := ⟨.hbm, 542, rfl⟩
abbrev main_v496 : Ref sig .tc := ⟨.hbm, 543, rfl⟩
abbrev main_v497 : Ref sig .tc := ⟨.hbm, 544, rfl⟩
abbrev main_v498 : Ref sig .tc := ⟨.hbm, 545, rfl⟩
abbrev main_v499 : Ref sig .tc := ⟨.hbm, 546, rfl⟩
abbrev main_v500 : Ref sig .tc := ⟨.hbm, 547, rfl⟩
abbrev main_v501 : Ref sig .tc := ⟨.hbm, 548, rfl⟩
abbrev main_cst_30 : Ref sig .tc := ⟨.hbm, 549, rfl⟩
abbrev main_v502 : Ref sig .tc := ⟨.hbm, 550, rfl⟩
abbrev main_v503 : Ref sig .tc := ⟨.hbm, 551, rfl⟩
abbrev main_v504 : Ref sig .tc := ⟨.hbm, 552, rfl⟩
abbrev main_v505 : Ref sig .tc := ⟨.hbm, 553, rfl⟩
abbrev main_v506 : Ref sig .tc := ⟨.hbm, 554, rfl⟩
abbrev main_v507 : Ref sig .tc := ⟨.hbm, 555, rfl⟩
abbrev main_v508 : Ref sig .tc := ⟨.hbm, 556, rfl⟩
abbrev main_v509 : Ref sig .tc := ⟨.hbm, 557, rfl⟩
abbrev main_v510 : Ref sig .tc := ⟨.hbm, 558, rfl⟩
abbrev main_v511 : Ref sig .tc := ⟨.hbm, 559, rfl⟩
abbrev main_v512 : Ref sig .tc := ⟨.hbm, 560, rfl⟩
abbrev main_v513 : Ref sig .tc := ⟨.hbm, 561, rfl⟩
abbrev main_v514 : Ref sig .tc := ⟨.hbm, 562, rfl⟩
abbrev main_v515 : Ref sig .tc := ⟨.hbm, 563, rfl⟩
abbrev main_v516 : Ref sig .tc := ⟨.hbm, 564, rfl⟩
abbrev main_cst_31 : Ref sig .tc := ⟨.hbm, 565, rfl⟩
abbrev main_v517 : Ref sig .tc := ⟨.hbm, 566, rfl⟩
abbrev main_c_32 : Ref sig .tc := ⟨.hbm, 567, rfl⟩
abbrev main_call2_v0 : Ref sig .tc := ⟨.hbm, 568, rfl⟩
abbrev main_v518 : Ref sig .tc := ⟨.hbm, 569, rfl⟩
abbrev main_v519 : Ref sig .tc := ⟨.hbm, 570, rfl⟩
abbrev main_v520 : Ref sig .tc := ⟨.hbm, 571, rfl⟩
abbrev main_v521 : Ref sig .tc := ⟨.hbm, 572, rfl⟩
abbrev main_c_33 : Ref sig .tc := ⟨.hbm, 573, rfl⟩
abbrev main_call3_v0 : Ref sig .tc := ⟨.hbm, 574, rfl⟩
abbrev main_v522 : Ref sig .tc := ⟨.hbm, 575, rfl⟩
abbrev main_v523 : Ref sig .tc := ⟨.hbm, 576, rfl⟩
abbrev main_v524 : Ref sig .tc := ⟨.hbm, 577, rfl⟩
abbrev main_v525 : Ref sig .tc := ⟨.hbm, 578, rfl⟩
abbrev main_c_34 : Ref sig .tc := ⟨.hbm, 579, rfl⟩
abbrev main_call4_v0 : Ref sig .tc := ⟨.hbm, 580, rfl⟩
abbrev main_v526 : Ref sig .tc := ⟨.hbm, 581, rfl⟩
abbrev main_v527 : Ref sig .tc := ⟨.hbm, 582, rfl⟩
abbrev main_v528 : Ref sig .tc := ⟨.hbm, 583, rfl⟩
abbrev main_v529 : Ref sig .tc := ⟨.hbm, 584, rfl⟩
abbrev main_c_35 : Ref sig .tc := ⟨.hbm, 585, rfl⟩
abbrev main_call5_v0 : Ref sig .tc := ⟨.hbm, 586, rfl⟩
abbrev main_v530 : Ref sig .tc := ⟨.hbm, 587, rfl⟩
abbrev main_v531 : Ref sig .tc := ⟨.hbm, 588, rfl⟩
abbrev main_v532 : Ref sig .tc := ⟨.hbm, 589, rfl⟩
abbrev main_v533 : Ref sig .tc := ⟨.hbm, 590, rfl⟩
abbrev main_v534 : Ref sig .tc := ⟨.hbm, 591, rfl⟩
abbrev main_c_36 : Ref sig .tc := ⟨.hbm, 592, rfl⟩
abbrev main_call6_v0 : Ref sig .tc := ⟨.hbm, 593, rfl⟩
abbrev main_v535 : Ref sig .tc := ⟨.hbm, 594, rfl⟩
abbrev main_v536 : Ref sig .tc := ⟨.hbm, 595, rfl⟩
abbrev main_v537 : Ref sig .tc := ⟨.hbm, 596, rfl⟩
abbrev main_v538 : Ref sig .tc := ⟨.hbm, 597, rfl⟩
abbrev main_v539_0 : Ref sig .tc := ⟨.hbm, 598, rfl⟩
abbrev main_v539_1 : Ref sig .tc := ⟨.hbm, 599, rfl⟩
abbrev main_v539_2 : Ref sig .tc := ⟨.hbm, 600, rfl⟩
abbrev main_v539_3 : Ref sig .tc := ⟨.hbm, 601, rfl⟩
abbrev main_v539_4 : Ref sig .tc := ⟨.hbm, 602, rfl⟩
abbrev main_v539_5 : Ref sig .tc := ⟨.hbm, 603, rfl⟩
abbrev main_v539_6 : Ref sig .tc := ⟨.hbm, 604, rfl⟩
abbrev main_v539_7 : Ref sig .tc := ⟨.hbm, 605, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg21_0 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem21_0 : DmaSem sig := 29

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_1151 : BitVec 32 := 0#32
  let c40_i32 : BitVec 32 := 40#32
  let v1059 : BitVec 32 := Scalar.addi c0_i32_1151 c40_i32
  let c1_i32 : BitVec 32 := 1#32
  ⟨c0_i32_1151, v1059, c1_i32⟩
def k0_mult1 (k0_t1 : Fin k0_t1_loop.trips) : BitVec 32 :=
  let c39_i32_1935 : BitVec 32 := 39#32
  let c0_i32_1151 : BitVec 32 := 0#32
  let c1_i32 : BitVec 32 := 1#32
  let arg31 : BitVec 32 := Scf.iv c0_i32_1151 c1_i32 k0_t1
  let v2112 : BitVec 32 := Scalar.subi c39_i32_1935 arg31
  let c8_i32 : BitVec 32 := 8#32
  let v2113 : BitVec 32 := Scalar.muli v2112 c8_i32
  v2113
def k0_off1 (k0_t1 : Fin k0_t1_loop.trips) : Fin 2 → Nat :=
  let c39_i32_1935 : BitVec 32 := 39#32
  let c0_i32_1151 : BitVec 32 := 0#32
  let c1_i32 : BitVec 32 := 1#32
  let arg31 : BitVec 32 := Scf.iv c0_i32_1151 c1_i32 k0_t1
  let v2112 : BitVec 32 := Scalar.subi c39_i32_1935 arg31
  let c8_i32 : BitVec 32 := 8#32
  let v2113 : BitVec 32 := Scalar.muli v2112 c8_i32
  let v2114 : BitVec 32 := v2113
  let v2118 : Index := Scalar.indexCast v2114
  let c0_1936 : Index := 0#32
  ![v2118.toNat, 0]
@[reducible] def k0_t2_loop : Scf.Loop 32 :=
  let c0_i32_1165 : BitVec 32 := 0#32
  let c40_i32_1166 : BitVec 32 := 40#32
  let v1155 : BitVec 32 := Scalar.addi c0_i32_1165 c40_i32_1166
  let c1_i32_1167 : BitVec 32 := 1#32
  ⟨c0_i32_1165, v1155, c1_i32_1167⟩
def k0_mult2 (k0_t2 : Fin k0_t2_loop.trips) : BitVec 32 :=
  let c0_i32_1165 : BitVec 32 := 0#32
  let c1_i32_1167 : BitVec 32 := 1#32
  let arg31 : BitVec 32 := Scf.iv c0_i32_1165 c1_i32_1167 k0_t2
  let c8_i32 : BitVec 32 := 8#32
  let v2112 : BitVec 32 := Scalar.muli arg31 c8_i32
  v2112
def k0_mult3 (k0_t2 : Fin k0_t2_loop.trips) : BitVec 32 :=
  let c39_i32_1935 : BitVec 32 := 39#32
  let c0_i32_1165 : BitVec 32 := 0#32
  let c1_i32_1167 : BitVec 32 := 1#32
  let arg31 : BitVec 32 := Scf.iv c0_i32_1165 c1_i32_1167 k0_t2
  let v2114 : BitVec 32 := Scalar.subi c39_i32_1935 arg31
  let c8_i32_1936 : BitVec 32 := 8#32
  let v2115 : BitVec 32 := Scalar.muli v2114 c8_i32_1936
  v2115
def k0_off2 (k0_t2 : Fin k0_t2_loop.trips) : Fin 2 → Nat :=
  let c39_i32_1935 : BitVec 32 := 39#32
  let c0_i32_1165 : BitVec 32 := 0#32
  let c1_i32_1167 : BitVec 32 := 1#32
  let arg31 : BitVec 32 := Scf.iv c0_i32_1165 c1_i32_1167 k0_t2
  let v2114 : BitVec 32 := Scalar.subi c39_i32_1935 arg31
  let c8_i32_1936 : BitVec 32 := 8#32
  let v2115 : BitVec 32 := Scalar.muli v2114 c8_i32_1936
  let v2116 : BitVec 32 := v2115
  let v2117 : Index := Scalar.indexCast v2116
  let c0_1937 : Index := 0#32
  ![v2117.toNat, 0]
def k0_off3 (k0_t2 : Fin k0_t2_loop.trips) : Fin 2 → Nat :=
  let c0_i32_1165 : BitVec 32 := 0#32
  let c1_i32_1167 : BitVec 32 := 1#32
  let arg31 : BitVec 32 := Scf.iv c0_i32_1165 c1_i32_1167 k0_t2
  let c8_i32 : BitVec 32 := 8#32
  let v2112 : BitVec 32 := Scalar.muli arg31 c8_i32
  let v2113 : BitVec 32 := v2112
  let v2123 : Index := Scalar.indexCast v2113
  let c0_1940 : Index := 0#32
  ![v2123.toNat, 0]
@[reducible] def k0_t3_loop : Scf.Loop 32 :=
  let c1_i32_1187 : BitVec 32 := 1#32
  let c39_i32 : BitVec 32 := 39#32
  let v1186 : BitVec 32 := Scalar.addi c1_i32_1187 c39_i32
  let c1_i32_1188 : BitVec 32 := 1#32
  ⟨c1_i32_1187, v1186, c1_i32_1188⟩
def k0_mult4 (k0_t3 : Fin k0_t3_loop.trips) : BitVec 32 :=
  let c1_i32_1187 : BitVec 32 := 1#32
  let c1_i32_1188 : BitVec 32 := 1#32
  let arg31 : BitVec 32 := Scf.iv c1_i32_1187 c1_i32_1188 k0_t3
  let c8_i32 : BitVec 32 := 8#32
  let v2112 : BitVec 32 := Scalar.muli arg31 c8_i32
  v2112
def k0_mult5 (k0_t3 : Fin k0_t3_loop.trips) : BitVec 32 :=
  let c1_i32_1187 : BitVec 32 := 1#32
  let c1_i32_1188 : BitVec 32 := 1#32
  let arg31 : BitVec 32 := Scf.iv c1_i32_1187 c1_i32_1188 k0_t3
  let c1_i32_1935 : BitVec 32 := 1#32
  let v2114 : BitVec 32 := Scalar.subi arg31 c1_i32_1935
  let c8_i32_1936 : BitVec 32 := 8#32
  let v2115 : BitVec 32 := Scalar.muli v2114 c8_i32_1936
  v2115
def k0_off4 (k0_t3 : Fin k0_t3_loop.trips) : Fin 2 → Nat :=
  let c1_i32_1187 : BitVec 32 := 1#32
  let c1_i32_1188 : BitVec 32 := 1#32
  let arg31 : BitVec 32 := Scf.iv c1_i32_1187 c1_i32_1188 k0_t3
  let c1_i32_1935 : BitVec 32 := 1#32
  let v2114 : BitVec 32 := Scalar.subi arg31 c1_i32_1935
  let c8_i32_1936 : BitVec 32 := 8#32
  let v2115 : BitVec 32 := Scalar.muli v2114 c8_i32_1936
  let v2116 : BitVec 32 := v2115
  let v2117 : Index := Scalar.indexCast v2116
  let c0_1937 : Index := 0#32
  ![v2117.toNat, 0]
def k0_off5 (k0_t3 : Fin k0_t3_loop.trips) : Fin 2 → Nat :=
  let c1_i32_1187 : BitVec 32 := 1#32
  let c1_i32_1188 : BitVec 32 := 1#32
  let arg31 : BitVec 32 := Scf.iv c1_i32_1187 c1_i32_1188 k0_t3
  let c8_i32 : BitVec 32 := 8#32
  let v2112 : BitVec 32 := Scalar.muli arg31 c8_i32
  let v2113 : BitVec 32 := v2112
  let v2123 : Index := Scalar.indexCast v2113
  let c0_1939 : Index := 0#32
  ![v2123.toNat, 0]
@[reducible] def k0_t4_loop : Scf.Loop 32 :=
  let c0_i32_1204 : BitVec 32 := 0#32
  let c40_i32_1205 : BitVec 32 := 40#32
  let v1201 : BitVec 32 := Scalar.addi c0_i32_1204 c40_i32_1205
  let c1_i32_1206 : BitVec 32 := 1#32
  ⟨c0_i32_1204, v1201, c1_i32_1206⟩
def k0_mult6 (k0_t4 : Fin k0_t4_loop.trips) : BitVec 32 :=
  let c39_i32_1935 : BitVec 32 := 39#32
  let c0_i32_1204 : BitVec 32 := 0#32
  let c1_i32_1206 : BitVec 32 := 1#32
  let arg31 : BitVec 32 := Scf.iv c0_i32_1204 c1_i32_1206 k0_t4
  let v2112 : BitVec 32 := Scalar.subi c39_i32_1935 arg31
  let c8_i32 : BitVec 32 := 8#32
  let v2113 : BitVec 32 := Scalar.muli v2112 c8_i32
  v2113
def k0_off6 (k0_t4 : Fin k0_t4_loop.trips) : Fin 2 → Nat :=
  let c39_i32_1935 : BitVec 32 := 39#32
  let c0_i32_1204 : BitVec 32 := 0#32
  let c1_i32_1206 : BitVec 32 := 1#32
  let arg31 : BitVec 32 := Scf.iv c0_i32_1204 c1_i32_1206 k0_t4
  let v2112 : BitVec 32 := Scalar.subi c39_i32_1935 arg31
  let c8_i32 : BitVec 32 := 8#32
  let v2113 : BitVec 32 := Scalar.muli v2112 c8_i32
  let v2114 : BitVec 32 := v2113
  let v2118 : Index := Scalar.indexCast v2114
  let c512_1936 : Index := 512#32
  ![v2118.toNat, 512]
@[reducible] def k0_t5_loop : Scf.Loop 32 :=
  let c0_i32_1221 : BitVec 32 := 0#32
  let c40_i32_1222 : BitVec 32 := 40#32
  let v1297 : BitVec 32 := Scalar.addi c0_i32_1221 c40_i32_1222
  let c1_i32_1223 : BitVec 32 := 1#32
  ⟨c0_i32_1221, v1297, c1_i32_1223⟩
def k0_mult7 (k0_t5 : Fin k0_t5_loop.trips) : BitVec 32 :=
  let c0_i32_1221 : BitVec 32 := 0#32
  let c1_i32_1223 : BitVec 32 := 1#32
  let arg31 : BitVec 32 := Scf.iv c0_i32_1221 c1_i32_1223 k0_t5
  let c8_i32 : BitVec 32 := 8#32
  let v2112 : BitVec 32 := Scalar.muli arg31 c8_i32
  v2112
def k0_mult8 (k0_t5 : Fin k0_t5_loop.trips) : BitVec 32 :=
  let c39_i32_1935 : BitVec 32 := 39#32
  let c0_i32_1221 : BitVec 32 := 0#32
  let c1_i32_1223 : BitVec 32 := 1#32
  let arg31 : BitVec 32 := Scf.iv c0_i32_1221 c1_i32_1223 k0_t5
  let v2114 : BitVec 32 := Scalar.subi c39_i32_1935 arg31
  let c8_i32_1936 : BitVec 32 := 8#32
  let v2115 : BitVec 32 := Scalar.muli v2114 c8_i32_1936
  v2115
def k0_off7 (k0_t5 : Fin k0_t5_loop.trips) : Fin 2 → Nat :=
  let c39_i32_1935 : BitVec 32 := 39#32
  let c0_i32_1221 : BitVec 32 := 0#32
  let c1_i32_1223 : BitVec 32 := 1#32
  let arg31 : BitVec 32 := Scf.iv c0_i32_1221 c1_i32_1223 k0_t5
  let v2114 : BitVec 32 := Scalar.subi c39_i32_1935 arg31
  let c8_i32_1936 : BitVec 32 := 8#32
  let v2115 : BitVec 32 := Scalar.muli v2114 c8_i32_1936
  let v2116 : BitVec 32 := v2115
  let v2117 : Index := Scalar.indexCast v2116
  let c512_1937 : Index := 512#32
  ![v2117.toNat, 512]
def k0_off8 (k0_t5 : Fin k0_t5_loop.trips) : Fin 2 → Nat :=
  let c0_i32_1221 : BitVec 32 := 0#32
  let c1_i32_1223 : BitVec 32 := 1#32
  let arg31 : BitVec 32 := Scf.iv c0_i32_1221 c1_i32_1223 k0_t5
  let c8_i32 : BitVec 32 := 8#32
  let v2112 : BitVec 32 := Scalar.muli arg31 c8_i32
  let v2113 : BitVec 32 := v2112
  let v2123 : Index := Scalar.indexCast v2113
  let c512_1940 : Index := 512#32
  ![v2123.toNat, 512]
@[reducible] def k0_t6_loop : Scf.Loop 32 :=
  let c1_i32_1243 : BitVec 32 := 1#32
  let c39_i32_1244 : BitVec 32 := 39#32
  let v1328 : BitVec 32 := Scalar.addi c1_i32_1243 c39_i32_1244
  let c1_i32_1245 : BitVec 32 := 1#32
  ⟨c1_i32_1243, v1328, c1_i32_1245⟩
def k0_mult9 (k0_t6 : Fin k0_t6_loop.trips) : BitVec 32 :=
  let c1_i32_1243 : BitVec 32 := 1#32
  let c1_i32_1245 : BitVec 32 := 1#32
  let arg31 : BitVec 32 := Scf.iv c1_i32_1243 c1_i32_1245 k0_t6
  let c8_i32 : BitVec 32 := 8#32
  let v2112 : BitVec 32 := Scalar.muli arg31 c8_i32
  v2112
def k0_mult10 (k0_t6 : Fin k0_t6_loop.trips) : BitVec 32 :=
  let c1_i32_1243 : BitVec 32 := 1#32
  let c1_i32_1245 : BitVec 32 := 1#32
  let arg31 : BitVec 32 := Scf.iv c1_i32_1243 c1_i32_1245 k0_t6
  let c1_i32_1935 : BitVec 32 := 1#32
  let v2114 : BitVec 32 := Scalar.subi arg31 c1_i32_1935
  let c8_i32_1936 : BitVec 32 := 8#32
  let v2115 : BitVec 32 := Scalar.muli v2114 c8_i32_1936
  v2115
def k0_off9 (k0_t6 : Fin k0_t6_loop.trips) : Fin 2 → Nat :=
  let c1_i32_1243 : BitVec 32 := 1#32
  let c1_i32_1245 : BitVec 32 := 1#32
  let arg31 : BitVec 32 := Scf.iv c1_i32_1243 c1_i32_1245 k0_t6
  let c1_i32_1935 : BitVec 32 := 1#32
  let v2114 : BitVec 32 := Scalar.subi arg31 c1_i32_1935
  let c8_i32_1936 : BitVec 32 := 8#32
  let v2115 : BitVec 32 := Scalar.muli v2114 c8_i32_1936
  let v2116 : BitVec 32 := v2115
  let v2117 : Index := Scalar.indexCast v2116
  let c512_1937 : Index := 512#32
  ![v2117.toNat, 512]
def k0_off10 (k0_t6 : Fin k0_t6_loop.trips) : Fin 2 → Nat :=
  let c1_i32_1243 : BitVec 32 := 1#32
  let c1_i32_1245 : BitVec 32 := 1#32
  let arg31 : BitVec 32 := Scf.iv c1_i32_1243 c1_i32_1245 k0_t6
  let c8_i32 : BitVec 32 := 8#32
  let v2112 : BitVec 32 := Scalar.muli arg31 c8_i32
  let v2113 : BitVec 32 := v2112
  let v2123 : Index := Scalar.indexCast v2113
  let c512_1939 : Index := 512#32
  ![v2123.toNat, 512]
@[reducible] def k0_t7_loop : Scf.Loop 32 :=
  let c0_i32_1261 : BitVec 32 := 0#32
  let c40_i32_1262 : BitVec 32 := 40#32
  let v1343 : BitVec 32 := Scalar.addi c0_i32_1261 c40_i32_1262
  let c1_i32_1263 : BitVec 32 := 1#32
  ⟨c0_i32_1261, v1343, c1_i32_1263⟩
def k0_mult11 (k0_t7 : Fin k0_t7_loop.trips) : BitVec 32 :=
  let c39_i32_1935 : BitVec 32 := 39#32
  let c0_i32_1261 : BitVec 32 := 0#32
  let c1_i32_1263 : BitVec 32 := 1#32
  let arg31 : BitVec 32 := Scf.iv c0_i32_1261 c1_i32_1263 k0_t7
  let v2112 : BitVec 32 := Scalar.subi c39_i32_1935 arg31
  let c8_i32 : BitVec 32 := 8#32
  let v2113 : BitVec 32 := Scalar.muli v2112 c8_i32
  v2113
def k0_off11 (k0_t7 : Fin k0_t7_loop.trips) : Fin 2 → Nat :=
  let c39_i32_1935 : BitVec 32 := 39#32
  let c0_i32_1261 : BitVec 32 := 0#32
  let c1_i32_1263 : BitVec 32 := 1#32
  let arg31 : BitVec 32 := Scf.iv c0_i32_1261 c1_i32_1263 k0_t7
  let v2112 : BitVec 32 := Scalar.subi c39_i32_1935 arg31
  let c8_i32 : BitVec 32 := 8#32
  let v2113 : BitVec 32 := Scalar.muli v2112 c8_i32
  let v2114 : BitVec 32 := v2113
  let v2118 : Index := Scalar.indexCast v2114
  let c1024_1936 : Index := 1024#32
  ![v2118.toNat, 1024]
@[reducible] def k0_t8_loop : Scf.Loop 32 :=
  let c0_i32_1278 : BitVec 32 := 0#32
  let c40_i32_1279 : BitVec 32 := 40#32
  let v1439 : BitVec 32 := Scalar.addi c0_i32_1278 c40_i32_1279
  let c1_i32_1280 : BitVec 32 := 1#32
  ⟨c0_i32_1278, v1439, c1_i32_1280⟩
def k0_mult12 (k0_t8 : Fin k0_t8_loop.trips) : BitVec 32 :=
  let c0_i32_1278 : BitVec 32 := 0#32
  let c1_i32_1280 : BitVec 32 := 1#32
  let arg31 : BitVec 32 := Scf.iv c0_i32_1278 c1_i32_1280 k0_t8
  let c8_i32 : BitVec 32 := 8#32
  let v2112 : BitVec 32 := Scalar.muli arg31 c8_i32
  v2112
def k0_mult13 (k0_t8 : Fin k0_t8_loop.trips) : BitVec 32 :=
  let c39_i32_1935 : BitVec 32 := 39#32
  let c0_i32_1278 : BitVec 32 := 0#32
  let c1_i32_1280 : BitVec 32 := 1#32
  let arg31 : BitVec 32 := Scf.iv c0_i32_1278 c1_i32_1280 k0_t8
  let v2114 : BitVec 32 := Scalar.subi c39_i32_1935 arg31
  let c8_i32_1936 : BitVec 32 := 8#32
  let v2115 : BitVec 32 := Scalar.muli v2114 c8_i32_1936
  v2115
def k0_off12 (k0_t8 : Fin k0_t8_loop.trips) : Fin 2 → Nat :=
  let c39_i32_1935 : BitVec 32 := 39#32
  let c0_i32_1278 : BitVec 32 := 0#32
  let c1_i32_1280 : BitVec 32 := 1#32
  let arg31 : BitVec 32 := Scf.iv c0_i32_1278 c1_i32_1280 k0_t8
  let v2114 : BitVec 32 := Scalar.subi c39_i32_1935 arg31
  let c8_i32_1936 : BitVec 32 := 8#32
  let v2115 : BitVec 32 := Scalar.muli v2114 c8_i32_1936
  let v2116 : BitVec 32 := v2115
  let v2117 : Index := Scalar.indexCast v2116
  let c1024_1937 : Index := 1024#32
  ![v2117.toNat, 1024]
def k0_off13 (k0_t8 : Fin k0_t8_loop.trips) : Fin 2 → Nat :=
  let c0_i32_1278 : BitVec 32 := 0#32
  let c1_i32_1280 : BitVec 32 := 1#32
  let arg31 : BitVec 32 := Scf.iv c0_i32_1278 c1_i32_1280 k0_t8
  let c8_i32 : BitVec 32 := 8#32
  let v2112 : BitVec 32 := Scalar.muli arg31 c8_i32
  let v2113 : BitVec 32 := v2112
  let v2123 : Index := Scalar.indexCast v2113
  let c1024_1940 : Index := 1024#32
  ![v2123.toNat, 1024]
@[reducible] def k0_t9_loop : Scf.Loop 32 :=
  let c1_i32_1300 : BitVec 32 := 1#32
  let c39_i32_1301 : BitVec 32 := 39#32
  let v1470 : BitVec 32 := Scalar.addi c1_i32_1300 c39_i32_1301
  let c1_i32_1302 : BitVec 32 := 1#32
  ⟨c1_i32_1300, v1470, c1_i32_1302⟩
def k0_mult14 (k0_t9 : Fin k0_t9_loop.trips) : BitVec 32 :=
  let c1_i32_1300 : BitVec 32 := 1#32
  let c1_i32_1302 : BitVec 32 := 1#32
  let arg31 : BitVec 32 := Scf.iv c1_i32_1300 c1_i32_1302 k0_t9
  let c8_i32 : BitVec 32 := 8#32
  let v2112 : BitVec 32 := Scalar.muli arg31 c8_i32
  v2112
def k0_mult15 (k0_t9 : Fin k0_t9_loop.trips) : BitVec 32 :=
  let c1_i32_1300 : BitVec 32 := 1#32
  let c1_i32_1302 : BitVec 32 := 1#32
  let arg31 : BitVec 32 := Scf.iv c1_i32_1300 c1_i32_1302 k0_t9
  let c1_i32_1935 : BitVec 32 := 1#32
  let v2114 : BitVec 32 := Scalar.subi arg31 c1_i32_1935
  let c8_i32_1936 : BitVec 32 := 8#32
  let v2115 : BitVec 32 := Scalar.muli v2114 c8_i32_1936
  v2115
def k0_off14 (k0_t9 : Fin k0_t9_loop.trips) : Fin 2 → Nat :=
  let c1_i32_1300 : BitVec 32 := 1#32
  let c1_i32_1302 : BitVec 32 := 1#32
  let arg31 : BitVec 32 := Scf.iv c1_i32_1300 c1_i32_1302 k0_t9
  let c1_i32_1935 : BitVec 32 := 1#32
  let v2114 : BitVec 32 := Scalar.subi arg31 c1_i32_1935
  let c8_i32_1936 : BitVec 32 := 8#32
  let v2115 : BitVec 32 := Scalar.muli v2114 c8_i32_1936
  let v2116 : BitVec 32 := v2115
  let v2117 : Index := Scalar.indexCast v2116
  let c1024_1937 : Index := 1024#32
  ![v2117.toNat, 1024]
def k0_off15 (k0_t9 : Fin k0_t9_loop.trips) : Fin 2 → Nat :=
  let c1_i32_1300 : BitVec 32 := 1#32
  let c1_i32_1302 : BitVec 32 := 1#32
  let arg31 : BitVec 32 := Scf.iv c1_i32_1300 c1_i32_1302 k0_t9
  let c8_i32 : BitVec 32 := 8#32
  let v2112 : BitVec 32 := Scalar.muli arg31 c8_i32
  let v2113 : BitVec 32 := v2112
  let v2123 : Index := Scalar.indexCast v2113
  let c1024_1939 : Index := 1024#32
  ![v2123.toNat, 1024]
@[reducible] def k0_t10_loop : Scf.Loop 32 :=
  let c0_i32_1318 : BitVec 32 := 0#32
  let c40_i32_1319 : BitVec 32 := 40#32
  let v1485 : BitVec 32 := Scalar.addi c0_i32_1318 c40_i32_1319
  let c1_i32_1320 : BitVec 32 := 1#32
  ⟨c0_i32_1318, v1485, c1_i32_1320⟩
def k0_mult16 (k0_t10 : Fin k0_t10_loop.trips) : BitVec 32 :=
  let c39_i32_1935 : BitVec 32 := 39#32
  let c0_i32_1318 : BitVec 32 := 0#32
  let c1_i32_1320 : BitVec 32 := 1#32
  let arg31 : BitVec 32 := Scf.iv c0_i32_1318 c1_i32_1320 k0_t10
  let v2112 : BitVec 32 := Scalar.subi c39_i32_1935 arg31
  let c8_i32 : BitVec 32 := 8#32
  let v2113 : BitVec 32 := Scalar.muli v2112 c8_i32
  v2113
def k0_off16 (k0_t10 : Fin k0_t10_loop.trips) : Fin 2 → Nat :=
  let c39_i32_1935 : BitVec 32 := 39#32
  let c0_i32_1318 : BitVec 32 := 0#32
  let c1_i32_1320 : BitVec 32 := 1#32
  let arg31 : BitVec 32 := Scf.iv c0_i32_1318 c1_i32_1320 k0_t10
  let v2112 : BitVec 32 := Scalar.subi c39_i32_1935 arg31
  let c8_i32 : BitVec 32 := 8#32
  let v2113 : BitVec 32 := Scalar.muli v2112 c8_i32
  let v2114 : BitVec 32 := v2113
  let v2118 : Index := Scalar.indexCast v2114
  let c1536_1936 : Index := 1536#32
  ![v2118.toNat, 1536]
@[reducible] def k0_t11_loop : Scf.Loop 32 :=
  let c0_i32_1335 : BitVec 32 := 0#32
  let c40_i32_1336 : BitVec 32 := 40#32
  let v1581 : BitVec 32 := Scalar.addi c0_i32_1335 c40_i32_1336
  let c1_i32_1337 : BitVec 32 := 1#32
  ⟨c0_i32_1335, v1581, c1_i32_1337⟩
def k0_mult17 (k0_t11 : Fin k0_t11_loop.trips) : BitVec 32 :=
  let c0_i32_1335 : BitVec 32 := 0#32
  let c1_i32_1337 : BitVec 32 := 1#32
  let arg31 : BitVec 32 := Scf.iv c0_i32_1335 c1_i32_1337 k0_t11
  let c8_i32 : BitVec 32 := 8#32
  let v2112 : BitVec 32 := Scalar.muli arg31 c8_i32
  v2112
def k0_mult18 (k0_t11 : Fin k0_t11_loop.trips) : BitVec 32 :=
  let c39_i32_1935 : BitVec 32 := 39#32
  let c0_i32_1335 : BitVec 32 := 0#32
  let c1_i32_1337 : BitVec 32 := 1#32
  let arg31 : BitVec 32 := Scf.iv c0_i32_1335 c1_i32_1337 k0_t11
  let v2114 : BitVec 32 := Scalar.subi c39_i32_1935 arg31
  let c8_i32_1936 : BitVec 32 := 8#32
  let v2115 : BitVec 32 := Scalar.muli v2114 c8_i32_1936
  v2115
def k0_off17 (k0_t11 : Fin k0_t11_loop.trips) : Fin 2 → Nat :=
  let c39_i32_1935 : BitVec 32 := 39#32
  let c0_i32_1335 : BitVec 32 := 0#32
  let c1_i32_1337 : BitVec 32 := 1#32
  let arg31 : BitVec 32 := Scf.iv c0_i32_1335 c1_i32_1337 k0_t11
  let v2114 : BitVec 32 := Scalar.subi c39_i32_1935 arg31
  let c8_i32_1936 : BitVec 32 := 8#32
  let v2115 : BitVec 32 := Scalar.muli v2114 c8_i32_1936
  let v2116 : BitVec 32 := v2115
  let v2117 : Index := Scalar.indexCast v2116
  let c1536_1937 : Index := 1536#32
  ![v2117.toNat, 1536]
def k0_off18 (k0_t11 : Fin k0_t11_loop.trips) : Fin 2 → Nat :=
  let c0_i32_1335 : BitVec 32 := 0#32
  let c1_i32_1337 : BitVec 32 := 1#32
  let arg31 : BitVec 32 := Scf.iv c0_i32_1335 c1_i32_1337 k0_t11
  let c8_i32 : BitVec 32 := 8#32
  let v2112 : BitVec 32 := Scalar.muli arg31 c8_i32
  let v2113 : BitVec 32 := v2112
  let v2123 : Index := Scalar.indexCast v2113
  let c1536_1940 : Index := 1536#32
  ![v2123.toNat, 1536]
@[reducible] def k0_t12_loop : Scf.Loop 32 :=
  let c1_i32_1357 : BitVec 32 := 1#32
  let c39_i32_1358 : BitVec 32 := 39#32
  let v1612 : BitVec 32 := Scalar.addi c1_i32_1357 c39_i32_1358
  let c1_i32_1359 : BitVec 32 := 1#32
  ⟨c1_i32_1357, v1612, c1_i32_1359⟩
def k0_mult19 (k0_t12 : Fin k0_t12_loop.trips) : BitVec 32 :=
  let c1_i32_1357 : BitVec 32 := 1#32
  let c1_i32_1359 : BitVec 32 := 1#32
  let arg31 : BitVec 32 := Scf.iv c1_i32_1357 c1_i32_1359 k0_t12
  let c8_i32 : BitVec 32 := 8#32
  let v2112 : BitVec 32 := Scalar.muli arg31 c8_i32
  v2112
def k0_mult20 (k0_t12 : Fin k0_t12_loop.trips) : BitVec 32 :=
  let c1_i32_1357 : BitVec 32 := 1#32
  let c1_i32_1359 : BitVec 32 := 1#32
  let arg31 : BitVec 32 := Scf.iv c1_i32_1357 c1_i32_1359 k0_t12
  let c1_i32_1935 : BitVec 32 := 1#32
  let v2114 : BitVec 32 := Scalar.subi arg31 c1_i32_1935
  let c8_i32_1936 : BitVec 32 := 8#32
  let v2115 : BitVec 32 := Scalar.muli v2114 c8_i32_1936
  v2115
def k0_off19 (k0_t12 : Fin k0_t12_loop.trips) : Fin 2 → Nat :=
  let c1_i32_1357 : BitVec 32 := 1#32
  let c1_i32_1359 : BitVec 32 := 1#32
  let arg31 : BitVec 32 := Scf.iv c1_i32_1357 c1_i32_1359 k0_t12
  let c1_i32_1935 : BitVec 32 := 1#32
  let v2114 : BitVec 32 := Scalar.subi arg31 c1_i32_1935
  let c8_i32_1936 : BitVec 32 := 8#32
  let v2115 : BitVec 32 := Scalar.muli v2114 c8_i32_1936
  let v2116 : BitVec 32 := v2115
  let v2117 : Index := Scalar.indexCast v2116
  let c1536_1937 : Index := 1536#32
  ![v2117.toNat, 1536]
def k0_off20 (k0_t12 : Fin k0_t12_loop.trips) : Fin 2 → Nat :=
  let c1_i32_1357 : BitVec 32 := 1#32
  let c1_i32_1359 : BitVec 32 := 1#32
  let arg31 : BitVec 32 := Scf.iv c1_i32_1357 c1_i32_1359 k0_t12
  let c8_i32 : BitVec 32 := 8#32
  let v2112 : BitVec 32 := Scalar.muli arg31 c8_i32
  let v2113 : BitVec 32 := v2112
  let v2123 : Index := Scalar.indexCast v2113
  let c1536_1939 : Index := 1536#32
  ![v2123.toNat, 1536]
def cc0_transform_0 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c12_i32 : BitVec 32 := 12#32
  let v0 : BitVec 32 := Scalar.subi c12_i32 arg0
  let c40_i32 : BitVec 32 := 40#32
  let v1 : BitVec 32 := Scalar.muli v0 c40_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c12_i32 : BitVec 32 := 12#32
  let v0 : BitVec 32 := Scalar.subi c12_i32 arg0
  let c40_i32 : BitVec 32 := 40#32
  let v1 : BitVec 32 := Scalar.muli v0 c40_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c12_i32 : BitVec 32 := 12#32
  let v0 : BitVec 32 := Scalar.subi c12_i32 arg0
  let c0_i32 : BitVec 32 := 0#32
  let c0_i32_0 : BitVec 32 := 0#32
  ![v0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x320x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x320x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S320x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4x512x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S16x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== S5BwdRefIdeal.lean ====
abbrev S4112x512 : Shape := ⟨2, ![4112, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x32x16x16 : Shape := ⟨4, ![1, 32, 16, 16]⟩
abbrev S1x512 : Shape := ⟨2, ![1, 512]⟩
abbrev S4112x32x16 : Shape := ⟨3, ![4112, 32, 16]⟩
abbrev S32x64 : Shape := ⟨2, ![32, 64]⟩
abbrev S32 : Shape := ⟨1, ![32]⟩
abbrev S32x64x16 : Shape := ⟨3, ![32, 64, 16]⟩
abbrev S_ : Shape := ⟨0, ![]⟩
abbrev S32x1 : Shape := ⟨2, ![32, 1]⟩
abbrev S32x64x1 : Shape := ⟨3, ![32, 64, 1]⟩
abbrev S32x64x4112 : Shape := ⟨3, ![32, 64, 4112]⟩
abbrev S4112x32x64 : Shape := ⟨3, ![4112, 32, 64]⟩
abbrev S4111x32x64 : Shape := ⟨3, ![4111, 32, 64]⟩
abbrev S2x32x64 : Shape := ⟨3, ![2, 32, 64]⟩
abbrev S4110x32x64 : Shape := ⟨3, ![4110, 32, 64]⟩
abbrev S4x32x64 : Shape := ⟨3, ![4, 32, 64]⟩
abbrev S4108x32x64 : Shape := ⟨3, ![4108, 32, 64]⟩
abbrev S8x32x64 : Shape := ⟨3, ![8, 32, 64]⟩
abbrev S4104x32x64 : Shape := ⟨3, ![4104, 32, 64]⟩
abbrev S16x32x64 : Shape := ⟨3, ![16, 32, 64]⟩
abbrev S4096x32x64 : Shape := ⟨3, ![4096, 32, 64]⟩
abbrev S32x32x64 : Shape := ⟨3, ![32, 32, 64]⟩
abbrev S4080x32x64 : Shape := ⟨3, ![4080, 32, 64]⟩
abbrev S64x32x64 : Shape := ⟨3, ![64, 32, 64]⟩
abbrev S4048x32x64 : Shape := ⟨3, ![4048, 32, 64]⟩
abbrev S128x32x64 : Shape := ⟨3, ![128, 32, 64]⟩
abbrev S3984x32x64 : Shape := ⟨3, ![3984, 32, 64]⟩
abbrev S256x32x64 : Shape := ⟨3, ![256, 32, 64]⟩
abbrev S3856x32x64 : Shape := ⟨3, ![3856, 32, 64]⟩
abbrev S512x32x64 : Shape := ⟨3, ![512, 32, 64]⟩
abbrev S3600x32x64 : Shape := ⟨3, ![3600, 32, 64]⟩
abbrev S1024x32x64 : Shape := ⟨3, ![1024, 32, 64]⟩
abbrev S3088x32x64 : Shape := ⟨3, ![3088, 32, 64]⟩
abbrev S2048x32x64 : Shape := ⟨3, ![2048, 32, 64]⟩
abbrev S2064x32x64 : Shape := ⟨3, ![2064, 32, 64]⟩
abbrev S32x16x64 : Shape := ⟨3, ![32, 16, 64]⟩
abbrev S32x16x4112 : Shape := ⟨3, ![32, 16, 4112]⟩
abbrev S32x16 : Shape := ⟨2, ![32, 16]⟩
abbrev S32x16x16 : Shape := ⟨3, ![32, 16, 16]⟩
abbrev S512 : Shape := ⟨1, ![512]⟩
abbrev S4112 : Shape := ⟨1, ![4112]⟩
abbrev S4112x1 : Shape := ⟨2, ![4112, 1]⟩
abbrev S32x4112x16 : Shape := ⟨3, ![32, 4112, 16]⟩
abbrev S32x4112x64 : Shape := ⟨3, ![32, 4112, 64]⟩

abbrev nBuf : Space → Nat
  | .hbm => 1589
  | .vmem => 0
  | .smem => 0
  | _ => 0

abbrev hbmTy0_0 (i : Nat) : BufTy := match i % 128 with
  | 0 => ⟨S4112x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x16, .f32⟩
  | 9 => ⟨S1x32x16x16, .f32⟩
  | 10 => ⟨S1x32x16, .f32⟩
  | 11 => ⟨S1x512, .f32⟩
  | 12 => ⟨S4112x512, .f32⟩
  | 13 => ⟨S4112x32x16, .f32⟩
  | 14 => ⟨S32x64, .f32⟩
  | 15 => ⟨S32x64, .f32⟩
  | 16 => ⟨S32, .f32⟩
  | 17 => ⟨S32x64x16, .f32⟩
  | 18 => ⟨S32x64x16, .f32⟩
  | 19 => ⟨S_, .f32⟩
  | 20 => ⟨S32x64, .f32⟩
  | 21 => ⟨S32x64, .f32⟩
  | 22 => ⟨S_, .f32⟩
  | 23 => ⟨S32x64, .f32⟩
  | 24 => ⟨S32x64, .i1⟩
  | 25 => ⟨S_, .f32⟩
  | 26 => ⟨S32x64, .f32⟩
  | 27 => ⟨S32x64, .i1⟩
  | 28 => ⟨S_, .f32⟩
  | 29 => ⟨S32x64, .f32⟩
  | 30 => ⟨S_, .f32⟩
  | 31 => ⟨S32x64, .f32⟩
  | 32 => ⟨S_, .f32⟩
  | 33 => ⟨S32x64, .f32⟩
  | 34 => ⟨S32x64, .f32⟩
  | 35 => ⟨S32x64, .f32⟩
  | 36 => ⟨S32, .f32⟩
  | 37 => ⟨S32x1, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S_, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S_, .f32⟩
  | 61 => ⟨S32x64, .f32⟩
  | 62 => ⟨S32x64, .f32⟩
  | 63 => ⟨S32x64x1, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S_, .f32⟩
  | 70 => ⟨S32x64, .f32⟩
  | 71 => ⟨S32x64, .f32⟩
  | 72 => ⟨S32x64x1, .f32⟩
  | 73 => ⟨S32x64x16, .f32⟩
  | 74 => ⟨S32x64x16, .f32⟩
  | 75 => ⟨S32x64x16, .f32⟩
  | 76 => ⟨S32x64x16, .f32⟩
  | 77 => ⟨S32x64x16, .f32⟩
  | 78 => ⟨S32x64x16, .f32⟩
  | 79 => ⟨S32x64x16, .f32⟩
  | 80 => ⟨S32x64x16, .f32⟩
  | 81 => ⟨S32x64x16, .f32⟩
  | 82 => ⟨S32x64x16, .f32⟩
  | 83 => ⟨S32x64x4112, .f32⟩
  | 84 => ⟨S4112x32x64, .f32⟩
  | 85 => ⟨S32x64x4112, .f32⟩
  | 86 => ⟨S4112x32x64, .f32⟩
  | 87 => ⟨S_, .f32⟩
  | 88 => ⟨S1x32x64, .f32⟩
  | 89 => ⟨S4111x32x64, .f32⟩
  | 90 => ⟨S4112x32x64, .f32⟩
  | 91 => ⟨S_, .f32⟩
  | 92 => ⟨S1x32x64, .f32⟩
  | 93 => ⟨S4111x32x64, .f32⟩
  | 94 => ⟨S4112x32x64, .f32⟩
  | 95 => ⟨S_, .f32⟩
  | 96 => ⟨S1x32x64, .f32⟩
  | 97 => ⟨S1x32x64, .f32⟩
  | 98 => ⟨S4112x32x64, .f32⟩
  | 99 => ⟨S4112x32x64, .f32⟩
  | 100 => ⟨S4112x32x64, .f32⟩
  | 101 => ⟨S1x32x64, .f32⟩
  | 102 => ⟨S4112x32x64, .f32⟩
  | 103 => ⟨S4112x32x64, .f32⟩
  | 104 => ⟨S4112x32x64, .f32⟩
  | 105 => ⟨S1x32x64, .f32⟩
  | 106 => ⟨S4112x32x64, .f32⟩
  | 107 => ⟨S4112x32x64, .f32⟩
  | 108 => ⟨S4112x32x64, .f32⟩
  | 109 => ⟨S1x32x64, .f32⟩
  | 110 => ⟨S4112x32x64, .f32⟩
  | 111 => ⟨S4112x32x64, .f32⟩
  | 112 => ⟨S4112x32x64, .f32⟩
  | 113 => ⟨S32x64, .f32⟩
  | 114 => ⟨S32x64, .f32⟩
  | 115 => ⟨S32x64, .f32⟩
  | 116 => ⟨S_, .f32⟩
  | 117 => ⟨S32x64, .f32⟩
  | 118 => ⟨S32x64, .f32⟩
  | 119 => ⟨S32x64, .f32⟩
  | 120 => ⟨S_, .f32⟩
  | 121 => ⟨S2x32x64, .f32⟩
  | 122 => ⟨S4110x32x64, .f32⟩
  | 123 => ⟨S4112x32x64, .f32⟩
  | 124 => ⟨S_, .f32⟩
  | 125 => ⟨S2x32x64, .f32⟩
  | 126 => ⟨S4110x32x64, .f32⟩
  | 127 => ⟨S4112x32x64, .f32⟩
  | _ => ⟨S4112x512, .f32⟩

abbrev hbmTy0_1 (i : Nat) : BufTy := match i % 128 with
  | 0 => ⟨S_, .f32⟩
  | 1 => ⟨S2x32x64, .f32⟩
  | 2 => ⟨S1x32x64, .f32⟩
  | 3 => ⟨S4112x32x64, .f32⟩
  | 4 => ⟨S4112x32x64, .f32⟩
  | 5 => ⟨S4112x32x64, .f32⟩
  | 6 => ⟨S1x32x64, .f32⟩
  | 7 => ⟨S4112x32x64, .f32⟩
  | 8 => ⟨S4112x32x64, .f32⟩
  | 9 => ⟨S4112x32x64, .f32⟩
  | 10 => ⟨S1x32x64, .f32⟩
  | 11 => ⟨S4112x32x64, .f32⟩
  | 12 => ⟨S4112x32x64, .f32⟩
  | 13 => ⟨S4112x32x64, .f32⟩
  | 14 => ⟨S1x32x64, .f32⟩
  | 15 => ⟨S4112x32x64, .f32⟩
  | 16 => ⟨S4112x32x64, .f32⟩
  | 17 => ⟨S4112x32x64, .f32⟩
  | 18 => ⟨S32x64, .f32⟩
  | 19 => ⟨S32x64, .f32⟩
  | 20 => ⟨S32x64, .f32⟩
  | 21 => ⟨S_, .f32⟩
  | 22 => ⟨S32x64, .f32⟩
  | 23 => ⟨S32x64, .f32⟩
  | 24 => ⟨S32x64, .f32⟩
  | 25 => ⟨S_, .f32⟩
  | 26 => ⟨S4x32x64, .f32⟩
  | 27 => ⟨S4108x32x64, .f32⟩
  | 28 => ⟨S4112x32x64, .f32⟩
  | 29 => ⟨S_, .f32⟩
  | 30 => ⟨S4x32x64, .f32⟩
  | 31 => ⟨S4108x32x64, .f32⟩
  | 32 => ⟨S4112x32x64, .f32⟩
  | 33 => ⟨S_, .f32⟩
  | 34 => ⟨S4x32x64, .f32⟩
  | 35 => ⟨S1x32x64, .f32⟩
  | 36 => ⟨S4112x32x64, .f32⟩
  | 37 => ⟨S4112x32x64, .f32⟩
  | 38 => ⟨S4112x32x64, .f32⟩
  | 39 => ⟨S1x32x64, .f32⟩
  | 40 => ⟨S4112x32x64, .f32⟩
  | 41 => ⟨S4112x32x64, .f32⟩
  | 42 => ⟨S4112x32x64, .f32⟩
  | 43 => ⟨S1x32x64, .f32⟩
  | 44 => ⟨S4112x32x64, .f32⟩
  | 45 => ⟨S4112x32x64, .f32⟩
  | 46 => ⟨S4112x32x64, .f32⟩
  | 47 => ⟨S1x32x64, .f32⟩
  | 48 => ⟨S4112x32x64, .f32⟩
  | 49 => ⟨S4112x32x64, .f32⟩
  | 50 => ⟨S4112x32x64, .f32⟩
  | 51 => ⟨S32x64, .f32⟩
  | 52 => ⟨S32x64, .f32⟩
  | 53 => ⟨S32x64, .f32⟩
  | 54 => ⟨S_, .f32⟩
  | 55 => ⟨S32x64, .f32⟩
  | 56 => ⟨S32x64, .f32⟩
  | 57 => ⟨S32x64, .f32⟩
  | 58 => ⟨S_, .f32⟩
  | 59 => ⟨S8x32x64, .f32⟩
  | 60 => ⟨S4104x32x64, .f32⟩
  | 61 => ⟨S4112x32x64, .f32⟩
  | 62 => ⟨S_, .f32⟩
  | 63 => ⟨S8x32x64, .f32⟩
  | 64 => ⟨S4104x32x64, .f32⟩
  | 65 => ⟨S4112x32x64, .f32⟩
  | 66 => ⟨S_, .f32⟩
  | 67 => ⟨S8x32x64, .f32⟩
  | 68 => ⟨S1x32x64, .f32⟩
  | 69 => ⟨S4112x32x64, .f32⟩
  | 70 => ⟨S4112x32x64, .f32⟩
  | 71 => ⟨S4112x32x64, .f32⟩
  | 72 => ⟨S1x32x64, .f32⟩
  | 73 => ⟨S4112x32x64, .f32⟩
  | 74 => ⟨S4112x32x64, .f32⟩
  | 75 => ⟨S4112x32x64, .f32⟩
  | 76 => ⟨S1x32x64, .f32⟩
  | 77 => ⟨S4112x32x64, .f32⟩
  | 78 => ⟨S4112x32x64, .f32⟩
  | 79 => ⟨S4112x32x64, .f32⟩
  | 80 => ⟨S1x32x64, .f32⟩
  | 81 => ⟨S4112x32x64, .f32⟩
  | 82 => ⟨S4112x32x64, .f32⟩
  | 83 => ⟨S4112x32x64, .f32⟩
  | 84 => ⟨S32x64, .f32⟩
  | 85 => ⟨S32x64, .f32⟩
  | 86 => ⟨S32x64, .f32⟩
  | 87 => ⟨S_, .f32⟩
  | 88 => ⟨S32x64, .f32⟩
  | 89 => ⟨S32x64, .f32⟩
  | 90 => ⟨S32x64, .f32⟩
  | 91 => ⟨S_, .f32⟩
  | 92 => ⟨S16x32x64, .f32⟩
  | 93 => ⟨S4096x32x64, .f32⟩
  | 94 => ⟨S4112x32x64, .f32⟩
  | 95 => ⟨S_, .f32⟩
  | 96 => ⟨S16x32x64, .f32⟩
  | 97 => ⟨S4096x32x64, .f32⟩
  | 98 => ⟨S4112x32x64, .f32⟩
  | 99 => ⟨S_, .f32⟩
  | 100 => ⟨S16x32x64, .f32⟩
  | 101 => ⟨S1x32x64, .f32⟩
  | 102 => ⟨S4112x32x64, .f32⟩
  | 103 => ⟨S4112x32x64, .f32⟩
  | 104 => ⟨S4112x32x64, .f32⟩
  | 105 => ⟨S1x32x64, .f32⟩
  | 106 => ⟨S4112x32x64, .f32⟩
  | 107 => ⟨S4112x32x64, .f32⟩
  | 108 => ⟨S4112x32x64, .f32⟩
  | 109 => ⟨S1x32x64, .f32⟩
  | 110 => ⟨S4112x32x64, .f32⟩
  | 111 => ⟨S4112x32x64, .f32⟩
  | 112 => ⟨S4112x32x64, .f32⟩
  | 113 => ⟨S1x32x64, .f32⟩
  | 114 => ⟨S4112x32x64, .f32⟩
  | 115 => ⟨S4112x32x64, .f32⟩
  | 116 => ⟨S4112x32x64, .f32⟩
  | 117 => ⟨S32x64, .f32⟩
  | 118 => ⟨S32x64, .f32⟩
  | 119 => ⟨S32x64, .f32⟩
  | 120 => ⟨S_, .f32⟩
  | 121 => ⟨S32x64, .f32⟩
  | 122 => ⟨S32x64, .f32⟩
  | 123 => ⟨S32x64, .f32⟩
  | 124 => ⟨S_, .f32⟩
  | 125 => ⟨S32x32x64, .f32⟩
  | 126 => ⟨S4080x32x64, .f32⟩
  | 127 => ⟨S4112x32x64, .f32⟩
  | _ => ⟨S4112x512, .f32⟩

abbrev hbmTy0_2 (i : Nat) : BufTy := match i % 128 with
  | 0 => ⟨S_, .f32⟩
  | 1 => ⟨S32x32x64, .f32⟩
  | 2 => ⟨S4080x32x64, .f32⟩
  | 3 => ⟨S4112x32x64, .f32⟩
  | 4 => ⟨S_, .f32⟩
  | 5 => ⟨S32x32x64, .f32⟩
  | 6 => ⟨S1x32x64, .f32⟩
  | 7 => ⟨S4112x32x64, .f32⟩
  | 8 => ⟨S4112x32x64, .f32⟩
  | 9 => ⟨S4112x32x64, .f32⟩
  | 10 => ⟨S1x32x64, .f32⟩
  | 11 => ⟨S4112x32x64, .f32⟩
  | 12 => ⟨S4112x32x64, .f32⟩
  | 13 => ⟨S4112x32x64, .f32⟩
  | 14 => ⟨S1x32x64, .f32⟩
  | 15 => ⟨S4112x32x64, .f32⟩
  | 16 => ⟨S4112x32x64, .f32⟩
  | 17 => ⟨S4112x32x64, .f32⟩
  | 18 => ⟨S1x32x64, .f32⟩
  | 19 => ⟨S4112x32x64, .f32⟩
  | 20 => ⟨S4112x32x64, .f32⟩
  | 21 => ⟨S4112x32x64, .f32⟩
  | 22 => ⟨S32x64, .f32⟩
  | 23 => ⟨S32x64, .f32⟩
  | 24 => ⟨S32x64, .f32⟩
  | 25 => ⟨S_, .f32⟩
  | 26 => ⟨S32x64, .f32⟩
  | 27 => ⟨S32x64, .f32⟩
  | 28 => ⟨S32x64, .f32⟩
  | 29 => ⟨S_, .f32⟩
  | 30 => ⟨S64x32x64, .f32⟩
  | 31 => ⟨S4048x32x64, .f32⟩
  | 32 => ⟨S4112x32x64, .f32⟩
  | 33 => ⟨S_, .f32⟩
  | 34 => ⟨S64x32x64, .f32⟩
  | 35 => ⟨S4048x32x64, .f32⟩
  | 36 => ⟨S4112x32x64, .f32⟩
  | 37 => ⟨S_, .f32⟩
  | 38 => ⟨S64x32x64, .f32⟩
  | 39 => ⟨S1x32x64, .f32⟩
  | 40 => ⟨S4112x32x64, .f32⟩
  | 41 => ⟨S4112x32x64, .f32⟩
  | 42 => ⟨S4112x32x64, .f32⟩
  | 43 => ⟨S1x32x64, .f32⟩
  | 44 => ⟨S4112x32x64, .f32⟩
  | 45 => ⟨S4112x32x64, .f32⟩
  | 46 => ⟨S4112x32x64, .f32⟩
  | 47 => ⟨S1x32x64, .f32⟩
  | 48 => ⟨S4112x32x64, .f32⟩
  | 49 => ⟨S4112x32x64, .f32⟩
  | 50 => ⟨S4112x32x64, .f32⟩
  | 51 => ⟨S1x32x64, .f32⟩
  | 52 => ⟨S4112x32x64, .f32⟩
  | 53 => ⟨S4112x32x64, .f32⟩
  | 54 => ⟨S4112x32x64, .f32⟩
  | 55 => ⟨S32x64, .f32⟩
  | 56 => ⟨S32x64, .f32⟩
  | 57 => ⟨S32x64, .f32⟩
  | 58 => ⟨S_, .f32⟩
  | 59 => ⟨S32x64, .f32⟩
  | 60 => ⟨S32x64, .f32⟩
  | 61 => ⟨S32x64, .f32⟩
  | 62 => ⟨S_, .f32⟩
  | 63 => ⟨S128x32x64, .f32⟩
  | 64 => ⟨S3984x32x64, .f32⟩
  | 65 => ⟨S4112x32x64, .f32⟩
  | 66 => ⟨S_, .f32⟩
  | 67 => ⟨S128x32x64, .f32⟩
  | 68 => ⟨S3984x32x64, .f32⟩
  | 69 => ⟨S4112x32x64, .f32⟩
  | 70 => ⟨S_, .f32⟩
  | 71 => ⟨S128x32x64, .f32⟩
  | 72 => ⟨S1x32x64, .f32⟩
  | 73 => ⟨S4112x32x64, .f32⟩
  | 74 => ⟨S4112x32x64, .f32⟩
  | 75 => ⟨S4112x32x64, .f32⟩
  | 76 => ⟨S1x32x64, .f32⟩
  | 77 => ⟨S4112x32x64, .f32⟩
  | 78 => ⟨S4112x32x64, .f32⟩
  | 79 => ⟨S4112x32x64, .f32⟩
  | 80 => ⟨S1x32x64, .f32⟩
  | 81 => ⟨S4112x32x64, .f32⟩
  | 82 => ⟨S4112x32x64, .f32⟩
  | 83 => ⟨S4112x32x64, .f32⟩
  | 84 => ⟨S1x32x64, .f32⟩
  | 85 => ⟨S4112x32x64, .f32⟩
  | 86 => ⟨S4112x32x64, .f32⟩
  | 87 => ⟨S4112x32x64, .f32⟩
  | 88 => ⟨S32x64, .f32⟩
  | 89 => ⟨S32x64, .f32⟩
  | 90 => ⟨S32x64, .f32⟩
  | 91 => ⟨S_, .f32⟩
  | 92 => ⟨S32x64, .f32⟩
  | 93 => ⟨S32x64, .f32⟩
  | 94 => ⟨S32x64, .f32⟩
  | 95 => ⟨S_, .f32⟩
  | 96 => ⟨S256x32x64, .f32⟩
  | 97 => ⟨S3856x32x64, .f32⟩
  | 98 => ⟨S4112x32x64, .f32⟩
  | 99 => ⟨S_, .f32⟩
  | 100 => ⟨S256x32x64, .f32⟩
  | 101 => ⟨S3856x32x64, .f32⟩
  | 102 => ⟨S4112x32x64, .f32⟩
  | 103 => ⟨S_, .f32⟩
  | 104 => ⟨S256x32x64, .f32⟩
  | 105 => ⟨S1x32x64, .f32⟩
  | 106 => ⟨S4112x32x64, .f32⟩
  | 107 => ⟨S4112x32x64, .f32⟩
  | 108 => ⟨S4112x32x64, .f32⟩
  | 109 => ⟨S1x32x64, .f32⟩
  | 110 => ⟨S4112x32x64, .f32⟩
  | 111 => ⟨S4112x32x64, .f32⟩
  | 112 => ⟨S4112x32x64, .f32⟩
  | 113 => ⟨S1x32x64, .f32⟩
  | 114 => ⟨S4112x32x64, .f32⟩
  | 115 => ⟨S4112x32x64, .f32⟩
  | 116 => ⟨S4112x32x64, .f32⟩
  | 117 => ⟨S1x32x64, .f32⟩
  | 118 => ⟨S4112x32x64, .f32⟩
  | 119 => ⟨S4112x32x64, .f32⟩
  | 120 => ⟨S4112x32x64, .f32⟩
  | 121 => ⟨S32x64, .f32⟩
  | 122 => ⟨S32x64, .f32⟩
  | 123 => ⟨S32x64, .f32⟩
  | 124 => ⟨S_, .f32⟩
  | 125 => ⟨S32x64, .f32⟩
  | 126 => ⟨S32x64, .f32⟩
  | 127 => ⟨S32x64, .f32⟩
  | _ => ⟨S4112x512, .f32⟩

abbrev hbmTy0_3 (i : Nat) : BufTy := match i % 128 with
  | 0 => ⟨S_, .f32⟩
  | 1 => ⟨S512x32x64, .f32⟩
  | 2 => ⟨S3600x32x64, .f32⟩
  | 3 => ⟨S4112x32x64, .f32⟩
  | 4 => ⟨S_, .f32⟩
  | 5 => ⟨S512x32x64, .f32⟩
  | 6 => ⟨S3600x32x64, .f32⟩
  | 7 => ⟨S4112x32x64, .f32⟩
  | 8 => ⟨S_, .f32⟩
  | 9 => ⟨S512x32x64, .f32⟩
  | 10 => ⟨S1x32x64, .f32⟩
  | 11 => ⟨S4112x32x64, .f32⟩
  | 12 => ⟨S4112x32x64, .f32⟩
  | 13 => ⟨S4112x32x64, .f32⟩
  | 14 => ⟨S1x32x64, .f32⟩
  | 15 => ⟨S4112x32x64, .f32⟩
  | 16 => ⟨S4112x32x64, .f32⟩
  | 17 => ⟨S4112x32x64, .f32⟩
  | 18 => ⟨S1x32x64, .f32⟩
  | 19 => ⟨S4112x32x64, .f32⟩
  | 20 => ⟨S4112x32x64, .f32⟩
  | 21 => ⟨S4112x32x64, .f32⟩
  | 22 => ⟨S1x32x64, .f32⟩
  | 23 => ⟨S4112x32x64, .f32⟩
  | 24 => ⟨S4112x32x64, .f32⟩
  | 25 => ⟨S4112x32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S_, .f32⟩
  | 34 => ⟨S1024x32x64, .f32⟩
  | 35 => ⟨S3088x32x64, .f32⟩
  | 36 => ⟨S4112x32x64, .f32⟩
  | 37 => ⟨S_, .f32⟩
  | 38 => ⟨S1024x32x64, .f32⟩
  | 39 => ⟨S3088x32x64, .f32⟩
  | 40 => ⟨S4112x32x64, .f32⟩
  | 41 => ⟨S_, .f32⟩
  | 42 => ⟨S1024x32x64, .f32⟩
  | 43 => ⟨S1x32x64, .f32⟩
  | 44 => ⟨S4112x32x64, .f32⟩
  | 45 => ⟨S4112x32x64, .f32⟩
  | 46 => ⟨S4112x32x64, .f32⟩
  | 47 => ⟨S1x32x64, .f32⟩
  | 48 => ⟨S4112x32x64, .f32⟩
  | 49 => ⟨S4112x32x64, .f32⟩
  | 50 => ⟨S4112x32x64, .f32⟩
  | 51 => ⟨S1x32x64, .f32⟩
  | 52 => ⟨S4112x32x64, .f32⟩
  | 53 => ⟨S4112x32x64, .f32⟩
  | 54 => ⟨S4112x32x64, .f32⟩
  | 55 => ⟨S1x32x64, .f32⟩
  | 56 => ⟨S4112x32x64, .f32⟩
  | 57 => ⟨S4112x32x64, .f32⟩
  | 58 => ⟨S4112x32x64, .f32⟩
  | 59 => ⟨S32x64, .f32⟩
  | 60 => ⟨S32x64, .f32⟩
  | 61 => ⟨S32x64, .f32⟩
  | 62 => ⟨S_, .f32⟩
  | 63 => ⟨S32x64, .f32⟩
  | 64 => ⟨S32x64, .f32⟩
  | 65 => ⟨S32x64, .f32⟩
  | 66 => ⟨S_, .f32⟩
  | 67 => ⟨S2048x32x64, .f32⟩
  | 68 => ⟨S2064x32x64, .f32⟩
  | 69 => ⟨S4112x32x64, .f32⟩
  | 70 => ⟨S_, .f32⟩
  | 71 => ⟨S2048x32x64, .f32⟩
  | 72 => ⟨S2064x32x64, .f32⟩
  | 73 => ⟨S4112x32x64, .f32⟩
  | 74 => ⟨S_, .f32⟩
  | 75 => ⟨S2048x32x64, .f32⟩
  | 76 => ⟨S1x32x64, .f32⟩
  | 77 => ⟨S4112x32x64, .f32⟩
  | 78 => ⟨S4112x32x64, .f32⟩
  | 79 => ⟨S4112x32x64, .f32⟩
  | 80 => ⟨S1x32x64, .f32⟩
  | 81 => ⟨S4112x32x64, .f32⟩
  | 82 => ⟨S4112x32x64, .f32⟩
  | 83 => ⟨S4112x32x64, .f32⟩
  | 84 => ⟨S1x32x64, .f32⟩
  | 85 => ⟨S4112x32x64, .f32⟩
  | 86 => ⟨S4112x32x64, .f32⟩
  | 87 => ⟨S4112x32x64, .f32⟩
  | 88 => ⟨S1x32x64, .f32⟩
  | 89 => ⟨S4112x32x64, .f32⟩
  | 90 => ⟨S4112x32x64, .f32⟩
  | 91 => ⟨S4112x32x64, .f32⟩
  | 92 => ⟨S32x64, .f32⟩
  | 93 => ⟨S32x64, .f32⟩
  | 94 => ⟨S32x64, .f32⟩
  | 95 => ⟨S_, .f32⟩
  | 96 => ⟨S32x64, .f32⟩
  | 97 => ⟨S32x64, .f32⟩
  | 98 => ⟨S32x64, .f32⟩
  | 99 => ⟨S_, .f32⟩
  | 100 => ⟨S4096x32x64, .f32⟩
  | 101 => ⟨S16x32x64, .f32⟩
  | 102 => ⟨S4112x32x64, .f32⟩
  | 103 => ⟨S_, .f32⟩
  | 104 => ⟨S4096x32x64, .f32⟩
  | 105 => ⟨S16x32x64, .f32⟩
  | 106 => ⟨S4112x32x64, .f32⟩
  | 107 => ⟨S_, .f32⟩
  | 108 => ⟨S4096x32x64, .f32⟩
  | 109 => ⟨S1x32x64, .f32⟩
  | 110 => ⟨S4112x32x64, .f32⟩
  | 111 => ⟨S4112x32x64, .f32⟩
  | 112 => ⟨S4112x32x64, .f32⟩
  | 113 => ⟨S1x32x64, .f32⟩
  | 114 => ⟨S4112x32x64, .f32⟩
  | 115 => ⟨S4112x32x64, .f32⟩
  | 116 => ⟨S4112x32x64, .f32⟩
  | 117 => ⟨S1x32x64, .f32⟩
  | 118 => ⟨S4112x32x64, .f32⟩
  | 119 => ⟨S4112x32x64, .f32⟩
  | 120 => ⟨S4112x32x64, .f32⟩
  | 121 => ⟨S1x32x64, .f32⟩
  | 122 => ⟨S4112x32x64, .f32⟩
  | 123 => ⟨S4112x32x64, .f32⟩
  | 124 => ⟨S4112x32x64, .f32⟩
  | 125 => ⟨S32x64, .f32⟩
  | 126 => ⟨S32x64, .f32⟩
  | 127 => ⟨S32x64, .f32⟩
  | _ => ⟨S4112x512, .f32⟩

abbrev hbmTy0_4 (i : Nat) : BufTy := match i % 128 with
  | 0 => ⟨S_, .f32⟩
  | 1 => ⟨S32x64, .f32⟩
  | 2 => ⟨S32x64, .f32⟩
  | 3 => ⟨S32x64, .f32⟩
  | 4 => ⟨S32x16x64, .f32⟩
  | 5 => ⟨S32x16x4112, .f32⟩
  | 6 => ⟨S4112x32x16, .f32⟩
  | 7 => ⟨S32x16x64, .f32⟩
  | 8 => ⟨S32x16x4112, .f32⟩
  | 9 => ⟨S4112x32x16, .f32⟩
  | 10 => ⟨S4112x32x16, .f32⟩
  | 11 => ⟨S32x16, .f32⟩
  | 12 => ⟨S1x32x16, .f32⟩
  | 13 => ⟨S4112x32x16, .f32⟩
  | 14 => ⟨S4112x32x16, .f32⟩
  | 15 => ⟨S4112x32x16, .f32⟩
  | 16 => ⟨S4112x32x16, .f32⟩
  | 17 => ⟨S4112x32x16, .f32⟩
  | 18 => ⟨S4112x32x16, .f32⟩
  | 19 => ⟨S_, .f32⟩
  | 20 => ⟨S4112x32x16, .f32⟩
  | 21 => ⟨S4112x32x16, .f32⟩
  | 22 => ⟨S_, .f32⟩
  | 23 => ⟨S4112x32x16, .f32⟩
  | 24 => ⟨S4112x32x16, .f32⟩
  | 25 => ⟨S4112x32x16, .f32⟩
  | 26 => ⟨S_, .f32⟩
  | 27 => ⟨S4112x32x16, .f32⟩
  | 28 => ⟨S4112x32x16, .f32⟩
  | 29 => ⟨S4112x32x16, .f32⟩
  | 30 => ⟨S_, .f32⟩
  | 31 => ⟨S4112x32x16, .f32⟩
  | 32 => ⟨S4112x32x16, .f32⟩
  | 33 => ⟨S_, .f32⟩
  | 34 => ⟨S4112x32x16, .f32⟩
  | 35 => ⟨S4112x32x16, .f32⟩
  | 36 => ⟨S4112x32x16, .f32⟩
  | 37 => ⟨S_, .f32⟩
  | 38 => ⟨S4112x32x16, .f32⟩
  | 39 => ⟨S4112x32x16, .f32⟩
  | 40 => ⟨S_, .f32⟩
  | 41 => ⟨S4112x32x16, .f32⟩
  | 42 => ⟨S4112x32x16, .f32⟩
  | 43 => ⟨S4112x32x16, .f32⟩
  | 44 => ⟨S32x16x16, .f32⟩
  | 45 => ⟨S32x16x4112, .f32⟩
  | 46 => ⟨S4112x32x16, .f32⟩
  | 47 => ⟨S32x16, .f32⟩
  | 48 => ⟨S1x32x16, .f32⟩
  | 49 => ⟨S4112x32x16, .f32⟩
  | 50 => ⟨S4112x32x16, .f32⟩
  | 51 => ⟨S4112x32x16, .f32⟩
  | 52 => ⟨S4112x32x16, .f32⟩
  | 53 => ⟨S_, .f32⟩
  | 54 => ⟨S4112x32x16, .f32⟩
  | 55 => ⟨S4112x32x16, .f32⟩
  | 56 => ⟨S_, .f32⟩
  | 57 => ⟨S4112x32x16, .f32⟩
  | 58 => ⟨S4112x32x16, .f32⟩
  | 59 => ⟨S_, .f32⟩
  | 60 => ⟨S4112x32x16, .f32⟩
  | 61 => ⟨S4112x32x16, .f32⟩
  | 62 => ⟨S4112x32x16, .f32⟩
  | 63 => ⟨S4112x32x16, .f32⟩
  | 64 => ⟨S4112x512, .f32⟩
  | 65 => ⟨S512, .f32⟩
  | 66 => ⟨S4112x512, .f32⟩
  | 67 => ⟨S_, .f32⟩
  | 68 => ⟨S4112, .f32⟩
  | 69 => ⟨S4112x1, .f32⟩
  | 70 => ⟨S_, .f32⟩
  | 71 => ⟨S4112x1, .f32⟩
  | 72 => ⟨S4112x1, .f32⟩
  | 73 => ⟨S_, .f32⟩
  | 74 => ⟨S4112x1, .f32⟩
  | 75 => ⟨S4112x1, .f32⟩
  | 76 => ⟨S4112x1, .f32⟩
  | 77 => ⟨S4112x1, .f32⟩
  | 78 => ⟨S_, .f32⟩
  | 79 => ⟨S4112x1, .f32⟩
  | 80 => ⟨S4112x1, .f32⟩
  | 81 => ⟨S4112x512, .f32⟩
  | 82 => ⟨S4112x512, .f32⟩
  | 83 => ⟨S1x512, .f32⟩
  | 84 => ⟨S4112x512, .f32⟩
  | 85 => ⟨S4112x512, .f32⟩
  | 86 => ⟨S4112x512, .f32⟩
  | 87 => ⟨S_, .f32⟩
  | 88 => ⟨S512, .f32⟩
  | 89 => ⟨S1x512, .f32⟩
  | 90 => ⟨S4112x512, .f32⟩
  | 91 => ⟨S4112x512, .f32⟩
  | 92 => ⟨S_, .f32⟩
  | 93 => ⟨S512, .f32⟩
  | 94 => ⟨S4112x512, .f32⟩
  | 95 => ⟨S_, .f32⟩
  | 96 => ⟨S4112, .f32⟩
  | 97 => ⟨S4112x1, .f32⟩
  | 98 => ⟨S4112x512, .f32⟩
  | 99 => ⟨S4112x512, .f32⟩
  | 100 => ⟨S4112x1, .f32⟩
  | 101 => ⟨S_, .f32⟩
  | 102 => ⟨S4112x1, .f32⟩
  | 103 => ⟨S4112x1, .f32⟩
  | 104 => ⟨S_, .f32⟩
  | 105 => ⟨S4112, .f32⟩
  | 106 => ⟨S4112x512, .f32⟩
  | 107 => ⟨S4112x512, .f32⟩
  | 108 => ⟨S4112x512, .f32⟩
  | 109 => ⟨S4112x512, .f32⟩
  | 110 => ⟨S4112x512, .f32⟩
  | 111 => ⟨S1x512, .f32⟩
  | 112 => ⟨S4112x32x16, .f32⟩
  | 113 => ⟨S4112x32x16, .f32⟩
  | 114 => ⟨S4112x32x16, .f32⟩
  | 115 => ⟨S4112x32x16, .f32⟩
  | 116 => ⟨S_, .f32⟩
  | 117 => ⟨S32x16, .f32⟩
  | 118 => ⟨S1x32x16, .f32⟩
  | 119 => ⟨S_, .f32⟩
  | 120 => ⟨S32x16, .f32⟩
  | 121 => ⟨S1x32x16, .f32⟩
  | 122 => ⟨S32x16x4112, .f32⟩
  | 123 => ⟨S32x4112x16, .f32⟩
  | 124 => ⟨S4112x32x16, .f32⟩
  | 125 => ⟨S4112x32x16, .f32⟩
  | 126 => ⟨S32x16x16, .f32⟩
  | 127 => ⟨S32x16x16, .f32⟩
  | _ => ⟨S4112x512, .f32⟩

abbrev hbmTy0_5 (i : Nat) : BufTy := match i % 128 with
  | 0 => ⟨S1x32x16x16, .f32⟩
  | 1 => ⟨S4112x32x16, .f32⟩
  | 2 => ⟨S4112x32x16, .f32⟩
  | 3 => ⟨S_, .f32⟩
  | 4 => ⟨S4112x32x16, .f32⟩
  | 5 => ⟨S4112x32x16, .f32⟩
  | 6 => ⟨S4112x32x16, .f32⟩
  | 7 => ⟨S_, .f32⟩
  | 8 => ⟨S4112x32x16, .f32⟩
  | 9 => ⟨S4112x32x16, .f32⟩
  | 10 => ⟨S4112x32x16, .f32⟩
  | 11 => ⟨S_, .f32⟩
  | 12 => ⟨S4112x32x16, .f32⟩
  | 13 => ⟨S4112x32x16, .f32⟩
  | 14 => ⟨S4112x32x16, .f32⟩
  | 15 => ⟨S4112x32x16, .f32⟩
  | 16 => ⟨S4112x32x16, .f32⟩
  | 17 => ⟨S4112x32x16, .f32⟩
  | 18 => ⟨S4112x32x16, .f32⟩
  | 19 => ⟨S_, .f32⟩
  | 20 => ⟨S32x16, .f32⟩
  | 21 => ⟨S1x32x16, .f32⟩
  | 22 => ⟨S_, .f32⟩
  | 23 => ⟨S32x16, .f32⟩
  | 24 => ⟨S1x32x16, .f32⟩
  | 25 => ⟨S4112x32x16, .f32⟩
  | 26 => ⟨S32x16x4112, .f32⟩
  | 27 => ⟨S32x4112x64, .f32⟩
  | 28 => ⟨S4112x32x64, .f32⟩
  | 29 => ⟨S32x16x64, .f32⟩
  | 30 => ⟨S1x32x16x64, .f32⟩
  | 31 => ⟨S32x16x4112, .f32⟩
  | 32 => ⟨S32x4112x64, .f32⟩
  | 33 => ⟨S4112x32x64, .f32⟩
  | 34 => ⟨S32x16x64, .f32⟩
  | 35 => ⟨S1x32x16x64, .f32⟩
  | 36 => ⟨S4112x32x64, .f32⟩
  | 37 => ⟨S4112x32x64, .f32⟩
  | 38 => ⟨S4112x32x64, .f32⟩
  | 39 => ⟨S_, .f32⟩
  | 40 => ⟨S32x64, .f32⟩
  | 41 => ⟨S1x32x64, .f32⟩
  | 42 => ⟨S_, .f32⟩
  | 43 => ⟨S32x64, .f32⟩
  | 44 => ⟨S4112x32x64, .f32⟩
  | 45 => ⟨S4112x32x64, .f32⟩
  | 46 => ⟨S4112x32x64, .f32⟩
  | 47 => ⟨S_, .f32⟩
  | 48 => ⟨S32x64, .f32⟩
  | 49 => ⟨S1x32x64, .f32⟩
  | 50 => ⟨S_, .f32⟩
  | 51 => ⟨S32x64, .f32⟩
  | 52 => ⟨S4112x32x64, .f32⟩
  | 53 => ⟨S4112x32x64, .f32⟩
  | 54 => ⟨S4112x32x64, .f32⟩
  | 55 => ⟨S4112x32x64, .f32⟩
  | 56 => ⟨S4112x32x64, .f32⟩
  | 57 => ⟨S_, .f32⟩
  | 58 => ⟨S32x64, .f32⟩
  | 59 => ⟨S1x32x64, .f32⟩
  | 60 => ⟨S_, .f32⟩
  | 61 => ⟨S32x64, .f32⟩
  | 62 => ⟨S32x64, .f32⟩
  | 63 => ⟨S4112x32x64, .f32⟩
  | 64 => ⟨S4112x32x64, .f32⟩
  | 65 => ⟨S4112x32x64, .f32⟩
  | 66 => ⟨S4112x32x64, .f32⟩
  | 67 => ⟨S_, .f32⟩
  | 68 => ⟨S32x64, .f32⟩
  | 69 => ⟨S1x32x64, .f32⟩
  | 70 => ⟨S_, .f32⟩
  | 71 => ⟨S32x64, .f32⟩
  | 72 => ⟨S32x64, .f32⟩
  | 73 => ⟨S4096x32x64, .f32⟩
  | 74 => ⟨S16x32x64, .f32⟩
  | 75 => ⟨S_, .f32⟩
  | 76 => ⟨S4112x32x64, .f32⟩
  | 77 => ⟨S4112x32x64, .f32⟩
  | 78 => ⟨S4096x32x64, .f32⟩
  | 79 => ⟨S16x32x64, .f32⟩
  | 80 => ⟨S_, .f32⟩
  | 81 => ⟨S4112x32x64, .f32⟩
  | 82 => ⟨S4112x32x64, .f32⟩
  | 83 => ⟨S32x64, .f32⟩
  | 84 => ⟨S32x64, .f32⟩
  | 85 => ⟨S_, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S4112x32x64, .f32⟩
  | 98 => ⟨S4112x32x64, .f32⟩
  | 99 => ⟨S4112x32x64, .f32⟩
  | 100 => ⟨S_, .f32⟩
  | 101 => ⟨S32x64, .f32⟩
  | 102 => ⟨S1x32x64, .f32⟩
  | 103 => ⟨S_, .f32⟩
  | 104 => ⟨S32x64, .f32⟩
  | 105 => ⟨S32x64, .f32⟩
  | 106 => ⟨S4112x32x64, .f32⟩
  | 107 => ⟨S4112x32x64, .f32⟩
  | 108 => ⟨S4112x32x64, .f32⟩
  | 109 => ⟨S_, .f32⟩
  | 110 => ⟨S32x64, .f32⟩
  | 111 => ⟨S1x32x64, .f32⟩
  | 112 => ⟨S_, .f32⟩
  | 113 => ⟨S32x64, .f32⟩
  | 114 => ⟨S32x64, .f32⟩
  | 115 => ⟨S4112x32x64, .f32⟩
  | 116 => ⟨S4112x32x64, .f32⟩
  | 117 => ⟨S4112x32x64, .f32⟩
  | 118 => ⟨S4112x32x64, .f32⟩
  | 119 => ⟨S4112x32x64, .f32⟩
  | 120 => ⟨S_, .f32⟩
  | 121 => ⟨S32x64, .f32⟩
  | 122 => ⟨S1x32x64, .f32⟩
  | 123 => ⟨S_, .f32⟩
  | 124 => ⟨S32x64, .f32⟩
  | 125 => ⟨S32x64, .f32⟩
  | 126 => ⟨S4112x32x64, .f32⟩
  | 127 => ⟨S4112x32x64, .f32⟩
  | _ => ⟨S4112x512, .f32⟩

abbrev hbmTy0_6 (i : Nat) : BufTy := match i % 128 with
  | 0 => ⟨S4112x32x64, .f32⟩
  | 1 => ⟨S4112x32x64, .f32⟩
  | 2 => ⟨S_, .f32⟩
  | 3 => ⟨S32x64, .f32⟩
  | 4 => ⟨S1x32x64, .f32⟩
  | 5 => ⟨S_, .f32⟩
  | 6 => ⟨S32x64, .f32⟩
  | 7 => ⟨S32x64, .f32⟩
  | 8 => ⟨S2048x32x64, .f32⟩
  | 9 => ⟨S2064x32x64, .f32⟩
  | 10 => ⟨S_, .f32⟩
  | 11 => ⟨S4112x32x64, .f32⟩
  | 12 => ⟨S4112x32x64, .f32⟩
  | 13 => ⟨S2048x32x64, .f32⟩
  | 14 => ⟨S2064x32x64, .f32⟩
  | 15 => ⟨S_, .f32⟩
  | 16 => ⟨S4112x32x64, .f32⟩
  | 17 => ⟨S4112x32x64, .f32⟩
  | 18 => ⟨S32x64, .f32⟩
  | 19 => ⟨S32x64, .f32⟩
  | 20 => ⟨S_, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S4112x32x64, .f32⟩
  | 33 => ⟨S4112x32x64, .f32⟩
  | 34 => ⟨S4112x32x64, .f32⟩
  | 35 => ⟨S_, .f32⟩
  | 36 => ⟨S32x64, .f32⟩
  | 37 => ⟨S1x32x64, .f32⟩
  | 38 => ⟨S_, .f32⟩
  | 39 => ⟨S32x64, .f32⟩
  | 40 => ⟨S32x64, .f32⟩
  | 41 => ⟨S4112x32x64, .f32⟩
  | 42 => ⟨S4112x32x64, .f32⟩
  | 43 => ⟨S4112x32x64, .f32⟩
  | 44 => ⟨S_, .f32⟩
  | 45 => ⟨S32x64, .f32⟩
  | 46 => ⟨S1x32x64, .f32⟩
  | 47 => ⟨S_, .f32⟩
  | 48 => ⟨S32x64, .f32⟩
  | 49 => ⟨S32x64, .f32⟩
  | 50 => ⟨S4112x32x64, .f32⟩
  | 51 => ⟨S4112x32x64, .f32⟩
  | 52 => ⟨S4112x32x64, .f32⟩
  | 53 => ⟨S4112x32x64, .f32⟩
  | 54 => ⟨S4112x32x64, .f32⟩
  | 55 => ⟨S_, .f32⟩
  | 56 => ⟨S32x64, .f32⟩
  | 57 => ⟨S1x32x64, .f32⟩
  | 58 => ⟨S_, .f32⟩
  | 59 => ⟨S32x64, .f32⟩
  | 60 => ⟨S32x64, .f32⟩
  | 61 => ⟨S4112x32x64, .f32⟩
  | 62 => ⟨S4112x32x64, .f32⟩
  | 63 => ⟨S4112x32x64, .f32⟩
  | 64 => ⟨S4112x32x64, .f32⟩
  | 65 => ⟨S_, .f32⟩
  | 66 => ⟨S32x64, .f32⟩
  | 67 => ⟨S1x32x64, .f32⟩
  | 68 => ⟨S_, .f32⟩
  | 69 => ⟨S32x64, .f32⟩
  | 70 => ⟨S32x64, .f32⟩
  | 71 => ⟨S1024x32x64, .f32⟩
  | 72 => ⟨S3088x32x64, .f32⟩
  | 73 => ⟨S_, .f32⟩
  | 74 => ⟨S4112x32x64, .f32⟩
  | 75 => ⟨S4112x32x64, .f32⟩
  | 76 => ⟨S1024x32x64, .f32⟩
  | 77 => ⟨S3088x32x64, .f32⟩
  | 78 => ⟨S_, .f32⟩
  | 79 => ⟨S4112x32x64, .f32⟩
  | 80 => ⟨S4112x32x64, .f32⟩
  | 81 => ⟨S32x64, .f32⟩
  | 82 => ⟨S32x64, .f32⟩
  | 83 => ⟨S_, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S32x64, .f32⟩
  | 94 => ⟨S32x64, .f32⟩
  | 95 => ⟨S4112x32x64, .f32⟩
  | 96 => ⟨S4112x32x64, .f32⟩
  | 97 => ⟨S4112x32x64, .f32⟩
  | 98 => ⟨S_, .f32⟩
  | 99 => ⟨S32x64, .f32⟩
  | 100 => ⟨S1x32x64, .f32⟩
  | 101 => ⟨S_, .f32⟩
  | 102 => ⟨S32x64, .f32⟩
  | 103 => ⟨S32x64, .f32⟩
  | 104 => ⟨S4112x32x64, .f32⟩
  | 105 => ⟨S4112x32x64, .f32⟩
  | 106 => ⟨S4112x32x64, .f32⟩
  | 107 => ⟨S_, .f32⟩
  | 108 => ⟨S32x64, .f32⟩
  | 109 => ⟨S1x32x64, .f32⟩
  | 110 => ⟨S_, .f32⟩
  | 111 => ⟨S32x64, .f32⟩
  | 112 => ⟨S32x64, .f32⟩
  | 113 => ⟨S4112x32x64, .f32⟩
  | 114 => ⟨S4112x32x64, .f32⟩
  | 115 => ⟨S4112x32x64, .f32⟩
  | 116 => ⟨S4112x32x64, .f32⟩
  | 117 => ⟨S4112x32x64, .f32⟩
  | 118 => ⟨S_, .f32⟩
  | 119 => ⟨S32x64, .f32⟩
  | 120 => ⟨S1x32x64, .f32⟩
  | 121 => ⟨S_, .f32⟩
  | 122 => ⟨S32x64, .f32⟩
  | 123 => ⟨S32x64, .f32⟩
  | 124 => ⟨S4112x32x64, .f32⟩
  | 125 => ⟨S4112x32x64, .f32⟩
  | 126 => ⟨S4112x32x64, .f32⟩
  | 127 => ⟨S4112x32x64, .f32⟩
  | _ => ⟨S4112x512, .f32⟩

abbrev hbmTy0_7 (i : Nat) : BufTy := match i % 128 with
  | 0 => ⟨S_, .f32⟩
  | 1 => ⟨S32x64, .f32⟩
  | 2 => ⟨S1x32x64, .f32⟩
  | 3 => ⟨S_, .f32⟩
  | 4 => ⟨S32x64, .f32⟩
  | 5 => ⟨S32x64, .f32⟩
  | 6 => ⟨S512x32x64, .f32⟩
  | 7 => ⟨S3600x32x64, .f32⟩
  | 8 => ⟨S_, .f32⟩
  | 9 => ⟨S4112x32x64, .f32⟩
  | 10 => ⟨S4112x32x64, .f32⟩
  | 11 => ⟨S512x32x64, .f32⟩
  | 12 => ⟨S3600x32x64, .f32⟩
  | 13 => ⟨S_, .f32⟩
  | 14 => ⟨S4112x32x64, .f32⟩
  | 15 => ⟨S4112x32x64, .f32⟩
  | 16 => ⟨S32x64, .f32⟩
  | 17 => ⟨S32x64, .f32⟩
  | 18 => ⟨S_, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S4112x32x64, .f32⟩
  | 31 => ⟨S4112x32x64, .f32⟩
  | 32 => ⟨S4112x32x64, .f32⟩
  | 33 => ⟨S_, .f32⟩
  | 34 => ⟨S32x64, .f32⟩
  | 35 => ⟨S1x32x64, .f32⟩
  | 36 => ⟨S_, .f32⟩
  | 37 => ⟨S32x64, .f32⟩
  | 38 => ⟨S32x64, .f32⟩
  | 39 => ⟨S4112x32x64, .f32⟩
  | 40 => ⟨S4112x32x64, .f32⟩
  | 41 => ⟨S4112x32x64, .f32⟩
  | 42 => ⟨S_, .f32⟩
  | 43 => ⟨S32x64, .f32⟩
  | 44 => ⟨S1x32x64, .f32⟩
  | 45 => ⟨S_, .f32⟩
  | 46 => ⟨S32x64, .f32⟩
  | 47 => ⟨S32x64, .f32⟩
  | 48 => ⟨S4112x32x64, .f32⟩
  | 49 => ⟨S4112x32x64, .f32⟩
  | 50 => ⟨S4112x32x64, .f32⟩
  | 51 => ⟨S4112x32x64, .f32⟩
  | 52 => ⟨S4112x32x64, .f32⟩
  | 53 => ⟨S_, .f32⟩
  | 54 => ⟨S32x64, .f32⟩
  | 55 => ⟨S1x32x64, .f32⟩
  | 56 => ⟨S_, .f32⟩
  | 57 => ⟨S32x64, .f32⟩
  | 58 => ⟨S32x64, .f32⟩
  | 59 => ⟨S4112x32x64, .f32⟩
  | 60 => ⟨S4112x32x64, .f32⟩
  | 61 => ⟨S4112x32x64, .f32⟩
  | 62 => ⟨S4112x32x64, .f32⟩
  | 63 => ⟨S_, .f32⟩
  | 64 => ⟨S32x64, .f32⟩
  | 65 => ⟨S1x32x64, .f32⟩
  | 66 => ⟨S_, .f32⟩
  | 67 => ⟨S32x64, .f32⟩
  | 68 => ⟨S32x64, .f32⟩
  | 69 => ⟨S256x32x64, .f32⟩
  | 70 => ⟨S3856x32x64, .f32⟩
  | 71 => ⟨S_, .f32⟩
  | 72 => ⟨S4112x32x64, .f32⟩
  | 73 => ⟨S4112x32x64, .f32⟩
  | 74 => ⟨S256x32x64, .f32⟩
  | 75 => ⟨S3856x32x64, .f32⟩
  | 76 => ⟨S_, .f32⟩
  | 77 => ⟨S4112x32x64, .f32⟩
  | 78 => ⟨S4112x32x64, .f32⟩
  | 79 => ⟨S32x64, .f32⟩
  | 80 => ⟨S32x64, .f32⟩
  | 81 => ⟨S_, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S32x64, .f32⟩
  | 92 => ⟨S32x64, .f32⟩
  | 93 => ⟨S4112x32x64, .f32⟩
  | 94 => ⟨S4112x32x64, .f32⟩
  | 95 => ⟨S4112x32x64, .f32⟩
  | 96 => ⟨S_, .f32⟩
  | 97 => ⟨S32x64, .f32⟩
  | 98 => ⟨S1x32x64, .f32⟩
  | 99 => ⟨S_, .f32⟩
  | 100 => ⟨S32x64, .f32⟩
  | 101 => ⟨S32x64, .f32⟩
  | 102 => ⟨S4112x32x64, .f32⟩
  | 103 => ⟨S4112x32x64, .f32⟩
  | 104 => ⟨S4112x32x64, .f32⟩
  | 105 => ⟨S_, .f32⟩
  | 106 => ⟨S32x64, .f32⟩
  | 107 => ⟨S1x32x64, .f32⟩
  | 108 => ⟨S_, .f32⟩
  | 109 => ⟨S32x64, .f32⟩
  | 110 => ⟨S32x64, .f32⟩
  | 111 => ⟨S4112x32x64, .f32⟩
  | 112 => ⟨S4112x32x64, .f32⟩
  | 113 => ⟨S4112x32x64, .f32⟩
  | 114 => ⟨S4112x32x64, .f32⟩
  | 115 => ⟨S4112x32x64, .f32⟩
  | 116 => ⟨S_, .f32⟩
  | 117 => ⟨S32x64, .f32⟩
  | 118 => ⟨S1x32x64, .f32⟩
  | 119 => ⟨S_, .f32⟩
  | 120 => ⟨S32x64, .f32⟩
  | 121 => ⟨S32x64, .f32⟩
  | 122 => ⟨S4112x32x64, .f32⟩
  | 123 => ⟨S4112x32x64, .f32⟩
  | 124 => ⟨S4112x32x64, .f32⟩
  | 125 => ⟨S4112x32x64, .f32⟩
  | 126 => ⟨S_, .f32⟩
  | 127 => ⟨S32x64, .f32⟩
  | _ => ⟨S4112x512, .f32⟩

abbrev hbmTy0_8 (i : Nat) : BufTy := match i % 128 with
  | 0 => ⟨S1x32x64, .f32⟩
  | 1 => ⟨S_, .f32⟩
  | 2 => ⟨S32x64, .f32⟩
  | 3 => ⟨S32x64, .f32⟩
  | 4 => ⟨S128x32x64, .f32⟩
  | 5 => ⟨S3984x32x64, .f32⟩
  | 6 => ⟨S_, .f32⟩
  | 7 => ⟨S4112x32x64, .f32⟩
  | 8 => ⟨S4112x32x64, .f32⟩
  | 9 => ⟨S128x32x64, .f32⟩
  | 10 => ⟨S3984x32x64, .f32⟩
  | 11 => ⟨S_, .f32⟩
  | 12 => ⟨S4112x32x64, .f32⟩
  | 13 => ⟨S4112x32x64, .f32⟩
  | 14 => ⟨S32x64, .f32⟩
  | 15 => ⟨S32x64, .f32⟩
  | 16 => ⟨S_, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S4112x32x64, .f32⟩
  | 29 => ⟨S4112x32x64, .f32⟩
  | 30 => ⟨S4112x32x64, .f32⟩
  | 31 => ⟨S_, .f32⟩
  | 32 => ⟨S32x64, .f32⟩
  | 33 => ⟨S1x32x64, .f32⟩
  | 34 => ⟨S_, .f32⟩
  | 35 => ⟨S32x64, .f32⟩
  | 36 => ⟨S32x64, .f32⟩
  | 37 => ⟨S4112x32x64, .f32⟩
  | 38 => ⟨S4112x32x64, .f32⟩
  | 39 => ⟨S4112x32x64, .f32⟩
  | 40 => ⟨S_, .f32⟩
  | 41 => ⟨S32x64, .f32⟩
  | 42 => ⟨S1x32x64, .f32⟩
  | 43 => ⟨S_, .f32⟩
  | 44 => ⟨S32x64, .f32⟩
  | 45 => ⟨S32x64, .f32⟩
  | 46 => ⟨S4112x32x64, .f32⟩
  | 47 => ⟨S4112x32x64, .f32⟩
  | 48 => ⟨S4112x32x64, .f32⟩
  | 49 => ⟨S4112x32x64, .f32⟩
  | 50 => ⟨S4112x32x64, .f32⟩
  | 51 => ⟨S_, .f32⟩
  | 52 => ⟨S32x64, .f32⟩
  | 53 => ⟨S1x32x64, .f32⟩
  | 54 => ⟨S_, .f32⟩
  | 55 => ⟨S32x64, .f32⟩
  | 56 => ⟨S32x64, .f32⟩
  | 57 => ⟨S4112x32x64, .f32⟩
  | 58 => ⟨S4112x32x64, .f32⟩
  | 59 => ⟨S4112x32x64, .f32⟩
  | 60 => ⟨S4112x32x64, .f32⟩
  | 61 => ⟨S_, .f32⟩
  | 62 => ⟨S32x64, .f32⟩
  | 63 => ⟨S1x32x64, .f32⟩
  | 64 => ⟨S_, .f32⟩
  | 65 => ⟨S32x64, .f32⟩
  | 66 => ⟨S32x64, .f32⟩
  | 67 => ⟨S64x32x64, .f32⟩
  | 68 => ⟨S4048x32x64, .f32⟩
  | 69 => ⟨S_, .f32⟩
  | 70 => ⟨S4112x32x64, .f32⟩
  | 71 => ⟨S4112x32x64, .f32⟩
  | 72 => ⟨S64x32x64, .f32⟩
  | 73 => ⟨S4048x32x64, .f32⟩
  | 74 => ⟨S_, .f32⟩
  | 75 => ⟨S4112x32x64, .f32⟩
  | 76 => ⟨S4112x32x64, .f32⟩
  | 77 => ⟨S32x64, .f32⟩
  | 78 => ⟨S32x64, .f32⟩
  | 79 => ⟨S_, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S32x64, .f32⟩
  | 90 => ⟨S32x64, .f32⟩
  | 91 => ⟨S4112x32x64, .f32⟩
  | 92 => ⟨S4112x32x64, .f32⟩
  | 93 => ⟨S4112x32x64, .f32⟩
  | 94 => ⟨S_, .f32⟩
  | 95 => ⟨S32x64, .f32⟩
  | 96 => ⟨S1x32x64, .f32⟩
  | 97 => ⟨S_, .f32⟩
  | 98 => ⟨S32x64, .f32⟩
  | 99 => ⟨S32x64, .f32⟩
  | 100 => ⟨S4112x32x64, .f32⟩
  | 101 => ⟨S4112x32x64, .f32⟩
  | 102 => ⟨S4112x32x64, .f32⟩
  | 103 => ⟨S_, .f32⟩
  | 104 => ⟨S32x64, .f32⟩
  | 105 => ⟨S1x32x64, .f32⟩
  | 106 => ⟨S_, .f32⟩
  | 107 => ⟨S32x64, .f32⟩
  | 108 => ⟨S32x64, .f32⟩
  | 109 => ⟨S4112x32x64, .f32⟩
  | 110 => ⟨S4112x32x64, .f32⟩
  | 111 => ⟨S4112x32x64, .f32⟩
  | 112 => ⟨S4112x32x64, .f32⟩
  | 113 => ⟨S4112x32x64, .f32⟩
  | 114 => ⟨S_, .f32⟩
  | 115 => ⟨S32x64, .f32⟩
  | 116 => ⟨S1x32x64, .f32⟩
  | 117 => ⟨S_, .f32⟩
  | 118 => ⟨S32x64, .f32⟩
  | 119 => ⟨S32x64, .f32⟩
  | 120 => ⟨S4112x32x64, .f32⟩
  | 121 => ⟨S4112x32x64, .f32⟩
  | 122 => ⟨S4112x32x64, .f32⟩
  | 123 => ⟨S4112x32x64, .f32⟩
  | 124 => ⟨S_, .f32⟩
  | 125 => ⟨S32x64, .f32⟩
  | 126 => ⟨S1x32x64, .f32⟩
  | 127 => ⟨S_, .f32⟩
  | _ => ⟨S4112x512, .f32⟩

abbrev hbmTy0_9 (i : Nat) : BufTy := match i % 128 with
  | 0 => ⟨S32x64, .f32⟩
  | 1 => ⟨S32x64, .f32⟩
  | 2 => ⟨S32x32x64, .f32⟩
  | 3 => ⟨S4080x32x64, .f32⟩
  | 4 => ⟨S_, .f32⟩
  | 5 => ⟨S4112x32x64, .f32⟩
  | 6 => ⟨S4112x32x64, .f32⟩
  | 7 => ⟨S32x32x64, .f32⟩
  | 8 => ⟨S4080x32x64, .f32⟩
  | 9 => ⟨S_, .f32⟩
  | 10 => ⟨S4112x32x64, .f32⟩
  | 11 => ⟨S4112x32x64, .f32⟩
  | 12 => ⟨S32x64, .f32⟩
  | 13 => ⟨S32x64, .f32⟩
  | 14 => ⟨S_, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S4112x32x64, .f32⟩
  | 27 => ⟨S4112x32x64, .f32⟩
  | 28 => ⟨S4112x32x64, .f32⟩
  | 29 => ⟨S_, .f32⟩
  | 30 => ⟨S32x64, .f32⟩
  | 31 => ⟨S1x32x64, .f32⟩
  | 32 => ⟨S_, .f32⟩
  | 33 => ⟨S32x64, .f32⟩
  | 34 => ⟨S32x64, .f32⟩
  | 35 => ⟨S4112x32x64, .f32⟩
  | 36 => ⟨S4112x32x64, .f32⟩
  | 37 => ⟨S4112x32x64, .f32⟩
  | 38 => ⟨S_, .f32⟩
  | 39 => ⟨S32x64, .f32⟩
  | 40 => ⟨S1x32x64, .f32⟩
  | 41 => ⟨S_, .f32⟩
  | 42 => ⟨S32x64, .f32⟩
  | 43 => ⟨S32x64, .f32⟩
  | 44 => ⟨S4112x32x64, .f32⟩
  | 45 => ⟨S4112x32x64, .f32⟩
  | 46 => ⟨S4112x32x64, .f32⟩
  | 47 => ⟨S4112x32x64, .f32⟩
  | 48 => ⟨S4112x32x64, .f32⟩
  | 49 => ⟨S_, .f32⟩
  | 50 => ⟨S32x64, .f32⟩
  | 51 => ⟨S1x32x64, .f32⟩
  | 52 => ⟨S_, .f32⟩
  | 53 => ⟨S32x64, .f32⟩
  | 54 => ⟨S32x64, .f32⟩
  | 55 => ⟨S4112x32x64, .f32⟩
  | 56 => ⟨S4112x32x64, .f32⟩
  | 57 => ⟨S4112x32x64, .f32⟩
  | 58 => ⟨S4112x32x64, .f32⟩
  | 59 => ⟨S_, .f32⟩
  | 60 => ⟨S32x64, .f32⟩
  | 61 => ⟨S1x32x64, .f32⟩
  | 62 => ⟨S_, .f32⟩
  | 63 => ⟨S32x64, .f32⟩
  | 64 => ⟨S32x64, .f32⟩
  | 65 => ⟨S16x32x64, .f32⟩
  | 66 => ⟨S4096x32x64, .f32⟩
  | 67 => ⟨S_, .f32⟩
  | 68 => ⟨S4112x32x64, .f32⟩
  | 69 => ⟨S4112x32x64, .f32⟩
  | 70 => ⟨S16x32x64, .f32⟩
  | 71 => ⟨S4096x32x64, .f32⟩
  | 72 => ⟨S_, .f32⟩
  | 73 => ⟨S4112x32x64, .f32⟩
  | 74 => ⟨S4112x32x64, .f32⟩
  | 75 => ⟨S32x64, .f32⟩
  | 76 => ⟨S32x64, .f32⟩
  | 77 => ⟨S_, .f32⟩
  | 78 => ⟨S32x64, .f32⟩
  | 79 => ⟨S32x64, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S32x64, .f32⟩
  | 88 => ⟨S32x64, .f32⟩
  | 89 => ⟨S4112x32x64, .f32⟩
  | 90 => ⟨S4112x32x64, .f32⟩
  | 91 => ⟨S4112x32x64, .f32⟩
  | 92 => ⟨S_, .f32⟩
  | 93 => ⟨S32x64, .f32⟩
  | 94 => ⟨S1x32x64, .f32⟩
  | 95 => ⟨S_, .f32⟩
  | 96 => ⟨S32x64, .f32⟩
  | 97 => ⟨S32x64, .f32⟩
  | 98 => ⟨S4112x32x64, .f32⟩
  | 99 => ⟨S4112x32x64, .f32⟩
  | 100 => ⟨S4112x32x64, .f32⟩
  | 101 => ⟨S_, .f32⟩
  | 102 => ⟨S32x64, .f32⟩
  | 103 => ⟨S1x32x64, .f32⟩
  | 104 => ⟨S_, .f32⟩
  | 105 => ⟨S32x64, .f32⟩
  | 106 => ⟨S32x64, .f32⟩
  | 107 => ⟨S4112x32x64, .f32⟩
  | 108 => ⟨S4112x32x64, .f32⟩
  | 109 => ⟨S4112x32x64, .f32⟩
  | 110 => ⟨S4112x32x64, .f32⟩
  | 111 => ⟨S4112x32x64, .f32⟩
  | 112 => ⟨S_, .f32⟩
  | 113 => ⟨S32x64, .f32⟩
  | 114 => ⟨S1x32x64, .f32⟩
  | 115 => ⟨S_, .f32⟩
  | 116 => ⟨S32x64, .f32⟩
  | 117 => ⟨S32x64, .f32⟩
  | 118 => ⟨S4112x32x64, .f32⟩
  | 119 => ⟨S4112x32x64, .f32⟩
  | 120 => ⟨S4112x32x64, .f32⟩
  | 121 => ⟨S4112x32x64, .f32⟩
  | 122 => ⟨S_, .f32⟩
  | 123 => ⟨S32x64, .f32⟩
  | 124 => ⟨S1x32x64, .f32⟩
  | 125 => ⟨S_, .f32⟩
  | 126 => ⟨S32x64, .f32⟩
  | 127 => ⟨S32x64, .f32⟩
  | _ => ⟨S4112x512, .f32⟩

abbrev hbmTy0_10 (i : Nat) : BufTy := match i % 128 with
  | 0 => ⟨S8x32x64, .f32⟩
  | 1 => ⟨S4104x32x64, .f32⟩
  | 2 => ⟨S_, .f32⟩
  | 3 => ⟨S4112x32x64, .f32⟩
  | 4 => ⟨S4112x32x64, .f32⟩
  | 5 => ⟨S8x32x64, .f32⟩
  | 6 => ⟨S4104x32x64, .f32⟩
  | 7 => ⟨S_, .f32⟩
  | 8 => ⟨S4112x32x64, .f32⟩
  | 9 => ⟨S4112x32x64, .f32⟩
  | 10 => ⟨S32x64, .f32⟩
  | 11 => ⟨S32x64, .f32⟩
  | 12 => ⟨S_, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S4112x32x64, .f32⟩
  | 25 => ⟨S4112x32x64, .f32⟩
  | 26 => ⟨S4112x32x64, .f32⟩
  | 27 => ⟨S_, .f32⟩
  | 28 => ⟨S32x64, .f32⟩
  | 29 => ⟨S1x32x64, .f32⟩
  | 30 => ⟨S_, .f32⟩
  | 31 => ⟨S32x64, .f32⟩
  | 32 => ⟨S32x64, .f32⟩
  | 33 => ⟨S4112x32x64, .f32⟩
  | 34 => ⟨S4112x32x64, .f32⟩
  | 35 => ⟨S4112x32x64, .f32⟩
  | 36 => ⟨S_, .f32⟩
  | 37 => ⟨S32x64, .f32⟩
  | 38 => ⟨S1x32x64, .f32⟩
  | 39 => ⟨S_, .f32⟩
  | 40 => ⟨S32x64, .f32⟩
  | 41 => ⟨S32x64, .f32⟩
  | 42 => ⟨S4112x32x64, .f32⟩
  | 43 => ⟨S4112x32x64, .f32⟩
  | 44 => ⟨S4112x32x64, .f32⟩
  | 45 => ⟨S4112x32x64, .f32⟩
  | 46 => ⟨S4112x32x64, .f32⟩
  | 47 => ⟨S_, .f32⟩
  | 48 => ⟨S32x64, .f32⟩
  | 49 => ⟨S1x32x64, .f32⟩
  | 50 => ⟨S_, .f32⟩
  | 51 => ⟨S32x64, .f32⟩
  | 52 => ⟨S32x64, .f32⟩
  | 53 => ⟨S4112x32x64, .f32⟩
  | 54 => ⟨S4112x32x64, .f32⟩
  | 55 => ⟨S4112x32x64, .f32⟩
  | 56 => ⟨S4112x32x64, .f32⟩
  | 57 => ⟨S_, .f32⟩
  | 58 => ⟨S32x64, .f32⟩
  | 59 => ⟨S1x32x64, .f32⟩
  | 60 => ⟨S_, .f32⟩
  | 61 => ⟨S32x64, .f32⟩
  | 62 => ⟨S32x64, .f32⟩
  | 63 => ⟨S4x32x64, .f32⟩
  | 64 => ⟨S4108x32x64, .f32⟩
  | 65 => ⟨S_, .f32⟩
  | 66 => ⟨S4112x32x64, .f32⟩
  | 67 => ⟨S4112x32x64, .f32⟩
  | 68 => ⟨S4x32x64, .f32⟩
  | 69 => ⟨S4108x32x64, .f32⟩
  | 70 => ⟨S_, .f32⟩
  | 71 => ⟨S4112x32x64, .f32⟩
  | 72 => ⟨S4112x32x64, .f32⟩
  | 73 => ⟨S32x64, .f32⟩
  | 74 => ⟨S32x64, .f32⟩
  | 75 => ⟨S_, .f32⟩
  | 76 => ⟨S32x64, .f32⟩
  | 77 => ⟨S32x64, .f32⟩
  | 78 => ⟨S32x64, .f32⟩
  | 79 => ⟨S32x64, .f32⟩
  | 80 => ⟨S32x64, .f32⟩
  | 81 => ⟨S32x64, .f32⟩
  | 82 => ⟨S32x64, .f32⟩
  | 83 => ⟨S32x64, .f32⟩
  | 84 => ⟨S32x64, .f32⟩
  | 85 => ⟨S32x64, .f32⟩
  | 86 => ⟨S32x64, .f32⟩
  | 87 => ⟨S4112x32x64, .f32⟩
  | 88 => ⟨S4112x32x64, .f32⟩
  | 89 => ⟨S4112x32x64, .f32⟩
  | 90 => ⟨S_, .f32⟩
  | 91 => ⟨S32x64, .f32⟩
  | 92 => ⟨S1x32x64, .f32⟩
  | 93 => ⟨S_, .f32⟩
  | 94 => ⟨S32x64, .f32⟩
  | 95 => ⟨S32x64, .f32⟩
  | 96 => ⟨S4112x32x64, .f32⟩
  | 97 => ⟨S4112x32x64, .f32⟩
  | 98 => ⟨S4112x32x64, .f32⟩
  | 99 => ⟨S_, .f32⟩
  | 100 => ⟨S32x64, .f32⟩
  | 101 => ⟨S1x32x64, .f32⟩
  | 102 => ⟨S_, .f32⟩
  | 103 => ⟨S32x64, .f32⟩
  | 104 => ⟨S32x64, .f32⟩
  | 105 => ⟨S4112x32x64, .f32⟩
  | 106 => ⟨S4112x32x64, .f32⟩
  | 107 => ⟨S4112x32x64, .f32⟩
  | 108 => ⟨S4112x32x64, .f32⟩
  | 109 => ⟨S4112x32x64, .f32⟩
  | 110 => ⟨S_, .f32⟩
  | 111 => ⟨S32x64, .f32⟩
  | 112 => ⟨S1x32x64, .f32⟩
  | 113 => ⟨S_, .f32⟩
  | 114 => ⟨S32x64, .f32⟩
  | 115 => ⟨S32x64, .f32⟩
  | 116 => ⟨S4112x32x64, .f32⟩
  | 117 => ⟨S4112x32x64, .f32⟩
  | 118 => ⟨S4112x32x64, .f32⟩
  | 119 => ⟨S4112x32x64, .f32⟩
  | 120 => ⟨S_, .f32⟩
  | 121 => ⟨S32x64, .f32⟩
  | 122 => ⟨S1x32x64, .f32⟩
  | 123 => ⟨S_, .f32⟩
  | 124 => ⟨S32x64, .f32⟩
  | 125 => ⟨S32x64, .f32⟩
  | 126 => ⟨S2x32x64, .f32⟩
  | 127 => ⟨S4110x32x64, .f32⟩
  | _ => ⟨S4112x512, .f32⟩

abbrev hbmTy0_11 (i : Nat) : BufTy := match i % 128 with
  | 0 => ⟨S_, .f32⟩
  | 1 => ⟨S4112x32x64, .f32⟩
  | 2 => ⟨S4112x32x64, .f32⟩
  | 3 => ⟨S2x32x64, .f32⟩
  | 4 => ⟨S4110x32x64, .f32⟩
  | 5 => ⟨S_, .f32⟩
  | 6 => ⟨S4112x32x64, .f32⟩
  | 7 => ⟨S4112x32x64, .f32⟩
  | 8 => ⟨S32x64, .f32⟩
  | 9 => ⟨S32x64, .f32⟩
  | 10 => ⟨S_, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S4112x32x64, .f32⟩
  | 23 => ⟨S4112x32x64, .f32⟩
  | 24 => ⟨S4112x32x64, .f32⟩
  | 25 => ⟨S_, .f32⟩
  | 26 => ⟨S32x64, .f32⟩
  | 27 => ⟨S1x32x64, .f32⟩
  | 28 => ⟨S_, .f32⟩
  | 29 => ⟨S32x64, .f32⟩
  | 30 => ⟨S32x64, .f32⟩
  | 31 => ⟨S4112x32x64, .f32⟩
  | 32 => ⟨S4112x32x64, .f32⟩
  | 33 => ⟨S4112x32x64, .f32⟩
  | 34 => ⟨S_, .f32⟩
  | 35 => ⟨S32x64, .f32⟩
  | 36 => ⟨S1x32x64, .f32⟩
  | 37 => ⟨S_, .f32⟩
  | 38 => ⟨S32x64, .f32⟩
  | 39 => ⟨S32x64, .f32⟩
  | 40 => ⟨S4112x32x64, .f32⟩
  | 41 => ⟨S4112x32x64, .f32⟩
  | 42 => ⟨S4112x32x64, .f32⟩
  | 43 => ⟨S4112x32x64, .f32⟩
  | 44 => ⟨S4112x32x64, .f32⟩
  | 45 => ⟨S_, .f32⟩
  | 46 => ⟨S32x64, .f32⟩
  | 47 => ⟨S1x32x64, .f32⟩
  | 48 => ⟨S_, .f32⟩
  | 49 => ⟨S32x64, .f32⟩
  | 50 => ⟨S32x64, .f32⟩
  | 51 => ⟨S4112x32x64, .f32⟩
  | 52 => ⟨S4112x32x64, .f32⟩
  | 53 => ⟨S4112x32x64, .f32⟩
  | 54 => ⟨S4112x32x64, .f32⟩
  | 55 => ⟨S_, .f32⟩
  | 56 => ⟨S32x64, .f32⟩
  | 57 => ⟨S1x32x64, .f32⟩
  | 58 => ⟨S_, .f32⟩
  | 59 => ⟨S32x64, .f32⟩
  | 60 => ⟨S32x64, .f32⟩
  | 61 => ⟨S1x32x64, .f32⟩
  | 62 => ⟨S4111x32x64, .f32⟩
  | 63 => ⟨S_, .f32⟩
  | 64 => ⟨S4112x32x64, .f32⟩
  | 65 => ⟨S4112x32x64, .f32⟩
  | 66 => ⟨S1x32x64, .f32⟩
  | 67 => ⟨S4111x32x64, .f32⟩
  | 68 => ⟨S_, .f32⟩
  | 69 => ⟨S4112x32x64, .f32⟩
  | 70 => ⟨S4112x32x64, .f32⟩
  | 71 => ⟨S32x64x4112, .f32⟩
  | 72 => ⟨S32x4112x16, .f32⟩
  | 73 => ⟨S4112x32x16, .f32⟩
  | 74 => ⟨S4112x32x16, .f32⟩
  | 75 => ⟨S32x64x16, .f32⟩
  | 76 => ⟨S32x64x4112, .f32⟩
  | 77 => ⟨S32x4112x16, .f32⟩
  | 78 => ⟨S4112x32x16, .f32⟩
  | 79 => ⟨S4112x32x16, .f32⟩
  | 80 => ⟨S32x64x16, .f32⟩
  | 81 => ⟨S32x64x16, .f32⟩
  | 82 => ⟨S32x64x16, .f32⟩
  | 83 => ⟨S32x64x16, .f32⟩
  | 84 => ⟨S_, .f32⟩
  | 85 => ⟨S32x64, .f32⟩
  | 86 => ⟨S32x64x1, .f32⟩
  | 87 => ⟨S32x64x16, .f32⟩
  | 88 => ⟨S32x64x16, .f32⟩
  | 89 => ⟨S32x64x16, .f32⟩
  | 90 => ⟨S_, .f32⟩
  | 91 => ⟨S32x64, .f32⟩
  | 92 => ⟨S32x64x1, .f32⟩
  | 93 => ⟨S32x64x16, .f32⟩
  | 94 => ⟨S32x64x16, .f32⟩
  | 95 => ⟨S32x64x16, .f32⟩
  | 96 => ⟨S32x64x16, .f32⟩
  | 97 => ⟨S32x64x16, .f32⟩
  | 98 => ⟨S_, .f32⟩
  | 99 => ⟨S32x64, .f32⟩
  | 100 => ⟨S32x64x1, .f32⟩
  | 101 => ⟨S32x64x1, .f32⟩
  | 102 => ⟨S32x64x16, .f32⟩
  | 103 => ⟨S32x64x16, .f32⟩
  | 104 => ⟨S32x64x16, .f32⟩
  | 105 => ⟨S32x64x16, .f32⟩
  | 106 => ⟨S_, .f32⟩
  | 107 => ⟨S32x64, .f32⟩
  | 108 => ⟨S32x64x1, .f32⟩
  | 109 => ⟨S32x64x1, .f32⟩
  | 110 => ⟨S_, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S_, .f32⟩
  | 124 => ⟨S32x64, .f32⟩
  | 125 => ⟨S32x64, .f32⟩
  | 126 => ⟨S32x64, .f32⟩
  | 127 => ⟨S32x64, .f32⟩
  | _ => ⟨S4112x512, .f32⟩

abbrev hbmTy0_12 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S_, .f32⟩
  | 29 => ⟨S32, .f32⟩
  | 30 => ⟨S32x1, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32, .f32⟩
  | 38 => ⟨S32x1, .f32⟩
  | 39 => ⟨S32x1, .f32⟩
  | 40 => ⟨S32x64, .f32⟩
  | 41 => ⟨S32x64, .f32⟩
  | 42 => ⟨S32x64, .f32⟩
  | 43 => ⟨S_, .f32⟩
  | 44 => ⟨S32, .f32⟩
  | 45 => ⟨S32, .f32⟩
  | 46 => ⟨S32x64, .f32⟩
  | 47 => ⟨S1x32x64x16, .f32⟩
  | 48 => ⟨S1x32x64x16, .f32⟩
  | 49 => ⟨S1x32, .f32⟩
  | 50 => ⟨S1x32x64, .f32⟩
  | 51 => ⟨S1x32x64, .f32⟩
  | 52 => ⟨S4112x512, .f32⟩
  | _ => ⟨S4112x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_12 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_13 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_14 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_15 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_16 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_17 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_18 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_19 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_20 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_21 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_22 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_cst_23 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_24 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_cst_25 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_26 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_cst_27 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_cst_28 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_cst_29 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_cst_30 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_cst_31 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_cst_32 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_cst_33 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_cst_34 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_v250 : Ref sig .tc := ⟨.hbm, 299, rfl⟩
abbrev main_v251 : Ref sig .tc := ⟨.hbm, 300, rfl⟩
abbrev main_v252 : Ref sig .tc := ⟨.hbm, 301, rfl⟩
abbrev main_v253 : Ref sig .tc := ⟨.hbm, 302, rfl⟩
abbrev main_v254 : Ref sig .tc := ⟨.hbm, 303, rfl⟩
abbrev main_v255 : Ref sig .tc := ⟨.hbm, 304, rfl⟩
abbrev main_v256 : Ref sig .tc := ⟨.hbm, 305, rfl⟩
abbrev main_v257 : Ref sig .tc := ⟨.hbm, 306, rfl⟩
abbrev main_v258 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_cst_35 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_cst_36 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_cst_37 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_cst_38 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_v277 : Ref sig .tc := ⟨.hbm, 330, rfl⟩
abbrev main_v278 : Ref sig .tc := ⟨.hbm, 331, rfl⟩
abbrev main_v279 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_cst_39 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_cst_40 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_cst_41 : Ref sig .tc := ⟨.hbm, 355, rfl⟩
abbrev main_v300 : Ref sig .tc := ⟨.hbm, 356, rfl⟩
abbrev main_v301 : Ref sig .tc := ⟨.hbm, 357, rfl⟩
abbrev main_v302 : Ref sig .tc := ⟨.hbm, 358, rfl⟩
abbrev main_cst_42 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_v307 : Ref sig .tc := ⟨.hbm, 364, rfl⟩
abbrev main_v308 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_cst_43 : Ref sig .tc := ⟨.hbm, 380, rfl⟩
abbrev main_v323 : Ref sig .tc := ⟨.hbm, 381, rfl⟩
abbrev main_v324 : Ref sig .tc := ⟨.hbm, 382, rfl⟩
abbrev main_v325 : Ref sig .tc := ⟨.hbm, 383, rfl⟩
abbrev main_cst_44 : Ref sig .tc := ⟨.hbm, 384, rfl⟩
abbrev main_v326 : Ref sig .tc := ⟨.hbm, 385, rfl⟩
abbrev main_v327 : Ref sig .tc := ⟨.hbm, 386, rfl⟩
abbrev main_v328 : Ref sig .tc := ⟨.hbm, 387, rfl⟩
abbrev main_cst_45 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_cst_46 : Ref sig .tc := ⟨.hbm, 392, rfl⟩
abbrev main_v332 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_v343 : Ref sig .tc := ⟨.hbm, 404, rfl⟩
abbrev main_v344 : Ref sig .tc := ⟨.hbm, 405, rfl⟩
abbrev main_v345 : Ref sig .tc := ⟨.hbm, 406, rfl⟩
abbrev main_v346 : Ref sig .tc := ⟨.hbm, 407, rfl⟩
abbrev main_v347 : Ref sig .tc := ⟨.hbm, 408, rfl⟩
abbrev main_v348 : Ref sig .tc := ⟨.hbm, 409, rfl⟩
abbrev main_v349 : Ref sig .tc := ⟨.hbm, 410, rfl⟩
abbrev main_v350 : Ref sig .tc := ⟨.hbm, 411, rfl⟩
abbrev main_v351 : Ref sig .tc := ⟨.hbm, 412, rfl⟩
abbrev main_cst_47 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_cst_48 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_cst_49 : Ref sig .tc := ⟨.hbm, 421, rfl⟩
abbrev main_v358 : Ref sig .tc := ⟨.hbm, 422, rfl⟩
abbrev main_v359 : Ref sig .tc := ⟨.hbm, 423, rfl⟩
abbrev main_v360 : Ref sig .tc := ⟨.hbm, 424, rfl⟩
abbrev main_cst_50 : Ref sig .tc := ⟨.hbm, 425, rfl⟩
abbrev main_v361 : Ref sig .tc := ⟨.hbm, 426, rfl⟩
abbrev main_v362 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_cst_51 : Ref sig .tc := ⟨.hbm, 446, rfl⟩
abbrev main_v381 : Ref sig .tc := ⟨.hbm, 447, rfl⟩
abbrev main_v382 : Ref sig .tc := ⟨.hbm, 448, rfl⟩
abbrev main_v383 : Ref sig .tc := ⟨.hbm, 449, rfl⟩
abbrev main_cst_52 : Ref sig .tc := ⟨.hbm, 450, rfl⟩
abbrev main_v384 : Ref sig .tc := ⟨.hbm, 451, rfl⟩
abbrev main_v385 : Ref sig .tc := ⟨.hbm, 452, rfl⟩
abbrev main_v386 : Ref sig .tc := ⟨.hbm, 453, rfl⟩
abbrev main_cst_53 : Ref sig .tc := ⟨.hbm, 454, rfl⟩
abbrev main_v387 : Ref sig .tc := ⟨.hbm, 455, rfl⟩
abbrev main_v388 : Ref sig .tc := ⟨.hbm, 456, rfl⟩
abbrev main_v389 : Ref sig .tc := ⟨.hbm, 457, rfl⟩
abbrev main_cst_54 : Ref sig .tc := ⟨.hbm, 458, rfl⟩
abbrev main_v390 : Ref sig .tc := ⟨.hbm, 459, rfl⟩
abbrev main_v391 : Ref sig .tc := ⟨.hbm, 460, rfl⟩
abbrev main_v392 : Ref sig .tc := ⟨.hbm, 461, rfl⟩
abbrev main_v393 : Ref sig .tc := ⟨.hbm, 462, rfl⟩
abbrev main_v394 : Ref sig .tc := ⟨.hbm, 463, rfl⟩
abbrev main_v395 : Ref sig .tc := ⟨.hbm, 464, rfl⟩
abbrev main_v396 : Ref sig .tc := ⟨.hbm, 465, rfl⟩
abbrev main_v397 : Ref sig .tc := ⟨.hbm, 466, rfl⟩
abbrev main_v398 : Ref sig .tc := ⟨.hbm, 467, rfl⟩
abbrev main_v399 : Ref sig .tc := ⟨.hbm, 468, rfl⟩
abbrev main_v400 : Ref sig .tc := ⟨.hbm, 469, rfl⟩
abbrev main_v401 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩
abbrev main_v406 : Ref sig .tc := ⟨.hbm, 475, rfl⟩
abbrev main_v407 : Ref sig .tc := ⟨.hbm, 476, rfl⟩
abbrev main_v408 : Ref sig .tc := ⟨.hbm, 477, rfl⟩
abbrev main_v409 : Ref sig .tc := ⟨.hbm, 478, rfl⟩
abbrev main_cst_55 : Ref sig .tc := ⟨.hbm, 479, rfl⟩
abbrev main_v410 : Ref sig .tc := ⟨.hbm, 480, rfl⟩
abbrev main_v411 : Ref sig .tc := ⟨.hbm, 481, rfl⟩
abbrev main_v412 : Ref sig .tc := ⟨.hbm, 482, rfl⟩
abbrev main_cst_56 : Ref sig .tc := ⟨.hbm, 483, rfl⟩
abbrev main_v413 : Ref sig .tc := ⟨.hbm, 484, rfl⟩
abbrev main_v414 : Ref sig .tc := ⟨.hbm, 485, rfl⟩
abbrev main_v415 : Ref sig .tc := ⟨.hbm, 486, rfl⟩
abbrev main_cst_57 : Ref sig .tc := ⟨.hbm, 487, rfl⟩
abbrev main_v416 : Ref sig .tc := ⟨.hbm, 488, rfl⟩
abbrev main_v417 : Ref sig .tc := ⟨.hbm, 489, rfl⟩
abbrev main_v418 : Ref sig .tc := ⟨.hbm, 490, rfl⟩
abbrev main_cst_58 : Ref sig .tc := ⟨.hbm, 491, rfl⟩
abbrev main_v419 : Ref sig .tc := ⟨.hbm, 492, rfl⟩
abbrev main_v420 : Ref sig .tc := ⟨.hbm, 493, rfl⟩
abbrev main_v421 : Ref sig .tc := ⟨.hbm, 494, rfl⟩
abbrev main_v422 : Ref sig .tc := ⟨.hbm, 495, rfl⟩
abbrev main_v423 : Ref sig .tc := ⟨.hbm, 496, rfl⟩
abbrev main_v424 : Ref sig .tc := ⟨.hbm, 497, rfl⟩
abbrev main_v425 : Ref sig .tc := ⟨.hbm, 498, rfl⟩
abbrev main_v426 : Ref sig .tc := ⟨.hbm, 499, rfl⟩
abbrev main_v427 : Ref sig .tc := ⟨.hbm, 500, rfl⟩
abbrev main_v428 : Ref sig .tc := ⟨.hbm, 501, rfl⟩
abbrev main_v429 : Ref sig .tc := ⟨.hbm, 502, rfl⟩
abbrev main_v430 : Ref sig .tc := ⟨.hbm, 503, rfl⟩
abbrev main_v431 : Ref sig .tc := ⟨.hbm, 504, rfl⟩
abbrev main_v432 : Ref sig .tc := ⟨.hbm, 505, rfl⟩
abbrev main_v433 : Ref sig .tc := ⟨.hbm, 506, rfl⟩
abbrev main_v434 : Ref sig .tc := ⟨.hbm, 507, rfl⟩
abbrev main_v435 : Ref sig .tc := ⟨.hbm, 508, rfl⟩
abbrev main_v436 : Ref sig .tc := ⟨.hbm, 509, rfl⟩
abbrev main_v437 : Ref sig .tc := ⟨.hbm, 510, rfl⟩
abbrev main_v438 : Ref sig .tc := ⟨.hbm, 511, rfl⟩
abbrev main_cst_59 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_v445 : Ref sig .tc := ⟨.hbm, 519, rfl⟩
abbrev main_v446 : Ref sig .tc := ⟨.hbm, 520, rfl⟩
abbrev main_v447 : Ref sig .tc := ⟨.hbm, 521, rfl⟩
abbrev main_v448 : Ref sig .tc := ⟨.hbm, 522, rfl⟩
abbrev main_v449 : Ref sig .tc := ⟨.hbm, 523, rfl⟩
abbrev main_v450 : Ref sig .tc := ⟨.hbm, 524, rfl⟩
abbrev main_v451 : Ref sig .tc := ⟨.hbm, 525, rfl⟩
abbrev main_v452 : Ref sig .tc := ⟨.hbm, 526, rfl⟩
abbrev main_v453 : Ref sig .tc := ⟨.hbm, 527, rfl⟩
abbrev main_v454 : Ref sig .tc := ⟨.hbm, 528, rfl⟩
abbrev main_v455 : Ref sig .tc := ⟨.hbm, 529, rfl⟩
abbrev main_v456 : Ref sig .tc := ⟨.hbm, 530, rfl⟩
abbrev main_cst_60 : Ref sig .tc := ⟨.hbm, 531, rfl⟩
abbrev main_v457 : Ref sig .tc := ⟨.hbm, 532, rfl⟩
abbrev main_v458 : Ref sig .tc := ⟨.hbm, 533, rfl⟩
abbrev main_cst_61 : Ref sig .tc := ⟨.hbm, 534, rfl⟩
abbrev main_v459 : Ref sig .tc := ⟨.hbm, 535, rfl⟩
abbrev main_v460 : Ref sig .tc := ⟨.hbm, 536, rfl⟩
abbrev main_v461 : Ref sig .tc := ⟨.hbm, 537, rfl⟩
abbrev main_cst_62 : Ref sig .tc := ⟨.hbm, 538, rfl⟩
abbrev main_v462 : Ref sig .tc := ⟨.hbm, 539, rfl⟩
abbrev main_v463 : Ref sig .tc := ⟨.hbm, 540, rfl⟩
abbrev main_v464 : Ref sig .tc := ⟨.hbm, 541, rfl⟩
abbrev main_cst_63 : Ref sig .tc := ⟨.hbm, 542, rfl⟩
abbrev main_v465 : Ref sig .tc := ⟨.hbm, 543, rfl⟩
abbrev main_v466 : Ref sig .tc := ⟨.hbm, 544, rfl⟩
abbrev main_cst_64 : Ref sig .tc := ⟨.hbm, 545, rfl⟩
abbrev main_v467 : Ref sig .tc := ⟨.hbm, 546, rfl⟩
abbrev main_v468 : Ref sig .tc := ⟨.hbm, 547, rfl⟩
abbrev main_v469 : Ref sig .tc := ⟨.hbm, 548, rfl⟩
abbrev main_cst_65 : Ref sig .tc := ⟨.hbm, 549, rfl⟩
abbrev main_v470 : Ref sig .tc := ⟨.hbm, 550, rfl⟩
abbrev main_v471 : Ref sig .tc := ⟨.hbm, 551, rfl⟩
abbrev main_cst_66 : Ref sig .tc := ⟨.hbm, 552, rfl⟩
abbrev main_v472 : Ref sig .tc := ⟨.hbm, 553, rfl⟩
abbrev main_v473 : Ref sig .tc := ⟨.hbm, 554, rfl⟩
abbrev main_v474 : Ref sig .tc := ⟨.hbm, 555, rfl⟩
abbrev main_v475 : Ref sig .tc := ⟨.hbm, 556, rfl⟩
abbrev main_v476 : Ref sig .tc := ⟨.hbm, 557, rfl⟩
abbrev main_v477 : Ref sig .tc := ⟨.hbm, 558, rfl⟩
abbrev main_v478 : Ref sig .tc := ⟨.hbm, 559, rfl⟩
abbrev main_v479 : Ref sig .tc := ⟨.hbm, 560, rfl⟩
abbrev main_v480 : Ref sig .tc := ⟨.hbm, 561, rfl⟩
abbrev main_v481 : Ref sig .tc := ⟨.hbm, 562, rfl⟩
abbrev main_v482 : Ref sig .tc := ⟨.hbm, 563, rfl⟩
abbrev main_v483 : Ref sig .tc := ⟨.hbm, 564, rfl⟩
abbrev main_cst_67 : Ref sig .tc := ⟨.hbm, 565, rfl⟩
abbrev main_v484 : Ref sig .tc := ⟨.hbm, 566, rfl⟩
abbrev main_v485 : Ref sig .tc := ⟨.hbm, 567, rfl⟩
abbrev main_cst_68 : Ref sig .tc := ⟨.hbm, 568, rfl⟩
abbrev main_v486 : Ref sig .tc := ⟨.hbm, 569, rfl⟩
abbrev main_v487 : Ref sig .tc := ⟨.hbm, 570, rfl⟩
abbrev main_cst_69 : Ref sig .tc := ⟨.hbm, 571, rfl⟩
abbrev main_v488 : Ref sig .tc := ⟨.hbm, 572, rfl⟩
abbrev main_v489 : Ref sig .tc := ⟨.hbm, 573, rfl⟩
abbrev main_v490 : Ref sig .tc := ⟨.hbm, 574, rfl⟩
abbrev main_v491 : Ref sig .tc := ⟨.hbm, 575, rfl⟩
abbrev main_v492 : Ref sig .tc := ⟨.hbm, 576, rfl⟩
abbrev main_v493 : Ref sig .tc := ⟨.hbm, 577, rfl⟩
abbrev main_v494 : Ref sig .tc := ⟨.hbm, 578, rfl⟩
abbrev main_cst_70 : Ref sig .tc := ⟨.hbm, 579, rfl⟩
abbrev main_v495 : Ref sig .tc := ⟨.hbm, 580, rfl⟩
abbrev main_v496 : Ref sig .tc := ⟨.hbm, 581, rfl⟩
abbrev main_cst_71 : Ref sig .tc := ⟨.hbm, 582, rfl⟩
abbrev main_v497 : Ref sig .tc := ⟨.hbm, 583, rfl⟩
abbrev main_v498 : Ref sig .tc := ⟨.hbm, 584, rfl⟩
abbrev main_cst_72 : Ref sig .tc := ⟨.hbm, 585, rfl⟩
abbrev main_v499 : Ref sig .tc := ⟨.hbm, 586, rfl⟩
abbrev main_v500 : Ref sig .tc := ⟨.hbm, 587, rfl⟩
abbrev main_v501 : Ref sig .tc := ⟨.hbm, 588, rfl⟩
abbrev main_v502 : Ref sig .tc := ⟨.hbm, 589, rfl⟩
abbrev main_cst_73 : Ref sig .tc := ⟨.hbm, 590, rfl⟩
abbrev main_v503 : Ref sig .tc := ⟨.hbm, 591, rfl⟩
abbrev main_v504 : Ref sig .tc := ⟨.hbm, 592, rfl⟩
abbrev main_v505 : Ref sig .tc := ⟨.hbm, 593, rfl⟩
abbrev main_v506 : Ref sig .tc := ⟨.hbm, 594, rfl⟩
abbrev main_v507 : Ref sig .tc := ⟨.hbm, 595, rfl⟩
abbrev main_v508 : Ref sig .tc := ⟨.hbm, 596, rfl⟩
abbrev main_v509 : Ref sig .tc := ⟨.hbm, 597, rfl⟩
abbrev main_v510 : Ref sig .tc := ⟨.hbm, 598, rfl⟩
abbrev main_cst_74 : Ref sig .tc := ⟨.hbm, 599, rfl⟩
abbrev main_v511 : Ref sig .tc := ⟨.hbm, 600, rfl⟩
abbrev main_v512 : Ref sig .tc := ⟨.hbm, 601, rfl⟩
abbrev main_v513 : Ref sig .tc := ⟨.hbm, 602, rfl⟩
abbrev main_v514 : Ref sig .tc := ⟨.hbm, 603, rfl⟩
abbrev main_cst_75 : Ref sig .tc := ⟨.hbm, 604, rfl⟩
abbrev main_v515 : Ref sig .tc := ⟨.hbm, 605, rfl⟩
abbrev main_v516 : Ref sig .tc := ⟨.hbm, 606, rfl⟩
abbrev main_cst_76 : Ref sig .tc := ⟨.hbm, 607, rfl⟩
abbrev main_v517 : Ref sig .tc := ⟨.hbm, 608, rfl⟩
abbrev main_v518 : Ref sig .tc := ⟨.hbm, 609, rfl⟩
abbrev main_v519 : Ref sig .tc := ⟨.hbm, 610, rfl⟩
abbrev main_v520 : Ref sig .tc := ⟨.hbm, 611, rfl⟩
abbrev main_v521 : Ref sig .tc := ⟨.hbm, 612, rfl⟩
abbrev main_cst_77 : Ref sig .tc := ⟨.hbm, 613, rfl⟩
abbrev main_v522 : Ref sig .tc := ⟨.hbm, 614, rfl⟩
abbrev main_v523 : Ref sig .tc := ⟨.hbm, 615, rfl⟩
abbrev main_cst_78 : Ref sig .tc := ⟨.hbm, 616, rfl⟩
abbrev main_v524 : Ref sig .tc := ⟨.hbm, 617, rfl⟩
abbrev main_v525 : Ref sig .tc := ⟨.hbm, 618, rfl⟩
abbrev main_v526 : Ref sig .tc := ⟨.hbm, 619, rfl⟩
abbrev main_v527 : Ref sig .tc := ⟨.hbm, 620, rfl⟩
abbrev main_v528 : Ref sig .tc := ⟨.hbm, 621, rfl⟩
abbrev main_v529 : Ref sig .tc := ⟨.hbm, 622, rfl⟩
abbrev main_v530 : Ref sig .tc := ⟨.hbm, 623, rfl⟩
abbrev main_v531 : Ref sig .tc := ⟨.hbm, 624, rfl⟩
abbrev main_v532 : Ref sig .tc := ⟨.hbm, 625, rfl⟩
abbrev main_v533 : Ref sig .tc := ⟨.hbm, 626, rfl⟩
abbrev main_v534 : Ref sig .tc := ⟨.hbm, 627, rfl⟩
abbrev main_cst_79 : Ref sig .tc := ⟨.hbm, 628, rfl⟩
abbrev main_v535 : Ref sig .tc := ⟨.hbm, 629, rfl⟩
abbrev main_v536 : Ref sig .tc := ⟨.hbm, 630, rfl⟩
abbrev main_cst_80 : Ref sig .tc := ⟨.hbm, 631, rfl⟩
abbrev main_v537 : Ref sig .tc := ⟨.hbm, 632, rfl⟩
abbrev main_v538 : Ref sig .tc := ⟨.hbm, 633, rfl⟩
abbrev main_v539 : Ref sig .tc := ⟨.hbm, 634, rfl⟩
abbrev main_v540 : Ref sig .tc := ⟨.hbm, 635, rfl⟩
abbrev main_v541 : Ref sig .tc := ⟨.hbm, 636, rfl⟩
abbrev main_v542 : Ref sig .tc := ⟨.hbm, 637, rfl⟩
abbrev main_v543 : Ref sig .tc := ⟨.hbm, 638, rfl⟩
abbrev main_v544 : Ref sig .tc := ⟨.hbm, 639, rfl⟩
abbrev main_v545 : Ref sig .tc := ⟨.hbm, 640, rfl⟩
abbrev main_v546 : Ref sig .tc := ⟨.hbm, 641, rfl⟩
abbrev main_v547 : Ref sig .tc := ⟨.hbm, 642, rfl⟩
abbrev main_cst_81 : Ref sig .tc := ⟨.hbm, 643, rfl⟩
abbrev main_v548 : Ref sig .tc := ⟨.hbm, 644, rfl⟩
abbrev main_v549 : Ref sig .tc := ⟨.hbm, 645, rfl⟩
abbrev main_v550 : Ref sig .tc := ⟨.hbm, 646, rfl⟩
abbrev main_cst_82 : Ref sig .tc := ⟨.hbm, 647, rfl⟩
abbrev main_v551 : Ref sig .tc := ⟨.hbm, 648, rfl⟩
abbrev main_v552 : Ref sig .tc := ⟨.hbm, 649, rfl⟩
abbrev main_v553 : Ref sig .tc := ⟨.hbm, 650, rfl⟩
abbrev main_cst_83 : Ref sig .tc := ⟨.hbm, 651, rfl⟩
abbrev main_v554 : Ref sig .tc := ⟨.hbm, 652, rfl⟩
abbrev main_v555 : Ref sig .tc := ⟨.hbm, 653, rfl⟩
abbrev main_v556 : Ref sig .tc := ⟨.hbm, 654, rfl⟩
abbrev main_v557 : Ref sig .tc := ⟨.hbm, 655, rfl⟩
abbrev main_v558 : Ref sig .tc := ⟨.hbm, 656, rfl⟩
abbrev main_v559 : Ref sig .tc := ⟨.hbm, 657, rfl⟩
abbrev main_v560 : Ref sig .tc := ⟨.hbm, 658, rfl⟩
abbrev main_cst_84 : Ref sig .tc := ⟨.hbm, 659, rfl⟩
abbrev main_v561 : Ref sig .tc := ⟨.hbm, 660, rfl⟩
abbrev main_v562 : Ref sig .tc := ⟨.hbm, 661, rfl⟩
abbrev main_cst_85 : Ref sig .tc := ⟨.hbm, 662, rfl⟩
abbrev main_v563 : Ref sig .tc := ⟨.hbm, 663, rfl⟩
abbrev main_v564 : Ref sig .tc := ⟨.hbm, 664, rfl⟩
abbrev main_v565 : Ref sig .tc := ⟨.hbm, 665, rfl⟩
abbrev main_v566 : Ref sig .tc := ⟨.hbm, 666, rfl⟩
abbrev main_v567 : Ref sig .tc := ⟨.hbm, 667, rfl⟩
abbrev main_v568 : Ref sig .tc := ⟨.hbm, 668, rfl⟩
abbrev main_v569 : Ref sig .tc := ⟨.hbm, 669, rfl⟩
abbrev main_v570 : Ref sig .tc := ⟨.hbm, 670, rfl⟩
abbrev main_v571 : Ref sig .tc := ⟨.hbm, 671, rfl⟩
abbrev main_v572 : Ref sig .tc := ⟨.hbm, 672, rfl⟩
abbrev main_v573 : Ref sig .tc := ⟨.hbm, 673, rfl⟩
abbrev main_v574 : Ref sig .tc := ⟨.hbm, 674, rfl⟩
abbrev main_v575 : Ref sig .tc := ⟨.hbm, 675, rfl⟩
abbrev main_v576 : Ref sig .tc := ⟨.hbm, 676, rfl⟩
abbrev main_v577 : Ref sig .tc := ⟨.hbm, 677, rfl⟩
abbrev main_v578 : Ref sig .tc := ⟨.hbm, 678, rfl⟩
abbrev main_cst_86 : Ref sig .tc := ⟨.hbm, 679, rfl⟩
abbrev main_v579 : Ref sig .tc := ⟨.hbm, 680, rfl⟩
abbrev main_v580 : Ref sig .tc := ⟨.hbm, 681, rfl⟩
abbrev main_cst_87 : Ref sig .tc := ⟨.hbm, 682, rfl⟩
abbrev main_v581 : Ref sig .tc := ⟨.hbm, 683, rfl⟩
abbrev main_v582 : Ref sig .tc := ⟨.hbm, 684, rfl⟩
abbrev main_v583 : Ref sig .tc := ⟨.hbm, 685, rfl⟩
abbrev main_v584 : Ref sig .tc := ⟨.hbm, 686, rfl⟩
abbrev main_cst_88 : Ref sig .tc := ⟨.hbm, 687, rfl⟩
abbrev main_v585 : Ref sig .tc := ⟨.hbm, 688, rfl⟩
abbrev main_v586 : Ref sig .tc := ⟨.hbm, 689, rfl⟩
abbrev main_cst_89 : Ref sig .tc := ⟨.hbm, 690, rfl⟩
abbrev main_v587 : Ref sig .tc := ⟨.hbm, 691, rfl⟩
abbrev main_v588 : Ref sig .tc := ⟨.hbm, 692, rfl⟩
abbrev main_v589 : Ref sig .tc := ⟨.hbm, 693, rfl⟩
abbrev main_v590 : Ref sig .tc := ⟨.hbm, 694, rfl⟩
abbrev main_v591 : Ref sig .tc := ⟨.hbm, 695, rfl⟩
abbrev main_v592 : Ref sig .tc := ⟨.hbm, 696, rfl⟩
abbrev main_cst_90 : Ref sig .tc := ⟨.hbm, 697, rfl⟩
abbrev main_v593 : Ref sig .tc := ⟨.hbm, 698, rfl⟩
abbrev main_v594 : Ref sig .tc := ⟨.hbm, 699, rfl⟩
abbrev main_cst_91 : Ref sig .tc := ⟨.hbm, 700, rfl⟩
abbrev main_v595 : Ref sig .tc := ⟨.hbm, 701, rfl⟩
abbrev main_v596 : Ref sig .tc := ⟨.hbm, 702, rfl⟩
abbrev main_v597 : Ref sig .tc := ⟨.hbm, 703, rfl⟩
abbrev main_v598 : Ref sig .tc := ⟨.hbm, 704, rfl⟩
abbrev main_v599 : Ref sig .tc := ⟨.hbm, 705, rfl⟩
abbrev main_v600 : Ref sig .tc := ⟨.hbm, 706, rfl⟩
abbrev main_cst_92 : Ref sig .tc := ⟨.hbm, 707, rfl⟩
abbrev main_v601 : Ref sig .tc := ⟨.hbm, 708, rfl⟩
abbrev main_v602 : Ref sig .tc := ⟨.hbm, 709, rfl⟩
abbrev main_cst_93 : Ref sig .tc := ⟨.hbm, 710, rfl⟩
abbrev main_v603 : Ref sig .tc := ⟨.hbm, 711, rfl⟩
abbrev main_v604 : Ref sig .tc := ⟨.hbm, 712, rfl⟩
abbrev main_v605 : Ref sig .tc := ⟨.hbm, 713, rfl⟩
abbrev main_v606 : Ref sig .tc := ⟨.hbm, 714, rfl⟩
abbrev main_cst_94 : Ref sig .tc := ⟨.hbm, 715, rfl⟩
abbrev main_v607 : Ref sig .tc := ⟨.hbm, 716, rfl⟩
abbrev main_v608 : Ref sig .tc := ⟨.hbm, 717, rfl⟩
abbrev main_v609 : Ref sig .tc := ⟨.hbm, 718, rfl⟩
abbrev main_v610 : Ref sig .tc := ⟨.hbm, 719, rfl⟩
abbrev main_cst_95 : Ref sig .tc := ⟨.hbm, 720, rfl⟩
abbrev main_v611 : Ref sig .tc := ⟨.hbm, 721, rfl⟩
abbrev main_v612 : Ref sig .tc := ⟨.hbm, 722, rfl⟩
abbrev main_v613 : Ref sig .tc := ⟨.hbm, 723, rfl⟩
abbrev main_v614 : Ref sig .tc := ⟨.hbm, 724, rfl⟩
abbrev main_cst_96 : Ref sig .tc := ⟨.hbm, 725, rfl⟩
abbrev main_v615 : Ref sig .tc := ⟨.hbm, 726, rfl⟩
abbrev main_v616 : Ref sig .tc := ⟨.hbm, 727, rfl⟩
abbrev main_v617 : Ref sig .tc := ⟨.hbm, 728, rfl⟩
abbrev main_v618 : Ref sig .tc := ⟨.hbm, 729, rfl⟩
abbrev main_v619 : Ref sig .tc := ⟨.hbm, 730, rfl⟩
abbrev main_v620 : Ref sig .tc := ⟨.hbm, 731, rfl⟩
abbrev main_v621 : Ref sig .tc := ⟨.hbm, 732, rfl⟩
abbrev main_v622 : Ref sig .tc := ⟨.hbm, 733, rfl⟩
abbrev main_v623 : Ref sig .tc := ⟨.hbm, 734, rfl⟩
abbrev main_v624 : Ref sig .tc := ⟨.hbm, 735, rfl⟩
abbrev main_v625 : Ref sig .tc := ⟨.hbm, 736, rfl⟩
abbrev main_v626 : Ref sig .tc := ⟨.hbm, 737, rfl⟩
abbrev main_v627 : Ref sig .tc := ⟨.hbm, 738, rfl⟩
abbrev main_v628 : Ref sig .tc := ⟨.hbm, 739, rfl⟩
abbrev main_cst_97 : Ref sig .tc := ⟨.hbm, 740, rfl⟩
abbrev main_v629 : Ref sig .tc := ⟨.hbm, 741, rfl⟩
abbrev main_v630 : Ref sig .tc := ⟨.hbm, 742, rfl⟩
abbrev main_cst_98 : Ref sig .tc := ⟨.hbm, 743, rfl⟩
abbrev main_v631 : Ref sig .tc := ⟨.hbm, 744, rfl⟩
abbrev main_v632 : Ref sig .tc := ⟨.hbm, 745, rfl⟩
abbrev main_v633 : Ref sig .tc := ⟨.hbm, 746, rfl⟩
abbrev main_v634 : Ref sig .tc := ⟨.hbm, 747, rfl⟩
abbrev main_v635 : Ref sig .tc := ⟨.hbm, 748, rfl⟩
abbrev main_cst_99 : Ref sig .tc := ⟨.hbm, 749, rfl⟩
abbrev main_v636 : Ref sig .tc := ⟨.hbm, 750, rfl⟩
abbrev main_v637 : Ref sig .tc := ⟨.hbm, 751, rfl⟩
abbrev main_cst_100 : Ref sig .tc := ⟨.hbm, 752, rfl⟩
abbrev main_v638 : Ref sig .tc := ⟨.hbm, 753, rfl⟩
abbrev main_v639 : Ref sig .tc := ⟨.hbm, 754, rfl⟩
abbrev main_v640 : Ref sig .tc := ⟨.hbm, 755, rfl⟩
abbrev main_v641 : Ref sig .tc := ⟨.hbm, 756, rfl⟩
abbrev main_v642 : Ref sig .tc := ⟨.hbm, 757, rfl⟩
abbrev main_v643 : Ref sig .tc := ⟨.hbm, 758, rfl⟩
abbrev main_v644 : Ref sig .tc := ⟨.hbm, 759, rfl⟩
abbrev main_cst_101 : Ref sig .tc := ⟨.hbm, 760, rfl⟩
abbrev main_v645 : Ref sig .tc := ⟨.hbm, 761, rfl⟩
abbrev main_v646 : Ref sig .tc := ⟨.hbm, 762, rfl⟩
abbrev main_cst_102 : Ref sig .tc := ⟨.hbm, 763, rfl⟩
abbrev main_v647 : Ref sig .tc := ⟨.hbm, 764, rfl⟩
abbrev main_v648 : Ref sig .tc := ⟨.hbm, 765, rfl⟩
abbrev main_v649 : Ref sig .tc := ⟨.hbm, 766, rfl⟩
abbrev main_v650 : Ref sig .tc := ⟨.hbm, 767, rfl⟩
abbrev main_v651 : Ref sig .tc := ⟨.hbm, 768, rfl⟩
abbrev main_v652 : Ref sig .tc := ⟨.hbm, 769, rfl⟩
abbrev main_cst_103 : Ref sig .tc := ⟨.hbm, 770, rfl⟩
abbrev main_v653 : Ref sig .tc := ⟨.hbm, 771, rfl⟩
abbrev main_v654 : Ref sig .tc := ⟨.hbm, 772, rfl⟩
abbrev main_cst_104 : Ref sig .tc := ⟨.hbm, 773, rfl⟩
abbrev main_v655 : Ref sig .tc := ⟨.hbm, 774, rfl⟩
abbrev main_v656 : Ref sig .tc := ⟨.hbm, 775, rfl⟩
abbrev main_v657 : Ref sig .tc := ⟨.hbm, 776, rfl⟩
abbrev main_v658 : Ref sig .tc := ⟨.hbm, 777, rfl⟩
abbrev main_cst_105 : Ref sig .tc := ⟨.hbm, 778, rfl⟩
abbrev main_v659 : Ref sig .tc := ⟨.hbm, 779, rfl⟩
abbrev main_v660 : Ref sig .tc := ⟨.hbm, 780, rfl⟩
abbrev main_v661 : Ref sig .tc := ⟨.hbm, 781, rfl⟩
abbrev main_v662 : Ref sig .tc := ⟨.hbm, 782, rfl⟩
abbrev main_cst_106 : Ref sig .tc := ⟨.hbm, 783, rfl⟩
abbrev main_v663 : Ref sig .tc := ⟨.hbm, 784, rfl⟩
abbrev main_v664 : Ref sig .tc := ⟨.hbm, 785, rfl⟩
abbrev main_v665 : Ref sig .tc := ⟨.hbm, 786, rfl⟩
abbrev main_v666 : Ref sig .tc := ⟨.hbm, 787, rfl⟩
abbrev main_cst_107 : Ref sig .tc := ⟨.hbm, 788, rfl⟩
abbrev main_v667 : Ref sig .tc := ⟨.hbm, 789, rfl⟩
abbrev main_v668 : Ref sig .tc := ⟨.hbm, 790, rfl⟩
abbrev main_v669 : Ref sig .tc := ⟨.hbm, 791, rfl⟩
abbrev main_v670 : Ref sig .tc := ⟨.hbm, 792, rfl⟩
abbrev main_v671 : Ref sig .tc := ⟨.hbm, 793, rfl⟩
abbrev main_v672 : Ref sig .tc := ⟨.hbm, 794, rfl⟩
abbrev main_v673 : Ref sig .tc := ⟨.hbm, 795, rfl⟩
abbrev main_v674 : Ref sig .tc := ⟨.hbm, 796, rfl⟩
abbrev main_v675 : Ref sig .tc := ⟨.hbm, 797, rfl⟩
abbrev main_v676 : Ref sig .tc := ⟨.hbm, 798, rfl⟩
abbrev main_v677 : Ref sig .tc := ⟨.hbm, 799, rfl⟩
abbrev main_v678 : Ref sig .tc := ⟨.hbm, 800, rfl⟩
abbrev main_v679 : Ref sig .tc := ⟨.hbm, 801, rfl⟩
abbrev main_v680 : Ref sig .tc := ⟨.hbm, 802, rfl⟩
abbrev main_cst_108 : Ref sig .tc := ⟨.hbm, 803, rfl⟩
abbrev main_v681 : Ref sig .tc := ⟨.hbm, 804, rfl⟩
abbrev main_v682 : Ref sig .tc := ⟨.hbm, 805, rfl⟩
abbrev main_cst_109 : Ref sig .tc := ⟨.hbm, 806, rfl⟩
abbrev main_v683 : Ref sig .tc := ⟨.hbm, 807, rfl⟩
abbrev main_v684 : Ref sig .tc := ⟨.hbm, 808, rfl⟩
abbrev main_v685 : Ref sig .tc := ⟨.hbm, 809, rfl⟩
abbrev main_v686 : Ref sig .tc := ⟨.hbm, 810, rfl⟩
abbrev main_v687 : Ref sig .tc := ⟨.hbm, 811, rfl⟩
abbrev main_cst_110 : Ref sig .tc := ⟨.hbm, 812, rfl⟩
abbrev main_v688 : Ref sig .tc := ⟨.hbm, 813, rfl⟩
abbrev main_v689 : Ref sig .tc := ⟨.hbm, 814, rfl⟩
abbrev main_cst_111 : Ref sig .tc := ⟨.hbm, 815, rfl⟩
abbrev main_v690 : Ref sig .tc := ⟨.hbm, 816, rfl⟩
abbrev main_v691 : Ref sig .tc := ⟨.hbm, 817, rfl⟩
abbrev main_v692 : Ref sig .tc := ⟨.hbm, 818, rfl⟩
abbrev main_v693 : Ref sig .tc := ⟨.hbm, 819, rfl⟩
abbrev main_v694 : Ref sig .tc := ⟨.hbm, 820, rfl⟩
abbrev main_v695 : Ref sig .tc := ⟨.hbm, 821, rfl⟩
abbrev main_v696 : Ref sig .tc := ⟨.hbm, 822, rfl⟩
abbrev main_cst_112 : Ref sig .tc := ⟨.hbm, 823, rfl⟩
abbrev main_v697 : Ref sig .tc := ⟨.hbm, 824, rfl⟩
abbrev main_v698 : Ref sig .tc := ⟨.hbm, 825, rfl⟩
abbrev main_cst_113 : Ref sig .tc := ⟨.hbm, 826, rfl⟩
abbrev main_v699 : Ref sig .tc := ⟨.hbm, 827, rfl⟩
abbrev main_v700 : Ref sig .tc := ⟨.hbm, 828, rfl⟩
abbrev main_v701 : Ref sig .tc := ⟨.hbm, 829, rfl⟩
abbrev main_v702 : Ref sig .tc := ⟨.hbm, 830, rfl⟩
abbrev main_v703 : Ref sig .tc := ⟨.hbm, 831, rfl⟩
abbrev main_v704 : Ref sig .tc := ⟨.hbm, 832, rfl⟩
abbrev main_cst_114 : Ref sig .tc := ⟨.hbm, 833, rfl⟩
abbrev main_v705 : Ref sig .tc := ⟨.hbm, 834, rfl⟩
abbrev main_v706 : Ref sig .tc := ⟨.hbm, 835, rfl⟩
abbrev main_cst_115 : Ref sig .tc := ⟨.hbm, 836, rfl⟩
abbrev main_v707 : Ref sig .tc := ⟨.hbm, 837, rfl⟩
abbrev main_v708 : Ref sig .tc := ⟨.hbm, 838, rfl⟩
abbrev main_v709 : Ref sig .tc := ⟨.hbm, 839, rfl⟩
abbrev main_v710 : Ref sig .tc := ⟨.hbm, 840, rfl⟩
abbrev main_cst_116 : Ref sig .tc := ⟨.hbm, 841, rfl⟩
abbrev main_v711 : Ref sig .tc := ⟨.hbm, 842, rfl⟩
abbrev main_v712 : Ref sig .tc := ⟨.hbm, 843, rfl⟩
abbrev main_v713 : Ref sig .tc := ⟨.hbm, 844, rfl⟩
abbrev main_v714 : Ref sig .tc := ⟨.hbm, 845, rfl⟩
abbrev main_cst_117 : Ref sig .tc := ⟨.hbm, 846, rfl⟩
abbrev main_v715 : Ref sig .tc := ⟨.hbm, 847, rfl⟩
abbrev main_v716 : Ref sig .tc := ⟨.hbm, 848, rfl⟩
abbrev main_v717 : Ref sig .tc := ⟨.hbm, 849, rfl⟩
abbrev main_v718 : Ref sig .tc := ⟨.hbm, 850, rfl⟩
abbrev main_cst_118 : Ref sig .tc := ⟨.hbm, 851, rfl⟩
abbrev main_v719 : Ref sig .tc := ⟨.hbm, 852, rfl⟩
abbrev main_v720 : Ref sig .tc := ⟨.hbm, 853, rfl⟩
abbrev main_v721 : Ref sig .tc := ⟨.hbm, 854, rfl⟩
abbrev main_v722 : Ref sig .tc := ⟨.hbm, 855, rfl⟩
abbrev main_v723 : Ref sig .tc := ⟨.hbm, 856, rfl⟩
abbrev main_v724 : Ref sig .tc := ⟨.hbm, 857, rfl⟩
abbrev main_v725 : Ref sig .tc := ⟨.hbm, 858, rfl⟩
abbrev main_v726 : Ref sig .tc := ⟨.hbm, 859, rfl⟩
abbrev main_v727 : Ref sig .tc := ⟨.hbm, 860, rfl⟩
abbrev main_v728 : Ref sig .tc := ⟨.hbm, 861, rfl⟩
abbrev main_v729 : Ref sig .tc := ⟨.hbm, 862, rfl⟩
abbrev main_v730 : Ref sig .tc := ⟨.hbm, 863, rfl⟩
abbrev main_v731 : Ref sig .tc := ⟨.hbm, 864, rfl⟩
abbrev main_v732 : Ref sig .tc := ⟨.hbm, 865, rfl⟩
abbrev main_cst_119 : Ref sig .tc := ⟨.hbm, 866, rfl⟩
abbrev main_v733 : Ref sig .tc := ⟨.hbm, 867, rfl⟩
abbrev main_v734 : Ref sig .tc := ⟨.hbm, 868, rfl⟩
abbrev main_cst_120 : Ref sig .tc := ⟨.hbm, 869, rfl⟩
abbrev main_v735 : Ref sig .tc := ⟨.hbm, 870, rfl⟩
abbrev main_v736 : Ref sig .tc := ⟨.hbm, 871, rfl⟩
abbrev main_v737 : Ref sig .tc := ⟨.hbm, 872, rfl⟩
abbrev main_v738 : Ref sig .tc := ⟨.hbm, 873, rfl⟩
abbrev main_v739 : Ref sig .tc := ⟨.hbm, 874, rfl⟩
abbrev main_cst_121 : Ref sig .tc := ⟨.hbm, 875, rfl⟩
abbrev main_v740 : Ref sig .tc := ⟨.hbm, 876, rfl⟩
abbrev main_v741 : Ref sig .tc := ⟨.hbm, 877, rfl⟩
abbrev main_cst_122 : Ref sig .tc := ⟨.hbm, 878, rfl⟩
abbrev main_v742 : Ref sig .tc := ⟨.hbm, 879, rfl⟩
abbrev main_v743 : Ref sig .tc := ⟨.hbm, 880, rfl⟩
abbrev main_v744 : Ref sig .tc := ⟨.hbm, 881, rfl⟩
abbrev main_v745 : Ref sig .tc := ⟨.hbm, 882, rfl⟩
abbrev main_v746 : Ref sig .tc := ⟨.hbm, 883, rfl⟩
abbrev main_v747 : Ref sig .tc := ⟨.hbm, 884, rfl⟩
abbrev main_v748 : Ref sig .tc := ⟨.hbm, 885, rfl⟩
abbrev main_cst_123 : Ref sig .tc := ⟨.hbm, 886, rfl⟩
abbrev main_v749 : Ref sig .tc := ⟨.hbm, 887, rfl⟩
abbrev main_v750 : Ref sig .tc := ⟨.hbm, 888, rfl⟩
abbrev main_cst_124 : Ref sig .tc := ⟨.hbm, 889, rfl⟩
abbrev main_v751 : Ref sig .tc := ⟨.hbm, 890, rfl⟩
abbrev main_v752 : Ref sig .tc := ⟨.hbm, 891, rfl⟩
abbrev main_v753 : Ref sig .tc := ⟨.hbm, 892, rfl⟩
abbrev main_v754 : Ref sig .tc := ⟨.hbm, 893, rfl⟩
abbrev main_v755 : Ref sig .tc := ⟨.hbm, 894, rfl⟩
abbrev main_v756 : Ref sig .tc := ⟨.hbm, 895, rfl⟩
abbrev main_cst_125 : Ref sig .tc := ⟨.hbm, 896, rfl⟩
abbrev main_v757 : Ref sig .tc := ⟨.hbm, 897, rfl⟩
abbrev main_v758 : Ref sig .tc := ⟨.hbm, 898, rfl⟩
abbrev main_cst_126 : Ref sig .tc := ⟨.hbm, 899, rfl⟩
abbrev main_v759 : Ref sig .tc := ⟨.hbm, 900, rfl⟩
abbrev main_v760 : Ref sig .tc := ⟨.hbm, 901, rfl⟩
abbrev main_v761 : Ref sig .tc := ⟨.hbm, 902, rfl⟩
abbrev main_v762 : Ref sig .tc := ⟨.hbm, 903, rfl⟩
abbrev main_cst_127 : Ref sig .tc := ⟨.hbm, 904, rfl⟩
abbrev main_v763 : Ref sig .tc := ⟨.hbm, 905, rfl⟩
abbrev main_v764 : Ref sig .tc := ⟨.hbm, 906, rfl⟩
abbrev main_v765 : Ref sig .tc := ⟨.hbm, 907, rfl⟩
abbrev main_v766 : Ref sig .tc := ⟨.hbm, 908, rfl⟩
abbrev main_cst_128 : Ref sig .tc := ⟨.hbm, 909, rfl⟩
abbrev main_v767 : Ref sig .tc := ⟨.hbm, 910, rfl⟩
abbrev main_v768 : Ref sig .tc := ⟨.hbm, 911, rfl⟩
abbrev main_v769 : Ref sig .tc := ⟨.hbm, 912, rfl⟩
abbrev main_v770 : Ref sig .tc := ⟨.hbm, 913, rfl⟩
abbrev main_cst_129 : Ref sig .tc := ⟨.hbm, 914, rfl⟩
abbrev main_v771 : Ref sig .tc := ⟨.hbm, 915, rfl⟩
abbrev main_v772 : Ref sig .tc := ⟨.hbm, 916, rfl⟩
abbrev main_v773 : Ref sig .tc := ⟨.hbm, 917, rfl⟩
abbrev main_v774 : Ref sig .tc := ⟨.hbm, 918, rfl⟩
abbrev main_v775 : Ref sig .tc := ⟨.hbm, 919, rfl⟩
abbrev main_v776 : Ref sig .tc := ⟨.hbm, 920, rfl⟩
abbrev main_v777 : Ref sig .tc := ⟨.hbm, 921, rfl⟩
abbrev main_v778 : Ref sig .tc := ⟨.hbm, 922, rfl⟩
abbrev main_v779 : Ref sig .tc := ⟨.hbm, 923, rfl⟩
abbrev main_v780 : Ref sig .tc := ⟨.hbm, 924, rfl⟩
abbrev main_v781 : Ref sig .tc := ⟨.hbm, 925, rfl⟩
abbrev main_v782 : Ref sig .tc := ⟨.hbm, 926, rfl⟩
abbrev main_v783 : Ref sig .tc := ⟨.hbm, 927, rfl⟩
abbrev main_v784 : Ref sig .tc := ⟨.hbm, 928, rfl⟩
abbrev main_cst_130 : Ref sig .tc := ⟨.hbm, 929, rfl⟩
abbrev main_v785 : Ref sig .tc := ⟨.hbm, 930, rfl⟩
abbrev main_v786 : Ref sig .tc := ⟨.hbm, 931, rfl⟩
abbrev main_cst_131 : Ref sig .tc := ⟨.hbm, 932, rfl⟩
abbrev main_v787 : Ref sig .tc := ⟨.hbm, 933, rfl⟩
abbrev main_v788 : Ref sig .tc := ⟨.hbm, 934, rfl⟩
abbrev main_v789 : Ref sig .tc := ⟨.hbm, 935, rfl⟩
abbrev main_v790 : Ref sig .tc := ⟨.hbm, 936, rfl⟩
abbrev main_v791 : Ref sig .tc := ⟨.hbm, 937, rfl⟩
abbrev main_cst_132 : Ref sig .tc := ⟨.hbm, 938, rfl⟩
abbrev main_v792 : Ref sig .tc := ⟨.hbm, 939, rfl⟩
abbrev main_v793 : Ref sig .tc := ⟨.hbm, 940, rfl⟩
abbrev main_cst_133 : Ref sig .tc := ⟨.hbm, 941, rfl⟩
abbrev main_v794 : Ref sig .tc := ⟨.hbm, 942, rfl⟩
abbrev main_v795 : Ref sig .tc := ⟨.hbm, 943, rfl⟩
abbrev main_v796 : Ref sig .tc := ⟨.hbm, 944, rfl⟩
abbrev main_v797 : Ref sig .tc := ⟨.hbm, 945, rfl⟩
abbrev main_v798 : Ref sig .tc := ⟨.hbm, 946, rfl⟩
abbrev main_v799 : Ref sig .tc := ⟨.hbm, 947, rfl⟩
abbrev main_v800 : Ref sig .tc := ⟨.hbm, 948, rfl⟩
abbrev main_cst_134 : Ref sig .tc := ⟨.hbm, 949, rfl⟩
abbrev main_v801 : Ref sig .tc := ⟨.hbm, 950, rfl⟩
abbrev main_v802 : Ref sig .tc := ⟨.hbm, 951, rfl⟩
abbrev main_cst_135 : Ref sig .tc := ⟨.hbm, 952, rfl⟩
abbrev main_v803 : Ref sig .tc := ⟨.hbm, 953, rfl⟩
abbrev main_v804 : Ref sig .tc := ⟨.hbm, 954, rfl⟩
abbrev main_v805 : Ref sig .tc := ⟨.hbm, 955, rfl⟩
abbrev main_v806 : Ref sig .tc := ⟨.hbm, 956, rfl⟩
abbrev main_v807 : Ref sig .tc := ⟨.hbm, 957, rfl⟩
abbrev main_v808 : Ref sig .tc := ⟨.hbm, 958, rfl⟩
abbrev main_cst_136 : Ref sig .tc := ⟨.hbm, 959, rfl⟩
abbrev main_v809 : Ref sig .tc := ⟨.hbm, 960, rfl⟩
abbrev main_v810 : Ref sig .tc := ⟨.hbm, 961, rfl⟩
abbrev main_cst_137 : Ref sig .tc := ⟨.hbm, 962, rfl⟩
abbrev main_v811 : Ref sig .tc := ⟨.hbm, 963, rfl⟩
abbrev main_v812 : Ref sig .tc := ⟨.hbm, 964, rfl⟩
abbrev main_v813 : Ref sig .tc := ⟨.hbm, 965, rfl⟩
abbrev main_v814 : Ref sig .tc := ⟨.hbm, 966, rfl⟩
abbrev main_cst_138 : Ref sig .tc := ⟨.hbm, 967, rfl⟩
abbrev main_v815 : Ref sig .tc := ⟨.hbm, 968, rfl⟩
abbrev main_v816 : Ref sig .tc := ⟨.hbm, 969, rfl⟩
abbrev main_v817 : Ref sig .tc := ⟨.hbm, 970, rfl⟩
abbrev main_v818 : Ref sig .tc := ⟨.hbm, 971, rfl⟩
abbrev main_cst_139 : Ref sig .tc := ⟨.hbm, 972, rfl⟩
abbrev main_v819 : Ref sig .tc := ⟨.hbm, 973, rfl⟩
abbrev main_v820 : Ref sig .tc := ⟨.hbm, 974, rfl⟩
abbrev main_v821 : Ref sig .tc := ⟨.hbm, 975, rfl⟩
abbrev main_v822 : Ref sig .tc := ⟨.hbm, 976, rfl⟩
abbrev main_cst_140 : Ref sig .tc := ⟨.hbm, 977, rfl⟩
abbrev main_v823 : Ref sig .tc := ⟨.hbm, 978, rfl⟩
abbrev main_v824 : Ref sig .tc := ⟨.hbm, 979, rfl⟩
abbrev main_v825 : Ref sig .tc := ⟨.hbm, 980, rfl⟩
abbrev main_v826 : Ref sig .tc := ⟨.hbm, 981, rfl⟩
abbrev main_v827 : Ref sig .tc := ⟨.hbm, 982, rfl⟩
abbrev main_v828 : Ref sig .tc := ⟨.hbm, 983, rfl⟩
abbrev main_v829 : Ref sig .tc := ⟨.hbm, 984, rfl⟩
abbrev main_v830 : Ref sig .tc := ⟨.hbm, 985, rfl⟩
abbrev main_v831 : Ref sig .tc := ⟨.hbm, 986, rfl⟩
abbrev main_v832 : Ref sig .tc := ⟨.hbm, 987, rfl⟩
abbrev main_v833 : Ref sig .tc := ⟨.hbm, 988, rfl⟩
abbrev main_v834 : Ref sig .tc := ⟨.hbm, 989, rfl⟩
abbrev main_v835 : Ref sig .tc := ⟨.hbm, 990, rfl⟩
abbrev main_v836 : Ref sig .tc := ⟨.hbm, 991, rfl⟩
abbrev main_cst_141 : Ref sig .tc := ⟨.hbm, 992, rfl⟩
abbrev main_v837 : Ref sig .tc := ⟨.hbm, 993, rfl⟩
abbrev main_v838 : Ref sig .tc := ⟨.hbm, 994, rfl⟩
abbrev main_cst_142 : Ref sig .tc := ⟨.hbm, 995, rfl⟩
abbrev main_v839 : Ref sig .tc := ⟨.hbm, 996, rfl⟩
abbrev main_v840 : Ref sig .tc := ⟨.hbm, 997, rfl⟩
abbrev main_v841 : Ref sig .tc := ⟨.hbm, 998, rfl⟩
abbrev main_v842 : Ref sig .tc := ⟨.hbm, 999, rfl⟩
abbrev main_v843 : Ref sig .tc := ⟨.hbm, 1000, rfl⟩
abbrev main_cst_143 : Ref sig .tc := ⟨.hbm, 1001, rfl⟩
abbrev main_v844 : Ref sig .tc := ⟨.hbm, 1002, rfl⟩
abbrev main_v845 : Ref sig .tc := ⟨.hbm, 1003, rfl⟩
abbrev main_cst_144 : Ref sig .tc := ⟨.hbm, 1004, rfl⟩
abbrev main_v846 : Ref sig .tc := ⟨.hbm, 1005, rfl⟩
abbrev main_v847 : Ref sig .tc := ⟨.hbm, 1006, rfl⟩
abbrev main_v848 : Ref sig .tc := ⟨.hbm, 1007, rfl⟩
abbrev main_v849 : Ref sig .tc := ⟨.hbm, 1008, rfl⟩
abbrev main_v850 : Ref sig .tc := ⟨.hbm, 1009, rfl⟩
abbrev main_v851 : Ref sig .tc := ⟨.hbm, 1010, rfl⟩
abbrev main_v852 : Ref sig .tc := ⟨.hbm, 1011, rfl⟩
abbrev main_cst_145 : Ref sig .tc := ⟨.hbm, 1012, rfl⟩
abbrev main_v853 : Ref sig .tc := ⟨.hbm, 1013, rfl⟩
abbrev main_v854 : Ref sig .tc := ⟨.hbm, 1014, rfl⟩
abbrev main_cst_146 : Ref sig .tc := ⟨.hbm, 1015, rfl⟩
abbrev main_v855 : Ref sig .tc := ⟨.hbm, 1016, rfl⟩
abbrev main_v856 : Ref sig .tc := ⟨.hbm, 1017, rfl⟩
abbrev main_v857 : Ref sig .tc := ⟨.hbm, 1018, rfl⟩
abbrev main_v858 : Ref sig .tc := ⟨.hbm, 1019, rfl⟩
abbrev main_v859 : Ref sig .tc := ⟨.hbm, 1020, rfl⟩
abbrev main_v860 : Ref sig .tc := ⟨.hbm, 1021, rfl⟩
abbrev main_cst_147 : Ref sig .tc := ⟨.hbm, 1022, rfl⟩
abbrev main_v861 : Ref sig .tc := ⟨.hbm, 1023, rfl⟩
abbrev main_v862 : Ref sig .tc := ⟨.hbm, 1024, rfl⟩
abbrev main_cst_148 : Ref sig .tc := ⟨.hbm, 1025, rfl⟩
abbrev main_v863 : Ref sig .tc := ⟨.hbm, 1026, rfl⟩
abbrev main_v864 : Ref sig .tc := ⟨.hbm, 1027, rfl⟩
abbrev main_v865 : Ref sig .tc := ⟨.hbm, 1028, rfl⟩
abbrev main_v866 : Ref sig .tc := ⟨.hbm, 1029, rfl⟩
abbrev main_cst_149 : Ref sig .tc := ⟨.hbm, 1030, rfl⟩
abbrev main_v867 : Ref sig .tc := ⟨.hbm, 1031, rfl⟩
abbrev main_v868 : Ref sig .tc := ⟨.hbm, 1032, rfl⟩
abbrev main_v869 : Ref sig .tc := ⟨.hbm, 1033, rfl⟩
abbrev main_v870 : Ref sig .tc := ⟨.hbm, 1034, rfl⟩
abbrev main_cst_150 : Ref sig .tc := ⟨.hbm, 1035, rfl⟩
abbrev main_v871 : Ref sig .tc := ⟨.hbm, 1036, rfl⟩
abbrev main_v872 : Ref sig .tc := ⟨.hbm, 1037, rfl⟩
abbrev main_v873 : Ref sig .tc := ⟨.hbm, 1038, rfl⟩
abbrev main_v874 : Ref sig .tc := ⟨.hbm, 1039, rfl⟩
abbrev main_cst_151 : Ref sig .tc := ⟨.hbm, 1040, rfl⟩
abbrev main_v875 : Ref sig .tc := ⟨.hbm, 1041, rfl⟩
abbrev main_v876 : Ref sig .tc := ⟨.hbm, 1042, rfl⟩
abbrev main_v877 : Ref sig .tc := ⟨.hbm, 1043, rfl⟩
abbrev main_v878 : Ref sig .tc := ⟨.hbm, 1044, rfl⟩
abbrev main_v879 : Ref sig .tc := ⟨.hbm, 1045, rfl⟩
abbrev main_v880 : Ref sig .tc := ⟨.hbm, 1046, rfl⟩
abbrev main_v881 : Ref sig .tc := ⟨.hbm, 1047, rfl⟩
abbrev main_v882 : Ref sig .tc := ⟨.hbm, 1048, rfl⟩
abbrev main_v883 : Ref sig .tc := ⟨.hbm, 1049, rfl⟩
abbrev main_v884 : Ref sig .tc := ⟨.hbm, 1050, rfl⟩
abbrev main_v885 : Ref sig .tc := ⟨.hbm, 1051, rfl⟩
abbrev main_v886 : Ref sig .tc := ⟨.hbm, 1052, rfl⟩
abbrev main_v887 : Ref sig .tc := ⟨.hbm, 1053, rfl⟩
abbrev main_v888 : Ref sig .tc := ⟨.hbm, 1054, rfl⟩
abbrev main_cst_152 : Ref sig .tc := ⟨.hbm, 1055, rfl⟩
abbrev main_v889 : Ref sig .tc := ⟨.hbm, 1056, rfl⟩
abbrev main_v890 : Ref sig .tc := ⟨.hbm, 1057, rfl⟩
abbrev main_cst_153 : Ref sig .tc := ⟨.hbm, 1058, rfl⟩
abbrev main_v891 : Ref sig .tc := ⟨.hbm, 1059, rfl⟩
abbrev main_v892 : Ref sig .tc := ⟨.hbm, 1060, rfl⟩
abbrev main_v893 : Ref sig .tc := ⟨.hbm, 1061, rfl⟩
abbrev main_v894 : Ref sig .tc := ⟨.hbm, 1062, rfl⟩
abbrev main_v895 : Ref sig .tc := ⟨.hbm, 1063, rfl⟩
abbrev main_cst_154 : Ref sig .tc := ⟨.hbm, 1064, rfl⟩
abbrev main_v896 : Ref sig .tc := ⟨.hbm, 1065, rfl⟩
abbrev main_v897 : Ref sig .tc := ⟨.hbm, 1066, rfl⟩
abbrev main_cst_155 : Ref sig .tc := ⟨.hbm, 1067, rfl⟩
abbrev main_v898 : Ref sig .tc := ⟨.hbm, 1068, rfl⟩
abbrev main_v899 : Ref sig .tc := ⟨.hbm, 1069, rfl⟩
abbrev main_v900 : Ref sig .tc := ⟨.hbm, 1070, rfl⟩
abbrev main_v901 : Ref sig .tc := ⟨.hbm, 1071, rfl⟩
abbrev main_v902 : Ref sig .tc := ⟨.hbm, 1072, rfl⟩
abbrev main_v903 : Ref sig .tc := ⟨.hbm, 1073, rfl⟩
abbrev main_v904 : Ref sig .tc := ⟨.hbm, 1074, rfl⟩
abbrev main_cst_156 : Ref sig .tc := ⟨.hbm, 1075, rfl⟩
abbrev main_v905 : Ref sig .tc := ⟨.hbm, 1076, rfl⟩
abbrev main_v906 : Ref sig .tc := ⟨.hbm, 1077, rfl⟩
abbrev main_cst_157 : Ref sig .tc := ⟨.hbm, 1078, rfl⟩
abbrev main_v907 : Ref sig .tc := ⟨.hbm, 1079, rfl⟩
abbrev main_v908 : Ref sig .tc := ⟨.hbm, 1080, rfl⟩
abbrev main_v909 : Ref sig .tc := ⟨.hbm, 1081, rfl⟩
abbrev main_v910 : Ref sig .tc := ⟨.hbm, 1082, rfl⟩
abbrev main_v911 : Ref sig .tc := ⟨.hbm, 1083, rfl⟩
abbrev main_v912 : Ref sig .tc := ⟨.hbm, 1084, rfl⟩
abbrev main_cst_158 : Ref sig .tc := ⟨.hbm, 1085, rfl⟩
abbrev main_v913 : Ref sig .tc := ⟨.hbm, 1086, rfl⟩
abbrev main_v914 : Ref sig .tc := ⟨.hbm, 1087, rfl⟩
abbrev main_cst_159 : Ref sig .tc := ⟨.hbm, 1088, rfl⟩
abbrev main_v915 : Ref sig .tc := ⟨.hbm, 1089, rfl⟩
abbrev main_v916 : Ref sig .tc := ⟨.hbm, 1090, rfl⟩
abbrev main_v917 : Ref sig .tc := ⟨.hbm, 1091, rfl⟩
abbrev main_v918 : Ref sig .tc := ⟨.hbm, 1092, rfl⟩
abbrev main_cst_160 : Ref sig .tc := ⟨.hbm, 1093, rfl⟩
abbrev main_v919 : Ref sig .tc := ⟨.hbm, 1094, rfl⟩
abbrev main_v920 : Ref sig .tc := ⟨.hbm, 1095, rfl⟩
abbrev main_v921 : Ref sig .tc := ⟨.hbm, 1096, rfl⟩
abbrev main_v922 : Ref sig .tc := ⟨.hbm, 1097, rfl⟩
abbrev main_cst_161 : Ref sig .tc := ⟨.hbm, 1098, rfl⟩
abbrev main_v923 : Ref sig .tc := ⟨.hbm, 1099, rfl⟩
abbrev main_v924 : Ref sig .tc := ⟨.hbm, 1100, rfl⟩
abbrev main_v925 : Ref sig .tc := ⟨.hbm, 1101, rfl⟩
abbrev main_v926 : Ref sig .tc := ⟨.hbm, 1102, rfl⟩
abbrev main_cst_162 : Ref sig .tc := ⟨.hbm, 1103, rfl⟩
abbrev main_v927 : Ref sig .tc := ⟨.hbm, 1104, rfl⟩
abbrev main_v928 : Ref sig .tc := ⟨.hbm, 1105, rfl⟩
abbrev main_v929 : Ref sig .tc := ⟨.hbm, 1106, rfl⟩
abbrev main_v930 : Ref sig .tc := ⟨.hbm, 1107, rfl⟩
abbrev main_v931 : Ref sig .tc := ⟨.hbm, 1108, rfl⟩
abbrev main_v932 : Ref sig .tc := ⟨.hbm, 1109, rfl⟩
abbrev main_v933 : Ref sig .tc := ⟨.hbm, 1110, rfl⟩
abbrev main_v934 : Ref sig .tc := ⟨.hbm, 1111, rfl⟩
abbrev main_v935 : Ref sig .tc := ⟨.hbm, 1112, rfl⟩
abbrev main_v936 : Ref sig .tc := ⟨.hbm, 1113, rfl⟩
abbrev main_v937 : Ref sig .tc := ⟨.hbm, 1114, rfl⟩
abbrev main_v938 : Ref sig .tc := ⟨.hbm, 1115, rfl⟩
abbrev main_v939 : Ref sig .tc := ⟨.hbm, 1116, rfl⟩
abbrev main_v940 : Ref sig .tc := ⟨.hbm, 1117, rfl⟩
abbrev main_cst_163 : Ref sig .tc := ⟨.hbm, 1118, rfl⟩
abbrev main_v941 : Ref sig .tc := ⟨.hbm, 1119, rfl⟩
abbrev main_v942 : Ref sig .tc := ⟨.hbm, 1120, rfl⟩
abbrev main_cst_164 : Ref sig .tc := ⟨.hbm, 1121, rfl⟩
abbrev main_v943 : Ref sig .tc := ⟨.hbm, 1122, rfl⟩
abbrev main_v944 : Ref sig .tc := ⟨.hbm, 1123, rfl⟩
abbrev main_v945 : Ref sig .tc := ⟨.hbm, 1124, rfl⟩
abbrev main_v946 : Ref sig .tc := ⟨.hbm, 1125, rfl⟩
abbrev main_v947 : Ref sig .tc := ⟨.hbm, 1126, rfl⟩
abbrev main_cst_165 : Ref sig .tc := ⟨.hbm, 1127, rfl⟩
abbrev main_v948 : Ref sig .tc := ⟨.hbm, 1128, rfl⟩
abbrev main_v949 : Ref sig .tc := ⟨.hbm, 1129, rfl⟩
abbrev main_cst_166 : Ref sig .tc := ⟨.hbm, 1130, rfl⟩
abbrev main_v950 : Ref sig .tc := ⟨.hbm, 1131, rfl⟩
abbrev main_v951 : Ref sig .tc := ⟨.hbm, 1132, rfl⟩
abbrev main_v952 : Ref sig .tc := ⟨.hbm, 1133, rfl⟩
abbrev main_v953 : Ref sig .tc := ⟨.hbm, 1134, rfl⟩
abbrev main_v954 : Ref sig .tc := ⟨.hbm, 1135, rfl⟩
abbrev main_v955 : Ref sig .tc := ⟨.hbm, 1136, rfl⟩
abbrev main_v956 : Ref sig .tc := ⟨.hbm, 1137, rfl⟩
abbrev main_cst_167 : Ref sig .tc := ⟨.hbm, 1138, rfl⟩
abbrev main_v957 : Ref sig .tc := ⟨.hbm, 1139, rfl⟩
abbrev main_v958 : Ref sig .tc := ⟨.hbm, 1140, rfl⟩
abbrev main_cst_168 : Ref sig .tc := ⟨.hbm, 1141, rfl⟩
abbrev main_v959 : Ref sig .tc := ⟨.hbm, 1142, rfl⟩
abbrev main_v960 : Ref sig .tc := ⟨.hbm, 1143, rfl⟩
abbrev main_v961 : Ref sig .tc := ⟨.hbm, 1144, rfl⟩
abbrev main_v962 : Ref sig .tc := ⟨.hbm, 1145, rfl⟩
abbrev main_v963 : Ref sig .tc := ⟨.hbm, 1146, rfl⟩
abbrev main_v964 : Ref sig .tc := ⟨.hbm, 1147, rfl⟩
abbrev main_cst_169 : Ref sig .tc := ⟨.hbm, 1148, rfl⟩
abbrev main_v965 : Ref sig .tc := ⟨.hbm, 1149, rfl⟩
abbrev main_v966 : Ref sig .tc := ⟨.hbm, 1150, rfl⟩
abbrev main_cst_170 : Ref sig .tc := ⟨.hbm, 1151, rfl⟩
abbrev main_v967 : Ref sig .tc := ⟨.hbm, 1152, rfl⟩
abbrev main_v968 : Ref sig .tc := ⟨.hbm, 1153, rfl⟩
abbrev main_v969 : Ref sig .tc := ⟨.hbm, 1154, rfl⟩
abbrev main_v970 : Ref sig .tc := ⟨.hbm, 1155, rfl⟩
abbrev main_cst_171 : Ref sig .tc := ⟨.hbm, 1156, rfl⟩
abbrev main_v971 : Ref sig .tc := ⟨.hbm, 1157, rfl⟩
abbrev main_v972 : Ref sig .tc := ⟨.hbm, 1158, rfl⟩
abbrev main_v973 : Ref sig .tc := ⟨.hbm, 1159, rfl⟩
abbrev main_v974 : Ref sig .tc := ⟨.hbm, 1160, rfl⟩
abbrev main_cst_172 : Ref sig .tc := ⟨.hbm, 1161, rfl⟩
abbrev main_v975 : Ref sig .tc := ⟨.hbm, 1162, rfl⟩
abbrev main_v976 : Ref sig .tc := ⟨.hbm, 1163, rfl⟩
abbrev main_v977 : Ref sig .tc := ⟨.hbm, 1164, rfl⟩
abbrev main_v978 : Ref sig .tc := ⟨.hbm, 1165, rfl⟩
abbrev main_cst_173 : Ref sig .tc := ⟨.hbm, 1166, rfl⟩
abbrev main_v979 : Ref sig .tc := ⟨.hbm, 1167, rfl⟩
abbrev main_v980 : Ref sig .tc := ⟨.hbm, 1168, rfl⟩
abbrev main_v981 : Ref sig .tc := ⟨.hbm, 1169, rfl⟩
abbrev main_v982 : Ref sig .tc := ⟨.hbm, 1170, rfl⟩
abbrev main_v983 : Ref sig .tc := ⟨.hbm, 1171, rfl⟩
abbrev main_v984 : Ref sig .tc := ⟨.hbm, 1172, rfl⟩
abbrev main_v985 : Ref sig .tc := ⟨.hbm, 1173, rfl⟩
abbrev main_v986 : Ref sig .tc := ⟨.hbm, 1174, rfl⟩
abbrev main_v987 : Ref sig .tc := ⟨.hbm, 1175, rfl⟩
abbrev main_v988 : Ref sig .tc := ⟨.hbm, 1176, rfl⟩
abbrev main_v989 : Ref sig .tc := ⟨.hbm, 1177, rfl⟩
abbrev main_v990 : Ref sig .tc := ⟨.hbm, 1178, rfl⟩
abbrev main_v991 : Ref sig .tc := ⟨.hbm, 1179, rfl⟩
abbrev main_v992 : Ref sig .tc := ⟨.hbm, 1180, rfl⟩
abbrev main_cst_174 : Ref sig .tc := ⟨.hbm, 1181, rfl⟩
abbrev main_v993 : Ref sig .tc := ⟨.hbm, 1182, rfl⟩
abbrev main_v994 : Ref sig .tc := ⟨.hbm, 1183, rfl⟩
abbrev main_cst_175 : Ref sig .tc := ⟨.hbm, 1184, rfl⟩
abbrev main_v995 : Ref sig .tc := ⟨.hbm, 1185, rfl⟩
abbrev main_v996 : Ref sig .tc := ⟨.hbm, 1186, rfl⟩
abbrev main_v997 : Ref sig .tc := ⟨.hbm, 1187, rfl⟩
abbrev main_v998 : Ref sig .tc := ⟨.hbm, 1188, rfl⟩
abbrev main_v999 : Ref sig .tc := ⟨.hbm, 1189, rfl⟩
abbrev main_cst_176 : Ref sig .tc := ⟨.hbm, 1190, rfl⟩
abbrev main_v1000 : Ref sig .tc := ⟨.hbm, 1191, rfl⟩
abbrev main_v1001 : Ref sig .tc := ⟨.hbm, 1192, rfl⟩
abbrev main_cst_177 : Ref sig .tc := ⟨.hbm, 1193, rfl⟩
abbrev main_v1002 : Ref sig .tc := ⟨.hbm, 1194, rfl⟩
abbrev main_v1003 : Ref sig .tc := ⟨.hbm, 1195, rfl⟩
abbrev main_v1004 : Ref sig .tc := ⟨.hbm, 1196, rfl⟩
abbrev main_v1005 : Ref sig .tc := ⟨.hbm, 1197, rfl⟩
abbrev main_v1006 : Ref sig .tc := ⟨.hbm, 1198, rfl⟩
abbrev main_v1007 : Ref sig .tc := ⟨.hbm, 1199, rfl⟩
abbrev main_v1008 : Ref sig .tc := ⟨.hbm, 1200, rfl⟩
abbrev main_cst_178 : Ref sig .tc := ⟨.hbm, 1201, rfl⟩
abbrev main_v1009 : Ref sig .tc := ⟨.hbm, 1202, rfl⟩
abbrev main_v1010 : Ref sig .tc := ⟨.hbm, 1203, rfl⟩
abbrev main_cst_179 : Ref sig .tc := ⟨.hbm, 1204, rfl⟩
abbrev main_v1011 : Ref sig .tc := ⟨.hbm, 1205, rfl⟩
abbrev main_v1012 : Ref sig .tc := ⟨.hbm, 1206, rfl⟩
abbrev main_v1013 : Ref sig .tc := ⟨.hbm, 1207, rfl⟩
abbrev main_v1014 : Ref sig .tc := ⟨.hbm, 1208, rfl⟩
abbrev main_v1015 : Ref sig .tc := ⟨.hbm, 1209, rfl⟩
abbrev main_v1016 : Ref sig .tc := ⟨.hbm, 1210, rfl⟩
abbrev main_cst_180 : Ref sig .tc := ⟨.hbm, 1211, rfl⟩
abbrev main_v1017 : Ref sig .tc := ⟨.hbm, 1212, rfl⟩
abbrev main_v1018 : Ref sig .tc := ⟨.hbm, 1213, rfl⟩
abbrev main_cst_181 : Ref sig .tc := ⟨.hbm, 1214, rfl⟩
abbrev main_v1019 : Ref sig .tc := ⟨.hbm, 1215, rfl⟩
abbrev main_v1020 : Ref sig .tc := ⟨.hbm, 1216, rfl⟩
abbrev main_v1021 : Ref sig .tc := ⟨.hbm, 1217, rfl⟩
abbrev main_v1022 : Ref sig .tc := ⟨.hbm, 1218, rfl⟩
abbrev main_cst_182 : Ref sig .tc := ⟨.hbm, 1219, rfl⟩
abbrev main_v1023 : Ref sig .tc := ⟨.hbm, 1220, rfl⟩
abbrev main_v1024 : Ref sig .tc := ⟨.hbm, 1221, rfl⟩
abbrev main_v1025 : Ref sig .tc := ⟨.hbm, 1222, rfl⟩
abbrev main_v1026 : Ref sig .tc := ⟨.hbm, 1223, rfl⟩
abbrev main_cst_183 : Ref sig .tc := ⟨.hbm, 1224, rfl⟩
abbrev main_v1027 : Ref sig .tc := ⟨.hbm, 1225, rfl⟩
abbrev main_v1028 : Ref sig .tc := ⟨.hbm, 1226, rfl⟩
abbrev main_v1029 : Ref sig .tc := ⟨.hbm, 1227, rfl⟩
abbrev main_v1030 : Ref sig .tc := ⟨.hbm, 1228, rfl⟩
abbrev main_cst_184 : Ref sig .tc := ⟨.hbm, 1229, rfl⟩
abbrev main_v1031 : Ref sig .tc := ⟨.hbm, 1230, rfl⟩
abbrev main_v1032 : Ref sig .tc := ⟨.hbm, 1231, rfl⟩
abbrev main_v1033 : Ref sig .tc := ⟨.hbm, 1232, rfl⟩
abbrev main_v1034 : Ref sig .tc := ⟨.hbm, 1233, rfl⟩
abbrev main_v1035 : Ref sig .tc := ⟨.hbm, 1234, rfl⟩
abbrev main_v1036 : Ref sig .tc := ⟨.hbm, 1235, rfl⟩
abbrev main_v1037 : Ref sig .tc := ⟨.hbm, 1236, rfl⟩
abbrev main_v1038 : Ref sig .tc := ⟨.hbm, 1237, rfl⟩
abbrev main_v1039 : Ref sig .tc := ⟨.hbm, 1238, rfl⟩
abbrev main_v1040 : Ref sig .tc := ⟨.hbm, 1239, rfl⟩
abbrev main_v1041 : Ref sig .tc := ⟨.hbm, 1240, rfl⟩
abbrev main_v1042 : Ref sig .tc := ⟨.hbm, 1241, rfl⟩
abbrev main_v1043 : Ref sig .tc := ⟨.hbm, 1242, rfl⟩
abbrev main_v1044 : Ref sig .tc := ⟨.hbm, 1243, rfl⟩
abbrev main_cst_185 : Ref sig .tc := ⟨.hbm, 1244, rfl⟩
abbrev main_v1045 : Ref sig .tc := ⟨.hbm, 1245, rfl⟩
abbrev main_v1046 : Ref sig .tc := ⟨.hbm, 1246, rfl⟩
abbrev main_cst_186 : Ref sig .tc := ⟨.hbm, 1247, rfl⟩
abbrev main_v1047 : Ref sig .tc := ⟨.hbm, 1248, rfl⟩
abbrev main_v1048 : Ref sig .tc := ⟨.hbm, 1249, rfl⟩
abbrev main_v1049 : Ref sig .tc := ⟨.hbm, 1250, rfl⟩
abbrev main_v1050 : Ref sig .tc := ⟨.hbm, 1251, rfl⟩
abbrev main_v1051 : Ref sig .tc := ⟨.hbm, 1252, rfl⟩
abbrev main_cst_187 : Ref sig .tc := ⟨.hbm, 1253, rfl⟩
abbrev main_v1052 : Ref sig .tc := ⟨.hbm, 1254, rfl⟩
abbrev main_v1053 : Ref sig .tc := ⟨.hbm, 1255, rfl⟩
abbrev main_cst_188 : Ref sig .tc := ⟨.hbm, 1256, rfl⟩
abbrev main_v1054 : Ref sig .tc := ⟨.hbm, 1257, rfl⟩
abbrev main_v1055 : Ref sig .tc := ⟨.hbm, 1258, rfl⟩
abbrev main_v1056 : Ref sig .tc := ⟨.hbm, 1259, rfl⟩
abbrev main_v1057 : Ref sig .tc := ⟨.hbm, 1260, rfl⟩
abbrev main_v1058 : Ref sig .tc := ⟨.hbm, 1261, rfl⟩
abbrev main_v1059 : Ref sig .tc := ⟨.hbm, 1262, rfl⟩
abbrev main_v1060 : Ref sig .tc := ⟨.hbm, 1263, rfl⟩
abbrev main_cst_189 : Ref sig .tc := ⟨.hbm, 1264, rfl⟩
abbrev main_v1061 : Ref sig .tc := ⟨.hbm, 1265, rfl⟩
abbrev main_v1062 : Ref sig .tc := ⟨.hbm, 1266, rfl⟩
abbrev main_cst_190 : Ref sig .tc := ⟨.hbm, 1267, rfl⟩
abbrev main_v1063 : Ref sig .tc := ⟨.hbm, 1268, rfl⟩
abbrev main_v1064 : Ref sig .tc := ⟨.hbm, 1269, rfl⟩
abbrev main_v1065 : Ref sig .tc := ⟨.hbm, 1270, rfl⟩
abbrev main_v1066 : Ref sig .tc := ⟨.hbm, 1271, rfl⟩
abbrev main_v1067 : Ref sig .tc := ⟨.hbm, 1272, rfl⟩
abbrev main_v1068 : Ref sig .tc := ⟨.hbm, 1273, rfl⟩
abbrev main_cst_191 : Ref sig .tc := ⟨.hbm, 1274, rfl⟩
abbrev main_v1069 : Ref sig .tc := ⟨.hbm, 1275, rfl⟩
abbrev main_v1070 : Ref sig .tc := ⟨.hbm, 1276, rfl⟩
abbrev main_cst_192 : Ref sig .tc := ⟨.hbm, 1277, rfl⟩
abbrev main_v1071 : Ref sig .tc := ⟨.hbm, 1278, rfl⟩
abbrev main_v1072 : Ref sig .tc := ⟨.hbm, 1279, rfl⟩
abbrev main_v1073 : Ref sig .tc := ⟨.hbm, 1280, rfl⟩
abbrev main_v1074 : Ref sig .tc := ⟨.hbm, 1281, rfl⟩
abbrev main_cst_193 : Ref sig .tc := ⟨.hbm, 1282, rfl⟩
abbrev main_v1075 : Ref sig .tc := ⟨.hbm, 1283, rfl⟩
abbrev main_v1076 : Ref sig .tc := ⟨.hbm, 1284, rfl⟩
abbrev main_v1077 : Ref sig .tc := ⟨.hbm, 1285, rfl⟩
abbrev main_v1078 : Ref sig .tc := ⟨.hbm, 1286, rfl⟩
abbrev main_cst_194 : Ref sig .tc := ⟨.hbm, 1287, rfl⟩
abbrev main_v1079 : Ref sig .tc := ⟨.hbm, 1288, rfl⟩
abbrev main_v1080 : Ref sig .tc := ⟨.hbm, 1289, rfl⟩
abbrev main_v1081 : Ref sig .tc := ⟨.hbm, 1290, rfl⟩
abbrev main_v1082 : Ref sig .tc := ⟨.hbm, 1291, rfl⟩
abbrev main_cst_195 : Ref sig .tc := ⟨.hbm, 1292, rfl⟩
abbrev main_v1083 : Ref sig .tc := ⟨.hbm, 1293, rfl⟩
abbrev main_v1084 : Ref sig .tc := ⟨.hbm, 1294, rfl⟩
abbrev main_v1085 : Ref sig .tc := ⟨.hbm, 1295, rfl⟩
abbrev main_v1086 : Ref sig .tc := ⟨.hbm, 1296, rfl⟩
abbrev main_v1087 : Ref sig .tc := ⟨.hbm, 1297, rfl⟩
abbrev main_v1088 : Ref sig .tc := ⟨.hbm, 1298, rfl⟩
abbrev main_v1089 : Ref sig .tc := ⟨.hbm, 1299, rfl⟩
abbrev main_v1090 : Ref sig .tc := ⟨.hbm, 1300, rfl⟩
abbrev main_v1091 : Ref sig .tc := ⟨.hbm, 1301, rfl⟩
abbrev main_v1092 : Ref sig .tc := ⟨.hbm, 1302, rfl⟩
abbrev main_v1093 : Ref sig .tc := ⟨.hbm, 1303, rfl⟩
abbrev main_v1094 : Ref sig .tc := ⟨.hbm, 1304, rfl⟩
abbrev main_v1095 : Ref sig .tc := ⟨.hbm, 1305, rfl⟩
abbrev main_v1096 : Ref sig .tc := ⟨.hbm, 1306, rfl⟩
abbrev main_cst_196 : Ref sig .tc := ⟨.hbm, 1307, rfl⟩
abbrev main_v1097 : Ref sig .tc := ⟨.hbm, 1308, rfl⟩
abbrev main_v1098 : Ref sig .tc := ⟨.hbm, 1309, rfl⟩
abbrev main_cst_197 : Ref sig .tc := ⟨.hbm, 1310, rfl⟩
abbrev main_v1099 : Ref sig .tc := ⟨.hbm, 1311, rfl⟩
abbrev main_v1100 : Ref sig .tc := ⟨.hbm, 1312, rfl⟩
abbrev main_v1101 : Ref sig .tc := ⟨.hbm, 1313, rfl⟩
abbrev main_v1102 : Ref sig .tc := ⟨.hbm, 1314, rfl⟩
abbrev main_v1103 : Ref sig .tc := ⟨.hbm, 1315, rfl⟩
abbrev main_cst_198 : Ref sig .tc := ⟨.hbm, 1316, rfl⟩
abbrev main_v1104 : Ref sig .tc := ⟨.hbm, 1317, rfl⟩
abbrev main_v1105 : Ref sig .tc := ⟨.hbm, 1318, rfl⟩
abbrev main_cst_199 : Ref sig .tc := ⟨.hbm, 1319, rfl⟩
abbrev main_v1106 : Ref sig .tc := ⟨.hbm, 1320, rfl⟩
abbrev main_v1107 : Ref sig .tc := ⟨.hbm, 1321, rfl⟩
abbrev main_v1108 : Ref sig .tc := ⟨.hbm, 1322, rfl⟩
abbrev main_v1109 : Ref sig .tc := ⟨.hbm, 1323, rfl⟩
abbrev main_v1110 : Ref sig .tc := ⟨.hbm, 1324, rfl⟩
abbrev main_v1111 : Ref sig .tc := ⟨.hbm, 1325, rfl⟩
abbrev main_v1112 : Ref sig .tc := ⟨.hbm, 1326, rfl⟩
abbrev main_cst_200 : Ref sig .tc := ⟨.hbm, 1327, rfl⟩
abbrev main_v1113 : Ref sig .tc := ⟨.hbm, 1328, rfl⟩
abbrev main_v1114 : Ref sig .tc := ⟨.hbm, 1329, rfl⟩
abbrev main_cst_201 : Ref sig .tc := ⟨.hbm, 1330, rfl⟩
abbrev main_v1115 : Ref sig .tc := ⟨.hbm, 1331, rfl⟩
abbrev main_v1116 : Ref sig .tc := ⟨.hbm, 1332, rfl⟩
abbrev main_v1117 : Ref sig .tc := ⟨.hbm, 1333, rfl⟩
abbrev main_v1118 : Ref sig .tc := ⟨.hbm, 1334, rfl⟩
abbrev main_v1119 : Ref sig .tc := ⟨.hbm, 1335, rfl⟩
abbrev main_v1120 : Ref sig .tc := ⟨.hbm, 1336, rfl⟩
abbrev main_cst_202 : Ref sig .tc := ⟨.hbm, 1337, rfl⟩
abbrev main_v1121 : Ref sig .tc := ⟨.hbm, 1338, rfl⟩
abbrev main_v1122 : Ref sig .tc := ⟨.hbm, 1339, rfl⟩
abbrev main_cst_203 : Ref sig .tc := ⟨.hbm, 1340, rfl⟩
abbrev main_v1123 : Ref sig .tc := ⟨.hbm, 1341, rfl⟩
abbrev main_v1124 : Ref sig .tc := ⟨.hbm, 1342, rfl⟩
abbrev main_v1125 : Ref sig .tc := ⟨.hbm, 1343, rfl⟩
abbrev main_v1126 : Ref sig .tc := ⟨.hbm, 1344, rfl⟩
abbrev main_cst_204 : Ref sig .tc := ⟨.hbm, 1345, rfl⟩
abbrev main_v1127 : Ref sig .tc := ⟨.hbm, 1346, rfl⟩
abbrev main_v1128 : Ref sig .tc := ⟨.hbm, 1347, rfl⟩
abbrev main_v1129 : Ref sig .tc := ⟨.hbm, 1348, rfl⟩
abbrev main_v1130 : Ref sig .tc := ⟨.hbm, 1349, rfl⟩
abbrev main_cst_205 : Ref sig .tc := ⟨.hbm, 1350, rfl⟩
abbrev main_v1131 : Ref sig .tc := ⟨.hbm, 1351, rfl⟩
abbrev main_v1132 : Ref sig .tc := ⟨.hbm, 1352, rfl⟩
abbrev main_v1133 : Ref sig .tc := ⟨.hbm, 1353, rfl⟩
abbrev main_v1134 : Ref sig .tc := ⟨.hbm, 1354, rfl⟩
abbrev main_cst_206 : Ref sig .tc := ⟨.hbm, 1355, rfl⟩
abbrev main_v1135 : Ref sig .tc := ⟨.hbm, 1356, rfl⟩
abbrev main_v1136 : Ref sig .tc := ⟨.hbm, 1357, rfl⟩
abbrev main_v1137 : Ref sig .tc := ⟨.hbm, 1358, rfl⟩
abbrev main_v1138 : Ref sig .tc := ⟨.hbm, 1359, rfl⟩
abbrev main_v1139 : Ref sig .tc := ⟨.hbm, 1360, rfl⟩
abbrev main_v1140 : Ref sig .tc := ⟨.hbm, 1361, rfl⟩
abbrev main_v1141 : Ref sig .tc := ⟨.hbm, 1362, rfl⟩
abbrev main_v1142 : Ref sig .tc := ⟨.hbm, 1363, rfl⟩
abbrev main_v1143 : Ref sig .tc := ⟨.hbm, 1364, rfl⟩
abbrev main_v1144 : Ref sig .tc := ⟨.hbm, 1365, rfl⟩
abbrev main_v1145 : Ref sig .tc := ⟨.hbm, 1366, rfl⟩
abbrev main_v1146 : Ref sig .tc := ⟨.hbm, 1367, rfl⟩
abbrev main_v1147 : Ref sig .tc := ⟨.hbm, 1368, rfl⟩
abbrev main_v1148 : Ref sig .tc := ⟨.hbm, 1369, rfl⟩
abbrev main_cst_207 : Ref sig .tc := ⟨.hbm, 1370, rfl⟩
abbrev main_v1149 : Ref sig .tc := ⟨.hbm, 1371, rfl⟩
abbrev main_v1150 : Ref sig .tc := ⟨.hbm, 1372, rfl⟩
abbrev main_cst_208 : Ref sig .tc := ⟨.hbm, 1373, rfl⟩
abbrev main_v1151 : Ref sig .tc := ⟨.hbm, 1374, rfl⟩
abbrev main_v1152 : Ref sig .tc := ⟨.hbm, 1375, rfl⟩
abbrev main_v1153 : Ref sig .tc := ⟨.hbm, 1376, rfl⟩
abbrev main_v1154 : Ref sig .tc := ⟨.hbm, 1377, rfl⟩
abbrev main_v1155 : Ref sig .tc := ⟨.hbm, 1378, rfl⟩
abbrev main_cst_209 : Ref sig .tc := ⟨.hbm, 1379, rfl⟩
abbrev main_v1156 : Ref sig .tc := ⟨.hbm, 1380, rfl⟩
abbrev main_v1157 : Ref sig .tc := ⟨.hbm, 1381, rfl⟩
abbrev main_cst_210 : Ref sig .tc := ⟨.hbm, 1382, rfl⟩
abbrev main_v1158 : Ref sig .tc := ⟨.hbm, 1383, rfl⟩
abbrev main_v1159 : Ref sig .tc := ⟨.hbm, 1384, rfl⟩
abbrev main_v1160 : Ref sig .tc := ⟨.hbm, 1385, rfl⟩
abbrev main_v1161 : Ref sig .tc := ⟨.hbm, 1386, rfl⟩
abbrev main_v1162 : Ref sig .tc := ⟨.hbm, 1387, rfl⟩
abbrev main_v1163 : Ref sig .tc := ⟨.hbm, 1388, rfl⟩
abbrev main_v1164 : Ref sig .tc := ⟨.hbm, 1389, rfl⟩
abbrev main_cst_211 : Ref sig .tc := ⟨.hbm, 1390, rfl⟩
abbrev main_v1165 : Ref sig .tc := ⟨.hbm, 1391, rfl⟩
abbrev main_v1166 : Ref sig .tc := ⟨.hbm, 1392, rfl⟩
abbrev main_cst_212 : Ref sig .tc := ⟨.hbm, 1393, rfl⟩
abbrev main_v1167 : Ref sig .tc := ⟨.hbm, 1394, rfl⟩
abbrev main_v1168 : Ref sig .tc := ⟨.hbm, 1395, rfl⟩
abbrev main_v1169 : Ref sig .tc := ⟨.hbm, 1396, rfl⟩
abbrev main_v1170 : Ref sig .tc := ⟨.hbm, 1397, rfl⟩
abbrev main_v1171 : Ref sig .tc := ⟨.hbm, 1398, rfl⟩
abbrev main_v1172 : Ref sig .tc := ⟨.hbm, 1399, rfl⟩
abbrev main_cst_213 : Ref sig .tc := ⟨.hbm, 1400, rfl⟩
abbrev main_v1173 : Ref sig .tc := ⟨.hbm, 1401, rfl⟩
abbrev main_v1174 : Ref sig .tc := ⟨.hbm, 1402, rfl⟩
abbrev main_cst_214 : Ref sig .tc := ⟨.hbm, 1403, rfl⟩
abbrev main_v1175 : Ref sig .tc := ⟨.hbm, 1404, rfl⟩
abbrev main_v1176 : Ref sig .tc := ⟨.hbm, 1405, rfl⟩
abbrev main_v1177 : Ref sig .tc := ⟨.hbm, 1406, rfl⟩
abbrev main_v1178 : Ref sig .tc := ⟨.hbm, 1407, rfl⟩
abbrev main_cst_215 : Ref sig .tc := ⟨.hbm, 1408, rfl⟩
abbrev main_v1179 : Ref sig .tc := ⟨.hbm, 1409, rfl⟩
abbrev main_v1180 : Ref sig .tc := ⟨.hbm, 1410, rfl⟩
abbrev main_v1181 : Ref sig .tc := ⟨.hbm, 1411, rfl⟩
abbrev main_v1182 : Ref sig .tc := ⟨.hbm, 1412, rfl⟩
abbrev main_cst_216 : Ref sig .tc := ⟨.hbm, 1413, rfl⟩
abbrev main_v1183 : Ref sig .tc := ⟨.hbm, 1414, rfl⟩
abbrev main_v1184 : Ref sig .tc := ⟨.hbm, 1415, rfl⟩
abbrev main_v1185 : Ref sig .tc := ⟨.hbm, 1416, rfl⟩
abbrev main_v1186 : Ref sig .tc := ⟨.hbm, 1417, rfl⟩
abbrev main_cst_217 : Ref sig .tc := ⟨.hbm, 1418, rfl⟩
abbrev main_v1187 : Ref sig .tc := ⟨.hbm, 1419, rfl⟩
abbrev main_v1188 : Ref sig .tc := ⟨.hbm, 1420, rfl⟩
abbrev main_v1189 : Ref sig .tc := ⟨.hbm, 1421, rfl⟩
abbrev main_v1190 : Ref sig .tc := ⟨.hbm, 1422, rfl⟩
abbrev main_v1191 : Ref sig .tc := ⟨.hbm, 1423, rfl⟩
abbrev main_v1192 : Ref sig .tc := ⟨.hbm, 1424, rfl⟩
abbrev main_v1193 : Ref sig .tc := ⟨.hbm, 1425, rfl⟩
abbrev main_v1194 : Ref sig .tc := ⟨.hbm, 1426, rfl⟩
abbrev main_v1195 : Ref sig .tc := ⟨.hbm, 1427, rfl⟩
abbrev main_v1196 : Ref sig .tc := ⟨.hbm, 1428, rfl⟩
abbrev main_v1197 : Ref sig .tc := ⟨.hbm, 1429, rfl⟩
abbrev main_v1198 : Ref sig .tc := ⟨.hbm, 1430, rfl⟩
abbrev main_v1199 : Ref sig .tc := ⟨.hbm, 1431, rfl⟩
abbrev main_v1200 : Ref sig .tc := ⟨.hbm, 1432, rfl⟩
abbrev main_cst_218 : Ref sig .tc := ⟨.hbm, 1433, rfl⟩
abbrev main_v1201 : Ref sig .tc := ⟨.hbm, 1434, rfl⟩
abbrev main_v1202 : Ref sig .tc := ⟨.hbm, 1435, rfl⟩
abbrev main_cst_219 : Ref sig .tc := ⟨.hbm, 1436, rfl⟩
abbrev main_v1203 : Ref sig .tc := ⟨.hbm, 1437, rfl⟩
abbrev main_v1204 : Ref sig .tc := ⟨.hbm, 1438, rfl⟩
abbrev main_v1205 : Ref sig .tc := ⟨.hbm, 1439, rfl⟩
abbrev main_v1206 : Ref sig .tc := ⟨.hbm, 1440, rfl⟩
abbrev main_v1207 : Ref sig .tc := ⟨.hbm, 1441, rfl⟩
abbrev main_cst_220 : Ref sig .tc := ⟨.hbm, 1442, rfl⟩
abbrev main_v1208 : Ref sig .tc := ⟨.hbm, 1443, rfl⟩
abbrev main_v1209 : Ref sig .tc := ⟨.hbm, 1444, rfl⟩
abbrev main_cst_221 : Ref sig .tc := ⟨.hbm, 1445, rfl⟩
abbrev main_v1210 : Ref sig .tc := ⟨.hbm, 1446, rfl⟩
abbrev main_v1211 : Ref sig .tc := ⟨.hbm, 1447, rfl⟩
abbrev main_v1212 : Ref sig .tc := ⟨.hbm, 1448, rfl⟩
abbrev main_v1213 : Ref sig .tc := ⟨.hbm, 1449, rfl⟩
abbrev main_v1214 : Ref sig .tc := ⟨.hbm, 1450, rfl⟩
abbrev main_v1215 : Ref sig .tc := ⟨.hbm, 1451, rfl⟩
abbrev main_v1216 : Ref sig .tc := ⟨.hbm, 1452, rfl⟩
abbrev main_cst_222 : Ref sig .tc := ⟨.hbm, 1453, rfl⟩
abbrev main_v1217 : Ref sig .tc := ⟨.hbm, 1454, rfl⟩
abbrev main_v1218 : Ref sig .tc := ⟨.hbm, 1455, rfl⟩
abbrev main_cst_223 : Ref sig .tc := ⟨.hbm, 1456, rfl⟩
abbrev main_v1219 : Ref sig .tc := ⟨.hbm, 1457, rfl⟩
abbrev main_v1220 : Ref sig .tc := ⟨.hbm, 1458, rfl⟩
abbrev main_v1221 : Ref sig .tc := ⟨.hbm, 1459, rfl⟩
abbrev main_v1222 : Ref sig .tc := ⟨.hbm, 1460, rfl⟩
abbrev main_v1223 : Ref sig .tc := ⟨.hbm, 1461, rfl⟩
abbrev main_v1224 : Ref sig .tc := ⟨.hbm, 1462, rfl⟩
abbrev main_cst_224 : Ref sig .tc := ⟨.hbm, 1463, rfl⟩
abbrev main_v1225 : Ref sig .tc := ⟨.hbm, 1464, rfl⟩
abbrev main_v1226 : Ref sig .tc := ⟨.hbm, 1465, rfl⟩
abbrev main_cst_225 : Ref sig .tc := ⟨.hbm, 1466, rfl⟩
abbrev main_v1227 : Ref sig .tc := ⟨.hbm, 1467, rfl⟩
abbrev main_v1228 : Ref sig .tc := ⟨.hbm, 1468, rfl⟩
abbrev main_v1229 : Ref sig .tc := ⟨.hbm, 1469, rfl⟩
abbrev main_v1230 : Ref sig .tc := ⟨.hbm, 1470, rfl⟩
abbrev main_cst_226 : Ref sig .tc := ⟨.hbm, 1471, rfl⟩
abbrev main_v1231 : Ref sig .tc := ⟨.hbm, 1472, rfl⟩
abbrev main_v1232 : Ref sig .tc := ⟨.hbm, 1473, rfl⟩
abbrev main_v1233 : Ref sig .tc := ⟨.hbm, 1474, rfl⟩
abbrev main_v1234 : Ref sig .tc := ⟨.hbm, 1475, rfl⟩
abbrev main_cst_227 : Ref sig .tc := ⟨.hbm, 1476, rfl⟩
abbrev main_v1235 : Ref sig .tc := ⟨.hbm, 1477, rfl⟩
abbrev main_v1236 : Ref sig .tc := ⟨.hbm, 1478, rfl⟩
abbrev main_v1237 : Ref sig .tc := ⟨.hbm, 1479, rfl⟩
abbrev main_v1238 : Ref sig .tc := ⟨.hbm, 1480, rfl⟩
abbrev main_v1239 : Ref sig .tc := ⟨.hbm, 1481, rfl⟩
abbrev main_v1240 : Ref sig .tc := ⟨.hbm, 1482, rfl⟩
abbrev main_v1241 : Ref sig .tc := ⟨.hbm, 1483, rfl⟩
abbrev main_v1242 : Ref sig .tc := ⟨.hbm, 1484, rfl⟩
abbrev main_v1243 : Ref sig .tc := ⟨.hbm, 1485, rfl⟩
abbrev main_v1244 : Ref sig .tc := ⟨.hbm, 1486, rfl⟩
abbrev main_v1245 : Ref sig .tc := ⟨.hbm, 1487, rfl⟩
abbrev main_v1246 : Ref sig .tc := ⟨.hbm, 1488, rfl⟩
abbrev main_v1247 : Ref sig .tc := ⟨.hbm, 1489, rfl⟩
abbrev main_v1248 : Ref sig .tc := ⟨.hbm, 1490, rfl⟩
abbrev main_v1249 : Ref sig .tc := ⟨.hbm, 1491, rfl⟩
abbrev main_cst_228 : Ref sig .tc := ⟨.hbm, 1492, rfl⟩
abbrev main_v1250 : Ref sig .tc := ⟨.hbm, 1493, rfl⟩
abbrev main_v1251 : Ref sig .tc := ⟨.hbm, 1494, rfl⟩
abbrev main_v1252 : Ref sig .tc := ⟨.hbm, 1495, rfl⟩
abbrev main_v1253 : Ref sig .tc := ⟨.hbm, 1496, rfl⟩
abbrev main_v1254 : Ref sig .tc := ⟨.hbm, 1497, rfl⟩
abbrev main_cst_229 : Ref sig .tc := ⟨.hbm, 1498, rfl⟩
abbrev main_v1255 : Ref sig .tc := ⟨.hbm, 1499, rfl⟩
abbrev main_v1256 : Ref sig .tc := ⟨.hbm, 1500, rfl⟩
abbrev main_v1257 : Ref sig .tc := ⟨.hbm, 1501, rfl⟩
abbrev main_v1258 : Ref sig .tc := ⟨.hbm, 1502, rfl⟩
abbrev main_v1259 : Ref sig .tc := ⟨.hbm, 1503, rfl⟩
abbrev main_v1260 : Ref sig .tc := ⟨.hbm, 1504, rfl⟩
abbrev main_v1261 : Ref sig .tc := ⟨.hbm, 1505, rfl⟩
abbrev main_cst_230 : Ref sig .tc := ⟨.hbm, 1506, rfl⟩
abbrev main_v1262 : Ref sig .tc := ⟨.hbm, 1507, rfl⟩
abbrev main_v1263 : Ref sig .tc := ⟨.hbm, 1508, rfl⟩
abbrev main_v1264 : Ref sig .tc := ⟨.hbm, 1509, rfl⟩
abbrev main_v1265 : Ref sig .tc := ⟨.hbm, 1510, rfl⟩
abbrev main_v1266 : Ref sig .tc := ⟨.hbm, 1511, rfl⟩
abbrev main_v1267 : Ref sig .tc := ⟨.hbm, 1512, rfl⟩
abbrev main_v1268 : Ref sig .tc := ⟨.hbm, 1513, rfl⟩
abbrev main_cst_231 : Ref sig .tc := ⟨.hbm, 1514, rfl⟩
abbrev main_v1269 : Ref sig .tc := ⟨.hbm, 1515, rfl⟩
abbrev main_v1270 : Ref sig .tc := ⟨.hbm, 1516, rfl⟩
abbrev main_v1271 : Ref sig .tc := ⟨.hbm, 1517, rfl⟩
abbrev main_cst_232 : Ref sig .tc := ⟨.hbm, 1518, rfl⟩
abbrev main_v1272 : Ref sig .tc := ⟨.hbm, 1519, rfl⟩
abbrev main_v1273 : Ref sig .tc := ⟨.hbm, 1520, rfl⟩
abbrev main_v1274 : Ref sig .tc := ⟨.hbm, 1521, rfl⟩
abbrev main_v1275 : Ref sig .tc := ⟨.hbm, 1522, rfl⟩
abbrev main_v1276 : Ref sig .tc := ⟨.hbm, 1523, rfl⟩
abbrev main_v1277 : Ref sig .tc := ⟨.hbm, 1524, rfl⟩
abbrev main_v1278 : Ref sig .tc := ⟨.hbm, 1525, rfl⟩
abbrev main_v1279 : Ref sig .tc := ⟨.hbm, 1526, rfl⟩
abbrev main_v1280 : Ref sig .tc := ⟨.hbm, 1527, rfl⟩
abbrev main_v1281 : Ref sig .tc := ⟨.hbm, 1528, rfl⟩
abbrev main_v1282 : Ref sig .tc := ⟨.hbm, 1529, rfl⟩
abbrev main_v1283 : Ref sig .tc := ⟨.hbm, 1530, rfl⟩
abbrev main_cst_233 : Ref sig .tc := ⟨.hbm, 1531, rfl⟩
abbrev main_v1284 : Ref sig .tc := ⟨.hbm, 1532, rfl⟩
abbrev main_v1285 : Ref sig .tc := ⟨.hbm, 1533, rfl⟩
abbrev main_v1286 : Ref sig .tc := ⟨.hbm, 1534, rfl⟩
abbrev main_v1287 : Ref sig .tc := ⟨.hbm, 1535, rfl⟩
abbrev main_v1288 : Ref sig .tc := ⟨.hbm, 1536, rfl⟩
abbrev main_v1289 : Ref sig .tc := ⟨.hbm, 1537, rfl⟩
abbrev main_v1290 : Ref sig .tc := ⟨.hbm, 1538, rfl⟩
abbrev main_v1291 : Ref sig .tc := ⟨.hbm, 1539, rfl⟩
abbrev main_v1292 : Ref sig .tc := ⟨.hbm, 1540, rfl⟩
abbrev main_v1293 : Ref sig .tc := ⟨.hbm, 1541, rfl⟩
abbrev main_v1294 : Ref sig .tc := ⟨.hbm, 1542, rfl⟩
abbrev main_v1295 : Ref sig .tc := ⟨.hbm, 1543, rfl⟩
abbrev main_v1296 : Ref sig .tc := ⟨.hbm, 1544, rfl⟩
abbrev main_v1297 : Ref sig .tc := ⟨.hbm, 1545, rfl⟩
abbrev main_v1298 : Ref sig .tc := ⟨.hbm, 1546, rfl⟩
abbrev main_v1299 : Ref sig .tc := ⟨.hbm, 1547, rfl⟩
abbrev main_v1300 : Ref sig .tc := ⟨.hbm, 1548, rfl⟩
abbrev main_v1301 : Ref sig .tc := ⟨.hbm, 1549, rfl⟩
abbrev main_v1302 : Ref sig .tc := ⟨.hbm, 1550, rfl⟩
abbrev main_v1303 : Ref sig .tc := ⟨.hbm, 1551, rfl⟩
abbrev main_v1304 : Ref sig .tc := ⟨.hbm, 1552, rfl⟩
abbrev main_v1305 : Ref sig .tc := ⟨.hbm, 1553, rfl⟩
abbrev main_v1306 : Ref sig .tc := ⟨.hbm, 1554, rfl⟩
abbrev main_v1307 : Ref sig .tc := ⟨.hbm, 1555, rfl⟩
abbrev main_v1308 : Ref sig .tc := ⟨.hbm, 1556, rfl⟩
abbrev main_v1309 : Ref sig .tc := ⟨.hbm, 1557, rfl⟩
abbrev main_v1310 : Ref sig .tc := ⟨.hbm, 1558, rfl⟩
abbrev main_v1311 : Ref sig .tc := ⟨.hbm, 1559, rfl⟩
abbrev main_v1312 : Ref sig .tc := ⟨.hbm, 1560, rfl⟩
abbrev main_v1313 : Ref sig .tc := ⟨.hbm, 1561, rfl⟩
abbrev main_v1314 : Ref sig .tc := ⟨.hbm, 1562, rfl⟩
abbrev main_v1315 : Ref sig .tc := ⟨.hbm, 1563, rfl⟩
abbrev main_cst_234 : Ref sig .tc := ⟨.hbm, 1564, rfl⟩
abbrev main_v1316 : Ref sig .tc := ⟨.hbm, 1565, rfl⟩
abbrev main_v1317 : Ref sig .tc := ⟨.hbm, 1566, rfl⟩
abbrev main_v1318 : Ref sig .tc := ⟨.hbm, 1567, rfl⟩
abbrev main_v1319 : Ref sig .tc := ⟨.hbm, 1568, rfl⟩
abbrev main_v1320 : Ref sig .tc := ⟨.hbm, 1569, rfl⟩
abbrev main_v1321 : Ref sig .tc := ⟨.hbm, 1570, rfl⟩
abbrev main_v1322 : Ref sig .tc := ⟨.hbm, 1571, rfl⟩
abbrev main_cst_235 : Ref sig .tc := ⟨.hbm, 1572, rfl⟩
abbrev main_v1323 : Ref sig .tc := ⟨.hbm, 1573, rfl⟩
abbrev main_v1324 : Ref sig .tc := ⟨.hbm, 1574, rfl⟩
abbrev main_v1325 : Ref sig .tc := ⟨.hbm, 1575, rfl⟩
abbrev main_v1326 : Ref sig .tc := ⟨.hbm, 1576, rfl⟩
abbrev main_v1327 : Ref sig .tc := ⟨.hbm, 1577, rfl⟩
abbrev main_v1328 : Ref sig .tc := ⟨.hbm, 1578, rfl⟩
abbrev main_cst_236 : Ref sig .tc := ⟨.hbm, 1579, rfl⟩
abbrev main_v1329 : Ref sig .tc := ⟨.hbm, 1580, rfl⟩
abbrev main_v1330 : Ref sig .tc := ⟨.hbm, 1581, rfl⟩
abbrev main_v1331 : Ref sig .tc := ⟨.hbm, 1582, rfl⟩
abbrev main_v1332 : Ref sig .tc := ⟨.hbm, 1583, rfl⟩
abbrev main_v1333 : Ref sig .tc := ⟨.hbm, 1584, rfl⟩
abbrev main_v1334 : Ref sig .tc := ⟨.hbm, 1585, rfl⟩
abbrev main_v1335 : Ref sig .tc := ⟨.hbm, 1586, rfl⟩
abbrev main_v1336 : Ref sig .tc := ⟨.hbm, 1587, rfl⟩
abbrev main_v1337 : Ref sig .tc := ⟨.hbm, 1588, rfl⟩

abbrev nD : Nat := 1
abbrev τ : Topo := Topo.v7x

variable {F : FTy → Type} [FloatOps F]
-- ==== PoolFwd.lean ====
abbrev S4112x512 : Shape := ⟨2, ![4112, 512]⟩
abbrev S1x4x128x128 : Shape := ⟨4, ![1, 4, 128, 128]⟩
abbrev S1x4x128 : Shape := ⟨3, ![1, 4, 128]⟩
abbrev S1x512 : Shape := ⟨2, ![1, 512]⟩
abbrev S2x512 : Shape := ⟨2, ![2, 512]⟩
abbrev S_ : Shape := ⟨0, ![]⟩
abbrev S8x512 : Shape := ⟨2, ![8, 512]⟩
abbrev S4x128x128 : Shape := ⟨3, ![4, 128, 128]⟩
abbrev S4160x512 : Shape := ⟨2, ![4160, 512]⟩
abbrev S8x128 : Shape := ⟨2, ![8, 128]⟩
abbrev S320x512 : Shape := ⟨2, ![320, 512]⟩
abbrev S16x512 : Shape := ⟨2, ![16, 512]⟩
abbrev S336x512 : Shape := ⟨2, ![336, 512]⟩
abbrev S336x128 : Shape := ⟨2, ![336, 128]⟩
abbrev S320x128 : Shape := ⟨2, ![320, 128]⟩
abbrev S320x1 : Shape := ⟨2, ![320, 1]⟩
abbrev S1x128x128 : Shape := ⟨3, ![1, 128, 128]⟩
abbrev S128x128 : Shape := ⟨2, ![128, 128]⟩
abbrev S320 : Shape := ⟨1, ![320]⟩

abbrev nBuf : Space → Nat
  | .hbm => 18
  | .vmem => 9
  | .smem => 0
  | _ => 0

abbrev bufTy : (tb : Table) → Fin (tcTables nBuf tb) → BufTy
  | .hbm, ⟨0, _⟩ => ⟨S4112x512, .f32⟩
  | .hbm, ⟨1, _⟩ => ⟨S1x4x128x128, .f32⟩
  | .hbm, ⟨2, _⟩ => ⟨S1x4x128, .f32⟩
  | .hbm, ⟨3, _⟩ => ⟨S1x512, .f32⟩
  | .hbm, ⟨4, _⟩ => ⟨S1x512, .f32⟩
  | .hbm, ⟨5, _⟩ => ⟨S2x512, .f32⟩
  | .hbm, ⟨6, _⟩ => ⟨S_, .i32⟩
  | .hbm, ⟨7, _⟩ => ⟨S_, .f32⟩
  | .hbm, ⟨8, _⟩ => ⟨S8x512, .f32⟩
  | .hbm, ⟨9, _⟩ => ⟨S4x128x128, .f32⟩
  | .hbm, ⟨10, _⟩ => ⟨S4x128x128, .bf16⟩
  | .hbm, ⟨11, _⟩ => ⟨S_, .i32⟩
  | .hbm, ⟨12, _⟩ => ⟨S_, .f32⟩
  | .hbm, ⟨13, _⟩ => ⟨S4160x512, .f32⟩
  | .hbm, ⟨14, _⟩ => ⟨S_, .f32⟩
  | .hbm, ⟨15, _⟩ => ⟨S8x128, .f32⟩
  | .hbm, ⟨16, _⟩ => ⟨S4160x512, .bf16⟩
  | .hbm, ⟨17, _⟩ => ⟨S4160x512, .bf16⟩
  | .local _ .vmem, ⟨0, _⟩ => ⟨S320x512, .f32⟩
  | .local _ .vmem, ⟨1, _⟩ => ⟨S320x512, .f32⟩
  | .local _ .vmem, ⟨2, _⟩ => ⟨S4x128x128, .bf16⟩
  | .local _ .vmem, ⟨3, _⟩ => ⟨S8x512, .f32⟩
  | .local _ .vmem, ⟨4, _⟩ => ⟨S320x512, .bf16⟩
  | .local _ .vmem, ⟨5, _⟩ => ⟨S320x512, .bf16⟩
  | .local _ .vmem, ⟨6, _⟩ => ⟨S320x512, .bf16⟩
  | .local _ .vmem, ⟨7, _⟩ => ⟨S320x512, .bf16⟩
  | .local _ .vmem, ⟨8, _⟩ => ⟨S16x512, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S320x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S4112x512 : Shape := ⟨2, ![4112, 512]⟩
abbrev S1x4x128x128 : Shape := ⟨4, ![1, 4, 128, 128]⟩
abbrev S1x4x128 : Shape := ⟨3, ![1, 4, 128]⟩
abbrev S1x512 : Shape := ⟨2, ![1, 512]⟩
abbrev S_ : Shape := ⟨0, ![]⟩
abbrev S4160x512 : Shape := ⟨2, ![4160, 512]⟩
abbrev S4160x4x128 : Shape := ⟨3, ![4160, 4, 128]⟩
abbrev S4160 : Shape := ⟨1, ![4160]⟩
abbrev S4160x1x128 : Shape := ⟨3, ![4160, 1, 128]⟩
abbrev S4160x128 : Shape := ⟨2, ![4160, 128]⟩
abbrev S4162x128 : Shape := ⟨2, ![4162, 128]⟩
abbrev S4160x1 : Shape := ⟨2, ![4160, 1]⟩
abbrev S4164x128 : Shape := ⟨2, ![4164, 128]⟩
abbrev S4168x128 : Shape := ⟨2, ![4168, 128]⟩
abbrev S4176x128 : Shape := ⟨2, ![4176, 128]⟩
abbrev S4x128x128 : Shape := ⟨3, ![4, 128, 128]⟩
abbrev S4x128x4160 : Shape := ⟨3, ![4, 128, 4160]⟩
abbrev S4x128 : Shape := ⟨2, ![4, 128]⟩
abbrev S512 : Shape := ⟨1, ![512]⟩

abbrev nBuf : Space → Nat
  | .hbm => 112
  | .vmem => 0
  | .smem => 0
  | _ => 0

abbrev bufTy : (tb : Table) → Fin (tcTables nBuf tb) → BufTy
  | .hbm, ⟨0, _⟩ => ⟨S4112x512, .f32⟩
  | .hbm, ⟨1, _⟩ => ⟨S1x4x128x128, .f32⟩
  | .hbm, ⟨2, _⟩ => ⟨S1x4x128, .f32⟩
  | .hbm, ⟨3, _⟩ => ⟨S1x512, .f32⟩
  | .hbm, ⟨4, _⟩ => ⟨S_, .i32⟩
  | .hbm, ⟨5, _⟩ => ⟨S_, .f32⟩
  | .hbm, ⟨6, _⟩ => ⟨S4160x512, .f32⟩
  | .hbm, ⟨7, _⟩ => ⟨S4160x4x128, .f32⟩
  | .hbm, ⟨8, _⟩ => ⟨S_, .f32⟩
  | .hbm, ⟨9, _⟩ => ⟨S_, .f32⟩
  | .hbm, ⟨10, _⟩ => ⟨S4160x4x128, .f32⟩
  | .hbm, ⟨11, _⟩ => ⟨S4160, .f32⟩
  | .hbm, ⟨12, _⟩ => ⟨S_, .f32⟩
  | .hbm, ⟨13, _⟩ => ⟨S4160, .f32⟩
  | .hbm, ⟨14, _⟩ => ⟨S4160, .f32⟩
  | .hbm, ⟨15, _⟩ => ⟨S4160x1x128, .f32⟩
  | .hbm, ⟨16, _⟩ => ⟨S4160x128, .f32⟩
  | .hbm, ⟨17, _⟩ => ⟨S_, .i32⟩
  | .hbm, ⟨18, _⟩ => ⟨S_, .f32⟩
  | .hbm, ⟨19, _⟩ => ⟨S4162x128, .f32⟩
  | .hbm, ⟨20, _⟩ => ⟨S4160x128, .f32⟩
  | .hbm, ⟨21, _⟩ => ⟨S_, .f32⟩
  | .hbm, ⟨22, _⟩ => ⟨S4160, .f32⟩
  | .hbm, ⟨23, _⟩ => ⟨S4160, .f32⟩
  | .hbm, ⟨24, _⟩ => ⟨S4160x1, .f32⟩
  | .hbm, ⟨25, _⟩ => ⟨S4160x128, .f32⟩
  | .hbm, ⟨26, _⟩ => ⟨S4160x128, .f32⟩
  | .hbm, ⟨27, _⟩ => ⟨S4160x128, .f32⟩
  | .hbm, ⟨28, _⟩ => ⟨S4160x1x128, .f32⟩
  | .hbm, ⟨29, _⟩ => ⟨S4160x128, .f32⟩
  | .hbm, ⟨30, _⟩ => ⟨S4160x128, .f32⟩
  | .hbm, ⟨31, _⟩ => ⟨S4160x1x128, .f32⟩
  | .hbm, ⟨32, _⟩ => ⟨S4160x128, .f32⟩
  | .hbm, ⟨33, _⟩ => ⟨S_, .i32⟩
  | .hbm, ⟨34, _⟩ => ⟨S_, .f32⟩
  | .hbm, ⟨35, _⟩ => ⟨S4164x128, .f32⟩
  | .hbm, ⟨36, _⟩ => ⟨S4160x128, .f32⟩
  | .hbm, ⟨37, _⟩ => ⟨S_, .f32⟩
  | .hbm, ⟨38, _⟩ => ⟨S4160, .f32⟩
  | .hbm, ⟨39, _⟩ => ⟨S4160, .f32⟩
  | .hbm, ⟨40, _⟩ => ⟨S4160x1, .f32⟩
  | .hbm, ⟨41, _⟩ => ⟨S4160x128, .f32⟩
  | .hbm, ⟨42, _⟩ => ⟨S4160x128, .f32⟩
  | .hbm, ⟨43, _⟩ => ⟨S4160x128, .f32⟩
  | .hbm, ⟨44, _⟩ => ⟨S4160x1x128, .f32⟩
  | .hbm, ⟨45, _⟩ => ⟨S4160x128, .f32⟩
  | .hbm, ⟨46, _⟩ => ⟨S4160x128, .f32⟩
  | .hbm, ⟨47, _⟩ => ⟨S4160x1x128, .f32⟩
  | .hbm, ⟨48, _⟩ => ⟨S4160x128, .f32⟩
  | .hbm, ⟨49, _⟩ => ⟨S_, .i32⟩
  | .hbm, ⟨50, _⟩ => ⟨S_, .f32⟩
  | .hbm, ⟨51, _⟩ => ⟨S4168x128, .f32⟩
  | .hbm, ⟨52, _⟩ => ⟨S4160x128, .f32⟩
  | .hbm, ⟨53, _⟩ => ⟨S_, .f32⟩
  | .hbm, ⟨54, _⟩ => ⟨S4160, .f32⟩
  | .hbm, ⟨55, _⟩ => ⟨S4160, .f32⟩
  | .hbm, ⟨56, _⟩ => ⟨S4160x1, .f32⟩
  | .hbm, ⟨57, _⟩ => ⟨S4160x128, .f32⟩
  | .hbm, ⟨58, _⟩ => ⟨S4160x128, .f32⟩
  | .hbm, ⟨59, _⟩ => ⟨S4160x128, .f32⟩
  | .hbm, ⟨60, _⟩ => ⟨S4160x1x128, .f32⟩
  | .hbm, ⟨61, _⟩ => ⟨S4160x128, .f32⟩
  | .hbm, ⟨62, _⟩ => ⟨S4160x128, .f32⟩
  | .hbm, ⟨63, _⟩ => ⟨S4160x1x128, .f32⟩
  | .hbm, ⟨64, _⟩ => ⟨S4160x128, .f32⟩
  | .hbm, ⟨65, _⟩ => ⟨S_, .i32⟩
  | .hbm, ⟨66, _⟩ => ⟨S_, .f32⟩
  | .hbm, ⟨67, _⟩ => ⟨S4176x128, .f32⟩
  | .hbm, ⟨68, _⟩ => ⟨S4160x128, .f32⟩
  | .hbm, ⟨69, _⟩ => ⟨S_, .f32⟩
  | .hbm, ⟨70, _⟩ => ⟨S4160, .f32⟩
  | .hbm, ⟨71, _⟩ => ⟨S4160, .f32⟩
  | .hbm, ⟨72, _⟩ => ⟨S4160x1, .f32⟩
  | .hbm, ⟨73, _⟩ => ⟨S4160x128, .f32⟩
  | .hbm, ⟨74, _⟩ => ⟨S4160x128, .f32⟩
  | .hbm, ⟨75, _⟩ => ⟨S4160x128, .f32⟩
  | .hbm, ⟨76, _⟩ => ⟨S4160x1x128, .f32⟩
  | .hbm, ⟨77, _⟩ => ⟨S4160x128, .f32⟩
  | .hbm, ⟨78, _⟩ => ⟨S4160x128, .f32⟩
  | .hbm, ⟨79, _⟩ => ⟨S4160x1x128, .f32⟩
  | .hbm, ⟨80, _⟩ => ⟨S4160x1x128, .f32⟩
  | .hbm, ⟨81, _⟩ => ⟨S4160x1x128, .f32⟩
  | .hbm, ⟨82, _⟩ => ⟨S4160x1x128, .f32⟩
  | .hbm, ⟨83, _⟩ => ⟨S4160x4x128, .f32⟩
  | .hbm, ⟨84, _⟩ => ⟨S4x128x128, .f32⟩
  | .hbm, ⟨85, _⟩ => ⟨S4x128x4160, .f32⟩
  | .hbm, ⟨86, _⟩ => ⟨S4160x4x128, .f32⟩
  | .hbm, ⟨87, _⟩ => ⟨S4x128, .f32⟩
  | .hbm, ⟨88, _⟩ => ⟨S1x4x128, .f32⟩
  | .hbm, ⟨89, _⟩ => ⟨S4160x4x128, .f32⟩
  | .hbm, ⟨90, _⟩ => ⟨S4160x4x128, .f32⟩
  | .hbm, ⟨91, _⟩ => ⟨S4160x512, .f32⟩
  | .hbm, ⟨92, _⟩ => ⟨S4160x512, .f32⟩
  | .hbm, ⟨93, _⟩ => ⟨S4160x512, .bf16⟩
  | .hbm, ⟨94, _⟩ => ⟨S512, .f32⟩
  | .hbm, ⟨95, _⟩ => ⟨S4160x512, .f32⟩
  | .hbm, ⟨96, _⟩ => ⟨S_, .f32⟩
  | .hbm, ⟨97, _⟩ => ⟨S4160, .f32⟩
  | .hbm, ⟨98, _⟩ => ⟨S4160x1, .f32⟩
  | .hbm, ⟨99, _⟩ => ⟨S_, .f32⟩
  | .hbm, ⟨100, _⟩ => ⟨S4160x1, .f32⟩
  | .hbm, ⟨101, _⟩ => ⟨S4160x1, .f32⟩
  | .hbm, ⟨102, _⟩ => ⟨S_, .f32⟩
  | .hbm, ⟨103, _⟩ => ⟨S4160x1, .f32⟩
  | .hbm, ⟨104, _⟩ => ⟨S4160x1, .f32⟩
  | .hbm, ⟨105, _⟩ => ⟨S4160x1, .f32⟩
  | .hbm, ⟨106, _⟩ => ⟨S4160x512, .f32⟩
  | .hbm, ⟨107, _⟩ => ⟨S4160x512, .f32⟩
  | .hbm, ⟨108, _⟩ => ⟨S1x512, .f32⟩
  | .hbm, ⟨109, _⟩ => ⟨S4160x512, .f32⟩
  | .hbm, ⟨110, _⟩ => ⟨S4160x512, .f32⟩
  | .hbm, ⟨111, _⟩ => ⟨S4160x512, .bf16⟩
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_call0_cst : Ref sig .tc := ⟨.hbm, 8, rfl⟩
abbrev main_call1_call0_v0 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_call3_v0 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_call4_v0 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_6 : Ref sig .tc := ⟨.hbm, 65, rfl⟩
abbrev main_call5_v0 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_cst_10 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]
-- ==== FwdIn.lean ====
abbrev S16x1024 : Shape := ⟨2, ![16, 1024]⟩
abbrev S1x4096x1024 : Shape := ⟨3, ![1, 4096, 1024]⟩
abbrev S1x1024 : Shape := ⟨2, ![1, 1024]⟩
abbrev S1x1024x1024 : Shape := ⟨3, ![1, 1024, 1024]⟩
abbrev S4096x1024 : Shape := ⟨2, ![4096, 1024]⟩
abbrev S4112x1024 : Shape := ⟨2, ![4112, 1024]⟩
abbrev S_ : Shape := ⟨0, ![]⟩
abbrev S4160x1024 : Shape := ⟨2, ![4160, 1024]⟩
abbrev S1024x1024 : Shape := ⟨2, ![1024, 1024]⟩
abbrev S8x128 : Shape := ⟨2, ![8, 128]⟩
abbrev S4x4160x128 : Shape := ⟨3, ![4, 4160, 128]⟩
abbrev S4160x512 : Shape := ⟨2, ![4160, 512]⟩
abbrev S832x1024 : Shape := ⟨2, ![832, 1024]⟩
abbrev S4x832x128 : Shape := ⟨3, ![4, 832, 128]⟩
abbrev S832x512 : Shape := ⟨2, ![832, 512]⟩
abbrev S832 : Shape := ⟨1, ![832]⟩
abbrev S832x1 : Shape := ⟨2, ![832, 1]⟩
abbrev S832x128 : Shape := ⟨2, ![832, 128]⟩
abbrev S1x832x128 : Shape := ⟨3, ![1, 832, 128]⟩

abbrev nBuf : Space → Nat
  | .hbm => 15
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S1x4096x1024, .f32⟩
  | .hbm, ⟨2, _⟩ => ⟨S1x1024, .f32⟩
  | .hbm, ⟨3, _⟩ => ⟨S1x1024x1024, .f32⟩
  | .hbm, ⟨4, _⟩ => ⟨S4096x1024, .f32⟩
  | .hbm, ⟨5, _⟩ => ⟨S4112x1024, .f32⟩
  | .hbm, ⟨6, _⟩ => ⟨S_, .i32⟩
  | .hbm, ⟨7, _⟩ => ⟨S_, .f32⟩
  | .hbm, ⟨8, _⟩ => ⟨S4160x1024, .f32⟩
  | .hbm, ⟨9, _⟩ => ⟨S1024x1024, .f32⟩
  | .hbm, ⟨10, _⟩ => ⟨S1024x1024, .bf16⟩
  | .hbm, ⟨11, _⟩ => ⟨S_, .f32⟩
  | .hbm, ⟨12, _⟩ => ⟨S8x128, .f32⟩
  | .hbm, ⟨13, _⟩ => ⟨S4x4160x128, .f32⟩
  | .hbm, ⟨14, _⟩ => ⟨S4160x512, .f32⟩
  | .local _ .vmem, ⟨0, _⟩ => ⟨S832x1024, .f32⟩
  | .local _ .vmem, ⟨1, _⟩ => ⟨S832x1024, .f32⟩
  | .local _ .vmem, ⟨2, _⟩ => ⟨S1x1024, .f32⟩
  | .local _ .vmem, ⟨3, _⟩ => ⟨S1024x1024, .bf16⟩
  | .local _ .vmem, ⟨4, _⟩ => ⟨S4x832x128, .f32⟩
  | .local _ .vmem, ⟨5, _⟩ => ⟨S4x832x128, .f32⟩
  | .local _ .vmem, ⟨6, _⟩ => ⟨S832x512, .f32⟩
  | .local _ .vmem, ⟨7, _⟩ => ⟨S832x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x832x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRefIdeal.lean ====
abbrev S16x1024 : Shape := ⟨2, ![16, 1024]⟩
abbrev S1x4096x1024 : Shape := ⟨3, ![1, 4096, 1024]⟩
abbrev S1x1024 : Shape := ⟨2, ![1, 1024]⟩
abbrev S1x1024x1024 : Shape := ⟨3, ![1, 1024, 1024]⟩
abbrev S4096x1024 : Shape := ⟨2, ![4096, 1024]⟩
abbrev S4112x1024 : Shape := ⟨2, ![4112, 1024]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x1024 : Shape := ⟨2, ![1024, 1024]⟩
abbrev S4160x1024 : Shape := ⟨2, ![4160, 1024]⟩
abbrev S4160x512 : Shape := ⟨2, ![4160, 512]⟩
abbrev S4160x4x128 : Shape := ⟨3, ![4160, 4, 128]⟩
abbrev S4x4160x128 : Shape := ⟨3, ![4, 4160, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x4096x1024, .f32⟩
  | .hbm, ⟨2, _⟩ => ⟨S1x1024, .f32⟩
  | .hbm, ⟨3, _⟩ => ⟨S1x1024x1024, .f32⟩
  | .hbm, ⟨4, _⟩ => ⟨S4096x1024, .f32⟩
  | .hbm, ⟨5, _⟩ => ⟨S4112x1024, .f32⟩
  | .hbm, ⟨6, _⟩ => ⟨S1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S1x1024, .f32⟩
  | .hbm, ⟨21, _⟩ => ⟨S4112x1024, .f32⟩
  | .hbm, ⟨22, _⟩ => ⟨S4112x1024, .f32⟩
  | .hbm, ⟨23, _⟩ => ⟨S1024x1024, .f32⟩
  | .hbm, ⟨24, _⟩ => ⟨S4112x1024, .f32⟩
  | .hbm, ⟨25, _⟩ => ⟨S_, .i32⟩
  | .hbm, ⟨26, _⟩ => ⟨S_, .f32⟩
  | .hbm, ⟨27, _⟩ => ⟨S4160x1024, .f32⟩
  | .hbm, ⟨28, _⟩ => ⟨S4160x512, .f32⟩
  | .hbm, ⟨29, _⟩ => ⟨S4160x4x128, .f32⟩
  | .hbm, ⟨30, _⟩ => ⟨S4x4160x128, .f32⟩
  | .hbm, ⟨31, _⟩ => ⟨S4160x512, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== S5Fwd.lean ====
abbrev S4112x512 : Shape := ⟨2, ![4112, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x32x16x16 : Shape := ⟨4, ![1, 32, 16, 16]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16x16 : Shape := ⟨3, ![32, 16, 16]⟩
abbrev S_ : Shape := ⟨0, ![]⟩
abbrev S32x1 : Shape := ⟨2, ![32, 1]⟩
abbrev S32x64x1 : Shape := ⟨3, ![32, 64, 1]⟩
abbrev S8x8 : Shape := ⟨2, ![8, 8]⟩
abbrev S1x8x1x8x1 : Shape := ⟨5, ![1, 8, 1, 8, 1]⟩
abbrev S4x8x16x16 : Shape := ⟨4, ![4, 8, 16, 16]⟩
abbrev S4x8x16x1x16 : Shape := ⟨5, ![4, 8, 16, 1, 16]⟩
abbrev S4x8x16x8x16 : Shape := ⟨5, ![4, 8, 16, 8, 16]⟩
abbrev S4x128x128 : Shape := ⟨3, ![4, 128, 128]⟩
abbrev S1x2048 : Shape := ⟨2, ![1, 2048]⟩
abbrev S2x2048 : Shape := ⟨2, ![2, 2048]⟩
abbrev S8x2048 : Shape := ⟨2, ![8, 2048]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S4x8x16x8x64 : Shape := ⟨5, ![4, 8, 16, 8, 64]⟩
abbrev S4x128x512 : Shape := ⟨3, ![4, 128, 512]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S3x512 : Shape := ⟨2, ![3, 512]⟩
abbrev S8x512 : Shape := ⟨2, ![8, 512]⟩
abbrev S4160x512 : Shape := ⟨2, ![4160, 512]⟩
abbrev S4160x4x128 : Shape := ⟨3, ![4160, 4, 128]⟩
abbrev S4x4160x128 : Shape := ⟨3, ![4, 4160, 128]⟩
abbrev S4160x2048 : Shape := ⟨2, ![4160, 2048]⟩
abbrev S4x320x128 : Shape := ⟨3, ![4, 320, 128]⟩
abbrev S320x2048 : Shape := ⟨2, ![320, 2048]⟩
abbrev S320x512 : Shape := ⟨2, ![320, 512]⟩
abbrev S1x8x128 : Shape := ⟨3, ![1, 8, 128]⟩
abbrev S8x128 : Shape := ⟨2, ![8, 128]⟩
abbrev S320x128 : Shape := ⟨2, ![320, 128]⟩
abbrev S1x128x512 : Shape := ⟨3, ![1, 128, 512]⟩
abbrev S128x512 : Shape := ⟨2, ![128, 512]⟩
abbrev S1x512x128 : Shape := ⟨3, ![1, 512, 128]⟩
abbrev S512x128 : Shape := ⟨2, ![512, 128]⟩
abbrev S1x128x128 : Shape := ⟨3, ![1, 128, 128]⟩
abbrev S128x128 : Shape := ⟨2, ![128, 128]⟩
abbrev S320 : Shape := ⟨1, ![320]⟩
abbrev S320x1 : Shape := ⟨2, ![320, 1]⟩
abbrev S1x320x128 : Shape := ⟨3, ![1, 320, 128]⟩

abbrev nBuf : Space → Nat
  | .hbm => 134
  | .vmem => 22
  | .smem => 0
  | _ => 0

abbrev hbmTy0_0 (i : Nat) : BufTy := match i % 128 with
  | 0 => ⟨S4112x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x16, .f32⟩
  | 9 => ⟨S1x32x16x16, .f32⟩
  | 10 => ⟨S1x32x16, .f32⟩
  | 11 => ⟨S1x512, .f32⟩
  | 12 => ⟨S32x64, .f32⟩
  | 13 => ⟨S32x64, .f32⟩
  | 14 => ⟨S32, .f32⟩
  | 15 => ⟨S32x64x16, .f32⟩
  | 16 => ⟨S32x64x16, .f32⟩
  | 17 => ⟨S32x16x64, .f32⟩
  | 18 => ⟨S32x16x64, .f32⟩
  | 19 => ⟨S32x16x16, .f32⟩
  | 20 => ⟨S_, .f32⟩
  | 21 => ⟨S32x64, .f32⟩
  | 22 => ⟨S32x64, .f32⟩
  | 23 => ⟨S32, .f32⟩
  | 24 => ⟨S32x1, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S_, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64x1, .f32⟩
  | 45 => ⟨S32x64, .f32⟩
  | 46 => ⟨S32x64, .f32⟩
  | 47 => ⟨S32x64, .f32⟩
  | 48 => ⟨S32x64, .f32⟩
  | 49 => ⟨S32x64x1, .f32⟩
  | 50 => ⟨S32x64x16, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S8x8, .i32⟩
  | 61 => ⟨S8x8, .i32⟩
  | 62 => ⟨S_, .i32⟩
  | 63 => ⟨S8x8, .i32⟩
  | 64 => ⟨S8x8, .i32⟩
  | 65 => ⟨S8x8, .i1⟩
  | 66 => ⟨S8x8, .f32⟩
  | 67 => ⟨S1x8x1x8x1, .f32⟩
  | 68 => ⟨S4x8x16x16, .f32⟩
  | 69 => ⟨S4x8x16x1x16, .f32⟩
  | 70 => ⟨S4x8x16x8x16, .f32⟩
  | 71 => ⟨S4x8x16x8x16, .f32⟩
  | 72 => ⟨S4x8x16x8x16, .f32⟩
  | 73 => ⟨S4x128x128, .f32⟩
  | 74 => ⟨S1x2048, .f32⟩
  | 75 => ⟨S1x2048, .f32⟩
  | 76 => ⟨S2x2048, .f32⟩
  | 77 => ⟨S_, .i32⟩
  | 78 => ⟨S_, .f32⟩
  | 79 => ⟨S8x2048, .f32⟩
  | 80 => ⟨S1x8x1x8x1, .f32⟩
  | 81 => ⟨S4x8x64x16, .f32⟩
  | 82 => ⟨S4x8x16x64, .f32⟩
  | 83 => ⟨S4x8x16x1x64, .f32⟩
  | 84 => ⟨S4x8x16x8x64, .f32⟩
  | 85 => ⟨S4x8x16x8x64, .f32⟩
  | 86 => ⟨S4x8x16x8x64, .f32⟩
  | 87 => ⟨S4x128x512, .f32⟩
  | 88 => ⟨S1x8x1x8x1, .f32⟩
  | 89 => ⟨S4x8x64x16, .f32⟩
  | 90 => ⟨S4x8x16x64, .f32⟩
  | 91 => ⟨S4x8x16x1x64, .f32⟩
  | 92 => ⟨S4x8x16x8x64, .f32⟩
  | 93 => ⟨S4x8x16x8x64, .f32⟩
  | 94 => ⟨S4x8x16x8x64, .f32⟩
  | 95 => ⟨S4x128x512, .f32⟩
  | 96 => ⟨S8x8, .f32⟩
  | 97 => ⟨S1x8x1x8x1, .f32⟩
  | 98 => ⟨S4x8x16x64, .f32⟩
  | 99 => ⟨S4x64x8x16, .f32⟩
  | 100 => ⟨S4x1x64x8x16, .f32⟩
  | 101 => ⟨S4x8x64x8x16, .f32⟩
  | 102 => ⟨S4x8x64x8x16, .f32⟩
  | 103 => ⟨S4x8x64x8x16, .f32⟩
  | 104 => ⟨S4x512x128, .f32⟩
  | 105 => ⟨S8x8, .f32⟩
  | 106 => ⟨S1x8x1x8x1, .f32⟩
  | 107 => ⟨S4x8x16x64, .f32⟩
  | 108 => ⟨S4x64x8x16, .f32⟩
  | 109 => ⟨S4x1x64x8x16, .f32⟩
  | 110 => ⟨S4x8x64x8x16, .f32⟩
  | 111 => ⟨S4x8x64x8x16, .f32⟩
  | 112 => ⟨S4x8x64x8x16, .f32⟩
  | 113 => ⟨S4x512x128, .f32⟩
  | 114 => ⟨S4x128x512, .bf16⟩
  | 115 => ⟨S4x128x512, .bf16⟩
  | 116 => ⟨S4x512x128, .bf16⟩
  | 117 => ⟨S4x512x128, .bf16⟩
  | 118 => ⟨S4x128x128, .bf16⟩
  | 119 => ⟨S1x512, .f32⟩
  | 120 => ⟨S1x512, .f32⟩
  | 121 => ⟨S3x512, .f32⟩
  | 122 => ⟨S_, .i32⟩
  | 123 => ⟨S_, .f32⟩
  | 124 => ⟨S8x512, .f32⟩
  | 125 => ⟨S_, .i32⟩
  | 126 => ⟨S_, .f32⟩
  | 127 => ⟨S4160x512, .f32⟩
  | _ => ⟨S4112x512, .f32⟩

abbrev hbmTy0_1 (i : Nat) : BufTy := match i % 128 with
  | 0 => ⟨S4160x4x128, .f32⟩
  | 1 => ⟨S4x4160x128, .f32⟩
  | 2 => ⟨S4160x2048, .f32⟩
  | 3 => ⟨S4160x2048, .f32⟩
  | 4 => ⟨S4160x512, .f32⟩
  | 5 => ⟨S4160x512, .bf16⟩
  | _ => ⟨S4112x512, .f32⟩

abbrev hbmTy (i : Nat) : BufTy := match i / 128 with
  | 0 => hbmTy0_0 i
  | 1 => hbmTy0_1 i
  | _ => ⟨S4112x512, .f32⟩

abbrev bufTy : (tb : Table) → Fin (tcTables nBuf tb) → BufTy
  | .hbm, ⟨i, _⟩ => hbmTy i
  | .local _ .vmem, ⟨0, _⟩ => ⟨S4x320x128, .f32⟩
  | .local _ .vmem, ⟨1, _⟩ => ⟨S4x320x128, .f32⟩
  | .local _ .vmem, ⟨2, _⟩ => ⟨S8x2048, .f32⟩
  | .local _ .vmem, ⟨3, _⟩ => ⟨S4x128x512, .bf16⟩
  | .local _ .vmem, ⟨4, _⟩ => ⟨S4x128x512, .bf16⟩
  | .local _ .vmem, ⟨5, _⟩ => ⟨S4x512x128, .bf16⟩
  | .local _ .vmem, ⟨6, _⟩ => ⟨S4x512x128, .bf16⟩
  | .local _ .vmem, ⟨7, _⟩ => ⟨S8x512, .f32⟩
  | .local _ .vmem, ⟨8, _⟩ => ⟨S4x128x128, .bf16⟩
  | .local _ .vmem, ⟨9, _⟩ => ⟨S320x2048, .f32⟩
  | .local _ .vmem, ⟨10, _⟩ => ⟨S320x2048, .f32⟩
  | .local _ .vmem, ⟨11, _⟩ => ⟨S320x2048, .f32⟩
  | .local _ .vmem, ⟨12, _⟩ => ⟨S320x2048, .f32⟩
  | .local _ .vmem, ⟨13, _⟩ => ⟨S320x512, .f32⟩
  | .local _ .vmem, ⟨14, _⟩ => ⟨S320x512, .f32⟩
  | .local _ .vmem, ⟨15, _⟩ => ⟨S320x512, .bf16⟩
  | .local _ .vmem, ⟨16, _⟩ => ⟨S320x512, .bf16⟩
  | .local _ .vmem, ⟨17, _⟩ => ⟨S8x2048, .f32⟩
  | .local _ .vmem, ⟨18, _⟩ => ⟨S8x2048, .f32⟩
  | .local _ .vmem, ⟨19, _⟩ => ⟨S320x2048, .f32⟩
  | .local _ .vmem, ⟨20, _⟩ => ⟨S320x2048, .f32⟩
  | .local _ .vmem, ⟨21, _⟩ => ⟨S4x320x128, .f32⟩
  | _, _ => ⟨S4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_1 : Ref sig .tc := ⟨.hbm, 77, rfl⟩
abbrev main_call0_v0 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_c_2 : Ref sig .tc := ⟨.hbm, 122, rfl⟩
abbrev main_call1_v0 : Ref sig .tc := ⟨.hbm, 123, rfl⟩
abbrev main_v105 : Ref sig .tc := ⟨.hbm, 124, rfl⟩
abbrev main_c_3 : Ref sig .tc := ⟨.hbm, 125, rfl⟩
abbrev main_call2_v0 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109_0 : Ref sig .tc := ⟨.hbm, 130, rfl⟩
abbrev main_v109_1 : Ref sig .tc := ⟨.hbm, 131, rfl⟩
abbrev main_v109_2 : Ref sig .tc := ⟨.hbm, 132, rfl⟩
abbrev main_v109_3 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_491 : BitVec 32 := 0#32
  let c40_i32 : BitVec 32 := 40#32
  let v406 : BitVec 32 := Scalar.addi c0_i32_491 c40_i32
  let c1_i32 : BitVec 32 := 1#32
  ⟨c0_i32_491, v406, c1_i32⟩
def k0_mult1 (k0_t1 : Fin k0_t1_loop.trips) : BitVec 32 :=
  let c0_i32_491 : BitVec 32 := 0#32
  let c1_i32 : BitVec 32 := 1#32
  let arg18 : BitVec 32 := Scf.iv c0_i32_491 c1_i32 k0_t1
  let c8_i32 : BitVec 32 := 8#32
  let v1304 : BitVec 32 := Scalar.muli arg18 c8_i32
  v1304
def k0_off1 (k0_t1 : Fin k0_t1_loop.trips) : Fin 2 → Nat :=
  let c0_i32_491 : BitVec 32 := 0#32
  let c1_i32 : BitVec 32 := 1#32
  let arg18 : BitVec 32 := Scf.iv c0_i32_491 c1_i32 k0_t1
  let c8_i32 : BitVec 32 := 8#32
  let v1304 : BitVec 32 := Scalar.muli arg18 c8_i32
  let v1305 : BitVec 32 := v1304
  let v1309 : Index := Scalar.indexCast v1305
  let c0_1134 : Index := 0#32
  ![v1309.toNat, 0]
@[reducible] def k0_t2_loop : Scf.Loop 32 :=
  let c0_i32_505 : BitVec 32 := 0#32
  let c40_i32_506 : BitVec 32 := 40#32
  let v502 : BitVec 32 := Scalar.addi c0_i32_505 c40_i32_506
  let c1_i32_507 : BitVec 32 := 1#32
  ⟨c0_i32_505, v502, c1_i32_507⟩
def k0_mult2 (k0_t2 : Fin k0_t2_loop.trips) : BitVec 32 :=
  let c0_i32_505 : BitVec 32 := 0#32
  let c1_i32_507 : BitVec 32 := 1#32
  let arg18 : BitVec 32 := Scf.iv c0_i32_505 c1_i32_507 k0_t2
  let c8_i32 : BitVec 32 := 8#32
  let v1304 : BitVec 32 := Scalar.muli arg18 c8_i32
  v1304
def k0_mult3 (k0_t2 : Fin k0_t2_loop.trips) : BitVec 32 :=
  let c0_i32_505 : BitVec 32 := 0#32
  let c1_i32_507 : BitVec 32 := 1#32
  let arg18 : BitVec 32 := Scf.iv c0_i32_505 c1_i32_507 k0_t2
  let c8_i32_1134 : BitVec 32 := 8#32
  let v1306 : BitVec 32 := Scalar.muli arg18 c8_i32_1134
  v1306
def k0_off2 (k0_t2 : Fin k0_t2_loop.trips) : Fin 2 → Nat :=
  let c0_i32_505 : BitVec 32 := 0#32
  let c1_i32_507 : BitVec 32 := 1#32
  let arg18 : BitVec 32 := Scf.iv c0_i32_505 c1_i32_507 k0_t2
  let c8_i32_1134 : BitVec 32 := 8#32
  let v1306 : BitVec 32 := Scalar.muli arg18 c8_i32_1134
  let v1307 : BitVec 32 := v1306
  let v1308 : Index := Scalar.indexCast v1307
  let c0_1135 : Index := 0#32
  ![v1308.toNat, 0]
@[reducible] def k0_t3_loop : Scf.Loop 32 :=
  let c0_i32_515 : BitVec 32 := 0#32
  let c40_i32_516 : BitVec 32 := 40#32
  let v508 : BitVec 32 := Scalar.addi c0_i32_515 c40_i32_516
  let c1_i32_517 : BitVec 32 := 1#32
  ⟨c0_i32_515, v508, c1_i32_517⟩
def k0_mult4 (k0_t3 : Fin k0_t3_loop.trips) : BitVec 32 :=
  let c0_i32_515 : BitVec 32 := 0#32
  let c1_i32_517 : BitVec 32 := 1#32
  let arg18 : BitVec 32 := Scf.iv c0_i32_515 c1_i32_517 k0_t3
  let c8_i32 : BitVec 32 := 8#32
  let v1304 : BitVec 32 := Scalar.muli arg18 c8_i32
  v1304
def k0_off3 (k0_t3 : Fin k0_t3_loop.trips) : Fin 2 → Nat :=
  let c0_i32_515 : BitVec 32 := 0#32
  let c1_i32_517 : BitVec 32 := 1#32
  let arg18 : BitVec 32 := Scf.iv c0_i32_515 c1_i32_517 k0_t3
  let c8_i32 : BitVec 32 := 8#32
  let v1304 : BitVec 32 := Scalar.muli arg18 c8_i32
  let v1305 : BitVec 32 := v1304
  let v1309 : Index := Scalar.indexCast v1305
  let c512_1134 : Index := 512#32
  ![v1309.toNat, 512]
@[reducible] def k0_t4_loop : Scf.Loop 32 :=
  let c0_i32_532 : BitVec 32 := 0#32
  let c40_i32_533 : BitVec 32 := 40#32
  let v604 : BitVec 32 := Scalar.addi c0_i32_532 c40_i32_533
  let c1_i32_534 : BitVec 32 := 1#32
  ⟨c0_i32_532, v604, c1_i32_534⟩
def k0_mult5 (k0_t4 : Fin k0_t4_loop.trips) : BitVec 32 :=
  let c0_i32_532 : BitVec 32 := 0#32
  let c1_i32_534 : BitVec 32 := 1#32
  let arg18 : BitVec 32 := Scf.iv c0_i32_532 c1_i32_534 k0_t4
  let c8_i32 : BitVec 32 := 8#32
  let v1304 : BitVec 32 := Scalar.muli arg18 c8_i32
  v1304
def k0_mult6 (k0_t4 : Fin k0_t4_loop.trips) : BitVec 32 :=
  let c0_i32_532 : BitVec 32 := 0#32
  let c1_i32_534 : BitVec 32 := 1#32
  let arg18 : BitVec 32 := Scf.iv c0_i32_532 c1_i32_534 k0_t4
  let c8_i32_1134 : BitVec 32 := 8#32
  let v1306 : BitVec 32 := Scalar.muli arg18 c8_i32_1134
  v1306
def k0_off4 (k0_t4 : Fin k0_t4_loop.trips) : Fin 2 → Nat :=
  let c0_i32_532 : BitVec 32 := 0#32
  let c1_i32_534 : BitVec 32 := 1#32
  let arg18 : BitVec 32 := Scf.iv c0_i32_532 c1_i32_534 k0_t4
  let c8_i32_1134 : BitVec 32 := 8#32
  let v1306 : BitVec 32 := Scalar.muli arg18 c8_i32_1134
  let v1307 : BitVec 32 := v1306
  let v1308 : Index := Scalar.indexCast v1307
  let c512_1135 : Index := 512#32
  ![v1308.toNat, 512]
@[reducible] def k0_t5_loop : Scf.Loop 32 :=
  let c0_i32_542 : BitVec 32 := 0#32
  let c40_i32_543 : BitVec 32 := 40#32
  let v610 : BitVec 32 := Scalar.addi c0_i32_542 c40_i32_543
  let c1_i32_544 : BitVec 32 := 1#32
  ⟨c0_i32_542, v610, c1_i32_544⟩
def k0_mult7 (k0_t5 : Fin k0_t5_loop.trips) : BitVec 32 :=
  let c0_i32_542 : BitVec 32 := 0#32
  let c1_i32_544 : BitVec 32 := 1#32
  let arg18 : BitVec 32 := Scf.iv c0_i32_542 c1_i32_544 k0_t5
  let c8_i32 : BitVec 32 := 8#32
  let v1304 : BitVec 32 := Scalar.muli arg18 c8_i32
  v1304
def k0_off5 (k0_t5 : Fin k0_t5_loop.trips) : Fin 2 → Nat :=
  let c0_i32_542 : BitVec 32 := 0#32
  let c1_i32_544 : BitVec 32 := 1#32
  let arg18 : BitVec 32 := Scf.iv c0_i32_542 c1_i32_544 k0_t5
  let c8_i32 : BitVec 32 := 8#32
  let v1304 : BitVec 32 := Scalar.muli arg18 c8_i32
  let v1305 : BitVec 32 := v1304
  let v1309 : Index := Scalar.indexCast v1305
  let c1024_1134 : Index := 1024#32
  ![v1309.toNat, 1024]
@[reducible] def k0_t6_loop : Scf.Loop 32 :=
  let c0_i32_559 : BitVec 32 := 0#32
  let c40_i32_560 : BitVec 32 := 40#32
  let v706 : BitVec 32 := Scalar.addi c0_i32_559 c40_i32_560
  let c1_i32_561 : BitVec 32 := 1#32
  ⟨c0_i32_559, v706, c1_i32_561⟩
def k0_mult8 (k0_t6 : Fin k0_t6_loop.trips) : BitVec 32 :=
  let c0_i32_559 : BitVec 32 := 0#32
  let c1_i32_561 : BitVec 32 := 1#32
  let arg18 : BitVec 32 := Scf.iv c0_i32_559 c1_i32_561 k0_t6
  let c8_i32 : BitVec 32 := 8#32
  let v1304 : BitVec 32 := Scalar.muli arg18 c8_i32
  v1304
def k0_mult9 (k0_t6 : Fin k0_t6_loop.trips) : BitVec 32 :=
  let c0_i32_559 : BitVec 32 := 0#32
  let c1_i32_561 : BitVec 32 := 1#32
  let arg18 : BitVec 32 := Scf.iv c0_i32_559 c1_i32_561 k0_t6
  let c8_i32_1134 : BitVec 32 := 8#32
  let v1306 : BitVec 32 := Scalar.muli arg18 c8_i32_1134
  v1306
def k0_off6 (k0_t6 : Fin k0_t6_loop.trips) : Fin 2 → Nat :=
  let c0_i32_559 : BitVec 32 := 0#32
  let c1_i32_561 : BitVec 32 := 1#32
  let arg18 : BitVec 32 := Scf.iv c0_i32_559 c1_i32_561 k0_t6
  let c8_i32_1134 : BitVec 32 := 8#32
  let v1306 : BitVec 32 := Scalar.muli arg18 c8_i32_1134
  let v1307 : BitVec 32 := v1306
  let v1308 : Index := Scalar.indexCast v1307
  let c1024_1135 : Index := 1024#32
  ![v1308.toNat, 1024]
@[reducible] def k0_t7_loop : Scf.Loop 32 :=
  let c0_i32_569 : BitVec 32 := 0#32
  let c40_i32_570 : BitVec 32 := 40#32
  let v712 : BitVec 32 := Scalar.addi c0_i32_569 c40_i32_570
  let c1_i32_571 : BitVec 32 := 1#32
  ⟨c0_i32_569, v712, c1_i32_571⟩
def k0_mult10 (k0_t7 : Fin k0_t7_loop.trips) : BitVec 32 :=
  let c0_i32_569 : BitVec 32 := 0#32
  let c1_i32_571 : BitVec 32 := 1#32
  let arg18 : BitVec 32 := Scf.iv c0_i32_569 c1_i32_571 k0_t7
  let c8_i32 : BitVec 32 := 8#32
  let v1304 : BitVec 32 := Scalar.muli arg18 c8_i32
  v1304
def k0_off7 (k0_t7 : Fin k0_t7_loop.trips) : Fin 2 → Nat :=
  let c0_i32_569 : BitVec 32 := 0#32
  let c1_i32_571 : BitVec 32 := 1#32
  let arg18 : BitVec 32 := Scf.iv c0_i32_569 c1_i32_571 k0_t7
  let c8_i32 : BitVec 32 := 8#32
  let v1304 : BitVec 32 := Scalar.muli arg18 c8_i32
  let v1305 : BitVec 32 := v1304
  let v1309 : Index := Scalar.indexCast v1305
  let c1536_1134 : Index := 1536#32
  ![v1309.toNat, 1536]
@[reducible] def k0_t8_loop : Scf.Loop 32 :=
  let c0_i32_586 : BitVec 32 := 0#32
  let c40_i32_587 : BitVec 32 := 40#32
  let v808 : BitVec 32 := Scalar.addi c0_i32_586 c40_i32_587
  let c1_i32_588 : BitVec 32 := 1#32
  ⟨c0_i32_586, v808, c1_i32_588⟩
def k0_mult11 (k0_t8 : Fin k0_t8_loop.trips) : BitVec 32 :=
  let c0_i32_586 : BitVec 32 := 0#32
  let c1_i32_588 : BitVec 32 := 1#32
  let arg18 : BitVec 32 := Scf.iv c0_i32_586 c1_i32_588 k0_t8
  let c8_i32 : BitVec 32 := 8#32
  let v1304 : BitVec 32 := Scalar.muli arg18 c8_i32
  v1304
def k0_mult12 (k0_t8 : Fin k0_t8_loop.trips) : BitVec 32 :=
  let c0_i32_586 : BitVec 32 := 0#32
  let c1_i32_588 : BitVec 32 := 1#32
  let arg18 : BitVec 32 := Scf.iv c0_i32_586 c1_i32_588 k0_t8
  let c8_i32_1134 : BitVec 32 := 8#32
  let v1306 : BitVec 32 := Scalar.muli arg18 c8_i32_1134
  v1306
def k0_off8 (k0_t8 : Fin k0_t8_loop.trips) : Fin 2 → Nat :=
  let c0_i32_586 : BitVec 32 := 0#32
  let c1_i32_588 : BitVec 32 := 1#32
  let arg18 : BitVec 32 := Scf.iv c0_i32_586 c1_i32_588 k0_t8
  let c8_i32_1134 : BitVec 32 := 8#32
  let v1306 : BitVec 32 := Scalar.muli arg18 c8_i32_1134
  let v1307 : BitVec 32 := v1306
  let v1308 : Index := Scalar.indexCast v1307
  let c1536_1135 : Index := 1536#32
  ![v1308.toNat, 1536]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x320x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S320x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S320x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S320x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S320x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== S5FwdRefIdeal.lean ====
abbrev S4112x512 : Shape := ⟨2, ![4112, 512]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S1x32x16x16 : Shape := ⟨4, ![1, 32, 16, 16]⟩
abbrev S1x512 : Shape := ⟨2, ![1, 512]⟩
abbrev S_ : Shape := ⟨0, ![]⟩
abbrev S4160x512 : Shape := ⟨2, ![4160, 512]⟩
abbrev S4160x32x16 : Shape := ⟨3, ![4160, 32, 16]⟩
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x64x1 : Shape := ⟨3, ![32, 64, 1]⟩
abbrev S4160x32x64 : Shape := ⟨3, ![4160, 32, 64]⟩
abbrev S32x64x4160 : Shape := ⟨3, ![32, 64, 4160]⟩
abbrev S2080x32x64 : Shape := ⟨3, ![2080, 32, 64]⟩
abbrev S1040x32x64 : Shape := ⟨3, ![1040, 32, 64]⟩
abbrev S520x32x64 : Shape := ⟨3, ![520, 32, 64]⟩
abbrev S260x32x64 : Shape := ⟨3, ![260, 32, 64]⟩
abbrev S130x32x64 : Shape := ⟨3, ![130, 32, 64]⟩
abbrev S65x32x64 : Shape := ⟨3, ![65, 32, 64]⟩
abbrev S32x32x64 : Shape := ⟨3, ![32, 32, 64]⟩
abbrev S16x32x64 : Shape := ⟨3, ![16, 32, 64]⟩
abbrev S8x32x64 : Shape := ⟨3, ![8, 32, 64]⟩
abbrev S4x32x64 : Shape := ⟨3, ![4, 32, 64]⟩
abbrev S2x32x64 : Shape := ⟨3, ![2, 32, 64]⟩
abbrev S0x32x64 : Shape := ⟨3, ![0, 32, 64]⟩
abbrev S3x32x64 : Shape := ⟨3, ![3, 32, 64]⟩
abbrev S7x32x64 : Shape := ⟨3, ![7, 32, 64]⟩
abbrev S15x32x64 : Shape := ⟨3, ![15, 32, 64]⟩
abbrev S33x32x64 : Shape := ⟨3, ![33, 32, 64]⟩
abbrev S64x32x64 : Shape := ⟨3, ![64, 32, 64]⟩
abbrev S129x32x64 : Shape := ⟨3, ![129, 32, 64]⟩
abbrev S259x32x64 : Shape := ⟨3, ![259, 32, 64]⟩
abbrev S519x32x64 : Shape := ⟨3, ![519, 32, 64]⟩
abbrev S1039x32x64 : Shape := ⟨3, ![1039, 32, 64]⟩
abbrev S2079x32x64 : Shape := ⟨3, ![2079, 32, 64]⟩
abbrev S32x16x64 : Shape := ⟨3, ![32, 16, 64]⟩
abbrev S32x16x4160 : Shape := ⟨3, ![32, 16, 4160]⟩
abbrev S32x16 : Shape := ⟨2, ![32, 16]⟩
abbrev S32x16x16 : Shape := ⟨3, ![32, 16, 16]⟩
abbrev S512 : Shape := ⟨1, ![512]⟩
abbrev S4160 : Shape := ⟨1, ![4160]⟩
abbrev S4160x1 : Shape := ⟨2, ![4160, 1]⟩
abbrev S13x8x40x2048 : Shape := ⟨4, ![13, 8, 40, 2048]⟩
abbrev S13x40x8x2048 : Shape := ⟨4, ![13, 40, 8, 2048]⟩
abbrev S4160x2048 : Shape := ⟨2, ![4160, 2048]⟩
abbrev S13x8x40x512 : Shape := ⟨4, ![13, 8, 40, 512]⟩
abbrev S13x40x8x512 : Shape := ⟨4, ![13, 40, 8, 512]⟩

abbrev nBuf : Space → Nat
  | .hbm => 1000
  | .vmem => 0
  | .smem => 0
  | _ => 0

abbrev hbmTy0_0 (i : Nat) : BufTy := match i % 128 with
  | 0 => ⟨S4112x512, .f32⟩
  | 1 => ⟨S1x32x64, .f32⟩
  | 2 => ⟨S1x32x64, .f32⟩
  | 3 => ⟨S1x32, .f32⟩
  | 4 => ⟨S1x32x64x16, .f32⟩
  | 5 => ⟨S1x32x64x16, .f32⟩
  | 6 => ⟨S1x32x16x64, .f32⟩
  | 7 => ⟨S1x32x16x64, .f32⟩
  | 8 => ⟨S1x32x16, .f32⟩
  | 9 => ⟨S1x32x16x16, .f32⟩
  | 10 => ⟨S1x32x16, .f32⟩
  | 11 => ⟨S1x512, .f32⟩
  | 12 => ⟨S_, .i32⟩
  | 13 => ⟨S_, .f32⟩
  | 14 => ⟨S4160x512, .f32⟩
  | 15 => ⟨S4160x32x16, .f32⟩
  | 16 => ⟨S32x64, .f32⟩
  | 17 => ⟨S32x64, .f32⟩
  | 18 => ⟨S32, .f32⟩
  | 19 => ⟨S32x64x16, .f32⟩
  | 20 => ⟨S32x64x16, .f32⟩
  | 21 => ⟨S_, .f32⟩
  | 22 => ⟨S32x64, .f32⟩
  | 23 => ⟨S32x64, .f32⟩
  | 24 => ⟨S32, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64x1, .f32⟩
  | 46 => ⟨S32x64, .f32⟩
  | 47 => ⟨S32x64, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S4160x32x64, .f32⟩
  | 62 => ⟨S4160x32x64, .f32⟩
  | 63 => ⟨S32x64x4160, .f32⟩
  | 64 => ⟨S4160x32x64, .f32⟩
  | 65 => ⟨S32x64x4160, .f32⟩
  | 66 => ⟨S4160x32x64, .f32⟩
  | 67 => ⟨S2080x32x64, .f32⟩
  | 68 => ⟨S2080x32x64, .f32⟩
  | 69 => ⟨S2080x32x64, .f32⟩
  | 70 => ⟨S2080x32x64, .f32⟩
  | 71 => ⟨S2080x32x64, .f32⟩
  | 72 => ⟨S2080x32x64, .f32⟩
  | 73 => ⟨S2080x32x64, .f32⟩
  | 74 => ⟨S2080x32x64, .f32⟩
  | 75 => ⟨S2080x32x64, .f32⟩
  | 76 => ⟨S2080x32x64, .f32⟩
  | 77 => ⟨S2080x32x64, .f32⟩
  | 78 => ⟨S2080x32x64, .f32⟩
  | 79 => ⟨S2080x32x64, .f32⟩
  | 80 => ⟨S2080x32x64, .f32⟩
  | 81 => ⟨S2080x32x64, .f32⟩
  | 82 => ⟨S2080x32x64, .f32⟩
  | 83 => ⟨S2080x32x64, .f32⟩
  | 84 => ⟨S2080x32x64, .f32⟩
  | 85 => ⟨S2080x32x64, .f32⟩
  | 86 => ⟨S2080x32x64, .f32⟩
  | 87 => ⟨S2080x32x64, .f32⟩
  | 88 => ⟨S2080x32x64, .f32⟩
  | 89 => ⟨S1040x32x64, .f32⟩
  | 90 => ⟨S1040x32x64, .f32⟩
  | 91 => ⟨S1040x32x64, .f32⟩
  | 92 => ⟨S1040x32x64, .f32⟩
  | 93 => ⟨S1040x32x64, .f32⟩
  | 94 => ⟨S1040x32x64, .f32⟩
  | 95 => ⟨S1040x32x64, .f32⟩
  | 96 => ⟨S1040x32x64, .f32⟩
  | 97 => ⟨S1040x32x64, .f32⟩
  | 98 => ⟨S1040x32x64, .f32⟩
  | 99 => ⟨S1040x32x64, .f32⟩
  | 100 => ⟨S1040x32x64, .f32⟩
  | 101 => ⟨S1040x32x64, .f32⟩
  | 102 => ⟨S1040x32x64, .f32⟩
  | 103 => ⟨S1040x32x64, .f32⟩
  | 104 => ⟨S1040x32x64, .f32⟩
  | 105 => ⟨S1040x32x64, .f32⟩
  | 106 => ⟨S1040x32x64, .f32⟩
  | 107 => ⟨S1040x32x64, .f32⟩
  | 108 => ⟨S1040x32x64, .f32⟩
  | 109 => ⟨S1040x32x64, .f32⟩
  | 110 => ⟨S1040x32x64, .f32⟩
  | 111 => ⟨S520x32x64, .f32⟩
  | 112 => ⟨S520x32x64, .f32⟩
  | 113 => ⟨S520x32x64, .f32⟩
  | 114 => ⟨S520x32x64, .f32⟩
  | 115 => ⟨S520x32x64, .f32⟩
  | 116 => ⟨S520x32x64, .f32⟩
  | 117 => ⟨S520x32x64, .f32⟩
  | 118 => ⟨S520x32x64, .f32⟩
  | 119 => ⟨S520x32x64, .f32⟩
  | 120 => ⟨S520x32x64, .f32⟩
  | 121 => ⟨S520x32x64, .f32⟩
  | 122 => ⟨S520x32x64, .f32⟩
  | 123 => ⟨S520x32x64, .f32⟩
  | 124 => ⟨S520x32x64, .f32⟩
  | 125 => ⟨S520x32x64, .f32⟩
  | 126 => ⟨S520x32x64, .f32⟩
  | 127 => ⟨S520x32x64, .f32⟩
  | _ => ⟨S4112x512, .f32⟩

abbrev hbmTy0_1 (i : Nat) : BufTy := match i % 128 with
  | 0 => ⟨S520x32x64, .f32⟩
  | 1 => ⟨S520x32x64, .f32⟩
  | 2 => ⟨S520x32x64, .f32⟩
  | 3 => ⟨S520x32x64, .f32⟩
  | 4 => ⟨S520x32x64, .f32⟩
  | 5 => ⟨S260x32x64, .f32⟩
  | 6 => ⟨S260x32x64, .f32⟩
  | 7 => ⟨S260x32x64, .f32⟩
  | 8 => ⟨S260x32x64, .f32⟩
  | 9 => ⟨S260x32x64, .f32⟩
  | 10 => ⟨S260x32x64, .f32⟩
  | 11 => ⟨S260x32x64, .f32⟩
  | 12 => ⟨S260x32x64, .f32⟩
  | 13 => ⟨S260x32x64, .f32⟩
  | 14 => ⟨S260x32x64, .f32⟩
  | 15 => ⟨S260x32x64, .f32⟩
  | 16 => ⟨S260x32x64, .f32⟩
  | 17 => ⟨S260x32x64, .f32⟩
  | 18 => ⟨S260x32x64, .f32⟩
  | 19 => ⟨S260x32x64, .f32⟩
  | 20 => ⟨S260x32x64, .f32⟩
  | 21 => ⟨S260x32x64, .f32⟩
  | 22 => ⟨S260x32x64, .f32⟩
  | 23 => ⟨S260x32x64, .f32⟩
  | 24 => ⟨S260x32x64, .f32⟩
  | 25 => ⟨S260x32x64, .f32⟩
  | 26 => ⟨S260x32x64, .f32⟩
  | 27 => ⟨S130x32x64, .f32⟩
  | 28 => ⟨S130x32x64, .f32⟩
  | 29 => ⟨S130x32x64, .f32⟩
  | 30 => ⟨S130x32x64, .f32⟩
  | 31 => ⟨S130x32x64, .f32⟩
  | 32 => ⟨S130x32x64, .f32⟩
  | 33 => ⟨S130x32x64, .f32⟩
  | 34 => ⟨S130x32x64, .f32⟩
  | 35 => ⟨S130x32x64, .f32⟩
  | 36 => ⟨S130x32x64, .f32⟩
  | 37 => ⟨S130x32x64, .f32⟩
  | 38 => ⟨S130x32x64, .f32⟩
  | 39 => ⟨S130x32x64, .f32⟩
  | 40 => ⟨S130x32x64, .f32⟩
  | 41 => ⟨S130x32x64, .f32⟩
  | 42 => ⟨S130x32x64, .f32⟩
  | 43 => ⟨S130x32x64, .f32⟩
  | 44 => ⟨S130x32x64, .f32⟩
  | 45 => ⟨S130x32x64, .f32⟩
  | 46 => ⟨S130x32x64, .f32⟩
  | 47 => ⟨S130x32x64, .f32⟩
  | 48 => ⟨S130x32x64, .f32⟩
  | 49 => ⟨S65x32x64, .f32⟩
  | 50 => ⟨S65x32x64, .f32⟩
  | 51 => ⟨S65x32x64, .f32⟩
  | 52 => ⟨S65x32x64, .f32⟩
  | 53 => ⟨S65x32x64, .f32⟩
  | 54 => ⟨S65x32x64, .f32⟩
  | 55 => ⟨S65x32x64, .f32⟩
  | 56 => ⟨S65x32x64, .f32⟩
  | 57 => ⟨S65x32x64, .f32⟩
  | 58 => ⟨S65x32x64, .f32⟩
  | 59 => ⟨S65x32x64, .f32⟩
  | 60 => ⟨S65x32x64, .f32⟩
  | 61 => ⟨S65x32x64, .f32⟩
  | 62 => ⟨S65x32x64, .f32⟩
  | 63 => ⟨S65x32x64, .f32⟩
  | 64 => ⟨S65x32x64, .f32⟩
  | 65 => ⟨S65x32x64, .f32⟩
  | 66 => ⟨S65x32x64, .f32⟩
  | 67 => ⟨S65x32x64, .f32⟩
  | 68 => ⟨S65x32x64, .f32⟩
  | 69 => ⟨S65x32x64, .f32⟩
  | 70 => ⟨S65x32x64, .f32⟩
  | 71 => ⟨S32x32x64, .f32⟩
  | 72 => ⟨S32x32x64, .f32⟩
  | 73 => ⟨S32x32x64, .f32⟩
  | 74 => ⟨S32x32x64, .f32⟩
  | 75 => ⟨S32x32x64, .f32⟩
  | 76 => ⟨S32x32x64, .f32⟩
  | 77 => ⟨S32x32x64, .f32⟩
  | 78 => ⟨S32x32x64, .f32⟩
  | 79 => ⟨S32x32x64, .f32⟩
  | 80 => ⟨S32x32x64, .f32⟩
  | 81 => ⟨S32x32x64, .f32⟩
  | 82 => ⟨S32x32x64, .f32⟩
  | 83 => ⟨S32x32x64, .f32⟩
  | 84 => ⟨S32x32x64, .f32⟩
  | 85 => ⟨S32x32x64, .f32⟩
  | 86 => ⟨S32x32x64, .f32⟩
  | 87 => ⟨S32x32x64, .f32⟩
  | 88 => ⟨S32x32x64, .f32⟩
  | 89 => ⟨S32x32x64, .f32⟩
  | 90 => ⟨S32x32x64, .f32⟩
  | 91 => ⟨S32x32x64, .f32⟩
  | 92 => ⟨S32x32x64, .f32⟩
  | 93 => ⟨S16x32x64, .f32⟩
  | 94 => ⟨S16x32x64, .f32⟩
  | 95 => ⟨S16x32x64, .f32⟩
  | 96 => ⟨S16x32x64, .f32⟩
  | 97 => ⟨S16x32x64, .f32⟩
  | 98 => ⟨S16x32x64, .f32⟩
  | 99 => ⟨S16x32x64, .f32⟩
  | 100 => ⟨S16x32x64, .f32⟩
  | 101 => ⟨S16x32x64, .f32⟩
  | 102 => ⟨S16x32x64, .f32⟩
  | 103 => ⟨S16x32x64, .f32⟩
  | 104 => ⟨S16x32x64, .f32⟩
  | 105 => ⟨S16x32x64, .f32⟩
  | 106 => ⟨S16x32x64, .f32⟩
  | 107 => ⟨S16x32x64, .f32⟩
  | 108 => ⟨S16x32x64, .f32⟩
  | 109 => ⟨S16x32x64, .f32⟩
  | 110 => ⟨S16x32x64, .f32⟩
  | 111 => ⟨S16x32x64, .f32⟩
  | 112 => ⟨S16x32x64, .f32⟩
  | 113 => ⟨S16x32x64, .f32⟩
  | 114 => ⟨S16x32x64, .f32⟩
  | 115 => ⟨S8x32x64, .f32⟩
  | 116 => ⟨S8x32x64, .f32⟩
  | 117 => ⟨S8x32x64, .f32⟩
  | 118 => ⟨S8x32x64, .f32⟩
  | 119 => ⟨S8x32x64, .f32⟩
  | 120 => ⟨S8x32x64, .f32⟩
  | 121 => ⟨S8x32x64, .f32⟩
  | 122 => ⟨S8x32x64, .f32⟩
  | 123 => ⟨S8x32x64, .f32⟩
  | 124 => ⟨S8x32x64, .f32⟩
  | 125 => ⟨S8x32x64, .f32⟩
  | 126 => ⟨S8x32x64, .f32⟩
  | 127 => ⟨S8x32x64, .f32⟩
  | _ => ⟨S4112x512, .f32⟩

abbrev hbmTy0_2 (i : Nat) : BufTy := match i % 128 with
  | 0 => ⟨S8x32x64, .f32⟩
  | 1 => ⟨S8x32x64, .f32⟩
  | 2 => ⟨S8x32x64, .f32⟩
  | 3 => ⟨S8x32x64, .f32⟩
  | 4 => ⟨S8x32x64, .f32⟩
  | 5 => ⟨S8x32x64, .f32⟩
  | 6 => ⟨S8x32x64, .f32⟩
  | 7 => ⟨S8x32x64, .f32⟩
  | 8 => ⟨S8x32x64, .f32⟩
  | 9 => ⟨S4x32x64, .f32⟩
  | 10 => ⟨S4x32x64, .f32⟩
  | 11 => ⟨S4x32x64, .f32⟩
  | 12 => ⟨S4x32x64, .f32⟩
  | 13 => ⟨S4x32x64, .f32⟩
  | 14 => ⟨S4x32x64, .f32⟩
  | 15 => ⟨S4x32x64, .f32⟩
  | 16 => ⟨S4x32x64, .f32⟩
  | 17 => ⟨S4x32x64, .f32⟩
  | 18 => ⟨S4x32x64, .f32⟩
  | 19 => ⟨S4x32x64, .f32⟩
  | 20 => ⟨S4x32x64, .f32⟩
  | 21 => ⟨S4x32x64, .f32⟩
  | 22 => ⟨S4x32x64, .f32⟩
  | 23 => ⟨S4x32x64, .f32⟩
  | 24 => ⟨S4x32x64, .f32⟩
  | 25 => ⟨S4x32x64, .f32⟩
  | 26 => ⟨S4x32x64, .f32⟩
  | 27 => ⟨S4x32x64, .f32⟩
  | 28 => ⟨S4x32x64, .f32⟩
  | 29 => ⟨S4x32x64, .f32⟩
  | 30 => ⟨S4x32x64, .f32⟩
  | 31 => ⟨S2x32x64, .f32⟩
  | 32 => ⟨S2x32x64, .f32⟩
  | 33 => ⟨S2x32x64, .f32⟩
  | 34 => ⟨S2x32x64, .f32⟩
  | 35 => ⟨S2x32x64, .f32⟩
  | 36 => ⟨S2x32x64, .f32⟩
  | 37 => ⟨S2x32x64, .f32⟩
  | 38 => ⟨S2x32x64, .f32⟩
  | 39 => ⟨S2x32x64, .f32⟩
  | 40 => ⟨S2x32x64, .f32⟩
  | 41 => ⟨S2x32x64, .f32⟩
  | 42 => ⟨S2x32x64, .f32⟩
  | 43 => ⟨S2x32x64, .f32⟩
  | 44 => ⟨S2x32x64, .f32⟩
  | 45 => ⟨S2x32x64, .f32⟩
  | 46 => ⟨S2x32x64, .f32⟩
  | 47 => ⟨S2x32x64, .f32⟩
  | 48 => ⟨S2x32x64, .f32⟩
  | 49 => ⟨S2x32x64, .f32⟩
  | 50 => ⟨S2x32x64, .f32⟩
  | 51 => ⟨S2x32x64, .f32⟩
  | 52 => ⟨S2x32x64, .f32⟩
  | 53 => ⟨S1x32x64, .f32⟩
  | 54 => ⟨S1x32x64, .f32⟩
  | 55 => ⟨S1x32x64, .f32⟩
  | 56 => ⟨S1x32x64, .f32⟩
  | 57 => ⟨S1x32x64, .f32⟩
  | 58 => ⟨S1x32x64, .f32⟩
  | 59 => ⟨S1x32x64, .f32⟩
  | 60 => ⟨S1x32x64, .f32⟩
  | 61 => ⟨S1x32x64, .f32⟩
  | 62 => ⟨S1x32x64, .f32⟩
  | 63 => ⟨S1x32x64, .f32⟩
  | 64 => ⟨S1x32x64, .f32⟩
  | 65 => ⟨S1x32x64, .f32⟩
  | 66 => ⟨S1x32x64, .f32⟩
  | 67 => ⟨S1x32x64, .f32⟩
  | 68 => ⟨S1x32x64, .f32⟩
  | 69 => ⟨S1x32x64, .f32⟩
  | 70 => ⟨S1x32x64, .f32⟩
  | 71 => ⟨S1x32x64, .f32⟩
  | 72 => ⟨S1x32x64, .f32⟩
  | 73 => ⟨S1x32x64, .f32⟩
  | 74 => ⟨S1x32x64, .f32⟩
  | 75 => ⟨S0x32x64, .f32⟩
  | 76 => ⟨S0x32x64, .f32⟩
  | 77 => ⟨S0x32x64, .f32⟩
  | 78 => ⟨S0x32x64, .f32⟩
  | 79 => ⟨S0x32x64, .f32⟩
  | 80 => ⟨S0x32x64, .f32⟩
  | 81 => ⟨S0x32x64, .f32⟩
  | 82 => ⟨S0x32x64, .f32⟩
  | 83 => ⟨S0x32x64, .f32⟩
  | 84 => ⟨S0x32x64, .f32⟩
  | 85 => ⟨S0x32x64, .f32⟩
  | 86 => ⟨S0x32x64, .f32⟩
  | 87 => ⟨S0x32x64, .f32⟩
  | 88 => ⟨S0x32x64, .f32⟩
  | 89 => ⟨S0x32x64, .f32⟩
  | 90 => ⟨S0x32x64, .f32⟩
  | 91 => ⟨S0x32x64, .f32⟩
  | 92 => ⟨S0x32x64, .f32⟩
  | 93 => ⟨S0x32x64, .f32⟩
  | 94 => ⟨S0x32x64, .f32⟩
  | 95 => ⟨S0x32x64, .f32⟩
  | 96 => ⟨S0x32x64, .f32⟩
  | 97 => ⟨S1x32x64, .f32⟩
  | 98 => ⟨S1x32x64, .f32⟩
  | 99 => ⟨S1x32x64, .f32⟩
  | 100 => ⟨S1x32x64, .f32⟩
  | 101 => ⟨S1x32x64, .f32⟩
  | 102 => ⟨S1x32x64, .f32⟩
  | 103 => ⟨S1x32x64, .f32⟩
  | 104 => ⟨S1x32x64, .f32⟩
  | 105 => ⟨S_, .f32⟩
  | 106 => ⟨S2x32x64, .f32⟩
  | 107 => ⟨S_, .f32⟩
  | 108 => ⟨S2x32x64, .f32⟩
  | 109 => ⟨S2x32x64, .f32⟩
  | 110 => ⟨S_, .f32⟩
  | 111 => ⟨S2x32x64, .f32⟩
  | 112 => ⟨S_, .f32⟩
  | 113 => ⟨S2x32x64, .f32⟩
  | 114 => ⟨S2x32x64, .f32⟩
  | 115 => ⟨S_, .f32⟩
  | 116 => ⟨S2x32x64, .f32⟩
  | 117 => ⟨S_, .f32⟩
  | 118 => ⟨S2x32x64, .f32⟩
  | 119 => ⟨S2x32x64, .f32⟩
  | 120 => ⟨S_, .f32⟩
  | 121 => ⟨S2x32x64, .f32⟩
  | 122 => ⟨S_, .f32⟩
  | 123 => ⟨S2x32x64, .f32⟩
  | 124 => ⟨S2x32x64, .f32⟩
  | 125 => ⟨S1x32x64, .f32⟩
  | 126 => ⟨S1x32x64, .f32⟩
  | 127 => ⟨S1x32x64, .f32⟩
  | _ => ⟨S4112x512, .f32⟩

abbrev hbmTy0_3 (i : Nat) : BufTy := match i % 128 with
  | 0 => ⟨S1x32x64, .f32⟩
  | 1 => ⟨S1x32x64, .f32⟩
  | 2 => ⟨S1x32x64, .f32⟩
  | 3 => ⟨S1x32x64, .f32⟩
  | 4 => ⟨S1x32x64, .f32⟩
  | 5 => ⟨S1x32x64, .f32⟩
  | 6 => ⟨S1x32x64, .f32⟩
  | 7 => ⟨S1x32x64, .f32⟩
  | 8 => ⟨S1x32x64, .f32⟩
  | 9 => ⟨S1x32x64, .f32⟩
  | 10 => ⟨S1x32x64, .f32⟩
  | 11 => ⟨S1x32x64, .f32⟩
  | 12 => ⟨S1x32x64, .f32⟩
  | 13 => ⟨S1x32x64, .f32⟩
  | 14 => ⟨S1x32x64, .f32⟩
  | 15 => ⟨S1x32x64, .f32⟩
  | 16 => ⟨S1x32x64, .f32⟩
  | 17 => ⟨S1x32x64, .f32⟩
  | 18 => ⟨S1x32x64, .f32⟩
  | 19 => ⟨S1x32x64, .f32⟩
  | 20 => ⟨S2x32x64, .f32⟩
  | 21 => ⟨S1x32x64, .f32⟩
  | 22 => ⟨S2x32x64, .f32⟩
  | 23 => ⟨S1x32x64, .f32⟩
  | 24 => ⟨S2x32x64, .f32⟩
  | 25 => ⟨S1x32x64, .f32⟩
  | 26 => ⟨S2x32x64, .f32⟩
  | 27 => ⟨S_, .f32⟩
  | 28 => ⟨S4x32x64, .f32⟩
  | 29 => ⟨S_, .f32⟩
  | 30 => ⟨S4x32x64, .f32⟩
  | 31 => ⟨S4x32x64, .f32⟩
  | 32 => ⟨S_, .f32⟩
  | 33 => ⟨S4x32x64, .f32⟩
  | 34 => ⟨S_, .f32⟩
  | 35 => ⟨S4x32x64, .f32⟩
  | 36 => ⟨S4x32x64, .f32⟩
  | 37 => ⟨S_, .f32⟩
  | 38 => ⟨S4x32x64, .f32⟩
  | 39 => ⟨S_, .f32⟩
  | 40 => ⟨S4x32x64, .f32⟩
  | 41 => ⟨S4x32x64, .f32⟩
  | 42 => ⟨S_, .f32⟩
  | 43 => ⟨S4x32x64, .f32⟩
  | 44 => ⟨S_, .f32⟩
  | 45 => ⟨S4x32x64, .f32⟩
  | 46 => ⟨S4x32x64, .f32⟩
  | 47 => ⟨S3x32x64, .f32⟩
  | 48 => ⟨S3x32x64, .f32⟩
  | 49 => ⟨S3x32x64, .f32⟩
  | 50 => ⟨S3x32x64, .f32⟩
  | 51 => ⟨S3x32x64, .f32⟩
  | 52 => ⟨S3x32x64, .f32⟩
  | 53 => ⟨S3x32x64, .f32⟩
  | 54 => ⟨S3x32x64, .f32⟩
  | 55 => ⟨S3x32x64, .f32⟩
  | 56 => ⟨S3x32x64, .f32⟩
  | 57 => ⟨S3x32x64, .f32⟩
  | 58 => ⟨S3x32x64, .f32⟩
  | 59 => ⟨S3x32x64, .f32⟩
  | 60 => ⟨S3x32x64, .f32⟩
  | 61 => ⟨S3x32x64, .f32⟩
  | 62 => ⟨S3x32x64, .f32⟩
  | 63 => ⟨S3x32x64, .f32⟩
  | 64 => ⟨S3x32x64, .f32⟩
  | 65 => ⟨S3x32x64, .f32⟩
  | 66 => ⟨S3x32x64, .f32⟩
  | 67 => ⟨S3x32x64, .f32⟩
  | 68 => ⟨S3x32x64, .f32⟩
  | 69 => ⟨S1x32x64, .f32⟩
  | 70 => ⟨S4x32x64, .f32⟩
  | 71 => ⟨S1x32x64, .f32⟩
  | 72 => ⟨S4x32x64, .f32⟩
  | 73 => ⟨S1x32x64, .f32⟩
  | 74 => ⟨S4x32x64, .f32⟩
  | 75 => ⟨S1x32x64, .f32⟩
  | 76 => ⟨S4x32x64, .f32⟩
  | 77 => ⟨S_, .f32⟩
  | 78 => ⟨S8x32x64, .f32⟩
  | 79 => ⟨S_, .f32⟩
  | 80 => ⟨S8x32x64, .f32⟩
  | 81 => ⟨S8x32x64, .f32⟩
  | 82 => ⟨S_, .f32⟩
  | 83 => ⟨S8x32x64, .f32⟩
  | 84 => ⟨S_, .f32⟩
  | 85 => ⟨S8x32x64, .f32⟩
  | 86 => ⟨S8x32x64, .f32⟩
  | 87 => ⟨S_, .f32⟩
  | 88 => ⟨S8x32x64, .f32⟩
  | 89 => ⟨S_, .f32⟩
  | 90 => ⟨S8x32x64, .f32⟩
  | 91 => ⟨S8x32x64, .f32⟩
  | 92 => ⟨S_, .f32⟩
  | 93 => ⟨S8x32x64, .f32⟩
  | 94 => ⟨S_, .f32⟩
  | 95 => ⟨S8x32x64, .f32⟩
  | 96 => ⟨S8x32x64, .f32⟩
  | 97 => ⟨S7x32x64, .f32⟩
  | 98 => ⟨S7x32x64, .f32⟩
  | 99 => ⟨S7x32x64, .f32⟩
  | 100 => ⟨S7x32x64, .f32⟩
  | 101 => ⟨S7x32x64, .f32⟩
  | 102 => ⟨S7x32x64, .f32⟩
  | 103 => ⟨S7x32x64, .f32⟩
  | 104 => ⟨S7x32x64, .f32⟩
  | 105 => ⟨S7x32x64, .f32⟩
  | 106 => ⟨S7x32x64, .f32⟩
  | 107 => ⟨S7x32x64, .f32⟩
  | 108 => ⟨S7x32x64, .f32⟩
  | 109 => ⟨S7x32x64, .f32⟩
  | 110 => ⟨S7x32x64, .f32⟩
  | 111 => ⟨S7x32x64, .f32⟩
  | 112 => ⟨S7x32x64, .f32⟩
  | 113 => ⟨S7x32x64, .f32⟩
  | 114 => ⟨S7x32x64, .f32⟩
  | 115 => ⟨S7x32x64, .f32⟩
  | 116 => ⟨S7x32x64, .f32⟩
  | 117 => ⟨S7x32x64, .f32⟩
  | 118 => ⟨S7x32x64, .f32⟩
  | 119 => ⟨S1x32x64, .f32⟩
  | 120 => ⟨S8x32x64, .f32⟩
  | 121 => ⟨S1x32x64, .f32⟩
  | 122 => ⟨S8x32x64, .f32⟩
  | 123 => ⟨S1x32x64, .f32⟩
  | 124 => ⟨S8x32x64, .f32⟩
  | 125 => ⟨S1x32x64, .f32⟩
  | 126 => ⟨S8x32x64, .f32⟩
  | 127 => ⟨S_, .f32⟩
  | _ => ⟨S4112x512, .f32⟩

abbrev hbmTy0_4 (i : Nat) : BufTy := match i % 128 with
  | 0 => ⟨S16x32x64, .f32⟩
  | 1 => ⟨S_, .f32⟩
  | 2 => ⟨S16x32x64, .f32⟩
  | 3 => ⟨S16x32x64, .f32⟩
  | 4 => ⟨S_, .f32⟩
  | 5 => ⟨S16x32x64, .f32⟩
  | 6 => ⟨S_, .f32⟩
  | 7 => ⟨S16x32x64, .f32⟩
  | 8 => ⟨S16x32x64, .f32⟩
  | 9 => ⟨S_, .f32⟩
  | 10 => ⟨S16x32x64, .f32⟩
  | 11 => ⟨S_, .f32⟩
  | 12 => ⟨S16x32x64, .f32⟩
  | 13 => ⟨S16x32x64, .f32⟩
  | 14 => ⟨S_, .f32⟩
  | 15 => ⟨S16x32x64, .f32⟩
  | 16 => ⟨S_, .f32⟩
  | 17 => ⟨S16x32x64, .f32⟩
  | 18 => ⟨S16x32x64, .f32⟩
  | 19 => ⟨S15x32x64, .f32⟩
  | 20 => ⟨S15x32x64, .f32⟩
  | 21 => ⟨S15x32x64, .f32⟩
  | 22 => ⟨S15x32x64, .f32⟩
  | 23 => ⟨S15x32x64, .f32⟩
  | 24 => ⟨S15x32x64, .f32⟩
  | 25 => ⟨S15x32x64, .f32⟩
  | 26 => ⟨S15x32x64, .f32⟩
  | 27 => ⟨S15x32x64, .f32⟩
  | 28 => ⟨S15x32x64, .f32⟩
  | 29 => ⟨S15x32x64, .f32⟩
  | 30 => ⟨S15x32x64, .f32⟩
  | 31 => ⟨S15x32x64, .f32⟩
  | 32 => ⟨S15x32x64, .f32⟩
  | 33 => ⟨S15x32x64, .f32⟩
  | 34 => ⟨S15x32x64, .f32⟩
  | 35 => ⟨S15x32x64, .f32⟩
  | 36 => ⟨S15x32x64, .f32⟩
  | 37 => ⟨S15x32x64, .f32⟩
  | 38 => ⟨S15x32x64, .f32⟩
  | 39 => ⟨S15x32x64, .f32⟩
  | 40 => ⟨S15x32x64, .f32⟩
  | 41 => ⟨S1x32x64, .f32⟩
  | 42 => ⟨S16x32x64, .f32⟩
  | 43 => ⟨S1x32x64, .f32⟩
  | 44 => ⟨S16x32x64, .f32⟩
  | 45 => ⟨S1x32x64, .f32⟩
  | 46 => ⟨S16x32x64, .f32⟩
  | 47 => ⟨S1x32x64, .f32⟩
  | 48 => ⟨S16x32x64, .f32⟩
  | 49 => ⟨S_, .f32⟩
  | 50 => ⟨S32x32x64, .f32⟩
  | 51 => ⟨S_, .f32⟩
  | 52 => ⟨S32x32x64, .f32⟩
  | 53 => ⟨S32x32x64, .f32⟩
  | 54 => ⟨S_, .f32⟩
  | 55 => ⟨S32x32x64, .f32⟩
  | 56 => ⟨S_, .f32⟩
  | 57 => ⟨S32x32x64, .f32⟩
  | 58 => ⟨S32x32x64, .f32⟩
  | 59 => ⟨S_, .f32⟩
  | 60 => ⟨S32x32x64, .f32⟩
  | 61 => ⟨S_, .f32⟩
  | 62 => ⟨S32x32x64, .f32⟩
  | 63 => ⟨S32x32x64, .f32⟩
  | 64 => ⟨S_, .f32⟩
  | 65 => ⟨S32x32x64, .f32⟩
  | 66 => ⟨S_, .f32⟩
  | 67 => ⟨S32x32x64, .f32⟩
  | 68 => ⟨S32x32x64, .f32⟩
  | 69 => ⟨S32x32x64, .f32⟩
  | 70 => ⟨S32x32x64, .f32⟩
  | 71 => ⟨S32x32x64, .f32⟩
  | 72 => ⟨S32x32x64, .f32⟩
  | 73 => ⟨S32x32x64, .f32⟩
  | 74 => ⟨S32x32x64, .f32⟩
  | 75 => ⟨S32x32x64, .f32⟩
  | 76 => ⟨S32x32x64, .f32⟩
  | 77 => ⟨S32x32x64, .f32⟩
  | 78 => ⟨S32x32x64, .f32⟩
  | 79 => ⟨S32x32x64, .f32⟩
  | 80 => ⟨S32x32x64, .f32⟩
  | 81 => ⟨S32x32x64, .f32⟩
  | 82 => ⟨S32x32x64, .f32⟩
  | 83 => ⟨S32x32x64, .f32⟩
  | 84 => ⟨S32x32x64, .f32⟩
  | 85 => ⟨S32x32x64, .f32⟩
  | 86 => ⟨S32x32x64, .f32⟩
  | 87 => ⟨S1x32x64, .f32⟩
  | 88 => ⟨S33x32x64, .f32⟩
  | 89 => ⟨S1x32x64, .f32⟩
  | 90 => ⟨S33x32x64, .f32⟩
  | 91 => ⟨S1x32x64, .f32⟩
  | 92 => ⟨S33x32x64, .f32⟩
  | 93 => ⟨S1x32x64, .f32⟩
  | 94 => ⟨S33x32x64, .f32⟩
  | 95 => ⟨S_, .f32⟩
  | 96 => ⟨S65x32x64, .f32⟩
  | 97 => ⟨S_, .f32⟩
  | 98 => ⟨S65x32x64, .f32⟩
  | 99 => ⟨S65x32x64, .f32⟩
  | 100 => ⟨S_, .f32⟩
  | 101 => ⟨S65x32x64, .f32⟩
  | 102 => ⟨S_, .f32⟩
  | 103 => ⟨S65x32x64, .f32⟩
  | 104 => ⟨S65x32x64, .f32⟩
  | 105 => ⟨S_, .f32⟩
  | 106 => ⟨S65x32x64, .f32⟩
  | 107 => ⟨S_, .f32⟩
  | 108 => ⟨S65x32x64, .f32⟩
  | 109 => ⟨S65x32x64, .f32⟩
  | 110 => ⟨S_, .f32⟩
  | 111 => ⟨S65x32x64, .f32⟩
  | 112 => ⟨S_, .f32⟩
  | 113 => ⟨S65x32x64, .f32⟩
  | 114 => ⟨S65x32x64, .f32⟩
  | 115 => ⟨S64x32x64, .f32⟩
  | 116 => ⟨S64x32x64, .f32⟩
  | 117 => ⟨S64x32x64, .f32⟩
  | 118 => ⟨S64x32x64, .f32⟩
  | 119 => ⟨S64x32x64, .f32⟩
  | 120 => ⟨S64x32x64, .f32⟩
  | 121 => ⟨S64x32x64, .f32⟩
  | 122 => ⟨S64x32x64, .f32⟩
  | 123 => ⟨S64x32x64, .f32⟩
  | 124 => ⟨S64x32x64, .f32⟩
  | 125 => ⟨S64x32x64, .f32⟩
  | 126 => ⟨S64x32x64, .f32⟩
  | 127 => ⟨S64x32x64, .f32⟩
  | _ => ⟨S4112x512, .f32⟩

abbrev hbmTy0_5 (i : Nat) : BufTy := match i % 128 with
  | 0 => ⟨S64x32x64, .f32⟩
  | 1 => ⟨S64x32x64, .f32⟩
  | 2 => ⟨S64x32x64, .f32⟩
  | 3 => ⟨S64x32x64, .f32⟩
  | 4 => ⟨S64x32x64, .f32⟩
  | 5 => ⟨S64x32x64, .f32⟩
  | 6 => ⟨S64x32x64, .f32⟩
  | 7 => ⟨S64x32x64, .f32⟩
  | 8 => ⟨S64x32x64, .f32⟩
  | 9 => ⟨S1x32x64, .f32⟩
  | 10 => ⟨S65x32x64, .f32⟩
  | 11 => ⟨S1x32x64, .f32⟩
  | 12 => ⟨S65x32x64, .f32⟩
  | 13 => ⟨S1x32x64, .f32⟩
  | 14 => ⟨S65x32x64, .f32⟩
  | 15 => ⟨S1x32x64, .f32⟩
  | 16 => ⟨S65x32x64, .f32⟩
  | 17 => ⟨S_, .f32⟩
  | 18 => ⟨S130x32x64, .f32⟩
  | 19 => ⟨S_, .f32⟩
  | 20 => ⟨S130x32x64, .f32⟩
  | 21 => ⟨S130x32x64, .f32⟩
  | 22 => ⟨S_, .f32⟩
  | 23 => ⟨S130x32x64, .f32⟩
  | 24 => ⟨S_, .f32⟩
  | 25 => ⟨S130x32x64, .f32⟩
  | 26 => ⟨S130x32x64, .f32⟩
  | 27 => ⟨S_, .f32⟩
  | 28 => ⟨S130x32x64, .f32⟩
  | 29 => ⟨S_, .f32⟩
  | 30 => ⟨S130x32x64, .f32⟩
  | 31 => ⟨S130x32x64, .f32⟩
  | 32 => ⟨S_, .f32⟩
  | 33 => ⟨S130x32x64, .f32⟩
  | 34 => ⟨S_, .f32⟩
  | 35 => ⟨S130x32x64, .f32⟩
  | 36 => ⟨S130x32x64, .f32⟩
  | 37 => ⟨S129x32x64, .f32⟩
  | 38 => ⟨S129x32x64, .f32⟩
  | 39 => ⟨S129x32x64, .f32⟩
  | 40 => ⟨S129x32x64, .f32⟩
  | 41 => ⟨S129x32x64, .f32⟩
  | 42 => ⟨S129x32x64, .f32⟩
  | 43 => ⟨S129x32x64, .f32⟩
  | 44 => ⟨S129x32x64, .f32⟩
  | 45 => ⟨S129x32x64, .f32⟩
  | 46 => ⟨S129x32x64, .f32⟩
  | 47 => ⟨S129x32x64, .f32⟩
  | 48 => ⟨S129x32x64, .f32⟩
  | 49 => ⟨S129x32x64, .f32⟩
  | 50 => ⟨S129x32x64, .f32⟩
  | 51 => ⟨S129x32x64, .f32⟩
  | 52 => ⟨S129x32x64, .f32⟩
  | 53 => ⟨S129x32x64, .f32⟩
  | 54 => ⟨S129x32x64, .f32⟩
  | 55 => ⟨S129x32x64, .f32⟩
  | 56 => ⟨S129x32x64, .f32⟩
  | 57 => ⟨S129x32x64, .f32⟩
  | 58 => ⟨S129x32x64, .f32⟩
  | 59 => ⟨S1x32x64, .f32⟩
  | 60 => ⟨S130x32x64, .f32⟩
  | 61 => ⟨S1x32x64, .f32⟩
  | 62 => ⟨S130x32x64, .f32⟩
  | 63 => ⟨S1x32x64, .f32⟩
  | 64 => ⟨S130x32x64, .f32⟩
  | 65 => ⟨S1x32x64, .f32⟩
  | 66 => ⟨S130x32x64, .f32⟩
  | 67 => ⟨S_, .f32⟩
  | 68 => ⟨S260x32x64, .f32⟩
  | 69 => ⟨S_, .f32⟩
  | 70 => ⟨S260x32x64, .f32⟩
  | 71 => ⟨S260x32x64, .f32⟩
  | 72 => ⟨S_, .f32⟩
  | 73 => ⟨S260x32x64, .f32⟩
  | 74 => ⟨S_, .f32⟩
  | 75 => ⟨S260x32x64, .f32⟩
  | 76 => ⟨S260x32x64, .f32⟩
  | 77 => ⟨S_, .f32⟩
  | 78 => ⟨S260x32x64, .f32⟩
  | 79 => ⟨S_, .f32⟩
  | 80 => ⟨S260x32x64, .f32⟩
  | 81 => ⟨S260x32x64, .f32⟩
  | 82 => ⟨S_, .f32⟩
  | 83 => ⟨S260x32x64, .f32⟩
  | 84 => ⟨S_, .f32⟩
  | 85 => ⟨S260x32x64, .f32⟩
  | 86 => ⟨S260x32x64, .f32⟩
  | 87 => ⟨S259x32x64, .f32⟩
  | 88 => ⟨S259x32x64, .f32⟩
  | 89 => ⟨S259x32x64, .f32⟩
  | 90 => ⟨S259x32x64, .f32⟩
  | 91 => ⟨S259x32x64, .f32⟩
  | 92 => ⟨S259x32x64, .f32⟩
  | 93 => ⟨S259x32x64, .f32⟩
  | 94 => ⟨S259x32x64, .f32⟩
  | 95 => ⟨S259x32x64, .f32⟩
  | 96 => ⟨S259x32x64, .f32⟩
  | 97 => ⟨S259x32x64, .f32⟩
  | 98 => ⟨S259x32x64, .f32⟩
  | 99 => ⟨S259x32x64, .f32⟩
  | 100 => ⟨S259x32x64, .f32⟩
  | 101 => ⟨S259x32x64, .f32⟩
  | 102 => ⟨S259x32x64, .f32⟩
  | 103 => ⟨S259x32x64, .f32⟩
  | 104 => ⟨S259x32x64, .f32⟩
  | 105 => ⟨S259x32x64, .f32⟩
  | 106 => ⟨S259x32x64, .f32⟩
  | 107 => ⟨S259x32x64, .f32⟩
  | 108 => ⟨S259x32x64, .f32⟩
  | 109 => ⟨S1x32x64, .f32⟩
  | 110 => ⟨S260x32x64, .f32⟩
  | 111 => ⟨S1x32x64, .f32⟩
  | 112 => ⟨S260x32x64, .f32⟩
  | 113 => ⟨S1x32x64, .f32⟩
  | 114 => ⟨S260x32x64, .f32⟩
  | 115 => ⟨S1x32x64, .f32⟩
  | 116 => ⟨S260x32x64, .f32⟩
  | 117 => ⟨S_, .f32⟩
  | 118 => ⟨S520x32x64, .f32⟩
  | 119 => ⟨S_, .f32⟩
  | 120 => ⟨S520x32x64, .f32⟩
  | 121 => ⟨S520x32x64, .f32⟩
  | 122 => ⟨S_, .f32⟩
  | 123 => ⟨S520x32x64, .f32⟩
  | 124 => ⟨S_, .f32⟩
  | 125 => ⟨S520x32x64, .f32⟩
  | 126 => ⟨S520x32x64, .f32⟩
  | 127 => ⟨S_, .f32⟩
  | _ => ⟨S4112x512, .f32⟩

abbrev hbmTy0_6 (i : Nat) : BufTy := match i % 128 with
  | 0 => ⟨S520x32x64, .f32⟩
  | 1 => ⟨S_, .f32⟩
  | 2 => ⟨S520x32x64, .f32⟩
  | 3 => ⟨S520x32x64, .f32⟩
  | 4 => ⟨S_, .f32⟩
  | 5 => ⟨S520x32x64, .f32⟩
  | 6 => ⟨S_, .f32⟩
  | 7 => ⟨S520x32x64, .f32⟩
  | 8 => ⟨S520x32x64, .f32⟩
  | 9 => ⟨S519x32x64, .f32⟩
  | 10 => ⟨S519x32x64, .f32⟩
  | 11 => ⟨S519x32x64, .f32⟩
  | 12 => ⟨S519x32x64, .f32⟩
  | 13 => ⟨S519x32x64, .f32⟩
  | 14 => ⟨S519x32x64, .f32⟩
  | 15 => ⟨S519x32x64, .f32⟩
  | 16 => ⟨S519x32x64, .f32⟩
  | 17 => ⟨S519x32x64, .f32⟩
  | 18 => ⟨S519x32x64, .f32⟩
  | 19 => ⟨S519x32x64, .f32⟩
  | 20 => ⟨S519x32x64, .f32⟩
  | 21 => ⟨S519x32x64, .f32⟩
  | 22 => ⟨S519x32x64, .f32⟩
  | 23 => ⟨S519x32x64, .f32⟩
  | 24 => ⟨S519x32x64, .f32⟩
  | 25 => ⟨S519x32x64, .f32⟩
  | 26 => ⟨S519x32x64, .f32⟩
  | 27 => ⟨S519x32x64, .f32⟩
  | 28 => ⟨S519x32x64, .f32⟩
  | 29 => ⟨S519x32x64, .f32⟩
  | 30 => ⟨S519x32x64, .f32⟩
  | 31 => ⟨S1x32x64, .f32⟩
  | 32 => ⟨S520x32x64, .f32⟩
  | 33 => ⟨S1x32x64, .f32⟩
  | 34 => ⟨S520x32x64, .f32⟩
  | 35 => ⟨S1x32x64, .f32⟩
  | 36 => ⟨S520x32x64, .f32⟩
  | 37 => ⟨S1x32x64, .f32⟩
  | 38 => ⟨S520x32x64, .f32⟩
  | 39 => ⟨S_, .f32⟩
  | 40 => ⟨S1040x32x64, .f32⟩
  | 41 => ⟨S_, .f32⟩
  | 42 => ⟨S1040x32x64, .f32⟩
  | 43 => ⟨S1040x32x64, .f32⟩
  | 44 => ⟨S_, .f32⟩
  | 45 => ⟨S1040x32x64, .f32⟩
  | 46 => ⟨S_, .f32⟩
  | 47 => ⟨S1040x32x64, .f32⟩
  | 48 => ⟨S1040x32x64, .f32⟩
  | 49 => ⟨S_, .f32⟩
  | 50 => ⟨S1040x32x64, .f32⟩
  | 51 => ⟨S_, .f32⟩
  | 52 => ⟨S1040x32x64, .f32⟩
  | 53 => ⟨S1040x32x64, .f32⟩
  | 54 => ⟨S_, .f32⟩
  | 55 => ⟨S1040x32x64, .f32⟩
  | 56 => ⟨S_, .f32⟩
  | 57 => ⟨S1040x32x64, .f32⟩
  | 58 => ⟨S1040x32x64, .f32⟩
  | 59 => ⟨S1039x32x64, .f32⟩
  | 60 => ⟨S1039x32x64, .f32⟩
  | 61 => ⟨S1039x32x64, .f32⟩
  | 62 => ⟨S1039x32x64, .f32⟩
  | 63 => ⟨S1039x32x64, .f32⟩
  | 64 => ⟨S1039x32x64, .f32⟩
  | 65 => ⟨S1039x32x64, .f32⟩
  | 66 => ⟨S1039x32x64, .f32⟩
  | 67 => ⟨S1039x32x64, .f32⟩
  | 68 => ⟨S1039x32x64, .f32⟩
  | 69 => ⟨S1039x32x64, .f32⟩
  | 70 => ⟨S1039x32x64, .f32⟩
  | 71 => ⟨S1039x32x64, .f32⟩
  | 72 => ⟨S1039x32x64, .f32⟩
  | 73 => ⟨S1039x32x64, .f32⟩
  | 74 => ⟨S1039x32x64, .f32⟩
  | 75 => ⟨S1039x32x64, .f32⟩
  | 76 => ⟨S1039x32x64, .f32⟩
  | 77 => ⟨S1039x32x64, .f32⟩
  | 78 => ⟨S1039x32x64, .f32⟩
  | 79 => ⟨S1039x32x64, .f32⟩
  | 80 => ⟨S1039x32x64, .f32⟩
  | 81 => ⟨S1x32x64, .f32⟩
  | 82 => ⟨S1040x32x64, .f32⟩
  | 83 => ⟨S1x32x64, .f32⟩
  | 84 => ⟨S1040x32x64, .f32⟩
  | 85 => ⟨S1x32x64, .f32⟩
  | 86 => ⟨S1040x32x64, .f32⟩
  | 87 => ⟨S1x32x64, .f32⟩
  | 88 => ⟨S1040x32x64, .f32⟩
  | 89 => ⟨S_, .f32⟩
  | 90 => ⟨S2080x32x64, .f32⟩
  | 91 => ⟨S_, .f32⟩
  | 92 => ⟨S2080x32x64, .f32⟩
  | 93 => ⟨S2080x32x64, .f32⟩
  | 94 => ⟨S_, .f32⟩
  | 95 => ⟨S2080x32x64, .f32⟩
  | 96 => ⟨S_, .f32⟩
  | 97 => ⟨S2080x32x64, .f32⟩
  | 98 => ⟨S2080x32x64, .f32⟩
  | 99 => ⟨S_, .f32⟩
  | 100 => ⟨S2080x32x64, .f32⟩
  | 101 => ⟨S_, .f32⟩
  | 102 => ⟨S2080x32x64, .f32⟩
  | 103 => ⟨S2080x32x64, .f32⟩
  | 104 => ⟨S_, .f32⟩
  | 105 => ⟨S2080x32x64, .f32⟩
  | 106 => ⟨S_, .f32⟩
  | 107 => ⟨S2080x32x64, .f32⟩
  | 108 => ⟨S2080x32x64, .f32⟩
  | 109 => ⟨S2079x32x64, .f32⟩
  | 110 => ⟨S2079x32x64, .f32⟩
  | 111 => ⟨S2079x32x64, .f32⟩
  | 112 => ⟨S2079x32x64, .f32⟩
  | 113 => ⟨S2079x32x64, .f32⟩
  | 114 => ⟨S2079x32x64, .f32⟩
  | 115 => ⟨S2079x32x64, .f32⟩
  | 116 => ⟨S2079x32x64, .f32⟩
  | 117 => ⟨S2079x32x64, .f32⟩
  | 118 => ⟨S2079x32x64, .f32⟩
  | 119 => ⟨S2079x32x64, .f32⟩
  | 120 => ⟨S2079x32x64, .f32⟩
  | 121 => ⟨S2079x32x64, .f32⟩
  | 122 => ⟨S2079x32x64, .f32⟩
  | 123 => ⟨S2079x32x64, .f32⟩
  | 124 => ⟨S2079x32x64, .f32⟩
  | 125 => ⟨S2079x32x64, .f32⟩
  | 126 => ⟨S2079x32x64, .f32⟩
  | 127 => ⟨S2079x32x64, .f32⟩
  | _ => ⟨S4112x512, .f32⟩

abbrev hbmTy0_7 (i : Nat) : BufTy := match i % 128 with
  | 0 => ⟨S2079x32x64, .f32⟩
  | 1 => ⟨S2079x32x64, .f32⟩
  | 2 => ⟨S2079x32x64, .f32⟩
  | 3 => ⟨S1x32x64, .f32⟩
  | 4 => ⟨S2080x32x64, .f32⟩
  | 5 => ⟨S1x32x64, .f32⟩
  | 6 => ⟨S2080x32x64, .f32⟩
  | 7 => ⟨S1x32x64, .f32⟩
  | 8 => ⟨S2080x32x64, .f32⟩
  | 9 => ⟨S1x32x64, .f32⟩
  | 10 => ⟨S2080x32x64, .f32⟩
  | 11 => ⟨S_, .f32⟩
  | 12 => ⟨S4160x32x64, .f32⟩
  | 13 => ⟨S_, .f32⟩
  | 14 => ⟨S4160x32x64, .f32⟩
  | 15 => ⟨S4160x32x64, .f32⟩
  | 16 => ⟨S_, .f32⟩
  | 17 => ⟨S4160x32x64, .f32⟩
  | 18 => ⟨S_, .f32⟩
  | 19 => ⟨S4160x32x64, .f32⟩
  | 20 => ⟨S4160x32x64, .f32⟩
  | 21 => ⟨S_, .f32⟩
  | 22 => ⟨S4160x32x64, .f32⟩
  | 23 => ⟨S_, .f32⟩
  | 24 => ⟨S4160x32x64, .f32⟩
  | 25 => ⟨S4160x32x64, .f32⟩
  | 26 => ⟨S_, .f32⟩
  | 27 => ⟨S4160x32x64, .f32⟩
  | 28 => ⟨S_, .f32⟩
  | 29 => ⟨S4160x32x64, .f32⟩
  | 30 => ⟨S4160x32x64, .f32⟩
  | 31 => ⟨S32x16x64, .f32⟩
  | 32 => ⟨S32x16x4160, .f32⟩
  | 33 => ⟨S4160x32x16, .f32⟩
  | 34 => ⟨S32x16x64, .f32⟩
  | 35 => ⟨S32x16x4160, .f32⟩
  | 36 => ⟨S4160x32x16, .f32⟩
  | 37 => ⟨S4160x32x16, .f32⟩
  | 38 => ⟨S32x16, .f32⟩
  | 39 => ⟨S1x32x16, .f32⟩
  | 40 => ⟨S4160x32x16, .f32⟩
  | 41 => ⟨S4160x32x16, .f32⟩
  | 42 => ⟨S4160x32x16, .f32⟩
  | 43 => ⟨S4160x32x16, .f32⟩
  | 44 => ⟨S4160x32x16, .f32⟩
  | 45 => ⟨S_, .f32⟩
  | 46 => ⟨S4160x32x16, .f32⟩
  | 47 => ⟨S4160x32x16, .f32⟩
  | 48 => ⟨S4160x32x16, .f32⟩
  | 49 => ⟨S_, .f32⟩
  | 50 => ⟨S4160x32x16, .f32⟩
  | 51 => ⟨S4160x32x16, .f32⟩
  | 52 => ⟨S4160x32x16, .f32⟩
  | 53 => ⟨S_, .f32⟩
  | 54 => ⟨S4160x32x16, .f32⟩
  | 55 => ⟨S4160x32x16, .f32⟩
  | 56 => ⟨S_, .f32⟩
  | 57 => ⟨S4160x32x16, .f32⟩
  | 58 => ⟨S4160x32x16, .f32⟩
  | 59 => ⟨S4160x32x16, .f32⟩
  | 60 => ⟨S32x16x16, .f32⟩
  | 61 => ⟨S32x16x4160, .f32⟩
  | 62 => ⟨S4160x32x16, .f32⟩
  | 63 => ⟨S32x16, .f32⟩
  | 64 => ⟨S1x32x16, .f32⟩
  | 65 => ⟨S4160x32x16, .f32⟩
  | 66 => ⟨S4160x32x16, .f32⟩
  | 67 => ⟨S4160x32x16, .f32⟩
  | 68 => ⟨S4160x32x16, .f32⟩
  | 69 => ⟨S_, .f32⟩
  | 70 => ⟨S4160x32x16, .f32⟩
  | 71 => ⟨S4160x32x16, .f32⟩
  | 72 => ⟨S_, .f32⟩
  | 73 => ⟨S4160x32x16, .f32⟩
  | 74 => ⟨S4160x32x16, .f32⟩
  | 75 => ⟨S4160x32x16, .f32⟩
  | 76 => ⟨S4160x512, .f32⟩
  | 77 => ⟨S512, .f32⟩
  | 78 => ⟨S4160x512, .f32⟩
  | 79 => ⟨S_, .f32⟩
  | 80 => ⟨S4160, .f32⟩
  | 81 => ⟨S4160x1, .f32⟩
  | 82 => ⟨S_, .f32⟩
  | 83 => ⟨S4160x1, .f32⟩
  | 84 => ⟨S4160x1, .f32⟩
  | 85 => ⟨S_, .f32⟩
  | 86 => ⟨S4160x1, .f32⟩
  | 87 => ⟨S4160x1, .f32⟩
  | 88 => ⟨S4160x1, .f32⟩
  | 89 => ⟨S4160x512, .f32⟩
  | 90 => ⟨S4160x512, .f32⟩
  | 91 => ⟨S1x512, .f32⟩
  | 92 => ⟨S4160x512, .f32⟩
  | 93 => ⟨S4160x512, .f32⟩
  | 94 => ⟨S13x8x40x2048, .f32⟩
  | 95 => ⟨S13x40x8x2048, .f32⟩
  | 96 => ⟨S4160x2048, .f32⟩
  | 97 => ⟨S13x8x40x2048, .f32⟩
  | 98 => ⟨S13x40x8x2048, .f32⟩
  | 99 => ⟨S4160x2048, .f32⟩
  | 100 => ⟨S13x8x40x512, .f32⟩
  | 101 => ⟨S13x40x8x512, .f32⟩
  | 102 => ⟨S4160x512, .f32⟩
  | 103 => ⟨S4160x512, .bf16⟩
  | _ => ⟨S4112x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4112x512, .f32⟩

abbrev bufTy : (tb : Table) → Fin (tcTables nBuf tb) → BufTy
  | .hbm, ⟨i, _⟩ => hbmTy i
  | _, _ => ⟨S4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_v283 : Ref sig .tc := ⟨.hbm, 299, rfl⟩
abbrev main_v284 : Ref sig .tc := ⟨.hbm, 300, rfl⟩
abbrev main_v285 : Ref sig .tc := ⟨.hbm, 301, rfl⟩
abbrev main_v286 : Ref sig .tc := ⟨.hbm, 302, rfl⟩
abbrev main_v287 : Ref sig .tc := ⟨.hbm, 303, rfl⟩
abbrev main_v288 : Ref sig .tc := ⟨.hbm, 304, rfl⟩
abbrev main_v289 : Ref sig .tc := ⟨.hbm, 305, rfl⟩
abbrev main_v290 : Ref sig .tc := ⟨.hbm, 306, rfl⟩
abbrev main_v291 : Ref sig .tc := ⟨.hbm, 307, rfl⟩
abbrev main_v292 : Ref sig .tc := ⟨.hbm, 308, rfl⟩
abbrev main_v293 : Ref sig .tc := ⟨.hbm, 309, rfl⟩
abbrev main_v294 : Ref sig .tc := ⟨.hbm, 310, rfl⟩
abbrev main_v295 : Ref sig .tc := ⟨.hbm, 311, rfl⟩
abbrev main_v296 : Ref sig .tc := ⟨.hbm, 312, rfl⟩
abbrev main_v297 : Ref sig .tc := ⟨.hbm, 313, rfl⟩
abbrev main_v298 : Ref sig .tc := ⟨.hbm, 314, rfl⟩
abbrev main_v299 : Ref sig .tc := ⟨.hbm, 315, rfl⟩
abbrev main_v300 : Ref sig .tc := ⟨.hbm, 316, rfl⟩
abbrev main_v301 : Ref sig .tc := ⟨.hbm, 317, rfl⟩
abbrev main_v302 : Ref sig .tc := ⟨.hbm, 318, rfl⟩
abbrev main_v303 : Ref sig .tc := ⟨.hbm, 319, rfl⟩
abbrev main_v304 : Ref sig .tc := ⟨.hbm, 320, rfl⟩
abbrev main_v305 : Ref sig .tc := ⟨.hbm, 321, rfl⟩
abbrev main_v306 : Ref sig .tc := ⟨.hbm, 322, rfl⟩
abbrev main_v307 : Ref sig .tc := ⟨.hbm, 323, rfl⟩
abbrev main_v308 : Ref sig .tc := ⟨.hbm, 324, rfl⟩
abbrev main_v309 : Ref sig .tc := ⟨.hbm, 325, rfl⟩
abbrev main_v310 : Ref sig .tc := ⟨.hbm, 326, rfl⟩
abbrev main_v311 : Ref sig .tc := ⟨.hbm, 327, rfl⟩
abbrev main_v312 : Ref sig .tc := ⟨.hbm, 328, rfl⟩
abbrev main_v313 : Ref sig .tc := ⟨.hbm, 329, rfl⟩
abbrev main_v314 : Ref sig .tc := ⟨.hbm, 330, rfl⟩
abbrev main_v315 : Ref sig .tc := ⟨.hbm, 331, rfl⟩
abbrev main_v316 : Ref sig .tc := ⟨.hbm, 332, rfl⟩
abbrev main_v317 : Ref sig .tc := ⟨.hbm, 333, rfl⟩
abbrev main_v318 : Ref sig .tc := ⟨.hbm, 334, rfl⟩
abbrev main_v319 : Ref sig .tc := ⟨.hbm, 335, rfl⟩
abbrev main_v320 : Ref sig .tc := ⟨.hbm, 336, rfl⟩
abbrev main_v321 : Ref sig .tc := ⟨.hbm, 337, rfl⟩
abbrev main_v322 : Ref sig .tc := ⟨.hbm, 338, rfl⟩
abbrev main_v323 : Ref sig .tc := ⟨.hbm, 339, rfl⟩
abbrev main_v324 : Ref sig .tc := ⟨.hbm, 340, rfl⟩
abbrev main_v325 : Ref sig .tc := ⟨.hbm, 341, rfl⟩
abbrev main_v326 : Ref sig .tc := ⟨.hbm, 342, rfl⟩
abbrev main_v327 : Ref sig .tc := ⟨.hbm, 343, rfl⟩
abbrev main_v328 : Ref sig .tc := ⟨.hbm, 344, rfl⟩
abbrev main_v329 : Ref sig .tc := ⟨.hbm, 345, rfl⟩
abbrev main_v330 : Ref sig .tc := ⟨.hbm, 346, rfl⟩
abbrev main_v331 : Ref sig .tc := ⟨.hbm, 347, rfl⟩
abbrev main_v332 : Ref sig .tc := ⟨.hbm, 348, rfl⟩
abbrev main_v333 : Ref sig .tc := ⟨.hbm, 349, rfl⟩
abbrev main_v334 : Ref sig .tc := ⟨.hbm, 350, rfl⟩
abbrev main_v335 : Ref sig .tc := ⟨.hbm, 351, rfl⟩
abbrev main_v336 : Ref sig .tc := ⟨.hbm, 352, rfl⟩
abbrev main_v337 : Ref sig .tc := ⟨.hbm, 353, rfl⟩
abbrev main_v338 : Ref sig .tc := ⟨.hbm, 354, rfl⟩
abbrev main_v339 : Ref sig .tc := ⟨.hbm, 355, rfl⟩
abbrev main_v340 : Ref sig .tc := ⟨.hbm, 356, rfl⟩
abbrev main_v341 : Ref sig .tc := ⟨.hbm, 357, rfl⟩
abbrev main_v342 : Ref sig .tc := ⟨.hbm, 358, rfl⟩
abbrev main_v343 : Ref sig .tc := ⟨.hbm, 359, rfl⟩
abbrev main_v344 : Ref sig .tc := ⟨.hbm, 360, rfl⟩
abbrev main_cst_1 : Ref sig .tc := ⟨.hbm, 361, rfl⟩
abbrev main_v345 : Ref sig .tc := ⟨.hbm, 362, rfl⟩
abbrev main_cst_2 : Ref sig .tc := ⟨.hbm, 363, rfl⟩
abbrev main_v346 : Ref sig .tc := ⟨.hbm, 364, rfl⟩
abbrev main_v347 : Ref sig .tc := ⟨.hbm, 365, rfl⟩
abbrev main_cst_3 : Ref sig .tc := ⟨.hbm, 366, rfl⟩
abbrev main_v348 : Ref sig .tc := ⟨.hbm, 367, rfl⟩
abbrev main_cst_4 : Ref sig .tc := ⟨.hbm, 368, rfl⟩
abbrev main_v349 : Ref sig .tc := ⟨.hbm, 369, rfl⟩
abbrev main_v350 : Ref sig .tc := ⟨.hbm, 370, rfl⟩
abbrev main_cst_5 : Ref sig .tc := ⟨.hbm, 371, rfl⟩
abbrev main_v351 : Ref sig .tc := ⟨.hbm, 372, rfl⟩
abbrev main_cst_6 : Ref sig .tc := ⟨.hbm, 373, rfl⟩
abbrev main_v352 : Ref sig .tc := ⟨.hbm, 374, rfl⟩
abbrev main_v353 : Ref sig .tc := ⟨.hbm, 375, rfl⟩
abbrev main_cst_7 : Ref sig .tc := ⟨.hbm, 376, rfl⟩
abbrev main_v354 : Ref sig .tc := ⟨.hbm, 377, rfl⟩
abbrev main_cst_8 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_v363 : Ref sig .tc := ⟨.hbm, 387, rfl⟩
abbrev main_v364 : Ref sig .tc := ⟨.hbm, 388, rfl⟩
abbrev main_v365 : Ref sig .tc := ⟨.hbm, 389, rfl⟩
abbrev main_v366 : Ref sig .tc := ⟨.hbm, 390, rfl⟩
abbrev main_v367 : Ref sig .tc := ⟨.hbm, 391, rfl⟩
abbrev main_v368 : Ref sig .tc := ⟨.hbm, 392, rfl⟩
abbrev main_v369 : Ref sig .tc := ⟨.hbm, 393, rfl⟩
abbrev main_v370 : Ref sig .tc := ⟨.hbm, 394, rfl⟩
abbrev main_v371 : Ref sig .tc := ⟨.hbm, 395, rfl⟩
abbrev main_v372 : Ref sig .tc := ⟨.hbm, 396, rfl⟩
abbrev main_v373 : Ref sig .tc := ⟨.hbm, 397, rfl⟩
abbrev main_v374 : Ref sig .tc := ⟨.hbm, 398, rfl⟩
abbrev main_v375 : Ref sig .tc := ⟨.hbm, 399, rfl⟩
abbrev main_v376 : Ref sig .tc := ⟨.hbm, 400, rfl⟩
abbrev main_v377 : Ref sig .tc := ⟨.hbm, 401, rfl⟩
abbrev main_v378 : Ref sig .tc := ⟨.hbm, 402, rfl⟩
abbrev main_v379 : Ref sig .tc := ⟨.hbm, 403, rfl⟩
abbrev main_v380 : Ref sig .tc := ⟨.hbm, 404, rfl⟩
abbrev main_v381 : Ref sig .tc := ⟨.hbm, 405, rfl⟩
abbrev main_v382 : Ref sig .tc := ⟨.hbm, 406, rfl⟩
abbrev main_v383 : Ref sig .tc := ⟨.hbm, 407, rfl⟩
abbrev main_v384 : Ref sig .tc := ⟨.hbm, 408, rfl⟩
abbrev main_v385 : Ref sig .tc := ⟨.hbm, 409, rfl⟩
abbrev main_v386 : Ref sig .tc := ⟨.hbm, 410, rfl⟩
abbrev main_cst_9 : Ref sig .tc := ⟨.hbm, 411, rfl⟩
abbrev main_v387 : Ref sig .tc := ⟨.hbm, 412, rfl⟩
abbrev main_cst_10 : Ref sig .tc := ⟨.hbm, 413, rfl⟩
abbrev main_v388 : Ref sig .tc := ⟨.hbm, 414, rfl⟩
abbrev main_v389 : Ref sig .tc := ⟨.hbm, 415, rfl⟩
abbrev main_cst_11 : Ref sig .tc := ⟨.hbm, 416, rfl⟩
abbrev main_v390 : Ref sig .tc := ⟨.hbm, 417, rfl⟩
abbrev main_cst_12 : Ref sig .tc := ⟨.hbm, 418, rfl⟩
abbrev main_v391 : Ref sig .tc := ⟨.hbm, 419, rfl⟩
abbrev main_v392 : Ref sig .tc := ⟨.hbm, 420, rfl⟩
abbrev main_cst_13 : Ref sig .tc := ⟨.hbm, 421, rfl⟩
abbrev main_v393 : Ref sig .tc := ⟨.hbm, 422, rfl⟩
abbrev main_cst_14 : Ref sig .tc := ⟨.hbm, 423, rfl⟩
abbrev main_v394 : Ref sig .tc := ⟨.hbm, 424, rfl⟩
abbrev main_v395 : Ref sig .tc := ⟨.hbm, 425, rfl⟩
abbrev main_cst_15 : Ref sig .tc := ⟨.hbm, 426, rfl⟩
abbrev main_v396 : Ref sig .tc := ⟨.hbm, 427, rfl⟩
abbrev main_cst_16 : Ref sig .tc := ⟨.hbm, 428, rfl⟩
abbrev main_v397 : Ref sig .tc := ⟨.hbm, 429, rfl⟩
abbrev main_v398 : Ref sig .tc := ⟨.hbm, 430, rfl⟩
abbrev main_v399 : Ref sig .tc := ⟨.hbm, 431, rfl⟩
abbrev main_v400 : Ref sig .tc := ⟨.hbm, 432, rfl⟩
abbrev main_v401 : Ref sig .tc := ⟨.hbm, 433, rfl⟩
abbrev main_v402 : Ref sig .tc := ⟨.hbm, 434, rfl⟩
abbrev main_v403 : Ref sig .tc := ⟨.hbm, 435, rfl⟩
abbrev main_v404 : Ref sig .tc := ⟨.hbm, 436, rfl⟩
abbrev main_v405 : Ref sig .tc := ⟨.hbm, 437, rfl⟩
abbrev main_v406 : Ref sig .tc := ⟨.hbm, 438, rfl⟩
abbrev main_v407 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_v414 : Ref sig .tc := ⟨.hbm, 446, rfl⟩
abbrev main_v415 : Ref sig .tc := ⟨.hbm, 447, rfl⟩
abbrev main_v416 : Ref sig .tc := ⟨.hbm, 448, rfl⟩
abbrev main_v417 : Ref sig .tc := ⟨.hbm, 449, rfl⟩
abbrev main_v418 : Ref sig .tc := ⟨.hbm, 450, rfl⟩
abbrev main_v419 : Ref sig .tc := ⟨.hbm, 451, rfl⟩
abbrev main_v420 : Ref sig .tc := ⟨.hbm, 452, rfl⟩
abbrev main_v421 : Ref sig .tc := ⟨.hbm, 453, rfl⟩
abbrev main_v422 : Ref sig .tc := ⟨.hbm, 454, rfl⟩
abbrev main_v423 : Ref sig .tc := ⟨.hbm, 455, rfl⟩
abbrev main_v424 : Ref sig .tc := ⟨.hbm, 456, rfl⟩
abbrev main_v425 : Ref sig .tc := ⟨.hbm, 457, rfl⟩
abbrev main_v426 : Ref sig .tc := ⟨.hbm, 458, rfl⟩
abbrev main_v427 : Ref sig .tc := ⟨.hbm, 459, rfl⟩
abbrev main_v428 : Ref sig .tc := ⟨.hbm, 460, rfl⟩
abbrev main_cst_17 : Ref sig .tc := ⟨.hbm, 461, rfl⟩
abbrev main_v429 : Ref sig .tc := ⟨.hbm, 462, rfl⟩
abbrev main_cst_18 : Ref sig .tc := ⟨.hbm, 463, rfl⟩
abbrev main_v430 : Ref sig .tc := ⟨.hbm, 464, rfl⟩
abbrev main_v431 : Ref sig .tc := ⟨.hbm, 465, rfl⟩
abbrev main_cst_19 : Ref sig .tc := ⟨.hbm, 466, rfl⟩
abbrev main_v432 : Ref sig .tc := ⟨.hbm, 467, rfl⟩
abbrev main_cst_20 : Ref sig .tc := ⟨.hbm, 468, rfl⟩
abbrev main_v433 : Ref sig .tc := ⟨.hbm, 469, rfl⟩
abbrev main_v434 : Ref sig .tc := ⟨.hbm, 470, rfl⟩
abbrev main_cst_21 : Ref sig .tc := ⟨.hbm, 471, rfl⟩
abbrev main_v435 : Ref sig .tc := ⟨.hbm, 472, rfl⟩
abbrev main_cst_22 : Ref sig .tc := ⟨.hbm, 473, rfl⟩
abbrev main_v436 : Ref sig .tc := ⟨.hbm, 474, rfl⟩
abbrev main_v437 : Ref sig .tc := ⟨.hbm, 475, rfl⟩
abbrev main_cst_23 : Ref sig .tc := ⟨.hbm, 476, rfl⟩
abbrev main_v438 : Ref sig .tc := ⟨.hbm, 477, rfl⟩
abbrev main_cst_24 : Ref sig .tc := ⟨.hbm, 478, rfl⟩
abbrev main_v439 : Ref sig .tc := ⟨.hbm, 479, rfl⟩
abbrev main_v440 : Ref sig .tc := ⟨.hbm, 480, rfl⟩
abbrev main_v441 : Ref sig .tc := ⟨.hbm, 481, rfl⟩
abbrev main_v442 : Ref sig .tc := ⟨.hbm, 482, rfl⟩
abbrev main_v443 : Ref sig .tc := ⟨.hbm, 483, rfl⟩
abbrev main_v444 : Ref sig .tc := ⟨.hbm, 484, rfl⟩
abbrev main_v445 : Ref sig .tc := ⟨.hbm, 485, rfl⟩
abbrev main_v446 : Ref sig .tc := ⟨.hbm, 486, rfl⟩
abbrev main_v447 : Ref sig .tc := ⟨.hbm, 487, rfl⟩
abbrev main_v448 : Ref sig .tc := ⟨.hbm, 488, rfl⟩
abbrev main_v449 : Ref sig .tc := ⟨.hbm, 489, rfl⟩
abbrev main_v450 : Ref sig .tc := ⟨.hbm, 490, rfl⟩
abbrev main_v451 : Ref sig .tc := ⟨.hbm, 491, rfl⟩
abbrev main_v452 : Ref sig .tc := ⟨.hbm, 492, rfl⟩
abbrev main_v453 : Ref sig .tc := ⟨.hbm, 493, rfl⟩
abbrev main_v454 : Ref sig .tc := ⟨.hbm, 494, rfl⟩
abbrev main_v455 : Ref sig .tc := ⟨.hbm, 495, rfl⟩
abbrev main_v456 : Ref sig .tc := ⟨.hbm, 496, rfl⟩
abbrev main_v457 : Ref sig .tc := ⟨.hbm, 497, rfl⟩
abbrev main_v458 : Ref sig .tc := ⟨.hbm, 498, rfl⟩
abbrev main_v459 : Ref sig .tc := ⟨.hbm, 499, rfl⟩
abbrev main_v460 : Ref sig .tc := ⟨.hbm, 500, rfl⟩
abbrev main_v461 : Ref sig .tc := ⟨.hbm, 501, rfl⟩
abbrev main_v462 : Ref sig .tc := ⟨.hbm, 502, rfl⟩
abbrev main_v463 : Ref sig .tc := ⟨.hbm, 503, rfl⟩
abbrev main_v464 : Ref sig .tc := ⟨.hbm, 504, rfl⟩
abbrev main_v465 : Ref sig .tc := ⟨.hbm, 505, rfl⟩
abbrev main_v466 : Ref sig .tc := ⟨.hbm, 506, rfl⟩
abbrev main_v467 : Ref sig .tc := ⟨.hbm, 507, rfl⟩
abbrev main_v468 : Ref sig .tc := ⟨.hbm, 508, rfl⟩
abbrev main_v469 : Ref sig .tc := ⟨.hbm, 509, rfl⟩
abbrev main_v470 : Ref sig .tc := ⟨.hbm, 510, rfl⟩
abbrev main_cst_25 : Ref sig .tc := ⟨.hbm, 511, rfl⟩
abbrev main_v471 : Ref sig .tc := ⟨.hbm, 512, rfl⟩
abbrev main_cst_26 : Ref sig .tc := ⟨.hbm, 513, rfl⟩
abbrev main_v472 : Ref sig .tc := ⟨.hbm, 514, rfl⟩
abbrev main_v473 : Ref sig .tc := ⟨.hbm, 515, rfl⟩
abbrev main_cst_27 : Ref sig .tc := ⟨.hbm, 516, rfl⟩
abbrev main_v474 : Ref sig .tc := ⟨.hbm, 517, rfl⟩
abbrev main_cst_28 : Ref sig .tc := ⟨.hbm, 518, rfl⟩
abbrev main_v475 : Ref sig .tc := ⟨.hbm, 519, rfl⟩
abbrev main_v476 : Ref sig .tc := ⟨.hbm, 520, rfl⟩
abbrev main_cst_29 : Ref sig .tc := ⟨.hbm, 521, rfl⟩
abbrev main_v477 : Ref sig .tc := ⟨.hbm, 522, rfl⟩
abbrev main_cst_30 : Ref sig .tc := ⟨.hbm, 523, rfl⟩
abbrev main_v478 : Ref sig .tc := ⟨.hbm, 524, rfl⟩
abbrev main_v479 : Ref sig .tc := ⟨.hbm, 525, rfl⟩
abbrev main_cst_31 : Ref sig .tc := ⟨.hbm, 526, rfl⟩
abbrev main_v480 : Ref sig .tc := ⟨.hbm, 527, rfl⟩
abbrev main_cst_32 : Ref sig .tc := ⟨.hbm, 528, rfl⟩
abbrev main_v481 : Ref sig .tc := ⟨.hbm, 529, rfl⟩
abbrev main_v482 : Ref sig .tc := ⟨.hbm, 530, rfl⟩
abbrev main_v483 : Ref sig .tc := ⟨.hbm, 531, rfl⟩
abbrev main_v484 : Ref sig .tc := ⟨.hbm, 532, rfl⟩
abbrev main_v485 : Ref sig .tc := ⟨.hbm, 533, rfl⟩
abbrev main_v486 : Ref sig .tc := ⟨.hbm, 534, rfl⟩
abbrev main_v487 : Ref sig .tc := ⟨.hbm, 535, rfl⟩
abbrev main_v488 : Ref sig .tc := ⟨.hbm, 536, rfl⟩
abbrev main_v489 : Ref sig .tc := ⟨.hbm, 537, rfl⟩
abbrev main_v490 : Ref sig .tc := ⟨.hbm, 538, rfl⟩
abbrev main_v491 : Ref sig .tc := ⟨.hbm, 539, rfl⟩
abbrev main_v492 : Ref sig .tc := ⟨.hbm, 540, rfl⟩
abbrev main_v493 : Ref sig .tc := ⟨.hbm, 541, rfl⟩
abbrev main_v494 : Ref sig .tc := ⟨.hbm, 542, rfl⟩
abbrev main_v495 : Ref sig .tc := ⟨.hbm, 543, rfl⟩
abbrev main_v496 : Ref sig .tc := ⟨.hbm, 544, rfl⟩
abbrev main_v497 : Ref sig .tc := ⟨.hbm, 545, rfl⟩
abbrev main_v498 : Ref sig .tc := ⟨.hbm, 546, rfl⟩
abbrev main_v499 : Ref sig .tc := ⟨.hbm, 547, rfl⟩
abbrev main_v500 : Ref sig .tc := ⟨.hbm, 548, rfl⟩
abbrev main_v501 : Ref sig .tc := ⟨.hbm, 549, rfl⟩
abbrev main_v502 : Ref sig .tc := ⟨.hbm, 550, rfl⟩
abbrev main_v503 : Ref sig .tc := ⟨.hbm, 551, rfl⟩
abbrev main_v504 : Ref sig .tc := ⟨.hbm, 552, rfl⟩
abbrev main_v505 : Ref sig .tc := ⟨.hbm, 553, rfl⟩
abbrev main_v506 : Ref sig .tc := ⟨.hbm, 554, rfl⟩
abbrev main_v507 : Ref sig .tc := ⟨.hbm, 555, rfl⟩
abbrev main_v508 : Ref sig .tc := ⟨.hbm, 556, rfl⟩
abbrev main_v509 : Ref sig .tc := ⟨.hbm, 557, rfl⟩
abbrev main_v510 : Ref sig .tc := ⟨.hbm, 558, rfl⟩
abbrev main_v511 : Ref sig .tc := ⟨.hbm, 559, rfl⟩
abbrev main_v512 : Ref sig .tc := ⟨.hbm, 560, rfl⟩
abbrev main_cst_33 : Ref sig .tc := ⟨.hbm, 561, rfl⟩
abbrev main_v513 : Ref sig .tc := ⟨.hbm, 562, rfl⟩
abbrev main_cst_34 : Ref sig .tc := ⟨.hbm, 563, rfl⟩
abbrev main_v514 : Ref sig .tc := ⟨.hbm, 564, rfl⟩
abbrev main_v515 : Ref sig .tc := ⟨.hbm, 565, rfl⟩
abbrev main_cst_35 : Ref sig .tc := ⟨.hbm, 566, rfl⟩
abbrev main_v516 : Ref sig .tc := ⟨.hbm, 567, rfl⟩
abbrev main_cst_36 : Ref sig .tc := ⟨.hbm, 568, rfl⟩
abbrev main_v517 : Ref sig .tc := ⟨.hbm, 569, rfl⟩
abbrev main_v518 : Ref sig .tc := ⟨.hbm, 570, rfl⟩
abbrev main_cst_37 : Ref sig .tc := ⟨.hbm, 571, rfl⟩
abbrev main_v519 : Ref sig .tc := ⟨.hbm, 572, rfl⟩
abbrev main_cst_38 : Ref sig .tc := ⟨.hbm, 573, rfl⟩
abbrev main_v520 : Ref sig .tc := ⟨.hbm, 574, rfl⟩
abbrev main_v521 : Ref sig .tc := ⟨.hbm, 575, rfl⟩
abbrev main_cst_39 : Ref sig .tc := ⟨.hbm, 576, rfl⟩
abbrev main_v522 : Ref sig .tc := ⟨.hbm, 577, rfl⟩
abbrev main_cst_40 : Ref sig .tc := ⟨.hbm, 578, rfl⟩
abbrev main_v523 : Ref sig .tc := ⟨.hbm, 579, rfl⟩
abbrev main_v524 : Ref sig .tc := ⟨.hbm, 580, rfl⟩
abbrev main_v525 : Ref sig .tc := ⟨.hbm, 581, rfl⟩
abbrev main_v526 : Ref sig .tc := ⟨.hbm, 582, rfl⟩
abbrev main_v527 : Ref sig .tc := ⟨.hbm, 583, rfl⟩
abbrev main_v528 : Ref sig .tc := ⟨.hbm, 584, rfl⟩
abbrev main_v529 : Ref sig .tc := ⟨.hbm, 585, rfl⟩
abbrev main_v530 : Ref sig .tc := ⟨.hbm, 586, rfl⟩
abbrev main_v531 : Ref sig .tc := ⟨.hbm, 587, rfl⟩
abbrev main_v532 : Ref sig .tc := ⟨.hbm, 588, rfl⟩
abbrev main_v533 : Ref sig .tc := ⟨.hbm, 589, rfl⟩
abbrev main_v534 : Ref sig .tc := ⟨.hbm, 590, rfl⟩
abbrev main_v535 : Ref sig .tc := ⟨.hbm, 591, rfl⟩
abbrev main_v536 : Ref sig .tc := ⟨.hbm, 592, rfl⟩
abbrev main_v537 : Ref sig .tc := ⟨.hbm, 593, rfl⟩
abbrev main_v538 : Ref sig .tc := ⟨.hbm, 594, rfl⟩
abbrev main_v539 : Ref sig .tc := ⟨.hbm, 595, rfl⟩
abbrev main_v540 : Ref sig .tc := ⟨.hbm, 596, rfl⟩
abbrev main_v541 : Ref sig .tc := ⟨.hbm, 597, rfl⟩
abbrev main_v542 : Ref sig .tc := ⟨.hbm, 598, rfl⟩
abbrev main_v543 : Ref sig .tc := ⟨.hbm, 599, rfl⟩
abbrev main_v544 : Ref sig .tc := ⟨.hbm, 600, rfl⟩
abbrev main_v545 : Ref sig .tc := ⟨.hbm, 601, rfl⟩
abbrev main_v546 : Ref sig .tc := ⟨.hbm, 602, rfl⟩
abbrev main_v547 : Ref sig .tc := ⟨.hbm, 603, rfl⟩
abbrev main_v548 : Ref sig .tc := ⟨.hbm, 604, rfl⟩
abbrev main_v549 : Ref sig .tc := ⟨.hbm, 605, rfl⟩
abbrev main_v550 : Ref sig .tc := ⟨.hbm, 606, rfl⟩
abbrev main_cst_41 : Ref sig .tc := ⟨.hbm, 607, rfl⟩
abbrev main_v551 : Ref sig .tc := ⟨.hbm, 608, rfl⟩
abbrev main_cst_42 : Ref sig .tc := ⟨.hbm, 609, rfl⟩
abbrev main_v552 : Ref sig .tc := ⟨.hbm, 610, rfl⟩
abbrev main_v553 : Ref sig .tc := ⟨.hbm, 611, rfl⟩
abbrev main_cst_43 : Ref sig .tc := ⟨.hbm, 612, rfl⟩
abbrev main_v554 : Ref sig .tc := ⟨.hbm, 613, rfl⟩
abbrev main_cst_44 : Ref sig .tc := ⟨.hbm, 614, rfl⟩
abbrev main_v555 : Ref sig .tc := ⟨.hbm, 615, rfl⟩
abbrev main_v556 : Ref sig .tc := ⟨.hbm, 616, rfl⟩
abbrev main_cst_45 : Ref sig .tc := ⟨.hbm, 617, rfl⟩
abbrev main_v557 : Ref sig .tc := ⟨.hbm, 618, rfl⟩
abbrev main_cst_46 : Ref sig .tc := ⟨.hbm, 619, rfl⟩
abbrev main_v558 : Ref sig .tc := ⟨.hbm, 620, rfl⟩
abbrev main_v559 : Ref sig .tc := ⟨.hbm, 621, rfl⟩
abbrev main_cst_47 : Ref sig .tc := ⟨.hbm, 622, rfl⟩
abbrev main_v560 : Ref sig .tc := ⟨.hbm, 623, rfl⟩
abbrev main_cst_48 : Ref sig .tc := ⟨.hbm, 624, rfl⟩
abbrev main_v561 : Ref sig .tc := ⟨.hbm, 625, rfl⟩
abbrev main_v562 : Ref sig .tc := ⟨.hbm, 626, rfl⟩
abbrev main_v563 : Ref sig .tc := ⟨.hbm, 627, rfl⟩
abbrev main_v564 : Ref sig .tc := ⟨.hbm, 628, rfl⟩
abbrev main_v565 : Ref sig .tc := ⟨.hbm, 629, rfl⟩
abbrev main_v566 : Ref sig .tc := ⟨.hbm, 630, rfl⟩
abbrev main_v567 : Ref sig .tc := ⟨.hbm, 631, rfl⟩
abbrev main_v568 : Ref sig .tc := ⟨.hbm, 632, rfl⟩
abbrev main_v569 : Ref sig .tc := ⟨.hbm, 633, rfl⟩
abbrev main_v570 : Ref sig .tc := ⟨.hbm, 634, rfl⟩
abbrev main_v571 : Ref sig .tc := ⟨.hbm, 635, rfl⟩
abbrev main_v572 : Ref sig .tc := ⟨.hbm, 636, rfl⟩
abbrev main_v573 : Ref sig .tc := ⟨.hbm, 637, rfl⟩
abbrev main_v574 : Ref sig .tc := ⟨.hbm, 638, rfl⟩
abbrev main_v575 : Ref sig .tc := ⟨.hbm, 639, rfl⟩
abbrev main_v576 : Ref sig .tc := ⟨.hbm, 640, rfl⟩
abbrev main_v577 : Ref sig .tc := ⟨.hbm, 641, rfl⟩
abbrev main_v578 : Ref sig .tc := ⟨.hbm, 642, rfl⟩
abbrev main_v579 : Ref sig .tc := ⟨.hbm, 643, rfl⟩
abbrev main_v580 : Ref sig .tc := ⟨.hbm, 644, rfl⟩
abbrev main_v581 : Ref sig .tc := ⟨.hbm, 645, rfl⟩
abbrev main_v582 : Ref sig .tc := ⟨.hbm, 646, rfl⟩
abbrev main_v583 : Ref sig .tc := ⟨.hbm, 647, rfl⟩
abbrev main_v584 : Ref sig .tc := ⟨.hbm, 648, rfl⟩
abbrev main_v585 : Ref sig .tc := ⟨.hbm, 649, rfl⟩
abbrev main_v586 : Ref sig .tc := ⟨.hbm, 650, rfl⟩
abbrev main_v587 : Ref sig .tc := ⟨.hbm, 651, rfl⟩
abbrev main_v588 : Ref sig .tc := ⟨.hbm, 652, rfl⟩
abbrev main_v589 : Ref sig .tc := ⟨.hbm, 653, rfl⟩
abbrev main_v590 : Ref sig .tc := ⟨.hbm, 654, rfl⟩
abbrev main_v591 : Ref sig .tc := ⟨.hbm, 655, rfl⟩
abbrev main_v592 : Ref sig .tc := ⟨.hbm, 656, rfl⟩
abbrev main_cst_49 : Ref sig .tc := ⟨.hbm, 657, rfl⟩
abbrev main_v593 : Ref sig .tc := ⟨.hbm, 658, rfl⟩
abbrev main_cst_50 : Ref sig .tc := ⟨.hbm, 659, rfl⟩
abbrev main_v594 : Ref sig .tc := ⟨.hbm, 660, rfl⟩
abbrev main_v595 : Ref sig .tc := ⟨.hbm, 661, rfl⟩
abbrev main_cst_51 : Ref sig .tc := ⟨.hbm, 662, rfl⟩
abbrev main_v596 : Ref sig .tc := ⟨.hbm, 663, rfl⟩
abbrev main_cst_52 : Ref sig .tc := ⟨.hbm, 664, rfl⟩
abbrev main_v597 : Ref sig .tc := ⟨.hbm, 665, rfl⟩
abbrev main_v598 : Ref sig .tc := ⟨.hbm, 666, rfl⟩
abbrev main_cst_53 : Ref sig .tc := ⟨.hbm, 667, rfl⟩
abbrev main_v599 : Ref sig .tc := ⟨.hbm, 668, rfl⟩
abbrev main_cst_54 : Ref sig .tc := ⟨.hbm, 669, rfl⟩
abbrev main_v600 : Ref sig .tc := ⟨.hbm, 670, rfl⟩
abbrev main_v601 : Ref sig .tc := ⟨.hbm, 671, rfl⟩
abbrev main_cst_55 : Ref sig .tc := ⟨.hbm, 672, rfl⟩
abbrev main_v602 : Ref sig .tc := ⟨.hbm, 673, rfl⟩
abbrev main_cst_56 : Ref sig .tc := ⟨.hbm, 674, rfl⟩
abbrev main_v603 : Ref sig .tc := ⟨.hbm, 675, rfl⟩
abbrev main_v604 : Ref sig .tc := ⟨.hbm, 676, rfl⟩
abbrev main_v605 : Ref sig .tc := ⟨.hbm, 677, rfl⟩
abbrev main_v606 : Ref sig .tc := ⟨.hbm, 678, rfl⟩
abbrev main_v607 : Ref sig .tc := ⟨.hbm, 679, rfl⟩
abbrev main_v608 : Ref sig .tc := ⟨.hbm, 680, rfl⟩
abbrev main_v609 : Ref sig .tc := ⟨.hbm, 681, rfl⟩
abbrev main_v610 : Ref sig .tc := ⟨.hbm, 682, rfl⟩
abbrev main_v611 : Ref sig .tc := ⟨.hbm, 683, rfl⟩
abbrev main_v612 : Ref sig .tc := ⟨.hbm, 684, rfl⟩
abbrev main_v613 : Ref sig .tc := ⟨.hbm, 685, rfl⟩
abbrev main_v614 : Ref sig .tc := ⟨.hbm, 686, rfl⟩
abbrev main_v615 : Ref sig .tc := ⟨.hbm, 687, rfl⟩
abbrev main_v616 : Ref sig .tc := ⟨.hbm, 688, rfl⟩
abbrev main_v617 : Ref sig .tc := ⟨.hbm, 689, rfl⟩
abbrev main_v618 : Ref sig .tc := ⟨.hbm, 690, rfl⟩
abbrev main_v619 : Ref sig .tc := ⟨.hbm, 691, rfl⟩
abbrev main_v620 : Ref sig .tc := ⟨.hbm, 692, rfl⟩
abbrev main_v621 : Ref sig .tc := ⟨.hbm, 693, rfl⟩
abbrev main_v622 : Ref sig .tc := ⟨.hbm, 694, rfl⟩
abbrev main_v623 : Ref sig .tc := ⟨.hbm, 695, rfl⟩
abbrev main_v624 : Ref sig .tc := ⟨.hbm, 696, rfl⟩
abbrev main_v625 : Ref sig .tc := ⟨.hbm, 697, rfl⟩
abbrev main_v626 : Ref sig .tc := ⟨.hbm, 698, rfl⟩
abbrev main_v627 : Ref sig .tc := ⟨.hbm, 699, rfl⟩
abbrev main_v628 : Ref sig .tc := ⟨.hbm, 700, rfl⟩
abbrev main_v629 : Ref sig .tc := ⟨.hbm, 701, rfl⟩
abbrev main_v630 : Ref sig .tc := ⟨.hbm, 702, rfl⟩
abbrev main_v631 : Ref sig .tc := ⟨.hbm, 703, rfl⟩
abbrev main_v632 : Ref sig .tc := ⟨.hbm, 704, rfl⟩
abbrev main_v633 : Ref sig .tc := ⟨.hbm, 705, rfl⟩
abbrev main_v634 : Ref sig .tc := ⟨.hbm, 706, rfl⟩
abbrev main_cst_57 : Ref sig .tc := ⟨.hbm, 707, rfl⟩
abbrev main_v635 : Ref sig .tc := ⟨.hbm, 708, rfl⟩
abbrev main_cst_58 : Ref sig .tc := ⟨.hbm, 709, rfl⟩
abbrev main_v636 : Ref sig .tc := ⟨.hbm, 710, rfl⟩
abbrev main_v637 : Ref sig .tc := ⟨.hbm, 711, rfl⟩
abbrev main_cst_59 : Ref sig .tc := ⟨.hbm, 712, rfl⟩
abbrev main_v638 : Ref sig .tc := ⟨.hbm, 713, rfl⟩
abbrev main_cst_60 : Ref sig .tc := ⟨.hbm, 714, rfl⟩
abbrev main_v639 : Ref sig .tc := ⟨.hbm, 715, rfl⟩
abbrev main_v640 : Ref sig .tc := ⟨.hbm, 716, rfl⟩
abbrev main_cst_61 : Ref sig .tc := ⟨.hbm, 717, rfl⟩
abbrev main_v641 : Ref sig .tc := ⟨.hbm, 718, rfl⟩
abbrev main_cst_62 : Ref sig .tc := ⟨.hbm, 719, rfl⟩
abbrev main_v642 : Ref sig .tc := ⟨.hbm, 720, rfl⟩
abbrev main_v643 : Ref sig .tc := ⟨.hbm, 721, rfl⟩
abbrev main_cst_63 : Ref sig .tc := ⟨.hbm, 722, rfl⟩
abbrev main_v644 : Ref sig .tc := ⟨.hbm, 723, rfl⟩
abbrev main_cst_64 : Ref sig .tc := ⟨.hbm, 724, rfl⟩
abbrev main_v645 : Ref sig .tc := ⟨.hbm, 725, rfl⟩
abbrev main_v646 : Ref sig .tc := ⟨.hbm, 726, rfl⟩
abbrev main_v647 : Ref sig .tc := ⟨.hbm, 727, rfl⟩
abbrev main_v648 : Ref sig .tc := ⟨.hbm, 728, rfl⟩
abbrev main_v649 : Ref sig .tc := ⟨.hbm, 729, rfl⟩
abbrev main_v650 : Ref sig .tc := ⟨.hbm, 730, rfl⟩
abbrev main_v651 : Ref sig .tc := ⟨.hbm, 731, rfl⟩
abbrev main_v652 : Ref sig .tc := ⟨.hbm, 732, rfl⟩
abbrev main_v653 : Ref sig .tc := ⟨.hbm, 733, rfl⟩
abbrev main_v654 : Ref sig .tc := ⟨.hbm, 734, rfl⟩
abbrev main_v655 : Ref sig .tc := ⟨.hbm, 735, rfl⟩
abbrev main_v656 : Ref sig .tc := ⟨.hbm, 736, rfl⟩
abbrev main_v657 : Ref sig .tc := ⟨.hbm, 737, rfl⟩
abbrev main_v658 : Ref sig .tc := ⟨.hbm, 738, rfl⟩
abbrev main_v659 : Ref sig .tc := ⟨.hbm, 739, rfl⟩
abbrev main_v660 : Ref sig .tc := ⟨.hbm, 740, rfl⟩
abbrev main_v661 : Ref sig .tc := ⟨.hbm, 741, rfl⟩
abbrev main_v662 : Ref sig .tc := ⟨.hbm, 742, rfl⟩
abbrev main_v663 : Ref sig .tc := ⟨.hbm, 743, rfl⟩
abbrev main_v664 : Ref sig .tc := ⟨.hbm, 744, rfl⟩
abbrev main_v665 : Ref sig .tc := ⟨.hbm, 745, rfl⟩
abbrev main_v666 : Ref sig .tc := ⟨.hbm, 746, rfl⟩
abbrev main_v667 : Ref sig .tc := ⟨.hbm, 747, rfl⟩
abbrev main_v668 : Ref sig .tc := ⟨.hbm, 748, rfl⟩
abbrev main_v669 : Ref sig .tc := ⟨.hbm, 749, rfl⟩
abbrev main_v670 : Ref sig .tc := ⟨.hbm, 750, rfl⟩
abbrev main_v671 : Ref sig .tc := ⟨.hbm, 751, rfl⟩
abbrev main_v672 : Ref sig .tc := ⟨.hbm, 752, rfl⟩
abbrev main_v673 : Ref sig .tc := ⟨.hbm, 753, rfl⟩
abbrev main_v674 : Ref sig .tc := ⟨.hbm, 754, rfl⟩
abbrev main_v675 : Ref sig .tc := ⟨.hbm, 755, rfl⟩
abbrev main_v676 : Ref sig .tc := ⟨.hbm, 756, rfl⟩
abbrev main_cst_65 : Ref sig .tc := ⟨.hbm, 757, rfl⟩
abbrev main_v677 : Ref sig .tc := ⟨.hbm, 758, rfl⟩
abbrev main_cst_66 : Ref sig .tc := ⟨.hbm, 759, rfl⟩
abbrev main_v678 : Ref sig .tc := ⟨.hbm, 760, rfl⟩
abbrev main_v679 : Ref sig .tc := ⟨.hbm, 761, rfl⟩
abbrev main_cst_67 : Ref sig .tc := ⟨.hbm, 762, rfl⟩
abbrev main_v680 : Ref sig .tc := ⟨.hbm, 763, rfl⟩
abbrev main_cst_68 : Ref sig .tc := ⟨.hbm, 764, rfl⟩
abbrev main_v681 : Ref sig .tc := ⟨.hbm, 765, rfl⟩
abbrev main_v682 : Ref sig .tc := ⟨.hbm, 766, rfl⟩
abbrev main_cst_69 : Ref sig .tc := ⟨.hbm, 767, rfl⟩
abbrev main_v683 : Ref sig .tc := ⟨.hbm, 768, rfl⟩
abbrev main_cst_70 : Ref sig .tc := ⟨.hbm, 769, rfl⟩
abbrev main_v684 : Ref sig .tc := ⟨.hbm, 770, rfl⟩
abbrev main_v685 : Ref sig .tc := ⟨.hbm, 771, rfl⟩
abbrev main_cst_71 : Ref sig .tc := ⟨.hbm, 772, rfl⟩
abbrev main_v686 : Ref sig .tc := ⟨.hbm, 773, rfl⟩
abbrev main_cst_72 : Ref sig .tc := ⟨.hbm, 774, rfl⟩
abbrev main_v687 : Ref sig .tc := ⟨.hbm, 775, rfl⟩
abbrev main_v688 : Ref sig .tc := ⟨.hbm, 776, rfl⟩
abbrev main_v689 : Ref sig .tc := ⟨.hbm, 777, rfl⟩
abbrev main_v690 : Ref sig .tc := ⟨.hbm, 778, rfl⟩
abbrev main_v691 : Ref sig .tc := ⟨.hbm, 779, rfl⟩
abbrev main_v692 : Ref sig .tc := ⟨.hbm, 780, rfl⟩
abbrev main_v693 : Ref sig .tc := ⟨.hbm, 781, rfl⟩
abbrev main_v694 : Ref sig .tc := ⟨.hbm, 782, rfl⟩
abbrev main_v695 : Ref sig .tc := ⟨.hbm, 783, rfl⟩
abbrev main_v696 : Ref sig .tc := ⟨.hbm, 784, rfl⟩
abbrev main_v697 : Ref sig .tc := ⟨.hbm, 785, rfl⟩
abbrev main_v698 : Ref sig .tc := ⟨.hbm, 786, rfl⟩
abbrev main_v699 : Ref sig .tc := ⟨.hbm, 787, rfl⟩
abbrev main_v700 : Ref sig .tc := ⟨.hbm, 788, rfl⟩
abbrev main_v701 : Ref sig .tc := ⟨.hbm, 789, rfl⟩
abbrev main_v702 : Ref sig .tc := ⟨.hbm, 790, rfl⟩
abbrev main_v703 : Ref sig .tc := ⟨.hbm, 791, rfl⟩
abbrev main_v704 : Ref sig .tc := ⟨.hbm, 792, rfl⟩
abbrev main_v705 : Ref sig .tc := ⟨.hbm, 793, rfl⟩
abbrev main_v706 : Ref sig .tc := ⟨.hbm, 794, rfl⟩
abbrev main_v707 : Ref sig .tc := ⟨.hbm, 795, rfl⟩
abbrev main_v708 : Ref sig .tc := ⟨.hbm, 796, rfl⟩
abbrev main_v709 : Ref sig .tc := ⟨.hbm, 797, rfl⟩
abbrev main_v710 : Ref sig .tc := ⟨.hbm, 798, rfl⟩
abbrev main_v711 : Ref sig .tc := ⟨.hbm, 799, rfl⟩
abbrev main_v712 : Ref sig .tc := ⟨.hbm, 800, rfl⟩
abbrev main_v713 : Ref sig .tc := ⟨.hbm, 801, rfl⟩
abbrev main_v714 : Ref sig .tc := ⟨.hbm, 802, rfl⟩
abbrev main_v715 : Ref sig .tc := ⟨.hbm, 803, rfl⟩
abbrev main_v716 : Ref sig .tc := ⟨.hbm, 804, rfl⟩
abbrev main_v717 : Ref sig .tc := ⟨.hbm, 805, rfl⟩
abbrev main_v718 : Ref sig .tc := ⟨.hbm, 806, rfl⟩
abbrev main_cst_73 : Ref sig .tc := ⟨.hbm, 807, rfl⟩
abbrev main_v719 : Ref sig .tc := ⟨.hbm, 808, rfl⟩
abbrev main_cst_74 : Ref sig .tc := ⟨.hbm, 809, rfl⟩
abbrev main_v720 : Ref sig .tc := ⟨.hbm, 810, rfl⟩
abbrev main_v721 : Ref sig .tc := ⟨.hbm, 811, rfl⟩
abbrev main_cst_75 : Ref sig .tc := ⟨.hbm, 812, rfl⟩
abbrev main_v722 : Ref sig .tc := ⟨.hbm, 813, rfl⟩
abbrev main_cst_76 : Ref sig .tc := ⟨.hbm, 814, rfl⟩
abbrev main_v723 : Ref sig .tc := ⟨.hbm, 815, rfl⟩
abbrev main_v724 : Ref sig .tc := ⟨.hbm, 816, rfl⟩
abbrev main_cst_77 : Ref sig .tc := ⟨.hbm, 817, rfl⟩
abbrev main_v725 : Ref sig .tc := ⟨.hbm, 818, rfl⟩
abbrev main_cst_78 : Ref sig .tc := ⟨.hbm, 819, rfl⟩
abbrev main_v726 : Ref sig .tc := ⟨.hbm, 820, rfl⟩
abbrev main_v727 : Ref sig .tc := ⟨.hbm, 821, rfl⟩
abbrev main_cst_79 : Ref sig .tc := ⟨.hbm, 822, rfl⟩
abbrev main_v728 : Ref sig .tc := ⟨.hbm, 823, rfl⟩
abbrev main_cst_80 : Ref sig .tc := ⟨.hbm, 824, rfl⟩
abbrev main_v729 : Ref sig .tc := ⟨.hbm, 825, rfl⟩
abbrev main_v730 : Ref sig .tc := ⟨.hbm, 826, rfl⟩
abbrev main_v731 : Ref sig .tc := ⟨.hbm, 827, rfl⟩
abbrev main_v732 : Ref sig .tc := ⟨.hbm, 828, rfl⟩
abbrev main_v733 : Ref sig .tc := ⟨.hbm, 829, rfl⟩
abbrev main_v734 : Ref sig .tc := ⟨.hbm, 830, rfl⟩
abbrev main_v735 : Ref sig .tc := ⟨.hbm, 831, rfl⟩
abbrev main_v736 : Ref sig .tc := ⟨.hbm, 832, rfl⟩
abbrev main_v737 : Ref sig .tc := ⟨.hbm, 833, rfl⟩
abbrev main_v738 : Ref sig .tc := ⟨.hbm, 834, rfl⟩
abbrev main_v739 : Ref sig .tc := ⟨.hbm, 835, rfl⟩
abbrev main_v740 : Ref sig .tc := ⟨.hbm, 836, rfl⟩
abbrev main_v741 : Ref sig .tc := ⟨.hbm, 837, rfl⟩
abbrev main_v742 : Ref sig .tc := ⟨.hbm, 838, rfl⟩
abbrev main_v743 : Ref sig .tc := ⟨.hbm, 839, rfl⟩
abbrev main_v744 : Ref sig .tc := ⟨.hbm, 840, rfl⟩
abbrev main_v745 : Ref sig .tc := ⟨.hbm, 841, rfl⟩
abbrev main_v746 : Ref sig .tc := ⟨.hbm, 842, rfl⟩
abbrev main_v747 : Ref sig .tc := ⟨.hbm, 843, rfl⟩
abbrev main_v748 : Ref sig .tc := ⟨.hbm, 844, rfl⟩
abbrev main_v749 : Ref sig .tc := ⟨.hbm, 845, rfl⟩
abbrev main_v750 : Ref sig .tc := ⟨.hbm, 846, rfl⟩
abbrev main_v751 : Ref sig .tc := ⟨.hbm, 847, rfl⟩
abbrev main_v752 : Ref sig .tc := ⟨.hbm, 848, rfl⟩
abbrev main_v753 : Ref sig .tc := ⟨.hbm, 849, rfl⟩
abbrev main_v754 : Ref sig .tc := ⟨.hbm, 850, rfl⟩
abbrev main_v755 : Ref sig .tc := ⟨.hbm, 851, rfl⟩
abbrev main_v756 : Ref sig .tc := ⟨.hbm, 852, rfl⟩
abbrev main_v757 : Ref sig .tc := ⟨.hbm, 853, rfl⟩
abbrev main_v758 : Ref sig .tc := ⟨.hbm, 854, rfl⟩
abbrev main_v759 : Ref sig .tc := ⟨.hbm, 855, rfl⟩
abbrev main_v760 : Ref sig .tc := ⟨.hbm, 856, rfl⟩
abbrev main_cst_81 : Ref sig .tc := ⟨.hbm, 857, rfl⟩
abbrev main_v761 : Ref sig .tc := ⟨.hbm, 858, rfl⟩
abbrev main_cst_82 : Ref sig .tc := ⟨.hbm, 859, rfl⟩
abbrev main_v762 : Ref sig .tc := ⟨.hbm, 860, rfl⟩
abbrev main_v763 : Ref sig .tc := ⟨.hbm, 861, rfl⟩
abbrev main_cst_83 : Ref sig .tc := ⟨.hbm, 862, rfl⟩
abbrev main_v764 : Ref sig .tc := ⟨.hbm, 863, rfl⟩
abbrev main_cst_84 : Ref sig .tc := ⟨.hbm, 864, rfl⟩
abbrev main_v765 : Ref sig .tc := ⟨.hbm, 865, rfl⟩
abbrev main_v766 : Ref sig .tc := ⟨.hbm, 866, rfl⟩
abbrev main_cst_85 : Ref sig .tc := ⟨.hbm, 867, rfl⟩
abbrev main_v767 : Ref sig .tc := ⟨.hbm, 868, rfl⟩
abbrev main_cst_86 : Ref sig .tc := ⟨.hbm, 869, rfl⟩
abbrev main_v768 : Ref sig .tc := ⟨.hbm, 870, rfl⟩
abbrev main_v769 : Ref sig .tc := ⟨.hbm, 871, rfl⟩
abbrev main_cst_87 : Ref sig .tc := ⟨.hbm, 872, rfl⟩
abbrev main_v770 : Ref sig .tc := ⟨.hbm, 873, rfl⟩
abbrev main_cst_88 : Ref sig .tc := ⟨.hbm, 874, rfl⟩
abbrev main_v771 : Ref sig .tc := ⟨.hbm, 875, rfl⟩
abbrev main_v772 : Ref sig .tc := ⟨.hbm, 876, rfl⟩
abbrev main_v773 : Ref sig .tc := ⟨.hbm, 877, rfl⟩
abbrev main_v774 : Ref sig .tc := ⟨.hbm, 878, rfl⟩
abbrev main_v775 : Ref sig .tc := ⟨.hbm, 879, rfl⟩
abbrev main_v776 : Ref sig .tc := ⟨.hbm, 880, rfl⟩
abbrev main_v777 : Ref sig .tc := ⟨.hbm, 881, rfl⟩
abbrev main_v778 : Ref sig .tc := ⟨.hbm, 882, rfl⟩
abbrev main_v779 : Ref sig .tc := ⟨.hbm, 883, rfl⟩
abbrev main_v780 : Ref sig .tc := ⟨.hbm, 884, rfl⟩
abbrev main_v781 : Ref sig .tc := ⟨.hbm, 885, rfl⟩
abbrev main_v782 : Ref sig .tc := ⟨.hbm, 886, rfl⟩
abbrev main_v783 : Ref sig .tc := ⟨.hbm, 887, rfl⟩
abbrev main_v784 : Ref sig .tc := ⟨.hbm, 888, rfl⟩
abbrev main_v785 : Ref sig .tc := ⟨.hbm, 889, rfl⟩
abbrev main_v786 : Ref sig .tc := ⟨.hbm, 890, rfl⟩
abbrev main_v787 : Ref sig .tc := ⟨.hbm, 891, rfl⟩
abbrev main_v788 : Ref sig .tc := ⟨.hbm, 892, rfl⟩
abbrev main_v789 : Ref sig .tc := ⟨.hbm, 893, rfl⟩
abbrev main_v790 : Ref sig .tc := ⟨.hbm, 894, rfl⟩
abbrev main_v791 : Ref sig .tc := ⟨.hbm, 895, rfl⟩
abbrev main_v792 : Ref sig .tc := ⟨.hbm, 896, rfl⟩
abbrev main_v793 : Ref sig .tc := ⟨.hbm, 897, rfl⟩
abbrev main_v794 : Ref sig .tc := ⟨.hbm, 898, rfl⟩
abbrev main_v795 : Ref sig .tc := ⟨.hbm, 899, rfl⟩
abbrev main_v796 : Ref sig .tc := ⟨.hbm, 900, rfl⟩
abbrev main_v797 : Ref sig .tc := ⟨.hbm, 901, rfl⟩
abbrev main_v798 : Ref sig .tc := ⟨.hbm, 902, rfl⟩
abbrev main_v799 : Ref sig .tc := ⟨.hbm, 903, rfl⟩
abbrev main_v800 : Ref sig .tc := ⟨.hbm, 904, rfl⟩
abbrev main_v801 : Ref sig .tc := ⟨.hbm, 905, rfl⟩
abbrev main_v802 : Ref sig .tc := ⟨.hbm, 906, rfl⟩
abbrev main_cst_89 : Ref sig .tc := ⟨.hbm, 907, rfl⟩
abbrev main_v803 : Ref sig .tc := ⟨.hbm, 908, rfl⟩
abbrev main_cst_90 : Ref sig .tc := ⟨.hbm, 909, rfl⟩
abbrev main_v804 : Ref sig .tc := ⟨.hbm, 910, rfl⟩
abbrev main_v805 : Ref sig .tc := ⟨.hbm, 911, rfl⟩
abbrev main_cst_91 : Ref sig .tc := ⟨.hbm, 912, rfl⟩
abbrev main_v806 : Ref sig .tc := ⟨.hbm, 913, rfl⟩
abbrev main_cst_92 : Ref sig .tc := ⟨.hbm, 914, rfl⟩
abbrev main_v807 : Ref sig .tc := ⟨.hbm, 915, rfl⟩
abbrev main_v808 : Ref sig .tc := ⟨.hbm, 916, rfl⟩
abbrev main_cst_93 : Ref sig .tc := ⟨.hbm, 917, rfl⟩
abbrev main_v809 : Ref sig .tc := ⟨.hbm, 918, rfl⟩
abbrev main_cst_94 : Ref sig .tc := ⟨.hbm, 919, rfl⟩
abbrev main_v810 : Ref sig .tc := ⟨.hbm, 920, rfl⟩
abbrev main_v811 : Ref sig .tc := ⟨.hbm, 921, rfl⟩
abbrev main_cst_95 : Ref sig .tc := ⟨.hbm, 922, rfl⟩
abbrev main_v812 : Ref sig .tc := ⟨.hbm, 923, rfl⟩
abbrev main_cst_96 : Ref sig .tc := ⟨.hbm, 924, rfl⟩
abbrev main_v813 : Ref sig .tc := ⟨.hbm, 925, rfl⟩
abbrev main_v814 : Ref sig .tc := ⟨.hbm, 926, rfl⟩
abbrev main_v815 : Ref sig .tc := ⟨.hbm, 927, rfl⟩
abbrev main_v816 : Ref sig .tc := ⟨.hbm, 928, rfl⟩
abbrev main_v817 : Ref sig .tc := ⟨.hbm, 929, rfl⟩
abbrev main_v818 : Ref sig .tc := ⟨.hbm, 930, rfl⟩
abbrev main_v819 : Ref sig .tc := ⟨.hbm, 931, rfl⟩
abbrev main_v820 : Ref sig .tc := ⟨.hbm, 932, rfl⟩
abbrev main_v821 : Ref sig .tc := ⟨.hbm, 933, rfl⟩
abbrev main_v822 : Ref sig .tc := ⟨.hbm, 934, rfl⟩
abbrev main_v823 : Ref sig .tc := ⟨.hbm, 935, rfl⟩
abbrev main_v824 : Ref sig .tc := ⟨.hbm, 936, rfl⟩
abbrev main_v825 : Ref sig .tc := ⟨.hbm, 937, rfl⟩
abbrev main_v826 : Ref sig .tc := ⟨.hbm, 938, rfl⟩
abbrev main_v827 : Ref sig .tc := ⟨.hbm, 939, rfl⟩
abbrev main_v828 : Ref sig .tc := ⟨.hbm, 940, rfl⟩
abbrev main_cst_97 : Ref sig .tc := ⟨.hbm, 941, rfl⟩
abbrev main_v829 : Ref sig .tc := ⟨.hbm, 942, rfl⟩
abbrev main_v830 : Ref sig .tc := ⟨.hbm, 943, rfl⟩
abbrev main_v831 : Ref sig .tc := ⟨.hbm, 944, rfl⟩
abbrev main_cst_98 : Ref sig .tc := ⟨.hbm, 945, rfl⟩
abbrev main_v832 : Ref sig .tc := ⟨.hbm, 946, rfl⟩
abbrev main_v833 : Ref sig .tc := ⟨.hbm, 947, rfl⟩
abbrev main_v834 : Ref sig .tc := ⟨.hbm, 948, rfl⟩
abbrev main_cst_99 : Ref sig .tc := ⟨.hbm, 949, rfl⟩
abbrev main_v835 : Ref sig .tc := ⟨.hbm, 950, rfl⟩
abbrev main_v836 : Ref sig .tc := ⟨.hbm, 951, rfl⟩
abbrev main_cst_100 : Ref sig .tc := ⟨.hbm, 952, rfl⟩
abbrev main_v837 : Ref sig .tc := ⟨.hbm, 953, rfl⟩
abbrev main_v838 : Ref sig .tc := ⟨.hbm, 954, rfl⟩
abbrev main_v839 : Ref sig .tc := ⟨.hbm, 955, rfl⟩
abbrev main_v840 : Ref sig .tc := ⟨.hbm, 956, rfl⟩
abbrev main_v841 : Ref sig .tc := ⟨.hbm, 957, rfl⟩
abbrev main_v842 : Ref sig .tc := ⟨.hbm, 958, rfl⟩
abbrev main_v843 : Ref sig .tc := ⟨.hbm, 959, rfl⟩
abbrev main_v844 : Ref sig .tc := ⟨.hbm, 960, rfl⟩
abbrev main_v845 : Ref sig .tc := ⟨.hbm, 961, rfl⟩
abbrev main_v846 : Ref sig .tc := ⟨.hbm, 962, rfl⟩
abbrev main_v847 : Ref sig .tc := ⟨.hbm, 963, rfl⟩
abbrev main_v848 : Ref sig .tc := ⟨.hbm, 964, rfl⟩
abbrev main_cst_101 : Ref sig .tc := ⟨.hbm, 965, rfl⟩
abbrev main_v849 : Ref sig .tc := ⟨.hbm, 966, rfl⟩
abbrev main_v850 : Ref sig .tc := ⟨.hbm, 967, rfl⟩
abbrev main_cst_102 : Ref sig .tc := ⟨.hbm, 968, rfl⟩
abbrev main_v851 : Ref sig .tc := ⟨.hbm, 969, rfl⟩
abbrev main_v852 : Ref sig .tc := ⟨.hbm, 970, rfl⟩
abbrev main_v853 : Ref sig .tc := ⟨.hbm, 971, rfl⟩
abbrev main_v854 : Ref sig .tc := ⟨.hbm, 972, rfl⟩
abbrev main_v855 : Ref sig .tc := ⟨.hbm, 973, rfl⟩
abbrev main_v856 : Ref sig .tc := ⟨.hbm, 974, rfl⟩
abbrev main_cst_103 : Ref sig .tc := ⟨.hbm, 975, rfl⟩
abbrev main_v857 : Ref sig .tc := ⟨.hbm, 976, rfl⟩
abbrev main_v858 : Ref sig .tc := ⟨.hbm, 977, rfl⟩
abbrev main_cst_104 : Ref sig .tc := ⟨.hbm, 978, rfl⟩
abbrev main_v859 : Ref sig .tc := ⟨.hbm, 979, rfl⟩
abbrev main_v860 : Ref sig .tc := ⟨.hbm, 980, rfl⟩
abbrev main_cst_105 : Ref sig .tc := ⟨.hbm, 981, rfl⟩
abbrev main_v861 : Ref sig .tc := ⟨.hbm, 982, rfl⟩
abbrev main_v862 : Ref sig .tc := ⟨.hbm, 983, rfl⟩
abbrev main_v863 : Ref sig .tc := ⟨.hbm, 984, rfl⟩
abbrev main_v864 : Ref sig .tc := ⟨.hbm, 985, rfl⟩
abbrev main_v865 : Ref sig .tc := ⟨.hbm, 986, rfl⟩
abbrev main_v866 : Ref sig .tc := ⟨.hbm, 987, rfl⟩
abbrev main_v867 : Ref sig .tc := ⟨.hbm, 988, rfl⟩
abbrev main_v868 : Ref sig .tc := ⟨.hbm, 989, rfl⟩
abbrev main_v869 : Ref sig .tc := ⟨.hbm, 990, rfl⟩
abbrev main_v870 : Ref sig .tc := ⟨.hbm, 991, rfl⟩
abbrev main_v871 : Ref sig .tc := ⟨.hbm, 992, rfl⟩
abbrev main_v872 : Ref sig .tc := ⟨.hbm, 993, rfl⟩
abbrev main_v873 : Ref sig .tc := ⟨.hbm, 994, rfl⟩
abbrev main_v874 : Ref sig .tc := ⟨.hbm, 995, rfl⟩
abbrev main_v875 : Ref sig .tc := ⟨.hbm, 996, rfl⟩
abbrev main_v876 : Ref sig .tc := ⟨.hbm, 997, rfl⟩
abbrev main_v877 : Ref sig .tc := ⟨.hbm, 998, rfl⟩
abbrev main_v878 : Ref sig .tc := ⟨.hbm, 999, rfl⟩

abbrev nD : Nat := 1
abbrev τ : Topo := Topo.v7x

variable {F : FTy → Type} [FloatOps F]
-- ==== BwdOut.lean ====
abbrev S4112x1024 : Shape := ⟨2, ![4112, 1024]⟩
abbrev S1x1024x1024 : Shape := ⟨3, ![1, 1024, 1024]⟩
abbrev S4112x512 : Shape := ⟨2, ![4112, 512]⟩
abbrev S_ : Shape := ⟨0, ![]⟩
abbrev S4160x512 : Shape := ⟨2, ![4160, 512]⟩
abbrev S4160x1024 : Shape := ⟨2, ![4160, 1024]⟩
abbrev S1024x1024 : Shape := ⟨2, ![1024, 1024]⟩
abbrev S8x128 : Shape := ⟨2, ![8, 128]⟩
abbrev S4x4160x128 : Shape := ⟨3, ![4, 4160, 128]⟩
abbrev S832x1024 : Shape := ⟨2, ![832, 1024]⟩
abbrev S832x512 : Shape := ⟨2, ![832, 512]⟩
abbrev S4x832x128 : Shape := ⟨3, ![4, 832, 128]⟩
abbrev S512x1024 : Shape := ⟨2, ![512, 1024]⟩
abbrev S832x128 : Shape := ⟨2, ![832, 128]⟩
abbrev S1x832x128 : Shape := ⟨3, ![1, 832, 128]⟩

abbrev nBuf : Space → Nat
  | .hbm => 23
  | .vmem => 12
  | .smem => 0
  | _ => 0

abbrev bufTy : (tb : Table) → Fin (tcTables nBuf tb) → BufTy
  | .hbm, ⟨0, _⟩ => ⟨S4112x1024, .f32⟩
  | .hbm, ⟨1, _⟩ => ⟨S1x1024x1024, .f32⟩
  | .hbm, ⟨2, _⟩ => ⟨S4112x1024, .f32⟩
  | .hbm, ⟨3, _⟩ => ⟨S4112x512, .f32⟩
  | .hbm, ⟨4, _⟩ => ⟨S4112x512, .f32⟩
  | .hbm, ⟨5, _⟩ => ⟨S_, .i32⟩
  | .hbm, ⟨6, _⟩ => ⟨S_, .f32⟩
  | .hbm, ⟨7, _⟩ => ⟨S4160x512, .f32⟩
  | .hbm, ⟨8, _⟩ => ⟨S4160x512, .bf16⟩
  | .hbm, ⟨9, _⟩ => ⟨S_, .i32⟩
  | .hbm, ⟨10, _⟩ => ⟨S_, .f32⟩
  | .hbm, ⟨11, _⟩ => ⟨S4160x512, .f32⟩
  | .hbm, ⟨12, _⟩ => ⟨S4160x512, .bf16⟩
  | .hbm, ⟨13, _⟩ => ⟨S_, .i32⟩
  | .hbm, ⟨14, _⟩ => ⟨S_, .f32⟩
  | .hbm, ⟨15, _⟩ => ⟨S4160x1024, .f32⟩
  | .hbm, ⟨16, _⟩ => ⟨S1024x1024, .f32⟩
  | .hbm, ⟨17, _⟩ => ⟨S1024x1024, .bf16⟩
  | .hbm, ⟨18, _⟩ => ⟨S_, .f32⟩
  | .hbm, ⟨19, _⟩ => ⟨S8x128, .f32⟩
  | .hbm, ⟨20, _⟩ => ⟨S4x4160x128, .f32⟩
  | .hbm, ⟨21, _⟩ => ⟨S4160x512, .f32⟩
  | .hbm, ⟨22, _⟩ => ⟨S1024x1024, .f32⟩
  | .local _ .vmem, ⟨0, _⟩ => ⟨S832x1024, .f32⟩
  | .local _ .vmem, ⟨1, _⟩ => ⟨S832x1024, .f32⟩
  | .local _ .vmem, ⟨2, _⟩ => ⟨S832x512, .bf16⟩
  | .local _ .vmem, ⟨3, _⟩ => ⟨S832x512, .bf16⟩
  | .local _ .vmem, ⟨4, _⟩ => ⟨S832x512, .bf16⟩
  | .local _ .vmem, ⟨5, _⟩ => ⟨S832x512, .bf16⟩
  | .local _ .vmem, ⟨6, _⟩ => ⟨S1024x1024, .bf16⟩
  | .local _ .vmem, ⟨7, _⟩ => ⟨S4x832x128, .f32⟩
  | .local _ .vmem, ⟨8, _⟩ => ⟨S4x832x128, .f32⟩
  | .local _ .vmem, ⟨9, _⟩ => ⟨S832x512, .f32⟩
  | .local _ .vmem, ⟨10, _⟩ => ⟨S832x512, .f32⟩
  | .local _ .vmem, ⟨11, _⟩ => ⟨S1024x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S832x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x832x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S832x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdOutRefIdeal.lean ====
abbrev S4112x1024 : Shape := ⟨2, ![4112, 1024]⟩
abbrev S1x1024x1024 : Shape := ⟨3, ![1, 1024, 1024]⟩
abbrev S1024x1024 : Shape := ⟨2, ![1024, 1024]⟩
abbrev S_ : Shape := ⟨0, ![]⟩
abbrev S4160x1024 : Shape := ⟨2, ![4160, 1024]⟩
abbrev S4160x512 : Shape := ⟨2, ![4160, 512]⟩
abbrev S4160x4x128 : Shape := ⟨3, ![4160, 4, 128]⟩
abbrev S4x4160x128 : Shape := ⟨3, ![4, 4160, 128]⟩

abbrev nBuf : Space → Nat
  | .hbm => 17
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024x1024, .f32⟩
  | .hbm, ⟨2, _⟩ => ⟨S4112x1024, .f32⟩
  | .hbm, ⟨3, _⟩ => ⟨S1024x1024, .f32⟩
  | .hbm, ⟨4, _⟩ => ⟨S4112x1024, .f32⟩
  | .hbm, ⟨5, _⟩ => ⟨S1024x1024, .f32⟩
  | .hbm, ⟨6, _⟩ => ⟨S1024x1024, .f32⟩
  | .hbm, ⟨7, _⟩ => ⟨S4112x1024, .f32⟩
  | .hbm, ⟨8, _⟩ => ⟨S1x1024x1024, .f32⟩
  | .hbm, ⟨9, _⟩ => ⟨S_, .i32⟩
  | .hbm, ⟨10, _⟩ => ⟨S_, .f32⟩
  | .hbm, ⟨11, _⟩ => ⟨S4160x1024, .f32⟩
  | .hbm, ⟨12, _⟩ => ⟨S4160x512, .f32⟩
  | .hbm, ⟨13, _⟩ => ⟨S4160x4x128, .f32⟩
  | .hbm, ⟨14, _⟩ => ⟨S4x4160x128, .f32⟩
  | .hbm, ⟨15, _⟩ => ⟨S4160x512, .f32⟩
  | .hbm, ⟨16, _⟩ => ⟨S1024x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== GradFfn.lean ====
abbrev S4112x1024 : Shape := ⟨2, ![4112, 1024]⟩
abbrev S4112x2816 : Shape := ⟨2, ![4112, 2816]⟩
abbrev S_ : Shape := ⟨0, ![]⟩
abbrev S4160x1024 : Shape := ⟨2, ![4160, 1024]⟩
abbrev S4160x2816 : Shape := ⟨2, ![4160, 2816]⟩
abbrev S4160x4x704 : Shape := ⟨3, ![4160, 4, 704]⟩
abbrev S4x4160x704 : Shape := ⟨3, ![4, 4160, 704]⟩
abbrev S4x704x1024 : Shape := ⟨3, ![4, 704, 1024]⟩
abbrev S1040x1024 : Shape := ⟨2, ![1040, 1024]⟩
abbrev S1x1040x704 : Shape := ⟨3, ![1, 1040, 704]⟩
abbrev S1x704x1024 : Shape := ⟨3, ![1, 704, 1024]⟩
abbrev S1040x704 : Shape := ⟨2, ![1040, 704]⟩
abbrev S704x1024 : Shape := ⟨2, ![704, 1024]⟩

abbrev nBuf : Space → Nat
  | .hbm => 34
  | .vmem => 16
  | .smem => 0
  | _ => 0

abbrev bufTy : (tb : Table) → Fin (tcTables nBuf tb) → BufTy
  | .hbm, ⟨0, _⟩ => ⟨S4112x1024, .f32⟩
  | .hbm, ⟨1, _⟩ => ⟨S4112x2816, .f32⟩
  | .hbm, ⟨2, _⟩ => ⟨S4112x2816, .f32⟩
  | .hbm, ⟨3, _⟩ => ⟨S4112x2816, .f32⟩
  | .hbm, ⟨4, _⟩ => ⟨S4112x1024, .f32⟩
  | .hbm, ⟨5, _⟩ => ⟨S_, .i32⟩
  | .hbm, ⟨6, _⟩ => ⟨S_, .f32⟩
  | .hbm, ⟨7, _⟩ => ⟨S4160x1024, .f32⟩
  | .hbm, ⟨8, _⟩ => ⟨S4160x1024, .bf16⟩
  | .hbm, ⟨9, _⟩ => ⟨S_, .i32⟩
  | .hbm, ⟨10, _⟩ => ⟨S_, .f32⟩
  | .hbm, ⟨11, _⟩ => ⟨S4160x2816, .f32⟩
  | .hbm, ⟨12, _⟩ => ⟨S4160x4x704, .f32⟩
  | .hbm, ⟨13, _⟩ => ⟨S4x4160x704, .f32⟩
  | .hbm, ⟨14, _⟩ => ⟨S4x4160x704, .bf16⟩
  | .hbm, ⟨15, _⟩ => ⟨S_, .i32⟩
  | .hbm, ⟨16, _⟩ => ⟨S_, .f32⟩
  | .hbm, ⟨17, _⟩ => ⟨S4160x2816, .f32⟩
  | .hbm, ⟨18, _⟩ => ⟨S4160x4x704, .f32⟩
  | .hbm, ⟨19, _⟩ => ⟨S4x4160x704, .f32⟩
  | .hbm, ⟨20, _⟩ => ⟨S4x4160x704, .bf16⟩
  | .hbm, ⟨21, _⟩ => ⟨S_, .i32⟩
  | .hbm, ⟨22, _⟩ => ⟨S_, .f32⟩
  | .hbm, ⟨23, _⟩ => ⟨S4160x2816, .f32⟩
  | .hbm, ⟨24, _⟩ => ⟨S4160x4x704, .f32⟩
  | .hbm, ⟨25, _⟩ => ⟨S4x4160x704, .f32⟩
  | .hbm, ⟨26, _⟩ => ⟨S4x4160x704, .bf16⟩
  | .hbm, ⟨27, _⟩ => ⟨S_, .i32⟩
  | .hbm, ⟨28, _⟩ => ⟨S_, .f32⟩
  | .hbm, ⟨29, _⟩ => ⟨S4160x1024, .f32⟩
  | .hbm, ⟨30, _⟩ => ⟨S4160x1024, .bf16⟩
  | .hbm, ⟨31, _⟩ => ⟨S4x704x1024, .f32⟩
  | .hbm, ⟨32, _⟩ => ⟨S4x704x1024, .f32⟩
  | .hbm, ⟨33, _⟩ => ⟨S4x704x1024, .f32⟩
  | .local _ .vmem, ⟨0, _⟩ => ⟨S1040x1024, .bf16⟩
  | .local _ .vmem, ⟨1, _⟩ => ⟨S1040x1024, .bf16⟩
  | .local _ .vmem, ⟨2, _⟩ => ⟨S1x1040x704, .bf16⟩
  | .local _ .vmem, ⟨3, _⟩ => ⟨S1x1040x704, .bf16⟩
  | .local _ .vmem, ⟨4, _⟩ => ⟨S1x1040x704, .bf16⟩
  | .local _ .vmem, ⟨5, _⟩ => ⟨S1x1040x704, .bf16⟩
  | .local _ .vmem, ⟨6, _⟩ => ⟨S1x1040x704, .bf16⟩
  | .local _ .vmem, ⟨7, _⟩ => ⟨S1x1040x704, .bf16⟩
  | .local _ .vmem, ⟨8, _⟩ => ⟨S1040x1024, .bf16⟩
  | .local _ .vmem, ⟨9, _⟩ => ⟨S1040x1024, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_call4_v0 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_14 : BitVec 32 := 0#32
  let v15 : BitVec 1 := Scalar.cmpi .ne v14 c0_i32_14
  v15

def k0_cond2 (i : grid0.Coords) : BitVec 1 :=
  let arg1 : BitVec 32 := BitVec.ofNat 32 (i 1).val
  let c0_i32_15 : BitVec 32 := 0#32
  let v16 : BitVec 1 := Scalar.cmpi .sgt arg1 c0_i32_15
  let v17 : BitVec 32 := Scalar.extui v16
  let c0_i32_16 : BitVec 32 := 0#32
  let v18 : BitVec 1 := Scalar.cmpi .ne v17 c0_i32_16
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1040x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1040x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1040x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GradFfnRefIdeal.lean ====
abbrev S4112x1024 : Shape := ⟨2, ![4112, 1024]⟩
abbrev S4112x2816 : Shape := ⟨2, ![4112, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x2816, .f32⟩
  | .hbm, ⟨2, _⟩ => ⟨S4112x2816, .f32⟩
  | .hbm, ⟨3, _⟩ => ⟨S4112x2816, .f32⟩
  | .hbm, ⟨4, _⟩ => ⟨S4112x1024, .f32⟩
  | .hbm, ⟨5, _⟩ => ⟨S_, .f32⟩
  | .hbm, ⟨6, _⟩ => ⟨S1024x2816, .f32⟩
  | .hbm, ⟨7, _⟩ => ⟨S_, .f32⟩
  | .hbm, ⟨8, _⟩ => ⟨S2816x1024, .f32⟩
  | .hbm, ⟨9, _⟩ => ⟨S4112x2816, .f32⟩
  | .hbm, ⟨10, _⟩ => ⟨S4112x2816, .f32⟩
  | .hbm, ⟨11, _⟩ => ⟨S4112x1024, .f32⟩
  | .hbm, ⟨12, _⟩ => ⟨S1024x2816, .f32⟩
  | .hbm, ⟨13, _⟩ => ⟨S2816x1024, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S2816x1024, .f32⟩
  | .hbm, ⟨19, _⟩ => ⟨S4x704x1024, .f32⟩
  | .hbm, ⟨20, _⟩ => ⟨S2816x1024, .f32⟩
  | .hbm, ⟨21, _⟩ => ⟨S4x704x1024, .f32⟩
  | .hbm, ⟨22, _⟩ => ⟨S4x704x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Adamw.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Rows.lean ====
/-
  The mathematics of one row's root-mean-square norm and of its gradient, over the extended reals and away from any
  program: `rinv` is the reciprocal root of a row's mean square, and `rms_grad` says that the derivative of the norm
  in the form that differentiation writes it (two equal halves through the square) is the form the kernels compute
  (the projection away from the normalised row). It needs the row and the cotangent to be real numbers.
-/
module

public import Idealize.ShloMosaic.PureOps.Ideal
public import Idealize.ShloMosaic.PureOps.Ideal.Laws
public import Idealize.ShloMosaic.Lib.IdealHost

@[expose] public section

noncomputable section

namespace Cert.Rows

open Idealize.ShloMosaic

/-- An extended real that is a real number. -/
def Real' (x : EReal) : Prop := ∃ r : ℝ, x = (r : EReal)

theorem Real'.coe (r : ℝ) : Real' (r : EReal) := ⟨r, rfl⟩
theorem Real'.zero : Real' 0 := ⟨0, rfl⟩
theorem Real'.add {x y : EReal} : Real' x → Real' y → Real' (x + y) := by
  rintro ⟨a, rfl⟩ ⟨b, rfl⟩; exact ⟨a + b, by push_cast; rfl⟩
theorem Real'.sub {x y : EReal} : Real' x → Real' y → Real' (x - y) := by
  rintro ⟨a, rfl⟩ ⟨b, rfl⟩; exact ⟨a - b, by push_cast; rfl⟩
theorem Real'.mul {x y : EReal} : Real' x → Real' y → Real' (x * y) := by
  rintro ⟨a, rfl⟩ ⟨b, rfl⟩; exact ⟨a * b, by push_cast; rfl⟩
theorem Real'.neg {x : EReal} : Real' x → Real' (-x) := by
  rintro ⟨a, rfl⟩; exact ⟨-a, by push_cast; rfl⟩
theorem Real'.sum {ι : Type*} (s : Finset ι) {f : ι → EReal} (h : ∀ i, Real' (f i)) : Real' (∑ i ∈ s, f i) := by
  classical
  induction s using Finset.induction_on with
  | empty => simpa using Real'.zero
  | insert a s ha ih => rw [Finset.sum_insert ha]; exact (h a).add ih

/-- A real-valued family of extended reals is the coercion of a family of reals. -/
theorem lift {ι : Type*} {f : ι → EReal} (h : ∀ i, Real' (f i)) : ∃ g : ι → ℝ, f = fun i => (g i : EReal) :=
  ⟨fun i => (h i).choose, funext fun i => (h i).choose_spec⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What a comparison `|x| < +∞` that holds says of `x`. -/
theorem real_of_abs_lt {x : EReal} (h : max x (-x) < ⊤) : Real' x := by
  induction x with
  | bot => simp at h
  | top => simp at h
  | coe r => exact ⟨r, rfl⟩

/-- The norms' small constant, as the programs spell it, and that it is a positive real. -/
abbrev eps : EReal := Ideal.ofBits .f32 0x358637BD#32

theorem eps_pos : ∃ e : ℝ, 0 < e ∧ eps = (e : EReal) := by
  refine ⟨8796093 / 8796093022208, by norm_num, ?_⟩
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

/-- A row's mean square plus the small constant, and its reciprocal root. -/
def msq {n : ℕ} (d : EReal) (x : Fin n → EReal) : EReal := Ideal.div (∑ k, x k * x k) d + eps
def rinv {n : ℕ} (d : EReal) (x : Fin n → EReal) : EReal := Ideal.rsqrt (msq d x)

/-- The divisor of a mean: a positive real. -/
def Width (d : EReal) : Prop := ∃ D : ℝ, 0 < D ∧ d = (D : EReal)

theorem width_1024 : Width (Ideal.ofBits .f32 0x44800000#32) := ⟨1024, by norm_num, word_1024⟩
theorem width_512 : Width (Ideal.ofBits .f32 0x44000000#32) := ⟨512, by norm_num, word_512⟩

theorem msq_real {n : ℕ} {d : EReal} (hd : Width d) {x : Fin n → EReal} (hx : ∀ k, Real' (x k)) :
    ∃ s : ℝ, 0 < s ∧ msq d x = (s : EReal) := by
  obtain ⟨D, hD, rfl⟩ := hd
  obtain ⟨X, rfl⟩ := lift hx
  obtain ⟨e, he, h⟩ := eps_pos
  refine ⟨(∑ k, X k * X k) * (1 / D) + e, ?_, ?_⟩
  · have : 0 ≤ ∑ k, X k * X k := Finset.sum_nonneg fun k _ => mul_self_nonneg _
    positivity
  · rw [msq, h, Ideal.div_coe hD.ne']
    simp only [EReal.coe_add, EReal.coe_mul, coe_sum]

theorem rinv_real {n : ℕ} {d : EReal} (hd : Width d) {x : Fin n → EReal} (hx : ∀ k, Real' (x k)) : Real' (rinv d x) := by
  obtain ⟨s, hs, h⟩ := msq_real hd hx
  rw [rinv, h, Ideal.rsqrt_coe, if_neg (not_lt.mpr hs.le), if_neg hs.ne']
  exact Real'.coe _

theorem div_real {d : EReal} (hd : Width d) {x : EReal} : Real' x → Real' (Ideal.div x d) := by
  obtain ⟨D, hD, rfl⟩ := hd
  rintro ⟨a, rfl⟩
  rw [Ideal.div_coe hD.ne', ← EReal.coe_mul]
  exact Real'.coe _

/-- The norm's gradient at column `i` of a row, as the kernels compute it. -/
def grad {n : ℕ} (d : EReal) (x dn : Fin n → EReal) (i : Fin n) : EReal :=
  rinv d x * (dn i - x i * rinv d x * Ideal.div (∑ k, dn k * (x k * rinv d x)) d)

/-- The scalar that multiplies the row in the norm's derivative, once for each factor of the square. -/
def half {n : ℕ} (d : EReal) (x dn : Fin n → EReal) : EReal :=
  Ideal.div ((∑ k, x k * dn k) * (Ideal.ofBits .f32 0xBF000000#32 * Ideal.div (rinv d x) (msq d x))) d

/-- The derivative as differentiation writes it is the kernels' form; what is added to it, `ct`, may be any value. -/
theorem rms_grad {n : ℕ} {d : EReal} (hd : Width d) {x dn : Fin n → EReal} (hx : ∀ k, Real' (x k)) (hdn : ∀ k, Real' (dn k))
    (ct : EReal) (i : Fin n) :
    ct + dn i * rinv d x + x i * half d x dn + half d x dn * x i = ct + grad d x dn i := by
  obtain ⟨s, hs, h⟩ := msq_real hd hx
  have hr : rinv d x = (((Real.sqrt s)⁻¹ : ℝ) : EReal) := by
    rw [rinv, h, Ideal.rsqrt_coe, if_neg (not_lt.mpr hs.le), if_neg hs.ne']
  obtain ⟨D, hD, rfl⟩ := hd
  obtain ⟨X, rfl⟩ := lift hx
  obtain ⟨N, rfl⟩ := lift hdn
  have h2 : (Real.sqrt s)⁻¹ * (Real.sqrt s)⁻¹ = 1 / s := by
    rw [← mul_inv, Real.mul_self_sqrt hs.le, one_div]
  rw [grad, half, hr, h, word_neg_half]
  generalize (Real.sqrt s)⁻¹ = r at h2
  simp only [Ideal.div_coe hD.ne', Ideal.div_coe hs.ne', ← EReal.coe_mul, ← coe_sum]
  rw [add_assoc ct, add_assoc ct, ← EReal.coe_add, ← EReal.coe_add, ← EReal.coe_sub, ← EReal.coe_mul]
  congr 2
  have h3 : ∑ k, N k * (X k * r) = r * ∑ k, X k * N k := by
    rw [Finset.mul_sum]; exact Finset.sum_congr rfl fun k _ => by ring
  rw [h3]
  generalize ∑ k, X k * N k = S
  have h4 : r * (1 / s) = r * r * r := by rw [← h2]; ring
  have : (1 / D) * (S * (-(1 / 2) * (r * (1 / s)))) = (1 / D) * (S * (-(1 / 2) * (r * r * r))) := by rw [h4]
  linear_combination (2 * X i) * this

/-- Where the cotangent's row is zero the kernels' gradient is zero, whatever the row is. -/
theorem grad_zero {n : ℕ} {d : EReal} (hd : Width d) {x dn : Fin n → EReal} (hdn : ∀ k, dn k = 0) (i : Fin n) : grad d x dn i = 0 := by
  obtain ⟨D, hD, rfl⟩ := hd
  simp [grad, hdn, Ideal.div_coe hD.ne']

/-- The padding value, an integer zero converted, is zero. -/
theorem sitofp_zero : (FloatOps.sitofp FTy.f32 0#32 : Ideal .f32) = (0 : EReal) := by
  simp [FloatOps.sitofp]

/-- The precondition's comparison says the element is a real number. -/
theorem real_of_cmp {x : Ideal .f32}
    (h : BitVec.ofBool (decide (FloatOps.absf x < Ideal.ofBits FTy.f32 2139095040#32)) = 1#1) : Real' (x : EReal) := by
  have hi : Ideal.ofBits FTy.f32 2139095040#32 = (⊤ : EReal) := by simp [Ideal.ofBits, Ideal.ieee]
  rw [hi] at h
  refine real_of_abs_lt (x := x) ?_
  by_contra hn
  rw [decide_eq_false (show ¬ FloatOps.absf x < (⊤ : EReal) from hn)] at h
  exact absurd h (by decide)

end Cert.Rows

end
-- ==== Proof.Pieces.lean ====
/-
  Reading, at an index, what a list of rectangular stores into a matrix leaves: the last store that covers the index
  gives its element, and a store that does not cover it is passed over. Shared by every call whose kernel fills a
  buffer in parts.
-/
module

public import Idealize.ShloMosaic.Lib.Pipeline.Value
public import Idealize.ShloMosaic.Lib.Pipeline.ReadBack
public import Idealize.ShloMosaic.Lib.Pointwise

@[expose] public section

noncomputable section

namespace Cert.Pieces

open Idealize.ShloMosaic

variable {Val : EltTy → Type} [∀ e, Nonempty (Val e)] {e : EltTy} {m n h w r0 c0 : ℕ}

/-- The zero offsets of a whole matrix. -/
theorem hz : (![0, 0] : Fin 2 → Nat) = fun _ => 0 := funext fun a => by fin_cases a <;> rfl

/-- The newest store covers the index. -/
theorem canon_hit (inb : ∀ a, (![r0, c0] : Fin 2 → ℕ) a + (![h, w] : Fin 2 → ℕ) a ≤ (⟨2, ![m, n]⟩ : Shape).size a)
    (v : (⟨2, ![h, w]⟩ : Shape).Idx → Val e) (L : List (View.Piece Val ⟨2, ![m, n]⟩ e)) (k : Fin m) (j : Fin n) (k' : Fin h) (j' : Fin w)
    (hk : k.val = r0 + k'.val) (hj : j.val = c0 + j'.val) :
    View.canon (⟨Rect.unit (s := ⟨2, ![m, n]⟩) ![r0, c0] ![h, w] inb, v⟩ :: L) (ix2 k j) = v (ix2 k' j') := by
  have e : (ix2 k j : (⟨2, ![m, n]⟩ : Shape).Idx) = (Rect.unit (s := ⟨2, ![m, n]⟩) ![r0, c0] ![h, w] inb).emb (ix2 k' j' : (⟨2, ![h, w]⟩ : Shape).Idx) := by
    funext a; apply Fin.ext
    rw [Rect.emb_apply]
    fin_cases a
    · show k.val = r0 + 1 * k'.val; omega
    · show j.val = c0 + 1 * j'.val; omega
  rw [e]
  exact View.canon_cons_emb (Rect.unit (s := ⟨2, ![m, n]⟩) ![r0, c0] ![h, w] inb) v L (ix2 k' j')

/-- The newest store misses the index. -/
theorem canon_miss (inb : ∀ a, (![r0, c0] : Fin 2 → ℕ) a + (![h, w] : Fin 2 → ℕ) a ≤ (⟨2, ![m, n]⟩ : Shape).size a)
    (v : (⟨2, ![h, w]⟩ : Shape).Idx → Val e) (L : List (View.Piece Val ⟨2, ![m, n]⟩ e)) (k : Fin m) (j : Fin n)
    (hm : ¬ (r0 ≤ k.val ∧ k.val < r0 + h ∧ c0 ≤ j.val ∧ j.val < c0 + w)) :
    View.canon (⟨Rect.unit (s := ⟨2, ![m, n]⟩) ![r0, c0] ![h, w] inb, v⟩ :: L) (ix2 k j) = View.canon L (ix2 k j) := by
  refine View.canon_cons_of_not_mem _ L fun hy => hm ?_
  rw [Rect.mem_set_unit] at hy
  exact ⟨(hy 0).1, (hy 0).2, (hy 1).1, (hy 1).2⟩

/-- The same for a store of one matrix into a stack of matrices: it covers the index when the matrix is the index's. -/
theorem canon_hit3 {d k0 : ℕ} (inb : ∀ a, (![k0, 0, 0] : Fin 3 → ℕ) a + (![1, m, n] : Fin 3 → ℕ) a ≤ (⟨3, ![d, m, n]⟩ : Shape).size a)
    (v : (⟨3, ![1, m, n]⟩ : Shape).Idx → Val e) (L : List (View.Piece Val ⟨3, ![d, m, n]⟩ e)) (k : Fin d) (i : Fin m) (j : Fin n) (hk : k.val = k0) :
    View.canon (⟨Rect.unit (s := ⟨3, ![d, m, n]⟩) ![k0, 0, 0] ![1, m, n] inb, v⟩ :: L) (ix3 k i j) = v (ix3 0 i j) := by
  have e : (ix3 k i j : (⟨3, ![d, m, n]⟩ : Shape).Idx) = (Rect.unit (s := ⟨3, ![d, m, n]⟩) ![k0, 0, 0] ![1, m, n] inb).emb (ix3 0 i j : (⟨3, ![1, m, n]⟩ : Shape).Idx) := by
    funext a; apply Fin.ext
    rw [Rect.emb_apply]
    fin_cases a
    · show k.val = k0 + 1 * 0; omega
    · show i.val = 0 + 1 * i.val; omega
    · show j.val = 0 + 1 * j.val; omega
  rw [e]
  exact View.canon_cons_emb (Rect.unit (s := ⟨3, ![d, m, n]⟩) ![k0, 0, 0] ![1, m, n] inb) v L (ix3 0 i j)

theorem canon_miss3 {d k0 : ℕ} (inb : ∀ a, (![k0, 0, 0] : Fin 3 → ℕ) a + (![1, m, n] : Fin 3 → ℕ) a ≤ (⟨3, ![d, m, n]⟩ : Shape).size a)
    (v : (⟨3, ![1, m, n]⟩ : Shape).Idx → Val e) (L : List (View.Piece Val ⟨3, ![d, m, n]⟩ e)) (k : Fin d) (i : Fin m) (j : Fin n) (hk : k.val ≠ k0) :
    View.canon (⟨Rect.unit (s := ⟨3, ![d, m, n]⟩) ![k0, 0, 0] ![1, m, n] inb, v⟩ :: L) (ix3 k i j) = View.canon L (ix3 k i j) := by
  refine View.canon_cons_of_not_mem _ L fun hy => hk ?_
  rw [Rect.mem_set_unit] at hy
  have h0 : k0 ≤ k.val ∧ k.val < k0 + 1 := hy 0
  omega

end Cert.Pieces

end
-- ==== Proof.BwdInPoint.lean ====
/-
  What one grid point of the input projection's backward kernel leaves in its three output buffers, read at an index:
  the gradient of the residual stream (window 6), and what it adds to the weight gradient (window 7, stored in two
  column halves) and to the norm weight's gradient (window 8). The first point starts both sums at zero.
-/
module

public import proofs.«01_k».proof.Proof.Gen.BwdInIdeal.Value
public import proofs.«01_k».proof.Proof.Rows
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.BwdInIdeal.Point

open Idealize.ShloMosaic Idealize.ShloMosaic.TcCoe Idealize.SL.Sem
open Cert.BwdInIdeal Cert.BwdInIdeal.Gen Cert.Rows Cert.Pieces

/-- The divisor of the mean over the model width, as the program spells it. -/
abbrev width : EReal := Ideal.ofBits .f32 0x44800000#32

variable (x0 x1 : Vec Ideal S832x512 .f32) (x2 x3 : Vec Ideal S832x1024 .f32) (x4 : Vec Ideal S1x1024 .f32)
  (x5 : Vec Ideal S1024x1024 .bf16) (xo7 : Vec Ideal S1024x1024 .f32) (xo8 : Vec Ideal S1x1024 .f32)

/-! The row arithmetic, for a block or an array of any number `n` of rows. -/

section Rows

variable {n : ℕ} (u v : (⟨2, ![n, 512]⟩ : Shape).Idx → EReal) (h : (⟨2, ![n, 1024]⟩ : Shape).Idx → EReal)
  (g : (⟨2, ![1, 1024]⟩ : Shape).Idx → EReal) (w : (⟨2, ![1024, 1024]⟩ : Shape).Idx → EReal)

/-- The cotangent of the normalised rows: both halves of the projection's cotangent through the weight. -/
def dn (p : Fin n) (k : Fin 1024) : EReal :=
  (∑ j : Fin 512, u (ix2 p j) * w (ix2 k ⟨j, by omega⟩)) + ∑ j : Fin 512, v (ix2 p j) * w (ix2 k ⟨512 + j, by omega⟩)

/-- A row. -/
def row (p : Fin n) : Fin 1024 → EReal := fun k => h (ix2 p k)

/-- What a row adds to the weight gradient. -/
def termW (k j : Fin 1024) (p : Fin n) : EReal :=
  h (ix2 p k) * rinv width (row h p) * g (ix2 0 k) * (if hj : j.val < 512 then u (ix2 p ⟨j, hj⟩) else v (ix2 p ⟨j - 512, by omega⟩))

/-- What a row adds to the norm weight's gradient. -/
def termG (k : Fin 1024) (p : Fin n) : EReal := dn u v w p k * (h (ix2 p k) * rinv width (row h p))

/-- The gradient of a row of the residual stream, without what the stream's own cotangent adds. -/
def dh (p : Fin n) (k : Fin 1024) : EReal := grad width (row h p) (fun k => dn u v w p k * g (ix2 0 k)) k

end Rows

/-- What a point adds to the weight gradient. -/
def addW (k j : Fin 1024) : EReal := ∑ p : Fin 832, termW x0 x1 x2 x4 k j p

/-- What a point adds to the norm weight's gradient. -/
def addG (k : Fin 1024) : EReal := ∑ p : Fin 832, termG x0 x1 x2 x5 k p

/-- The loads of the weight's two column halves. -/
abbrev wl : Vec Ideal S1024x512 .bf16 := View.ld x5 (Rect.unit ![0, 0] ![1024, 512] inb_S1024x1024_S1024x512_0_0)
abbrev wr : Vec Ideal S1024x512 .bf16 := View.ld x5 (Rect.unit ![0, 512] ![1024, 512] inb_S1024x1024_S1024x512_0_512)

theorem pay8_apply (p : Fin 832) (k : Fin 1024) : k0_pay8 (F := Ideal) x0 x1 (wl x5) (wr x5) (ix2 p k) = dn x0 x1 x5 p k := by
  pointwise [k0_pay8, k0_pay6, k0_pay7, wl, wr, dn]

theorem pay10_apply (p : Fin 832) : k0_pay10 (F := Ideal) x2 (ix2 p 0) = rinv width (row x2 p) := by
  pointwise [k0_pay10, k0_pay9, rinv, msq, row]

theorem pay11_apply (p : Fin 832) (k : Fin 1024) : k0_pay11 (F := Ideal) x2 (ix2 p k) = x2 (ix2 p k) * rinv width (row x2 p) := by
  pointwise [k0_pay11, k0_pay9]
  exact congrArg _ (pay10_apply x2 p)

theorem pay3_apply (p : Fin 832) (k : Fin 1024) :
    k0_pay3 (F := Ideal) (k0_pay8 (F := Ideal) x0 x1 (wl x5) (wr x5)) (k0_pay10 (F := Ideal) x2) (k0_pay11 (F := Ideal) x2) x4 x3 (ix2 p k)
      = x3 (ix2 p k) + dh x0 x1 x2 x4 x5 p k := by
  pointwise [k0_pay3]
  simp only [pay8_apply, pay10_apply, pay11_apply, dh, grad]
  rfl

theorem pay2_apply (k : Fin 1024) :
    k0_pay2 (F := Ideal) (k0_pay8 (F := Ideal) x0 x1 (wl x5) (wr x5)) (k0_pay11 (F := Ideal) x2) xo8 (ix2 0 k) = xo8 (ix2 0 k) + addG x0 x1 x2 x5 k := by
  pointwise [k0_pay2]
  simp only [pay8_apply, pay11_apply, addG, termG]

theorem pay13_apply (v : Vec Ideal S1024x512 .f32) (k : Fin 1024) (j : Fin 512) :
    k0_pay13 (F := Ideal) x0 x2 x4 v (ix2 k j) = v (ix2 k j) + addW x0 x1 x2 x4 k ⟨j, by omega⟩ := by
  pointwise [k0_pay13, k0_pay12, k0_pay6]
  simp only [pay11_apply, addW, termW, dif_pos j.isLt]

theorem pay1_apply (v : Vec Ideal S1024x512 .f32) (k : Fin 1024) (j : Fin 512) :
    k0_pay1 (F := Ideal) (k0_pay7 (F := Ideal) x1) (k0_pay12 (F := Ideal) x2 x4) v (ix2 k j) = v (ix2 k j) + addW x0 x1 x2 x4 k ⟨512 + j, by omega⟩ := by
  pointwise [k0_pay1, k0_pay12, k0_pay7]
  have h : ¬ (512 + j.val < 512) := by omega
  simp only [pay11_apply, addW, termW, dif_neg h, Nat.add_sub_cancel_left]

/-- Two stores of column halves tile the accumulator. -/
theorem canon_halves (w0 w1 : Vec Ideal S1024x512 .f32) (L : List (View.Piece (Elt Ideal) S1024x1024 .f32)) (G : S1024x1024.Idx → EReal)
    (h0 : ∀ (k : Fin 1024) (j : Fin 512), w0 (ix2 k j) = G (ix2 k ⟨j, by omega⟩))
    (h1 : ∀ (k : Fin 1024) (j : Fin 512), w1 (ix2 k j) = G (ix2 k ⟨512 + j, by omega⟩)) (y : S1024x1024.Idx) :
    View.canon (⟨Rect.unit ![0, 512] ![1024, 512] inb_S1024x1024_S1024x512_0_512, w1⟩
      :: ⟨Rect.unit ![0, 0] ![1024, 512] inb_S1024x1024_S1024x512_0_0, w0⟩ :: L) y = G y := by
  obtain ⟨k, j, rfl⟩ : ∃ k j, y = ix2 k j := ⟨y 0, y 1, by pointwise⟩
  by_cases hj : j.val < 512
  · rw [Pieces.canon_miss _ _ _ _ _ (by omega), Pieces.canon_hit _ _ _ _ _ k ⟨j, hj⟩ (by simp) (by simp), h0]
  · rw [Pieces.canon_hit _ _ _ _ _ k ⟨j - 512, by omega⟩ (by simp) (by simp; omega), h1]
    congr 2; apply Fin.ext; simp; omega

section Outs

variable (c : Dev nD) (i : grid0.Coords) (a1 : Memref sig .tc .vmem S832x512 .f32) (h1 : a1.IsWhole) (a2 : Memref sig .tc .vmem S832x512 .f32) (h2 : a2.IsWhole)
  (a3 : Memref sig .tc .vmem S832x1024 .f32) (h3 : a3.IsWhole) (a4 : Memref sig .tc .vmem S832x1024 .f32) (h4 : a4.IsWhole) (a5 : Memref sig .tc .vmem S1x1024 .f32) (h5 : a5.IsWhole)
  (a6 : Memref sig .tc .vmem S1024x1024 .bf16) (h6 : a6.IsWhole) (a7 : Memref sig .tc .vmem S832x1024 .f32) (h7 : a7.IsWhole) (a8 : Memref sig .tc .vmem S1024x1024 .f32) (h8 : a8.IsWhole)
  (a9 : Memref sig .tc .vmem S1x1024 .f32) (h9 : a9.IsWhole)

theorem out_A_6 (hc : cond0_0 i) (p : Fin 832) (k : Fin 1024) :
    out0_A_6 c i a1 h1 a2 h2 a3 h3 a4 h4 a5 h5 a6 h6 a7 h7 a8 h8 a9 h9 hc x0 x1 x2 x3 x4 x5 (ix2 p k)
      = x3 (ix2 p k) + dh x0 x1 x2 x4 x5 p k := by
  unfold out0_A_6
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S832x512) hz, View.ld_unit_zero (S := S832x1024) hz, View.ld_unit_zero (S := S1x1024) hz]
  exact pay3_apply x0 x1 x2 x3 x4 x5 p k

theorem out_B_6 (hc : ¬cond0_0 i) (p : Fin 832) (k : Fin 1024) :
    out0_B_6 c i a1 h1 a2 h2 a3 h3 a4 h4 a5 h5 a6 h6 a7 h7 a8 h8 a9 h9 hc x0 x1 x2 x3 x4 x5 xo7 xo8 (ix2 p k)
      = x3 (ix2 p k) + dh x0 x1 x2 x4 x5 p k := by
  unfold out0_B_6
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S832x512) hz, View.ld_unit_zero (S := S832x1024) hz, View.ld_unit_zero (S := S1x1024) hz]
  exact pay3_apply x0 x1 x2 x3 x4 x5 p k

theorem out_B_7 (hc : ¬cond0_0 i) (k j : Fin 1024) :
    out0_B_7 c i a1 h1 a2 h2 a3 h3 a4 h4 a5 h5 a6 h6 a7 h7 a8 h8 a9 h9 hc x0 x1 x2 x3 x4 x5 xo7 xo8 (ix2 k j)
      = xo7 (ix2 k j) + addW x0 x1 x2 x4 k j := by
  unfold out0_B_7
  rw [View.read_writes_junk_eq_canon]
  unfold kernelRun0_B
  dsimp only
  sl_unfold_words
  simp only [View.readAt_eq_ld, h1.read_unread, h2.read_unread, h3.read_unread, h5.read_unread, h8.read_unread,
    View.ld_unit_zero (S := S832x512) hz, View.ld_unit_zero (S := S832x1024) hz, View.ld_unit_zero (S := S1x1024) hz]
  refine canon_halves _ _ [] (fun y => xo7 y + addW x0 x1 x2 x4 (y 0) (y 1)) (fun k j => ?_) (fun k j => ?_) (ix2 k j)
  · rw [pay13_apply x0 x1]; pointwise
  · rw [pay1_apply x0]; pointwise

theorem out_A_7 (hc : cond0_0 i) (k j : Fin 1024) :
    out0_A_7 c i a1 h1 a2 h2 a3 h3 a4 h4 a5 h5 a6 h6 a7 h7 a8 h8 a9 h9 hc x0 x1 x2 x3 x4 x5 (ix2 k j) = addW x0 x1 x2 x4 k j := by
  unfold out0_A_7
  rw [View.read_writes_junk_eq_canon]
  unfold kernelRun0_A
  dsimp only
  sl_unfold_words
  simp only [View.readAt_eq_ld, h1.read_unread, h2.read_unread, h3.read_unread, h5.read_unread,
    View.ld_unit_zero (S := S832x512) hz, View.ld_unit_zero (S := S832x1024) hz, View.ld_unit_zero (S := S1x1024) hz]
  have hz0 : ∀ r : Rect S1024x1024, a8.view.readCov (Val := Elt Ideal)
      [⟨Rect.unit ![0, 0] ![1024, 1024] inb_S1024x1024_S1024x1024_0_0, k0_pay4 (F := Ideal)⟩] r.toLoadRect = View.ld (Val := Elt Ideal) (e' := .f32) (k0_pay4 (F := Ideal)) r :=
    fun r => by
      rw [View.readCov_eq_canon', View.canon_unit_zero (S := S1024x1024) hz]
  refine canon_halves _ _ _ (fun y => addW x0 x1 x2 x4 (y 0) (y 1)) (fun k j => ?_) (fun k j => ?_) (ix2 k j)
  · rw [pay13_apply x0 x1, hz0]; pointwise [k0_pay4]
  · rw [pay1_apply x0, View.readCov_skip _ _ _ _ _ (by decide +kernel), hz0]; pointwise [k0_pay4]

theorem out_B_8 (hc : ¬cond0_0 i) (k : Fin 1024) :
    out0_B_8 c i a1 h1 a2 h2 a3 h3 a4 h4 a5 h5 a6 h6 a7 h7 a8 h8 a9 h9 hc x0 x1 x2 x3 x4 x5 xo7 xo8 (ix2 0 k)
      = xo8 (ix2 0 k) + addG x0 x1 x2 x5 k := by
  unfold out0_B_8
  rw [View.read_writes_junk_eq_canon]
  unfold kernelRun0_B
  dsimp only
  sl_unfold_words
  rw [View.canon_unit_zero hz]
  simp only [View.readAt_eq_ld, h1.read_unread, h2.read_unread, h3.read_unread, h6.read_unread, h9.read_unread,
    View.ld_unit_zero (S := S832x512) hz, View.ld_unit_zero (S := S832x1024) hz, View.ld_unit_zero (S := S1x1024) hz]
  exact pay2_apply x0 x1 x2 x5 xo8 k

theorem out_A_8 (hc : cond0_0 i) (k : Fin 1024) :
    out0_A_8 c i a1 h1 a2 h2 a3 h3 a4 h4 a5 h5 a6 h6 a7 h7 a8 h8 a9 h9 hc x0 x1 x2 x3 x4 x5 (ix2 0 k) = addG x0 x1 x2 x5 k := by
  unfold out0_A_8
  rw [View.read_writes_junk_eq_canon]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h6.read_unread,
    View.ld_unit_zero (S := S832x512) hz, View.ld_unit_zero (S := S832x1024) hz]
  refine (pay2_apply x0 x1 x2 x5 _ k).trans ?_
  pointwise [k0_pay5]

end Outs

end Cert.BwdInIdeal.Point

end
-- ==== Proof.BwdInArrays.lean ====
/-
  The input projection's backward kernel as a whole: its three result arrays after the last grid point, as functions of
  the arrays the region is entered with. The residual stream's gradient is written block by block; the two weight
  gradients are running sums over the points, written back once.
-/
module

public import proofs.«01_k».proof.Proof.BwdInPoint
public import Idealize.ShloMosaic.Lib.Pipeline.ValueKit.Geometry
public import Idealize.ShloMosaic.Lib.Pipeline.ValueKit.Acc

@[expose] public section

noncomputable section

namespace Cert.BwdInIdeal.Arrays

open Idealize.ShloMosaic Idealize.ShloMosaic.TcCoe Idealize.SL.Sem
open Cert.BwdInIdeal Cert.BwdInIdeal.Gen Cert.BwdInIdeal.Point

variable (m : (ℓ : Loc nD τ sig) → Buf (Elt Ideal) ℓ) (c : Dev nD)

/-- The arrays the region is entered with: the two halves of the projection's cotangent, the residual rows, their own
    cotangent, the norm's weight, the projection's weight. -/
abbrev aU : FVec Ideal S4160x512 .f32 := V m c main_v6
abbrev aV : FVec Ideal S4160x512 .f32 := V m c main_v8
abbrev aH : FVec Ideal S4160x1024 .f32 := V m c main_v2
abbrev aD : FVec Ideal S4160x1024 .f32 := V m c main_v9
abbrev aG : FVec Ideal S1x1024 .f32 := V m c main_arg2
abbrev aW : FVec Ideal S1024x1024 .bf16 := V m c main_v4

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)

/-- The array row of a block's row. -/
def gr (t : Fin cfg0.N) (p : Fin 832) : Fin 4160 :=
  ⟨t.val * 832 + p.val, by have : t.val < 5 := lt_of_lt_of_eq t.isLt N_0; omega⟩

theorem blk0 (t : Fin cfg0.N) (p : Fin 832) (j : Fin 512) : (iblk m c 0 t : FVec Ideal S832x512 .f32) (ix2 p j) = aU m c (ix2 (gr t p) j) := by
  blk_simp [iblk]; refine congrArg (V m c main_v6) ?_; blk_ext [at0] <;> rfl
theorem blk1 (t : Fin cfg0.N) (p : Fin 832) (j : Fin 512) : (iblk m c 1 t : FVec Ideal S832x512 .f32) (ix2 p j) = aV m c (ix2 (gr t p) j) := by
  blk_simp [iblk]; refine congrArg (V m c main_v8) ?_; blk_ext [at1] <;> rfl
theorem blk2 (t : Fin cfg0.N) (p : Fin 832) (j : Fin 1024) : (iblk m c 2 t : FVec Ideal S832x1024 .f32) (ix2 p j) = aH m c (ix2 (gr t p) j) := by
  blk_simp [iblk]; refine congrArg (V m c main_v2) ?_; blk_ext [at2] <;> rfl
theorem blk3 (t : Fin cfg0.N) (p : Fin 832) (j : Fin 1024) : (iblk m c 3 t : FVec Ideal S832x1024 .f32) (ix2 p j) = aD m c (ix2 (gr t p) j) := by
  blk_simp [iblk]; refine congrArg (V m c main_v9) ?_; blk_ext [at3] <;> rfl
theorem blk4 (t : Fin cfg0.N) (j : Fin 1024) : (iblk m c 4 t : FVec Ideal S1x1024 .f32) (ix2 0 j) = aG m c (ix2 0 j) := by
  blk_simp [iblk]; refine congrArg (V m c main_arg2) ?_; blk_ext [at4]
theorem blk5 (t : Fin cfg0.N) (k j : Fin 1024) : (iblk m c 5 t : FVec Ideal S1024x1024 .bf16) (ix2 k j) = aW m c (ix2 k j) := by
  blk_simp [iblk]; refine congrArg (V m c main_v4) ?_; blk_ext [at5]

theorem dn_blk (t : Fin cfg0.N) (p : Fin 832) (k : Fin 1024) :
    dn (iblk m c 0 t) (iblk m c 1 t) (iblk m c 5 t) p k = dn (aU m c) (aV m c) (aW m c) (gr t p) k := by
  unfold dn
  exact congrArg₂ (· + ·) (Finset.sum_congr rfl fun j _ => congrArg₂ (· * ·) (blk0 m c t p j) (blk5 m c t k _))
    (Finset.sum_congr rfl fun j _ => congrArg₂ (· * ·) (blk1 m c t p j) (blk5 m c t k _))

theorem row_blk (t : Fin cfg0.N) (p : Fin 832) : row (iblk m c 2 t) p = row (aH m c) (gr t p) :=
  funext fun k => blk2 m c t p k

theorem dh_blk (t : Fin cfg0.N) (p : Fin 832) (k : Fin 1024) :
    dh (iblk m c 0 t) (iblk m c 1 t) (iblk m c 2 t) (iblk m c 4 t) (iblk m c 5 t) p k
      = dh (aU m c) (aV m c) (aH m c) (aG m c) (aW m c) (gr t p) k := by
  unfold dh
  rw [row_blk]
  exact congrArg (fun f => Rows.grad width _ f k) (funext fun k => congrArg₂ (· * ·) (dn_blk m c t p k) (blk4 m c t k))

theorem termG_blk (t : Fin cfg0.N) (p : Fin 832) (k : Fin 1024) :
    termG (iblk m c 0 t) (iblk m c 1 t) (iblk m c 2 t) (iblk m c 5 t) k p
      = termG (aU m c) (aV m c) (aH m c) (aW m c) k (gr t p) := by
  unfold termG
  rw [row_blk, dn_blk, blk2]

theorem termW_blk (t : Fin cfg0.N) (p : Fin 832) (k j : Fin 1024) :
    termW (iblk m c 0 t) (iblk m c 1 t) (iblk m c 2 t) (iblk m c 4 t) k j p
      = termW (aU m c) (aV m c) (aH m c) (aG m c) k j (gr t p) := by
  unfold termW
  rw [row_blk, blk2, blk4]
  refine congrArg _ (dite_congr rfl (fun h => blk0 m c t p _) (fun h => blk1 m c t p _))

/-- The sum over all rows, point by point. -/
theorem sum_rows (f : Fin 4160 → EReal) : ∑ t : Fin cfg0.N, ∑ p : Fin 832, f (gr t p) = ∑ r : Fin 4160, f r :=
  Fin.sum_mul_add_fin 5 832 f rfl

/-- The residual stream's gradient. -/
theorem final6 (r : Fin 4160) (k : Fin 1024) :
    ((dats m 0 c).arrAt 6 cfg0.N : FVec Ideal S4160x1024 .f32) (ix2 r k)
      = aD m c (ix2 r k) + dh (aU m c) (aV m c) (aH m c) (aG m c) (aW m c) r k := by
  have h := (dats m 0 c).arrAt_eq_of_covers 6
    (fun y : S4160x1024.Idx => aD m c y + dh (aU m c) (aV m c) (aH m c) (aG m c) (aW m c) (y 0) (y 1))
    (by decide +kernel) fun t hf y => ?_
  · exact congrFun h (ix2 r k)
  · blk_simp
    rw [after0_6]
    obtain ⟨p, k, rfl⟩ : ∃ (p : Fin 832) (k : Fin 1024), y = ix2 p k := ⟨y 0, y 1, by pointwise⟩
    have e : ((win0_6.blk t).view.emb (ix2 p k : S832x1024.Idx) : S4160x1024.Idx) = ix2 (gr t p) k := by blk_ext [at6] <;> rfl
    rw [e]
    show _ = aD m c (ix2 (gr t p) k) + dh (aU m c) (aV m c) (aH m c) (aG m c) (aW m c) (gr t p) k
    rw [← dh_blk, ← blk3]
    by_cases h0 : t.val % 5 = 0
    · rw [outsAt0_A m c t h0]; dsimp only; rw [out_A_6]
    · rw [outsAt0_B m c t h0]; dsimp only; rw [out_B_6]

/-- The weight gradient. -/
theorem final7 (k j : Fin 1024) :
    ((dats m 0 c).arrAt 7 cfg0.N : FVec Ideal S1024x1024 .f32) (ix2 k j) = ∑ r : Fin 4160, termW (aU m c) (aV m c) (aH m c) (aG m c) k j r := by
  refine ((dats m 0 c).arrAt_emb_eq_after_last 7 t0_4 (by decide +kernel) (ix2 k j : S1024x1024.Idx)).trans ?_
  blk_simp
  rw [after0_7]
  have := Pipeline.eq_sum_fin_of_reset_step_apply_last (ι := Fin 1024 × Fin 1024) (N := cfg0.N) (fun n h i => ((outsAt0 m c n h).2.1 : FVec Ideal S1024x1024 .f32) (ix2 i.1 i.2)) 5 (fun _ => (0 : EReal))
    (fun t i => ∑ p : Fin 832, termW (aU m c) (aV m c) (aH m c) (aG m c) i.1 i.2 (gr t p))
    (fun t h i => by
      rw [outsAt0_A m c t h]; dsimp only; rw [out_A_7, zero_add]; exact Finset.sum_congr rfl fun p _ => termW_blk ..)
    (fun t h i => by
      rw [outsAt0_B m c t h]; dsimp only; rw [out_B_7]; exact congrArg _ (Finset.sum_congr rfl fun p _ => termW_blk ..))
    (by decide) t0_4 rfl (k, j)
  refine Eq.trans ?_ (this.trans ((zero_add _).trans (sum_rows _)))
  rfl

/-- The norm weight's gradient. -/
theorem final8 (k : Fin 1024) :
    ((dats m 0 c).arrAt 8 cfg0.N : FVec Ideal S1x1024 .f32) (ix2 0 k) = ∑ r : Fin 4160, termG (aU m c) (aV m c) (aH m c) (aW m c) k r := by
  refine ((dats m 0 c).arrAt_emb_eq_after_last 8 t0_4 (by decide +kernel) (ix2 0 k : S1x1024.Idx)).trans ?_
  blk_simp
  rw [after0_8]
  have := Pipeline.eq_sum_fin_of_reset_step_apply_last (ι := Fin 1024) (N := cfg0.N) (fun n h i => ((outsAt0 m c n h).2.2 : FVec Ideal S1x1024 .f32) (ix2 0 i)) 5 (fun _ => (0 : EReal))
    (fun t i => ∑ p : Fin 832, termG (aU m c) (aV m c) (aH m c) (aW m c) i (gr t p))
    (fun t h i => by
      rw [outsAt0_A m c t h]; dsimp only; rw [out_A_8, zero_add]; exact Finset.sum_congr rfl fun p _ => termG_blk ..)
    (fun t h i => by
      rw [outsAt0_B m c t h]; dsimp only; rw [out_B_8]; exact congrArg _ (Finset.sum_congr rfl fun p _ => termG_blk ..))
    (by decide) t0_4 rfl k
  refine Eq.trans ?_ (this.trans ((zero_add _).trans (sum_rows _)))
  rfl

end Cert.BwdInIdeal.Arrays

end
-- ==== Proof.BwdInHost.lean ====
/-
  The arrays the input projection's gradient call is entered with, read at an index in terms of the program's arguments:
  the host pads 4112 rows to 4160 with zeros, splits the cotangent's columns in two and lays the learned tokens before
  the input's rows.
-/
module

public import proofs.«01_k».proof.Proof.BwdInArrays

@[expose] public section

noncomputable section

namespace Cert.BwdInIdeal.Host

open Idealize.ShloMosaic Idealize.ShloMosaic.TcCoe Idealize.SL.Sem
open Cert.BwdInIdeal Cert.BwdInIdeal.Gen Cert.BwdInIdeal.Arrays Cert.Rows

variable (m : (ℓ : Loc nD τ sig) → Buf (Elt Ideal) ℓ) (c : Dev nD)

/-- The arguments. -/
abbrev x0 : FVec Ideal S16x1024 .f32 := m ((c : Thread nD τ).loc main_arg0)
abbrev x1 : FVec Ideal S1x4096x1024 .f32 := m ((c : Thread nD τ).loc main_arg1)
abbrev x2 : FVec Ideal S1x1024 .f32 := m ((c : Thread nD τ).loc main_arg2)
abbrev x3 : FVec Ideal S1x1024x1024 .f32 := m ((c : Thread nD τ).loc main_arg3)
abbrev x4 : FVec Ideal S4112x1024 .f32 := m ((c : Thread nD τ).loc main_arg4)
abbrev x5 : FVec Ideal S4112x1024 .f32 := m ((c : Thread nD τ).loc main_arg5)

theorem aU_at (r : Fin 4160) (j : Fin 512) : (aU m c (ix2 r j) : EReal) = if h : r.val < 4112 then x4 m c (ix2 ⟨r, h⟩ ⟨j, by omega⟩) else 0 := by
  unfold aU V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  rw [sitofp_zero]

theorem aV_at (r : Fin 4160) (j : Fin 512) : (aV m c (ix2 r j) : EReal) = if h : r.val < 4112 then x4 m c (ix2 ⟨r, h⟩ ⟨512 + j, by omega⟩) else 0 := by
  unfold aV V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  rw [sitofp_zero]

theorem aD_at (r : Fin 4160) (k : Fin 1024) : (aD m c (ix2 r k) : EReal) = if h : r.val < 4112 then x5 m c (ix2 ⟨r, h⟩ k) else 0 := by
  unfold aD V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  rw [sitofp_zero]

theorem aH_at (r : Fin 4160) (k : Fin 1024) : (aH m c (ix2 r k) : EReal) = if h : r.val < 4112 then (if h : r.val < 16 then x0 m c (ix2 ⟨r, h⟩ k) else x1 m c (ix3 0 ⟨r - 16, by omega⟩ k)) else 0 := by
  unfold aH V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  after_results_simp
  rw [sitofp_zero]
  by_cases h : r.val < 4112
  · rw [dif_pos h, dif_pos h]
    by_cases h2 : r.val < 16
    · rw [dif_pos h2, dif_pos h2]
    · rw [dif_neg h2, dif_neg h2]
      show shapeCast S4096x1024 _ _ _ = _
      pointwise
  · rw [dif_neg h, dif_neg h]

theorem aG_at (k : Fin 1024) : (aG m c (ix2 0 k) : EReal) = x2 m c (ix2 0 k) := by
  rw [aG, V_main_arg2]

theorem aW_at (k j : Fin 1024) : (aW m c (ix2 k j) : EReal) = x3 m c (ix3 0 k j) := by
  unfold aW V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise

end Cert.BwdInIdeal.Host

end
-- ==== Proof.BwdInRef.lean ====
/-
  The input projection's reference read at an index: the derivative of the forward lines (norm, then product), in the
  form differentiation writes it, as functions of the arguments.
-/
module

public import proofs.«01_k».proof.Proof.Gen.BwdInRefIdeal.Read
public import proofs.«01_k».proof.Proof.Rows
public import Idealize.ShloMosaic.Lib.Pointwise

@[expose] public section

noncomputable section

namespace Cert.BwdInRefIdeal.At

open Idealize.ShloMosaic
open Cert.BwdInRefIdeal Cert.BwdInRefIdeal.Read Cert.Rows

abbrev width : EReal := Ideal.ofBits .f32 0x44800000#32

variable (x0 : FVec Ideal S16x1024 .f32) (x1 : FVec Ideal S1x4096x1024 .f32) (x2 : FVec Ideal S1x1024 .f32)
  (x3 : FVec Ideal S1x1024x1024 .f32) (x4 x5 : FVec Ideal S4112x1024 .f32)

/-- The residual rows: the learned tokens, then the input. -/
def hrow (r : Fin 4112) : Fin 1024 → EReal := fun k =>
  if h : r.val < 16 then x0 (ix2 ⟨r, h⟩ k) else x1 (ix3 0 ⟨r - 16, by omega⟩ k)

/-- The cotangent of the normalised rows. -/
def dn (r : Fin 4112) (k : Fin 1024) : EReal := ∑ j : Fin 1024, x4 (ix2 r j) * x3 (ix3 0 k j)

theorem v1 (r : Fin 4112) (k : Fin 1024) : val_main_v1 (F := Ideal) x0 x1 (ix2 r k) = hrow x0 x1 r k := by
  pointwise [val_main_v1, val_main_v0, hrow]

theorem v9 (r : Fin 4112) : val_main_v9 (F := Ideal) x0 x1 (ix2 r 0) = msq width (hrow x0 x1 r) := by
  pointwise [val_main_v9, val_main_v8, val_main_cst_1, val_main_v7, val_main_v6, val_main_cst_0, val_main_v5, val_main_v4, val_main_v3, val_main_cst, msq]
  simp only [v1]

theorem v10 (r : Fin 4112) : val_main_v10 (F := Ideal) x0 x1 (ix2 r 0) = rinv width (hrow x0 x1 r) := by
  pointwise [val_main_v10, rinv]
  rw [v9]

theorem v13 (r : Fin 4112) : val_main_v13 (F := Ideal) x0 x1 (ix2 r 0)
    = Ideal.ofBits .f32 0xBF000000#32 * Ideal.div (rinv width (hrow x0 x1 r)) (msq width (hrow x0 x1 r)) := by
  pointwise [val_main_v13, val_main_v12, val_main_cst_2, val_main_v11]
  rw [v10, v9]

theorem v15 (r : Fin 4112) (k : Fin 1024) : val_main_v15 (F := Ideal) x0 x1 (ix2 r k) = hrow x0 x1 r k * rinv width (hrow x0 x1 r) := by
  pointwise [val_main_v15, val_main_v14]
  simp only [v1, v10]

theorem v18 (r : Fin 4112) (k : Fin 1024) :
    val_main_v18 (F := Ideal) x0 x1 x2 (ix2 r k) = hrow x0 x1 r k * rinv width (hrow x0 x1 r) * x2 (ix2 0 k) := by
  pointwise [val_main_v18, val_main_v17, val_main_v16, val_main_v2]
  simp only [v15]

theorem v23 (r : Fin 4112) (k : Fin 1024) : val_main_v23 (F := Ideal) x3 x4 (ix2 r k) = dn x3 x4 r k := by
  pointwise [val_main_v23, val_main_v19, dn]

theorem v29 (r : Fin 4112) (k : Fin 1024) : val_main_v29 (F := Ideal) x2 x3 x4 (ix2 r k) = dn x3 x4 r k * x2 (ix2 0 k) := by
  pointwise [val_main_v29, val_main_v28, val_main_v16, val_main_v2]
  simp only [v23]

theorem v40 (r : Fin 4112) : val_main_v40 (F := Ideal) x0 x1 x2 x3 x4 (ix1 r) = half width (hrow x0 x1 r) (fun k => dn x3 x4 r k * x2 (ix2 0 k)) := by
  pointwise [val_main_v40, val_main_cst_7, val_main_v39, val_main_v38, val_main_cst_6, val_main_v37, val_main_v33, val_main_v32, val_main_v31, val_main_cst_5, half]
  simp only [Fin.sum_univ_one]
  simp only [Fin.isValue, v13, v29, v1]

/-- The residual stream's gradient. -/
theorem v45 (r : Fin 4112) (k : Fin 1024) : val_main_v45 (F := Ideal) x0 x1 x2 x3 x4 x5 (ix2 r k)
    = x5 (ix2 r k) + dn x3 x4 r k * x2 (ix2 0 k) * rinv width (hrow x0 x1 r)
      + hrow x0 x1 r k * half width (hrow x0 x1 r) (fun k => dn x3 x4 r k * x2 (ix2 0 k))
      + half width (hrow x0 x1 r) (fun k => dn x3 x4 r k * x2 (ix2 0 k)) * hrow x0 x1 r k := by
  pointwise [val_main_v45, val_main_v44, val_main_v43, val_main_v42, val_main_v41, val_main_v36, val_main_v35, val_main_v34]
  simp only [v40, v1, v10, v29]

/-- Its rows padded with zeros. -/
theorem v47 (r : Fin 4160) (k : Fin 1024) : val_main_v47 (F := Ideal) x0 x1 x2 x3 x4 x5 (ix2 r k)
    = if h : r.val < 4112 then val_main_v45 (F := Ideal) x0 x1 x2 x3 x4 x5 (ix2 ⟨r, h⟩ k) else 0 := by
  pointwise [val_main_v47, val_main_call0_v0, val_main_c]
  rw [show (FloatOps.sitofp FTy.f32 0#32 : Ideal .f32) = (0 : EReal) from sitofp_zero]

/-- The weight gradient. -/
theorem v48 (k j : Fin 1024) : val_main_v48 (F := Ideal) x0 x1 x2 x4 (ix2 k j)
    = ∑ r : Fin 4112, x4 (ix2 r j) * (hrow x0 x1 r k * rinv width (hrow x0 x1 r) * x2 (ix2 0 k)) := by
  pointwise [val_main_v48, val_main_v24, val_main_v22, val_main_v21]
  simp only [v18]

/-- The norm weight's gradient. -/
theorem v46 (k : Fin 1024) : val_main_v46 (F := Ideal) x0 x1 x3 x4 (ix2 0 k)
    = ∑ r : Fin 4112, hrow x0 x1 r k * rinv width (hrow x0 x1 r) * dn x3 x4 r k := by
  pointwise [val_main_v46, val_main_v30, val_main_cst_4, val_main_v27, val_main_v26, val_main_cst_3, val_main_v25]
  simp only [Fin.sum_univ_one, v15, v23]

end Cert.BwdInRefIdeal.At

end
-- ==== Proof.BwdIn.lean ====
/-
  The input projection's gradient call against the derivative of its forward lines: with finite inputs, the three
  results are the same arrays.
-/
module

public import proofs.«01_k».proof.Defs
public import proofs.«01_k».proof.Proof.BwdInHost
public import proofs.«01_k».proof.Proof.BwdInRef
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.Pre_finite_in

@[expose] public section

noncomputable section

namespace Cert.BwdInEqual

open Idealize.ShloMosaic Idealize.ShloMosaic.TcCoe Idealize.SL.Sem
open Cert.BwdInIdeal Cert.BwdInIdeal.Gen Cert.BwdInIdeal.Arrays Cert.BwdInIdeal.Host Cert.BwdInRefIdeal.At
open Cert.Rows

variable (m : (ℓ : Loc nD τ sig) → Buf (Elt Ideal) ℓ) (c : Dev nD)

theorem row_eq (r : Fin 4160) (h : r.val < 4112) : Point.row (aH m c) r = hrow (x0 m c) (x1 m c) ⟨r, h⟩ := by
  funext k
  show (aH m c (ix2 r k) : EReal) = _
  rw [aH_at, dif_pos h]
  rfl

/-- A sum over 1024 columns, the first half and the second. -/
theorem sum_cols (f : Fin 1024 → EReal) :
    ∑ j : Fin 1024, f j = ∑ j : Fin 512, f ⟨j, by omega⟩ + ∑ j : Fin 512, f ⟨512 + j, by omega⟩ :=
  Fin.sum_univ_add (a := 512) (b := 512) f

/-- A sum over the padded rows of terms that vanish on the padding. -/
theorem sum_rows (f : Fin 4160 → EReal) (hf : ∀ r : Fin 4160, ¬ r.val < 4112 → f r = 0) :
    ∑ r, f r = ∑ r : Fin 4112, f ⟨r, by omega⟩ := by
  refine (Fin.sum_univ_add (a := 4112) (b := 48) f).trans ?_
  rw [Finset.sum_eq_zero (s := Finset.univ) (f := fun i : Fin 48 => f (Fin.natAdd 4112 i)) fun i _ => hf _ (by simp), add_zero]
  rfl

theorem dn_eq (r : Fin 4160) (h : r.val < 4112) (k : Fin 1024) :
    Point.dn (aU m c) (aV m c) (aW m c) r k = dn (x3 m c) (x4 m c) ⟨r, h⟩ k := by
  unfold Point.dn Cert.BwdInRefIdeal.At.dn
  rw [sum_cols]
  exact congrArg₂ (· + ·)
    (Finset.sum_congr rfl fun j _ => congrArg₂ (· * ·) ((aU_at m c r j).trans (dif_pos h)) (aW_at m c k _))
    (Finset.sum_congr rfl fun j _ => congrArg₂ (· * ·) ((aV_at m c r j).trans (dif_pos h)) (aW_at m c k _))

theorem dn_pad (r : Fin 4160) (h : ¬ r.val < 4112) (k : Fin 1024) :
    Point.dn (aU m c) (aV m c) (aW m c) r k = 0 := by
  unfold Point.dn
  have hu : ∀ j, (aU m c (ix2 r j) : EReal) = 0 := fun j => (aU_at m c r j).trans (dif_neg h)
  have hv : ∀ j, (aV m c (ix2 r j) : EReal) = 0 := fun j => (aV_at m c r j).trans (dif_neg h)
  have e : (0 : EReal) + 0 = 0 := add_zero 0
  exact (congrArg₂ (· + ·) (Finset.sum_eq_zero fun j _ => by rw [hu, zero_mul])
    (Finset.sum_eq_zero fun j _ => by rw [hv, zero_mul])).trans e

/-- The residual stream's gradient. -/
theorem dh_eq (f0 : ∀ r k, Real' (x0 m c (ix2 r k))) (f1 : ∀ r k, Real' (x1 m c (ix3 0 r k)))
    (f2 : ∀ k, Real' (x2 m c (ix2 0 k))) (f3 : ∀ k j, Real' (x3 m c (ix3 0 k j))) (f4 : ∀ r j, Real' (x4 m c (ix2 r j))) :
    ((dats m 0 c).arrAt 6 cfg0.N : FVec Ideal S4160x1024 .f32)
      = Cert.BwdInRefIdeal.Read.val_main_v47 (x0 m c) (x1 m c) (x2 m c) (x3 m c) (x4 m c) (x5 m c) := by
  funext y
  obtain ⟨r, k, rfl⟩ : ∃ p k, y = ix2 p k := ⟨y 0, y 1, by pointwise⟩
  rw [final6, v47]
  by_cases h : r.val < 4112
  · have hx : ∀ k, Real' (hrow (x0 m c) (x1 m c) ⟨r, h⟩ k) := fun k => by
      unfold hrow
      split
      exacts [f0 _ _, f1 _ _]
    have hdn : ∀ k, Real' (dn (x3 m c) (x4 m c) ⟨r, h⟩ k) := fun k => Real'.sum _ fun j => (f4 _ _).mul (f3 _ _)
    rw [dif_pos h, v45, rms_grad width_1024 hx (fun k => (hdn k).mul (f2 k)), aD_at, dif_pos h]
    unfold Point.dh
    rw [row_eq m c r h]
    congr 2
    funext k
    rw [dn_eq m c r h, aG_at]
  · rw [dif_neg h, aD_at, dif_neg h, zero_add]
    exact grad_zero width_1024 (fun k => by rw [dn_pad m c r h, zero_mul]) k

/-- The weight gradient. -/
theorem dw_eq : ((dats m 0 c).arrAt 7 cfg0.N : FVec Ideal S1024x1024 .f32)
      = Cert.BwdInRefIdeal.Read.val_main_v48 (x0 m c) (x1 m c) (x2 m c) (x4 m c) := by
  funext y
  obtain ⟨k, j, rfl⟩ : ∃ p k, y = ix2 p k := ⟨y 0, y 1, by pointwise⟩
  refine (final7 m c k j).trans (Eq.trans (α := EReal) (sum_rows _ ?_) (Eq.trans (α := EReal) ?_ (v48 _ _ _ _ k j).symm))
  rotate_left
  · refine Finset.sum_congr rfl fun r _ => ?_
    unfold Point.termW
    rw [row_eq m c _ r.isLt, aG_at, mul_comm]
    refine congrArg₂ (· * ·) ?_ (congrArg (· * _) (congrArg (· * _) (congrFun (row_eq m c _ r.isLt) k)))
    split
    · exact (aU_at m c _ _).trans (dif_pos r.isLt)
    · refine ((aV_at m c _ _).trans (dif_pos r.isLt)).trans (congrArg (fun z => x4 m c (ix2 r z)) (Fin.ext ?_))
      simp only; omega
  · intro r h
    unfold Point.termW
    refine mul_eq_zero_of_right _ ?_
    split
    · exact (aU_at m c _ _).trans (dif_neg h)
    · exact (aV_at m c _ _).trans (dif_neg h)

/-- The norm weight's gradient. -/
theorem dg_eq : ((dats m 0 c).arrAt 8 cfg0.N : FVec Ideal S1x1024 .f32)
      = Cert.BwdInRefIdeal.Read.val_main_v46 (x0 m c) (x1 m c) (x3 m c) (x4 m c) := by
  funext y
  obtain ⟨p, k, rfl⟩ : ∃ (p : Fin 1) (k : Fin 1024), y = ix2 p k := ⟨y 0, y 1, by pointwise⟩
  obtain rfl : p = 0 := Subsingleton.elim _ _
  refine (final8 m c k).trans (Eq.trans (α := EReal) (sum_rows _ ?_) (Eq.trans (α := EReal) ?_ (v46 _ _ _ _ k).symm))
  rotate_left
  · refine Finset.sum_congr rfl fun r _ => ?_
    unfold Point.termG
    rw [dn_eq m c _ r.isLt, row_eq m c _ r.isLt, mul_comm]
    exact congrArg (· * _) (congrArg (· * _) (congrFun (row_eq m c _ r.isLt) k))
  · intro r h
    unfold Point.termG
    rw [dn_pad m c r h, zero_mul]

/-- The precondition, as real numbers. -/
theorem real_of_pre {m : (ℓ : Loc nD τ sig) → Buf (Elt Ideal) ℓ} (hp : Cert.Pre_BwdInIdeal_finite_in m) (c : Dev nD) :
    (∀ r k, Real' (x0 m c (ix2 r k))) ∧ (∀ r k, Real' (x1 m c (ix3 0 r k))) ∧ (∀ k, Real' (x2 m c (ix2 0 k)))
      ∧ (∀ k j, Real' (x3 m c (ix3 0 k j))) ∧ (∀ r j, Real' (x4 m c (ix2 r j))) := by
  obtain ⟨h0, h1, h2, h3, h4⟩ := hp c
  refine ⟨fun r k => ?_, fun r k => ?_, fun k => ?_, fun k j => ?_, fun r j => ?_⟩
  · have := congrFun h0 (ix2 r k)
    pointwise [Cert.Pre_finite_in.fn] at this
    exact real_of_cmp this
  · have := congrFun h1 (ix3 0 r k)
    pointwise [Cert.Pre_finite_in.fn] at this
    exact real_of_cmp this
  · have := congrFun h2 (ix2 0 k)
    pointwise [Cert.Pre_finite_in.fn] at this
    exact real_of_cmp this
  · have := congrFun h3 (ix3 0 k j)
    pointwise [Cert.Pre_finite_in.fn] at this
    exact real_of_cmp this
  · have := congrFun h4 (ix2 r j)
    pointwise [Cert.Pre_finite_in.fn] at this
    exact real_of_cmp this

/-- The claim. -/
theorem algebraic : Cert.algebraic_BwdInIdeal_BwdInRefIdeal_pre_finite_in := by
  intro m g m' g' hp ha
  refine ⟨fun c => (dats m 0 c).arrAt 6 cfg0.N, fun c => (dats m 0 c).arrAt 7 cfg0.N, fun c => (dats m 0 c).arrAt 8 cfg0.N,
    Cert.BwdInIdeal.Value.run_blocks m g, (θ_run Cert.BwdInRefIdeal.defs _ _).mono ?_ (Cert.BwdInRefIdeal.Value.run m' g')⟩
  intro r h c
  obtain ⟨h6, h7, h8, hk⟩ := h c
  obtain ⟨a0, a1, a2, a3, a4, a5⟩ := ha c
  obtain ⟨f0, f1, f2, f3, f4⟩ := real_of_pre hp c
  refine ⟨h6.trans ?_, h7.trans ?_, h8.trans ?_, hk⟩
  · refine (Cert.BwdInRefIdeal.Read.val_main_v47_eq m' c).trans ?_
    rw [a0, a1, a2, a3, a4, a5]
    exact (dh_eq m c f0 f1 f2 f3 f4).symm
  · refine (Cert.BwdInRefIdeal.Read.val_main_v48_eq _ _ _ _).trans ?_
    rw [a0, a1, a2, a4]
    exact (dw_eq m c).symm
  · refine (Cert.BwdInRefIdeal.Read.val_main_v46_eq _ _ _ _).trans ?_
    rw [a0, a1, a3, a4]
    exact (dg_eq m c).symm

end Cert.BwdInEqual

end
-- ==== Proof.PoolRows.lean ====
/-
  The mathematics of the causal pooling mixer's gradient, for any number of rows and away from any program: the linear
  map of the pooled features (one 128 × 128 matrix for each of the four column blocks, a block a window width), the norm
  after it, and the gradient down to the pooled features.
-/
module

public import proofs.«01_k».proof.Proof.Rows
public import Idealize.ShloMosaic.Lib.Pointwise

@[expose] public section

noncomputable section

namespace Cert.PoolRows

open Idealize.ShloMosaic Cert.Rows

/-- A column's block, its place in the block, and the column at a place of a block. -/
def bk (j : Fin 512) : Fin 4 := ⟨j / 128, by omega⟩
def lo (j : Fin 512) : Fin 128 := ⟨j % 128, by omega⟩
def col (k : Fin 4) (i : Fin 128) : Fin 512 := ⟨128 * k + i, by omega⟩

theorem bk_col (k : Fin 4) (i : Fin 128) : bk (col k i) = k := Fin.ext (by simp only [bk, col]; omega)
theorem lo_col (k : Fin 4) (i : Fin 128) : lo (col k i) = i := Fin.ext (by simp only [lo, col]; omega)
theorem col_bk_lo (j : Fin 512) : col (bk j) (lo j) = j := Fin.ext (by simp only [bk, lo, col]; omega)

/-- Four column blocks side by side, read at a column. -/
theorem by_block {α : Type} (j : Fin 512) (f : Fin 4 → Fin 128 → α) (a0 a1 a2 a3 : Fin 128 → α)
    (h0 : ∀ i, a0 i = f 0 i) (h1 : ∀ i, a1 i = f 1 i) (h2 : ∀ i, a2 i = f 2 i) (h3 : ∀ i, a3 i = f 3 i) :
    (if h : j.val < 128 then a0 ⟨j, h⟩ else if h : j.val - 128 < 128 then a1 ⟨j - 128, h⟩
      else if h : j.val - 128 - 128 < 128 then a2 ⟨j - 128 - 128, h⟩ else a3 ⟨j - 128 - 128 - 128, by omega⟩)
      = f (bk j) (lo j) := by
  have e : ∀ (k : Fin 4) (i : Fin 128), j.val = 128 * k.val + i.val → f k i = f (bk j) (lo j) := fun k i h => by
    obtain rfl : j = col k i := Fin.ext h
    rw [bk_col, lo_col]
  split
  · rw [h0]; exact e 0 _ (by simp)
  split
  · rw [h1]; exact e 1 _ (by simp; omega)
  split
  · rw [h2]; exact e 2 _ (by simp; omega)
  · rw [h3]; exact e 3 _ (by simp; omega)

/-- Four arrays stacked along an axis, read at a place of it. -/
theorem by_stack {α : Type} (k : Fin 4) (f : Fin 4 → α) {a0 a1 a2 a3 : α} (h0 : a0 = f 0) (h1 : a1 = f 1) (h2 : a2 = f 2) (h3 : a3 = f 3) :
    (if _ : k.val < 1 then a0 else if _ : k.val - 1 < 1 then a1 else if _ : k.val - 1 - 1 < 1 then a2 else a3) = f k := by
  subst h0 h1 h2 h3
  fin_cases k <;> rfl

/-- Four arrays added, each padded to a place of its own on the axis. -/
theorem by_pads (k : Fin 4) (f : Fin 4 → EReal) {a0 a1 a2 a3 : EReal} (h0 : a0 = f 0) (h1 : a1 = f 1) (h2 : a2 = f 2) (h3 : a3 = f 3) :
    (((if _ : 3 ≤ k.val ∧ k.val - 3 < 1 then a3 else 0) + (if _ : 2 ≤ k.val ∧ k.val - 2 < 1 then a2 else 0))
      + (if _ : 1 ≤ k.val ∧ k.val - 1 < 1 then a1 else 0)) + (if _ : k.val < 1 then a0 else 0) = f k := by
  subst h0 h1 h2 h3
  fin_cases k <;> simp

/-- The divisor of the mean over the 512 columns, as the programs spell it. -/
abbrev width : EReal := Ideal.ofBits .f32 0x44000000#32

section

variable {n : ℕ} (dm feat : (⟨2, ![n, 512]⟩ : Shape).Idx → EReal) (pw : (⟨3, ![4, 128, 128]⟩ : Shape).Idx → EReal)
  (s g : Fin 512 → EReal)

/-- The features' linear map, and its rows scaled. -/
def lin (r : Fin n) (j : Fin 512) : EReal := ∑ i : Fin 128, feat (ix2 r (col (bk j) i)) * pw (ix3 (bk j) i (lo j))
def yp (r : Fin n) (j : Fin 512) : EReal := lin feat pw r j * s j

/-- The gradient at the scaled rows, at the linear map, and at the features. -/
def dyp (r : Fin n) (j : Fin 512) : EReal := grad width (yp feat pw s r) (fun k => dm (ix2 r k) * g k) j
def dlin (r : Fin n) (j : Fin 512) : EReal := dyp dm feat pw s g r j * s j
def df (r : Fin n) (j : Fin 512) : EReal :=
  ∑ i : Fin 128, dlin dm feat pw s g r (col (bk j) i) * pw (ix3 (bk j) (lo j) i)

/-- What a row adds to the gradients of the matrices, of the scale and of the norm's weight. -/
def termW (k : Fin 4) (i j : Fin 128) (r : Fin n) : EReal := feat (ix2 r (col k i)) * dlin dm feat pw s g r (col k j)
def termS (j : Fin 512) (r : Fin n) : EReal := dyp dm feat pw s g r j * lin feat pw r j
def termG (j : Fin 512) (r : Fin n) : EReal := dm (ix2 r j) * (yp feat pw s r j * rinv width (yp feat pw s r))

end

/-! Equal rows, equal values. -/

section Congr

variable {n n' : ℕ} {dm feat : (⟨2, ![n, 512]⟩ : Shape).Idx → EReal} {dm' feat' : (⟨2, ![n', 512]⟩ : Shape).Idx → EReal}
  {pw pw' : (⟨3, ![4, 128, 128]⟩ : Shape).Idx → EReal} {s g s' g' : Fin 512 → EReal} {r : Fin n} {r' : Fin n'}

theorem lin_congr (hf : ∀ j, feat (ix2 r j) = feat' (ix2 r' j)) (hp : ∀ k i j, pw (ix3 k i j) = pw' (ix3 k i j)) :
    lin feat pw r = lin feat' pw' r' :=
  funext fun j => Finset.sum_congr rfl fun i _ => congrArg₂ (· * ·) (hf _) (hp _ _ _)

theorem yp_congr (hf : ∀ j, feat (ix2 r j) = feat' (ix2 r' j)) (hp : ∀ k i j, pw (ix3 k i j) = pw' (ix3 k i j)) (hs : ∀ j, s j = s' j) :
    yp feat pw s r = yp feat' pw' s' r' :=
  funext fun j => congrArg₂ (· * ·) (congrFun (lin_congr hf hp) j) (hs j)

theorem dyp_congr (hd : ∀ j, dm (ix2 r j) = dm' (ix2 r' j)) (hf : ∀ j, feat (ix2 r j) = feat' (ix2 r' j))
    (hp : ∀ k i j, pw (ix3 k i j) = pw' (ix3 k i j)) (hs : ∀ j, s j = s' j) (hg : ∀ j, g j = g' j) :
    dyp dm feat pw s g r = dyp dm' feat' pw' s' g' r' :=
  funext fun j => congrArg₂ (fun x y => grad width x y j) (yp_congr hf hp hs) (funext fun k => congrArg₂ (· * ·) (hd k) (hg k))

theorem dlin_congr (hd : ∀ j, dm (ix2 r j) = dm' (ix2 r' j)) (hf : ∀ j, feat (ix2 r j) = feat' (ix2 r' j))
    (hp : ∀ k i j, pw (ix3 k i j) = pw' (ix3 k i j)) (hs : ∀ j, s j = s' j) (hg : ∀ j, g j = g' j) :
    dlin dm feat pw s g r = dlin dm' feat' pw' s' g' r' :=
  funext fun j => congrArg₂ (· * ·) (congrFun (dyp_congr hd hf hp hs hg) j) (hs j)

theorem df_congr (hd : ∀ j, dm (ix2 r j) = dm' (ix2 r' j)) (hf : ∀ j, feat (ix2 r j) = feat' (ix2 r' j))
    (hp : ∀ k i j, pw (ix3 k i j) = pw' (ix3 k i j)) (hs : ∀ j, s j = s' j) (hg : ∀ j, g j = g' j) :
    df dm feat pw s g r = df dm' feat' pw' s' g' r' :=
  funext fun j => Finset.sum_congr rfl fun i _ => congrArg₂ (· * ·) (congrFun (dlin_congr hd hf hp hs hg) _) (hp _ _ _)

theorem termW_congr (hd : ∀ j, dm (ix2 r j) = dm' (ix2 r' j)) (hf : ∀ j, feat (ix2 r j) = feat' (ix2 r' j))
    (hp : ∀ k i j, pw (ix3 k i j) = pw' (ix3 k i j)) (hs : ∀ j, s j = s' j) (hg : ∀ j, g j = g' j) (k : Fin 4) (i j : Fin 128) :
    termW dm feat pw s g k i j r = termW dm' feat' pw' s' g' k i j r' :=
  congrArg₂ (· * ·) (hf _) (congrFun (dlin_congr hd hf hp hs hg) _)

theorem termS_congr (hd : ∀ j, dm (ix2 r j) = dm' (ix2 r' j)) (hf : ∀ j, feat (ix2 r j) = feat' (ix2 r' j))
    (hp : ∀ k i j, pw (ix3 k i j) = pw' (ix3 k i j)) (hs : ∀ j, s j = s' j) (hg : ∀ j, g j = g' j) (j : Fin 512) :
    termS dm feat pw s g j r = termS dm' feat' pw' s' g' j r' :=
  congrArg₂ (· * ·) (congrFun (dyp_congr hd hf hp hs hg) _) (congrFun (lin_congr hf hp) _)

theorem termG_congr (hd : ∀ j, dm (ix2 r j) = dm' (ix2 r' j)) (hf : ∀ j, feat (ix2 r j) = feat' (ix2 r' j))
    (hp : ∀ k i j, pw (ix3 k i j) = pw' (ix3 k i j)) (hs : ∀ j, s j = s' j) (j : Fin 512) :
    termG dm feat pw s j r = termG dm' feat' pw' s' j r' := by
  unfold termG
  rw [yp_congr hf hp hs, hd]

end Congr

/-- The window width of a column's block, and how many rows a window ending at row `r` holds. -/
def win (k : Fin 4) : ℕ := 2 ^ (k.val + 1)
def cnt (r : ℕ) (k : Fin 4) : EReal := ((min (r + 1) (win k) : ℕ) : ℝ)

/-- A run of `n` consecutive values. -/
def run (f : ℕ → EReal) (q n : ℕ) : EReal := ∑ i ∈ Finset.range n, f (q + i)

theorem run_one (f : ℕ → EReal) (q : ℕ) : run f q 1 = f q := by simp [run]
theorem run_add (f : ℕ → EReal) (q n : ℕ) : run f q n + run f (q + n) n = run f q (n + n) := by
  simp only [run, Finset.sum_range_add, Nat.add_assoc]

theorem run_congr {f g : ℕ → EReal} {q q' n : ℕ} (h : ∀ i < n, f (q + i) = g (q' + i)) : run f q n = run g q' n :=
  Finset.sum_congr rfl fun i hi => h i (Finset.mem_range.mp hi)

theorem win_le (k : Fin 4) : win k ≤ 16 := by fin_cases k <;> decide

end Cert.PoolRows

end
-- ==== Proof.PoolBwdPoint.lean ====
/-
  The values that one grid point of the pooling mixer's backward kernel computes, read at an index: the linear map of the
  features and its norm again, the gradient down to the pooled features, what the point adds to the three weights'
  gradients, and the chunk of the pooled rows' gradient, a run of window ends found by doubling with rotations.
-/
module

public import proofs.«01_k».proof.Proof.Gen.PoolBwdIdeal.Value
public import proofs.«01_k».proof.Proof.PoolRows
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.KernelVsHost

@[expose] public section
set_option maxRecDepth 16384
noncomputable section
namespace Cert.PoolBwdIdeal.Point
open Idealize.ShloMosaic Idealize.ShloMosaic.TcCoe Idealize.SL.Sem
open Cert.PoolBwdIdeal Cert.PoolBwdIdeal.Gen Cert.Rows Cert.Pieces Cert.PoolRows

variable (x0 : Vec Ideal S320x512 .f32) (x1 : Vec Ideal S320x512 .bf16) (x2 : Vec Ideal S4x128x128 .bf16) (x3 : Vec Ideal S8x512 .f32)

/-- The loads of the four matrices and of the two rows of vectors. -/
abbrev w0 : Vec Ideal S1x128x128 .bf16 := View.ld x2 (Rect.unit ![0, 0, 0] ![1, 128, 128] inb_S4x128x128_S1x128x128_0_0_0)
abbrev w1 : Vec Ideal S1x128x128 .bf16 := View.ld x2 (Rect.unit ![1, 0, 0] ![1, 128, 128] inb_S4x128x128_S1x128x128_1_0_0)
abbrev w2 : Vec Ideal S1x128x128 .bf16 := View.ld x2 (Rect.unit ![2, 0, 0] ![1, 128, 128] inb_S4x128x128_S1x128x128_2_0_0)
abbrev w3 : Vec Ideal S1x128x128 .bf16 := View.ld x2 (Rect.unit ![3, 0, 0] ![1, 128, 128] inb_S4x128x128_S1x128x128_3_0_0)
abbrev v0 : Vec Ideal S1x512 .f32 := View.ld x3 (Rect.unit ![0, 0] ![1, 512] inb_S8x512_S1x512_0_0)
abbrev v1 : Vec Ideal S1x512 .f32 := View.ld x3 (Rect.unit ![1, 0] ![1, 512] inb_S8x512_S1x512_1_0)

/-- The scale and the norm's weight. -/
abbrev sc : Fin 512 → EReal := fun j => x3 (ix2 0 j)
abbrev gn : Fin 512 → EReal := fun j => x3 (ix2 1 j)

/-- The values a point's gradient is computed from, by the names of the program. -/
abbrev L25 : FVec Ideal S320x512 .f32 := k0_pay9 x1 (w0 x2) (w1 x2) (w2 x2) (w3 x2)
abbrev L27 : FVec Ideal S320x512 .f32 := k0_pay10 (v0 x3) x1 (w0 x2) (w1 x2) (w2 x2) (w3 x2)
abbrev L30 : FVec Ideal S320x1 .f32 := k0_pay11 (v0 x3) x1 (w0 x2) (w1 x2) (w2 x2) (w3 x2)
abbrev L68 : FVec Ideal S320x512 .bf16 := k0_pay19 (k0_pay6 (v0 x3)) (k0_pay7 (v1 x3)) (L27 x1 x2 x3) (L30 x1 x2 x3) k0_pay12 x0

theorem L25_at (p : Fin 320) (j : Fin 512) : L25 x1 x2 (ix2 p j) = lin x1 x2 p j := by
  pointwise [L25, k0_pay9, k0_pay8, w0, w1, w2, w3]
  refine by_block j (fun k i => ∑ x : Fin 128, x1 (ix2 p (col k x)) * x2 (ix3 k x i))
    (fun i => ∑ x : Fin 128, x1 (ix2 p ⟨x, by omega⟩) * x2 (ix3 0 x i)) (fun i => ∑ x : Fin 128, x1 (ix2 p ⟨128 + x, by omega⟩) * x2 (ix3 1 x i))
    (fun i => ∑ x : Fin 128, x1 (ix2 p ⟨256 + x, by omega⟩) * x2 (ix3 2 x i)) (fun i => ∑ x : Fin 128, x1 (ix2 p ⟨384 + x, by omega⟩) * x2 (ix3 3 x i)) ?_ ?_ ?_ ?_
  all_goals
    intro i
    refine Finset.sum_congr rfl fun x _ => congrArg₂ (· * ·) (congrArg (fun z => x1 (ix2 p z)) (Fin.ext ?_)) rfl
    simp [col]

theorem L27_at (p : Fin 320) (j : Fin 512) : L27 x1 x2 x3 (ix2 p j) = yp x1 x2 (sc x3) p j := by
  pointwise [L27, k0_pay10, k0_pay6, v0]
  simp only [L25_at]; rfl

theorem r_at (p : Fin 320) : k0_pay13 (L30 x1 x2 x3) k0_pay12 (ix2 p 0) = rinv width (yp x1 x2 (sc x3) p) := by
  pointwise [k0_pay13, L30, k0_pay11, k0_pay12]
  simp only [L27_at]; rfl

theorem xhat_at (p : Fin 320) (j : Fin 512) : k0_pay14 (L27 x1 x2 x3) (L30 x1 x2 x3) k0_pay12 (ix2 p j) = yp x1 x2 (sc x3) p j * rinv width (yp x1 x2 (sc x3) p) := by
  pointwise [k0_pay14]
  simp only [r_at, L27_at]

theorem dyp_at (p : Fin 320) (j : Fin 512) : k0_pay16 (k0_pay7 (v1 x3)) (L27 x1 x2 x3) (L30 x1 x2 x3) k0_pay12 x0 (ix2 p j) = dyp x0 x1 x2 (sc x3) (gn x3) p j := by
  pointwise [k0_pay16, k0_pay7, k0_pay15, v1]
  simp only [r_at, xhat_at]; rfl

theorem L68_at (p : Fin 320) (j : Fin 512) : L68 x0 x1 x2 x3 (ix2 p j) = dlin x0 x1 x2 (sc x3) (gn x3) p j := by
  pointwise [L68, k0_pay19, k0_pay6, v0]
  simp only [dyp_at]; rfl

theorem addS_at (v : Vec Ideal S1x512 .f32) (j : Fin 512) :
    k0_pay17 (k0_pay7 (v1 x3)) (L25 x1 x2) (L27 x1 x2 x3) (L30 x1 x2 x3) k0_pay12 x0 v (ix2 0 j)
      = v (ix2 0 j) + ∑ p, termS x0 x1 x2 (sc x3) (gn x3) j p := by
  pointwise [k0_pay17]
  simp only [dyp_at, L25_at]; rfl

theorem addG_at (v : Vec Ideal S1x512 .f32) (j : Fin 512) :
    k0_pay18 (L27 x1 x2 x3) (L30 x1 x2 x3) k0_pay12 x0 v (ix2 0 j)
      = v (ix2 0 j) + ∑ p, termG x0 x1 x2 (sc x3) j p := by
  pointwise [k0_pay18, k0_pay15]
  simp only [xhat_at]; rfl

theorem addW0_at (v : Vec Ideal S1x128x128 .f32) (i j : Fin 128) :
    k0_pay22 (L68 x0 x1 x2 x3) (k0_pay20 v) (k0_pay21 (k0_pay8 x1)) (ix3 0 i j)
      = v (ix3 0 i j) + ∑ p, termW x0 x1 x2 (sc x3) (gn x3) 0 i j p := by
  pointwise [k0_pay22, k0_pay21, k0_pay20, k0_pay8]
  simp only [L68_at]
  refine congrArg₂ (· + ·) rfl (Finset.sum_congr rfl fun x _ => congrArg₂ (fun a b => x1 (ix2 x a) * dlin x0 x1 x2 (sc x3) (gn x3) x b) (Fin.ext ?_) (Fin.ext ?_)) <;> simp [col]

theorem addW1_at (v : Vec Ideal S1x128x128 .f32) (i j : Fin 128) :
    k0_pay25 (k0_pay8 x1) (L68 x0 x1 x2 x3) v (ix3 0 i j)
      = v (ix3 0 i j) + ∑ p, termW x0 x1 x2 (sc x3) (gn x3) 1 i j p := by
  pointwise [k0_pay25, k0_pay8]
  simp only [L68_at]; rfl

theorem addW2_at (v : Vec Ideal S1x128x128 .f32) (i j : Fin 128) :
    k0_pay29 (k0_pay8 x1) (L68 x0 x1 x2 x3) v (ix3 0 i j)
      = v (ix3 0 i j) + ∑ p, termW x0 x1 x2 (sc x3) (gn x3) 2 i j p := by
  pointwise [k0_pay29, k0_pay8]
  simp only [L68_at]; rfl

theorem addW3_at (v : Vec Ideal S1x128x128 .f32) (i j : Fin 128) :
    k0_pay32 (k0_pay8 x1) (L68 x0 x1 x2 x3) v (ix3 0 i j)
      = v (ix3 0 i j) + ∑ p, termW x0 x1 x2 (sc x3) (gn x3) 3 i j p := by
  pointwise [k0_pay32, k0_pay8]
  simp only [L68_at]; rfl

theorem df0_at (p : Fin 320) (j : Fin 128) : k0_pay23 (L68 x0 x1 x2 x3) (w0 x2) (ix2 p j) = df x0 x1 x2 (sc x3) (gn x3) p (col 0 j) := by
  pointwise [k0_pay23, w0]
  simp only [L68_at, df, bk_col, lo_col]
  refine Finset.sum_congr rfl fun x _ => congrArg₂ (fun a b => dlin x0 x1 x2 (sc x3) (gn x3) p a * b) (Fin.ext ?_) rfl; simp [col]
theorem df1_at (p : Fin 320) (j : Fin 128) : k0_pay27 (k0_pay26 (L68 x0 x1 x2 x3)) (w1 x2) (ix2 p j) = df x0 x1 x2 (sc x3) (gn x3) p (col 1 j) := by
  pointwise [k0_pay27, k0_pay26, w1]
  simp only [L68_at, df, bk_col, lo_col]; rfl
theorem df2_at (p : Fin 320) (j : Fin 128) : k0_pay30 (L68 x0 x1 x2 x3) (w2 x2) (ix2 p j) = df x0 x1 x2 (sc x3) (gn x3) p (col 2 j) := by
  pointwise [k0_pay30, w2]
  simp only [L68_at, df, bk_col, lo_col]; rfl
theorem df3_at (p : Fin 320) (j : Fin 128) : k0_pay33 (L68 x0 x1 x2 x3) (w3 x2) (ix2 p j) = df x0 x1 x2 (sc x3) (gn x3) p (col 3 j) := by
  pointwise [k0_pay33, w3]
  simp only [L68_at, df, bk_col, lo_col]; rfl

/-- The word count of the window that ends at a chunk's row, as a number. -/
theorem count_word (t : ℕ) (ht : t ≤ 12) (p : Fin 320) (k : Fin 4) (w : BitVec 32) (hw : w = BitVec.ofNat 32 (win k)) :
    (FloatOps.sitofp FTy.f32 (IntOp.minsi (IntOp.addi (IntOp.addi (Scalar.muli (Scalar.subi (12#32) (BitVec.ofNat 32 t)) 320#32) (BitVec.ofNat 32 p)) 1#32) w) : Ideal .f32)
      = cnt ((12 - t) * 320 + p) k := by
  have h1 : (IntOp.addi (IntOp.addi (Scalar.muli (Scalar.subi (12#32) (BitVec.ofNat 32 t)) 320#32) (BitVec.ofNat 32 p)) 1#32 : BitVec 32)
      = BitVec.ofNat 32 ((12 - t) * 320 + p + 1) := by
    interval_cases t <;> exact BitVec.eq_of_toNat_eq (by simp [IntOp.addi, Scalar.muli, Scalar.subi, IntOp.muli, IntOp.subi, BitVec.toNat_add])
  have hk : win k ≤ 16 := by fin_cases k <;> decide
  have hT : (12 - t) * 320 + p.val + 1 ≤ 4160 := by have := p.isLt; omega
  rw [h1, hw]
  generalize (12 - t) * 320 + p.val = T at hT ⊢
  have e : ∀ n ≤ 4160, (BitVec.ofNat 32 n).toInt = (n : ℤ) := fun n hn => by
    rw [BitVec.toInt_ofNat', Int.bmod_def]; omega
  have h2 : (IntOp.minsi (BitVec.ofNat 32 (T + 1)) (BitVec.ofNat 32 (win k))).toInt = ((min (T + 1) (win k) : ℕ) : ℤ) := by
    unfold IntOp.minsi
    rw [BitVec.slt, e _ hT, e _ (by omega)]
    split <;> rename_i h <;> simp only [decide_eq_true_eq, decide_eq_false_iff_not] at h
    · rw [e _ hT]; omega
    · rw [e _ (by omega)]; omega
  show (((IntOp.minsi (BitVec.ofNat 32 (T + 1)) (BitVec.ofNat 32 (win k))).toInt : ℝ) : EReal) = _
  rw [h2]; rfl

theorem e0_at (t : ℕ) (ht : t ≤ 12) (p : Fin 320) (j : Fin 128) :
    k0_pay24 (BitVec.ofNat 32 t) (L68 x0 x1 x2 x3) (w0 x2) (ix2 p j) = df x0 x1 x2 (sc x3) (gn x3) p (col 0 j) * Ideal.div 1 (cnt ((12 - t) * 320 + p) 0) := by
  pointwise [k0_pay24]
  rw [count_word t ht p 0 2#32 rfl]
  simp only [df0_at]
theorem e1_at (t : ℕ) (ht : t ≤ 12) (p : Fin 320) (j : Fin 128) :
    k0_pay28 (BitVec.ofNat 32 t) (k0_pay26 (L68 x0 x1 x2 x3)) (w1 x2) (ix2 p j) = df x0 x1 x2 (sc x3) (gn x3) p (col 1 j) * Ideal.div 1 (cnt ((12 - t) * 320 + p) 1) := by
  pointwise [k0_pay28]
  rw [count_word t ht p 1 4#32 rfl]
  simp only [df1_at]

/-- A point's values at the windows' ends. -/
def ends (t : ℕ) (p : Fin 320) (j : Fin 512) : EReal :=
  df x0 x1 x2 (sc x3) (gn x3) p j * Ideal.div 1 (cnt ((12 - t) * 320 + p) (bk j))

abbrev L177 (t : ℕ) : FVec Ideal S320x512 .f32 :=
  k0_pay34 (BitVec.ofNat 32 t) (L68 x0 x1 x2 x3) (k0_pay24 (BitVec.ofNat 32 t) (L68 x0 x1 x2 x3) (w0 x2))
    (k0_pay28 (BitVec.ofNat 32 t) (k0_pay26 (L68 x0 x1 x2 x3)) (w1 x2)) (k0_pay30 (L68 x0 x1 x2 x3) (w2 x2)) (k0_pay31 (BitVec.ofNat 32 t)) (w3 x2)

theorem L177_at (t : ℕ) (ht : t ≤ 12) (p : Fin 320) (j : Fin 512) : L177 x0 x1 x2 x3 t (ix2 p j) = ends x0 x1 x2 x3 t p j := by
  pointwise [L177, k0_pay34, k0_pay31]
  have c2 := count_word t ht p 2 8#32 rfl
  have c3 := count_word t ht p 3 16#32 rfl
  simp only [c2, c3, e0_at _ _ _ _ _ ht, e1_at _ _ _ _ _ ht, df2_at, df3_at]
  refine (by_block j (fun k i => df x0 x1 x2 (sc x3) (gn x3) p (col k i) * Ideal.div 1 (cnt ((12 - t) * 320 + p) k)) (fun i => _) (fun i => _) (fun i => _) (fun i => _)
    (fun _ => rfl) (fun _ => rfl) (fun _ => rfl) (fun _ => rfl)).trans ?_
  rw [col_bk_lo]; rfl

/-- The chunk's values followed by the first rows of the chunk after it. -/
theorem ext_at (t : ℕ) (ht : t ≤ 12) (fut : Vec Ideal S16x512 .f32) (q : Fin 336) (j : Fin 512) :
    k0_pay35 (BitVec.ofNat 32 t) (L68 x0 x1 x2 x3) (k0_pay24 (BitVec.ofNat 32 t) (L68 x0 x1 x2 x3) (w0 x2))
    (k0_pay28 (BitVec.ofNat 32 t) (k0_pay26 (L68 x0 x1 x2 x3)) (w1 x2)) (k0_pay30 (L68 x0 x1 x2 x3) (w2 x2)) (k0_pay31 (BitVec.ofNat 32 t)) (w3 x2) fut (ix2 q j)
      = if h : q.val < 320 then ends x0 x1 x2 x3 t ⟨q, h⟩ j else fut (ix2 ⟨q - 320, by omega⟩ j) := by
  pointwise [k0_pay35]
  simp only [L177_at _ _ _ _ t ht]

theorem first_at (t : ℕ) (ht : t ≤ 12) (q : Fin 16) (j : Fin 512) :
    k0_pay1 (k0_pay36 (BitVec.ofNat 32 t) (L68 x0 x1 x2 x3) (k0_pay24 (BitVec.ofNat 32 t) (L68 x0 x1 x2 x3) (w0 x2))
    (k0_pay28 (BitVec.ofNat 32 t) (k0_pay26 (L68 x0 x1 x2 x3)) (w1 x2)) (k0_pay30 (L68 x0 x1 x2 x3) (w2 x2)) (k0_pay31 (BitVec.ofNat 32 t)) (w3 x2)) (ix2 q j)
      = ends x0 x1 x2 x3 t ⟨q, by omega⟩ j := by
  pointwise [k0_pay1, k0_pay36]
  simp only [L177_at _ _ _ _ t ht]

/-- A column of 336 rows, and zero past them. -/
def colv (x : FVec Ideal S336x128 .f32) (j : Fin 128) (q : ℕ) : EReal := if h : q < 336 then x (ix2 ⟨q, h⟩ j) else 0

/-- Adding a column shifted up by `s` rows doubles the run that a row holds. -/
theorem double (s : ℕ) (hs : s < 336) (hs0 : 0 < s) (w : BitVec 32) (hw : w = BitVec.ofNat 32 (336 - s)) (x : FVec Ideal S336x128 .f32) (f : ℕ → EReal) (j : Fin 128)
    (n : ℕ) (hn : n ≤ 336) (hx : ∀ q < n, colv x j q = run f q s) (q : ℕ) (hq : q + s < n) :
    colv (addf x (dynamicRotate 0 w none x rotates_S336x128_d0)) j q = run f q (s + s) := by
  have h1 : colv (addf x (dynamicRotate 0 w none x rotates_S336x128_d0)) j q = colv x j q + colv x j (q + s) := by
    unfold colv
    rw [dif_pos (by omega), dif_pos (by omega), dif_pos (by omega)]
    show x (ix2 ⟨q, by omega⟩ j) + dynamicRotate 0 w none x rotates_S336x128_d0 (ix2 ⟨q, by omega⟩ j) = _
    congr 1
    subst hw
    refine dynamicRotate_apply 0 _ x _ _ (ix2 ⟨q + s, by omega⟩ j) fun b => ?_
    fin_cases b
    · show q + s = (q + 336 - (BitVec.ofNat 32 (336 - s)).toNat % 336) % 336
      rw [BitVec.toNat_ofNat, Nat.mod_eq_of_lt (a := 336 - s) (by omega), Nat.mod_eq_of_lt (a := 336 - s) (by omega), Nat.mod_eq_of_lt (by omega)]
      omega
    · rfl
  rw [h1, hx q (by omega), hx (q + s) hq, run_add]

section Sums

variable (v81 v108 v135 v162 : FVec Ideal S320x128 .f32) (v : FVec Ideal S336x512 .f32) (f : Fin 512 → ℕ → EReal)
  (hf : ∀ (q : Fin 336) j, v (ix2 q j) = f j q)

include hf in
theorem colv_slice (k : Fin 4) (o : ℕ) (ho : o = 128 * k.val) (h) (j : Fin 128) (q : ℕ) (hq : q < 336) :
    colv (extractStridedSlice S336x128 ![0, o] v h) j q = run (f (col k j)) q 1 := by
  subst ho
  rw [run_one, colv, dif_pos hq, ← hf ⟨q, hq⟩]
  pointwise
  rfl

include hf in
theorem dv_at (p : Fin 320) (j : Fin 512) : k0_pay2 (F := Ideal) v81 v108 v135 v162 v (ix2 p j)
    = run (f j) p (win (bk j)) - (if h : j.val < 128 then v81 (ix2 p ⟨j, h⟩) else if h : j.val - 128 < 128 then v108 (ix2 p ⟨j - 128, h⟩)
      else if h : j.val - 128 - 128 < 128 then v135 (ix2 p ⟨j - 128 - 128, h⟩) else v162 (ix2 p ⟨j - 128 - 128 - 128, by omega⟩)) := by
  have r0 := fun i q h => colv_slice v f hf 0 0 rfl slices_S336x512_o0_0_S336x128 i q h
  have r1 := fun i q h => colv_slice v f hf 1 128 rfl slices_S336x512_o0_128_S336x128 i q h
  have r2 := fun i q h => colv_slice v f hf 2 256 rfl slices_S336x512_o0_256_S336x128 i q h
  have r3 := fun i q h => colv_slice v f hf 3 384 rfl slices_S336x512_o0_384_S336x128 i q h
  unfold k0_pay2
  dsimp only
  generalize h0 : addf (extractStridedSlice S336x128 ![0, 0] v _) _ = y0
  generalize h1 : addf (addf (extractStridedSlice S336x128 ![0, 128] v _) _) _ = y1
  generalize h2 : addf (addf (addf (extractStridedSlice S336x128 ![0, 256] v _) _) _) _ = y2
  generalize h3 : addf (addf (addf (addf (extractStridedSlice S336x128 ![0, 384] v _) _) _) _) _ = y3
  have d1 : ∀ {x : FVec Ideal S336x128 .f32} {k i}, (∀ q < 336, colv x i q = run (f (col k i)) q 1) → _ := fun {x k i} h =>
    double 1 (by omega) (by omega) 335#32 rfl x (f (col k i)) i 336 (by omega) h
  have d2 : ∀ {x : FVec Ideal S336x128 .f32} {k i}, (∀ q < 335, colv x i q = run (f (col k i)) q 2) → _ := fun {x k i} h =>
    double 2 (by omega) (by omega) 334#32 rfl x (f (col k i)) i 335 (by omega) h
  have d3 : ∀ {x : FVec Ideal S336x128 .f32} {k i}, (∀ q < 333, colv x i q = run (f (col k i)) q 4) → _ := fun {x k i} h =>
    double 4 (by omega) (by omega) 332#32 rfl x (f (col k i)) i 333 (by omega) h
  have d4 : ∀ {x : FVec Ideal S336x128 .f32} {k i}, (∀ q < 329, colv x i q = run (f (col k i)) q 8) → _ := fun {x k i} h =>
    double 8 (by omega) (by omega) 328#32 rfl x (f (col k i)) i 329 (by omega) h
  have e0 : ∀ i (q : Fin 320), y0 (ix2 ⟨q, by omega⟩ i) = run (f (col 0 i)) q (win 0) := fun i q => by
    have := d1 (r0 i) q (by omega)
    rwa [h0, colv, dif_pos] at this
  have e1 : ∀ i (q : Fin 320), y1 (ix2 ⟨q, by omega⟩ i) = run (f (col 1 i)) q (win 1) := fun i q => by
    have := d2 (fun q _ => d1 (r1 i) q (by omega)) q (by omega)
    rwa [h1, colv, dif_pos] at this
  have e2 : ∀ i (q : Fin 320), y2 (ix2 ⟨q, by omega⟩ i) = run (f (col 2 i)) q (win 2) := fun i q => by
    have := d3 (fun q _ => d2 (fun q _ => d1 (r2 i) q (by omega)) q (by omega)) q (by omega)
    rwa [h2, colv, dif_pos] at this
  have e3 : ∀ i (q : Fin 320), y3 (ix2 ⟨q, by omega⟩ i) = run (f (col 3 i)) q (win 3) := fun i q => by
    have := d4 (fun q _ => d3 (fun q _ => d2 (fun q _ => d1 (r3 i) q (by omega)) q (by omega)) q (by omega)) q (by omega)
    rwa [h3, colv, dif_pos] at this
  have at_col : ∀ (k : Fin 4) (i : Fin 128), j.val = 128 * k.val + i.val → run (f (col k i)) p (win k) = run (f j) p (win (bk j)) := fun k i h => by
    obtain rfl : j = col k i := Fin.ext h
    rw [bk_col]
  pointwise
  by_cases a : j.val < 128
  · simp only [dif_pos a]
    rw [e0, at_col 0 _ (by simp)]
  by_cases b : j.val - 128 < 128
  · simp only [dif_neg a, dif_pos b]
    rw [e1, at_col 1 _ (by simp; omega)]
  by_cases d : j.val - 128 - 128 < 128
  · simp only [dif_neg a, dif_neg b, dif_pos d]
    rw [e2, at_col 2 _ (by simp; omega)]
  · simp only [dif_neg a, dif_neg b, dif_neg d]
    rw [e3, at_col 3 _ (by simp; omega)]

end Sums

/-- The values at the windows' ends of a chunk and of what follows it, row after row. -/
def follow (t : ℕ) (fut : Vec Ideal S16x512 .f32) (j : Fin 512) (q : ℕ) : EReal :=
  if h : q < 320 then ends x0 x1 x2 x3 t ⟨q, h⟩ j else if h : q - 320 < 16 then fut (ix2 ⟨q - 320, h⟩ j) else 0

/-- A chunk of the gradient: the run of window ends that reach the row, less the row's own. -/
theorem chunk_at (t : ℕ) (ht : t ≤ 12) (fut : Vec Ideal S16x512 .f32) (p : Fin 320) (j : Fin 512) :
    k0_pay2 (k0_pay23 (L68 x0 x1 x2 x3) (w0 x2)) (k0_pay27 (k0_pay26 (L68 x0 x1 x2 x3)) (w1 x2)) (k0_pay30 (L68 x0 x1 x2 x3) (w2 x2)) (k0_pay33 (L68 x0 x1 x2 x3) (w3 x2))
      (k0_pay35 (BitVec.ofNat 32 t) (L68 x0 x1 x2 x3) (k0_pay24 (BitVec.ofNat 32 t) (L68 x0 x1 x2 x3) (w0 x2))
      (k0_pay28 (BitVec.ofNat 32 t) (k0_pay26 (L68 x0 x1 x2 x3)) (w1 x2)) (k0_pay30 (L68 x0 x1 x2 x3) (w2 x2)) (k0_pay31 (BitVec.ofNat 32 t)) (w3 x2) fut) (ix2 p j)
      = run (follow x0 x1 x2 x3 t fut j) p (win (bk j)) - df x0 x1 x2 (sc x3) (gn x3) p j := by
  rw [dv_at _ _ _ _ _ (fun j q => follow x0 x1 x2 x3 t fut j q) fun q j => (ext_at x0 x1 x2 x3 t ht fut q j).trans (by
    unfold follow; split <;> [rfl; rw [dif_pos]])]
  congr 1
  simp only [df0_at, df1_at, df2_at, df3_at]
  refine (by_block j (fun k i => df x0 x1 x2 (sc x3) (gn x3) p (col k i)) (fun i => _) (fun i => _) (fun i => _) (fun i => _)
    (fun _ => rfl) (fun _ => rfl) (fun _ => rfl) (fun _ => rfl)).trans ?_
  rw [col_bk_lo]
end Cert.PoolBwdIdeal.Point
-- ==== Proof.PoolBwdOuts.lean ====
module

public import proofs.«01_k».proof.Proof.PoolBwdPoint
public import Idealize.ShloMosaic.Lib.WritesUnit

@[expose] public section

set_option maxRecDepth 16384

noncomputable section

namespace Cert.PoolBwdIdeal.Point

open Idealize.ShloMosaic Idealize.ShloMosaic.TcCoe Idealize.SL.Sem
open Cert.PoolBwdIdeal Cert.PoolBwdIdeal.Gen Cert.Rows Cert.Pieces Cert.PoolRows

variable (c : Dev nD) (i : grid0.Coords) (a1 : Memref sig .tc .vmem S320x512 .f32) (h1 : a1.IsWhole)
  (a2 : Memref sig .tc .vmem S320x512 .bf16) (h2 : a2.IsWhole)
  (a3 : Memref sig .tc .vmem S4x128x128 .bf16) (h3 : a3.IsWhole)
  (a4 : Memref sig .tc .vmem S8x512 .f32) (h4 : a4.IsWhole)
  (a5 : Memref sig .tc .vmem S320x512 .f32) (h5 : a5.IsWhole)
  (a6 : Memref sig .tc .vmem S4x128x128 .f32) (h6 : a6.IsWhole)
  (a7 : Memref sig .tc .vmem S8x512 .f32) (h7 : a7.IsWhole)
  (a8 : Memref sig .tc .vmem S16x512 .f32) (h8 : a8.IsWhole)
variable (x0 : Vec Ideal S320x512 .f32) (x1 : Vec Ideal S320x512 .bf16) (x2 : Vec Ideal S4x128x128 .bf16) (x3 : Vec Ideal S8x512 .f32)
  (xo5 : Vec Ideal S4x128x128 .f32) (xo6 : Vec Ideal S8x512 .f32) (xs : Vec Ideal S16x512 .f32)

/-- Four stores, a matrix each, fill the stack. -/
theorem canon_stack (p0 p1 p2 p3 : Vec Ideal S1x128x128 .f32) (L : List (View.Piece (Elt Ideal) S4x128x128 .f32)) (G : Fin 4 → Fin 128 → Fin 128 → EReal)
    (e0 : ∀ a b, p0 (ix3 0 a b) = G 0 a b) (e1 : ∀ a b, p1 (ix3 0 a b) = G 1 a b) (e2 : ∀ a b, p2 (ix3 0 a b) = G 2 a b)
    (e3 : ∀ a b, p3 (ix3 0 a b) = G 3 a b) (k : Fin 4) (a b : Fin 128) :
    View.canon (⟨Rect.unit ![3, 0, 0] ![1, 128, 128] inb_S4x128x128_S1x128x128_3_0_0, p3⟩
      :: ⟨Rect.unit ![2, 0, 0] ![1, 128, 128] inb_S4x128x128_S1x128x128_2_0_0, p2⟩
      :: ⟨Rect.unit ![1, 0, 0] ![1, 128, 128] inb_S4x128x128_S1x128x128_1_0_0, p1⟩
      :: ⟨Rect.unit ![0, 0, 0] ![1, 128, 128] inb_S4x128x128_S1x128x128_0_0_0, p0⟩ :: L) (ix3 k a b) = G k a b := by
  fin_cases k
  · rw [canon_miss3 _ _ _ _ _ _ (by decide), canon_miss3 _ _ _ _ _ _ (by decide), canon_miss3 _ _ _ _ _ _ (by decide), canon_hit3 _ _ _ _ _ _ (by decide)]; exact e0 a b
  · rw [canon_miss3 _ _ _ _ _ _ (by decide), canon_miss3 _ _ _ _ _ _ (by decide), canon_hit3 _ _ _ _ _ _ (by decide)]; exact e1 a b
  · rw [canon_miss3 _ _ _ _ _ _ (by decide), canon_hit3 _ _ _ _ _ _ (by decide)]; exact e2 a b
  · rw [canon_hit3 _ _ _ _ _ _ (by decide)]; exact e3 a b

theorem hz3 : (![0, 0, 0] : Fin 3 → Nat) = fun _ => 0 := funext fun a => by fin_cases a <;> rfl

/-- The grid coordinate as the point's word. -/
theorem chunk_of (i : grid0.Coords) : (i 0).val ≤ 12 := Nat.le_of_lt_succ (i 0).isLt

theorem out_B_4 (hc : ¬cond0_0 i) (p : Fin 320) (j : Fin 512) :
    out0_B_4 c i a1 h1 a2 h2 a3 h3 a4 h4 a5 h5 a6 h6 a7 h7 a8 h8 hc x0 x1 x2 x3 xo5 xo6 xs (ix2 p j)
      = run (follow x0 x1 x2 x3 (i 0) xs j) p (win (bk j)) - df x0 x1 x2 (sc x3) (gn x3) p j := by
  unfold out0_B_4
  rw [View.read_writes_junk_eq_canon]
  unfold kernelRun0_B
  dsimp only
  sl_unfold_words
  rw [View.canon_unit_zero hz]
  simp only [View.readAt_eq_ld, h1.read_unread, h2.read_unread, h3.read_unread, h4.read_unread, h6.read_unread, h7.read_unread, h8.read_unread, View.ld_unit_zero (S := S320x512) hz, View.ld_unit_zero (S := S16x512) hz]
  exact chunk_at x0 x1 x2 x3 _ (chunk_of i) xs p j

theorem out_A_4 (hc : cond0_0 i) (p : Fin 320) (j : Fin 512) :
    out0_A_4 c i a1 h1 a2 h2 a3 h3 a4 h4 a5 h5 a6 h6 a7 h7 a8 h8 hc x0 x1 x2 x3 (ix2 p j)
      = run (follow x0 x1 x2 x3 (i 0) (fun _ => 0) j) p (win (bk j)) - df x0 x1 x2 (sc x3) (gn x3) p j := by
  unfold out0_A_4
  rw [View.read_writes_junk_eq_canon]
  unfold kernelRun0_A
  dsimp only
  sl_unfold_words
  rw [View.canon_unit_zero hz, View.readCov_unit_zero (S := S16x512) _ hz]
  simp only [View.readAt_eq_ld, h1.read_unread, h2.read_unread, h3.read_unread, h4.read_unread, h6.read_unread, h7.read_unread, h8.read_unread, View.ld_unit_zero (S := S320x512) hz, View.ld_unit_zero (S := S16x512) hz]
  refine Eq.trans (chunk_at x0 x1 x2 x3 _ (chunk_of i) _ p j) ?_
  have e : k0_pay3 (F := Ideal) = fun _ => 0 := by
    funext y
    obtain ⟨q, j, rfl⟩ : ∃ p k, y = ix2 p k := ⟨y 0, y 1, by pointwise⟩
    pointwise [k0_pay3]
  rw [e]

theorem sout_A (hc : cond0_0 i) (q : Fin 16) (j : Fin 512) :
    sout0_A_0 c i a1 h1 a2 h2 a3 h3 a4 h4 a5 h5 a6 h6 a7 h7 a8 h8 hc x0 x1 x2 x3 (ix2 q j) = ends x0 x1 x2 x3 (i 0) ⟨q, by omega⟩ j := by
  unfold sout0_A_0
  rw [View.read_writes_junk_eq_canon]
  unfold kernelRun0_A
  dsimp only
  sl_unfold_words
  rw [View.canon_cons_unit_zero (S := S16x512) hz]
  simp only [View.readAt_eq_ld, h1.read_unread, h2.read_unread, h3.read_unread, h4.read_unread, h6.read_unread, h7.read_unread, h8.read_unread, View.ld_unit_zero (S := S320x512) hz, View.ld_unit_zero (S := S16x512) hz]
  exact first_at x0 x1 x2 x3 _ (chunk_of i) q j

theorem sout_B (hc : ¬cond0_0 i) (q : Fin 16) (j : Fin 512) :
    sout0_B_0 c i a1 h1 a2 h2 a3 h3 a4 h4 a5 h5 a6 h6 a7 h7 a8 h8 hc x0 x1 x2 x3 xo5 xo6 xs (ix2 q j) = ends x0 x1 x2 x3 (i 0) ⟨q, by omega⟩ j := by
  unfold sout0_B_0
  rw [View.read_writes_junk_eq_canon]
  unfold kernelRun0_B
  dsimp only
  sl_unfold_words
  rw [View.canon_unit_zero (S := S16x512) hz]
  simp only [View.readAt_eq_ld, h1.read_unread, h2.read_unread, h3.read_unread, h4.read_unread, h6.read_unread, h7.read_unread, h8.read_unread, View.ld_unit_zero (S := S320x512) hz, View.ld_unit_zero (S := S16x512) hz]
  exact first_at x0 x1 x2 x3 _ (chunk_of i) q j

theorem out_B_5 (hc : ¬cond0_0 i) (k : Fin 4) (a b : Fin 128) :
    out0_B_5 c i a1 h1 a2 h2 a3 h3 a4 h4 a5 h5 a6 h6 a7 h7 a8 h8 hc x0 x1 x2 x3 xo5 xo6 xs (ix3 k a b) = xo5 (ix3 k a b) + ∑ p, termW x0 x1 x2 (sc x3) (gn x3) k a b p := by
  unfold out0_B_5
  rw [View.read_writes_junk_eq_canon]
  unfold kernelRun0_B
  dsimp only
  sl_unfold_words
  simp only [View.readAt_eq_ld, h1.read_unread, h2.read_unread, h3.read_unread, h4.read_unread, h6.read_unread, h7.read_unread, h8.read_unread, View.ld_unit_zero (S := S320x512) hz, View.ld_unit_zero (S := S16x512) hz]
  refine canon_stack _ _ _ _ _ (fun k a b => xo5 (ix3 k a b) + ∑ p, termW x0 x1 x2 (sc x3) (gn x3) k a b p) (fun a b => ?_) (fun a b => ?_) (fun a b => ?_) (fun a b => ?_) k a b
  · refine (addW0_at x0 x1 x2 x3 _ a b).trans (congrArg (· + _) ?_); pointwise
  · refine (addW1_at x0 x1 x2 x3 _ a b).trans (congrArg (· + _) ?_); pointwise
  · refine (addW2_at x0 x1 x2 x3 _ a b).trans (congrArg (· + _) ?_); pointwise
  · refine (addW3_at x0 x1 x2 x3 _ a b).trans (congrArg (· + _) ?_); pointwise

theorem out_A_5 (hc : cond0_0 i) (k : Fin 4) (a b : Fin 128) :
    out0_A_5 c i a1 h1 a2 h2 a3 h3 a4 h4 a5 h5 a6 h6 a7 h7 a8 h8 hc x0 x1 x2 x3 (ix3 k a b) = ∑ p, termW x0 x1 x2 (sc x3) (gn x3) k a b p := by
  unfold out0_A_5
  rw [View.read_writes_junk_eq_canon]
  unfold kernelRun0_A
  dsimp only
  sl_unfold_words
  simp only [View.readAt_eq_ld, h1.read_unread, h2.read_unread, h3.read_unread, h4.read_unread, h6.read_unread, h7.read_unread, h8.read_unread, View.ld_unit_zero (S := S320x512) hz, View.ld_unit_zero (S := S16x512) hz]
  have hz0 : ∀ r : Rect S4x128x128, a6.view.readCov (Val := Elt Ideal)
      [⟨Rect.unit ![0, 0, 0] ![4, 128, 128] inb_S4x128x128_S4x128x128_0_0_0, k0_pay4 (F := Ideal)⟩] r.toLoadRect = View.ld (Val := Elt Ideal) (e' := .f32) (k0_pay4 (F := Ideal)) r :=
    fun r => by
      rw [View.readCov_eq_canon', View.canon_unit_zero (S := S4x128x128) hz3]
  refine canon_stack _ _ _ _ _ (fun k a b => ∑ p, termW x0 x1 x2 (sc x3) (gn x3) k a b p) (fun a b => ?_) (fun a b => ?_) (fun a b => ?_) (fun a b => ?_) k a b
  · refine (addW0_at x0 x1 x2 x3 _ a b).trans ?_
    rw [hz0]; pointwise [k0_pay4]
  · refine (addW1_at x0 x1 x2 x3 _ a b).trans ?_
    rw [View.readCov_skip _ _ _ _ _ (by decide +kernel), hz0]; pointwise [k0_pay4]
  · refine (addW2_at x0 x1 x2 x3 _ a b).trans ?_
    rw [View.readCov_skip _ _ _ _ _ (by decide +kernel), View.readCov_skip _ _ _ _ _ (by decide +kernel), hz0]; pointwise [k0_pay4]
  · refine (addW3_at x0 x1 x2 x3 _ a b).trans ?_
    rw [View.readCov_skip _ _ _ _ _ (by decide +kernel), View.readCov_skip _ _ _ _ _ (by decide +kernel), View.readCov_skip _ _ _ _ _ (by decide +kernel), hz0]; pointwise [k0_pay4]

/-- What a point adds to the rows of the vectors' gradient: the scale's, the norm weight's, nothing to the others. -/
def addV (r : Fin 8) (j : Fin 512) : EReal :=
  if r = 0 then ∑ p, termS x0 x1 x2 (sc x3) (gn x3) j p else if r = 1 then ∑ p, termG x0 x1 x2 (sc x3) j p else 0

theorem out_A_6 (hc : cond0_0 i) (r : Fin 8) (j : Fin 512) :
    out0_A_6 c i a1 h1 a2 h2 a3 h3 a4 h4 a5 h5 a6 h6 a7 h7 a8 h8 hc x0 x1 x2 x3 (ix2 r j) = addV x0 x1 x2 x3 r j := by
  unfold out0_A_6
  rw [View.read_writes_junk_eq_canon]
  unfold kernelRun0_A
  dsimp only
  sl_unfold_words
  simp only [View.readAt_eq_ld, h1.read_unread, h2.read_unread, h3.read_unread, h4.read_unread, h6.read_unread, h7.read_unread, h8.read_unread, View.ld_unit_zero (S := S320x512) hz, View.ld_unit_zero (S := S16x512) hz]
  have hz0 : ∀ r : Rect S8x512, a7.view.readCov (Val := Elt Ideal)
      [⟨Rect.unit ![0, 0] ![8, 512] inb_S8x512_S8x512_0_0, k0_pay5 (F := Ideal)⟩] r.toLoadRect = View.ld (Val := Elt Ideal) (e' := .f32) (k0_pay5 (F := Ideal)) r :=
    fun r => by
      rw [View.readCov_eq_canon', View.canon_unit_zero (S := S8x512) hz]
  unfold addV
  by_cases h1 : r = 1
  · subst h1
    rw [canon_hit _ _ _ _ _ (0 : Fin 1) j (by simp) (by simp), if_neg (by decide), if_pos rfl]
    refine (addG_at x0 x1 x2 x3 _ j).trans ?_
    rw [View.readCov_skip _ _ _ _ _ (by decide +kernel), hz0]; pointwise [k0_pay5]
  by_cases h0 : r = 0
  · subst h0
    rw [canon_miss _ _ _ _ _ (by simp), canon_hit _ _ _ _ _ (0 : Fin 1) j (by simp) (by simp), if_pos rfl]
    refine (addS_at x0 x1 x2 x3 _ j).trans ?_
    rw [hz0]; pointwise [k0_pay5]
  · rw [canon_miss _ _ _ _ _ (by omega), canon_miss _ _ _ _ _ (by omega), View.canon_unit_zero (S := S8x512) hz, if_neg h0, if_neg h1]
    pointwise [k0_pay5]

theorem out_B_6 (hc : ¬cond0_0 i) (r : Fin 8) (j : Fin 512) :
    out0_B_6 c i a1 h1 a2 h2 a3 h3 a4 h4 a5 h5 a6 h6 a7 h7 a8 h8 hc x0 x1 x2 x3 xo5 xo6 xs (ix2 r j) = xo6 (ix2 r j) + addV x0 x1 x2 x3 r j := by
  unfold out0_B_6
  unfold kernelRun0_B
  dsimp only
  sl_unfold_words
  simp only [View.readAt_eq_ld, h1.read_unread, h2.read_unread, h3.read_unread, h4.read_unread, h6.read_unread, h7.read_unread, h8.read_unread, View.ld_unit_zero (S := S320x512) hz, View.ld_unit_zero (S := S16x512) hz]
  unfold addV
  by_cases e1 : r = 1
  · subst e1
    rw [View.read_writes_cons_unit_of_mem _ _ _ _ _ _ (ix2 0 j : S1x512.Idx) rfl (fun a => by fin_cases a <;> simp), if_neg (by decide), if_pos rfl]
    refine (addG_at x0 x1 x2 x3 _ j).trans (congrArg (· + _) ?_); pointwise
  by_cases e0 : r = 0
  · subst e0
    rw [View.read_writes_cons_unit_of_not_mem _ _ _ _ _ _ rfl 0 (by simp), View.read_writes_cons_unit_of_mem _ _ _ _ _ _ (ix2 0 j : S1x512.Idx) rfl (fun a => by fin_cases a <;> simp), if_pos rfl]
    refine (addS_at x0 x1 x2 x3 _ j).trans (congrArg (· + _) ?_); pointwise
  · rw [View.read_writes_cons_unit_of_not_mem _ _ _ _ _ _ rfl 0 (by right; show 1 + 1 ≤ r.val; omega), View.read_writes_cons_unit_of_not_mem _ _ _ _ _ _ rfl 0 (by right; show 0 + 1 ≤ r.val; omega), if_neg e0, if_neg e1]
    refine (congrFun (h7.read_unread xo6) _).trans (add_zero _).symm

end Cert.PoolBwdIdeal.Point

end
-- ==== Proof.PoolBwdArrays.lean ====
/-
  The pooling mixer's backward kernel as a whole: its three result arrays after the last grid point, as functions of the
  arrays the region is entered with. The points walk the row chunks from the last to the first, so that the rows a
  chunk's windows end in beyond it, carried over in a scratch buffer, are those of the chunk after it.
-/
module

public import proofs.«01_k».proof.Proof.PoolBwdOuts
public import Idealize.ShloMosaic.Lib.Pipeline.ValueKit.Geometry
public import Idealize.ShloMosaic.Lib.Pipeline.ValueKit.Acc

@[expose] public section

noncomputable section

namespace Cert.PoolBwdIdeal.Arrays

open Idealize.ShloMosaic Idealize.ShloMosaic.TcCoe Idealize.SL.Sem
open Cert.PoolBwdIdeal Cert.PoolBwdIdeal.Gen Cert.PoolBwdIdeal.Point Cert.PoolRows

variable (m : (ℓ : Loc nD τ sig) → Buf (Elt Ideal) ℓ) (c : Dev nD)

/-- The arrays the region is entered with: the cotangent's rows, the pooled features, the matrices, the vectors. -/
abbrev aD : FVec Ideal S4160x512 .f32 := V m c main_v74
abbrev aF : FVec Ideal S4160x512 .bf16 := V m c main_v73
abbrev aW : FVec Ideal S4x128x128 .bf16 := V m c main_v4
abbrev aV : FVec Ideal S8x512 .f32 := V m c main_v2

theorem at0 : ∀ t : Fin cfg0.N, win0_0.index t = ![12 - t.val, 0] := (by decide +kernel : ∀ t : Fin grid0.N, _)
theorem at1 : ∀ t : Fin cfg0.N, win0_1.index t = ![12 - t.val, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![12 - t.val, 0] := (by decide +kernel : ∀ t : Fin grid0.N, _)
theorem coord : ∀ t : Fin cfg0.N, (grid0.coords t 0).val = t.val := (by decide +kernel : ∀ t : Fin grid0.N, _)

theorem lt13 (t : Fin cfg0.N) : t.val < 13 := lt_of_lt_of_eq t.isLt N_0

/-- The array row of a block's row. -/
def gr (t : Fin cfg0.N) (p : Fin 320) : Fin 4160 := ⟨(12 - t.val) * 320 + p.val, by have := lt13 t; omega⟩

theorem blk0 (t : Fin cfg0.N) (p : Fin 320) (j : Fin 512) : (iblk m c 0 t : FVec Ideal S320x512 .f32) (ix2 p j) = aD m c (ix2 (gr t p) j) := by
  blk_simp [iblk]; refine congrArg (V m c main_v74) ?_; blk_ext [at0] <;> rfl
theorem blk1 (t : Fin cfg0.N) (p : Fin 320) (j : Fin 512) : (iblk m c 1 t : FVec Ideal S320x512 .bf16) (ix2 p j) = aF m c (ix2 (gr t p) j) := by
  blk_simp [iblk]; refine congrArg (V m c main_v73) ?_; blk_ext [at1] <;> rfl
theorem blk2 (t : Fin cfg0.N) (k : Fin 4) (i j : Fin 128) : (iblk m c 2 t : FVec Ideal S4x128x128 .bf16) (ix3 k i j) = aW m c (ix3 k i j) := by
  blk_simp [iblk]; refine congrArg (V m c main_v4) ?_; blk_ext [at2]
theorem blk3 (t : Fin cfg0.N) (k : Fin 8) (j : Fin 512) : (iblk m c 3 t : FVec Ideal S8x512 .f32) (ix2 k j) = aV m c (ix2 k j) := by
  blk_simp [iblk]; refine congrArg (V m c main_v2) ?_; blk_ext [at3]

/-- The gradient at the features, and at the windows' ends, by the row's number; zero past the last row. -/
abbrev gdf (r : Fin 4160) (j : Fin 512) : EReal := df (aD m c) (aF m c) (aW m c) (sc (aV m c)) (gn (aV m c)) r j
def gends (j : Fin 512) (q : ℕ) : EReal := if h : q < 4160 then gdf m c ⟨q, h⟩ j * Ideal.div 1 (cnt q (bk j)) else 0

theorem df_blk (t : Fin cfg0.N) (p : Fin 320) (j : Fin 512) :
    df (iblk m c 0 t) (iblk m c 1 t) (iblk m c 2 t) (sc (iblk m c 3 t)) (gn (iblk m c 3 t)) p j = gdf m c (gr t p) j :=
  congrFun (df_congr (blk0 m c t p) (blk1 m c t p) (blk2 m c t) (blk3 m c t 0) (blk3 m c t 1)) j

theorem ends_blk (t : Fin cfg0.N) (p : Fin 320) (j : Fin 512) :
    ends (iblk m c 0 t) (iblk m c 1 t) (iblk m c 2 t) (iblk m c 3 t) (grid0.coords t 0) p j = gends m c j ((12 - t.val) * 320 + p.val) := by
  have h := lt13 t
  rw [ends, df_blk, coord, gends, dif_pos (by omega)]
  rfl

/-- What the scratch buffer holds after a point: the first rows of the point's chunk. -/
theorem scratch (t : Fin cfg0.N) (q : Fin 16) (j : Fin 512) :
    ((outsAt0 m c t.val t.isLt).2.2.2 : FVec Ideal S16x512 .f32) (ix2 q j) = gends m c j ((12 - t.val) * 320 + q.val) := by
  by_cases h : t.val % 13 = 0
  · rw [outsAt0_A m c t h]; dsimp only; rw [sout_A]; exact ends_blk m c t ⟨q, by omega⟩ j
  · rw [outsAt0_B m c t h]; dsimp only; rw [sout_B]; exact ends_blk m c t ⟨q, by omega⟩ j

/-- The chunk's rows and those after it are the array's. -/
theorem follow_eq (t : Fin cfg0.N) (fut : Vec Ideal S16x512 .f32) (j : Fin 512)
    (hfut : ∀ q : Fin 16, fut (ix2 q j) = gends m c j ((12 - t.val) * 320 + 320 + q.val)) (q : ℕ) (hq : q < 336) :
    follow (iblk m c 0 t) (iblk m c 1 t) (iblk m c 2 t) (iblk m c 3 t) (grid0.coords t 0) fut j q = gends m c j ((12 - t.val) * 320 + q) := by
  unfold follow
  split
  · exact ends_blk m c t ⟨q, by assumption⟩ j
  · rw [dif_pos (by omega), hfut]; congr 1; simp only; omega

theorem run_eq (t : Fin cfg0.N) (fut : Vec Ideal S16x512 .f32) (p : Fin 320) (j : Fin 512)
    (hfut : ∀ q : Fin 16, fut (ix2 q j) = gends m c j ((12 - t.val) * 320 + 320 + q.val)) :
    run (follow (iblk m c 0 t) (iblk m c 1 t) (iblk m c 2 t) (iblk m c 3 t) (grid0.coords t 0) fut j) p (win (bk j))
      = run (gends m c j) ((12 - t.val) * 320 + p) (win (bk j)) := by
  have hw := win_le (bk j)
  refine run_congr fun i hi => ?_
  rw [follow_eq m c t fut j hfut _ (by omega), Nat.add_assoc]

/-- The gradient of the pooled rows: the ends the row's window reaches, less the gradient at its feature. -/
def pooled (r : Fin 4160) (j : Fin 512) : EReal := run (gends m c j) r (win (bk j)) - gdf m c r j

theorem final4 (r : Fin 4160) (j : Fin 512) :
    ((dats m 0 c).arrAt 4 cfg0.N : FVec Ideal S4160x512 .f32) (ix2 r j) = pooled m c r j := by
  have h := (dats m 0 c).arrAt_eq_of_covers 4
    (fun y : S4160x512.Idx => pooled m c (y 0) (y 1))
    (by decide +kernel) fun t hf y => ?_
  · exact congrFun h (ix2 r j)
  · blk_simp
    rw [after0_4]
    obtain ⟨p, j, rfl⟩ : ∃ (p : Fin 320) (j : Fin 512), y = ix2 p j := ⟨y 0, y 1, by pointwise⟩
    have e : ((win0_4.blk t).view.emb (ix2 p j : S320x512.Idx) : S4160x512.Idx) = ix2 (gr t p) j := by blk_ext [at4] <;> rfl
    rw [e]
    have hr : pooled m c (gr t p) j = run (gends m c j) ((12 - t.val) * 320 + p.val) (win (bk j)) - gdf m c (gr t p) j := rfl
    refine Eq.trans ?_ hr.symm
    rw [← df_blk]
    have ht := lt13 t
    by_cases h0 : t.val % 13 = 0
    · rw [outsAt0_A m c t h0]; dsimp only
      rw [out_A_4, run_eq]
      intro q
      have : t.val = 0 := by omega
      rw [gends, dif_neg (by omega)]
    · rw [outsAt0_B m c t h0]; dsimp only
      rw [out_B_4, run_eq]
      intro q
      refine (scratch m c ⟨t.val - 1, Nat.lt_of_le_of_lt (Nat.sub_le _ _) t.isLt⟩ q j).trans ?_
      congr 1
      simp only
      omega

/-- The sum over all rows, point by point, the last chunk first. -/
theorem sum_rows (f : Fin 4160 → EReal) : ∑ t : Fin cfg0.N, ∑ p : Fin 320, f (gr t p) = ∑ r : Fin 4160, f r := by
  refine Eq.trans ?_ (Fin.sum_mul_add_fin 13 320 f rfl)
  refine Fintype.sum_equiv (Fin.revPerm (n := 13)) _ _ fun t => Finset.sum_congr rfl fun p _ => congrArg f (Fin.ext ?_)
  show (12 - t.val) * 320 + p.val = (13 - (t.val + 1)) * 320 + p.val
  omega

/-- The matrices' gradients. -/
theorem final5 (k : Fin 4) (a b : Fin 128) :
    ((dats m 0 c).arrAt 5 cfg0.N : FVec Ideal S4x128x128 .f32) (ix3 k a b)
      = ∑ r : Fin 4160, termW (aD m c) (aF m c) (aW m c) (sc (aV m c)) (gn (aV m c)) k a b r := by
  refine ((dats m 0 c).arrAt_emb_eq_after_last 5 t0_12 (by decide +kernel) (ix3 k a b : S4x128x128.Idx)).trans ?_
  blk_simp
  rw [after0_5]
  have hb := fun (t : Fin cfg0.N) (i : Fin 4 × Fin 128 × Fin 128) => Finset.sum_congr (s₁ := (Finset.univ : Finset (Fin 320))) rfl fun p _ =>
    termW_congr (blk0 m c t p) (blk1 m c t p) (blk2 m c t) (blk3 m c t 0) (blk3 m c t 1) i.1 i.2.1 i.2.2
  have := Pipeline.eq_sum_fin_of_reset_step_apply_last (ι := Fin 4 × Fin 128 × Fin 128) (N := cfg0.N)
    (fun n h i => ((outsAt0 m c n h).2.1 : FVec Ideal S4x128x128 .f32) (ix3 i.1 i.2.1 i.2.2)) 13 (fun _ => (0 : EReal))
    (fun t i => ∑ p : Fin 320, termW (aD m c) (aF m c) (aW m c) (sc (aV m c)) (gn (aV m c)) i.1 i.2.1 i.2.2 (gr t p))
    (fun t h i => by rw [outsAt0_A m c t h]; dsimp only; rw [out_A_5, zero_add]; exact hb t i)
    (fun t h i => by rw [outsAt0_B m c t h]; dsimp only; rw [out_B_5]; exact congrArg _ (hb t i))
    (by decide) t0_12 rfl (k, a, b)
  refine Eq.trans ?_ (this.trans ((zero_add _).trans (sum_rows _)))
  rfl

/-- The vectors' gradients: the scale's in row 0, the norm weight's in row 1, zero in the others. -/
theorem final6 (k : Fin 8) (j : Fin 512) :
    ((dats m 0 c).arrAt 6 cfg0.N : FVec Ideal S8x512 .f32) (ix2 k j)
      = if k = 0 then ∑ r : Fin 4160, termS (aD m c) (aF m c) (aW m c) (sc (aV m c)) (gn (aV m c)) j r
        else if k = 1 then ∑ r : Fin 4160, termG (aD m c) (aF m c) (aW m c) (sc (aV m c)) j r else 0 := by
  refine ((dats m 0 c).arrAt_emb_eq_after_last 6 t0_12 (by decide +kernel) (ix2 k j : S8x512.Idx)).trans ?_
  blk_simp
  rw [after0_6]
  have hb : ∀ (t : Fin cfg0.N) (i : Fin 8 × Fin 512), addV (iblk m c 0 t) (iblk m c 1 t) (iblk m c 2 t) (iblk m c 3 t) i.1 i.2
      = ∑ p : Fin 320, (if i.1 = 0 then termS (aD m c) (aF m c) (aW m c) (sc (aV m c)) (gn (aV m c)) i.2 (gr t p)
        else if i.1 = 1 then termG (aD m c) (aF m c) (aW m c) (sc (aV m c)) i.2 (gr t p) else 0) := fun t i => by
    unfold addV
    split
    · exact Finset.sum_congr rfl fun p _ => termS_congr (blk0 m c t p) (blk1 m c t p) (blk2 m c t) (blk3 m c t 0) (blk3 m c t 1) i.2
    split
    · exact Finset.sum_congr rfl fun p _ => termG_congr (blk0 m c t p) (blk1 m c t p) (blk2 m c t) (blk3 m c t 0) i.2
    · rw [Finset.sum_const_zero]
  have := Pipeline.eq_sum_fin_of_reset_step_apply_last (ι := Fin 8 × Fin 512) (N := cfg0.N)
    (fun n h i => ((outsAt0 m c n h).2.2.1 : FVec Ideal S8x512 .f32) (ix2 i.1 i.2)) 13 (fun _ => (0 : EReal))
    (fun t i => ∑ p : Fin 320, (if i.1 = 0 then termS (aD m c) (aF m c) (aW m c) (sc (aV m c)) (gn (aV m c)) i.2 (gr t p)
        else if i.1 = 1 then termG (aD m c) (aF m c) (aW m c) (sc (aV m c)) i.2 (gr t p) else 0))
    (fun t h i => by rw [outsAt0_A m c t h]; dsimp only; rw [out_A_6, zero_add]; exact hb t i)
    (fun t h i => by rw [outsAt0_B m c t h]; dsimp only; rw [out_B_6]; exact congrArg _ (hb t i))
    (by decide) t0_12 rfl (k, j)
  refine Eq.trans ?_ (this.trans ((zero_add _).trans ((sum_rows (fun r => if k = 0 then termS (aD m c) (aF m c) (aW m c) (sc (aV m c)) (gn (aV m c)) j r
        else if k = 1 then termG (aD m c) (aF m c) (aW m c) (sc (aV m c)) j r else 0)).trans ?_)))
  · rfl
  · split
    · rfl
    split
    · rfl
    · rw [Finset.sum_const_zero]

end Cert.PoolBwdIdeal.Arrays

end
-- ==== Proof.WindowSum.lean ====
/-
  A host window sum along the rows of an array of three axes, read at an index, when its initial value is zero:
  the window's rows summed, those outside the array counting as zero. With the window as long as the array, padded
  before it the sums run over the rows up to the index's, padded behind it over the rows from the index's on.
-/
module

public import Idealize.ShloMosaic.Lib.Pointwise

@[expose] public section

noncomputable section

namespace Cert.WindowSum

open Idealize.ShloMosaic

/-- Row `q` of a column, zero outside the array. -/
def rowAt {n a b : ℕ} (x : (⟨3, ![n, a, b]⟩ : Shape).Idx → EReal) (k : Fin a) (j : Fin b) (q : ℕ) : EReal :=
  if h : q < n then x (ix3 ⟨q, h⟩ k j) else 0

/-- A left fold of additions is a sum. -/
theorem foldl_add {ι : Type} (l : List ι) (f : ι → EReal) (v : EReal) : l.foldl (fun r i => r + f i) v = v + (l.map f).sum := by
  induction l generalizing v with
  | nil => simp
  | cons i l ih => rw [List.foldl_cons, ih, List.map_cons, List.sum_cons, add_assoc]

/-- The positions of a window one column wide are its rows. -/
def rows (w : ℕ) : Fin w ≃ (⟨3, ![w, 1, 1]⟩ : Shape).Idx where
  toFun i := ix3 i 0 0
  invFun y := y 0
  left_inv _ := rfl
  right_inv y := by
    funext a
    match a with
    | ⟨0, _⟩ => rfl
    | ⟨1, _⟩ => exact Subsingleton.elim (α := Fin 1) _ _
    | ⟨2, _⟩ => exact Subsingleton.elim (α := Fin 1) _ _

theorem windowSum_at {n a b w pre post : ℕ} (x : (⟨3, ![n, a, b]⟩ : Shape).Idx → EReal)
    (h : (⟨3, ![n, a, b]⟩ : Shape).ReduceWindows (![w, 1, 1] : Fin 3 → ℕ) ![1, 1, 1] ![pre, 0, 0] ![post, 0, 0] ⟨3, ![n, a, b]⟩)
    (t : Fin n) (k : Fin a) (j : Fin b) :
    Ideal.hostReduceWindowAdd (s := ⟨3, ![n, a, b]⟩) (![w, 1, 1] : Fin 3 → ℕ) ![1, 1, 1] ![pre, 0, 0] ![post, 0, 0] h x 0 (ix3 t k j)
      = ∑ i ∈ Finset.range w, if pre ≤ t + i then rowAt x k j (t + i - pre) else 0 := by
  have hk := k.isLt
  have hj := j.isLt
  unfold Ideal.hostReduceWindowAdd Host.reduceWindow
  refine (foldl_add _ _ _).trans ?_
  rw [zero_add, ← Fin.sum_univ_def, ← Fin.sum_univ_eq_sum_range (fun i => if pre ≤ t.val + i then rowAt x k j (t + i - pre) else 0) w]
  refine Fintype.sum_equiv ((Shape.rowMajor ⟨3, ![w, 1, 1]⟩).symm.trans (rows w).symm) _ _ fun i => ?_
  obtain ⟨i', hi'⟩ : ∃ i', i' = ((Shape.rowMajor ⟨3, ![w, 1, 1]⟩).symm.trans (rows w).symm) i := ⟨_, rfl⟩
  have hy : (Shape.rowMajor ⟨3, ![w, 1, 1]⟩).symm i = rows w i' := by
    rw [hi', Equiv.trans_apply, Equiv.apply_symm_apply]
  rw [← hi']
  have h0 : ((Shape.rowMajor ⟨3, ![w, 1, 1]⟩).symm i 0).val = i'.val := by rw [hy]; rfl
  have h1 : ((Shape.rowMajor ⟨3, ![w, 1, 1]⟩).symm i 1).val = 0 := by rw [hy]; rfl
  have h2 : ((Shape.rowMajor ⟨3, ![w, 1, 1]⟩).symm i 2).val = 0 := by rw [hy]; rfl
  have g0 : (ix3 t k j 0).val * 1 + ((Shape.rowMajor ⟨3, ![w, 1, 1]⟩).symm i 0).val = t + i' := by rw [h0, Nat.mul_one]; rfl
  have g1 : (ix3 t k j 1).val * 1 + ((Shape.rowMajor ⟨3, ![w, 1, 1]⟩).symm i 1).val = k := by rw [h1, Nat.mul_one]; rfl
  have g2 : (ix3 t k j 2).val * 1 + ((Shape.rowMajor ⟨3, ![w, 1, 1]⟩).symm i 2).val = j := by rw [h2, Nat.mul_one]; rfl
  split
  · next hin =>
    have b0 := hin 0
    change pre ≤ (ix3 t k j 0).val * 1 + ((Shape.rowMajor ⟨3, ![w, 1, 1]⟩).symm i 0).val
      ∧ (ix3 t k j 0).val * 1 + ((Shape.rowMajor ⟨3, ![w, 1, 1]⟩).symm i 0).val - pre < n at b0
    rw [g0] at b0
    rw [if_pos b0.1, rowAt, dif_pos b0.2]
    refine congrArg x (funext fun a => Fin.ext ?_)
    match a with
    | ⟨0, _⟩ => exact congrArg (· - pre) g0
    | ⟨1, _⟩ => exact congrArg (· - 0) g1
    | ⟨2, _⟩ => exact congrArg (· - 0) g2
  · next hin =>
    split
    · next hp =>
      rw [rowAt, dif_neg]
      refine fun hlt => hin fun ax => ?_
      match ax with
      | ⟨0, _⟩ =>
        show pre ≤ (ix3 t k j 0).val * 1 + ((Shape.rowMajor ⟨3, ![w, 1, 1]⟩).symm i 0).val
          ∧ (ix3 t k j 0).val * 1 + ((Shape.rowMajor ⟨3, ![w, 1, 1]⟩).symm i 0).val - pre < n
        rw [g0]; exact ⟨hp, hlt⟩
      | ⟨1, _⟩ =>
        show 0 ≤ (ix3 t k j 1).val * 1 + ((Shape.rowMajor ⟨3, ![w, 1, 1]⟩).symm i 1).val
          ∧ (ix3 t k j 1).val * 1 + ((Shape.rowMajor ⟨3, ![w, 1, 1]⟩).symm i 1).val - 0 < a
        rw [g1]; omega
      | ⟨2, _⟩ =>
        show 0 ≤ (ix3 t k j 2).val * 1 + ((Shape.rowMajor ⟨3, ![w, 1, 1]⟩).symm i 2).val
          ∧ (ix3 t k j 2).val * 1 + ((Shape.rowMajor ⟨3, ![w, 1, 1]⟩).symm i 2).val - 0 < b
        rw [g2]; omega
    · rfl

end Cert.WindowSum

end
-- ==== Proof.PoolFeats.lean ====
/-
  The pooling mixer's features in plain formulas: a column's prefix sum, less the prefix sum a window's width earlier,
  over the number of rows the window covers, less the row itself. And the sums of differences that the gradient of the
  prefix sums leads to.
-/
module

public import proofs.«01_k».proof.Proof.PoolRows
public import proofs.«01_k».proof.Proof.WindowSum

@[expose] public section

noncomputable section

namespace Cert.PoolFeats

open Idealize.ShloMosaic
open Cert.Rows Cert.PoolRows Cert.WindowSum

/-- The rows' columns as four blocks of 128. -/
def blocks {n : ℕ} (v : (⟨2, ![n, 512]⟩ : Shape).Idx → EReal) : (⟨3, ![n, 4, 128]⟩ : Shape).Idx → EReal := fun y => v (ix2 (y 0) (col (y 1) (y 2)))

/-- The sum of the rows up to row `t`, as a window of all rows that ends there. -/
def prefixes {a b : ℕ} (x : (⟨3, ![4112, a, b]⟩ : Shape).Idx → EReal) (k : Fin a) (j : Fin b) (t : ℕ) : EReal :=
  ∑ i ∈ Finset.range 4112, if 4111 ≤ t + i then rowAt x k j (t + i - 4111) else 0

/-- The feature of row `r`. -/
def feat (v : (⟨2, ![4112, 512]⟩ : Shape).Idx → EReal) (r : Fin 4112) (k : Fin 4) (i : Fin 128) : EReal :=
  Ideal.div (prefixes (blocks v) k i r - if r.val < win k then 0 else prefixes (blocks v) k i (r - win k)) (cnt r k) - v (ix2 r (col k i))

/-- The features as an array. -/
def feats (v : (⟨2, ![4112, 512]⟩ : Shape).Idx → EReal) : (⟨2, ![4112, 512]⟩ : Shape).Idx → EReal := fun y => feat v (y 0) (bk (y 1)) (lo (y 1))

theorem prefix_at (x : FVec Ideal ⟨3, ![4112, 4, 128]⟩ .f32) (v : FVec Ideal ⟨0, ![]⟩ .f32) (hv : ∀ i, (v i : EReal) = 0)
    (h : (⟨3, ![4112, 4, 128]⟩ : Shape).ReduceWindows (![4112, 1, 1] : Fin 3 → ℕ) ![1, 1, 1] ![4111, 0, 0] ![0, 0, 0] ⟨3, ![4112, 4, 128]⟩)
    (hu : 0 < (⟨0, ![]⟩ : Shape).numel) (t : Fin 4112) (k : Fin 4) (j : Fin 128) :
    (Host.reduceWindowAdd (![4112, 1, 1] : Fin 3 → ℕ) ![1, 1, 1] ![4111, 0, 0] ![0, 0, 0] x v h hu (ix3 t k j) : EReal) = prefixes x k j t := by
  unfold Host.reduceWindowAdd
  rw [show v (Shape.Idx.first hu) = (0 : EReal) from hv _]
  exact windowSum_at x h t k j

theorem suffix_at (x : FVec Ideal ⟨3, ![4112, 4, 128]⟩ .f32) (v : FVec Ideal ⟨0, ![]⟩ .f32) (hv : ∀ i, (v i : EReal) = 0)
    (h : (⟨3, ![4112, 4, 128]⟩ : Shape).ReduceWindows (![4112, 1, 1] : Fin 3 → ℕ) ![1, 1, 1] ![0, 0, 0] ![4111, 0, 0] ⟨3, ![4112, 4, 128]⟩)
    (hu : 0 < (⟨0, ![]⟩ : Shape).numel) (t : Fin 4112) (k : Fin 4) (j : Fin 128) :
    (Host.reduceWindowAdd (![4112, 1, 1] : Fin 3 → ℕ) ![1, 1, 1] ![0, 0, 0] ![4111, 0, 0] x v h hu (ix3 t k j) : EReal) = run (rowAt x k j) t 4112 := by
  unfold Host.reduceWindowAdd
  rw [show v (Shape.Idx.first hu) = (0 : EReal) from hv _]
  exact (windowSum_at x h t k j).trans (Finset.sum_congr rfl fun i _ => by rw [if_pos (Nat.zero_le _), Nat.sub_zero])

/-- The number of rows a window covers, as the host's floating-point lines compute it. -/
theorem count_nat {r : ℕ} (hr : r < 4160) (k : Fin 4) (w : EReal) (hw : w = ((win k : ℕ) : ℝ)) :
    min (1 + (FloatOps.sitofp FTy.f32 (BitVec.ofNat 32 r) : Ideal .f32)) w = cnt r k := by
  have e : (BitVec.ofNat 32 r).toInt = (r : ℤ) := by rw [BitVec.toInt_ofNat', Int.bmod_def]; omega
  have : ((FloatOps.sitofp FTy.f32 (BitVec.ofNat 32 r) : Ideal .f32) : EReal) = ((r : ℝ) : EReal) := by
    show (((BitVec.ofNat 32 r).toInt : ℝ) : EReal) = _
    rw [e]; rfl
  rw [this, hw, cnt, add_comm, show (1 : EReal) = ((1 : ℝ) : EReal) from rfl, ← EReal.coe_add]
  rw [show ((min (r + 1) (win k) : ℕ) : ℝ) = min ((r : ℝ) + 1) (win k : ℝ) by push_cast; rfl]
  exact (EReal.coe_strictMono.monotone.map_min (a := (r : ℝ) + 1) (b := (win k : ℝ))).symm

theorem count_host (r : Fin 4112) (k : Fin 4) (w : EReal) (hw : w = ((win k : ℕ) : ℝ)) :
    min (1 + (FloatOps.sitofp FTy.f32 (BitVec.ofNat 32 r) : Ideal .f32)) w = cnt r k :=
  count_nat (Nat.lt_of_lt_of_le r.isLt (by decide)) k w hw

theorem width_2 : Ideal.ofBits .f32 0x40000000#32 = (((win 0 : ℕ) : ℝ) : EReal) := by
  simp [Ideal.ofBits, Ideal.ieee, win, -EReal.coe_mul]; norm_num
theorem width_4 : Ideal.ofBits .f32 0x40800000#32 = (((win 1 : ℕ) : ℝ) : EReal) := by
  simp [Ideal.ofBits, Ideal.ieee, win, -EReal.coe_mul]; norm_num
theorem width_8 : Ideal.ofBits .f32 0x41000000#32 = (((win 2 : ℕ) : ℝ) : EReal) := by
  simp [Ideal.ofBits, Ideal.ieee, win, -EReal.coe_mul]; norm_num
theorem width_16 : Ideal.ofBits .f32 0x41800000#32 = (((win 3 : ℕ) : ℝ) : EReal) := by
  simp [Ideal.ofBits, Ideal.ieee, win, -EReal.coe_mul]; norm_num

/-- The same with the columns numbered the other way round. -/
theorem blocks_eq {n : ℕ} (v : (⟨2, ![n, 512]⟩ : Shape).Idx → EReal) :
    (fun y : (⟨3, ![n, 4, 128]⟩ : Shape).Idx => v (ix2 (y 0) ⟨(y 1).val * 128 + (y 2).val, by
      have h1 : (y 1).val < 4 := (y 1).isLt
      have h2 : (y 2).val < 128 := (y 2).isLt
      omega⟩)) = blocks v :=
  funext fun y => congrArg (fun j => v (ix2 (y 0) j)) (Fin.ext (by show (y 1).val * 128 + (y 2).val = 128 * (y 1).val + (y 2).val; omega))

/-- The feature put together from its pieces. -/
theorem feat_of (v : (⟨2, ![4112, 512]⟩ : Shape).Idx → EReal) (r : Fin 4112) (k : Fin 4) (i : Fin 128) (w : ℕ) (hw : win k = w)
    {p c y : EReal} {p' : ¬ r.val < w → EReal} (hp : p = prefixes (blocks v) k i r) (hp' : ∀ h, p' h = prefixes (blocks v) k i (r - w))
    (hc : c = cnt r k) (hy : y = v (ix2 r (col k i))) : Ideal.div (p - if h : r.val < w then 0 else p' h) c - y = feat v r k i := by
  subst hw
  rw [feat, hp, hc, hy]
  by_cases h : r.val < win k
  · rw [dif_pos h, if_pos h]
  · rw [dif_neg h, if_neg h, hp']

/-- A count is a positive number. -/
theorem cnt_width (r : ℕ) (k : Fin 4) : Width (cnt r k) :=
  ⟨((min (r + 1) (win k) : ℕ) : ℝ), Nat.cast_pos.mpr (lt_min (Nat.succ_pos _) (Nat.two_pow_pos _)), rfl⟩

theorem div_cnt (x : EReal) (r : ℕ) (k : Fin 4) : x * Ideal.div 1 (cnt r k) = Ideal.div x (cnt r k) := by
  obtain ⟨d, hd, h⟩ := cnt_width r k
  rw [h, Ideal.div_coe hd.ne', Ideal.div_coe hd.ne', one_mul]

theorem rowAt_real {n a b : ℕ} {x : (⟨3, ![n, a, b]⟩ : Shape).Idx → EReal} (hx : ∀ i, Real' (x i)) (k : Fin a) (j : Fin b) (q : ℕ) :
    Real' (rowAt x k j q) := by
  unfold rowAt
  split
  · exact hx _
  · exact Real'.zero

theorem prefixes_real {a b : ℕ} {x : (⟨3, ![4112, a, b]⟩ : Shape).Idx → EReal} (hx : ∀ i, Real' (x i)) (k : Fin a) (j : Fin b) (q : ℕ) :
    Real' (prefixes x k j q) := by
  refine Real'.sum _ fun i => ?_
  split
  · exact rowAt_real hx _ _ _
  · exact Real'.zero

theorem feat_real {v : (⟨2, ![4112, 512]⟩ : Shape).Idx → EReal} (hv : ∀ i, Real' (v i)) (r : Fin 4112) (k : Fin 4) (i : Fin 128) :
    Real' (feat v r k i) := by
  have hb : ∀ i, Real' (blocks v i) := fun i => hv _
  refine (div_real (cnt_width _ _) ((prefixes_real hb _ _ _).sub ?_)).sub (hv _)
  split
  · exact Real'.zero
  · exact prefixes_real hb _ _ _

/-- Values less the values `w` later, summed to the end: what is left are the first `w`. -/
theorem telescope {a : ℕ → EReal} (ha : ∀ q, Real' (a q)) {n : ℕ} (h0 : ∀ q, n ≤ q → a q = 0) (w t : ℕ) :
    run (fun q => a q + -(a (q + w))) t n = run a t w := by
  obtain ⟨b, rfl⟩ := lift ha
  have hb : ∀ q, n ≤ q → b q = 0 := fun q hq => EReal.coe_eq_zero.mp (h0 q hq)
  have key : ∑ i ∈ Finset.range n, (b (t + i) + -(b (t + i + w))) = ∑ i ∈ Finset.range w, b (t + i) := by
    have h1 := Finset.sum_range_add (fun i => b (t + i)) w n
    have h2 := Finset.sum_range_add (fun i => b (t + i)) n w
    rw [Nat.add_comm w n, h2, Finset.sum_eq_zero (s := Finset.range w) (f := fun i => b (t + (n + i))) (fun i _ => hb _ (by omega))] at h1
    rw [Finset.sum_add_distrib, Finset.sum_neg_distrib,
      Finset.sum_congr rfl fun i _ => congrArg b (show t + i + w = t + (w + i) by omega)]
    linarith
  unfold run
  rw [← coe_sum, ← key, coe_sum]
  refine Finset.sum_congr rfl fun i _ => ?_
  push_cast
  rfl

end Cert.PoolFeats

end
-- ==== Proof.PoolBwdHost.lean ====
/-
  The arrays the pooling mixer's gradient call is entered with, read at an index in terms of the program's arguments: the
  pooled features, worked out from the input's rows on the host, and the cotangent, each padded to 4160 rows with zeros.
-/
module

public import proofs.«01_k».proof.Proof.PoolBwdArrays
public import proofs.«01_k».proof.Proof.PoolFeats

@[expose] public section

noncomputable section

namespace Cert.PoolBwdIdeal.Host

open Idealize.ShloMosaic Idealize.ShloMosaic.TcCoe Idealize.SL.Sem
open Cert.PoolBwdIdeal Cert.PoolBwdIdeal.Gen Cert.PoolBwdIdeal.Arrays Cert.PoolRows Cert.Rows Cert.PoolFeats

variable (m : (ℓ : Loc nD τ sig) → Buf (Elt Ideal) ℓ) (c : Dev nD)

/-- The arguments. -/
abbrev x0 : FVec Ideal S4112x512 .f32 := m ((c : Thread nD τ).loc main_arg0)
abbrev x1 : FVec Ideal S1x4x128x128 .f32 := m ((c : Thread nD τ).loc main_arg1)
abbrev x2 : FVec Ideal S1x4x128 .f32 := m ((c : Thread nD τ).loc main_arg2)
abbrev x3 : FVec Ideal S1x512 .f32 := m ((c : Thread nD τ).loc main_arg3)
abbrev x4 : FVec Ideal S4112x512 .f32 := m ((c : Thread nD τ).loc main_arg4)

theorem aD_at (r : Fin 4160) (k : Fin 512) : (aD m c (ix2 r k) : EReal) = if h : r.val < 4112 then x4 m c (ix2 ⟨r, h⟩ k) else 0 := by
  unfold aD V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  rw [Rows.sitofp_zero]

theorem aW_at (k : Fin 4) (i j : Fin 128) : (aW m c (ix3 k i j) : EReal) = x1 m c (ix4 0 k i j) := by
  unfold aW V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise

theorem aV_at0 (j : Fin 512) : (aV m c (ix2 0 j) : EReal) = x2 m c (ix3 0 (bk j) (lo j)) := by
  unfold aV V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  show shapeCast S1x512 (x2 m c) _ _ = _
  pointwise
  rfl

theorem aV_at1 (j : Fin 512) : (aV m c (ix2 1 j) : EReal) = x3 m c (ix2 0 j) := by
  unfold aV V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  after_results_simp

theorem aF_at (r : Fin 4160) (k : Fin 4) (i : Fin 128) : (aF m c (ix2 r (col k i)) : EReal) = if h : r.val < 4112 then feat (x0 m c) ⟨r, h⟩ k i else 0 := by
  unfold aF V
  simp only [hostOps0, hostOps0_1, hostOps0_2, hostOps0_3, hostOps0_4, hostOps0_5, hostOps0_6, hostOps0_7, List.flatten_cons, List.flatten_nil, List.append_nil, List.cons_append, List.nil_append, StableHlo.TRef.binary, StableHlo.TRef.unary, StableHlo.TRef.toBuf, StableHlo.TRef.ofBuf, cast_eq]
  after_results_simp
  pointwise
  after_results_simp
  pointwise
  after_results_simp
  pointwise
  have e1 : (col k i).val / 128 = k.val := by show (128 * k.val + i.val) / 128 = _; omega
  have e2 : (col k i).val % 128 = i.val := by show (128 * k.val + i.val) % 128 = _; omega
  simp only [e1, e2]
  by_cases hr : r.val < 4112
  · refine (dif_pos hr).trans (Eq.trans ?_ (dif_pos hr).symm)
    have hb := blocks_eq (x0 m c)
    have hz : ∀ j, (broadcastInDim S_ ![] bcast_S_S_ (constant (F := Ideal) S_ .f32 0#32) j : EReal) = 0 := fun j => by pointwise
    have hp : ∀ (q : Fin 4112) (k : Fin 4), (Host.reduceWindowAdd (![4112, 1, 1] : Fin 3 → ℕ) ![1, 1, 1] ![4111, 0, 0] ![0, 0, 0]
        (fun y : S4112x4x128.Idx => x0 m c (ix2 (y 0) ⟨(y 1).val * 128 + (y 2).val, _⟩)) (broadcastInDim S_ ![] bcast_S_S_ (constant (F := Ideal) S_ .f32 0#32))
        reduceWindows_S4112x4x128_S4112x4x128_w4112s1p4111_0_w1s1p0_0_w1s1p0_0 h_S_ (ix3 q k i) : EReal) = prefixes (blocks (x0 m c)) k i q :=
      fun q k => by rw [← hb]; exact prefix_at _ _ hz _ _ q k i
    match k with
    | 0 =>
      refine (dif_pos (by decide)).trans ?_
      exact feat_of (x0 m c) ⟨r, hr⟩ 0 i 2 rfl (hp ⟨r, hr⟩ 0) (fun _ => hp ⟨r - 2, by omega⟩ 0) (count_host ⟨r, hr⟩ 0 _ width_2)
        (congrArg (fun j => x0 m c (ix2 ⟨r, hr⟩ j)) (Fin.ext (by simp [col])))
    | 1 =>
      refine (dif_neg (by decide)).trans ((dif_pos (by decide)).trans ?_)
      exact feat_of (x0 m c) ⟨r, hr⟩ 1 i 4 rfl (hp ⟨r, hr⟩ 1) (fun _ => hp ⟨r - 4, by omega⟩ 1) (count_host ⟨r, hr⟩ 1 _ width_4) rfl
    | 2 =>
      refine (dif_neg (by decide)).trans ((dif_neg (by decide)).trans ((dif_pos (by decide)).trans ?_))
      exact feat_of (x0 m c) ⟨r, hr⟩ 2 i 8 rfl (hp ⟨r, hr⟩ 2) (fun _ => hp ⟨r - 8, by omega⟩ 2) (count_host ⟨r, hr⟩ 2 _ width_8) rfl
    | 3 =>
      refine (dif_neg (by decide)).trans ((dif_neg (by decide)).trans ((dif_neg (by decide)).trans ?_))
      exact feat_of (x0 m c) ⟨r, hr⟩ 3 i 16 rfl (hp ⟨r, hr⟩ 3) (fun _ => hp ⟨r - 16, by omega⟩ 3) (count_host ⟨r, hr⟩ 3 _ width_16) rfl
  · refine (dif_neg hr).trans (Eq.trans ?_ (dif_neg hr).symm)
    show (FloatOps.sitofp FTy.bf16 0#32 : Ideal .bf16) = (0 : EReal)
    simp [FloatOps.sitofp]

end Cert.PoolBwdIdeal.Host
end
-- ==== Proof.PoolBwdRef.lean ====
/-
  The pooling mixer's reference read at an index: the derivative of the forward lines (window means less the row, the
  blocks' linear maps, scale, norm), in the form differentiation writes it, as functions of the arguments.
-/
module

public import proofs.«01_k».proof.Proof.Gen.PoolBwdRefIdeal.Read
public import proofs.«01_k».proof.Proof.PoolFeats
public import Idealize.ShloMosaic.Lib.Pointwise

@[expose] public section

noncomputable section

namespace Cert.PoolBwdRefIdeal.At

open Idealize.ShloMosaic
open Cert.PoolBwdRefIdeal Cert.PoolBwdRefIdeal.Read Cert.Rows Cert.PoolRows Cert.PoolFeats Cert.WindowSum

variable (x0 : FVec Ideal S4112x512 .f32) (x1 : FVec Ideal S1x4x128x128 .f32) (x2 : FVec Ideal S1x4x128 .f32)
  (x3 : FVec Ideal S1x512 .f32) (x4 : FVec Ideal S4112x512 .f32)

/-- The matrices, the scale and the norm's weight, without the leading axis. -/
def pws : (⟨3, ![4, 128, 128]⟩ : Shape).Idx → EReal := fun y => x1 (ix4 0 (y 0) (y 1) (y 2))
def scs (j : Fin 512) : EReal := x2 (ix3 0 (bk j) (lo j))
def gns (j : Fin 512) : EReal := x3 (ix2 0 j)

theorem v0 (r : Fin 4112) (k : Fin 4) (i : Fin 128) : (val_main_v0 (F := Ideal) x0 (ix3 r k i) : EReal) = blocks x0 (ix3 r k i) := by
  pointwise [val_main_v0]
  exact congrFun (blocks_eq x0) (ix3 r k i)

theorem v1 (r : Fin 4112) (k : Fin 4) (i : Fin 128) : (val_main_v1 (F := Ideal) x0 (ix3 r k i) : EReal) = prefixes (blocks x0) k i r := by
  have e : val_main_v0 (F := Ideal) x0 = blocks x0 := funext fun y => by
    obtain ⟨r, k, i, rfl⟩ : ∃ (r : Fin 4112) (k : Fin 4) (i : Fin 128), y = ix3 r k i := ⟨y 0, y 1, y 2, by pointwise⟩
    exact v0 x0 r k i
  unfold val_main_v1
  rw [e]
  exact prefix_at _ _ (fun j => by pointwise [val_main_call0_call0_v0, val_main_call0_call0_cst]) _ _ r k i

theorem v4 (r : Fin 4112) : (val_main_v4 (F := Ideal) (ix1 r) : EReal) = 1 + (FloatOps.sitofp FTy.f32 (BitVec.ofNat 32 r) : Ideal .f32) := by
  pointwise [val_main_v4, val_main_v3, val_main_v2, val_main_cst]

theorem v13 (r : Fin 4112) : (val_main_v13 (F := Ideal) (ix2 r 0) : EReal) = cnt r 0 := by
  pointwise [val_main_v13, val_main_v12, val_main_v11, val_main_cst_2]
  rw [v4]
  exact count_host r 0 _ width_2

theorem v19 (r : Fin 4112) (i : Fin 128) : (val_main_v19 (F := Ideal) x0 (ix2 r i) : EReal) = feat x0 r 0 i := by
  pointwise [val_main_v19, val_main_v18, val_main_v17, val_main_v16, val_main_v15, val_main_v14, val_main_v9, val_main_v8, val_main_v7, val_main_cst_0, val_main_v5, val_main_v6]
  refine feat_of x0 r 0 i 2 rfl (v1 x0 r 0 i) (fun _ => v1 x0 ⟨r - 2, by omega⟩ 0 i) (v13 r) (v0 x0 r 0 i)

theorem v28 (r : Fin 4112) : (val_main_v28 (F := Ideal) (ix2 r 0) : EReal) = cnt r 1 := by
  pointwise [val_main_v28, val_main_v27, val_main_v26, val_main_cst_5]
  rw [v4]
  exact count_host r 1 _ width_4

theorem v34 (r : Fin 4112) (i : Fin 128) : (val_main_v34 (F := Ideal) x0 (ix2 r i) : EReal) = feat x0 r 1 i := by
  pointwise [val_main_v34, val_main_v33, val_main_v32, val_main_v31, val_main_v30, val_main_v29, val_main_v24, val_main_v23, val_main_v22, val_main_cst_3, val_main_v20, val_main_v21]
  refine feat_of x0 r 1 i 4 rfl (v1 x0 r 1 i) (fun _ => v1 x0 ⟨r - 4, by omega⟩ 1 i) (v28 r) (v0 x0 r 1 i)

theorem v43 (r : Fin 4112) : (val_main_v43 (F := Ideal) (ix2 r 0) : EReal) = cnt r 2 := by
  pointwise [val_main_v43, val_main_v42, val_main_v41, val_main_cst_8]
  rw [v4]
  exact count_host r 2 _ width_8

theorem v49 (r : Fin 4112) (i : Fin 128) : (val_main_v49 (F := Ideal) x0 (ix2 r i) : EReal) = feat x0 r 2 i := by
  pointwise [val_main_v49, val_main_v48, val_main_v47, val_main_v46, val_main_v45, val_main_v44, val_main_v39, val_main_v38, val_main_v37, val_main_cst_6, val_main_v35, val_main_v36]
  refine feat_of x0 r 2 i 8 rfl (v1 x0 r 2 i) (fun _ => v1 x0 ⟨r - 8, by omega⟩ 2 i) (v43 r) (v0 x0 r 2 i)

theorem v58 (r : Fin 4112) : (val_main_v58 (F := Ideal) (ix2 r 0) : EReal) = cnt r 3 := by
  pointwise [val_main_v58, val_main_v57, val_main_v56, val_main_cst_11]
  rw [v4]
  exact count_host r 3 _ width_16

theorem v64 (r : Fin 4112) (i : Fin 128) : (val_main_v64 (F := Ideal) x0 (ix2 r i) : EReal) = feat x0 r 3 i := by
  pointwise [val_main_v64, val_main_v63, val_main_v62, val_main_v61, val_main_v60, val_main_v59, val_main_v54, val_main_v53, val_main_v52, val_main_cst_9, val_main_v50, val_main_v51]
  refine feat_of x0 r 3 i 16 rfl (v1 x0 r 3 i) (fun _ => v1 x0 ⟨r - 16, by omega⟩ 3 i) (v58 r) (v0 x0 r 3 i)

/-- The features, and their linear map. -/
theorem v69 (r : Fin 4112) (k : Fin 4) (i : Fin 128) : (val_main_v69 (F := Ideal) x0 (ix3 r k i) : EReal) = feats x0 (ix2 r (col k i)) := by
  have e : feats x0 (ix2 r (col k i)) = feat x0 r k i := by
    show feat x0 r (bk (col k i)) (lo (col k i)) = _
    rw [bk_col, lo_col]
  rw [e]
  pointwise [val_main_v69, val_main_v68, val_main_v67, val_main_v66, val_main_v65]
  exact by_stack k (fun k => feat x0 r k i) (v19 x0 r i) (v34 x0 r i) (v49 x0 r i) (v64 x0 r i)

theorem v72 (r : Fin 4112) (k : Fin 4) (j : Fin 128) : (val_main_v72 (F := Ideal) x0 x1 (ix3 r k j) : EReal) = lin (feats x0) (pws x1) r (col k j) := by
  pointwise [val_main_v72, val_main_v71, val_main_v70]
  unfold lin
  rw [bk_col, lo_col]
  exact Finset.sum_congr rfl fun i _ => by rw [v69, mul_comm]; rfl

theorem v76 (r : Fin 4112) (k : Fin 4) (j : Fin 128) :
    (val_main_v76 (F := Ideal) x0 x1 x2 (ix3 r k j) : EReal) = yp (feats x0) (pws x1) (scs x2) r (col k j) := by
  pointwise [val_main_v76, val_main_v75, val_main_v74, val_main_v73]
  rw [v72, yp, scs, bk_col, lo_col]

theorem v77 (r : Fin 4112) (j : Fin 512) :
    (val_main_v77 (F := Ideal) x0 x1 x2 (ix2 r j) : EReal) = yp (feats x0) (pws x1) (scs x2) r j := by
  pointwise [val_main_v77]
  exact (v76 x0 x1 x2 r (bk j) (lo j)).trans (congrArg _ (col_bk_lo j))

theorem v85 (r : Fin 4112) : (val_main_v85 (F := Ideal) x0 x1 x2 (ix2 r 0) : EReal) = msq width (yp (feats x0) (pws x1) (scs x2) r) := by
  pointwise [val_main_v85, val_main_v84, val_main_cst_14, val_main_v83, val_main_v82, val_main_cst_13, val_main_v81, val_main_v80, val_main_v79, val_main_cst_12, msq]
  simp only [v77]

theorem v86 (r : Fin 4112) : (val_main_v86 (F := Ideal) x0 x1 x2 (ix2 r 0) : EReal) = rinv width (yp (feats x0) (pws x1) (scs x2) r) := by
  pointwise [val_main_v86, rinv]
  rw [v85]

theorem v89 (r : Fin 4112) : (val_main_v89 (F := Ideal) x0 x1 x2 (ix2 r 0) : EReal)
    = Ideal.ofBits .f32 0xBF000000#32 * Ideal.div (rinv width (yp (feats x0) (pws x1) (scs x2) r)) (msq width (yp (feats x0) (pws x1) (scs x2) r)) := by
  pointwise [val_main_v89, val_main_v88, val_main_cst_15, val_main_v87]
  rw [v86, v85]

theorem v91 (r : Fin 4112) (j : Fin 512) : (val_main_v91 (F := Ideal) x0 x1 x2 (ix2 r j) : EReal)
    = yp (feats x0) (pws x1) (scs x2) r j * rinv width (yp (feats x0) (pws x1) (scs x2) r) := by
  pointwise [val_main_v91, val_main_v90]
  rw [v77, v86]

theorem v99 (r : Fin 4112) (j : Fin 512) : (val_main_v99 (F := Ideal) x3 x4 (ix2 r j) : EReal) = x4 (ix2 r j) * gns x3 j := by
  pointwise [val_main_v99, val_main_v98, val_main_v92, val_main_v78]
  rfl

theorem v109 (r : Fin 4112) : (val_main_v109 (F := Ideal) x0 x1 x2 x3 x4 (ix1 r) : EReal)
    = half width (yp (feats x0) (pws x1) (scs x2) r) (fun j => x4 (ix2 r j) * gns x3 j) := by
  pointwise [val_main_v109, val_main_cst_20, val_main_v108, val_main_v107, val_main_cst_19, val_main_v106, val_main_v103, val_main_v102, val_main_v101, val_main_cst_18, half]
  simp only [Fin.sum_univ_one]
  simp only [Fin.isValue, v89, v99, v77]

/-- The gradient at the scaled rows, in the kernel's form: it is the derivative's where every value is a real number. -/
theorem v114 (hy : ∀ r j, Real' (yp (feats x0) (pws x1) (scs x2) r j)) (hd : ∀ r j, Real' (x4 (ix2 r j) * gns x3 j)) (r : Fin 4112) (j : Fin 512) :
    (val_main_v114 (F := Ideal) x0 x1 x2 x3 x4 (ix2 r j) : EReal) = dyp x4 (feats x0) (pws x1) (scs x2) (gns x3) r j := by
  pointwise [val_main_v114, val_main_v113, val_main_v112, val_main_v111, val_main_v110, val_main_v105, val_main_v104]
  rw [v109, v77, v86, v99]
  have := rms_grad width_512 (hy r) (hd r) 0 j
  rwa [zero_add, zero_add] at this

/-- The gradients at the features over the windows' counts. -/
def quot : (⟨3, ![4112, 4, 128]⟩ : Shape).Idx → EReal := fun y =>
  Ideal.div (df x4 (feats x0) (pws x1) (scs x2) (gns x3) (y 0) (col (y 1) (y 2))) (cnt (y 0).val (y 1))

section
variable (hy : ∀ r j, Real' (yp (feats x0) (pws x1) (scs x2) r j)) (hd : ∀ r j, Real' (x4 (ix2 r j) * gns x3 j))
include hy hd

theorem v116 (r : Fin 4112) (k : Fin 4) (j : Fin 128) :
    (val_main_v116 (F := Ideal) x0 x1 x2 x3 x4 (ix3 r k j) : EReal) = dyp x4 (feats x0) (pws x1) (scs x2) (gns x3) r (col k j) := by
  pointwise [val_main_v116]
  rw [v114 x0 x1 x2 x3 x4 hy hd]
  exact congrArg _ (Fin.ext (by show k.val * 128 + j.val = 128 * k.val + j.val; omega))

theorem v121 (r : Fin 4112) (k : Fin 4) (j : Fin 128) :
    (val_main_v121 (F := Ideal) x0 x1 x2 x3 x4 (ix3 r k j) : EReal) = dlin x4 (feats x0) (pws x1) (scs x2) (gns x3) r (col k j) := by
  pointwise [val_main_v121, val_main_v120, val_main_v74, val_main_v73]
  rw [v116 x0 x1 x2 x3 x4 hy hd, dlin, scs, bk_col, lo_col]

/-- The gradient at the features. -/
theorem v126 (r : Fin 4112) (k : Fin 4) (j : Fin 128) :
    (val_main_v126 (F := Ideal) x0 x1 x2 x3 x4 (ix3 r k j) : EReal) = df x4 (feats x0) (pws x1) (scs x2) (gns x3) r (col k j) := by
  pointwise [val_main_v126, val_main_v125, val_main_v124, val_main_v70]
  unfold df
  rw [bk_col, lo_col]
  exact Finset.sum_congr rfl fun i _ => by rw [v121 x0 x1 x2 x3 x4 hy hd]; rfl

/-- The matrices' gradients. -/
theorem v196 (k : Fin 4) (i j : Fin 128) :
    (val_main_v196 (F := Ideal) x0 x1 x2 x3 x4 (ix3 k i j) : EReal) = ∑ r : Fin 4112, termW x4 (feats x0) (pws x1) (scs x2) (gns x3) k i j r := by
  pointwise [val_main_v196, val_main_v129, val_main_v128, val_main_v127, val_main_v124]
  exact Finset.sum_congr rfl fun r _ => by rw [v121 x0 x1 x2 x3 x4 hy hd, v69, termW, mul_comm]

/-- The scale's gradient. -/
theorem v197 (j : Fin 512) :
    (val_main_v197 (F := Ideal) x0 x1 x2 x3 x4 (ix2 0 j) : EReal) = ∑ r : Fin 4112, termS x4 (feats x0) (pws x1) (scs x2) (gns x3) j r := by
  pointwise [val_main_v197, val_main_v123, val_main_v122, val_main_cst_22, val_main_v119, val_main_v118, val_main_cst_21, val_main_v117]
  simp only [Fin.sum_univ_one]
  refine Finset.sum_congr rfl fun r _ => ?_
  refine (congrArg₂ (· * ·) (v72 x0 x1 r (bk j) (lo j)) (v116 x0 x1 x2 x3 x4 hy hd r (bk j) (lo j))).trans ?_
  rw [col_bk_lo, termS, mul_comm]

theorem v131 (r : Fin 4112) (j : Fin 128) :
    (val_main_v131 (F := Ideal) x0 x1 x2 x3 x4 (ix2 r j) : EReal) = df x4 (feats x0) (pws x1) (scs x2) (gns x3) r (col 0 j) := by
  pointwise [val_main_v131, val_main_v130]
  exact v126 x0 x1 x2 x3 x4 hy hd r 0 j

theorem v183 (r : Fin 4112) (j : Fin 128) :
    (val_main_v183 (F := Ideal) x0 x1 x2 x3 x4 (ix2 r j) : EReal) = Ideal.div (df x4 (feats x0) (pws x1) (scs x2) (gns x3) r (col 0 j)) (cnt r 0) := by
  pointwise [val_main_v183, val_main_v182]
  rw [v131 x0 x1 x2 x3 x4 hy hd, v13]

theorem v133 (r : Fin 4112) (j : Fin 128) :
    (val_main_v133 (F := Ideal) x0 x1 x2 x3 x4 (ix2 r j) : EReal) = df x4 (feats x0) (pws x1) (scs x2) (gns x3) r (col 1 j) := by
  pointwise [val_main_v133, val_main_v132]
  exact v126 x0 x1 x2 x3 x4 hy hd r 1 j

theorem v169 (r : Fin 4112) (j : Fin 128) :
    (val_main_v169 (F := Ideal) x0 x1 x2 x3 x4 (ix2 r j) : EReal) = Ideal.div (df x4 (feats x0) (pws x1) (scs x2) (gns x3) r (col 1 j)) (cnt r 1) := by
  pointwise [val_main_v169, val_main_v168]
  rw [v133 x0 x1 x2 x3 x4 hy hd, v28]

theorem v135 (r : Fin 4112) (j : Fin 128) :
    (val_main_v135 (F := Ideal) x0 x1 x2 x3 x4 (ix2 r j) : EReal) = df x4 (feats x0) (pws x1) (scs x2) (gns x3) r (col 2 j) := by
  pointwise [val_main_v135, val_main_v134]
  exact v126 x0 x1 x2 x3 x4 hy hd r 2 j

theorem v155 (r : Fin 4112) (j : Fin 128) :
    (val_main_v155 (F := Ideal) x0 x1 x2 x3 x4 (ix2 r j) : EReal) = Ideal.div (df x4 (feats x0) (pws x1) (scs x2) (gns x3) r (col 2 j)) (cnt r 2) := by
  pointwise [val_main_v155, val_main_v154]
  rw [v135 x0 x1 x2 x3 x4 hy hd, v43]

theorem v137 (r : Fin 4112) (j : Fin 128) :
    (val_main_v137 (F := Ideal) x0 x1 x2 x3 x4 (ix2 r j) : EReal) = df x4 (feats x0) (pws x1) (scs x2) (gns x3) r (col 3 j) := by
  pointwise [val_main_v137, val_main_v136]
  exact v126 x0 x1 x2 x3 x4 hy hd r 3 j

theorem v142 (r : Fin 4112) (j : Fin 128) :
    (val_main_v142 (F := Ideal) x0 x1 x2 x3 x4 (ix2 r j) : EReal) = Ideal.div (df x4 (feats x0) (pws x1) (scs x2) (gns x3) r (col 3 j)) (cnt r 3) := by
  pointwise [val_main_v142, val_main_v141]
  rw [v137 x0 x1 x2 x3 x4 hy hd, v58]

theorem v188 (r : Fin 4112) (j : Fin 128) : (val_main_v188 (F := Ideal) x0 x1 x2 x3 x4 (ix2 r j) : EReal)
    = rowAt (quot x0 x1 x2 x3 x4) 0 j r + -(rowAt (quot x0 x1 x2 x3 x4) 0 j (r + 2)) := by
  pointwise [val_main_v188, val_main_v187, val_main_v186, val_main_v184, val_main_cst_33]
  rw [v183 x0 x1 x2 x3 x4 hy hd, rowAt, dif_pos r.isLt]
  refine congrArg₂ (· + ·) rfl ?_
  by_cases h : r.val < 4110
  · rw [dif_pos h, v183 x0 x1 x2 x3 x4 hy hd, rowAt, dif_pos (by omega)]
    have e : (⟨2 + r.val, by omega⟩ : Fin 4112) = ⟨r.val + 2, by omega⟩ := Fin.ext (Nat.add_comm _ _)
    rw [e]
    rfl
  · rw [dif_neg h, rowAt, dif_neg (by omega), neg_zero]

theorem v174 (r : Fin 4112) (j : Fin 128) : (val_main_v174 (F := Ideal) x0 x1 x2 x3 x4 (ix2 r j) : EReal)
    = rowAt (quot x0 x1 x2 x3 x4) 1 j r + -(rowAt (quot x0 x1 x2 x3 x4) 1 j (r + 4)) := by
  pointwise [val_main_v174, val_main_v173, val_main_v172, val_main_v170, val_main_cst_30]
  rw [v169 x0 x1 x2 x3 x4 hy hd, rowAt, dif_pos r.isLt]
  refine congrArg₂ (· + ·) rfl ?_
  by_cases h : r.val < 4108
  · rw [dif_pos h, v169 x0 x1 x2 x3 x4 hy hd, rowAt, dif_pos (by omega)]
    have e : (⟨4 + r.val, by omega⟩ : Fin 4112) = ⟨r.val + 4, by omega⟩ := Fin.ext (Nat.add_comm _ _)
    rw [e]
    rfl
  · rw [dif_neg h, rowAt, dif_neg (by omega), neg_zero]

theorem v160 (r : Fin 4112) (j : Fin 128) : (val_main_v160 (F := Ideal) x0 x1 x2 x3 x4 (ix2 r j) : EReal)
    = rowAt (quot x0 x1 x2 x3 x4) 2 j r + -(rowAt (quot x0 x1 x2 x3 x4) 2 j (r + 8)) := by
  pointwise [val_main_v160, val_main_v159, val_main_v158, val_main_v156, val_main_cst_27]
  rw [v155 x0 x1 x2 x3 x4 hy hd, rowAt, dif_pos r.isLt]
  refine congrArg₂ (· + ·) rfl ?_
  by_cases h : r.val < 4104
  · rw [dif_pos h, v155 x0 x1 x2 x3 x4 hy hd, rowAt, dif_pos (by omega)]
    have e : (⟨8 + r.val, by omega⟩ : Fin 4112) = ⟨r.val + 8, by omega⟩ := Fin.ext (Nat.add_comm _ _)
    rw [e]
    rfl
  · rw [dif_neg h, rowAt, dif_neg (by omega), neg_zero]

theorem v147 (r : Fin 4112) (j : Fin 128) : (val_main_v147 (F := Ideal) x0 x1 x2 x3 x4 (ix2 r j) : EReal)
    = rowAt (quot x0 x1 x2 x3 x4) 3 j r + -(rowAt (quot x0 x1 x2 x3 x4) 3 j (r + 16)) := by
  pointwise [val_main_v147, val_main_v146, val_main_v145, val_main_v143, val_main_cst_24]
  rw [v142 x0 x1 x2 x3 x4 hy hd, rowAt, dif_pos r.isLt]
  refine congrArg₂ (· + ·) rfl ?_
  by_cases h : r.val < 4096
  · rw [dif_pos h, v142 x0 x1 x2 x3 x4 hy hd, rowAt, dif_pos (by omega)]
    have e : (⟨16 + r.val, by omega⟩ : Fin 4112) = ⟨r.val + 16, by omega⟩ := Fin.ext (Nat.add_comm _ _)
    rw [e]
    rfl
  · rw [dif_neg h, rowAt, dif_neg (by omega), neg_zero]

/-- The differences the prefix sums' gradient adds up. -/
theorem v191 (r : Fin 4112) (k : Fin 4) (j : Fin 128) : (val_main_v191 (F := Ideal) x0 x1 x2 x3 x4 (ix3 r k j) : EReal)
    = rowAt (quot x0 x1 x2 x3 x4) k j r + -(rowAt (quot x0 x1 x2 x3 x4) k j (r + win k)) := by
  pointwise [val_main_v191, val_main_v190, val_main_v189, val_main_v177, val_main_v176, val_main_v175, val_main_v163, val_main_v162, val_main_v161, val_main_v149, val_main_v148, val_main_cst_34, val_main_cst_31, val_main_cst_28, val_main_cst_25]
  exact by_pads k (fun k => rowAt (quot x0 x1 x2 x3 x4) k j r + -(rowAt (quot x0 x1 x2 x3 x4) k j (r + win k)))
    (v188 x0 x1 x2 x3 x4 hy hd r j) (v174 x0 x1 x2 x3 x4 hy hd r j) (v160 x0 x1 x2 x3 x4 hy hd r j) (v147 x0 x1 x2 x3 x4 hy hd r j)

/-- The rows' own share. -/
theorem v181 (r : Fin 4112) (k : Fin 4) (j : Fin 128) :
    (val_main_v181 (F := Ideal) x0 x1 x2 x3 x4 (ix3 r k j) : EReal) = -(df x4 (feats x0) (pws x1) (scs x2) (gns x3) r (col k j)) := by
  pointwise [val_main_v181, val_main_v180, val_main_v179, val_main_v178, val_main_v167, val_main_v166, val_main_v165, val_main_v164, val_main_v153, val_main_v152, val_main_v151, val_main_v150, val_main_v140, val_main_v139, val_main_v138, val_main_cst_32, val_main_cst_29, val_main_cst_26, val_main_cst_23]
  exact by_pads k (fun k => -(df x4 (feats x0) (pws x1) (scs x2) (gns x3) r (col k j)))
    (congrArg _ (v131 x0 x1 x2 x3 x4 hy hd r j)) (congrArg _ (v133 x0 x1 x2 x3 x4 hy hd r j))
    (congrArg _ (v135 x0 x1 x2 x3 x4 hy hd r j)) (congrArg _ (v137 x0 x1 x2 x3 x4 hy hd r j))

/-- What the prefix sums' gradient leaves of them: the windows' ends that a row lies in. -/
theorem v192 (hq : ∀ y, Real' (quot x0 x1 x2 x3 x4 y)) (r : Fin 4112) (k : Fin 4) (j : Fin 128) :
    (val_main_v192 (F := Ideal) x0 x1 x2 x3 x4 (ix3 r k j) : EReal) = run (rowAt (quot x0 x1 x2 x3 x4) k j) r (win k) := by
  unfold val_main_v192
  refine (suffix_at _ _ (fun j => by pointwise [val_main_call1_call0_v0, val_main_call1_call0_cst]) _ _ r k j).trans ?_
  refine (run_congr (g := fun q => rowAt (quot x0 x1 x2 x3 x4) k j q + -(rowAt (quot x0 x1 x2 x3 x4) k j (q + win k))) (q' := r.val) fun i _ => ?_).trans
    (telescope (rowAt_real hq k j) (fun q h => by rw [rowAt, dif_neg (by omega)]) (win k) r)
  generalize r.val + i = q
  by_cases h : q < 4112
  · rw [rowAt, dif_pos h]
    exact v191 x0 x1 x2 x3 x4 hy hd ⟨q, h⟩ k j
  · rw [rowAt, dif_neg h]
    show 0 = rowAt (quot x0 x1 x2 x3 x4) k j q + -(rowAt (quot x0 x1 x2 x3 x4) k j (q + win k))
    rw [rowAt, rowAt, dif_neg h, dif_neg (by omega), neg_zero, add_zero]

/-- The gradient of the pooled rows, padded with zeros. -/
theorem v195 (hq : ∀ y, Real' (quot x0 x1 x2 x3 x4 y)) (r : Fin 4160) (j : Fin 512) :
    (val_main_v195 (F := Ideal) x0 x1 x2 x3 x4 (ix2 r j) : EReal)
      = if h : r.val < 4112 then run (rowAt (quot x0 x1 x2 x3 x4) (bk j) (lo j)) r (win (bk j))
          - df x4 (feats x0) (pws x1) (scs x2) (gns x3) ⟨r, h⟩ j else 0 := by
  pointwise [val_main_v195, val_main_call2_v0, val_main_c, val_main_v194, val_main_v193]
  by_cases h : r.val < 4112
  · refine (dif_pos h).trans (Eq.trans ?_ (dif_pos h).symm)
    refine (congrArg₂ (· + ·) (v181 x0 x1 x2 x3 x4 hy hd ⟨r, h⟩ (bk j) (lo j)) (v192 x0 x1 x2 x3 x4 hy hd hq ⟨r, h⟩ (bk j) (lo j))).trans ?_
    rw [col_bk_lo, add_comm, sub_eq_add_neg]
  · refine (dif_neg h).trans (Eq.trans ?_ (dif_neg h).symm)
    exact Rows.sitofp_zero

end

theorem v115 (j : Fin 512) : (val_main_v115 (F := Ideal) x0 x1 x2 x4 (ix2 0 j) : EReal)
    = ∑ r : Fin 4112, termG x4 (feats x0) (pws x1) (scs x2) j r := by
  pointwise [val_main_v115, val_main_v100, val_main_cst_17, val_main_v97, val_main_v96, val_main_cst_16, val_main_v95]
  simp only [Fin.sum_univ_one]
  exact Finset.sum_congr rfl fun r _ => by rw [v91, termG, mul_comm]

/-- The vectors' gradients, stacked. -/
theorem v199 (hy : ∀ r j, Real' (yp (feats x0) (pws x1) (scs x2) r j)) (hd : ∀ r j, Real' (x4 (ix2 r j) * gns x3 j)) (k : Fin 8) (j : Fin 512) :
    (val_main_v199 (F := Ideal) x0 x1 x2 x3 x4 (ix2 k j) : EReal)
      = if k = 0 then ∑ r : Fin 4112, termS x4 (feats x0) (pws x1) (scs x2) (gns x3) j r
        else if k = 1 then ∑ r : Fin 4112, termG x4 (feats x0) (pws x1) (scs x2) j r else 0 := by
  pointwise [val_main_v199, val_main_v198, val_main_cst_35]
  by_cases h0 : k.val < 1
  · obtain rfl : k = 0 := Fin.ext (by simp; omega)
    exact (dif_pos h0).trans ((v197 x0 x1 x2 x3 x4 hy hd j).trans (if_pos rfl).symm)
  by_cases h1 : k.val - 1 < 1
  · obtain rfl : k = 1 := Fin.ext (by simp; omega)
    exact (dif_neg h0).trans ((dif_pos h1).trans ((v115 x0 x1 x2 x4 j).trans ((if_pos rfl).symm.trans (if_neg (by decide)).symm)))
  · refine (dif_neg h0).trans ((dif_neg h1).trans ((if_neg ?_).symm.trans (if_neg ?_).symm))
    · rintro rfl; exact h1 (by decide)
    · rintro rfl; exact h0 (by decide)

end Cert.PoolBwdRefIdeal.At

end
-- ==== Proof.PoolBwd.lean ====
/-
  The pooling mixer's gradient call against the derivative of its forward lines: with finite inputs, the three results
  are the same arrays.
-/
module

public import proofs.«01_k».proof.Defs
public import proofs.«01_k».proof.Proof.PoolBwdHost
public import proofs.«01_k».proof.Proof.PoolBwdRef
public import proofs.«01_k».proof.Proof.BwdIn
public import proofs.«01_k».proof.Proof.Gen.PoolBwdIdeal.Value
public import proofs.«01_k».proof.Proof.Gen.PoolBwdRefIdeal
public import proofs.«01_k».proof.Proof.Gen.PoolBwdRefIdeal.Run
public import proofs.«01_k».proof.Proof.Gen.Pre_finite_pool

@[expose] public section

noncomputable section

namespace Cert.PoolBwdEqual

open Idealize.ShloMosaic Idealize.ShloMosaic.TcCoe Idealize.SL.Sem
open Cert.PoolBwdIdeal Cert.PoolBwdIdeal.Gen Cert.PoolBwdIdeal.Arrays Cert.PoolBwdIdeal.Host Cert.PoolBwdIdeal.Point Cert.PoolBwdRefIdeal.At
open Cert.Rows Cert.PoolRows Cert.PoolFeats Cert.WindowSum
open Cert.BwdInEqual (sum_rows)

variable (m : (ℓ : Loc nD τ sig) → Buf (Elt Ideal) ℓ) (c : Dev nD)

section Rows

variable (r : Fin 4160) (h : r.val < 4112)
include h

theorem hD (j : Fin 512) : (aD m c (ix2 r j) : EReal) = x4 m c (ix2 ⟨r, h⟩ j) := (aD_at m c r j).trans (dif_pos h)
theorem hF (j : Fin 512) : (aF m c (ix2 r j) : EReal) = feats (x0 m c) (ix2 ⟨r, h⟩ j) := by
  obtain ⟨k, i, rfl⟩ : ∃ k i, j = col k i := ⟨bk j, lo j, (col_bk_lo j).symm⟩
  refine ((aF_at m c r k i).trans (dif_pos h)).trans ?_
  show _ = feat (x0 m c) ⟨r, h⟩ (bk (col k i)) (lo (col k i))
  rw [bk_col, lo_col]

omit h in
theorem hP (k : Fin 4) (i j : Fin 128) : (aW m c (ix3 k i j) : EReal) = pws (x1 m c) (ix3 k i j) := aW_at m c k i j
omit h in
theorem hS (j : Fin 512) : sc (aV m c) j = scs (x2 m c) j := aV_at0 m c j
omit h in
theorem hG (j : Fin 512) : gn (aV m c) j = gns (x3 m c) j := aV_at1 m c j

theorem gdf_eq (j : Fin 512) : gdf m c r j = df (x4 m c) (feats (x0 m c)) (pws (x1 m c)) (scs (x2 m c)) (gns (x3 m c)) ⟨r, h⟩ j :=
  congrFun (df_congr (hD m c r h) (hF m c r h) (hP m c) (hS m c) (hG m c)) j

end Rows

section Padding

variable (r : Fin 4160) (h : ¬ r.val < 4112)
include h

theorem pad_D (j : Fin 512) : (aD m c (ix2 r j) : EReal) = 0 := (aD_at m c r j).trans (dif_neg h)

theorem pad_dyp (j : Fin 512) : dyp (aD m c) (aF m c) (aW m c) (sc (aV m c)) (gn (aV m c)) r j = 0 :=
  grad_zero width_512 (fun k => mul_eq_zero_of_left (pad_D m c r h k) _) j

theorem pad_dlin (j : Fin 512) : dlin (aD m c) (aF m c) (aW m c) (sc (aV m c)) (gn (aV m c)) r j = 0 :=
  mul_eq_zero_of_left (pad_dyp m c r h j) _

theorem pad_df (j : Fin 512) : gdf m c r j = 0 :=
  Finset.sum_eq_zero fun i _ => mul_eq_zero_of_left (pad_dlin m c r h _) _

end Padding

/-- The windows' ends, row by row. -/
theorem gends_eq (j : Fin 512) (q : ℕ) :
    gends m c j q = rowAt (quot (x0 m c) (x1 m c) (x2 m c) (x3 m c) (x4 m c)) (bk j) (lo j) q := by
  unfold gends rowAt
  by_cases h : q < 4112
  · rw [dif_pos (by omega), dif_pos h, gdf_eq m c ⟨q, by omega⟩ h, div_cnt]
    show _ = Ideal.div (df _ _ _ _ _ ⟨q, h⟩ (col (bk j) (lo j))) (cnt q (bk j))
    rw [col_bk_lo]
  · rw [dif_neg h]
    split
    · rw [pad_df m c _ h, zero_mul]
    · rfl

section Finite

variable (f0 : ∀ i, Real' (x0 m c i)) (f1 : ∀ k i j, Real' (x1 m c (ix4 0 k i j))) (f2 : ∀ k i, Real' (x2 m c (ix3 0 k i)))
  (f3 : ∀ j, Real' (x3 m c (ix2 0 j))) (f4 : ∀ r j, Real' (x4 m c (ix2 r j)))

include f0 f1 f2 in
theorem yp_real (r : Fin 4112) (j : Fin 512) : Real' (yp (feats (x0 m c)) (pws (x1 m c)) (scs (x2 m c)) r j) :=
  (Real'.sum _ fun _ => (feat_real f0 _ _ _).mul (f1 _ _ _)).mul (f2 _ _)

include f3 f4 in
theorem dn_real (r : Fin 4112) (j : Fin 512) : Real' (x4 m c (ix2 r j) * gns (x3 m c) j) := (f4 _ _).mul (f3 _)

include f0 f1 f2 f3 f4 in
theorem quot_real (y : (⟨3, ![4112, 4, 128]⟩ : Shape).Idx) : Real' (quot (x0 m c) (x1 m c) (x2 m c) (x3 m c) (x4 m c) y) := by
  refine div_real (cnt_width _ _) (Real'.sum _ fun i => Real'.mul (Real'.mul ?_ (f2 _ _)) (f1 _ _ _))
  have hy := yp_real m c f0 f1 f2 (y 0)
  have hr := rinv_real width_512 hy
  exact hr.mul ((dn_real m c f3 f4 _ _).sub (((hy _).mul hr).mul
    (div_real width_512 (Real'.sum _ fun k => (dn_real m c f3 f4 _ _).mul ((hy k).mul hr)))))

include f0 f1 f2 f3 f4 in
/-- The gradient of the pooled rows. -/
theorem dv_eq : ((dats m 0 c).arrAt 4 cfg0.N : FVec Ideal S4160x512 .f32)
      = Cert.PoolBwdRefIdeal.Read.val_main_v195 (x0 m c) (x1 m c) (x2 m c) (x3 m c) (x4 m c) := by
  funext y
  obtain ⟨r, j, rfl⟩ : ∃ p k, y = ix2 p k := ⟨y 0, y 1, by pointwise⟩
  refine (final4 m c r j).trans (Eq.trans (α := EReal) ?_
    (v195 _ _ _ _ _ (yp_real m c f0 f1 f2) (dn_real m c f3 f4) (quot_real m c f0 f1 f2 f3 f4) r j).symm)
  unfold pooled
  rw [show gends m c j = rowAt (quot (x0 m c) (x1 m c) (x2 m c) (x3 m c) (x4 m c)) (bk j) (lo j) from funext (gends_eq m c j)]
  by_cases h : r.val < 4112
  · rw [dif_pos h, gdf_eq m c r h]
  · rw [dif_neg h, pad_df m c r h, sub_zero]
    exact Finset.sum_eq_zero fun i _ => by rw [rowAt, dif_neg (by omega)]

include f0 f1 f2 f3 f4 in
/-- The matrices' gradients. -/
theorem dw_eq : ((dats m 0 c).arrAt 5 cfg0.N : FVec Ideal S4x128x128 .f32)
      = Cert.PoolBwdRefIdeal.Read.val_main_v196 (x0 m c) (x1 m c) (x2 m c) (x3 m c) (x4 m c) := by
  funext y
  obtain ⟨k, i, j, rfl⟩ : ∃ k i j, y = ix3 k i j := ⟨y 0, y 1, y 2, by pointwise⟩
  refine (final5 m c k i j).trans (Eq.trans (α := EReal) (sum_rows _ fun r h => mul_eq_zero_of_right _ (pad_dlin m c r h _)) (Eq.trans (α := EReal) ?_
    (v196 _ _ _ _ _ (yp_real m c f0 f1 f2) (dn_real m c f3 f4) k i j).symm))
  exact Finset.sum_congr rfl fun r _ => termW_congr (hD m c _ r.isLt) (hF m c _ r.isLt) (hP m c) (hS m c) (hG m c) k i j

include f0 f1 f2 f3 f4 in
/-- The vectors' gradients. -/
theorem dvec_eq : ((dats m 0 c).arrAt 6 cfg0.N : FVec Ideal S8x512 .f32)
      = Cert.PoolBwdRefIdeal.Read.val_main_v199 (x0 m c) (x1 m c) (x2 m c) (x3 m c) (x4 m c) := by
  funext y
  obtain ⟨k, j, rfl⟩ : ∃ k j, y = ix2 k j := ⟨y 0, y 1, by pointwise⟩
  refine (final6 m c k j).trans (Eq.trans (α := EReal) ?_ (v199 _ _ _ _ _ (yp_real m c f0 f1 f2) (dn_real m c f3 f4) k j).symm)
  rw [sum_rows (termS (aD m c) (aF m c) (aW m c) (sc (aV m c)) (gn (aV m c)) j) fun r h => mul_eq_zero_of_left (pad_dyp m c r h j) _,
    sum_rows (termG (aD m c) (aF m c) (aW m c) (sc (aV m c)) j) fun r h => mul_eq_zero_of_left (pad_D m c r h j) _]
  refine congrArg₂ (fun a b : EReal => if k = 0 then a else if k = 1 then b else 0) ?_ ?_
  · exact Finset.sum_congr rfl fun r _ => termS_congr (hD m c _ r.isLt) (hF m c _ r.isLt) (hP m c) (hS m c) (hG m c) j
  · exact Finset.sum_congr rfl fun r _ => termG_congr (hD m c _ r.isLt) (hF m c _ r.isLt) (hP m c) (hS m c) j

end Finite

/-- The precondition, as real numbers. -/
theorem real_of_pre {m : (ℓ : Loc nD τ sig) → Buf (Elt Ideal) ℓ} (hp : Cert.Pre_PoolBwdIdeal_finite_pool m) (c : Dev nD) :
    (∀ i, Real' (x0 m c i)) ∧ (∀ k i j, Real' (x1 m c (ix4 0 k i j))) ∧ (∀ k i, Real' (x2 m c (ix3 0 k i)))
      ∧ (∀ j, Real' (x3 m c (ix2 0 j))) ∧ (∀ r j, Real' (x4 m c (ix2 r j))) := by
  obtain ⟨h0, h1, h2, h3, h4⟩ := hp c
  refine ⟨fun i => ?_, fun k i j => ?_, fun k i => ?_, fun j => ?_, fun r j => ?_⟩
  · have := congrFun h0 i
    pointwise [Cert.Pre_finite_pool.fn] at this
    exact real_of_cmp this
  · have := congrFun h1 (ix4 0 k i j)
    pointwise [Cert.Pre_finite_pool.fn] at this
    exact real_of_cmp this
  · have := congrFun h2 (ix3 0 k i)
    pointwise [Cert.Pre_finite_pool.fn] at this
    exact real_of_cmp this
  · have := congrFun h3 (ix2 0 j)
    pointwise [Cert.Pre_finite_pool.fn] at this
    exact real_of_cmp this
  · have := congrFun h4 (ix2 r j)
    pointwise [Cert.Pre_finite_pool.fn] at this
    exact real_of_cmp this

/-- The claim. -/
theorem algebraic : Cert.algebraic_PoolBwdIdeal_PoolBwdRefIdeal_pre_finite_pool := by
  intro m g m' g' hp ha
  refine ⟨fun c => (dats m 0 c).arrAt 4 cfg0.N, fun c => (dats m 0 c).arrAt 5 cfg0.N, fun c => (dats m 0 c).arrAt 6 cfg0.N,
    Cert.PoolBwdIdeal.Value.run_blocks m g, (θ_run Cert.PoolBwdRefIdeal.defs _ _).mono ?_ (Cert.PoolBwdRefIdeal.Value.run m' g')⟩
  intro r h c
  obtain ⟨h4, h5, h6, hk⟩ := h c
  obtain ⟨a0, a1, a2, a3, a4⟩ := ha c
  obtain ⟨f0, f1, f2, f3, f4⟩ := real_of_pre hp c
  change StableHlo.launchContents m' c (Proc.devRef .tc Cert.PoolBwdRefIdeal.main_arg0) = x0 m c at a0
  change StableHlo.launchContents m' c (Proc.devRef .tc Cert.PoolBwdRefIdeal.main_arg1) = x1 m c at a1
  change StableHlo.launchContents m' c (Proc.devRef .tc Cert.PoolBwdRefIdeal.main_arg2) = x2 m c at a2
  change StableHlo.launchContents m' c (Proc.devRef .tc Cert.PoolBwdRefIdeal.main_arg3) = x3 m c at a3
  change StableHlo.launchContents m' c (Proc.devRef .tc Cert.PoolBwdRefIdeal.main_arg4) = x4 m c at a4
  refine ⟨h4.trans ?_, h5.trans ?_, h6.trans ?_, hk⟩
  · refine (Cert.PoolBwdRefIdeal.Read.val_main_v195_eq _).trans ?_
    rw [a0, a1, a2, a3, a4]
    exact (dv_eq m c f0 f1 f2 f3 f4).symm
  · refine (Cert.PoolBwdRefIdeal.Read.val_main_v196_eq _).trans ?_
    rw [a0, a1, a2, a3, a4]
    exact (dw_eq m c f0 f1 f2 f3 f4).symm
  · refine (Cert.PoolBwdRefIdeal.Read.val_main_v199_eq _).trans ?_
    rw [a0, a1, a2, a3, a4]
    have e := dvec_eq m c f0 f1 f2 f3 f4
    dsimp only
    rw [e]

end Cert.PoolBwdEqual

end
-- ==== Proof.PoolFwdRows.lean ====
/-
  The pooled features in two forms, for any number of rows and away from any program: a run of the rows that end at the
  row, zero rows standing before the first one, and a difference of two prefix sums. They agree for real numbers.
-/
module

public import proofs.«01_k».proof.Proof.PoolFeats

@[expose] public section

noncomputable section

namespace Cert.PoolFwdRows

open Idealize.ShloMosaic
open Cert.Rows Cert.PoolRows Cert.PoolFeats Cert.WindowSum

variable {n : ℕ} (v : (⟨2, ![n, 512]⟩ : Shape).Idx → EReal)

/-- A column's rows behind sixteen zero rows. -/
def behind (j : Fin 512) (q : ℕ) : EReal := if h : 16 ≤ q ∧ q - 16 < n then v (ix2 ⟨q - 16, h.2⟩ j) else 0

/-- The feature from the run of rows its window covers. -/
def mean (y : (⟨2, ![n, 512]⟩ : Shape).Idx) : EReal :=
  run (behind v (y 1)) ((y 0).val + 17 - win (bk (y 1))) (win (bk (y 1))) * Ideal.div 1 (cnt (y 0).val (bk (y 1))) - v y

/-- A column's prefix sum, as a window of all rows that ends at the row. -/
def upto (k : Fin 4) (i : Fin 128) (t : ℕ) : EReal :=
  ∑ s ∈ Finset.range n, if n - 1 ≤ t + s then rowAt (blocks v) k i (t + s - (n - 1)) else 0

/-- The feature from two prefix sums. -/
def gap (r : Fin n) (k : Fin 4) (i : Fin 128) : EReal :=
  Ideal.div (upto v k i r - if r.val < win k then 0 else upto v k i (r - win k)) (cnt r k) - v (ix2 r (col k i))

/-- The feature put together from its pieces. -/
theorem gap_of (r : Fin n) (k : Fin 4) (i : Fin 128) (w : ℕ) (hw : win k = w) {p c y : EReal} {p' : w ≤ r.val ∧ r.val - w < n → EReal}
    (hp : p = upto v k i r) (hp' : ∀ h, p' h = upto v k i (r - w)) (hc : c = cnt r k) (hy : y = v (ix2 r (col k i))) :
    Ideal.div (p - if h : w ≤ r.val ∧ r.val - w < n then p' h else 0) c - y = gap v r k i := by
  subst hw
  have hr := r.isLt
  rw [gap, hp, hc, hy]
  by_cases h : r.val < win k
  · rw [dif_neg (by omega), if_pos h]
  · rw [dif_pos (by omega), if_neg h, hp']

theorem run_split (f : ℕ → EReal) (q a b : ℕ) : run f q (a + b) = run f q a + run f (q + a) b := by
  simp only [run, Finset.sum_range_add, Nat.add_assoc]

theorem run_zero {f : ℕ → EReal} {q m : ℕ} (h : ∀ i < m, f (q + i) = 0) : run f q m = 0 :=
  Finset.sum_eq_zero fun i hi => h i (Finset.mem_range.mp hi)

theorem run_real {f : ℕ → EReal} (h : ∀ q, Real' (f q)) (q m : ℕ) : Real' (run f q m) := Real'.sum _ fun _ => h _

/-- The last part of a run of real numbers. -/
theorem run_tail {f : ℕ → EReal} (h : ∀ q, Real' (f q)) (a b : ℕ) : run f 0 (a + b) - run f 0 a = run f a b := by
  obtain ⟨x, hx⟩ := run_real h 0 a
  obtain ⟨y, hy⟩ := run_real h a b
  rw [run_split, Nat.zero_add, hx, hy, ← EReal.coe_add, ← EReal.coe_sub, add_sub_cancel_left]

theorem behind_real (hv : ∀ y, Real' (v y)) (j : Fin 512) (q : ℕ) : Real' (behind v j q) := by
  unfold behind
  split
  · exact hv _
  · exact Real'.zero

theorem behind_head (j : Fin 512) {m : ℕ} (hm : m ≤ 16) : run (behind v j) 0 m = 0 :=
  run_zero fun i hi => dif_neg fun h => by omega

theorem upto_eq (k : Fin 4) (i : Fin 128) {t : ℕ} (ht : t < n) : upto v k i t = run (behind v (col k i)) 0 (t + 17) := by
  rw [show t + 17 = 16 + (t + 1) by omega, run_split, behind_head v _ le_rfl, zero_add]
  have e : n = n - 1 - t + (t + 1) := by omega
  unfold upto
  rw [show Finset.range n = Finset.range (n - 1 - t + (t + 1)) from congrArg _ e, Finset.sum_range_add,
    Finset.sum_eq_zero fun s hs => if_neg (by have := Finset.mem_range.mp hs; omega), zero_add]
  refine Finset.sum_congr rfl fun s hs => ?_
  have hs := Finset.mem_range.mp hs
  rw [if_pos (by omega), show t + (n - 1 - t + s) - (n - 1) = s by omega]
  unfold rowAt behind
  rw [dif_pos (by omega), dif_pos (by omega)]
  refine congrArg (fun q => v (ix2 q (col k i))) (Fin.ext ?_)
  show s = 0 + 16 + s - 16
  omega

theorem gap_eq (hv : ∀ y, Real' (v y)) (r : Fin n) (k : Fin 4) (i : Fin 128) : gap v r k i = mean v (ix2 r (col k i)) := by
  have hw := win_le k
  have hr := behind_real v hv (col k i)
  show _ = run (behind v (col k i)) (r.val + 17 - win (bk (col k i))) (win (bk (col k i))) * Ideal.div 1 (cnt r.val (bk (col k i))) - v (ix2 r (col k i))
  rw [bk_col, div_cnt, gap, upto_eq v k i r.isLt]
  congr 2
  rw [← run_tail hr (r.val + 17 - win k) (win k), show r.val + 17 - win k + win k = r.val + 17 by omega]
  congr 1
  split
  · rw [behind_head v _ (by omega)]
  · rw [upto_eq v k i (by omega)]
    congr 1
    omega

end Cert.PoolFwdRows

end
-- ==== Proof.PoolFwdPoint.lean ====
/-
  The values that one grid point of the pooling mixer's forward kernel computes, read at an index: the pooled features, a
  run of the rows that end at the row found by doubling with rotations, their linear map, and its norm.
-/
module

public import proofs.«01_k».proof.Proof.Gen.PoolFwdIdeal.Value
public import proofs.«01_k».proof.Proof.PoolFwdRows
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic
public import Idealize.ShloMosaic.Lib.KernelVsHost

@[expose] public section

set_option maxRecDepth 16384

noncomputable section

namespace Cert.PoolFwdIdeal.Point

open Idealize.ShloMosaic Idealize.ShloMosaic.TcCoe Idealize.SL.Sem
open Cert.PoolFwdIdeal Cert.PoolFwdIdeal.Gen Cert.Rows Cert.Pieces Cert.PoolRows

/-- The word count of the window that ends at a chunk's row, as a number. -/
theorem count_word (t : ℕ) (ht : t ≤ 12) (p : Fin 320) (k : Fin 4) (w : BitVec 32) (hw : w = BitVec.ofNat 32 (win k)) :
    (FloatOps.sitofp FTy.f32 (IntOp.minsi (IntOp.addi (IntOp.addi (Scalar.muli (BitVec.ofNat 32 t) 320#32) (BitVec.ofNat 32 p)) 1#32) w) : Ideal .f32)
      = cnt (t * 320 + p) k := by
  have hk := win_le k
  have hp := p.isLt
  have low : ∀ a ≤ 4160, (BitVec.ofNat 32 a).toInt = (a : ℤ) := fun a ha => by
    rw [BitVec.toInt_ofNat', Int.bmod_def]; omega
  have sum : (IntOp.addi (IntOp.addi (Scalar.muli (BitVec.ofNat 32 t) 320#32) (BitVec.ofNat 32 p)) 1#32 : BitVec 32) = BitVec.ofNat 32 (t * 320 + p + 1) :=
    BitVec.eq_of_toNat_eq (by simp [IntOp.addi, Scalar.muli, IntOp.muli, BitVec.toNat_add, BitVec.toNat_mul])
  have least : (IntOp.minsi (BitVec.ofNat 32 (t * 320 + p + 1)) (BitVec.ofNat 32 (win k))).toInt = ((min (t * 320 + p + 1) (win k) : ℕ) : ℤ) := by
    unfold IntOp.minsi
    rw [BitVec.slt, low _ (by omega), low _ (by omega)]
    split <;> rename_i h <;> simp only [decide_eq_true_eq, decide_eq_false_iff_not] at h
    · rw [low _ (by omega)]; omega
    · rw [low _ (by omega)]; omega
  rw [sum, hw]
  show (((IntOp.minsi (BitVec.ofNat 32 (t * 320 + p + 1)) (BitVec.ofNat 32 (win k))).toInt : ℝ) : EReal) = _
  rw [least]; rfl

/-- A column of 336 rows holds, from row `s - 1` on, the runs of `s` values that end at the row. -/
def Runs (f : ℕ → EReal) (s : ℕ) (x : FVec Ideal S336x128 .f32) (i : Fin 128) : Prop :=
  ∀ q : Fin 336, s ≤ q.val + 1 → x (ix2 q i) = run f (q + 1 - s) s

/-- Adding the column rotated down by `s` rows doubles the runs. -/
theorem Runs.double {f : ℕ → EReal} {s : ℕ} {x : FVec Ideal S336x128 .f32} {i : Fin 128} (h : Runs f s x i) (hs : 0 < s) (hs' : s < 336)
    (w : BitVec 32) (hw : w = BitVec.ofNat 32 s) : Runs f (s + s) (addf x (dynamicRotate 0 w none x rotates_S336x128_d0)) i := by
  intro q hq
  subst hw
  have hrot : dynamicRotate 0 (BitVec.ofNat 32 s) none x rotates_S336x128_d0 (ix2 q i) = x (ix2 ⟨q - s, by omega⟩ i) := by
    refine dynamicRotate_apply 0 _ x _ _ (ix2 ⟨q - s, by omega⟩ i) fun b => ?_
    fin_cases b
    · show q - s = (q + 336 - (BitVec.ofNat 32 s).toNat % 336) % 336
      have := q.isLt
      rw [BitVec.toNat_ofNat, Nat.mod_eq_of_lt (a := s) (by omega), Nat.mod_eq_of_lt (a := s) (by omega)]
      omega
    · rfl
  show x (ix2 q i) + dynamicRotate 0 (BitVec.ofNat 32 s) none x rotates_S336x128_d0 (ix2 q i) = _
  rw [hrot, h q (by omega), h ⟨q - s, by omega⟩ (by show s ≤ q - s + 1; omega), ← run_add]
  refine (add_comm _ _).trans (congrArg₂ (· + ·) (congrArg (fun z => run f z s) ?_) (congrArg (fun z => run f z s) ?_))
  · show q.val - s + 1 - s = q.val + 1 - (s + s); omega
  · omega

variable (x0 : Vec Ideal S320x512 .f32) (x1 : Vec Ideal S4x128x128 .bf16) (x2 : Vec Ideal S8x512 .f32) (xs : Vec Ideal S16x512 .f32)

/-- The loads of the four matrices and of the two rows of vectors. -/
abbrev w0 : Vec Ideal S1x128x128 .bf16 := View.ld x1 (Rect.unit ![0, 0, 0] ![1, 128, 128] inb_S4x128x128_S1x128x128_0_0_0)
abbrev w1 : Vec Ideal S1x128x128 .bf16 := View.ld x1 (Rect.unit ![1, 0, 0] ![1, 128, 128] inb_S4x128x128_S1x128x128_1_0_0)
abbrev w2 : Vec Ideal S1x128x128 .bf16 := View.ld x1 (Rect.unit ![2, 0, 0] ![1, 128, 128] inb_S4x128x128_S1x128x128_2_0_0)
abbrev w3 : Vec Ideal S1x128x128 .bf16 := View.ld x1 (Rect.unit ![3, 0, 0] ![1, 128, 128] inb_S4x128x128_S1x128x128_3_0_0)
abbrev v0 : Vec Ideal S1x512 .f32 := View.ld x2 (Rect.unit ![0, 0] ![1, 512] inb_S8x512_S1x512_0_0)
abbrev v1 : Vec Ideal S1x512 .f32 := View.ld x2 (Rect.unit ![1, 0] ![1, 512] inb_S8x512_S1x512_1_0)

/-- The scale and the norm's weight. -/
abbrev sc : Fin 512 → EReal := fun j => x2 (ix2 0 j)
abbrev gn : Fin 512 → EReal := fun j => x2 (ix2 1 j)

/-- The rows carried over from the chunk before, then the chunk's own. -/
def ext (j : Fin 512) (q : ℕ) : EReal :=
  if h : q < 16 then xs (ix2 ⟨q, h⟩ j) else if h : q - 16 < 320 then x0 (ix2 ⟨q - 16, h⟩ j) else 0

/-- A chunk's features. -/
def feat (t : ℕ) (y : (⟨2, ![320, 512]⟩ : Shape).Idx) : EReal :=
  run (ext x0 xs (y 1)) ((y 0).val + 17 - win (bk (y 1))) (win (bk (y 1))) * Ideal.div 1 (cnt (t * 320 + (y 0).val) (bk (y 1))) - x0 y

theorem ext_at (q : Fin 336) (j : Fin 512) : k0_pay4 x0 xs (ix2 q j) = ext x0 xs j q := by
  have := q.isLt
  unfold ext
  pointwise [k0_pay4, k0_pay3]
  by_cases h : q.val < 16
  · rw [dif_pos h, dif_pos h]
  · rw [dif_neg h, dif_neg h, dif_pos (by omega)]

theorem runs_slice (k : Fin 4) (o : ℕ) (ho : o = 128 * k.val) (h) (i : Fin 128) :
    Runs (ext x0 xs (col k i)) 1 (extractStridedSlice S336x128 ![0, o] (k0_pay4 x0 xs) h) i := by
  intro q _
  subst ho
  rw [run_one]
  refine Eq.trans ?_ (ext_at x0 xs q (col k i))
  pointwise
  rfl

/-- A feature put together from a column that holds the runs of its window. -/
theorem feat_of (t : ℕ) {k : Fin 4} {j : Fin 128} {s : ℕ} (hs : s = win k) {x : FVec Ideal S336x128 .f32} (hx : Runs (ext x0 xs (col k j)) s x j)
    (p : Fin 320) {c y : EReal} (hc : c = cnt (t * 320 + p) k) (hy : y = x0 (ix2 p (col k j))) :
    x (ix2 ⟨16 + p, by omega⟩ j) * Ideal.div 1 c - y = feat x0 xs t (ix2 p (col k j)) := by
  subst hs hc hy
  have hw := win_le k
  rw [hx ⟨16 + p, by omega⟩ (by show win k ≤ 16 + p.val + 1; omega)]
  show _ = run (ext x0 xs (col k j)) (p.val + 17 - win (bk (col k j))) (win (bk (col k j))) * Ideal.div 1 (cnt (t * 320 + p.val) (bk (col k j))) - x0 (ix2 p (col k j))
  rw [bk_col, show p.val + 17 - win k = 16 + p.val + 1 - win k by omega]

variable (i : grid0.Coords) (t : ℕ) (hi : (i 0).val = t) (ht : t ≤ 12)

abbrev F0 : FVec Ideal S320x128 .bf16 := k0_pay6 i x0 xs
abbrev F1 : FVec Ideal S320x128 .bf16 := k0_pay10 (BitVec.ofNat 32 t) (k0_pay3 x0) (k0_pay8 x0 xs) (k0_pay9 x0 xs)
abbrev F2 : FVec Ideal S320x128 .bf16 := k0_pay12 (BitVec.ofNat 32 t) (k0_pay3 x0) (k0_pay4 x0 xs)
abbrev F3 : FVec Ideal S320x128 .bf16 := k0_pay13 (BitVec.ofNat 32 t) (k0_pay3 x0) (k0_pay4 x0 xs)

include hi ht in
theorem F0_at (p : Fin 320) (j : Fin 128) : (F0 x0 xs i (ix2 p j) : EReal) = feat x0 xs t (ix2 p (col 0 j)) := by
  have r := (runs_slice x0 xs 0 0 rfl slices_S336x512_o0_0_S336x128 j).double (by omega) (by omega) 1#32 rfl
  subst hi
  unfold F0 k0_pay6
  dsimp only
  generalize addf (extractStridedSlice S336x128 ![0, 0] (k0_pay4 x0 xs) _) _ = x at r ⊢
  pointwise [k0_pay3]
  exact feat_of x0 xs _ rfl r p (count_word _ ht p 0 2#32 rfl) (congrArg (fun q => x0 (ix2 p q)) (Fin.ext (show j.val = 128 * 0 + j.val by omega)))

include ht in
theorem F1_at (p : Fin 320) (j : Fin 128) : (F1 x0 xs t (ix2 p j) : EReal) = feat x0 xs t (ix2 p (col 1 j)) := by
  have r := ((runs_slice x0 xs 1 128 rfl slices_S336x512_o0_128_S336x128 j).double (by omega) (by omega) 1#32 rfl).double (by omega) (by omega) 2#32 rfl
  unfold F1 k0_pay10 k0_pay9 k0_pay8
  dsimp only
  generalize addf (addf (extractStridedSlice S336x128 ![0, 128] (k0_pay4 x0 xs) _) _) _ = x at r ⊢
  pointwise [k0_pay3]
  exact feat_of x0 xs _ rfl r p (count_word _ ht p 1 4#32 rfl) rfl

include ht in
theorem F2_at (p : Fin 320) (j : Fin 128) : (F2 x0 xs t (ix2 p j) : EReal) = feat x0 xs t (ix2 p (col 2 j)) := by
  have r := (((runs_slice x0 xs 2 256 rfl slices_S336x512_o0_256_S336x128 j).double (by omega) (by omega) 1#32 rfl).double (by omega) (by omega) 2#32 rfl).double
    (by omega) (by omega) 4#32 rfl
  unfold F2 k0_pay12
  dsimp only
  generalize addf (addf (addf (extractStridedSlice S336x128 ![0, 256] (k0_pay4 x0 xs) _) _) _) _ = x at r ⊢
  pointwise [k0_pay3]
  exact feat_of x0 xs _ rfl r p (count_word _ ht p 2 8#32 rfl) rfl

include ht in
theorem F3_at (p : Fin 320) (j : Fin 128) : (F3 x0 xs t (ix2 p j) : EReal) = feat x0 xs t (ix2 p (col 3 j)) := by
  have r := ((((runs_slice x0 xs 3 384 rfl slices_S336x512_o0_384_S336x128 j).double (by omega) (by omega) 1#32 rfl).double (by omega) (by omega) 2#32 rfl).double
    (by omega) (by omega) 4#32 rfl).double (by omega) (by omega) 8#32 rfl
  unfold F3 k0_pay13
  dsimp only
  generalize addf (addf (addf (addf (extractStridedSlice S336x128 ![0, 384] (k0_pay4 x0 xs) _) _) _) _) _ = x at r ⊢
  pointwise [k0_pay3]
  exact feat_of x0 xs _ rfl r p (count_word _ ht p 3 16#32 rfl) rfl

include hi ht in
/-- The chunk of the features. -/
theorem feats_at (p : Fin 320) (j : Fin 512) :
    (k0_pay14 (BitVec.ofNat 32 t) (k0_pay3 x0) (k0_pay4 x0 xs) (F0 x0 xs i) (F1 x0 xs t) (F2 x0 xs t) (ix2 p j) : EReal) = feat x0 xs t (ix2 p j) := by
  pointwise [k0_pay14]
  refine (by_block j (fun k j => feat x0 xs t (ix2 p (col k j))) (fun j => F0 x0 xs i (ix2 p j)) (fun j => F1 x0 xs t (ix2 p j)) (fun j => F2 x0 xs t (ix2 p j))
    (fun j => F3 x0 xs t (ix2 p j)) (F0_at x0 xs i t hi ht p) (F1_at x0 xs t ht p) (F2_at x0 xs t ht p) (F3_at x0 xs t ht p)).trans ?_
  rw [col_bk_lo]

abbrev Y : FVec Ideal S320x512 .f32 := k0_pay15 (BitVec.ofNat 32 t) (k0_pay3 x0) (k0_pay4 x0 xs) (k0_pay7 i x0 xs (w0 x1))
  (k0_pay11 (BitVec.ofNat 32 t) (k0_pay3 x0) (k0_pay8 x0 xs) (k0_pay9 x0 xs) (w1 x1)) (F2 x0 xs t) (w2 x1) (w3 x1) (v0 x2)

include hi ht in
/-- The features' linear map, scaled. -/
theorem Y_at (p : Fin 320) (j : Fin 512) : (Y x0 x1 x2 xs i t (ix2 p j) : EReal) = yp (feat x0 xs t) x1 (sc x2) p j := by
  have e0 := F0_at x0 xs i t hi ht p
  have e1 := F1_at x0 xs t ht p
  have e2 := F2_at x0 xs t ht p
  have e3 := F3_at x0 xs t ht p
  have l0 : ∀ j, (k0_pay7 i x0 xs (w0 x1) (ix2 p j) : EReal) = ∑ i : Fin 128, feat x0 xs t (ix2 p (col 0 i)) * x1 (ix3 0 i j) := fun j => by
    pointwise [k0_pay7, w0]; simp only [← e0]
  have l1 : ∀ j, (k0_pay11 (BitVec.ofNat 32 t) (k0_pay3 x0) (k0_pay8 x0 xs) (k0_pay9 x0 xs) (w1 x1) (ix2 p j) : EReal)
      = ∑ i : Fin 128, feat x0 xs t (ix2 p (col 1 i)) * x1 (ix3 1 i j) := fun j => by
    pointwise [k0_pay11, w1]; simp only [← e1]
  have hv : (v0 x2 (ix2 0 j) : EReal) = sc x2 j := by pointwise [v0]
  pointwise [Y, k0_pay15, w2, w3]
  refine congrArg₂ (· * ·) ?_ ?_
  · refine by_block j (fun k j => ∑ i : Fin 128, feat x0 xs t (ix2 p (col k i)) * x1 (ix3 k i j)) (fun j => k0_pay7 i x0 xs (w0 x1) (ix2 p j))
      (fun j => k0_pay11 (BitVec.ofNat 32 t) (k0_pay3 x0) (k0_pay8 x0 xs) (k0_pay9 x0 xs) (w1 x1) (ix2 p j))
      (fun j => ∑ i : Fin 128, F2 x0 xs t (ix2 p i) * x1 (ix3 2 i j)) (fun j => ∑ i : Fin 128, F3 x0 xs t (ix2 p i) * x1 (ix3 3 i j)) l0 l1 ?_ ?_
    · intro j; simp only [e2]
    · intro j; simp only [e3]
  · exact hv

include hi ht in
/-- The chunk of the normed rows. -/
theorem norm_at (p : Fin 320) (j : Fin 512) : (k0_pay1 (Y x0 x1 x2 xs i t) (v1 x2) (ix2 p j) : EReal)
    = yp (feat x0 xs t) x1 (sc x2) p j * rinv width (yp (feat x0 xs t) x1 (sc x2) p) * gn x2 j := by
  have e := Y_at x0 x1 x2 xs i t hi ht p
  generalize Y x0 x1 x2 xs i t = y at e ⊢
  pointwise [k0_pay1, v1]
  simp only [e]; rfl

end Cert.PoolFwdIdeal.Point

end
-- ==== Proof.PoolFwdOuts.lean ====
/-
  What one grid point of the pooling mixer's forward kernel leaves in its two result blocks and in the scratch buffer that
  carries the chunk's last rows over: at the first point the carried rows are zero, after it they are the buffer's.
-/
module

public import proofs.«01_k».proof.Proof.PoolFwdPoint
public import Idealize.ShloMosaic.Lib.WritesUnit

@[expose] public section

set_option maxRecDepth 16384

noncomputable section

namespace Cert.PoolFwdIdeal.Point

open Idealize.ShloMosaic Idealize.ShloMosaic.TcCoe Idealize.SL.Sem
open Cert.PoolFwdIdeal Cert.PoolFwdIdeal.Gen Cert.Rows Cert.Pieces Cert.PoolRows

variable (c : Dev nD) (i : grid0.Coords) (a1 : Memref sig .tc .vmem S320x512 .f32) (h1 : a1.IsWhole)
  (a2 : Memref sig .tc .vmem S4x128x128 .bf16) (h2 : a2.IsWhole) (a3 : Memref sig .tc .vmem S8x512 .f32) (h3 : a3.IsWhole)
  (a5 : Memref sig .tc .vmem S320x512 .bf16) (h5 : a5.IsWhole) (a6 : Memref sig .tc .vmem S320x512 .bf16) (h6 : a6.IsWhole)
  (a7 : Memref sig .tc .vmem S16x512 .f32) (h7 : a7.IsWhole)
variable (x0 : Vec Ideal S320x512 .f32) (x1 : Vec Ideal S4x128x128 .bf16) (x2 : Vec Ideal S8x512 .f32) (xs : Vec Ideal S16x512 .f32)

theorem chunk_of (i : grid0.Coords) : (i 0).val ≤ 12 := Nat.le_of_lt_succ (i 0).isLt

/-- The rows carried over at the first point. -/
theorem zeros : k0_pay2 (F := Ideal) = fun _ => 0 := by
  funext y
  obtain ⟨q, j, rfl⟩ : ∃ p k, y = ix2 p k := ⟨y 0, y 1, by pointwise⟩
  pointwise [k0_pay2]

/-- The chunk's last rows. -/
theorem last_at (q : Fin 16) (j : Fin 512) : k0_pay5 x0 (ix2 q j) = x0 (ix2 ⟨304 + q, by omega⟩ j) := by
  pointwise [k0_pay5, k0_pay3]

theorem out_B_3 (hc : ¬cond0_0 i) (p : Fin 320) (j : Fin 512) :
    (out0_B_3 c i a1 h1 a2 h2 a3 h3 a5 h5 a6 h6 a7 h7 hc x0 x1 x2 xs (ix2 p j) : EReal) = feat x0 xs (i 0) (ix2 p j) := by
  unfold out0_B_3
  rw [View.read_writes_junk_eq_canon]
  unfold kernelRun0_B
  dsimp only
  sl_unfold_words
  rw [View.canon_unit_zero hz]
  simp only [View.readAt_eq_ld, h1.read_unread, h2.read_unread, h3.read_unread, h7.read_unread, View.ld_unit_zero (S := S320x512) hz, View.ld_unit_zero (S := S16x512) hz]
  exact feats_at x0 xs i _ rfl (chunk_of i) p j

theorem out_A_3 (hc : cond0_0 i) (p : Fin 320) (j : Fin 512) :
    (out0_A_3 c i a1 h1 a2 h2 a3 h3 a5 h5 a6 h6 a7 h7 hc x0 x1 x2 (ix2 p j) : EReal) = feat x0 (fun _ => 0) (i 0) (ix2 p j) := by
  unfold out0_A_3
  rw [View.read_writes_junk_eq_canon]
  unfold kernelRun0_A
  dsimp only
  sl_unfold_words
  rw [View.canon_unit_zero hz, View.readCov_unit_zero (S := S16x512) _ hz, zeros]
  simp only [View.readAt_eq_ld, h1.read_unread, h2.read_unread, h3.read_unread, h7.read_unread, View.ld_unit_zero (S := S320x512) hz, View.ld_unit_zero (S := S16x512) hz]
  exact feats_at x0 (fun _ => 0) i _ rfl (chunk_of i) p j

theorem out_B_4 (hc : ¬cond0_0 i) (p : Fin 320) (j : Fin 512) :
    (out0_B_4 c i a1 h1 a2 h2 a3 h3 a5 h5 a6 h6 a7 h7 hc x0 x1 x2 xs (ix2 p j) : EReal)
      = yp (feat x0 xs (i 0)) x1 (sc x2) p j * rinv width (yp (feat x0 xs (i 0)) x1 (sc x2) p) * gn x2 j := by
  unfold out0_B_4
  rw [View.read_writes_junk_eq_canon]
  unfold kernelRun0_B
  dsimp only
  sl_unfold_words
  rw [View.canon_unit_zero hz]
  simp only [View.readAt_eq_ld, h1.read_unread, h2.read_unread, h3.read_unread, h7.read_unread, View.ld_unit_zero (S := S320x512) hz, View.ld_unit_zero (S := S16x512) hz]
  exact norm_at x0 x1 x2 xs i _ rfl (chunk_of i) p j

theorem out_A_4 (hc : cond0_0 i) (p : Fin 320) (j : Fin 512) :
    (out0_A_4 c i a1 h1 a2 h2 a3 h3 a5 h5 a6 h6 a7 h7 hc x0 x1 x2 (ix2 p j) : EReal)
      = yp (feat x0 (fun _ => 0) (i 0)) x1 (sc x2) p j * rinv width (yp (feat x0 (fun _ => 0) (i 0)) x1 (sc x2) p) * gn x2 j := by
  unfold out0_A_4
  rw [View.read_writes_junk_eq_canon]
  unfold kernelRun0_A
  dsimp only
  sl_unfold_words
  rw [View.canon_unit_zero hz, View.readCov_unit_zero (S := S16x512) _ hz, zeros]
  simp only [View.readAt_eq_ld, h1.read_unread, h2.read_unread, h3.read_unread, h7.read_unread, View.ld_unit_zero (S := S320x512) hz, View.ld_unit_zero (S := S16x512) hz]
  exact norm_at x0 x1 x2 (fun _ => 0) i _ rfl (chunk_of i) p j

theorem sout_A (hc : cond0_0 i) (q : Fin 16) (j : Fin 512) :
    sout0_A_0 c i a1 h1 a2 h2 a3 h3 a5 h5 a6 h6 a7 h7 hc x0 x1 x2 (ix2 q j) = x0 (ix2 ⟨304 + q, by omega⟩ j) := by
  unfold sout0_A_0
  rw [View.read_writes_junk_eq_canon]
  unfold kernelRun0_A
  dsimp only
  sl_unfold_words
  rw [View.canon_cons_unit_zero (S := S16x512) hz]
  simp only [View.readAt_eq_ld, h1.read_unread, View.ld_unit_zero (S := S320x512) hz]
  exact last_at x0 q j

theorem sout_B (hc : ¬cond0_0 i) (q : Fin 16) (j : Fin 512) :
    sout0_B_0 c i a1 h1 a2 h2 a3 h3 a5 h5 a6 h6 a7 h7 hc x0 x1 x2 xs (ix2 q j) = x0 (ix2 ⟨304 + q, by omega⟩ j) := by
  unfold sout0_B_0
  rw [View.read_writes_junk_eq_canon]
  unfold kernelRun0_B
  dsimp only
  sl_unfold_words
  rw [View.canon_unit_zero (S := S16x512) hz]
  simp only [View.readAt_eq_ld, h1.read_unread, View.ld_unit_zero (S := S320x512) hz]
  exact last_at x0 q j

end Cert.PoolFwdIdeal.Point

end
-- ==== Proof.PoolFwdArrays.lean ====
/-
  The pooling mixer's forward kernel as a whole: its two result arrays after the last grid point, as functions of the
  arrays the region is entered with. The points walk the row chunks in order, so the rows carried over in the scratch
  buffer are the last of the chunk before.
-/
module

public import proofs.«01_k».proof.Proof.PoolFwdOuts
public import Idealize.ShloMosaic.Lib.Pipeline.ValueKit.Geometry

@[expose] public section

noncomputable section

namespace Cert.PoolFwdIdeal.Arrays

open Idealize.ShloMosaic Idealize.ShloMosaic.TcCoe Idealize.SL.Sem
open Cert.PoolFwdIdeal Cert.PoolFwdIdeal.Gen Cert.PoolFwdIdeal.Point Cert.Rows Cert.PoolRows Cert.PoolFwdRows

variable (m : (ℓ : Loc nD τ sig) → Buf (Elt Ideal) ℓ) (c : Dev nD)

/-- The arrays the region is entered with: the rows, the matrices, the vectors. -/
abbrev aX : FVec Ideal S4160x512 .f32 := V m c main_v5
abbrev aW : FVec Ideal S4x128x128 .bf16 := V m c main_v4
abbrev aV : FVec Ideal S8x512 .f32 := V m c main_v2

theorem at0 : ∀ t : Fin cfg0.N, win0_0.index t = ![t.val, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem coord : ∀ t : Fin cfg0.N, (grid0.coords t 0).val = t.val := (by decide +kernel : ∀ t : Fin grid0.N, _)

theorem lt13 (t : Fin cfg0.N) : t.val < 13 := lt_of_lt_of_eq t.isLt N_0

/-- The array row of a block's row. -/
def gr (t : Fin cfg0.N) (p : Fin 320) : Fin 4160 := ⟨t.val * 320 + p.val, by have := lt13 t; omega⟩

theorem blk0 (t : Fin cfg0.N) (p : Fin 320) (j : Fin 512) : (iblk m c 0 t : FVec Ideal S320x512 .f32) (ix2 p j) = aX m c (ix2 (gr t p) j) := by
  blk_simp [iblk]; refine congrArg (V m c main_v5) ?_; blk_ext [at0] <;> rfl
theorem blk1 (t : Fin cfg0.N) (k : Fin 4) (i j : Fin 128) : (iblk m c 1 t : FVec Ideal S4x128x128 .bf16) (ix3 k i j) = aW m c (ix3 k i j) := by
  blk_simp [iblk]; refine congrArg (V m c main_v4) ?_; blk_ext [at1]
theorem blk2 (t : Fin cfg0.N) (k : Fin 8) (j : Fin 512) : (iblk m c 2 t : FVec Ideal S8x512 .f32) (ix2 k j) = aV m c (ix2 k j) := by
  blk_simp [iblk]; refine congrArg (V m c main_v2) ?_; blk_ext [at2]

/-- What the scratch buffer holds after a point: the last rows of the point's chunk. -/
theorem scratch (t : Fin cfg0.N) (q : Fin 16) (j : Fin 512) :
    ((outsAt0 m c t.val t.isLt).2.2 : FVec Ideal S16x512 .f32) (ix2 q j) = aX m c (ix2 (gr t ⟨304 + q, by omega⟩) j) := by
  by_cases h : t.val % 13 = 0
  · rw [outsAt0_A m c t h]; dsimp only; rw [sout_A]; exact blk0 m c t ⟨304 + q, by omega⟩ j
  · rw [outsAt0_B m c t h]; dsimp only; rw [sout_B]; exact blk0 m c t ⟨304 + q, by omega⟩ j

/-- The rows carried over to a point are the array's rows before its chunk, zero rows before the first chunk. -/
def Carried (t : Fin cfg0.N) (xs : Vec Ideal S16x512 .f32) : Prop :=
  ∀ (q : Fin 16) (j : Fin 512), xs (ix2 q j) = behind (aX m c) j (t.val * 320 + q)

theorem carried_first (t : Fin cfg0.N) (h : t.val % 13 = 0) : Carried m c t fun _ => 0 := fun q j => by
  have ht := lt13 t
  show (0 : EReal) = _
  rw [behind, dif_neg (by omega)]

theorem carried_next (t : Fin cfg0.N) (h : ¬t.val % 13 = 0) :
    Carried m c t (outsAt0 m c (t.val - 1) (Nat.lt_of_le_of_lt (Nat.sub_le _ _) t.isLt)).2.2 := fun q j => by
  have ht := lt13 t
  refine (scratch m c ⟨t.val - 1, Nat.lt_of_le_of_lt (Nat.sub_le _ _) t.isLt⟩ q j).trans ?_
  rw [behind, dif_pos (by omega)]
  refine congrArg (fun r => aX m c (ix2 r j)) (Fin.ext ?_)
  show (t.val - 1) * 320 + (304 + q.val) = t.val * 320 + q.val - 16
  omega

/-- The carried rows and the chunk's are the array's. -/
theorem ext_eq (t : Fin cfg0.N) {xs : Vec Ideal S16x512 .f32} (hs : Carried m c t xs) (j : Fin 512) (q : ℕ) (hq : q < 336) :
    ext (iblk m c 0 t) xs j q = behind (aX m c) j (t.val * 320 + q) := by
  have ht := lt13 t
  unfold ext
  split
  · exact hs ⟨q, by assumption⟩ j
  · rw [dif_pos (by omega)]
    refine (blk0 m c t ⟨q - 16, by omega⟩ j).trans ?_
    rw [behind, dif_pos (by omega)]
    refine congrArg (fun r => aX m c (ix2 r j)) (Fin.ext ?_)
    show t.val * 320 + (q - 16) = t.val * 320 + q - 16
    omega

theorem feat_blk (t : Fin cfg0.N) {xs : Vec Ideal S16x512 .f32} (hs : Carried m c t xs) (p : Fin 320) (j : Fin 512) :
    feat (iblk m c 0 t) xs (grid0.coords t 0) (ix2 p j) = mean (aX m c) (ix2 (gr t p) j) := by
  have hw := win_le (bk j)
  have hp := p.isLt
  rw [coord]
  show run (ext (iblk m c 0 t) xs j) (p.val + 17 - win (bk j)) (win (bk j)) * Ideal.div 1 (cnt (t.val * 320 + p.val) (bk j)) - (iblk m c 0 t : FVec Ideal S320x512 .f32) (ix2 p j)
    = run (behind (aX m c) j) (t.val * 320 + p.val + 17 - win (bk j)) (win (bk j)) * Ideal.div 1 (cnt (t.val * 320 + p.val) (bk j)) - aX m c (ix2 (gr t p) j)
  rw [blk0]
  congr 2
  refine run_congr fun i hi => ?_
  rw [ext_eq m c t hs j _ (by omega)]
  congr 1
  omega

/-- The row's features mapped, scaled and normed. -/
def normed (r : Fin 4160) (j : Fin 512) : EReal :=
  yp (mean (aX m c)) (aW m c) (sc (aV m c)) r j * rinv width (yp (mean (aX m c)) (aW m c) (sc (aV m c)) r) * gn (aV m c) j

theorem yp_blk (t : Fin cfg0.N) {xs : Vec Ideal S16x512 .f32} (hs : Carried m c t xs) (p : Fin 320) :
    yp (feat (iblk m c 0 t) xs (grid0.coords t 0)) (iblk m c 1 t) (sc (iblk m c 2 t)) p = yp (mean (aX m c)) (aW m c) (sc (aV m c)) (gr t p) :=
  yp_congr (feat_blk m c t hs p) (blk1 m c t) (blk2 m c t 0)

theorem norm_blk (t : Fin cfg0.N) {xs : Vec Ideal S16x512 .f32} (hs : Carried m c t xs) (p : Fin 320) (j : Fin 512) :
    yp (feat (iblk m c 0 t) xs (grid0.coords t 0)) (iblk m c 1 t) (sc (iblk m c 2 t)) p j
      * rinv width (yp (feat (iblk m c 0 t) xs (grid0.coords t 0)) (iblk m c 1 t) (sc (iblk m c 2 t)) p) * gn (iblk m c 2 t) j = normed m c (gr t p) j := by
  rw [yp_blk m c t hs p]
  exact congrArg (_ * ·) (blk2 m c t 1 j)

/-- The features. -/
theorem final3 (r : Fin 4160) (j : Fin 512) :
    (((dats m 0 c).arrAt 3 cfg0.N : FVec Ideal S4160x512 .bf16) (ix2 r j) : EReal) = mean (aX m c) (ix2 r j) := by
  have h := (dats m 0 c).arrAt_eq_of_covers 3
    (fun y : S4160x512.Idx => mean (aX m c) (ix2 (y 0) (y 1)))
    (by decide +kernel) fun t hf y => ?_
  · exact congrFun h (ix2 r j)
  · blk_simp
    rw [after0_3]
    obtain ⟨p, j, rfl⟩ : ∃ (p : Fin 320) (j : Fin 512), y = ix2 p j := ⟨y 0, y 1, by pointwise⟩
    have e : ((win0_3.blk t).view.emb (ix2 p j : S320x512.Idx) : S4160x512.Idx) = ix2 (gr t p) j := by blk_ext [at3] <;> rfl
    rw [e]
    by_cases h0 : t.val % 13 = 0
    · rw [outsAt0_A m c t h0]; dsimp only
      exact (out_A_3 ..).trans (feat_blk m c t (carried_first m c t h0) p j)
    · rw [outsAt0_B m c t h0]; dsimp only
      exact (out_B_3 ..).trans (feat_blk m c t (carried_next m c t h0) p j)

/-- The normed rows. -/
theorem final4 (r : Fin 4160) (j : Fin 512) :
    (((dats m 0 c).arrAt 4 cfg0.N : FVec Ideal S4160x512 .bf16) (ix2 r j) : EReal) = normed m c r j := by
  have h := (dats m 0 c).arrAt_eq_of_covers 4
    (fun y : S4160x512.Idx => normed m c (y 0) (y 1))
    (by decide +kernel) fun t hf y => ?_
  · exact congrFun h (ix2 r j)
  · blk_simp
    rw [after0_4]
    obtain ⟨p, j, rfl⟩ : ∃ (p : Fin 320) (j : Fin 512), y = ix2 p j := ⟨y 0, y 1, by pointwise⟩
    have e : ((win0_4.blk t).view.emb (ix2 p j : S320x512.Idx) : S4160x512.Idx) = ix2 (gr t p) j := by blk_ext [at4] <;> rfl
    rw [e]
    by_cases h0 : t.val % 13 = 0
    · rw [outsAt0_A m c t h0]; dsimp only
      exact (out_A_4 ..).trans (norm_blk m c t (carried_first m c t h0) p j)
    · rw [outsAt0_B m c t h0]; dsimp only
      exact (out_B_4 ..).trans (norm_blk m c t (carried_next m c t h0) p j)

end Cert.PoolFwdIdeal.Arrays

end
-- ==== Proof.PoolFwdHost.lean ====
/-
  The arrays the pooling mixer's forward call is entered with, read at an index in terms of the program's arguments: the
  input's rows, padded to 4160 with zeros, the matrices, and the scale and the norm's weight as the first two vectors.
-/
module

public import proofs.«01_k».proof.Proof.PoolFwdArrays

@[expose] public section

noncomputable section

namespace Cert.PoolFwdIdeal.Host

open Idealize.ShloMosaic Idealize.ShloMosaic.TcCoe Idealize.SL.Sem
open Cert.PoolFwdIdeal Cert.PoolFwdIdeal.Gen Cert.PoolFwdIdeal.Arrays Cert.PoolRows Cert.Rows

variable (m : (ℓ : Loc nD τ sig) → Buf (Elt Ideal) ℓ) (c : Dev nD)

/-- The arguments. -/
abbrev x0 : FVec Ideal S4112x512 .f32 := m ((c : Thread nD τ).loc main_arg0)
abbrev x1 : FVec Ideal S1x4x128x128 .f32 := m ((c : Thread nD τ).loc main_arg1)
abbrev x2 : FVec Ideal S1x4x128 .f32 := m ((c : Thread nD τ).loc main_arg2)
abbrev x3 : FVec Ideal S1x512 .f32 := m ((c : Thread nD τ).loc main_arg3)

theorem aX_at (r : Fin 4160) (k : Fin 512) : (aX m c (ix2 r k) : EReal) = if h : r.val < 4112 then x0 m c (ix2 ⟨r, h⟩ k) else 0 := by
  unfold aX V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  pointwise
  rw [Rows.sitofp_zero]

theorem aW_at (k : Fin 4) (i j : Fin 128) : (aW m c (ix3 k i j) : EReal) = x1 m c (ix4 0 k i j) := by
  unfold aW V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  pointwise

theorem aV_at0 (j : Fin 512) : (aV m c (ix2 0 j) : EReal) = x2 m c (ix3 0 (bk j) (lo j)) := by
  unfold aV V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  pointwise
  show shapeCast S1x512 (x2 m c) _ _ = _
  pointwise
  rfl

theorem aV_at1 (j : Fin 512) : (aV m c (ix2 1 j) : EReal) = x3 m c (ix2 0 j) := by
  unfold aV V
  simp only [hostOps0, hostOps0_1, hostOps0_2, hostOps0_3, hostOps0_4, List.flatten_cons, List.flatten_nil, List.append_nil, List.cons_append, List.nil_append, StableHlo.TRef.binary, StableHlo.TRef.unary, StableHlo.TRef.toBuf, StableHlo.TRef.ofBuf, cast_eq]
  after_results_simp
  pointwise
  after_results_simp

end Cert.PoolFwdIdeal.Host

end
-- ==== Proof.PoolFwdRef.lean ====
/-
  The pooling mixer's forward lines read at an index: window means from prefix sums less the row, the blocks' linear maps,
  scale and norm, as functions of the padded rows and the parameters.
-/
module

public import proofs.«01_k».proof.Proof.Gen.PoolFwdRefIdeal.Read
public import proofs.«01_k».proof.Proof.PoolFwdRows
public import Idealize.ShloMosaic.Lib.Pointwise

@[expose] public section

noncomputable section

namespace Cert.PoolFwdRefIdeal.At

open Idealize.ShloMosaic
open Cert.PoolFwdRefIdeal Cert.PoolFwdRefIdeal.Read Cert.Rows Cert.PoolRows Cert.PoolFeats Cert.PoolFwdRows Cert.WindowSum

variable (x0 : FVec Ideal S4112x512 .f32) (x1 : FVec Ideal S1x4x128x128 .f32) (x2 : FVec Ideal S1x4x128 .f32) (x3 : FVec Ideal S1x512 .f32)

/-- The matrices, the scale and the norm's weight, without the leading axis. -/
def pws : (⟨3, ![4, 128, 128]⟩ : Shape).Idx → EReal := fun y => x1 (ix4 0 (y 0) (y 1) (y 2))
def scs (j : Fin 512) : EReal := x2 (ix3 0 (bk j) (lo j))
def gns (j : Fin 512) : EReal := x3 (ix2 0 j)

/-- The rows padded with zeros. -/
def rows : (⟨2, ![4160, 512]⟩ : Shape).Idx → EReal := val_main_v0 (F := Ideal) x0

theorem rows_at (r : Fin 4160) (j : Fin 512) : rows x0 (ix2 r j) = if h : r.val < 4112 then x0 (ix2 ⟨r, h⟩ j) else 0 := by
  unfold rows
  pointwise [val_main_v0, val_main_call0_v0, val_main_c]
  rw [Rows.sitofp_zero]

/-- The features as an array. -/
def feats : (⟨2, ![4160, 512]⟩ : Shape).Idx → EReal := fun y => gap (rows x0) (y 0) (bk (y 1)) (lo (y 1))

theorem v1 (r : Fin 4160) (k : Fin 4) (i : Fin 128) : (val_main_v1 (F := Ideal) x0 (ix3 r k i) : EReal) = blocks (rows x0) (ix3 r k i) := by
  unfold val_main_v1
  show shapeCast S4160x4x128 (rows x0) _ (ix3 r k i) = _
  generalize rows x0 = v
  pointwise
  exact congrFun (blocks_eq v) (ix3 r k i)

theorem v2 (r : Fin 4160) (k : Fin 4) (i : Fin 128) : (val_main_v2 (F := Ideal) x0 (ix3 r k i) : EReal) = upto (rows x0) k i r := by
  have e : val_main_v1 (F := Ideal) x0 = blocks (rows x0) := funext fun y => by
    obtain ⟨r, k, i, rfl⟩ : ∃ (r : Fin 4160) (k : Fin 4) (i : Fin 128), y = ix3 r k i := ⟨y 0, y 1, y 2, by pointwise⟩
    exact v1 x0 r k i
  have hz : ∀ j, (val_main_call1_call0_v0 (F := Ideal) j : EReal) = 0 := fun j => by pointwise [val_main_call1_call0_v0, val_main_call1_call0_cst]
  unfold val_main_v2
  rw [e]
  unfold Host.reduceWindowAdd
  rw [show val_main_call1_call0_v0 (F := Ideal) (Shape.Idx.first _) = (0 : EReal) from hz _]
  exact windowSum_at (blocks (rows x0)) _ r k i

theorem v5 (r : Fin 4160) : (val_main_v5 (F := Ideal) (ix1 r) : EReal) = 1 + (FloatOps.sitofp FTy.f32 (BitVec.ofNat 32 r) : Ideal .f32) := by
  pointwise [val_main_v5, val_main_v4, val_main_v3, val_main_cst]

theorem v12 (r : Fin 4160) : (val_main_v12 (F := Ideal) (ix2 r 0) : EReal) = cnt r 0 := by
  pointwise [val_main_v12, val_main_v11, val_main_v10, val_main_cst_1]
  rw [v5]
  exact count_nat (r := r.val) r.isLt 0 _ width_2

theorem v18 (r : Fin 4160) (i : Fin 128) : (val_main_v18 (F := Ideal) x0 (ix2 r i) : EReal) = gap (rows x0) r 0 i := by
  pointwise [val_main_v18, val_main_v17, val_main_v16, val_main_v15, val_main_v14, val_main_v13, val_main_v9, val_main_v8, val_main_call2_v0, val_main_c_0, val_main_v6, val_main_v7]
  rw [Rows.sitofp_zero]
  exact gap_of (rows x0) r 0 i 2 rfl (v2 x0 r 0 i) (fun _ => v2 x0 ⟨r - 2, by omega⟩ 0 i) (v12 r) (v1 x0 r 0 i)

theorem v25 (r : Fin 4160) : (val_main_v25 (F := Ideal) (ix2 r 0) : EReal) = cnt r 1 := by
  pointwise [val_main_v25, val_main_v24, val_main_v23, val_main_cst_3]
  rw [v5]
  exact count_nat (r := r.val) r.isLt 1 _ width_4

theorem v31 (r : Fin 4160) (i : Fin 128) : (val_main_v31 (F := Ideal) x0 (ix2 r i) : EReal) = gap (rows x0) r 1 i := by
  pointwise [val_main_v31, val_main_v30, val_main_v29, val_main_v28, val_main_v27, val_main_v26, val_main_v22, val_main_v21, val_main_call3_v0, val_main_c_2, val_main_v19, val_main_v20]
  rw [Rows.sitofp_zero]
  exact gap_of (rows x0) r 1 i 4 rfl (v2 x0 r 1 i) (fun _ => v2 x0 ⟨r - 4, by omega⟩ 1 i) (v25 r) (v1 x0 r 1 i)

theorem v38 (r : Fin 4160) : (val_main_v38 (F := Ideal) (ix2 r 0) : EReal) = cnt r 2 := by
  pointwise [val_main_v38, val_main_v37, val_main_v36, val_main_cst_5]
  rw [v5]
  exact count_nat (r := r.val) r.isLt 2 _ width_8

theorem v44 (r : Fin 4160) (i : Fin 128) : (val_main_v44 (F := Ideal) x0 (ix2 r i) : EReal) = gap (rows x0) r 2 i := by
  pointwise [val_main_v44, val_main_v43, val_main_v42, val_main_v41, val_main_v40, val_main_v39, val_main_v35, val_main_v34, val_main_call4_v0, val_main_c_4, val_main_v32, val_main_v33]
  rw [Rows.sitofp_zero]
  exact gap_of (rows x0) r 2 i 8 rfl (v2 x0 r 2 i) (fun _ => v2 x0 ⟨r - 8, by omega⟩ 2 i) (v38 r) (v1 x0 r 2 i)

theorem v51 (r : Fin 4160) : (val_main_v51 (F := Ideal) (ix2 r 0) : EReal) = cnt r 3 := by
  pointwise [val_main_v51, val_main_v50, val_main_v49, val_main_cst_7]
  rw [v5]
  exact count_nat (r := r.val) r.isLt 3 _ width_16

theorem v57 (r : Fin 4160) (i : Fin 128) : (val_main_v57 (F := Ideal) x0 (ix2 r i) : EReal) = gap (rows x0) r 3 i := by
  pointwise [val_main_v57, val_main_v56, val_main_v55, val_main_v54, val_main_v53, val_main_v52, val_main_v48, val_main_v47, val_main_call5_v0, val_main_c_6, val_main_v45, val_main_v46]
  rw [Rows.sitofp_zero]
  exact gap_of (rows x0) r 3 i 16 rfl (v2 x0 r 3 i) (fun _ => v2 x0 ⟨r - 16, by omega⟩ 3 i) (v51 r) (v1 x0 r 3 i)

/-- The features. -/
theorem v62 (r : Fin 4160) (k : Fin 4) (i : Fin 128) : (val_main_v62 (F := Ideal) x0 (ix3 r k i) : EReal) = feats x0 (ix2 r (col k i)) := by
  have e : feats x0 (ix2 r (col k i)) = gap (rows x0) r k i := by
    show gap (rows x0) r (bk (col k i)) (lo (col k i)) = _
    rw [bk_col, lo_col]
  rw [e]
  pointwise [val_main_v62, val_main_v61, val_main_v60, val_main_v59, val_main_v58]
  exact by_stack k (fun k => gap (rows x0) r k i) (v18 x0 r i) (v31 x0 r i) (v44 x0 r i) (v57 x0 r i)

theorem v72 (r : Fin 4160) (j : Fin 512) : (val_main_v72 (F := Ideal) x0 (ix2 r j) : EReal) = feats x0 (ix2 r j) := by
  pointwise [val_main_v72, val_main_v71]
  exact (v62 x0 r (bk j) (lo j)).trans (congrArg (fun j => feats x0 (ix2 r j)) (col_bk_lo j))

/-- Their linear map, scaled. -/
theorem v65 (r : Fin 4160) (k : Fin 4) (j : Fin 128) : (val_main_v65 (F := Ideal) x0 x1 (ix3 r k j) : EReal) = lin (feats x0) (pws x1) r (col k j) := by
  pointwise [val_main_v65, val_main_v64, val_main_v63]
  unfold lin
  rw [bk_col, lo_col]
  exact Finset.sum_congr rfl fun i _ => by rw [v62, mul_comm]; rfl

theorem v69 (r : Fin 4160) (k : Fin 4) (j : Fin 128) :
    (val_main_v69 (F := Ideal) x0 x1 x2 (ix3 r k j) : EReal) = yp (feats x0) (pws x1) (scs x2) r (col k j) := by
  pointwise [val_main_v69, val_main_v68, val_main_v67, val_main_v66]
  rw [v65, yp, scs, bk_col, lo_col]

theorem v70 (r : Fin 4160) (j : Fin 512) :
    (val_main_v70 (F := Ideal) x0 x1 x2 (ix2 r j) : EReal) = yp (feats x0) (pws x1) (scs x2) r j := by
  pointwise [val_main_v70]
  exact (v69 x0 x1 x2 r (bk j) (lo j)).trans (congrArg _ (col_bk_lo j))

theorem v81 (r : Fin 4160) : (val_main_v81 (F := Ideal) x0 x1 x2 (ix2 r 0) : EReal) = rinv width (yp (feats x0) (pws x1) (scs x2) r) := by
  pointwise [val_main_v81, val_main_v80, val_main_v79, val_main_cst_10, val_main_v78, val_main_v77, val_main_cst_9, val_main_v76, val_main_v75, val_main_v74, val_main_cst_8, rinv, msq]
  simp only [v70]

/-- The normed rows. -/
theorem v87 (r : Fin 4160) (j : Fin 512) : (val_main_v87 (F := Ideal) x0 x1 x2 x3 (ix2 r j) : EReal)
    = yp (feats x0) (pws x1) (scs x2) r j * rinv width (yp (feats x0) (pws x1) (scs x2) r) * gns x3 j := by
  pointwise [val_main_v87, val_main_v86, val_main_v85, val_main_v84, val_main_v73, val_main_v83, val_main_v82]
  rw [v70, v81]
  rfl

end Cert.PoolFwdRefIdeal.At

end
-- ==== Proof.PoolFwd.lean ====
/-
  The pooling mixer's forward call against its forward lines: with finite rows, the features and the normed rows are the
  same arrays.
-/
module

public import proofs.«01_k».proof.Defs
public import proofs.«01_k».proof.Proof.PoolFwdHost
public import proofs.«01_k».proof.Proof.PoolFwdRef
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.Pre_finite_pool_fwd

@[expose] public section

noncomputable section

namespace Cert.PoolFwdEqual

open Idealize.ShloMosaic Idealize.ShloMosaic.TcCoe Idealize.SL.Sem
open Cert.PoolFwdIdeal Cert.PoolFwdIdeal.Gen Cert.PoolFwdIdeal.Arrays Cert.PoolFwdIdeal.Host Cert.PoolFwdIdeal.Point Cert.PoolFwdRefIdeal.At
open Cert.Rows Cert.PoolRows Cert.PoolFwdRows

variable (m : (ℓ : Loc nD τ sig) → Buf (Elt Ideal) ℓ) (c : Dev nD)

/-- Both sides work on the same padded rows. -/
theorem rows_eq : (aX m c : (⟨2, ![4160, 512]⟩ : Shape).Idx → EReal) = rows (x0 m c) := by
  funext y
  obtain ⟨r, j, rfl⟩ : ∃ p k, y = ix2 p k := ⟨y 0, y 1, by pointwise⟩
  exact (aX_at m c r j).trans (rows_at (x0 m c) r j).symm

section Finite

variable (f0 : ∀ i, Real' (x0 m c i))
include f0

theorem rows_real (y : (⟨2, ![4160, 512]⟩ : Shape).Idx) : Real' (rows (x0 m c) y) := by
  obtain ⟨r, j, rfl⟩ : ∃ p k, y = ix2 p k := ⟨y 0, y 1, by pointwise⟩
  rw [rows_at]
  split
  · exact f0 _
  · exact Real'.zero

theorem feats_eq (r : Fin 4160) (j : Fin 512) : mean (aX m c) (ix2 r j) = feats (x0 m c) (ix2 r j) := by
  rw [rows_eq]
  refine (Eq.trans (gap_eq (rows (x0 m c)) (rows_real m c f0) r (bk j) (lo j)) ?_).symm
  rw [col_bk_lo]

/-- The features. -/
theorem pool_eq : ((dats m 0 c).arrAt 3 cfg0.N : FVec Ideal S4160x512 .bf16) = Cert.PoolFwdRefIdeal.Read.val_main_v72 (x0 m c) := by
  funext y
  obtain ⟨r, j, rfl⟩ : ∃ p k, y = ix2 p k := ⟨y 0, y 1, by pointwise⟩
  exact (final3 m c r j).trans (Eq.trans (α := EReal) (feats_eq m c f0 r j) (v72 _ r j).symm)

/-- The normed rows. -/
theorem norm_eq : ((dats m 0 c).arrAt 4 cfg0.N : FVec Ideal S4160x512 .bf16)
      = Cert.PoolFwdRefIdeal.Read.val_main_v87 (x0 m c) (x1 m c) (x2 m c) (x3 m c) := by
  funext y
  obtain ⟨r, j, rfl⟩ : ∃ p k, y = ix2 p k := ⟨y 0, y 1, by pointwise⟩
  refine (final4 m c r j).trans (Eq.trans (α := EReal) ?_ (v87 _ _ _ _ r j).symm)
  have e : yp (mean (aX m c)) (aW m c) (sc (aV m c)) r = yp (feats (x0 m c)) (pws (x1 m c)) (scs (x2 m c)) r :=
    yp_congr (feats_eq m c f0 r) (aW_at m c) (aV_at0 m c)
  unfold normed
  rw [e]
  exact congrArg (_ * ·) (aV_at1 m c j)

end Finite

/-- The precondition, as real numbers. -/
theorem real_of_pre {m : (ℓ : Loc nD τ sig) → Buf (Elt Ideal) ℓ} (hp : Cert.Pre_PoolFwdIdeal_finite_pool_fwd m) (c : Dev nD) (i : S4112x512.Idx) :
    Real' (x0 m c i) := by
  have := congrFun (hp c) i
  pointwise [Cert.Pre_finite_pool_fwd.fn] at this
  exact real_of_cmp this

/-- The claim. -/
theorem algebraic : Cert.algebraic_PoolFwdIdeal_PoolFwdRefIdeal_pre_finite_pool_fwd := by
  intro m g m' g' hp ha
  refine ⟨fun c => (dats m 0 c).arrAt 3 cfg0.N, fun c => (dats m 0 c).arrAt 4 cfg0.N,
    Cert.PoolFwdIdeal.Value.run_blocks m g, (θ_run Cert.PoolFwdRefIdeal.defs _ _).mono ?_ (Cert.PoolFwdRefIdeal.Value.run m' g')⟩
  intro r h c
  obtain ⟨h3, h4, hk⟩ := h c
  obtain ⟨a0, a1, a2, a3⟩ := ha c
  have f0 := real_of_pre hp c
  change m' ((c : Thread nD τ).loc Cert.PoolFwdRefIdeal.main_arg0) = x0 m c at a0
  change m' ((c : Thread nD τ).loc Cert.PoolFwdRefIdeal.main_arg1) = x1 m c at a1
  change m' ((c : Thread nD τ).loc Cert.PoolFwdRefIdeal.main_arg2) = x2 m c at a2
  change m' ((c : Thread nD τ).loc Cert.PoolFwdRefIdeal.main_arg3) = x3 m c at a3
  refine ⟨h3.trans ?_, h4.trans ?_, hk⟩
  · refine (Cert.PoolFwdRefIdeal.Read.val_main_v72_eq _ _).trans ?_
    rw [a0]
    exact (pool_eq m c f0).symm
  · refine (Cert.PoolFwdRefIdeal.Read.val_main_v87_eq _ _).trans ?_
    rw [a0, a1, a2, a3]
    exact (norm_eq m c f0).symm

end Cert.PoolFwdEqual

end
-- ==== Proof.FfnRows.lean ====
/-
  The mathematics of the gated feed-forward block's gradient, for any number of rows and away from any program: the
  gate's derivative at one element, the four quarters of the inner width, and the gradient through the norm before it.
-/
module

public import proofs.«01_k».proof.Proof.Rows
public import Idealize.ShloMosaic.Lib.Pointwise

@[expose] public section

noncomputable section

namespace Cert.FfnRows

open Idealize.ShloMosaic Cert.Rows

/-- The divisor of the mean over the model width, as the programs spell it. -/
abbrev width : EReal := Ideal.ofBits .f32 0x44800000#32

/-- One half, as the programs spell it. -/
abbrev hf : EReal := Ideal.ofBits .f32 0x3F000000#32

theorem hf_eq : hf = ((1 / 2 : ℝ) : EReal) := by
  simp [Ideal.ofBits, Ideal.ieee, -EReal.coe_mul]; norm_num

/-- The logistic function as the kernels compute it. -/
def sigm (x : EReal) : EReal := hf * Ideal.tanh (hf * x) + hf

/-- The gate's gradient at one element: to the gate's argument `a`, and to the other factor. -/
def fda (d a b : EReal) : EReal := d * b * (sigm a + a * sigm a * (1 - sigm a))
def fdb (d a : EReal) : EReal := d * (a * sigm a)

/-- The inner column of a quarter's column. -/
def col (q : Fin 4) (j : Fin 704) : Fin 2816 := ⟨q.val * 704 + j.val, by omega⟩

/-- A row of a gate product: the normalised row, weighted, against a column of the weights. -/
def pre {n : ℕ} (x : (⟨2, ![n, 1024]⟩ : Shape).Idx → EReal) (g : (⟨2, ![1, 1024]⟩ : Shape).Idx → EReal)
    (w : (⟨3, ![1, 1024, 2816]⟩ : Shape).Idx → EReal) (p : Fin n) (i : Fin 2816) : EReal :=
  ∑ k : Fin 1024, x (ix2 p k) * rinv width (fun k => x (ix2 p k)) * g (ix2 0 k) * w (ix3 0 k i)

section

variable {n : ℕ} (dy : (⟨2, ![n, 1024]⟩ : Shape).Idx → EReal) (a b : (⟨3, ![4, n, 704]⟩ : Shape).Idx → EReal)
  (wg wu wd : (⟨3, ![4, 704, 1024]⟩ : Shape).Idx → EReal) (h : (⟨2, ![n, 1024]⟩ : Shape).Idx → EReal) (g : Fin 1024 → EReal)

/-- The gradient at the gated product, and through the gate to its two arguments; quarter `q`, row `p`. -/
def dff (q : Fin 4) (p : Fin n) (j : Fin 704) : EReal := ∑ k : Fin 1024, dy (ix2 p k) * wd (ix3 q j k)
def da (q : Fin 4) (p : Fin n) (j : Fin 704) : EReal := fda (dff dy wd q p j) (a (ix3 q p j)) (b (ix3 q p j))
def db (q : Fin 4) (p : Fin n) (j : Fin 704) : EReal := fdb (dff dy wd q p j) (a (ix3 q p j))

/-- What a quarter adds to the cotangent of the normalised rows, and that cotangent. -/
def part (q : Fin 4) (p : Fin n) (k : Fin 1024) : EReal :=
  (∑ j : Fin 704, da dy a b wd q p j * wg (ix3 q j k)) + ∑ j : Fin 704, db dy a wd q p j * wu (ix3 q j k)
def dn (p : Fin n) (k : Fin 1024) : EReal :=
  part dy a b wg wu wd 0 p k + part dy a b wg wu wd 1 p k + part dy a b wg wu wd 2 p k + part dy a b wg wu wd 3 p k

/-- A row, the gradient at it, and what it adds to the norm weight's gradient. -/
def row (p : Fin n) : Fin 1024 → EReal := fun k => h (ix2 p k)
def dh (p : Fin n) (k : Fin 1024) : EReal := grad width (row h p) (fun k => dn dy a b wg wu wd p k * g k) k
def termG (k : Fin 1024) (p : Fin n) : EReal := dn dy a b wg wu wd p k * (h (ix2 p k) * rinv width (row h p))

end

/-! Equal rows, equal values. -/

section Congr

variable {n n' : ℕ} {dy h : (⟨2, ![n, 1024]⟩ : Shape).Idx → EReal} {dy' h' : (⟨2, ![n', 1024]⟩ : Shape).Idx → EReal}
  {a b : (⟨3, ![4, n, 704]⟩ : Shape).Idx → EReal} {a' b' : (⟨3, ![4, n', 704]⟩ : Shape).Idx → EReal}
  {wg wu wd wg' wu' wd' : (⟨3, ![4, 704, 1024]⟩ : Shape).Idx → EReal} {g g' : Fin 1024 → EReal} {p : Fin n} {p' : Fin n'}

theorem dff_congr (hy : ∀ k, dy (ix2 p k) = dy' (ix2 p' k)) (hd : ∀ q j k, wd (ix3 q j k) = wd' (ix3 q j k)) (q : Fin 4) (j : Fin 704) :
    dff dy wd q p j = dff dy' wd' q p' j := Finset.sum_congr rfl fun k _ => congrArg₂ (· * ·) (hy k) (hd q j k)

theorem da_congr (hy : ∀ k, dy (ix2 p k) = dy' (ix2 p' k)) (hd : ∀ q j k, wd (ix3 q j k) = wd' (ix3 q j k))
    (ha : ∀ q j, a (ix3 q p j) = a' (ix3 q p' j)) (hb : ∀ q j, b (ix3 q p j) = b' (ix3 q p' j)) (q : Fin 4) (j : Fin 704) :
    da dy a b wd q p j = da dy' a' b' wd' q p' j := by
  unfold da
  rw [dff_congr hy hd, ha, hb]

theorem db_congr (hy : ∀ k, dy (ix2 p k) = dy' (ix2 p' k)) (hd : ∀ q j k, wd (ix3 q j k) = wd' (ix3 q j k))
    (ha : ∀ q j, a (ix3 q p j) = a' (ix3 q p' j)) (q : Fin 4) (j : Fin 704) :
    db dy a wd q p j = db dy' a' wd' q p' j := by
  unfold db
  rw [dff_congr hy hd, ha]

theorem dn_congr (hy : ∀ k, dy (ix2 p k) = dy' (ix2 p' k)) (hg : ∀ q j k, wg (ix3 q j k) = wg' (ix3 q j k))
    (hu : ∀ q j k, wu (ix3 q j k) = wu' (ix3 q j k)) (hd : ∀ q j k, wd (ix3 q j k) = wd' (ix3 q j k))
    (ha : ∀ q j, a (ix3 q p j) = a' (ix3 q p' j)) (hb : ∀ q j, b (ix3 q p j) = b' (ix3 q p' j)) (k : Fin 1024) :
    dn dy a b wg wu wd p k = dn dy' a' b' wg' wu' wd' p' k := by
  have e : ∀ q, part dy a b wg wu wd q p k = part dy' a' b' wg' wu' wd' q p' k := fun q =>
    congrArg₂ (· + ·) (Finset.sum_congr rfl fun j _ => congrArg₂ (· * ·) (da_congr hy hd ha hb q j) (hg q j k))
      (Finset.sum_congr rfl fun j _ => congrArg₂ (· * ·) (db_congr hy hd ha q j) (hu q j k))
  unfold dn
  rw [e, e, e, e]

theorem dh_congr (hy : ∀ k, dy (ix2 p k) = dy' (ix2 p' k)) (hg : ∀ q j k, wg (ix3 q j k) = wg' (ix3 q j k))
    (hu : ∀ q j k, wu (ix3 q j k) = wu' (ix3 q j k)) (hd : ∀ q j k, wd (ix3 q j k) = wd' (ix3 q j k))
    (ha : ∀ q j, a (ix3 q p j) = a' (ix3 q p' j)) (hb : ∀ q j, b (ix3 q p j) = b' (ix3 q p' j))
    (hh : ∀ k, h (ix2 p k) = h' (ix2 p' k)) (hgg : ∀ k, g k = g' k) (k : Fin 1024) :
    dh dy a b wg wu wd h g p k = dh dy' a' b' wg' wu' wd' h' g' p' k :=
  congrArg₂ (fun x y => grad width x y k) (funext hh)
    (funext fun k => congrArg₂ (· * ·) (dn_congr hy hg hu hd ha hb k) (hgg k))

theorem termG_congr (hy : ∀ k, dy (ix2 p k) = dy' (ix2 p' k)) (hg : ∀ q j k, wg (ix3 q j k) = wg' (ix3 q j k))
    (hu : ∀ q j k, wu (ix3 q j k) = wu' (ix3 q j k)) (hd : ∀ q j k, wd (ix3 q j k) = wd' (ix3 q j k))
    (ha : ∀ q j, a (ix3 q p j) = a' (ix3 q p' j)) (hb : ∀ q j, b (ix3 q p j) = b' (ix3 q p' j))
    (hh : ∀ k, h (ix2 p k) = h' (ix2 p' k)) (k : Fin 1024) :
    termG dy a b wg wu wd h k p = termG dy' a' b' wg' wu' wd' h' k p' :=
  congrArg₂ (· * ·) (dn_congr hy hg hu hd ha hb k) (congrArg₂ (· * ·) (hh k) (congrArg (rinv width) (funext hh)))

end Congr

end Cert.FfnRows

end
-- ==== Proof.FfnBwdPay.lean ====
module

public import proofs.«01_k».proof.Proof.Gen.FfnBwdIdeal.Value
public import proofs.«01_k».proof.Proof.FfnRows
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.FfnBwdIdeal.Point

open Idealize.ShloMosaic Idealize.ShloMosaic.TcCoe Idealize.SL.Sem
open Cert.FfnBwdIdeal Cert.FfnBwdIdeal.Gen Cert.Rows Cert.Pieces Cert.FfnRows

variable (x0 : Vec Ideal S320x1024 .f32) (x1 : Vec Ideal S320x1024 .bf16)
  (x4 : Vec Ideal S320x1024 .f32) (x5 : Vec Ideal S1x1024 .f32) (xo9 : Vec Ideal S1x1024 .f32)

/-! What one quarter's words hold, on the quarter's own blocks. -/

/-- The gradient at the gated product and at its two factors, on a quarter's blocks. -/
def dq (W : Vec Ideal S1x704x1024 .bf16) (p : Fin 320) (j : Fin 704) : EReal := ∑ k : Fin 1024, x1 (ix2 p k) * W (ix3 0 j k)
def daq (W : Vec Ideal S1x704x1024 .bf16) (A B : Vec Ideal S1x320x704 .bf16) (p : Fin 320) (j : Fin 704) : EReal :=
  fda (dq x1 W p j) (A (ix3 0 p j)) (B (ix3 0 p j))
def dbq (W : Vec Ideal S1x704x1024 .bf16) (A : Vec Ideal S1x320x704 .bf16) (p : Fin 320) (j : Fin 704) : EReal :=
  fdb (dq x1 W p j) (A (ix3 0 p j))
def partq (W : Vec Ideal S1x704x1024 .bf16) (A B : Vec Ideal S1x320x704 .bf16) (G U : Vec Ideal S1x704x1024 .bf16) (p : Fin 320) (k : Fin 1024) : EReal :=
  (∑ j : Fin 704, daq x1 W A B p j * G (ix3 0 j k)) + ∑ j : Fin 704, dbq x1 W A p j * U (ix3 0 j k)

variable (W : Vec Ideal S1x704x1024 .bf16) (A B : Vec Ideal S1x320x704 .bf16) (G U : Vec Ideal S1x704x1024 .bf16) (acc : Vec Ideal S320x1024 .f32)

theorem pay8_at (p : Fin 320) (j : Fin 704) : k0_pay8 x1 W A B (ix2 p j) = daq x1 W A B p j := by
  pointwise [k0_pay8, k0_pay4, k0_pay3, k0_pay5, k0_pay6, k0_pay7]
  rfl
theorem pay9_at (p : Fin 320) (j : Fin 704) : k0_pay9 x1 W A (ix2 p j) = dbq x1 W A p j := by
  pointwise [k0_pay9, k0_pay4, k0_pay3, k0_pay5, k0_pay6, k0_pay7]
  rfl
theorem pay12_at (p : Fin 320) (k : Fin 1024) :
    k0_pay12 (k0_pay8 x1 W A B) (k0_pay9 x1 W A) G U (ix2 p k) = partq x1 W A B G U p k := by
  pointwise [k0_pay12]
  simp only [pay8_at, pay9_at]
  rfl
theorem pay19_at (p : Fin 320) (j : Fin 704) :
    k0_pay19 (k0_pay15 A) (k0_pay16 A) (k0_pay17 (k0_pay3 x1) W B) (k0_pay18 A) (ix2 p j) = daq x1 W A B p j := by
  pointwise [k0_pay19, k0_pay15, k0_pay16, k0_pay17, k0_pay18, k0_pay13, k0_pay14, k0_pay3]
  rfl
theorem pay20_at (p : Fin 320) (j : Fin 704) :
    k0_pay20 (k0_pay13 (k0_pay3 x1) W) (k0_pay16 A) (ix2 p j) = dbq x1 W A p j := by
  pointwise [k0_pay20, k0_pay15, k0_pay16, k0_pay17, k0_pay18, k0_pay13, k0_pay14, k0_pay3]
  rfl
theorem pay23_at (p : Fin 320) (k : Fin 1024) :
    k0_pay23 (k0_pay13 (k0_pay3 x1) W) (k0_pay15 A) (k0_pay16 A) (k0_pay17 (k0_pay3 x1) W B) (k0_pay18 A) G U acc (ix2 p k)
      = acc (ix2 p k) + partq x1 W A B G U p k := by
  pointwise [k0_pay23]
  simp only [pay19_at, pay20_at]
  rfl
theorem pay28_at (p : Fin 320) (j : Fin 704) :
    k0_pay28 (k0_pay24 (k0_pay3 x1) W) (k0_pay25 A) B (ix2 p j) = daq x1 W A B p j := by
  pointwise [k0_pay28, k0_pay24, k0_pay25, k0_pay26, k0_pay27, k0_pay3]
  rfl
theorem pay29_at (p : Fin 320) (j : Fin 704) :
    k0_pay29 (k0_pay24 (k0_pay3 x1) W) (k0_pay25 A) (ix2 p j) = dbq x1 W A p j := by
  pointwise [k0_pay29, k0_pay24, k0_pay25, k0_pay26, k0_pay27, k0_pay3]
  rfl
theorem pay33_at (p : Fin 320) (k : Fin 1024) :
    k0_pay33 (k0_pay32 (k0_pay24 (k0_pay3 x1) W) (k0_pay25 A) B G U acc) (ix2 p k) = acc (ix2 p k) + partq x1 W A B G U p k := by
  pointwise [k0_pay33, k0_pay32]
  simp only [pay28_at, pay29_at]
  rfl
theorem pay38_at (p : Fin 320) (j : Fin 704) : k0_pay38 (k0_pay3 x1) W A B (ix2 p j) = daq x1 W A B p j := by
  pointwise [k0_pay38, k0_pay34, k0_pay35, k0_pay36, k0_pay37, k0_pay3]
  rfl
theorem pay39_at (p : Fin 320) (j : Fin 704) : k0_pay39 (k0_pay3 x1) W A (ix2 p j) = dbq x1 W A p j := by
  pointwise [k0_pay39, k0_pay34, k0_pay35, k0_pay36, k0_pay37, k0_pay3]
  rfl
theorem pay42_at (p : Fin 320) (k : Fin 1024) :
    k0_pay42 (k0_pay38 (k0_pay3 x1) W A B) (k0_pay39 (k0_pay3 x1) W A) G U acc (ix2 p k) = acc (ix2 p k) + partq x1 W A B G U p k := by
  pointwise [k0_pay42]
  simp only [pay38_at, pay39_at]
  rfl

/-- The gradient through the norm, and what a point adds to the norm weight's, from the cotangent of the normalised rows. -/
theorem pay1_at (p : Fin 320) (k : Fin 1024) :
    k0_pay1 (k0_pay44 x4) (k0_pay45 x4) acc (k0_pay47 x0) x5 (ix2 p k)
      = x0 (ix2 p k) + grad width (row x4 p) (fun k => acc (ix2 p k) * x5 (ix2 0 k)) k := by
  pointwise [k0_pay1, k0_pay43, k0_pay44, k0_pay45, k0_pay47]
  rfl
theorem pay46_at (k : Fin 1024) :
    k0_pay46 x4 acc xo9 (ix2 0 k) = xo9 (ix2 0 k) + ∑ p, acc (ix2 p k) * (x4 (ix2 p k) * rinv width (row x4 p)) := by
  pointwise [k0_pay46, k0_pay43, k0_pay44, k0_pay45]
  rfl

/-! The stored quarters. -/

theorem pay10_at (p : Fin 320) (j : Fin 704) : k0_pay10 x1 W A B (ix3 0 p j) = daq x1 W A B p j := by
  pointwise [k0_pay10]; exact pay8_at x1 W A B p j
theorem pay11_at (p : Fin 320) (j : Fin 704) : k0_pay11 (k0_pay9 x1 W A) (ix3 0 p j) = dbq x1 W A p j := by
  pointwise [k0_pay11]; exact pay9_at x1 W A p j
theorem pay21_at (p : Fin 320) (j : Fin 704) :
    k0_pay21 (k0_pay15 A) (k0_pay16 A) (k0_pay17 (k0_pay3 x1) W B) (k0_pay18 A) (ix3 0 p j) = daq x1 W A B p j := by
  pointwise [k0_pay21]; exact pay19_at x1 W A B p j
theorem pay22_at (p : Fin 320) (j : Fin 704) : k0_pay22 (k0_pay13 (k0_pay3 x1) W) (k0_pay16 A) (ix3 0 p j) = dbq x1 W A p j := by
  pointwise [k0_pay22]; exact pay20_at x1 W A p j
theorem pay30_at (p : Fin 320) (j : Fin 704) :
    k0_pay30 (k0_pay24 (k0_pay3 x1) W) (k0_pay25 A) B (ix3 0 p j) = daq x1 W A B p j := by
  pointwise [k0_pay30]; exact pay28_at x1 W A B p j
theorem pay31_at (p : Fin 320) (j : Fin 704) : k0_pay31 (k0_pay24 (k0_pay3 x1) W) (k0_pay25 A) (ix3 0 p j) = dbq x1 W A p j := by
  pointwise [k0_pay31]; exact pay29_at x1 W A p j
theorem pay40_at (p : Fin 320) (j : Fin 704) : k0_pay40 (k0_pay3 x1) W A B (ix3 0 p j) = daq x1 W A B p j := by
  pointwise [k0_pay40]; exact pay38_at x1 W A B p j
theorem pay41_at (p : Fin 320) (j : Fin 704) : k0_pay41 (k0_pay3 x1) W A (ix3 0 p j) = dbq x1 W A p j := by
  pointwise [k0_pay41]; exact pay39_at x1 W A p j

/-! The quarters of the point's blocks. -/

abbrev lw (Z : Vec Ideal S4x704x1024 .bf16) : Fin 4 → Vec Ideal S1x704x1024 .bf16 := ![
  View.ld (Val := Elt Ideal) (e' := .bf16) Z (Rect.unit ![0, 0, 0] ![1, 704, 1024] inb_S4x704x1024_S1x704x1024_0_0_0),
  View.ld (Val := Elt Ideal) (e' := .bf16) Z (Rect.unit ![1, 0, 0] ![1, 704, 1024] inb_S4x704x1024_S1x704x1024_1_0_0),
  View.ld (Val := Elt Ideal) (e' := .bf16) Z (Rect.unit ![2, 0, 0] ![1, 704, 1024] inb_S4x704x1024_S1x704x1024_2_0_0),
  View.ld (Val := Elt Ideal) (e' := .bf16) Z (Rect.unit ![3, 0, 0] ![1, 704, 1024] inb_S4x704x1024_S1x704x1024_3_0_0)]
abbrev lr (Z : Vec Ideal S4x320x704 .bf16) : Fin 4 → Vec Ideal S1x320x704 .bf16 := ![
  View.ld (Val := Elt Ideal) (e' := .bf16) Z (Rect.unit ![0, 0, 0] ![1, 320, 704] inb_S4x320x704_S1x320x704_0_0_0),
  View.ld (Val := Elt Ideal) (e' := .bf16) Z (Rect.unit ![1, 0, 0] ![1, 320, 704] inb_S4x320x704_S1x320x704_1_0_0),
  View.ld (Val := Elt Ideal) (e' := .bf16) Z (Rect.unit ![2, 0, 0] ![1, 320, 704] inb_S4x320x704_S1x320x704_2_0_0),
  View.ld (Val := Elt Ideal) (e' := .bf16) Z (Rect.unit ![3, 0, 0] ![1, 320, 704] inb_S4x320x704_S1x320x704_3_0_0)]

theorem lw_at (Z : Vec Ideal S4x704x1024 .bf16) (q : Fin 4) (j : Fin 704) (k : Fin 1024) : lw Z q (ix3 0 j k) = Z (ix3 q j k) := by
  fin_cases q <;> (dsimp [lw]; pointwise)
theorem lr_at (Z : Vec Ideal S4x320x704 .bf16) (q : Fin 4) (p : Fin 320) (j : Fin 704) : lr Z q (ix3 0 p j) = Z (ix3 q p j) := by
  fin_cases q <;> (dsimp [lr]; pointwise)

variable (x2 x3 : Vec Ideal S4x320x704 .bf16) (xs0 xs1 xs2 : Vec Ideal S4x704x1024 .bf16)

theorem daq_at (q : Fin 4) (p : Fin 320) (j : Fin 704) : daq x1 (lw xs2 q) (lr x2 q) (lr x3 q) p j = da x1 x2 x3 xs2 q p j := by
  unfold daq dq da dff
  simp only [lw_at, lr_at]
theorem dbq_at (q : Fin 4) (p : Fin 320) (j : Fin 704) : dbq x1 (lw xs2 q) (lr x2 q) p j = db x1 x2 xs2 q p j := by
  unfold dbq dq db dff
  simp only [lw_at, lr_at]
theorem partq_at (q : Fin 4) (p : Fin 320) (k : Fin 1024) :
    partq x1 (lw xs2 q) (lr x2 q) (lr x3 q) (lw xs0 q) (lw xs1 q) p k = part x1 x2 x3 xs0 xs1 xs2 q p k := by
  unfold partq part
  simp only [daq_at, dbq_at, lw_at]

/-- The four quarters added up, as the accumulator holds them. -/
abbrev acc4 : Vec Ideal S320x1024 .f32 :=
  k0_pay42 (k0_pay38 (k0_pay3 x1) (lw xs2 3) (lr x2 3) (lr x3 3)) (k0_pay39 (k0_pay3 x1) (lw xs2 3) (lr x2 3)) (lw xs0 3) (lw xs1 3)
    (k0_pay33 (k0_pay32 (k0_pay24 (k0_pay3 x1) (lw xs2 2)) (k0_pay25 (lr x2 2)) (lr x3 2) (lw xs0 2) (lw xs1 2)
      (k0_pay23 (k0_pay13 (k0_pay3 x1) (lw xs2 1)) (k0_pay15 (lr x2 1)) (k0_pay16 (lr x2 1)) (k0_pay17 (k0_pay3 x1) (lw xs2 1) (lr x3 1)) (k0_pay18 (lr x2 1))
        (lw xs0 1) (lw xs1 1)
        (k0_pay12 (k0_pay8 x1 (lw xs2 0) (lr x2 0) (lr x3 0)) (k0_pay9 x1 (lw xs2 0) (lr x2 0)) (lw xs0 0) (lw xs1 0)))))

theorem acc4_at (p : Fin 320) (k : Fin 1024) : acc4 x1 x2 x3 xs0 xs1 xs2 (ix2 p k) = dn x1 x2 x3 xs0 xs1 xs2 p k := by
  unfold dn
  simp only [← partq_at]
  exact (pay42_at ..).trans (congrArg (· + _) ((pay33_at ..).trans (congrArg (· + _) ((pay23_at ..).trans (congrArg (· + _) (pay12_at ..))))))

end Cert.FfnBwdIdeal.Point

end
-- ==== Proof.FfnBwdPoint.lean ====
module

public import proofs.«01_k».proof.Proof.Gen.FfnBwdIdeal.Value
public import proofs.«01_k».proof.Proof.FfnBwdPay
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.FfnBwdIdeal.Point

open Idealize.ShloMosaic Idealize.ShloMosaic.TcCoe Idealize.SL.Sem
open Cert.FfnBwdIdeal Cert.FfnBwdIdeal.Gen Cert.Rows Cert.Pieces Cert.FfnRows

variable (x0 : Vec Ideal S320x1024 .f32) (x1 : Vec Ideal S320x1024 .bf16) (x2 x3 : Vec Ideal S4x320x704 .bf16)
  (x4 : Vec Ideal S320x1024 .f32) (x5 : Vec Ideal S1x1024 .f32) (xo9 : Vec Ideal S1x1024 .f32) (xs0 xs1 xs2 : Vec Ideal S4x704x1024 .bf16)

section Outs

variable (c : Dev nD) (i : grid0.Coords) (a1 : Memref sig .tc .vmem S320x1024 .f32) (h1 : a1.IsWhole) (a2 : Memref sig .tc .vmem S320x1024 .bf16) (h2 : a2.IsWhole)
  (a3 : Memref sig .tc .vmem S4x320x704 .bf16) (h3 : a3.IsWhole) (a4 : Memref sig .tc .vmem S4x320x704 .bf16) (h4 : a4.IsWhole) (a5 : Memref sig .tc .vmem S320x1024 .f32) (h5 : a5.IsWhole)
  (a6 : Memref sig .tc .vmem S1x1024 .f32) (h6 : a6.IsWhole) (a7 : Memref sig .tc .vmem S4x320x704 .bf16) (h7 : a7.IsWhole) (a8 : Memref sig .tc .vmem S4x320x704 .bf16) (h8 : a8.IsWhole)
  (a9 : Memref sig .tc .vmem S320x1024 .f32) (h9 : a9.IsWhole) (a10 : Memref sig .tc .vmem S1x1024 .f32) (h10 : a10.IsWhole)
  (s0 : Memref sig .tc .vmem S4x704x1024 .bf16) (hs0 : s0.IsWhole) (s1 : Memref sig .tc .vmem S4x704x1024 .bf16) (hs1 : s1.IsWhole) (s2 : Memref sig .tc .vmem S4x704x1024 .bf16) (hs2 : s2.IsWhole)
  (s3 : Memref sig .tc .vmem S320x1024 .f32) (hs3 : s3.IsWhole)
  (w0 : HbBuf0 (F := Ideal) c hbM0_0) (w1 : HbBuf0 (F := Ideal) c hbM0_1) (w2 : HbBuf0 (F := Ideal) c hbM0_2)

theorem acc_load (v : View sig .tc .vmem S320x1024 .f32) (inb) (Z : Vec Ideal S320x1024 .f32) (L : List (View.Piece (Elt Ideal) S320x1024 .f32)) :
    v.readCov (Val := Elt Ideal) (⟨Rect.unit ![0, 0] ![320, 1024] inb, Z⟩ :: L) (Rect.unit ![0, 0] ![320, 1024] inb).toLoadRect = Z := by
  rw [View.readCov_eq_canon', View.canon_cons_unit_zero (S := S320x1024) hz]
  exact View.ld_unit_zero (S := S320x1024) hz inb Z

/-- A load of a scratch filled whole by a transfer. -/
theorem filled (v : View sig .tc .vmem S4x704x1024 .bf16) (Z : Vec Ideal S4x704x1024 .bf16) (r : Rect S4x704x1024) :
    v.readCov (Val := Elt Ideal) [⟨Rect.whole S4x704x1024, Z⟩] r.toLoadRect = View.ld (Val := Elt Ideal) (e' := .bf16) Z r := by
  rw [View.readCov_eq_canon']
  exact congrArg (fun f : Vec Ideal S4x704x1024 .bf16 => fun j => f (r.idx j)) (View.canon_unit_zero (S := S4x704x1024) rfl _ Z)

theorem hz3 : (![0, 0, 0] : Fin 3 → Nat) = fun _ => 0 := funext fun a => by fin_cases a <;> rfl

/-- Four stacked quarters, read at an entry. -/
theorem canon_quarters (p0 p1 p2 p3 : Vec Ideal S1x320x704 .bf16) (G : Fin 4 → Fin 320 → Fin 704 → EReal)
    (e0 : ∀ a b, p0 (ix3 0 a b) = G 0 a b) (e1 : ∀ a b, p1 (ix3 0 a b) = G 1 a b) (e2 : ∀ a b, p2 (ix3 0 a b) = G 2 a b)
    (e3 : ∀ a b, p3 (ix3 0 a b) = G 3 a b) (q : Fin 4) (a : Fin 320) (b : Fin 704) :
    View.canon (Val := Elt Ideal) [⟨Rect.unit ![3, 0, 0] ![1, 320, 704] inb_S4x320x704_S1x320x704_3_0_0, p3⟩,
      ⟨Rect.unit ![2, 0, 0] ![1, 320, 704] inb_S4x320x704_S1x320x704_2_0_0, p2⟩,
      ⟨Rect.unit ![1, 0, 0] ![1, 320, 704] inb_S4x320x704_S1x320x704_1_0_0, p1⟩,
      ⟨Rect.unit ![0, 0, 0] ![1, 320, 704] inb_S4x320x704_S1x320x704_0_0_0, p0⟩] (ix3 q a b) = G q a b := by
  fin_cases q
  · rw [canon_miss3 _ _ _ _ _ _ (by decide), canon_miss3 _ _ _ _ _ _ (by decide), canon_miss3 _ _ _ _ _ _ (by decide), canon_hit3 _ _ _ _ _ _ (by decide)]; exact e0 a b
  · rw [canon_miss3 _ _ _ _ _ _ (by decide), canon_miss3 _ _ _ _ _ _ (by decide), canon_hit3 _ _ _ _ _ _ (by decide)]; exact e1 a b
  · rw [canon_miss3 _ _ _ _ _ _ (by decide), canon_hit3 _ _ _ _ _ _ (by decide)]; exact e2 a b
  · rw [canon_hit3 _ _ _ _ _ _ (by decide)]; exact e3 a b

theorem out_B_6 (hc : ¬cond0_0 i) (q : Fin 4) (p : Fin 320) (j : Fin 704) :
    out0_B_6 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 (ix3 q p j)
      = da x1 x2 x3 xs2 q p j := by
  unfold out0_B_6
  rw [View.read_writes_junk_eq_canon]
  unfold kernelRun0_B
  dsimp only
  sl_unfold_words
  simp only [View.readAt_eq_ld, h1.read_unread, h2.read_unread, h3.read_unread, h4.read_unread, h5.read_unread, h6.read_unread, h10.read_unread,
    hs0.read_unread, hs1.read_unread, hs2.read_unread,
    View.ld_unit_zero (S := S320x1024) hz, View.ld_unit_zero (S := S1x1024) hz, acc_load]
  refine canon_quarters _ _ _ _ (da x1 x2 x3 xs2) (fun a b => ?_) (fun a b => ?_) (fun a b => ?_) (fun a b => ?_) q p j
  · exact (pay10_at ..).trans (daq_at x1 x2 x3 xs2 0 a b)
  · exact (pay21_at ..).trans (daq_at x1 x2 x3 xs2 1 a b)
  · exact (pay30_at ..).trans (daq_at x1 x2 x3 xs2 2 a b)
  · exact (pay40_at ..).trans (daq_at x1 x2 x3 xs2 3 a b)

theorem out_B_7 (hc : ¬cond0_0 i) (q : Fin 4) (p : Fin 320) (j : Fin 704) :
    out0_B_7 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 (ix3 q p j)
      = db x1 x2 xs2 q p j := by
  unfold out0_B_7
  rw [View.read_writes_junk_eq_canon]
  unfold kernelRun0_B
  dsimp only
  sl_unfold_words
  simp only [View.readAt_eq_ld, h1.read_unread, h2.read_unread, h3.read_unread, h4.read_unread, h5.read_unread, h6.read_unread, h10.read_unread,
    hs0.read_unread, hs1.read_unread, hs2.read_unread,
    View.ld_unit_zero (S := S320x1024) hz, View.ld_unit_zero (S := S1x1024) hz, acc_load]
  refine canon_quarters _ _ _ _ (db x1 x2 xs2) (fun a b => ?_) (fun a b => ?_) (fun a b => ?_) (fun a b => ?_) q p j
  · exact (pay11_at ..).trans (dbq_at x1 x2 xs2 0 a b)
  · exact (pay22_at ..).trans (dbq_at x1 x2 xs2 1 a b)
  · exact (pay31_at ..).trans (dbq_at x1 x2 xs2 2 a b)
  · exact (pay41_at ..).trans (dbq_at x1 x2 xs2 3 a b)

theorem out_B_8 (hc : ¬cond0_0 i) (p : Fin 320) (k : Fin 1024) :
    out0_B_8 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 (ix2 p k)
      = x0 (ix2 p k) + dh x1 x2 x3 xs0 xs1 xs2 x4 (fun k => x5 (ix2 0 k)) p k := by
  unfold out0_B_8
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread, h10.read_unread,
    hs0.read_unread, hs1.read_unread, hs2.read_unread,
    View.ld_unit_zero (S := S320x1024) hz, View.ld_unit_zero (S := S1x1024) hz, acc_load]
  refine (pay1_at x0 x4 x5 (acc4 x1 x2 x3 xs0 xs1 xs2) p k).trans ?_
  simp only [acc4_at]
  rfl

theorem out_B_9 (hc : ¬cond0_0 i) (k : Fin 1024) :
    out0_B_9 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 (ix2 0 k)
      = xo9 (ix2 0 k) + ∑ p, termG x1 x2 x3 xs0 xs1 xs2 x4 k p := by
  unfold out0_B_9
  rw [View.read_writes_junk_eq_canon]
  unfold kernelRun0_B
  dsimp only
  sl_unfold_words
  rw [View.canon_unit_zero hz]
  simp only [View.readAt_eq_ld, h1.read_unread, h2.read_unread, h3.read_unread, h4.read_unread, h5.read_unread, h6.read_unread, h10.read_unread,
    hs0.read_unread, hs1.read_unread, hs2.read_unread,
    View.ld_unit_zero (S := S320x1024) hz, View.ld_unit_zero (S := S1x1024) hz, acc_load]
  refine (pay46_at x4 xo9 (acc4 x1 x2 x3 xs0 xs1 xs2) k).trans ?_
  simp only [acc4_at]
  rfl

theorem out_A_6 (hc : cond0_0 i) (q : Fin 4) (p : Fin 320) (j : Fin 704) :
    out0_A_6 c i a1 h1 a2 h2 a3 h3 a4 h4 a5 h5 a6 h6 a7 h7 a8 h8 a9 h9 a10 h10 s0 hs0 s1 hs1 s2 hs2 s3 hs3 hc x0 x1 x2 x3 x4 x5 w0 w1 w2 (ix3 q p j)
      = da x1 x2 x3 w2 q p j := by
  unfold out0_A_6
  rw [View.read_writes_junk_eq_canon]
  unfold kernelRun0_A
  dsimp only
  sl_unfold_words
  simp only [View.readAt_eq_ld, h1.read_unread, h2.read_unread, h3.read_unread, h4.read_unread, h5.read_unread, h6.read_unread, h10.read_unread,
    filled,
    View.ld_unit_zero (S := S320x1024) hz, View.ld_unit_zero (S := S1x1024) hz, acc_load]
  refine canon_quarters _ _ _ _ (da x1 x2 x3 w2) (fun a b => ?_) (fun a b => ?_) (fun a b => ?_) (fun a b => ?_) q p j
  · exact (pay10_at ..).trans (daq_at x1 x2 x3 w2 0 a b)
  · exact (pay21_at ..).trans (daq_at x1 x2 x3 w2 1 a b)
  · exact (pay30_at ..).trans (daq_at x1 x2 x3 w2 2 a b)
  · exact (pay40_at ..).trans (daq_at x1 x2 x3 w2 3 a b)

theorem out_A_7 (hc : cond0_0 i) (q : Fin 4) (p : Fin 320) (j : Fin 704) :
    out0_A_7 c i a1 h1 a2 h2 a3 h3 a4 h4 a5 h5 a6 h6 a7 h7 a8 h8 a9 h9 a10 h10 s0 hs0 s1 hs1 s2 hs2 s3 hs3 hc x0 x1 x2 x3 x4 x5 w0 w1 w2 (ix3 q p j)
      = db x1 x2 w2 q p j := by
  unfold out0_A_7
  rw [View.read_writes_junk_eq_canon]
  unfold kernelRun0_A
  dsimp only
  sl_unfold_words
  simp only [View.readAt_eq_ld, h1.read_unread, h2.read_unread, h3.read_unread, h4.read_unread, h5.read_unread, h6.read_unread, h10.read_unread,
    filled,
    View.ld_unit_zero (S := S320x1024) hz, View.ld_unit_zero (S := S1x1024) hz, acc_load]
  refine canon_quarters _ _ _ _ (db x1 x2 w2) (fun a b => ?_) (fun a b => ?_) (fun a b => ?_) (fun a b => ?_) q p j
  · exact (pay11_at ..).trans (dbq_at x1 x2 w2 0 a b)
  · exact (pay22_at ..).trans (dbq_at x1 x2 w2 1 a b)
  · exact (pay31_at ..).trans (dbq_at x1 x2 w2 2 a b)
  · exact (pay41_at ..).trans (dbq_at x1 x2 w2 3 a b)

theorem out_A_8 (hc : cond0_0 i) (p : Fin 320) (k : Fin 1024) :
    out0_A_8 c i a1 h1 a2 h2 a3 h3 a4 h4 a5 h5 a6 h6 a7 h7 a8 h8 a9 h9 a10 h10 s0 hs0 s1 hs1 s2 hs2 s3 hs3 hc x0 x1 x2 x3 x4 x5 w0 w1 w2 (ix2 p k)
      = x0 (ix2 p k) + dh x1 x2 x3 w0 w1 w2 x4 (fun k => x5 (ix2 0 k)) p k := by
  unfold out0_A_8
  rw [View.read_writes_junk_eq_canon]
  unfold kernelRun0_A
  dsimp only
  sl_unfold_words
  rw [View.canon_unit_zero hz]
  simp only [View.readAt_eq_ld, h1.read_unread, h2.read_unread, h3.read_unread, h4.read_unread, h5.read_unread, h6.read_unread, h10.read_unread,
    filled,
    View.ld_unit_zero (S := S320x1024) hz, View.ld_unit_zero (S := S1x1024) hz, acc_load]
  refine (pay1_at x0 x4 x5 (acc4 x1 x2 x3 w0 w1 w2) p k).trans ?_
  simp only [acc4_at]
  rfl

theorem out_A_9 (hc : cond0_0 i) (k : Fin 1024) :
    out0_A_9 c i a1 h1 a2 h2 a3 h3 a4 h4 a5 h5 a6 h6 a7 h7 a8 h8 a9 h9 a10 h10 s0 hs0 s1 hs1 s2 hs2 s3 hs3 hc x0 x1 x2 x3 x4 x5 w0 w1 w2 (ix2 0 k)
      = ∑ p, termG x1 x2 x3 w0 w1 w2 x4 k p := by
  unfold out0_A_9
  rw [View.read_writes_junk_eq_canon]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h10.read_unread,
    filled,
    View.ld_unit_zero (S := S320x1024) hz, View.ld_unit_zero (S := S1x1024) hz, acc_load]
  refine (pay46_at x4 (k0_pay2 (F := Ideal)) (acc4 x1 x2 x3 w0 w1 w2) k).trans ?_
  simp only [acc4_at]
  pointwise [k0_pay2]
  rfl

/-! The scratches: filled with the weights at the first point, left alone at the others. -/

theorem sout_A_0 (hc : cond0_0 i) : sout0_A_0 c i a1 h1 a2 h2 a3 h3 a4 h4 a5 h5 a6 h6 a7 h7 a8 h8 a9 h9 a10 h10 s0 hs0 s1 hs1 s2 hs2 s3 hs3 hc x0 x1 x2 x3 x4 x5 w0 w1 w2 = w0 := by
  unfold sout0_A_0
  rw [View.read_writes_junk_eq_canon]
  exact View.canon_unit_zero (S := S4x704x1024) rfl _ w0
theorem sout_A_1 (hc : cond0_0 i) : sout0_A_1 c i a1 h1 a2 h2 a3 h3 a4 h4 a5 h5 a6 h6 a7 h7 a8 h8 a9 h9 a10 h10 s0 hs0 s1 hs1 s2 hs2 s3 hs3 hc x0 x1 x2 x3 x4 x5 w0 w1 w2 = w1 := by
  unfold sout0_A_1
  rw [View.read_writes_junk_eq_canon]
  exact View.canon_unit_zero (S := S4x704x1024) rfl _ w1
theorem sout_A_2 (hc : cond0_0 i) : sout0_A_2 c i a1 h1 a2 h2 a3 h3 a4 h4 a5 h5 a6 h6 a7 h7 a8 h8 a9 h9 a10 h10 s0 hs0 s1 hs1 s2 hs2 s3 hs3 hc x0 x1 x2 x3 x4 x5 w0 w1 w2 = w2 := by
  unfold sout0_A_2
  rw [View.read_writes_junk_eq_canon]
  exact View.canon_unit_zero (S := S4x704x1024) rfl _ w2
theorem sout_B_0 (hc : ¬cond0_0 i) : sout0_B_0 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 = xs0 := rfl
theorem sout_B_1 (hc : ¬cond0_0 i) : sout0_B_1 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 = xs1 := rfl
theorem sout_B_2 (hc : ¬cond0_0 i) : sout0_B_2 c i a1 h1 a2 h2 a3 h3 a4 h4 a5 h5 a6 h6 a7 h7 a8 h8 a9 h9 a10 h10 s0 hs0 s1 hs1 s2 hs2 s3 hs3 hc x0 x1 x2 x3 x4 x5 xo9 xs0 xs1 xs2 w0 w1 w2 = xs2 := rfl

end Outs

end Cert.FfnBwdIdeal.Point

end
-- ==== Proof.FfnBwdArrays.lean ====
/-
  The gated feed-forward block's backward kernel as a whole: its result arrays after the last grid point, as functions of
  the arrays the region is entered with. The weights, fetched into scratch at the first point, are still there at the
  last.
-/
module

public import proofs.«01_k».proof.Proof.FfnBwdPoint
public import Idealize.ShloMosaic.Lib.Pipeline.ValueKit.Geometry
public import Idealize.ShloMosaic.Lib.Pipeline.ValueKit.Acc

@[expose] public section

set_option maxRecDepth 16384

noncomputable section

namespace Cert.FfnBwdIdeal.Arrays

open Idealize.ShloMosaic Idealize.ShloMosaic.TcCoe Idealize.SL.Sem
open Cert.FfnBwdIdeal Cert.FfnBwdIdeal.Gen Cert.FfnBwdIdeal.Point Cert.FfnRows

variable (m : (ℓ : Loc nD τ sig) → Buf (Elt Ideal) ℓ) (c : Dev nD)

/-- The arrays the region is entered with: the cotangent's rows in both formats, the gate's two products, the rows
    before the norm, the norm weight, and the three weights. -/
abbrev aR : FVec Ideal S4160x1024 .f32 := V m c main_v37
abbrev aY : FVec Ideal S4160x1024 .bf16 := V m c main_v38
abbrev aA : FVec Ideal S4x4160x704 .bf16 := V m c main_v30
abbrev aB : FVec Ideal S4x4160x704 .bf16 := V m c main_v36
abbrev aH : FVec Ideal S4160x1024 .f32 := V m c main_v39
abbrev aG : FVec Ideal S1x1024 .f32 := V m c main_arg1
abbrev wG : FVec Ideal S4x704x1024 .bf16 := V m c main_v3
abbrev wU : FVec Ideal S4x704x1024 .bf16 := V m c main_v7
abbrev wD : FVec Ideal S4x704x1024 .bf16 := V m c main_v10

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, t.val, 0] := (by decide +kernel : ∀ t : Fin grid0.N, _)
theorem at3 : ∀ t : Fin cfg0.N, win0_3.index t = ![0, t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, t.val, 0] := (by decide +kernel : ∀ t : Fin grid0.N, _)
theorem at7 : ∀ t : Fin cfg0.N, win0_7.index t = ![0, t.val, 0] := (by decide +kernel : ∀ t : Fin grid0.N, _)
theorem at8 : ∀ t : Fin cfg0.N, win0_8.index t = ![t.val, 0] := (by decide +kernel : ∀ t : Fin grid0.N, _)

theorem lt13 (t : Fin cfg0.N) : t.val < 13 := lt_of_lt_of_eq t.isLt N_0

/-- The array row of a block's row. -/
def gr (t : Fin cfg0.N) (p : Fin 320) : Fin 4160 := ⟨t.val * 320 + p.val, by have := lt13 t; omega⟩

theorem blk0 (t : Fin cfg0.N) (p : Fin 320) (j : Fin 1024) : (iblk m c 0 t : FVec Ideal S320x1024 .f32) (ix2 p j) = aR m c (ix2 (gr t p) j) := by
  blk_simp [iblk]; refine congrArg (V m c main_v37) ?_; blk_ext [at0] <;> rfl
theorem blk1 (t : Fin cfg0.N) (p : Fin 320) (j : Fin 1024) : (iblk m c 1 t : FVec Ideal S320x1024 .bf16) (ix2 p j) = aY m c (ix2 (gr t p) j) := by
  blk_simp [iblk]; refine congrArg (V m c main_v38) ?_; blk_ext [at1] <;> rfl
theorem blk2 (t : Fin cfg0.N) (p : Fin 320) (q : Fin 4) (j : Fin 704) : (iblk m c 2 t : FVec Ideal S4x320x704 .bf16) (ix3 q p j) = aA m c (ix3 q (gr t p) j) := by
  blk_simp [iblk]; refine congrArg (V m c main_v30) ?_; blk_ext [at2] <;> rfl
theorem blk3 (t : Fin cfg0.N) (p : Fin 320) (q : Fin 4) (j : Fin 704) : (iblk m c 3 t : FVec Ideal S4x320x704 .bf16) (ix3 q p j) = aB m c (ix3 q (gr t p) j) := by
  blk_simp [iblk]; refine congrArg (V m c main_v36) ?_; blk_ext [at3] <;> rfl
theorem blk4 (t : Fin cfg0.N) (p : Fin 320) (j : Fin 1024) : (iblk m c 4 t : FVec Ideal S320x1024 .f32) (ix2 p j) = aH m c (ix2 (gr t p) j) := by
  blk_simp [iblk]; refine congrArg (V m c main_v39) ?_; blk_ext [at4] <;> rfl
theorem blk5 (t : Fin cfg0.N) (j : Fin 1024) : (iblk m c 5 t : FVec Ideal S1x1024 .f32) (ix2 0 j) = aG m c (ix2 0 j) := by
  blk_simp [iblk]; refine congrArg (V m c main_arg1) ?_; blk_ext [at5]

/-- The weights stay in scratch. -/
theorem weights (n : ℕ) (h : n < cfg0.N) :
    (outsAt0 m c n h).2.2.2.2 = (wG m c, wU m c, wD m c) := by
  induction n with
  | zero =>
    rw [outsAt0_A m c ⟨0, h⟩ (Nat.zero_mod _)]; dsimp only
    rw [sout_A_0, sout_A_1, sout_A_2]
  | succ n ih =>
    have hn : ¬(n + 1) % 13 = 0 := by have := lt_of_lt_of_eq h N_0; omega
    rw [outsAt0_B m c ⟨n + 1, h⟩ hn]; dsimp only
    rw [sout_B_0, sout_B_1, sout_B_2]
    exact ih (Nat.lt_of_succ_lt h)

/-- The gate's two gradients. -/
theorem final6 (q : Fin 4) (r : Fin 4160) (j : Fin 704) :
    ((dats m 0 c).arrAt 6 cfg0.N : FVec Ideal S4x4160x704 .bf16) (ix3 q r j) = da (aY m c) (aA m c) (aB m c) (wD m c) q r j := by
  have h := (dats m 0 c).arrAt_eq_of_covers 6
    (fun y : S4x4160x704.Idx => da (aY m c) (aA m c) (aB m c) (wD m c) (y 0) (y 1) (y 2))
    (by decide +kernel) fun t hf y => ?_
  · exact congrFun h (ix3 q r j)
  · blk_simp
    rw [after0_6]
    obtain ⟨q, p, j, rfl⟩ : ∃ (q : Fin 4) (p : Fin 320) (j : Fin 704), y = ix3 q p j := ⟨y 0, y 1, y 2, by pointwise⟩
    have e : ((win0_6.blk t).view.emb (ix3 q p j : S4x320x704.Idx) : S4x4160x704.Idx) = ix3 q (gr t p) j := by blk_ext [at6] <;> rfl
    rw [e]
    refine Eq.trans ?_ (da_congr (blk1 m c t p) (fun _ _ _ => rfl) (fun q j => blk2 m c t p q j) (fun q j => blk3 m c t p q j) q j)
    by_cases h0 : t.val % 13 = 0
    · rw [outsAt0_A m c t h0]; dsimp only
      rw [out_A_6]
    · rw [outsAt0_B m c t h0]; dsimp only
      rw [out_B_6, weights]

theorem final7 (q : Fin 4) (r : Fin 4160) (j : Fin 704) :
    ((dats m 0 c).arrAt 7 cfg0.N : FVec Ideal S4x4160x704 .bf16) (ix3 q r j) = db (aY m c) (aA m c) (wD m c) q r j := by
  have h := (dats m 0 c).arrAt_eq_of_covers 7
    (fun y : S4x4160x704.Idx => db (aY m c) (aA m c) (wD m c) (y 0) (y 1) (y 2))
    (by decide +kernel) fun t hf y => ?_
  · exact congrFun h (ix3 q r j)
  · blk_simp
    rw [after0_7]
    obtain ⟨q, p, j, rfl⟩ : ∃ (q : Fin 4) (p : Fin 320) (j : Fin 704), y = ix3 q p j := ⟨y 0, y 1, y 2, by pointwise⟩
    have e : ((win0_7.blk t).view.emb (ix3 q p j : S4x320x704.Idx) : S4x4160x704.Idx) = ix3 q (gr t p) j := by blk_ext [at7] <;> rfl
    rw [e]
    refine Eq.trans ?_ (db_congr (blk1 m c t p) (fun _ _ _ => rfl) (fun q j => blk2 m c t p q j) q j)
    by_cases h0 : t.val % 13 = 0
    · rw [outsAt0_A m c t h0]; dsimp only
      rw [out_A_7]
    · rw [outsAt0_B m c t h0]; dsimp only
      rw [out_B_7, weights]

/-- The gradient at the rows before the norm, the cotangent added. -/
def rows (r : Fin 4160) (k : Fin 1024) : EReal :=
  aR m c (ix2 r k) + dh (aY m c) (aA m c) (aB m c) (wG m c) (wU m c) (wD m c) (aH m c) (fun k => aG m c (ix2 0 k)) r k

theorem final8 (r : Fin 4160) (k : Fin 1024) :
    ((dats m 0 c).arrAt 8 cfg0.N : FVec Ideal S4160x1024 .f32) (ix2 r k) = rows m c r k := by
  have h := (dats m 0 c).arrAt_eq_of_covers 8
    (fun y : S4160x1024.Idx => rows m c (y 0) (y 1))
    (by decide +kernel) fun t hf y => ?_
  · exact congrFun h (ix2 r k)
  · blk_simp
    rw [after0_8]
    obtain ⟨p, k, rfl⟩ : ∃ (p : Fin 320) (k : Fin 1024), y = ix2 p k := ⟨y 0, y 1, by pointwise⟩
    have e : ((win0_8.blk t).view.emb (ix2 p k : S320x1024.Idx) : S4160x1024.Idx) = ix2 (gr t p) k := by blk_ext [at8] <;> rfl
    rw [e]
    refine Eq.trans ?_ (congrArg₂ (· + ·) (blk0 m c t p k) (dh_congr (blk1 m c t p) (fun _ _ _ => rfl) (fun _ _ _ => rfl) (fun _ _ _ => rfl)
      (fun q j => blk2 m c t p q j) (fun q j => blk3 m c t p q j) (blk4 m c t p) (blk5 m c t) k))
    by_cases h0 : t.val % 13 = 0
    · rw [outsAt0_A m c t h0]; dsimp only
      rw [out_A_8]
    · rw [outsAt0_B m c t h0]; dsimp only
      rw [out_B_8, weights]

/-- The norm weight's gradient. -/
theorem final9 (k : Fin 1024) :
    ((dats m 0 c).arrAt 9 cfg0.N : FVec Ideal S1x1024 .f32) (ix2 0 k)
      = ∑ r : Fin 4160, termG (aY m c) (aA m c) (aB m c) (wG m c) (wU m c) (wD m c) (aH m c) k r := by
  refine ((dats m 0 c).arrAt_emb_eq_after_last 9 t0_12 (by decide +kernel) (ix2 0 k : S1x1024.Idx)).trans ?_
  blk_simp
  rw [after0_9]
  have hb := fun (t : Fin cfg0.N) (i : Fin 1024) => Finset.sum_congr (s₁ := (Finset.univ : Finset (Fin 320))) rfl fun p _ =>
    termG_congr (wg := wG m c) (wu := wU m c) (wd := wD m c) (blk1 m c t p) (fun _ _ _ => rfl) (fun _ _ _ => rfl) (fun _ _ _ => rfl)
      (fun q j => blk2 m c t p q j) (fun q j => blk3 m c t p q j) (blk4 m c t p) i
  have := Pipeline.eq_sum_fin_of_reset_step_apply_last (ι := Fin 1024) (N := cfg0.N)
    (fun n h i => ((outsAt0 m c n h).2.2.2.1 : FVec Ideal S1x1024 .f32) (ix2 0 i)) 13 (fun _ => (0 : EReal))
    (fun t i => ∑ p : Fin 320, termG (aY m c) (aA m c) (aB m c) (wG m c) (wU m c) (wD m c) (aH m c) i (gr t p))
    (fun t h i => by rw [outsAt0_A m c t h]; dsimp only; rw [out_A_9, zero_add]; exact hb t i)
    (fun t h i => by rw [outsAt0_B m c t h]; dsimp only; rw [out_B_9, weights]; exact congrArg _ (hb t i))
    (by decide) t0_12 rfl k
  refine Eq.trans ?_ (this.trans ((zero_add _).trans (Fin.sum_mul_add_fin 13 320 _ rfl)))
  rfl

end Cert.FfnBwdIdeal.Arrays

end
-- ==== Proof.FfnBwdHost.lean ====
/-
  The arrays the gated block's gradient call is entered with, read at an index in terms of the program's arguments: the
  weights by quarters, the gate's two products worked out from the input's rows on the host, and the cotangent.
-/
module

public import proofs.«01_k».proof.Proof.FfnBwdArrays

@[expose] public section

noncomputable section

namespace Cert.FfnBwdIdeal.Host

open Idealize.ShloMosaic Idealize.ShloMosaic.TcCoe Idealize.SL.Sem
open Cert.FfnBwdIdeal Cert.FfnBwdIdeal.Gen Cert.FfnBwdIdeal.Arrays Cert.FfnRows Cert.Rows

variable (m : (ℓ : Loc nD τ sig) → Buf (Elt Ideal) ℓ) (c : Dev nD)

/-- The arguments. -/
abbrev x0 : FVec Ideal S4112x1024 .f32 := m ((c : Thread nD τ).loc main_arg0)
abbrev x1 : FVec Ideal S1x1024 .f32 := m ((c : Thread nD τ).loc main_arg1)
abbrev x2 : FVec Ideal S1x1024x2816 .f32 := m ((c : Thread nD τ).loc main_arg2)
abbrev x3 : FVec Ideal S1x1024x2816 .f32 := m ((c : Thread nD τ).loc main_arg3)
abbrev x4 : FVec Ideal S1x2816x1024 .f32 := m ((c : Thread nD τ).loc main_arg4)
abbrev x5 : FVec Ideal S4112x1024 .f32 := m ((c : Thread nD τ).loc main_arg5)

theorem wG_at (q : Fin 4) (j : Fin 704) (k : Fin 1024) : (wG m c (ix3 q j k) : EReal) = x2 m c (ix3 0 k (col q j)) := by
  unfold wG V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  rfl

theorem wU_at (q : Fin 4) (j : Fin 704) (k : Fin 1024) : (wU m c (ix3 q j k) : EReal) = x3 m c (ix3 0 k (col q j)) := by
  unfold wU V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  rfl

theorem wD_at (q : Fin 4) (j : Fin 704) (k : Fin 1024) : (wD m c (ix3 q j k) : EReal) = x4 m c (ix3 0 (col q j) k) := by
  unfold wD V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  rfl

theorem aR_at (r : Fin 4160) (k : Fin 1024) : (aR m c (ix2 r k) : EReal) = if h : r.val < 4112 then x5 m c (ix2 ⟨r, h⟩ k) else 0 := by
  unfold aR V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  rw [Rows.sitofp_zero]

theorem aY_at (r : Fin 4160) (k : Fin 1024) : (aY m c (ix2 r k) : EReal) = if h : r.val < 4112 then x5 m c (ix2 ⟨r, h⟩ k) else 0 := by
  unfold aY V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  rw [Rows.sitofp_zero]

theorem aH_at (r : Fin 4160) (k : Fin 1024) : (aH m c (ix2 r k) : EReal) = if h : r.val < 4112 then x0 m c (ix2 ⟨r, h⟩ k) else 0 := by
  unfold aH V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  simp only [StableHlo.TRef.toBuf, StableHlo.TRef.ofBuf, cast_eq]
  pointwise
  rw [Rows.sitofp_zero]

theorem aG_at (k : Fin 1024) : (aG m c (ix2 0 k) : EReal) = x1 m c (ix2 0 k) := by
  unfold aG V
  simp only [hostOps0,  List.flatten_cons, List.flatten_nil, List.append_nil, List.cons_append, List.nil_append, StableHlo.TRef.binary, StableHlo.TRef.unary, StableHlo.TRef.toBuf, StableHlo.TRef.ofBuf, cast_eq]
  after_results_simp

theorem aA_at (q : Fin 4) (r : Fin 4160) (j : Fin 704) : (aA m c (ix3 q r j) : EReal) = if h : r.val < 4112 then pre (x0 m c) (x1 m c) (x2 m c) ⟨r, h⟩ (col q j) else 0 := by
  unfold aA V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  by_cases hr : r.val < 4112
  · refine (dif_pos ⟨hr, (col q j).isLt⟩).trans (Eq.trans ?_ (dif_pos hr).symm)
    rfl
  · refine (dif_neg fun h => hr h.1).trans (Eq.trans ?_ (dif_neg hr).symm)
    exact Rows.sitofp_zero

theorem aB_at (q : Fin 4) (r : Fin 4160) (j : Fin 704) : (aB m c (ix3 q r j) : EReal) = if h : r.val < 4112 then pre (x0 m c) (x1 m c) (x3 m c) ⟨r, h⟩ (col q j) else 0 := by
  unfold aB V
  simp only [hostOps0,  List.flatten_cons, List.flatten_nil, List.append_nil, List.cons_append, List.nil_append, StableHlo.TRef.binary, StableHlo.TRef.unary, StableHlo.TRef.toBuf, StableHlo.TRef.ofBuf, cast_eq]
  after_results_simp
  pointwise
  by_cases hr : r.val < 4112
  · refine (dif_pos ⟨hr, (col q j).isLt⟩).trans (Eq.trans ?_ (dif_pos hr).symm)
    rfl
  · refine (dif_neg fun h => hr h.1).trans (Eq.trans ?_ (dif_neg hr).symm)
    exact Rows.sitofp_zero

end Cert.FfnBwdIdeal.Host

end
-- ==== Proof.FfnGate.lean ====
/-
  The gated feed-forward block's gradient as differentiation writes it, and that it is the form the kernel computes:
  the logistic function through its exponential is the one through the hyperbolic tangent, the gate's derivative is a
  rearrangement of products, and a sum over the inner width is the four quarters' sums.
-/
module

public import proofs.«01_k».proof.Proof.FfnRows
public import Idealize.ShloMosaic.Lib.Pipeline.ValueKit.Acc

@[expose] public section

noncomputable section

namespace Cert.FfnGate

open Idealize.ShloMosaic Cert.Rows Cert.FfnRows

/-- The logistic function through the exponential. -/
def lg (a : EReal) : EReal := Ideal.div 1 (1 + Ideal.exp (-a))

/-- The gate's two gradients as differentiation writes them. -/
def dgate (d a b : EReal) : EReal := d * b * lg a + a * (d * b) * (lg a * (1 - lg a))
def dother (d a : EReal) : EReal := a * lg a * d

theorem logistic_tanh (x : ℝ) : 1 / 2 * Real.tanh (1 / 2 * x) + 1 / 2 = 1 / (1 + Real.exp (-x)) := by
  have h1 : (0 : ℝ) < Real.exp (1 / 2 * x) := Real.exp_pos _
  have h2 : Real.exp (-x) = Real.exp (-(1 / 2 * x)) * Real.exp (-(1 / 2 * x)) := by rw [← Real.exp_add]; ring_nf
  rw [Real.tanh_eq_sinh_div_cosh, Real.sinh_eq, Real.cosh_eq, h2, Real.exp_neg]
  field_simp
  ring

/-- At a real number the two spellings agree, and the value is real. -/
theorem sigm_coe (x : ℝ) : sigm (x : EReal) = ((1 / (1 + Real.exp (-x)) : ℝ) : EReal) := by
  rw [sigm, hf_eq, ← EReal.coe_mul, Ideal.tanh_coe, ← EReal.coe_mul, ← EReal.coe_add, logistic_tanh]

theorem lg_coe (x : ℝ) : lg (x : EReal) = ((1 / (1 + Real.exp (-x)) : ℝ) : EReal) := by
  have h : (1 + Real.exp (-x) : ℝ) ≠ 0 := by positivity
  have e : (1 : EReal) + Ideal.exp (-(x : EReal)) = ((1 + Real.exp (-x) : ℝ) : EReal) := by
    rw [← EReal.coe_neg, Ideal.exp_coe]; push_cast; rfl
  rw [lg, e, Ideal.div_coe h, one_mul]

theorem sigm_eq {a : EReal} : Real' a → sigm a = lg a := by
  rintro ⟨x, rfl⟩; rw [sigm_coe, lg_coe]

theorem lg_real {a : EReal} : Real' a → Real' (lg a) := by
  rintro ⟨x, rfl⟩; exact ⟨_, lg_coe x⟩

theorem one_real : Real' 1 := ⟨1, rfl⟩

theorem fda_eq {d a b : EReal} (hd : Real' d) (ha : Real' a) (hb : Real' b) : fda d a b = dgate d a b := by
  rw [fda, dgate, sigm_eq ha]
  obtain ⟨s, hs⟩ := lg_real ha
  obtain ⟨d, rfl⟩ := hd
  obtain ⟨a, rfl⟩ := ha
  obtain ⟨b, rfl⟩ := hb
  rw [hs, ← EReal.coe_one]
  simp only [← EReal.coe_mul, ← EReal.coe_add, ← EReal.coe_sub]
  exact congrArg _ (by ring)

theorem fdb_eq {d a : EReal} (ha : Real' a) : fdb d a = dother d a := by
  rw [fdb, dother, sigm_eq ha, mul_comm]

theorem dgate_real {d a b : EReal} (hd : Real' d) (ha : Real' a) (hb : Real' b) : Real' (dgate d a b) :=
  ((hd.mul hb).mul (lg_real ha)).add ((ha.mul (hd.mul hb)).mul ((lg_real ha).mul (one_real.sub (lg_real ha))))
theorem dother_real {d a : EReal} (hd : Real' d) (ha : Real' a) : Real' (dother d a) := (ha.mul (lg_real ha)).mul hd

/-- The quarters' sums of two products are the whole width's. -/
theorem quarters (f g : Fin 2816 → EReal) (F G : Fin 4 → Fin 704 → EReal) (hF : ∀ q j, F q j = f (col q j)) (hG : ∀ q j, G q j = g (col q j)) :
    ((∑ j, F 0 j) + ∑ j, G 0 j) + ((∑ j, F 1 j) + ∑ j, G 1 j) + ((∑ j, F 2 j) + ∑ j, G 2 j) + ((∑ j, F 3 j) + ∑ j, G 3 j)
      = (∑ i, g i) + ∑ i, f i := by
  have e : ∀ (u : Fin 2816 → EReal) (U : Fin 4 → Fin 704 → EReal), (∀ q j, U q j = u (col q j)) → ∑ q, ∑ j, U q j = ∑ i, u i := fun u U h => by
    rw [← Fin.sum_mul_add_fin 4 704 u rfl]
    exact Finset.sum_congr rfl fun q _ => Finset.sum_congr rfl fun j _ => h q j
  rw [← e f F hF, ← e g G hG, Fin.sum_univ_four, Fin.sum_univ_four]
  abel

section

variable {n : ℕ} (x : (⟨2, ![n, 1024]⟩ : Shape).Idx → EReal) (g : (⟨2, ![1, 1024]⟩ : Shape).Idx → EReal)
  (wg wu : (⟨3, ![1, 1024, 2816]⟩ : Shape).Idx → EReal) (wd : (⟨3, ![1, 2816, 1024]⟩ : Shape).Idx → EReal)
  (dy : (⟨2, ![n, 1024]⟩ : Shape).Idx → EReal)

/-- The gradient at the gated product, at the gate's argument and at the other factor, by inner columns. -/
def rff (p : Fin n) (i : Fin 2816) : EReal := ∑ k : Fin 1024, dy (ix2 p k) * wd (ix3 0 i k)
def ra (p : Fin n) (i : Fin 2816) : EReal := dgate (rff wd dy p i) (pre x g wg p i) (pre x g wu p i)
def rb (p : Fin n) (i : Fin 2816) : EReal := dother (rff wd dy p i) (pre x g wg p i)

/-- The cotangent of the normalised, weighted row. -/
def rn (p : Fin n) (k : Fin 1024) : EReal :=
  (∑ i : Fin 2816, rb x g wg wd dy p i * wu (ix3 0 k i)) + ∑ i : Fin 2816, ra x g wg wu wd dy p i * wg (ix3 0 k i)

/-- What a row adds to the norm weight's gradient. -/
def rG (k : Fin 1024) (p : Fin n) : EReal :=
  x (ix2 p k) * rinv width (fun k => x (ix2 p k)) * rn x g wg wu wd dy p k

variable {x g wg wu wd dy}

theorem pre_real (hx : ∀ p k, Real' (x (ix2 p k))) (hg : ∀ k, Real' (g (ix2 0 k))) {w : (⟨3, ![1, 1024, 2816]⟩ : Shape).Idx → EReal}
    (hw : ∀ k i, Real' (w (ix3 0 k i))) (p : Fin n) (i : Fin 2816) : Real' (pre x g w p i) :=
  Real'.sum _ fun k => (((hx p k).mul (rinv_real width_1024 (hx p))).mul (hg k)).mul (hw k i)

theorem rff_real (hd : ∀ i k, Real' (wd (ix3 0 i k))) (hy : ∀ p k, Real' (dy (ix2 p k))) (p : Fin n) (i : Fin 2816) :
    Real' (rff wd dy p i) := Real'.sum _ fun k => (hy p k).mul (hd i k)

theorem rn_real (hx : ∀ p k, Real' (x (ix2 p k))) (hg : ∀ k, Real' (g (ix2 0 k))) (hG : ∀ k i, Real' (wg (ix3 0 k i)))
    (hU : ∀ k i, Real' (wu (ix3 0 k i))) (hd : ∀ i k, Real' (wd (ix3 0 i k))) (hy : ∀ p k, Real' (dy (ix2 p k))) (p : Fin n) (k : Fin 1024) :
    Real' (rn x g wg wu wd dy p k) :=
  (Real'.sum _ fun i => (dother_real (rff_real hd hy p i) (pre_real hx hg hG p i)).mul (hU k i)).add
    (Real'.sum _ fun i => (dgate_real (rff_real hd hy p i) (pre_real hx hg hG p i) (pre_real hx hg hU p i)).mul (hG k i))

end

end Cert.FfnGate

end
-- ==== Proof.FfnBwdRef.lean ====
/-
  The gated block's reference read at an index: the derivative of the forward lines, in the form differentiation
  writes it, as functions of the arguments.
-/
module

public import proofs.«01_k».proof.Proof.Gen.FfnBwdRefIdeal.Read
public import proofs.«01_k».proof.Proof.FfnGate
public import Idealize.ShloMosaic.Lib.Pointwise

@[expose] public section

noncomputable section

namespace Cert.FfnBwdRefIdeal.At

open Idealize.ShloMosaic
open Cert.FfnBwdRefIdeal Cert.FfnBwdRefIdeal.Read Cert.Rows Cert.FfnRows Cert.FfnGate

variable (x0 : FVec Ideal S4112x1024 .f32) (x1 : FVec Ideal S1x1024 .f32) (x2 x3 : FVec Ideal S1x1024x2816 .f32)
  (x4 : FVec Ideal S1x2816x1024 .f32) (x5 : FVec Ideal S4112x1024 .f32)

theorem v8 (r : Fin 4112) : (val_main_v8 (F := Ideal) x0 (ix2 r 0) : EReal) = rinv width (fun k => x0 (ix2 r k)) := by
  pointwise [val_main_v8, val_main_v7, val_main_v6, val_main_v5, val_main_v4, val_main_v3, val_main_v2, val_main_v1, val_main_cst, val_main_cst_0, val_main_cst_1]
  rfl

theorem v11 (r : Fin 4112) : (val_main_v11 (F := Ideal) x0 (ix2 r 0) : EReal)
    = Ideal.ofBits .f32 0xBF000000#32 * Ideal.div (rinv width (fun k => x0 (ix2 r k))) (msq width (fun k => x0 (ix2 r k))) := by
  pointwise [val_main_v11, val_main_v10, val_main_v9, val_main_cst_2, v8, val_main_v7, val_main_v6, val_main_v5, val_main_v4, val_main_v3, val_main_v2, val_main_v1, val_main_cst, val_main_cst_0, val_main_cst_1]
  rfl

theorem v13 (r : Fin 4112) (k : Fin 1024) : (val_main_v13 (F := Ideal) x0 (ix2 r k) : EReal) = x0 (ix2 r k) * rinv width (fun k => x0 (ix2 r k)) := by
  pointwise [val_main_v13, val_main_v12, v8]

theorem v14 (k : Fin 1024) : (val_main_v14 (F := Ideal) x1 (ix2 0 k) : EReal) = x1 (ix2 0 k) := by
  pointwise [val_main_v14, val_main_v0]

theorem v16 (r : Fin 4112) (k : Fin 1024) : (val_main_v16 (F := Ideal) x0 x1 (ix2 r k) : EReal)
    = x0 (ix2 r k) * rinv width (fun k => x0 (ix2 r k)) * x1 (ix2 0 k) := by
  pointwise [val_main_v16, v13, val_main_v15, v14]

theorem v18 (r : Fin 4112) (i : Fin 2816) : (val_main_v18 (F := Ideal) x0 x1 x2 (ix2 r i) : EReal) = pre x0 x1 x2 r i := by
  pointwise [val_main_v18, v16, val_main_v17]
  rfl

theorem v20 (r : Fin 4112) (i : Fin 2816) : (val_main_v20 (F := Ideal) x0 x1 x3 (ix2 r i) : EReal) = pre x0 x1 x3 r i := by
  pointwise [val_main_v20, v16, val_main_v19]
  rfl

theorem v21_2 (r : Fin 4112) (i : Fin 2816) : (val_main_v21_2 (F := Ideal) x0 x1 x2 (ix2 r i) : EReal) = lg (pre x0 x1 x2 r i) := by
  pointwise [val_main_v21_2, val_main_call0_v4, val_main_call0_cst_0, val_main_call0_v3, val_main_call0_v2, val_main_call0_cst, val_main_call0_v1, val_main_call0_v0, v18]
  rfl

theorem v29 (r : Fin 4112) (i : Fin 2816) : (val_main_v29 (F := Ideal) x4 x5 (ix2 r i) : EReal) = rff x4 x5 r i := by
  pointwise [val_main_v29, val_main_v26, val_main_v23]
  rfl

/-- The gradient at the gate's other factor. -/
theorem v31 (r : Fin 4112) (i : Fin 2816) : (val_main_v31 (F := Ideal) x0 x1 x2 x4 x5 (ix2 r i) : EReal) = rb x0 x1 x2 x4 x5 r i := by
  pointwise [val_main_v31, val_main_v21_0, v21_2, v18, v29]
  rfl

/-- The gradient at the gate's argument. -/
theorem v33 (r : Fin 4112) (i : Fin 2816) : (val_main_v33 (F := Ideal) x0 x1 x2 x3 x4 x5 (ix2 r i) : EReal) = ra x0 x1 x2 x3 x4 x5 r i := by
  pointwise [val_main_v33, val_main_call1_v2, val_main_call1_v1, val_main_call1_v0, val_main_v32, val_main_v21_1, val_main_call0_v7, val_main_call0_v6, val_main_call0_cst_1, v21_2, v20, v18, v29]
  rfl

theorem v41 (r : Fin 4112) (k : Fin 1024) : (val_main_v41 (F := Ideal) x0 x1 x2 x3 x4 x5 (ix2 r k) : EReal) = rn x0 x1 x2 x3 x4 x5 r k := by
  pointwise [val_main_v41, val_main_v40, val_main_v36, v33, v31, val_main_v19, val_main_v17]
  rfl

/-- The gradient at the rows. -/
theorem v63 (r : Fin 4112) (k : Fin 1024) : (val_main_v63 (F := Ideal) x0 x1 x2 x3 x4 x5 (ix2 r k) : EReal)
    = x5 (ix2 r k) + rn x0 x1 x2 x3 x4 x5 r k * x1 (ix2 0 k) * rinv width (fun k => x0 (ix2 r k))
      + x0 (ix2 r k) * half width (fun k => x0 (ix2 r k)) (fun k => rn x0 x1 x2 x3 x4 x5 r k * x1 (ix2 0 k))
      + half width (fun k => x0 (ix2 r k)) (fun k => rn x0 x1 x2 x3 x4 x5 r k * x1 (ix2 0 k)) * x0 (ix2 r k) := by
  pointwise [val_main_v63, val_main_v62, val_main_v61, val_main_v60, val_main_v59, val_main_v58, val_main_v57, val_main_v56, val_main_v55, val_main_v54, val_main_v53, val_main_v52, val_main_v51, val_main_v50, val_main_v49, val_main_v47, val_main_v46, val_main_cst_5, val_main_cst_6, val_main_cst_7, v41, v11, v14, v8]
  simp only [Fin.sum_univ_one]
  simp only [Fin.isValue, v11]
  rfl

/-- The norm weight's gradient. -/
theorem v64 (k : Fin 1024) : (val_main_v64 (F := Ideal) x0 x1 x2 x3 x4 x5 (ix2 0 k) : EReal) = ∑ r, rG x0 x1 x2 x3 x4 x5 k r := by
  pointwise [val_main_v64, val_main_v48, val_main_cst_4, val_main_v45, val_main_v44, val_main_cst_3, val_main_v43, v13, v41]
  simp only [Fin.sum_univ_one]
  rfl

/-- The results in the kernel's layout: quarters of the inner width, the rows padded with zeros. -/
theorem v68 (q : Fin 4) (r : Fin 4160) (j : Fin 704) : (val_main_v68 (F := Ideal) x0 x1 x2 x3 x4 x5 (ix3 q r j) : EReal)
    = if h : r.val < 4112 then ra x0 x1 x2 x3 x4 x5 ⟨r, h⟩ (col q j) else 0 := by
  pointwise [val_main_v68, val_main_v67, val_main_v66, val_main_v65, val_main_call2_v0, val_main_c]
  by_cases h : r.val < 4112
  · refine (dif_pos ⟨h, (col q j).isLt⟩).trans (Eq.trans ?_ (dif_pos h).symm)
    exact v33 x0 x1 x2 x3 x4 x5 ⟨r, h⟩ (col q j)
  · refine (dif_neg fun e => h e.1).trans (Eq.trans ?_ (dif_neg h).symm)
    exact Rows.sitofp_zero

theorem v72 (q : Fin 4) (r : Fin 4160) (j : Fin 704) : (val_main_v72 (F := Ideal) x0 x1 x2 x4 x5 (ix3 q r j) : EReal)
    = if h : r.val < 4112 then rb x0 x1 x2 x4 x5 ⟨r, h⟩ (col q j) else 0 := by
  pointwise [val_main_v72, val_main_v71, val_main_v70, val_main_v69, val_main_call3_v0, val_main_c_8]
  by_cases h : r.val < 4112
  · refine (dif_pos ⟨h, (col q j).isLt⟩).trans (Eq.trans ?_ (dif_pos h).symm)
    exact v31 x0 x1 x2 x4 x5 ⟨r, h⟩ (col q j)
  · refine (dif_neg fun e => h e.1).trans (Eq.trans ?_ (dif_neg h).symm)
    exact Rows.sitofp_zero

theorem v73 (r : Fin 4160) (k : Fin 1024) : (val_main_v73 (F := Ideal) x0 x1 x2 x3 x4 x5 (ix2 r k) : EReal)
    = if h : r.val < 4112 then val_main_v63 (F := Ideal) x0 x1 x2 x3 x4 x5 (ix2 ⟨r, h⟩ k) else 0 := by
  pointwise [val_main_v73, val_main_call4_v0, val_main_c_9]
  by_cases h : r.val < 4112
  · refine (dif_pos h).trans (Eq.trans ?_ (dif_pos h).symm)
    rfl
  · refine (dif_neg h).trans (Eq.trans ?_ (dif_neg h).symm)
    exact Rows.sitofp_zero

end Cert.FfnBwdRefIdeal.At

end
-- ==== Proof.FfnBwd.lean ====
/-
  The gated block's gradient call against the derivative of its forward lines: with finite inputs, the four results are
  the same arrays.
-/
module

public import proofs.«01_k».proof.Defs
public import proofs.«01_k».proof.Proof.FfnBwdHost
public import proofs.«01_k».proof.Proof.FfnBwdRef
public import proofs.«01_k».proof.Proof.BwdIn
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.Pre_finite_ffn

@[expose] public section

noncomputable section

namespace Cert.FfnBwdEqual

open Idealize.ShloMosaic Idealize.ShloMosaic.TcCoe Idealize.SL.Sem
open Cert.FfnBwdIdeal Cert.FfnBwdIdeal.Gen Cert.FfnBwdIdeal.Arrays Cert.FfnBwdIdeal.Host Cert.FfnBwdRefIdeal.At
open Cert.Rows Cert.FfnRows Cert.FfnGate
open Cert.BwdInEqual (sum_rows)

variable (m : (ℓ : Loc nD τ sig) → Buf (Elt Ideal) ℓ) (c : Dev nD)

section Padding

variable (r : Fin 4160) (h : ¬ r.val < 4112)
include h

theorem pad_dff (q : Fin 4) (j : Fin 704) : dff (aY m c) (wD m c) q r j = 0 :=
  Finset.sum_eq_zero fun k _ => mul_eq_zero_of_left ((aY_at m c r k).trans (dif_neg h)) _

theorem pad_da (q : Fin 4) (j : Fin 704) : da (aY m c) (aA m c) (aB m c) (wD m c) q r j = 0 := by
  unfold da fda
  rw [pad_dff m c r h, zero_mul, zero_mul]

theorem pad_db (q : Fin 4) (j : Fin 704) : db (aY m c) (aA m c) (wD m c) q r j = 0 := by
  unfold db fdb
  rw [pad_dff m c r h, zero_mul]

theorem pad_dn (k : Fin 1024) : dn (aY m c) (aA m c) (aB m c) (wG m c) (wU m c) (wD m c) r k = 0 := by
  have e : ∀ q, part (aY m c) (aA m c) (aB m c) (wG m c) (wU m c) (wD m c) q r k = 0 := fun q => by
    unfold part
    rw [Finset.sum_eq_zero fun j _ => mul_eq_zero_of_left (pad_da m c r h q j) _,
      Finset.sum_eq_zero fun j _ => mul_eq_zero_of_left (pad_db m c r h q j) _, add_zero]
  unfold dn
  simp only [e, add_zero]

end Padding

section Finite

variable (f0 : ∀ r k, Real' (x0 m c (ix2 r k))) (f1 : ∀ k, Real' (x1 m c (ix2 0 k))) (f2 : ∀ k i, Real' (x2 m c (ix3 0 k i)))
  (f3 : ∀ k i, Real' (x3 m c (ix3 0 k i))) (f4 : ∀ i k, Real' (x4 m c (ix3 0 i k))) (f5 : ∀ r k, Real' (x5 m c (ix2 r k)))

section Rows

variable (r : Fin 4160) (h : r.val < 4112)

theorem dff_eq (q : Fin 4) (j : Fin 704) : dff (aY m c) (wD m c) q r j = rff (x4 m c) (x5 m c) ⟨r, h⟩ (col q j) :=
  Finset.sum_congr rfl fun k _ => congrArg₂ (· * ·) ((aY_at m c r k).trans (dif_pos h)) (wD_at m c q j k)

include f0 f1 f2 f3 f4 f5 in
theorem da_eq (q : Fin 4) (j : Fin 704) :
    da (aY m c) (aA m c) (aB m c) (wD m c) q r j = ra (x0 m c) (x1 m c) (x2 m c) (x3 m c) (x4 m c) (x5 m c) ⟨r, h⟩ (col q j) := by
  unfold da
  rw [dff_eq m c r h, aA_at m c q r j, aB_at m c q r j, dif_pos h, dif_pos h]
  exact fda_eq (rff_real f4 f5 _ _) (pre_real f0 f1 f2 _ _) (pre_real f0 f1 f3 _ _)

include f0 f1 f2 in
theorem db_eq (q : Fin 4) (j : Fin 704) :
    db (aY m c) (aA m c) (wD m c) q r j = rb (x0 m c) (x1 m c) (x2 m c) (x4 m c) (x5 m c) ⟨r, h⟩ (col q j) := by
  unfold db
  rw [dff_eq m c r h, aA_at m c q r j, dif_pos h]
  exact fdb_eq (pre_real f0 f1 f2 _ _)

include f0 f1 f2 f3 f4 f5 in
theorem dn_eq (k : Fin 1024) : dn (aY m c) (aA m c) (aB m c) (wG m c) (wU m c) (wD m c) r k
    = rn (x0 m c) (x1 m c) (x2 m c) (x3 m c) (x4 m c) (x5 m c) ⟨r, h⟩ k := by
  unfold dn part rn
  refine quarters (fun i => ra (x0 m c) (x1 m c) (x2 m c) (x3 m c) (x4 m c) (x5 m c) ⟨r, h⟩ i * x2 m c (ix3 0 k i))
    (fun i => rb (x0 m c) (x1 m c) (x2 m c) (x4 m c) (x5 m c) ⟨r, h⟩ i * x3 m c (ix3 0 k i))
    (fun q j => da (aY m c) (aA m c) (aB m c) (wD m c) q r j * wG m c (ix3 q j k))
    (fun q j => db (aY m c) (aA m c) (wD m c) q r j * wU m c (ix3 q j k)) (fun q j => ?_) (fun q j => ?_)
  · exact congrArg₂ (· * ·) (da_eq m c f0 f1 f2 f3 f4 f5 r h q j) (wG_at m c q j k)
  · exact congrArg₂ (· * ·) (db_eq m c f0 f1 f2 r h q j) (wU_at m c q j k)

theorem row_eq : row (aH m c) r = fun k => x0 m c (ix2 ⟨r, h⟩ k) :=
  funext fun k => (aH_at m c r k).trans (dif_pos h)

end Rows

include f0 f1 f2 f3 f4 f5 in
/-- The gradient at the gate's argument. -/
theorem gate_eq : ((dats m 0 c).arrAt 6 cfg0.N : FVec Ideal S4x4160x704 .bf16)
      = Cert.FfnBwdRefIdeal.Read.val_main_v68 (x0 m c) (x1 m c) (x2 m c) (x3 m c) (x4 m c) (x5 m c) := by
  funext y
  obtain ⟨q, r, j, rfl⟩ : ∃ q r j, y = ix3 q r j := ⟨y 0, y 1, y 2, by pointwise⟩
  refine (final6 m c q r j).trans (Eq.trans (α := EReal) ?_ (v68 _ _ _ _ _ _ q r j).symm)
  by_cases h : r.val < 4112
  · rw [dif_pos h, da_eq m c f0 f1 f2 f3 f4 f5 r h]
  · rw [dif_neg h, pad_da m c r h]

include f0 f1 f2 in
/-- The gradient at the other factor. -/
theorem other_eq : ((dats m 0 c).arrAt 7 cfg0.N : FVec Ideal S4x4160x704 .bf16)
      = Cert.FfnBwdRefIdeal.Read.val_main_v72 (x0 m c) (x1 m c) (x2 m c) (x4 m c) (x5 m c) := by
  funext y
  obtain ⟨q, r, j, rfl⟩ : ∃ q r j, y = ix3 q r j := ⟨y 0, y 1, y 2, by pointwise⟩
  refine (final7 m c q r j).trans (Eq.trans (α := EReal) ?_ (v72 _ _ _ _ _ q r j).symm)
  by_cases h : r.val < 4112
  · rw [dif_pos h, db_eq m c f0 f1 f2 r h]
  · rw [dif_neg h, pad_db m c r h]

include f0 f1 f2 f3 f4 f5 in
/-- The gradient at the block's rows. -/
theorem rows_eq : ((dats m 0 c).arrAt 8 cfg0.N : FVec Ideal S4160x1024 .f32)
      = Cert.FfnBwdRefIdeal.Read.val_main_v73 (x0 m c) (x1 m c) (x2 m c) (x3 m c) (x4 m c) (x5 m c) := by
  funext y
  obtain ⟨r, k, rfl⟩ : ∃ r k, y = ix2 r k := ⟨y 0, y 1, by pointwise⟩
  refine (final8 m c r k).trans (Eq.trans (α := EReal) ?_ (v73 _ _ _ _ _ _ r k).symm)
  unfold rows dh
  by_cases h : r.val < 4112
  · rw [dif_pos h, aR_at m c r k, dif_pos h]
    refine Eq.trans ?_ (v63 (x0 m c) (x1 m c) (x2 m c) (x3 m c) (x4 m c) (x5 m c) ⟨r, h⟩ k).symm
    rw [rms_grad width_1024 (f0 _) (fun k => (rn_real f0 f1 f2 f3 f4 f5 _ k).mul (f1 k)), row_eq m c r h]
    refine congrArg (fun d => x5 m c (ix2 ⟨r, h⟩ k) + grad width (fun k => x0 m c (ix2 ⟨r, h⟩ k)) d k) (funext fun k => ?_)
    exact congrArg₂ (· * ·) (dn_eq m c f0 f1 f2 f3 f4 f5 r h k) (aG_at m c k)
  · rw [dif_neg h, aR_at m c r k, dif_neg h, zero_add]
    exact grad_zero width_1024 (fun k => mul_eq_zero_of_left (pad_dn m c r h k) _) k

include f0 f1 f2 f3 f4 f5 in
/-- The norm weight's gradient. -/
theorem weight_eq : ((dats m 0 c).arrAt 9 cfg0.N : FVec Ideal S1x1024 .f32)
      = Cert.FfnBwdRefIdeal.Read.val_main_v64 (x0 m c) (x1 m c) (x2 m c) (x3 m c) (x4 m c) (x5 m c) := by
  funext y
  obtain ⟨z, k, rfl⟩ : ∃ z k, y = ix2 z k := ⟨y 0, y 1, by pointwise⟩
  obtain rfl : z = 0 := Subsingleton.elim _ _
  refine (final9 m c k).trans (Eq.trans (α := EReal) (sum_rows _ fun r h => mul_eq_zero_of_left (pad_dn m c r h k) _) (Eq.trans (α := EReal) ?_
    (v64 _ _ _ _ _ _ k).symm))
  refine Finset.sum_congr rfl fun r _ => ?_
  unfold termG rG
  rw [dn_eq m c f0 f1 f2 f3 f4 f5 ⟨r, by omega⟩ r.isLt, row_eq m c ⟨r, by omega⟩ r.isLt, aH_at m c _ k, dif_pos r.isLt, mul_comm]

end Finite

/-- The precondition, as real numbers. -/
theorem real_of_pre {m : (ℓ : Loc nD τ sig) → Buf (Elt Ideal) ℓ} (hp : Cert.Pre_FfnBwdIdeal_finite_ffn m) (c : Dev nD) :
    (∀ r k, Real' (x0 m c (ix2 r k))) ∧ (∀ k, Real' (x1 m c (ix2 0 k))) ∧ (∀ k i, Real' (x2 m c (ix3 0 k i)))
      ∧ (∀ k i, Real' (x3 m c (ix3 0 k i))) ∧ (∀ i k, Real' (x4 m c (ix3 0 i k))) ∧ (∀ r k, Real' (x5 m c (ix2 r k))) := by
  obtain ⟨h0, h1, h2, h3, h4, h5⟩ := hp c
  refine ⟨fun r k => ?_, fun k => ?_, fun k i => ?_, fun k i => ?_, fun i k => ?_, fun r k => ?_⟩
  · have := congrFun h0 (ix2 r k)
    pointwise [Cert.Pre_finite_ffn.fn] at this
    exact real_of_cmp this
  · have := congrFun h1 (ix2 0 k)
    pointwise [Cert.Pre_finite_ffn.fn] at this
    exact real_of_cmp this
  · have := congrFun h2 (ix3 0 k i)
    pointwise [Cert.Pre_finite_ffn.fn] at this
    exact real_of_cmp this
  · have := congrFun h3 (ix3 0 k i)
    pointwise [Cert.Pre_finite_ffn.fn] at this
    exact real_of_cmp this
  · have := congrFun h4 (ix3 0 i k)
    pointwise [Cert.Pre_finite_ffn.fn] at this
    exact real_of_cmp this
  · have := congrFun h5 (ix2 r k)
    pointwise [Cert.Pre_finite_ffn.fn] at this
    exact real_of_cmp this

section Results

/-! The reference's results, at a start that holds the kernel's arguments. -/

variable {m' : (ℓ : Loc Cert.FfnBwdRefIdeal.nD Cert.FfnBwdRefIdeal.τ Cert.FfnBwdRefIdeal.sig) → Buf (Elt Ideal) ℓ} {m c}
  (a0 : m' (c.tc.loc Cert.FfnBwdRefIdeal.main_arg0) = x0 m c) (a1 : m' (c.tc.loc Cert.FfnBwdRefIdeal.main_arg1) = x1 m c)
  (a2 : m' (c.tc.loc Cert.FfnBwdRefIdeal.main_arg2) = x2 m c) (a3 : m' (c.tc.loc Cert.FfnBwdRefIdeal.main_arg3) = x3 m c)
  (a4 : m' (c.tc.loc Cert.FfnBwdRefIdeal.main_arg4) = x4 m c) (a5 : m' (c.tc.loc Cert.FfnBwdRefIdeal.main_arg5) = x5 m c)
include a0 a1 a2 a3 a4 a5

theorem res68 : Cert.FfnBwdRefIdeal.Value.res_main_v68 m' c
    = Cert.FfnBwdRefIdeal.Read.val_main_v68 (x0 m c) (x1 m c) (x2 m c) (x3 m c) (x4 m c) (x5 m c) := by
  rw [Cert.FfnBwdRefIdeal.Read.val_main_v68_eq, a0, a1, a2, a3, a4, a5]

theorem res73 : Cert.FfnBwdRefIdeal.Value.res_main_v73 m' c
    = Cert.FfnBwdRefIdeal.Read.val_main_v73 (x0 m c) (x1 m c) (x2 m c) (x3 m c) (x4 m c) (x5 m c) := by
  rw [Cert.FfnBwdRefIdeal.Read.val_main_v73_eq, a0, a1, a2, a3, a4, a5]

theorem res64 : Cert.FfnBwdRefIdeal.Value.res_main_v64 m' c
    = Cert.FfnBwdRefIdeal.Read.val_main_v64 (x0 m c) (x1 m c) (x2 m c) (x3 m c) (x4 m c) (x5 m c) := by
  rw [Cert.FfnBwdRefIdeal.Read.val_main_v64_eq, a0, a1, a2, a3, a4, a5]

end Results

/-- The claim. -/
theorem algebraic : Cert.algebraic_FfnBwdIdeal_FfnBwdRefIdeal_pre_finite_ffn := by
  intro m g m' g' hp ha
  refine ⟨fun c => (dats m 0 c).arrAt 6 cfg0.N, fun c => (dats m 0 c).arrAt 7 cfg0.N, fun c => (dats m 0 c).arrAt 8 cfg0.N,
    fun c => (dats m 0 c).arrAt 9 cfg0.N,
    Cert.FfnBwdIdeal.Value.run_blocks m g, (θ_run Cert.FfnBwdRefIdeal.defs _ _).mono ?_ (Cert.FfnBwdRefIdeal.Value.run m' g')⟩
  intro r h c
  obtain ⟨h6, h7, h8, h9, hk⟩ := h c
  obtain ⟨a0, a1, a2, a3, a4, a5⟩ := ha c
  obtain ⟨f0, f1, f2, f3, f4, f5⟩ := real_of_pre hp c
  dsimp only
  rw [gate_eq m c f0 f1 f2 f3 f4 f5, other_eq m c f0 f1 f2, rows_eq m c f0 f1 f2 f3 f4 f5, weight_eq m c f0 f1 f2 f3 f4 f5]
  refine ⟨h6.trans (res68 a0 a1 a2 a3 a4 a5), h7.trans ?_, h8.trans (res73 a0 a1 a2 a3 a4 a5), h9.trans (res64 a0 a1 a2 a3 a4 a5), hk⟩
  refine (Cert.FfnBwdRefIdeal.Read.val_main_v72_eq _ _ _ _ _).trans ?_
  change m' (c.tc.loc Cert.FfnBwdRefIdeal.main_arg0) = x0 m c at a0
  change m' (c.tc.loc Cert.FfnBwdRefIdeal.main_arg1) = x1 m c at a1
  change m' (c.tc.loc Cert.FfnBwdRefIdeal.main_arg2) = x2 m c at a2
  change m' (c.tc.loc Cert.FfnBwdRefIdeal.main_arg4) = x4 m c at a4
  change m' (c.tc.loc Cert.FfnBwdRefIdeal.main_arg5) = x5 m c at a5
  rw [a0, a1, a2, a4, a5]

end Cert.FfnBwdEqual

end
-- ==== Proof.Keeps.lean ====
/- Bodies that only load and store buffers they hold, with nothing said of the values: an assertion that holds every
   buffer a body touches, at some contents, is kept by the body. The rules follow the program's syntax: a value, a
   sequence, a load, a store, a counted loop, a branch. -/
module

public import Idealize.ShloMosaic.Lib.Memref
public import Idealize.ShloMosaic.Lib.Scf
public import Idealize.ShloMosaic.Lib.Tactic
public import Idealize.ShloMosaic.Lib.Pipeline.FrameBody

@[expose] public section

noncomputable section

namespace Cert.Keeps

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}
variable {U : Type} [URA U]

local notation "𝕄" => MT nD τ sig Unit Val ℕ U ℕ

/-- The memref's elements, held whole, at some contents. -/
def some (c : Dev nD) {sp : Space} {s : Shape} {e : EltTy} (r : Memref sig .tc sp s e) : sProp 𝕄 :=
  iprop(∃ f, (r.view.loc (c : Thread nD τ) ↦[r.view.set]{fullShare} f))

/-- `P` holds the memref at some contents, and nothing else of `P` depends on which. -/
def Holds (P : sProp 𝕄) (c : Dev nD) {sp : Space} {s : Shape} {e : EltTy} (r : Memref sig .tc sp s e) : Prop :=
  P ⊢ iprop(some c r ∗ (some c r -∗ P))

/-- From `P` the program runs, and `P` is there again whatever it returns. -/
@[irreducible] def Keeps (defs : Defs nD τ sig Val Λ) (𝒱 : Variants) (c : Dev nD) (bd : Option 𝒱.V) (E : Set ℕ) (P : sProp 𝕄) {α : Type}
    (p : Prog (TpuEff nD τ sig Val Λ .tc) α) : Prop :=
  P ⊢ wp frame (wpE defs 𝒱 (c : Thread nD τ) bd) E p (fun _ => P)

variable {defs : Defs nD τ sig Val Λ} {𝒱 : Variants} {c : Dev nD} {bd : Option 𝒱.V} {E : Set ℕ}
variable {P : sProp (MT nD τ sig Unit Val ℕ U ℕ)}

/-- A value. -/
theorem ret {α : Type} (a : α) : Keeps (U := U) defs 𝒱 c bd E P (pure a) := by
  unfold Keeps; rw [wp_pure]; exact fupd_intro

/-- One program after another. -/
theorem seq {α β : Type} {p : Prog (TpuEff nD τ sig Val Λ .tc) α} {k : α → Prog (TpuEff nD τ sig Val Λ .tc) β}
    (hp : Keeps (U := U) defs 𝒱 c bd E P p) (hk : ∀ a, Keeps (U := U) defs 𝒱 c bd E P (k a)) : Keeps (U := U) defs 𝒱 c bd E P (p >>= k) := by
  unfold Keeps at *; rw [wp_bind]; exact hp.trans (wp_mono _ _ _ hk)

/-- A load of a buffer that is held. -/
theorem loads {sp : CoreSpace} {s : Shape} {e : EltTy} {r : Memref sig .tc sp s e} {w : LoadRect s} {hl : r.view.LoadsAt w}
    (h : Holds (U := U) P c r) : Keeps (U := U) defs 𝒱 c bd E P (Prog.lift (.load r w hl)) := by
  unfold Keeps
  refine h.trans ?_
  unfold some
  iintro ⟨⟨%f, H⟩, Hk⟩
  iapply (wp_load 𝒱 (c : Thread nD τ) bd E (View.setOn_subset_set _ _)) $$ H
  iintro H
  rw [wp_ret]
  imodintro
  iapply Hk
  iexists f; iexact H

/-- A store to a buffer that is held. -/
theorem stores {sp : CoreSpace} {s : Shape} {e : EltTy} {r : Memref sig .tc sp s e} {w : Rect s} {x : w.shape.Idx → Val e}
    {M : Finset w.shape.Idx} {hx : (r.access w).Stores M} {hm : M = Finset.univ ∨ ∀ a, w.stride a = 1}
    (h : Holds (U := U) P c r) : Keeps (U := U) defs 𝒱 c bd E P (Prog.lift (.store r w x M hx hm)) := by
  unfold Keeps
  refine h.trans ?_
  unfold some
  iintro ⟨⟨%f, H⟩, Hk⟩
  iapply (wp_store (m := r) (r := w) (w := x) (Mk := M) (hx := hx) (hm := hm) (f := f) 𝒱 (c : Thread nD τ) bd E ((View.setOn_subset_set _ _).trans (View.set_slice_subset _ _))) $$ H
  iintro H
  rw [wp_ret]
  imodintro
  iapply Hk
  iexists _; iexact H

/-- A counted loop whose trips keep `P`. -/
theorem loop {w : Nat} {σ : Type} {l : Scf.Loop w} {hok : l.OK} {init : σ}
    {body : Fin l.trips → σ → Prog (TpuEff nD τ sig Val Λ .tc) σ}
    (h : ∀ k acc, Keeps (U := U) defs 𝒱 c bd E P (body k acc)) : Keeps (U := U) defs 𝒱 c bd E P (Scf.Loop.for l hok init body) := by
  unfold Keeps at *
  iintro H
  iapply (Scf.wp_for frame (wpE defs 𝒱 (c : Thread nD τ) bd) E l.lb l.ub l.st hok init body (fun _ _ => P) h)
  isplitl [H]
  · iexact H
  · iintro %acc H; iexact H

/-- A branch, either side. -/
theorem branch {α : Type} {q : Prop} [Decidable q] {a : q → Prog (TpuEff nD τ sig Val Λ .tc) α}
    {b : ¬ q → Prog (TpuEff nD τ sig Val Λ .tc) α} (ha : ∀ h, Keeps (U := U) defs 𝒱 c bd E P (a h))
    (hb : ∀ h, Keeps (U := U) defs 𝒱 c bd E P (b h)) : Keeps (U := U) defs 𝒱 c bd E P (dite q a b) := by
  by_cases h : q
  · rw [dif_pos h]; exact ha h
  · rw [dif_neg h]; exact hb h

/-! ## What an assertion holds -/

/-- Owning a memref at some values is holding it. -/
theorem owned {sp : Space} {s : Shape} {e : EltTy} (r : Memref sig .tc sp s e) :
    Holds (iprop(∃ X, owns (c : Thread nD τ) r fullShare X) : sProp 𝕄) c r := by
  unfold Holds some owns
  iintro ⟨%X, %f, -, H⟩
  isplitl [H]
  · iexists f; iexact H
  · iintro ⟨%g, H⟩
    iexists _; iexists g
    isplitr
    · ipureintro; rfl
    · iexact H

/-- A whole buffer at some contents is held. -/
theorem whole (b : Ref sig .tc) :
    Holds (iprop(∃ f : Buf Val ((c.tc : Thread nD τ).loc b), ((c.tc : Thread nD τ).loc b) ↦{fullShare} f) : sProp 𝕄) c (Memref.whole b) := by
  unfold Holds some
  iintro ⟨%f, H⟩
  isplitl [H]
  · iexists f
    rw [show (Memref.whole b : Memref sig .tc _ _ _).view.set = Finset.univ from View.set_whole _]
    iexact H
  · iintro ⟨%g, H⟩
    iexists g
    rw [show (Memref.whole b : Memref sig .tc _ _ _).view.set = Finset.univ from View.set_whole _]
    iexact H

/-- What the left part holds, the whole holds. -/
theorem left {R : sProp 𝕄} {sp : Space} {s : Shape} {e : EltTy} {r : Memref sig .tc sp s e} (h : Holds (U := U) P c r) :
    Holds (U := U) iprop(P ∗ R) c r := by
  unfold Holds at h ⊢
  refine (sep_mono h .rfl).trans ?_
  iintro ⟨⟨H, Hk⟩, HR⟩
  isplitl [H]
  · iexact H
  · iintro H
    isplitl [H Hk]
    · iapply Hk; iexact H
    · iexact HR

/-- What the right part holds, the whole holds. -/
theorem right {R : sProp 𝕄} {sp : Space} {s : Shape} {e : EltTy} {r : Memref sig .tc sp s e} (h : Holds (U := U) P c r) :
    Holds (U := U) iprop(R ∗ P) c r := by
  unfold Holds at h ⊢
  refine (sep_mono .rfl h).trans ?_
  iintro ⟨HR, H, Hk⟩
  isplitl [H]
  · iexact H
  · iintro H
    isplitl [HR]
    · iexact HR
    · iapply Hk; iexact H

/-- What one of a family holds, the family holds. -/
theorem member {I : Type} [DecidableEq I] {S : Finset I} {Φ : I → sProp 𝕄} {i : I} (hi : i ∈ S)
    {sp : Space} {s : Shape} {e : EltTy} {r : Memref sig .tc sp s e} (h : Holds (U := U) (Φ i) c r) :
    Holds (U := U) (bigSep S Φ) c r := by
  rw [bigSep_erase hi]
  exact left h

end Cert.Keeps

end
-- ==== Proof.LossCopies.lean ====
/- The loss call's own transfers. At the first point its body copies the three stacks of weights it leaves in the
   chip's large memory into scratch, one counter each, all three in flight together, and waits for them one after the
   other. What they need is the scratch at some contents, the stacks at theirs, the counters at zero and the record of
   waits; all of that is there again when the waits are over. -/
module

public import proofs.«01_k».proof.Proof.Gen.Loss.Skeleton
public import proofs.«01_k».proof.Proof.Keeps

@[expose] public section

noncomputable section

namespace Cert.LossCopies

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Loss Cert.Loss.Gen Cert.Keeps

variable {F : FTy → Type} [FloatOps F]

local notation "𝕄" => MT nD τ sig Unit (Elt F) ℕ (Pipeline.UD sig nD τ) ℕ

/-- The three stacks and the three scratch buffers they are copied to. -/
abbrev src0 : Memref sig .tc .hbm S4x704x1024 .bf16 := Memref.whole main_v6
abbrev src1 : Memref sig .tc .hbm S4x704x1024 .bf16 := Memref.whole main_v10
abbrev src2 : Memref sig .tc .hbm S4x704x1024 .bf16 := Memref.whole main_v13
abbrev dst0 : Memref sig .tc .vmem S4x704x1024 .bf16 := Memref.whole cc0_scratch0
abbrev dst1 : Memref sig .tc .vmem S4x704x1024 .bf16 := Memref.whole cc0_scratch1
abbrev dst2 : Memref sig .tc .vmem S4x704x1024 .bf16 := Memref.whole cc0_scratch2

/-- What a stack's buffer may hold, and the buffer held at that. -/
abbrev Stack (c : Dev nD) {sp : Space} {s : Shape} {e : EltTy} (r : Memref sig .tc sp s e) : Type :=
  Buf (Elt F) (r.view.loc (c : Thread nD τ))
abbrev at' (c : Dev nD) {sp : Space} {s : Shape} {e : EltTy} (r : Memref sig .tc sp s e) (f : Stack (F := F) c r) : sProp 𝕄 :=
  r.view.loc (c : Thread nD τ) ↦{fullShare} f

/-- What the transfers need and give back. -/
def ready (c : Dev nD) (f0 : Stack (F := F) c src0) (f1 : Stack (F := F) c src1) (f2 : Stack (F := F) c src2) : sProp 𝕄 :=
  iprop((∃ d, owns (c : Thread nD τ) dst0 fullShare d) ∗ (∃ d, owns (c : Thread nD τ) dst1 fullShare d)
    ∗ (∃ d, owns (c : Thread nD τ) dst2 fullShare d)
    ∗ semVal ((c : Thread nD τ), SemLoc.dma 27) 0 ∗ semVal ((c : Thread nD τ), SemLoc.dma 28) 0 ∗ semVal ((c : Thread nD τ), SemLoc.dma 29) 0
    ∗ at' c src0 f0 ∗ at' c src1 f1 ∗ at' c src2 f2 ∗ ∃ W, owes (c : Thread nD τ) 0 W)

/-- The counters of the transfers. -/
abbrev cell0 : DmaSems sig S_ := (cc0_scratch3.slice (Rect.unit (s := S3) ![0] S1.size inb_S3_S1_0)).squeeze S_ squeezes_S1_S_
abbrev cell1 : DmaSems sig S_ := (cc0_scratch3.slice (Rect.unit (s := S3) ![1] S1.size inb_S3_S1_1)).squeeze S_ squeezes_S1_S_
abbrev cell2 : DmaSems sig S_ := (cc0_scratch3.slice (Rect.unit (s := S3) ![2] S1.size inb_S3_S1_2)).squeeze S_ squeezes_S1_S_

/-- The transfers, the waits, then what follows. -/
abbrev copying (h0 : src0.IsWhole) (h1 : src1.IsWhole) (h2 : src2.IsWhole) (k0 : dst0.IsWhole) (k1 : dst1.IsWhole) (k2 : dst2.IsWhole)
    (q : Prog (TpuEff nD τ sig (Elt F) Λ₀ .tc) PUnit) : Prog (TpuEff nD τ sig (Elt F) Λ₀ .tc) PUnit := do
  Prog.lift (.enqueueDma src0 (.here dst0) (.dma cell0.sem) h0.wordExact k0.wordExact ⟨Or.inl rfl, trivial⟩)
  Prog.lift (.enqueueDma src1 (.here dst1) (.dma cell1.sem) h1.wordExact k1.wordExact ⟨Or.inl rfl, trivial⟩)
  Prog.lift (.enqueueDma src2 (.here dst2) (.dma cell2.sem) h2.wordExact k2.wordExact ⟨Or.inl rfl, trivial⟩)
  Prog.lift (.waitDma2 cell0.sem src0 dst0 h0.wordExact k0.wordExact)
  Prog.lift (.waitDma2 cell1.sem src1 dst1 h1.wordExact k1.wordExact)
  Prog.lift (.waitDma2 cell2.sem src2 dst2 h2.wordExact k2.wordExact)
  q

set_option maxHeartbeats 1000000 in
/-- An assertion that holds what they need is kept by them. -/
theorem keeps {P : sProp 𝕄} (c : Dev nD) (f0 : Stack (F := F) c src0) (f1 : Stack (F := F) c src1) (f2 : Stack (F := F) c src2)
    (h : P ⊢ iprop(ready c f0 f1 f2 ∗ (ready c f0 f1 f2 -∗ P)))
    (h0 : src0.IsWhole) (h1 : src1.IsWhole) (h2 : src2.IsWhole) (k0 : dst0.IsWhole) (k1 : dst1.IsWhole) (k2 : dst2.IsWhole) :
    Keeps (U := Pipeline.UD sig nD τ) (defs₀ (F := F)) Variants.none c none Set.univ P (copying h0 h1 h2 k0 k1 k2 (pure ⟨⟩)) := by
  unfold Keeps
  refine h.trans ?_
  unfold ready owns
  iintro ⟨⟨⟨%d0, %g0, -, H0⟩, ⟨%d1, %g1, -, H1⟩, ⟨%d2, %g2, -, H2⟩, Hq0, Hq1, Hq2, Hh0, Hh1, Hh2, ⟨%W, HW⟩⟩, Hk⟩
  sl_exec
  sl_step
  iapply Hk
  isplitl [H0]
  · iexists _, _; isplitr; swap; · iexact H0
    ipureintro; rfl
  isplitl [H1]
  · iexists _, _; isplitr; swap; · iexact H1
    ipureintro; rfl
  isplitl [H2]
  · iexists _, _; isplitr; swap; · iexact H2
    ipureintro; rfl
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  iexists _; iexact HW

/-- And what follows keeps it too. -/
theorem andThen {P : sProp 𝕄} {c : Dev nD} {h0 : src0.IsWhole} {h1 : src1.IsWhole} {h2 : src2.IsWhole}
    {k0 : dst0.IsWhole} {k1 : dst1.IsWhole} {k2 : dst2.IsWhole} {q : Prog (TpuEff nD τ sig (Elt F) Λ₀ .tc) PUnit}
    (h : Keeps (U := Pipeline.UD sig nD τ) (defs₀ (F := F)) Variants.none c none Set.univ P (copying h0 h1 h2 k0 k1 k2 (pure ⟨⟩)))
    (hq : Keeps (U := Pipeline.UD sig nD τ) (defs₀ (F := F)) Variants.none c none Set.univ P q) :
    Keeps (U := Pipeline.UD sig nD τ) (defs₀ (F := F)) Variants.none c none Set.univ P (copying h0 h1 h2 k0 k1 k2 q) := by
  rw [show copying (F := F) h0 h1 h2 k0 k1 k2 q = copying h0 h1 h2 k0 k1 k2 (pure ⟨⟩) >>= fun _ => q from rfl]
  exact seq h fun _ => hq

end Cert.LossCopies

end
-- ==== Proof.LossBody.lean ====
/- The body of the loss call keeps any assertion that holds its staging buffers and its scratch and what its transfers
   need: it loads and stores them in a fixed order, under three branches, and at the first point copies its weights. -/
module

public import proofs.«01_k».proof.Proof.LossCopies

@[expose] public section

noncomputable section

namespace Cert.LossBody

open Idealize.ShloMosaic Idealize.ShloMosaic.TcCoe
open Idealize.SL Idealize.SL.RA Idealize.SL.BI
open scoped Idealize.SL.BI
open Cert.Loss Cert.Loss.Gen Cert.Keeps Cert.LossCopies

variable {F : FTy → Type} [FloatOps F]
variable {P : sProp (MT nD τ sig Unit (Elt F) ℕ (Pipeline.UD sig nD τ) ℕ)}

set_option maxHeartbeats 4000000 in
set_option maxRecDepth 65536 in
/-- The body keeps what holds the buffers it touches and is kept by the transfers. -/
theorem keeps (c : Dev nD) (i : grid0.Coords)
    (arg2 : Memref sig .tc .vmem S320x1024 .f32) (harg2 : arg2.IsWhole)
    (arg3 : Memref sig .tc .vmem S320x512 .bf16) (harg3 : arg3.IsWhole)
    (arg4 : Memref sig .tc .vmem S320x512 .bf16) (harg4 : arg4.IsWhole)
    (arg5 : Memref sig .tc .vmem S1024x1024 .bf16) (harg5 : arg5.IsWhole)
    (arg6 : Memref sig .tc .vmem S1x1024 .f32) (harg6 : arg6.IsWhole)
    (harg7 : src0.IsWhole)
    (harg8 : src1.IsWhole)
    (harg9 : src2.IsWhole)
    (arg10 : Memref sig .tc .vmem S1x1024 .f32) (harg10 : arg10.IsWhole)
    (arg11 : Memref sig .tc .vmem S320x1024 .f32) (harg11 : arg11.IsWhole)
    (arg12 : Memref sig .tc .vmem S320x1024 .f32) (harg12 : arg12.IsWhole)
    (arg13 : Memref sig .tc .vmem S320x1024 .bf16) (harg13 : arg13.IsWhole)
    (arg14 : Memref sig .tc .vmem S4x320x704 .bf16) (harg14 : arg14.IsWhole)
    (arg15 : Memref sig .tc .vmem S4x320x704 .bf16) (harg15 : arg15.IsWhole)
    (arg16 : Memref sig .tc .vmem S4x320x704 .bf16) (harg16 : arg16.IsWhole)
    (arg17 : Memref sig .tc .vmem S320x1024 .f32) (harg17 : arg17.IsWhole)
    (arg18 : Memref sig .tc .vmem S320x1024 .bf16) (harg18 : arg18.IsWhole)
    (arg19 : Memref sig .tc .vmem S8x128 .f32) (harg19 : arg19.IsWhole)
    (arg20 : Memref sig .tc .vmem S1x1024 .f32) (harg20 : arg20.IsWhole)
    (harg21 : dst0.IsWhole)
    (harg22 : dst1.IsWhole)
    (harg23 : dst2.IsWhole)
    (arg25 : Memref sig .tc .vmem S320x1024 .f32) (harg25 : arg25.IsWhole)
    (karg2 : Holds (U := Pipeline.UD sig nD τ) P c arg2)
    (karg3 : Holds (U := Pipeline.UD sig nD τ) P c arg3)
    (karg4 : Holds (U := Pipeline.UD sig nD τ) P c arg4)
    (karg5 : Holds (U := Pipeline.UD sig nD τ) P c arg5)
    (karg6 : Holds (U := Pipeline.UD sig nD τ) P c arg6)
    (karg10 : Holds (U := Pipeline.UD sig nD τ) P c arg10)
    (karg11 : Holds (U := Pipeline.UD sig nD τ) P c arg11)
    (karg12 : Holds (U := Pipeline.UD sig nD τ) P c arg12)
    (karg13 : Holds (U := Pipeline.UD sig nD τ) P c arg13)
    (karg14 : Holds (U := Pipeline.UD sig nD τ) P c arg14)
    (karg15 : Holds (U := Pipeline.UD sig nD τ) P c arg15)
    (karg16 : Holds (U := Pipeline.UD sig nD τ) P c arg16)
    (karg17 : Holds (U := Pipeline.UD sig nD τ) P c arg17)
    (karg18 : Holds (U := Pipeline.UD sig nD τ) P c arg18)
    (karg19 : Holds (U := Pipeline.UD sig nD τ) P c arg19)
    (karg20 : Holds (U := Pipeline.UD sig nD τ) P c arg20)
    (karg21 : Holds (U := Pipeline.UD sig nD τ) P c dst0)
    (karg22 : Holds (U := Pipeline.UD sig nD τ) P c dst1)
    (karg23 : Holds (U := Pipeline.UD sig nD τ) P c dst2)
    (karg25 : Holds (U := Pipeline.UD sig nD τ) P c arg25)
    (kcopy : Keeps (U := Pipeline.UD sig nD τ) (defs₀ (F := F)) Variants.none c none Set.univ P (copying harg7 harg8 harg9 harg21 harg22 harg23 (pure ⟨⟩)))
    : Keeps (U := Pipeline.UD sig nD τ) (defs₀ (F := F)) Variants.none c none Set.univ P (cc0_fwd_ffn (F := F) i arg2 harg2 arg3 harg3 arg4 harg4 arg5 harg5 arg6 harg6 src0 harg7 src1 harg8 src2 harg9 arg10 harg10 arg11 harg11 arg12 harg12 arg13 harg13 arg14 harg14 arg15 harg15 arg16 harg16 arg17 harg17 arg18 harg18 arg19 harg19 arg20 harg20 dst0 harg21 dst1 harg22 dst2 harg23 cc0_scratch3 arg25 harg25) := by
  rw [cc0_fwd_ffn_eq_skeleton]
  unfold cc0_fwd_ffn_skel
  repeat' first
    | with_reducible assumption
    | with_reducible apply andThen kcopy
    | with_reducible apply seq
    | with_reducible apply loads
    | with_reducible apply stores
    | with_reducible apply ret
    | with_reducible apply branch
    | with_reducible intro _
    | (with_reducible change Keeps (U := Pipeline.UD sig nD τ) _ _ _ _ _ _ (Idealize.SL.Sem.Prog.lift _); apply loads)
    | apply seq
    | apply ret
    | apply branch

end Cert.LossBody

end
-- ==== Proof.LossFrame.lean ====
/- The frame of the loss call: the program runs to its end at every point and leaves its arguments and the counters as
   they were. What stands at every point is the staging buffers and the scratch at some contents, the counters of its
   own transfers at zero and the weights it copies as the host code left them; the body keeps that (LossBody.lean). The
   same holds over the extended reals, whose program is the printed one read there. -/
module

public import proofs.«01_k».proof.Defs
public import proofs.«01_k».proof.Proof.Gen.Loss.Launch
public import proofs.«01_k».proof.Proof.Gen.Loss.Points
public import proofs.«01_k».proof.Proof.Gen.Loss.Frame
public import proofs.«01_k».proof.Proof.LossBody
public import Idealize.ShloMosaic.Lib.Claim

@[expose] public section

set_option maxRecDepth 9436
set_option backward.isDefEq.respectTransparency.types false

noncomputable section

namespace Cert.LossFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Loss Cert.Loss.Gen Cert.Keeps Cert.LossCopies

section

variable {F : FTy → Type} [FloatOps F]
variable (m : (ℓ : Loc nD τ sig) → Buf (Elt F) ℓ) (ρ : Dev nD → PrngReg)

local notation "𝕄" => MT nD τ sig Unit (Elt F) ℕ (Pipeline.UD sig nD τ) ℕ

/-- The counters of the body's own transfers; none is a window's. -/
def counters : Fin 3 → SemLoc sig := ![SemLoc.dma 27, SemLoc.dma 28, SemLoc.dma 29]

theorem counters_own : Pipeline.OwnSemFacts spec0 counters := by decide

/-- The arrays it copies; none is a window's. -/
def copied : Finset (Ref sig .tc) := {main_v6, main_v10, main_v13}

theorem copied_rest : copied ⊆ Pipeline.restRefs sig spec0 := by decide

/-- What stands between the points, besides the windows. -/
abbrev between (c : Dev nD) : sProp 𝕄 := Pipeline.ΦD counters spec0 copied (V m) c

/-- The call's arrays as the host code leaves them; nothing said of what a point leaves. -/
def dats (_ : Fin 1) (c : Dev nD) : Dat τ (Elt F) Unit ℕ (Pipeline.UD sig nD τ) ℕ cfg0 c where
  A w := V m c (Pipeline.arrRef spec0 w)
  after := Pipeline.Dat.unnamed (cfg := cfg0)
  Φ _ := between m c
  q _ := fullShare
  owed _ := 0

/-- Every window is left at some contents. -/
abbrev any : Fin cfg0.W → Bool := fun _ => true

/-- What stands before and after the body at a point. -/
def held (c : Dev nD) (t : Fin cfg0.N) : sProp 𝕄 :=
  iprop(between m c ∗ (dats m 0 c).owesAt () t.castSucc
    ∗ bigSep Finset.univ fun w : Fin cfg0.W =>
        iprop(∃ X, owns (c : Thread nD τ) ((cfg0.win w).stage (cfg0.slots t w)) fullShare X))

/-- It holds every staging buffer, -/
theorem staged (c : Dev nD) (t : Fin cfg0.N) (w : Fin cfg0.W) :
    Holds (U := Pipeline.UD sig nD τ) (held m c t) c ((cfg0.win w).stage (cfg0.slots t w)) :=
  right (right (member (Finset.mem_univ w) (owned _)))

/-- every scratch buffer, -/
theorem scratch (c : Dev nD) (t : Fin cfg0.N) (b : Ref sig .tc) (hb : b.isScoped = true)
    (hw : ∀ p : (w : Fin 16) × Fin (spec0 w).nbuf, Pipeline.stageRef spec0 p ≠ b) :
    Holds (U := Pipeline.UD sig nD τ) (held m c t) c (Memref.whole b) := by
  unfold held between
  rw [Pipeline.ΦD_eq]
  unfold Pipeline.scopedRest
  refine left (left (member (i := b) ?_ (whole b)))
  simp only [Finset.mem_sdiff, Finset.mem_filter, Finset.mem_univ, true_and, Finset.mem_image, not_exists]
  exact ⟨hb, hw⟩

/-- The counters, one by one, -/
theorem counters_eq (c : Dev nD) :
    (Pipeline.ownSems0 (Ix := Unit) (Name := ℕ) (U := Pipeline.UD sig nD τ) (Lvl := ℕ) (Val := Elt F) (τ := τ) counters c : sProp 𝕄)
      = iprop(semVal ((c : Thread nD τ), SemLoc.dma 27) 0 ∗ semVal ((c : Thread nD τ), SemLoc.dma 28) 0
          ∗ semVal ((c : Thread nD τ), SemLoc.dma 29) 0) := by
  rw [Pipeline.ownSems0_eq_of_list c counters [0, 1, 2] (by decide) (by decide)]; rfl

/-- and the arrays. -/
theorem copied_eq (c : Dev nD) :
    (bigSep copied (fun b => ((c : Thread nD τ).loc b) ↦{fullShare} V m c b) : sProp 𝕄)
      = iprop(at' c src0 (V m c main_v6) ∗ at' c src1 (V m c main_v10) ∗ at' c src2 (V m c main_v13)) := by
  rw [BI.bigSep_eq_bigSepL_of_eq [main_v6, main_v10, main_v13] (by decide) (by decide)]; rfl

/-- and what the transfers need. -/
theorem transfers (c : Dev nD) (t : Fin cfg0.N) :
    held m c t ⊢ iprop(ready c (V m c main_v6) (V m c main_v10) (V m c main_v13)
      ∗ (ready c (V m c main_v6) (V m c main_v10) (V m c main_v13) -∗ held m c t)) := by
  unfold held between Dat.owesAt Pipeline.owesWithin
  rw [Pipeline.ΦD_eq, scopedRest0_eq, counters_eq, copied_eq, show (dats m 0 c).owed t.castSucc = 0 from rfl]
  unfold ready
  simp only [owns_whole]
  iintro ⟨⟨⟨HS0, HS1, HS2, HS3⟩, Hg, ⟨Hq0, Hq1, Hq2⟩, Hh0, Hh1, Hh2⟩, ⟨%W, -, HW⟩, Hw⟩
  isplitl [HS0 HS1 HS2 Hq0 Hq1 Hq2 Hh0 Hh1 Hh2 HW]
  · isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists W; iexact HW
  · iintro ⟨HS0, HS1, HS2, Hq0, Hq1, Hq2, Hh0, Hh1, Hh2, ⟨%W', HW⟩⟩
    isplitl [HS0 HS1 HS2 HS3 Hg Hq0 Hq1 Hq2 Hh0 Hh1 Hh2]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2]
      · isplitl [Hq0]; · iexact Hq0
        isplitl [Hq1]; · iexact Hq1
        iexact Hq2
      isplitl [Hh0]; · iexact Hh0
      isplitl [Hh1]; · iexact Hh1
      iexact Hh2
    isplitl [HW]
    · iexists W'
      isplitr
      · ipureintro; exact fun _ _ => Or.inl trivial
      · iexact HW
    · iexact Hw

/-- The body at a point. -/
theorem point (c : Dev nD) (t : Fin cfg0.N) :
    Keeps (U := Pipeline.UD sig nD τ) (defs₀ (F := F)) Variants.none c none Set.univ (held m c t) (bodyAt0 t) :=
  LossBody.keeps c (grid0.coords t)
      (karg2 := staged m c t 0) (karg3 := staged m c t 1) (karg4 := staged m c t 2)
      (karg5 := staged m c t 3) (karg6 := staged m c t 4) (karg10 := staged m c t 5)
      (karg11 := staged m c t 6) (karg12 := staged m c t 7) (karg13 := staged m c t 8)
      (karg14 := staged m c t 9) (karg15 := staged m c t 10) (karg16 := staged m c t 11)
      (karg17 := staged m c t 12) (karg18 := staged m c t 13) (karg19 := staged m c t 14)
      (karg20 := staged m c t 15) (karg21 := scratch m c t cc0_scratch0 rfl (by decide)) (karg22 := scratch m c t cc0_scratch1 rfl (by decide))
      (karg23 := scratch m c t cc0_scratch2 rfl (by decide)) (karg25 := scratch m c t cc0_scratch4 rfl (by decide))
      (kcopy := LossCopies.keeps c _ _ _ (transfers m c t) _ _ _ _ _ _) ..

theorem obligation (c : Dev nD) : BodyObligation (dats m 0 c) defs₀ Variants.none () Set.univ any := fun t => by
  have h := point m c t
  unfold Keeps held at h
  exact h

/-- The host code, and the call after it. -/
theorem reaches : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2, hostOps0_3, hostOps0_4, hostOps0_5, hostOps0_6, hostOps0_7]
    ⟨hostOps0_sub, hostOps0_1_sub, hostOps0_2_sub, hostOps0_3_sub, hostOps0_4_sub, hostOps0_5_sub, hostOps0_6_sub, hostOps0_7_sub⟩
    ⟨hostOps0_fresh, hostOps0_1_fresh, hostOps0_2_fresh, hostOps0_3_fresh, hostOps0_4_fresh, hostOps0_5_fresh, hostOps0_6_fresh, hostOps0_7_fresh⟩
    main_chain

set_option maxHeartbeats 2000000 in
/-- The run: no counter is left up, and an array no window is on keeps what the host code left there. -/
theorem run : θ_run defs (onTc (τ := τ) (main (F := F))) (s₀ m ρ)
    (fun r => Pipeline.RDat.FramePost (cfgs 0) (fun c => (dats m 0 c).toRForget any) (V m) r ∧ r.2.sem = fun _ => 0) :=
  Pipeline.θ_run_frame_dma_forget cfgs (dats m) (0 : Fin 1) launch0 counters defs₀ Variants.none any counters_own copied copied_rest m ρ main
    (hbody := fun c => (obligation m c).loose) (hshare := fun c => (dats m 0 c).share_full fun _ => rfl) (howed := fun _ _ => rfl)
    (V := V m) (hmain := reaches m) (hA := fun _ _ => by dsimp only [dats])
    (hin := fun _ => by dsimp only [dats]; exact .rfl) (hout := fun _ => by dsimp only [dats]; exact .rfl)
    (Q' := _) (hQ' := fun _ h => h)

/-- An array no window is on ends as the host code left it. -/
theorem rest (c : Dev nD) (b : Ref sig .tc) (hb : V m c b = m ((c : Thread nD τ).loc b)) (hs : b.isScoped = false)
    (hw : ∀ w : Fin 16, Pipeline.arrRef spec0 w ≠ b) (r : PUnit × MemSt nD τ sig (Elt F))
    (h : ∀ b ∈ Pipeline.restRefs sig spec0, r.2.mem ((c : Thread nD τ).loc b) = V m c b) :
    r.2.mem ((c : Thread nD τ).loc b) = m ((c : Thread nD τ).loc b) :=
  (h b (Pipeline.mem_restRefs_of b hs hw)).trans hb

theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8))
      ∧ r.2.sem = fun _ => 0) :=
  (θ_run defs _ _).mono (fun r h => ⟨fun c => ⟨rest m c main_arg0 (V_main_arg0 m c) rfl (by decide) r (h.1 c).2,
    rest m c main_arg1 (V_main_arg1 m c) rfl (by decide) r (h.1 c).2,
    rest m c main_arg2 (V_main_arg2 m c) rfl (by decide) r (h.1 c).2,
    (Pipeline.RDat.FramePost.arr_in h.1 c 4 rfl).trans (V_main_arg3 m c),
    rest m c main_arg4 (V_main_arg4 m c) rfl (by decide) r (h.1 c).2,
    rest m c main_arg5 (V_main_arg5 m c) rfl (by decide) r (h.1 c).2,
    rest m c main_arg6 (V_main_arg6 m c) rfl (by decide) r (h.1 c).2,
    rest m c main_arg7 (V_main_arg7 m c) rfl (by decide) r (h.1 c).2,
    rest m c main_arg8 (V_main_arg8 m c) rfl (by decide) r (h.1 c).2⟩, h.2⟩) (run m ρ)

end

variable [h : Loss.Facts] [h' : LossIdeal.Facts]

/-- The printed program, -/
theorem printed : Cert.quiescent_Loss := fun m ρ _ => frame (F := Bits) m ρ

set_option maxHeartbeats 8000000 in
theorem body_same : Cert.LossIdeal.defs₀ (F := Ideal) = Cert.Loss.defs₀ (F := Ideal) := by
  unfold Cert.LossIdeal.defs₀ Cert.Loss.defs₀
  refine congrArg _ ?_
  funext l a
  match l with
  | 0 => rfl

theorem defs_same : Cert.LossIdeal.defs (F := Ideal) = Cert.Loss.defs (F := Ideal) :=
  congrArg (Pipeline.defs (Cert.Loss.pcfgs (F := Ideal))) body_same

set_option maxHeartbeats 8000000 in
/-- and the same program over the extended reals. -/
theorem ideal : Cert.quiescent_LossIdeal := fun m ρ _ => by
  rw [defs_same]; exact frame (F := Ideal) m ρ

end Cert.LossFrame

end
-- ==== Proof.S5Host.lean ====
/- The host code before the diagonal recurrence's backward call: it runs to the call, and the thirteen arguments stand
   there as they were launched. -/
module

public import proofs.«01_k».proof.Proof.Gen.S5Bwd.Launch
public import Idealize.ShloMosaic.Lib.Pipeline.FrameBody

@[expose] public section

set_option maxRecDepth 16384

noncomputable section

namespace Cert.S5Host

open Idealize.ShloMosaic Idealize.ShloMosaic.TcCoe
open Idealize.SL Idealize.SL.RA Idealize.SL.Sem
open Cert.S5Bwd Cert.S5Bwd.Gen

variable {F : FTy → Type} [FloatOps F]
variable (m : (ℓ : Loc nD τ sig) → Buf (Elt F) ℓ)

/-- The lines of host operations before the call. -/
abbrev lines : List (List (HloOp τ sig (Elt F))) :=
  [hostOps0, hostOps0_1, hostOps0_2, hostOps0_3, hostOps0_4, hostOps0_5, hostOps0_6, hostOps0_7,
   hostOps0_8, hostOps0_9, hostOps0_10, hostOps0_11, hostOps0_12, hostOps0_13, hostOps0_14]

/-- The core's buffers where the call begins. -/
abbrev V (c : Dev nD) (b : Ref sig .tc) : Buf (Elt F) ((c : Thread nD τ).loc b) :=
  StableHlo.after (List.flatten lines) (fun d => m (c, d)) b

/-- The arguments: the first thirteen arrays. -/
def isArg (b : Ref sig .tc) : Bool := b.space == .hbm && decide (b.idx.val < 13)

theorem other {b d : Ref sig .tc} (hb : isArg b = true) (hd : isArg d = false) :
    Proc.devRef (τ := τ) .tc b ≠ Proc.devRef .tc d :=
  StableHlo.devRef_ne_of_ne fun h => by rw [h, hd] at hb; exact Bool.noConfusion hb

set_option maxHeartbeats 8000000 in
/-- No line writes an argument. -/
theorem spared (b : Ref sig .tc) (hb : isArg b = true) :
    (lines (F := F)).Forall fun l => l.Forall fun op => Proc.devRef .tc b ∉ op.writes := by
  simp only [lines, hostOps0, hostOps0_1, hostOps0_2, hostOps0_3, hostOps0_4, hostOps0_5, hostOps0_6, hostOps0_7,
    hostOps0_8, hostOps0_9, hostOps0_10, hostOps0_11, hostOps0_12, hostOps0_13, hostOps0_14, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact other hb rfl

theorem argument (c : Dev nD) (b : Ref sig .tc) (hb : isArg b = true) : V m c b = m ((c : Thread nD τ).loc b) :=
  StableHlo.after_of_forall_not_mem (b := Proc.devRef .tc b) _ _ fun op hop => by
    obtain ⟨l, hl, h⟩ := List.mem_flatten.1 hop
    exact List.forall_iff_forall_mem.1 (List.forall_iff_forall_mem.1 (spared b hb) l hl) op h

set_option maxHeartbeats 8000000 in
/-- No line needs memory of its own. -/
theorem fresh : (lines (F := F)).Forall fun l => l.Forall fun op => op.fresh = ∅ := by
  simp only [lines, hostOps0, hostOps0_1, hostOps0_2, hostOps0_3, hostOps0_4, hostOps0_5, hostOps0_6, hostOps0_7,
    hostOps0_8, hostOps0_9, hostOps0_10, hostOps0_11, hostOps0_12, hostOps0_13, hostOps0_14, List.Forall]
  repeat' constructor

set_option maxHeartbeats 8000000 in
/-- The host code runs to the call. -/
theorem reaches (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main lines
    (by simp only [List.Forall]; exact ⟨hostOps0_sub, hostOps0_1_sub, hostOps0_2_sub, hostOps0_3_sub, hostOps0_4_sub, hostOps0_5_sub,
      hostOps0_6_sub, hostOps0_7_sub, hostOps0_8_sub, hostOps0_9_sub, hostOps0_10_sub, hostOps0_11_sub,
      hostOps0_12_sub, hostOps0_13_sub, hostOps0_14_sub⟩)
    fresh main_chain

end Cert.S5Host

end
-- ==== Proof.S5Body.lean ====
/- The body of the diagonal recurrence's backward call keeps any assertion that holds its staging buffers and its
   scratch: it only loads and stores them, in a fixed order, through counted loops and one branch. -/
module

public import proofs.«01_k».proof.Proof.Gen.S5Bwd.Skeleton
public import proofs.«01_k».proof.Proof.Keeps

@[expose] public section

noncomputable section

namespace Cert.S5Body

open Idealize.ShloMosaic Idealize.ShloMosaic.TcCoe
open Idealize.SL Idealize.SL.RA Idealize.SL.BI
open scoped Idealize.SL.BI
open Cert.S5Bwd Cert.S5Bwd.Gen Cert.Keeps

variable {F : FTy → Type} [FloatOps F]
variable {P : sProp (MT nD τ sig Unit (Elt F) ℕ (UR sig nD τ) ℕ)}

set_option maxHeartbeats 4000000 in
set_option maxRecDepth 65536 in
/-- The body keeps what holds the buffers it touches. -/
theorem keeps (𝒱 : Variants) (c : Dev nD) (i : grid0.Coords)
    (arg1 : Memref sig .tc .vmem S4x320x128 .f32) (harg1 : arg1.IsWhole)
    (arg2 : Memref sig .tc .vmem S320x512 .f32) (harg2 : arg2.IsWhole)
    (arg3 : Memref sig .tc .vmem S4x320x128 .f32) (harg3 : arg3.IsWhole)
    (arg4 : Memref sig .tc .vmem S320x2048 .f32) (harg4 : arg4.IsWhole)
    (arg5 : Memref sig .tc .vmem S320x2048 .f32) (harg5 : arg5.IsWhole)
    (arg6 : Memref sig .tc .vmem S8x2048 .f32) (harg6 : arg6.IsWhole)
    (arg7 : Memref sig .tc .vmem S8x2048 .f32) (harg7 : arg7.IsWhole)
    (arg8 : Memref sig .tc .vmem S8x2048 .f32) (harg8 : arg8.IsWhole)
    (arg9 : Memref sig .tc .vmem S4x128x512 .bf16) (harg9 : arg9.IsWhole)
    (arg10 : Memref sig .tc .vmem S4x128x512 .bf16) (harg10 : arg10.IsWhole)
    (arg11 : Memref sig .tc .vmem S4x512x128 .bf16) (harg11 : arg11.IsWhole)
    (arg12 : Memref sig .tc .vmem S4x512x128 .bf16) (harg12 : arg12.IsWhole)
    (arg13 : Memref sig .tc .vmem S8x512 .f32) (harg13 : arg13.IsWhole)
    (arg14 : Memref sig .tc .vmem S4x128x128 .bf16) (harg14 : arg14.IsWhole)
    (arg15 : Memref sig .tc .hbm S8x128 .f32) (harg15 : arg15.IsWhole)
    (arg16 : Memref sig .tc .vmem S320x512 .f32) (harg16 : arg16.IsWhole)
    (arg17 : Memref sig .tc .vmem S4x128x512 .f32) (harg17 : arg17.IsWhole)
    (arg18 : Memref sig .tc .vmem S4x128x512 .f32) (harg18 : arg18.IsWhole)
    (arg19 : Memref sig .tc .vmem S4x512x128 .f32) (harg19 : arg19.IsWhole)
    (arg20 : Memref sig .tc .vmem S4x512x128 .f32) (harg20 : arg20.IsWhole)
    (arg21 : Memref sig .tc .vmem S4x128x128 .f32) (harg21 : arg21.IsWhole)
    (arg22 : Memref sig .tc .vmem S8x512 .f32) (harg22 : arg22.IsWhole)
    (arg23 : Memref sig .tc .vmem S16x2048 .f32) (harg23 : arg23.IsWhole)
    (arg24 : Memref sig .tc .vmem S320x2048 .f32) (harg24 : arg24.IsWhole)
    (arg25 : Memref sig .tc .vmem S320x2048 .f32) (harg25 : arg25.IsWhole)
    (arg26 : Memref sig .tc .vmem S8x2048 .f32) (harg26 : arg26.IsWhole)
    (arg27 : Memref sig .tc .vmem S8x2048 .f32) (harg27 : arg27.IsWhole)
    (arg28 : Memref sig .tc .vmem S320x2048 .f32) (harg28 : arg28.IsWhole)
    (arg29 : Memref sig .tc .vmem S320x2048 .f32) (harg29 : arg29.IsWhole)
    (arg30 : Memref sig .tc .vmem S4x320x128 .f32) (harg30 : arg30.IsWhole)
    (karg1 : Holds (U := UR sig nD τ) P c arg1)
    (karg2 : Holds (U := UR sig nD τ) P c arg2)
    (karg3 : Holds (U := UR sig nD τ) P c arg3)
    (karg4 : Holds (U := UR sig nD τ) P c arg4)
    (karg5 : Holds (U := UR sig nD τ) P c arg5)
    (karg6 : Holds (U := UR sig nD τ) P c arg6)
    (karg7 : Holds (U := UR sig nD τ) P c arg7)
    (karg8 : Holds (U := UR sig nD τ) P c arg8)
    (karg9 : Holds (U := UR sig nD τ) P c arg9)
    (karg10 : Holds (U := UR sig nD τ) P c arg10)
    (karg11 : Holds (U := UR sig nD τ) P c arg11)
    (karg12 : Holds (U := UR sig nD τ) P c arg12)
    (karg13 : Holds (U := UR sig nD τ) P c arg13)
    (karg14 : Holds (U := UR sig nD τ) P c arg14)
    (karg16 : Holds (U := UR sig nD τ) P c arg16)
    (karg17 : Holds (U := UR sig nD τ) P c arg17)
    (karg18 : Holds (U := UR sig nD τ) P c arg18)
    (karg19 : Holds (U := UR sig nD τ) P c arg19)
    (karg20 : Holds (U := UR sig nD τ) P c arg20)
    (karg21 : Holds (U := UR sig nD τ) P c arg21)
    (karg22 : Holds (U := UR sig nD τ) P c arg22)
    (karg23 : Holds (U := UR sig nD τ) P c arg23)
    (karg24 : Holds (U := UR sig nD τ) P c arg24)
    (karg25 : Holds (U := UR sig nD τ) P c arg25)
    (karg26 : Holds (U := UR sig nD τ) P c arg26)
    (karg27 : Holds (U := UR sig nD τ) P c arg27)
    (karg28 : Holds (U := UR sig nD τ) P c arg28)
    (karg29 : Holds (U := UR sig nD τ) P c arg29)
    (karg30 : Holds (U := UR sig nD τ) P c arg30)
    : Keeps (U := UR sig nD τ) (defs₀ (F := F)) 𝒱 c none Set.univ P (cc0_s5_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) := by
  rw [cc0_s5_bwd_eq_skeleton]
  unfold cc0_s5_bwd_skel
  repeat' first
    | with_reducible assumption
    | with_reducible apply seq
    | with_reducible apply loads
    | with_reducible apply stores
    | with_reducible apply ret
    | with_reducible apply loop
    | with_reducible apply branch
    | with_reducible intro _
    | (with_reducible change Keeps (U := UR sig nD τ) _ _ _ _ _ _ (Idealize.SL.Sem.Prog.lift _); apply loads)
    | apply seq
    | apply ret
    | apply loop
    | apply branch

end Cert.S5Body

end
-- ==== Proof.S5Frame.lean ====
/- The frame of the diagonal recurrence's backward call: the program runs to its end at every point and leaves its
   arguments and the counters as they were. What stands at every point is the staging buffers and the scratch at some
   contents, which the body keeps (S5Body.lean). The same holds over the extended reals, whose program is the printed
   one read there. -/
module

public import proofs.«01_k».proof.Defs
public import proofs.«01_k».proof.Proof.Gen.S5Bwd.Launch
public import proofs.«01_k».proof.Proof.Gen.S5Bwd.Points
public import proofs.«01_k».proof.Proof.S5Host
public import proofs.«01_k».proof.Proof.S5Body
public import Idealize.ShloMosaic.Lib.Claim

@[expose] public section

set_option maxRecDepth 9436
set_option backward.isDefEq.respectTransparency.types false

noncomputable section

namespace Cert.S5Frame

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.S5Bwd Cert.S5Bwd.Gen Cert.Keeps Cert.S5Host

section

variable {F : FTy → Type} [FloatOps F]
variable (m : (ℓ : Loc nD τ sig) → Buf (Elt F) ℓ) (ρ : Dev nD → PrngReg)

/-- The call's arrays as the host code leaves them; nothing said of what a point leaves. -/
def dats (_ : Fin 1) (c : Dev nD) : Dat τ (Elt F) Unit ℕ (UR sig nD τ) ℕ cfg0 c where
  A w := V m c (Pipeline.arrRef spec0 w)
  after := Pipeline.Dat.unnamed (cfg := cfg0)
  Φ _ := Pipeline.ΦA spec0 c
  q w := Pipeline.shareOf spec0 w
  owed _ := 0

/-- Every window is left at some contents. -/
abbrev any : Fin cfg0.W → Bool := fun _ => true

/-- What stands before and after the body at a point. -/
def held (c : Dev nD) (t : Fin cfg0.N) : sProp (MT nD τ sig Unit (Elt F) ℕ (UR sig nD τ) ℕ) :=
  iprop(Pipeline.ΦA spec0 c ∗ (dats m 0 c).owesAt () t.castSucc
    ∗ bigSep Finset.univ fun w : Fin cfg0.W =>
        iprop(∃ X, owns (c : Thread nD τ) ((cfg0.win w).stage (cfg0.slots t w)) fullShare X))

/-- It holds every staging buffer, -/
theorem staged (c : Dev nD) (t : Fin cfg0.N) (w : Fin cfg0.W) :
    Holds (U := UR sig nD τ) (held m c t) c ((cfg0.win w).stage (cfg0.slots t w)) :=
  right (right (member (Finset.mem_univ w) (owned _)))

/-- and every scratch buffer. -/
theorem scratch (c : Dev nD) (t : Fin cfg0.N) (b : Ref sig .tc) (hb : b.isScoped = true)
    (hw : ∀ p : (w : Fin 22) × Fin (spec0 w).nbuf, Pipeline.stageRef spec0 p ≠ b) :
    Holds (U := UR sig nD τ) (held m c t) c (Memref.whole b) := by
  unfold held Pipeline.ΦA Pipeline.scopedRest
  refine left (left (member (i := b) ?_ (whole b)))
  simp only [Finset.mem_sdiff, Finset.mem_filter, Finset.mem_univ, true_and, Finset.mem_image, not_exists]
  exact ⟨hb, hw⟩

/-- The body at a point. -/
theorem point (c : Dev nD) (t : Fin cfg0.N) :
    Keeps (U := UR sig nD τ) (defs₀ (F := F)) Variants.none c none Set.univ (held m c t) (bodyAt0 t) :=
  S5Body.keeps Variants.none c (grid0.coords t)
      (karg1 := staged m c t 0) (karg2 := staged m c t 1) (karg3 := staged m c t 2)
      (karg4 := staged m c t 3) (karg5 := staged m c t 4) (karg6 := staged m c t 5)
      (karg7 := staged m c t 6) (karg8 := staged m c t 7) (karg9 := staged m c t 8)
      (karg10 := staged m c t 9) (karg11 := staged m c t 10) (karg12 := staged m c t 11)
      (karg13 := staged m c t 12) (karg14 := staged m c t 13) (karg16 := staged m c t 14)
      (karg17 := staged m c t 15) (karg18 := staged m c t 16) (karg19 := staged m c t 17)
      (karg20 := staged m c t 18) (karg21 := staged m c t 19) (karg22 := staged m c t 20)
      (karg23 := staged m c t 21) (karg24 := scratch m c t cc0_scratch0 rfl (by decide)) (karg25 := scratch m c t cc0_scratch1 rfl (by decide))
      (karg26 := scratch m c t cc0_scratch2 rfl (by decide)) (karg27 := scratch m c t cc0_scratch3 rfl (by decide)) (karg28 := scratch m c t cc0_scratch4 rfl (by decide))
      (karg29 := scratch m c t cc0_scratch5 rfl (by decide)) (karg30 := scratch m c t cc0_scratch6 rfl (by decide)) ..

theorem obligation (c : Dev nD) : BodyObligation (dats m 0 c) defs₀ Variants.none () Set.univ any := fun t => by
  have h := point m c t
  unfold Keeps held at h
  exact h

set_option maxHeartbeats 2000000 in
/-- The run: no counter is left up, and an array no window is on keeps what the host code left there. -/
theorem run : θ_run defs (onTc (τ := τ) (main (F := F))) (s₀ m ρ)
    (fun r => Pipeline.RDat.FramePost (cfgs 0) (fun c => (dats m 0 c).toRForget any) (V m) r ∧ r.2.sem = fun _ => 0) :=
  Pipeline.θ_run_frame_forget_shared cfgs (dats m) (0 : Fin 1) launch₀0 defs₀ Variants.none any m ρ main
    (hbody := fun c => (obligation m c).loose) (hq := fun _ _ _ => by dsimp only [dats]) (howed := fun _ _ => by dsimp only [dats])
    (V := V m) (hmain := reaches m Variants.none) (hA := fun _ _ => by dsimp only [dats]) (hΦ := fun _ _ => by dsimp only [dats])
    (Q' := _) (hQ' := fun _ h => h)

/-- An array no window is on ends as the host code left it. -/
theorem rest (c : Dev nD) (b : Ref sig .tc) (hb : isArg b = true) (hs : b.isScoped = false)
    (hw : ∀ w : Fin 22, Pipeline.arrRef spec0 w ≠ b) (r : PUnit × MemSt nD τ sig (Elt F))
    (h : ∀ b ∈ Pipeline.restRefs sig spec0, r.2.mem ((c : Thread nD τ).loc b) = V m c b) :
    r.2.mem ((c : Thread nD τ).loc b) = m ((c : Thread nD τ).loc b) :=
  (h b (Pipeline.mem_restRefs_of b hs hw)).trans (argument m c b hb)

theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12))
      ∧ r.2.sem = fun _ => 0) :=
  (θ_run defs _ _).mono (fun r h => ⟨fun c => ⟨rest m c main_arg0 rfl (by decide) (by decide) r (h.1 c).2,
    rest m c main_arg1 rfl (by decide) (by decide) r (h.1 c).2,
    rest m c main_arg2 rfl (by decide) (by decide) r (h.1 c).2,
    rest m c main_arg3 rfl (by decide) (by decide) r (h.1 c).2,
    rest m c main_arg4 rfl (by decide) (by decide) r (h.1 c).2,
    rest m c main_arg5 rfl (by decide) (by decide) r (h.1 c).2,
    rest m c main_arg6 rfl (by decide) (by decide) r (h.1 c).2,
    rest m c main_arg7 rfl (by decide) (by decide) r (h.1 c).2,
    rest m c main_arg8 rfl (by decide) (by decide) r (h.1 c).2,
    rest m c main_arg9 rfl (by decide) (by decide) r (h.1 c).2,
    rest m c main_arg10 rfl (by decide) (by decide) r (h.1 c).2,
    rest m c main_arg11 rfl (by decide) (by decide) r (h.1 c).2,
    rest m c main_arg12 rfl (by decide) (by decide) r (h.1 c).2⟩, h.2⟩) (run m ρ)

end

variable [h : S5Bwd.Facts] [h' : S5BwdIdeal.Facts]

/-- The printed program, -/
theorem printed : Cert.quiescent_S5Bwd := fun m ρ _ => frame (F := Bits) m ρ

set_option maxHeartbeats 8000000 in
theorem body_same : Cert.S5BwdIdeal.defs₀ (F := Ideal) = Cert.S5Bwd.defs₀ (F := Ideal) := by
  unfold Cert.S5BwdIdeal.defs₀ Cert.S5Bwd.defs₀
  refine congrArg _ ?_
  funext l a
  match l with
  | 0 => rfl

theorem defs_same : Cert.S5BwdIdeal.defs (F := Ideal) = Cert.S5Bwd.defs (F := Ideal) :=
  congrArg (Pipeline.defs (Cert.S5Bwd.pcfgs (F := Ideal))) body_same

set_option maxHeartbeats 8000000 in
/-- and the same program over the extended reals. -/
theorem ideal : Cert.quiescent_S5BwdIdeal := fun m ρ _ => by
  rw [defs_same]; exact frame (F := Ideal) m ρ

end Cert.S5Frame

end
-- ==== Proof.S5Ref.lean ====
module
public import proofs.«01_k».proof.Defs
public import proofs.«01_k».proof.Proof.Gen.S5BwdRefIdeal.Run
@[expose] public section
noncomputable section
namespace Cert.S5Ref
open Idealize.ShloMosaic Idealize.SL.Sem
theorem frame : Cert.quiescent_S5BwdRefIdeal := fun m ρ _ =>
  (θ_run Cert.S5BwdRefIdeal.defs _ _).mono
    (fun r h => ⟨fun c => (h c).2.2.2.2.2.2.2.2.2.2.2.2, Idealize.ShloMosaic.sem_eq_zero_of_no_sems rfl r.2⟩)
    (Cert.S5BwdRefIdeal.Value.run m ρ)
end Cert.S5Ref
end
-- ==== Proof.FwdInPoint.lean ====
/-
  What one grid point of the input projection's forward kernel leaves in its two result blocks: the normed rows through
  the matrix, the first 512 columns as four stacked blocks of 128 (window 3), the others as they stand (window 4).
-/
module

public import proofs.«01_k».proof.Proof.Gen.FwdInIdeal.Value
public import proofs.«01_k».proof.Proof.Rows
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.FwdInIdeal.Point

open Idealize.ShloMosaic Idealize.ShloMosaic.TcCoe Idealize.SL.Sem
open Cert.FwdInIdeal Cert.FwdInIdeal.Gen Cert.Rows Cert.Pieces

/-- The divisor of the mean over the model width, as the program spells it. -/
abbrev width : EReal := Ideal.ofBits .f32 0x44800000#32

/-- A row normed and sent through a matrix. -/
def proj (h g : Fin 1024 → EReal) (w : Fin 1024 → Fin 1024 → EReal) (j : Fin 1024) : EReal :=
  ∑ k : Fin 1024, h k * rinv width h * g k * w k j

/-- A zero row goes to zero. -/
theorem proj_zero {h : Fin 1024 → EReal} (e : ∀ k, h k = 0) (g : Fin 1024 → EReal) (w : Fin 1024 → Fin 1024 → EReal) (j : Fin 1024) :
    proj h g w j = 0 :=
  Finset.sum_eq_zero fun k _ => by rw [e k, zero_mul, zero_mul, zero_mul]

/-- The stacked blocks' column. -/
def stacked (k : Fin 4) (b : Fin 128) : Fin 1024 := ⟨128 * k + b, by omega⟩
/-- The others'. -/
def rest (j : Fin 512) : Fin 1024 := ⟨512 + j, by omega⟩

variable (x0 : Vec Ideal S832x1024 .f32) (x1 : Vec Ideal S1x1024 .f32) (x2 : Vec Ideal S1024x1024 .bf16)

/-- A row of the block projected. -/
abbrev at' (p : Fin 832) (j : Fin 1024) : EReal := proj (fun k => x0 (ix2 p k)) (fun k => x1 (ix2 0 k)) (fun k j => x2 (ix2 k j)) j

theorem pay3_apply (p : Fin 832) (j : Fin 1024) : (k0_pay3 (F := Ideal) x0 x1 x2 (ix2 p j) : EReal) = at' x0 x1 x2 p j := by
  pointwise [k0_pay3, proj, rinv, msq]

theorem pay4_apply (p : Fin 832) (b : Fin 128) : (k0_pay4 (F := Ideal) x0 x1 x2 (ix3 0 p b) : EReal) = at' x0 x1 x2 p (stacked 0 b) := by
  pointwise [k0_pay4]
  exact (pay3_apply x0 x1 x2 p _).trans (congrArg _ (Fin.ext (by simp [stacked])))

theorem pay5_apply (p : Fin 832) (b : Fin 128) : (k0_pay5 (F := Ideal) x0 x1 x2 (ix3 0 p b) : EReal) = at' x0 x1 x2 p (stacked 1 b) := by
  pointwise [k0_pay5]
  exact (pay3_apply x0 x1 x2 p _).trans (congrArg _ (Fin.ext (by simp [stacked])))

theorem pay6_apply (p : Fin 832) (b : Fin 128) : (k0_pay6 (F := Ideal) x0 x1 x2 (ix3 0 p b) : EReal) = at' x0 x1 x2 p (stacked 2 b) := by
  pointwise [k0_pay6]
  exact (pay3_apply x0 x1 x2 p _).trans (congrArg _ (Fin.ext (by simp [stacked])))

theorem pay1_apply (p : Fin 832) (b : Fin 128) :
    (k0_pay1 (F := Ideal) (k0_pay7 (F := Ideal) x0 x1 x2) (ix3 0 p b) : EReal) = at' x0 x1 x2 p (stacked 3 b) := by
  pointwise [k0_pay1, k0_pay7]
  exact (pay3_apply x0 x1 x2 p _).trans (congrArg _ (Fin.ext (by simp [stacked])))

theorem pay2_apply (p : Fin 832) (j : Fin 512) :
    (k0_pay2 (F := Ideal) (k0_pay3 (F := Ideal) x0 x1 x2) (ix2 p j) : EReal) = at' x0 x1 x2 p (rest j) := by
  pointwise [k0_pay2]
  exact pay3_apply x0 x1 x2 p (rest j)

/-- Four stores, a block each, fill the stack. -/
theorem canon_blocks (p0 p1 p2 p3 : Vec Ideal S1x832x128 .f32) (G : Fin 4 → Fin 832 → Fin 128 → EReal)
    (e0 : ∀ a b, p0 (ix3 0 a b) = G 0 a b) (e1 : ∀ a b, p1 (ix3 0 a b) = G 1 a b) (e2 : ∀ a b, p2 (ix3 0 a b) = G 2 a b)
    (e3 : ∀ a b, p3 (ix3 0 a b) = G 3 a b) (k : Fin 4) (a : Fin 832) (b : Fin 128) :
    View.canon (Val := Elt Ideal) [⟨Rect.unit ![3, 0, 0] ![1, 832, 128] inb_S4x832x128_S1x832x128_3_0_0, p3⟩,
      ⟨Rect.unit ![2, 0, 0] ![1, 832, 128] inb_S4x832x128_S1x832x128_2_0_0, p2⟩,
      ⟨Rect.unit ![1, 0, 0] ![1, 832, 128] inb_S4x832x128_S1x832x128_1_0_0, p1⟩,
      ⟨Rect.unit ![0, 0, 0] ![1, 832, 128] inb_S4x832x128_S1x832x128_0_0_0, p0⟩] (ix3 k a b) = G k a b := by
  fin_cases k
  · rw [canon_miss3 _ _ _ _ _ _ (by decide), canon_miss3 _ _ _ _ _ _ (by decide), canon_miss3 _ _ _ _ _ _ (by decide), canon_hit3 _ _ _ _ _ _ (by decide)]
    exact e0 a b
  · rw [canon_miss3 _ _ _ _ _ _ (by decide), canon_miss3 _ _ _ _ _ _ (by decide), canon_hit3 _ _ _ _ _ _ (by decide)]
    exact e1 a b
  · rw [canon_miss3 _ _ _ _ _ _ (by decide), canon_hit3 _ _ _ _ _ _ (by decide)]
    exact e2 a b
  · rw [canon_hit3 _ _ _ _ _ _ (by decide)]
    exact e3 a b

section Outs

variable (c : Dev nD) (i : grid0.Coords) (a1 : Memref sig .tc .vmem S832x1024 .f32) (h1 : a1.IsWhole) (a2 : Memref sig .tc .vmem S1x1024 .f32) (h2 : a2.IsWhole)
  (a3 : Memref sig .tc .vmem S1024x1024 .bf16) (h3 : a3.IsWhole) (a5 : Memref sig .tc .vmem S4x832x128 .f32) (h5 : a5.IsWhole)
  (a6 : Memref sig .tc .vmem S832x512 .f32) (h6 : a6.IsWhole)

theorem out_3 (k : Fin 4) (p : Fin 832) (b : Fin 128) :
    (out0_A_3 c i a1 h1 a2 h2 a3 h3 a5 h5 a6 h6 x0 x1 x2 (ix3 k p b) : EReal) = at' x0 x1 x2 p (stacked k b) := by
  unfold out0_A_3
  rw [View.read_writes_junk_eq_canon]
  unfold kernelRun0_A
  dsimp only
  sl_unfold_words
  simp only [View.readAt_eq_ld, h1.read_unread, h2.read_unread, h3.read_unread,
    View.ld_unit_zero (S := S832x1024) hz, View.ld_unit_zero (S := S1x1024) hz, View.ld_unit_zero (S := S1024x1024) hz]
  exact canon_blocks _ _ _ _ (fun k p b => at' x0 x1 x2 p (stacked k b)) (pay4_apply x0 x1 x2) (pay5_apply x0 x1 x2) (pay6_apply x0 x1 x2)
    (pay1_apply x0 x1 x2) k p b

theorem out_4 (p : Fin 832) (j : Fin 512) :
    (out0_A_4 c i a1 h1 a2 h2 a3 h3 a5 h5 a6 h6 x0 x1 x2 (ix2 p j) : EReal) = at' x0 x1 x2 p (rest j) := by
  unfold out0_A_4
  rw [View.read_writes_junk_eq_canon]
  unfold kernelRun0_A
  dsimp only
  sl_unfold_words
  rw [View.canon_unit_zero hz]
  simp only [View.readAt_eq_ld, h1.read_unread, h2.read_unread, h3.read_unread,
    View.ld_unit_zero (S := S832x1024) hz, View.ld_unit_zero (S := S1x1024) hz, View.ld_unit_zero (S := S1024x1024) hz]
  exact pay2_apply x0 x1 x2 p j

end Outs

end Cert.FwdInIdeal.Point

end
-- ==== Proof.FwdInArrays.lean ====
/-
  The input projection's forward kernel as a whole: its two result arrays after the last grid point, as functions of the
  arrays the region is entered with, and those in terms of the program's arguments: the host lays the learned tokens
  before the input's rows and pads 4112 rows to 4160 with zeros.
-/
module

public import proofs.«01_k».proof.Proof.FwdInPoint
public import Idealize.ShloMosaic.Lib.Pipeline.ValueKit.Geometry

@[expose] public section

noncomputable section

namespace Cert.FwdInIdeal.Arrays

open Idealize.ShloMosaic Idealize.ShloMosaic.TcCoe Idealize.SL.Sem
open Cert.FwdInIdeal Cert.FwdInIdeal.Gen Cert.FwdInIdeal.Point Cert.Rows

variable (m : (ℓ : Loc nD τ sig) → Buf (Elt Ideal) ℓ) (c : Dev nD)

/-- The arrays the region is entered with: the residual rows, the norm's weight, the projection's weight. -/
abbrev aH : FVec Ideal S4160x1024 .f32 := V m c main_v2
abbrev aG : FVec Ideal S1x1024 .f32 := V m c main_arg2
abbrev aW : FVec Ideal S1024x1024 .bf16 := V m c main_v4

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, t.val, 0] := (by decide +kernel : ∀ t : Fin grid0.N, _)
theorem at4 : ∀ t : Fin cfg0.N, win0_4.index t = ![t.val, 0] := (by decide +kernel : ∀ t : Fin grid0.N, _)

/-- The array row of a block's row. -/
def gr (t : Fin cfg0.N) (p : Fin 832) : Fin 4160 :=
  ⟨t.val * 832 + p.val, by have : t.val < 5 := lt_of_lt_of_eq t.isLt N_0; omega⟩

theorem blk0 (t : Fin cfg0.N) (p : Fin 832) (j : Fin 1024) : (iblk m c 0 t : FVec Ideal S832x1024 .f32) (ix2 p j) = aH m c (ix2 (gr t p) j) := by
  blk_simp [iblk]; refine congrArg (V m c main_v2) ?_; blk_ext [at0] <;> rfl
theorem blk1 (t : Fin cfg0.N) (j : Fin 1024) : (iblk m c 1 t : FVec Ideal S1x1024 .f32) (ix2 0 j) = aG m c (ix2 0 j) := by
  blk_simp [iblk]; refine congrArg (V m c main_arg2) ?_; blk_ext [at1]
theorem blk2 (t : Fin cfg0.N) (k j : Fin 1024) : (iblk m c 2 t : FVec Ideal S1024x1024 .bf16) (ix2 k j) = aW m c (ix2 k j) := by
  blk_simp [iblk]; refine congrArg (V m c main_v4) ?_; blk_ext [at2]

/-- A row of the arrays projected. -/
def full (r : Fin 4160) (j : Fin 1024) : EReal := proj (fun k => aH m c (ix2 r k)) (fun k => aG m c (ix2 0 k)) (fun k j => aW m c (ix2 k j)) j

theorem at_blk (t : Fin cfg0.N) (p : Fin 832) (j : Fin 1024) : at' (iblk m c 0 t) (iblk m c 1 t) (iblk m c 2 t) p j = full m c (gr t p) j := by
  unfold full
  rw [← show (fun k => (iblk m c 0 t : FVec Ideal S832x1024 .f32) (ix2 p k)) = _ from funext (blk0 m c t p),
    ← show (fun k => (iblk m c 1 t : FVec Ideal S1x1024 .f32) (ix2 0 k)) = _ from funext (blk1 m c t),
    ← show (fun k j => (iblk m c 2 t : FVec Ideal S1024x1024 .bf16) (ix2 k j)) = _ from funext₂ (blk2 m c t)]

/-- The stacked columns. -/
theorem final3 (k : Fin 4) (r : Fin 4160) (b : Fin 128) :
    (((dats m 0 c).arrAt 3 cfg0.N : FVec Ideal S4x4160x128 .f32) (ix3 k r b) : EReal) = full m c r (stacked k b) := by
  have h := (dats m 0 c).arrAt_eq_of_covers 3
    (fun y : S4x4160x128.Idx => full m c (y 1) (stacked (y 0) (y 2)))
    (by decide +kernel) fun t hf y => ?_
  · exact congrFun h (ix3 k r b)
  · blk_simp
    rw [after0_3]
    obtain ⟨k, p, b, rfl⟩ : ∃ (k : Fin 4) (p : Fin 832) (b : Fin 128), y = ix3 k p b := ⟨y 0, y 1, y 2, by pointwise⟩
    have e : ((win0_3.blk t).view.emb (ix3 k p b : S4x832x128.Idx) : S4x4160x128.Idx) = ix3 k (gr t p) b := by blk_ext [at3] <;> rfl
    rw [e]
    unfold outsAt0
    dsimp only
    exact (out_3 _ _ _ c _ _ _ _ _ _ _ _ _ _ _ k p b).trans (at_blk m c t p _)

/-- The others. -/
theorem final4 (r : Fin 4160) (j : Fin 512) :
    (((dats m 0 c).arrAt 4 cfg0.N : FVec Ideal S4160x512 .f32) (ix2 r j) : EReal) = full m c r (rest j) := by
  have h := (dats m 0 c).arrAt_eq_of_covers 4
    (fun y : S4160x512.Idx => full m c (y 0) (rest (y 1)))
    (by decide +kernel) fun t hf y => ?_
  · exact congrFun h (ix2 r j)
  · blk_simp
    rw [after0_4]
    obtain ⟨p, j, rfl⟩ : ∃ (p : Fin 832) (j : Fin 512), y = ix2 p j := ⟨y 0, y 1, by pointwise⟩
    have e : ((win0_4.blk t).view.emb (ix2 p j : S832x512.Idx) : S4160x512.Idx) = ix2 (gr t p) j := by blk_ext [at4] <;> rfl
    rw [e]
    unfold outsAt0
    dsimp only
    exact (out_4 _ _ _ c _ _ _ _ _ _ _ _ _ _ _ p j).trans (at_blk m c t p _)

/-- The arguments. -/
abbrev x0 : FVec Ideal S16x1024 .f32 := m ((c : Thread nD τ).loc main_arg0)
abbrev x1 : FVec Ideal S1x4096x1024 .f32 := m ((c : Thread nD τ).loc main_arg1)
abbrev x2 : FVec Ideal S1x1024 .f32 := m ((c : Thread nD τ).loc main_arg2)
abbrev x3 : FVec Ideal S1x1024x1024 .f32 := m ((c : Thread nD τ).loc main_arg3)

theorem aH_at (r : Fin 4160) (k : Fin 1024) : (aH m c (ix2 r k) : EReal)
    = if h : r.val < 4112 then (if h : r.val < 16 then x0 m c (ix2 ⟨r, h⟩ k) else x1 m c (ix3 0 ⟨r - 16, by omega⟩ k)) else 0 := by
  unfold aH V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  pointwise
  after_results_simp
  rw [sitofp_zero]
  by_cases h : r.val < 4112
  · rw [dif_pos h, dif_pos h]
    by_cases h2 : r.val < 16
    · rw [dif_pos h2, dif_pos h2]
    · rw [dif_neg h2, dif_neg h2]
      show shapeCast S4096x1024 _ _ _ = _
      pointwise
  · rw [dif_neg h, dif_neg h]

theorem aG_at (k : Fin 1024) : (aG m c (ix2 0 k) : EReal) = x2 m c (ix2 0 k) := by
  rw [aG, V_main_arg2]

theorem aW_at (k j : Fin 1024) : (aW m c (ix2 k j) : EReal) = x3 m c (ix3 0 k j) := by
  unfold aW V
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  pointwise

end Cert.FwdInIdeal.Arrays

end
-- ==== Proof.FwdInRef.lean ====
/-
  The input projection's forward reference read at an index: the norm, the product, zero rows after the last, the columns
  as the call returns them.
-/
module

public import proofs.«01_k».proof.Proof.Gen.FwdInRefIdeal.Read
public import proofs.«01_k».proof.Proof.FwdInPoint

@[expose] public section

noncomputable section

namespace Cert.FwdInRefIdeal.At

open Idealize.ShloMosaic
open Cert.FwdInRefIdeal Cert.FwdInRefIdeal.Read Cert.Rows
open Cert.FwdInIdeal.Point (width proj stacked rest)

variable (x0 : FVec Ideal S16x1024 .f32) (x1 : FVec Ideal S1x4096x1024 .f32) (x2 : FVec Ideal S1x1024 .f32)
  (x3 : FVec Ideal S1x1024x1024 .f32)

/-- The residual rows: the learned tokens, then the input. -/
def hrow (r : Fin 4112) : Fin 1024 → EReal := fun k =>
  if h : r.val < 16 then x0 (ix2 ⟨r, h⟩ k) else x1 (ix3 0 ⟨r - 16, by omega⟩ k)

theorem v1 (r : Fin 4112) (k : Fin 1024) : val_main_v1 (F := Ideal) x0 x1 (ix2 r k) = hrow x0 x1 r k := by
  pointwise [val_main_v1, val_main_v0, hrow]

theorem v10 (r : Fin 4112) : val_main_v10 (F := Ideal) x0 x1 (ix2 r 0) = rinv width (hrow x0 x1 r) := by
  pointwise [val_main_v10, val_main_v9, val_main_v8, val_main_cst_1, val_main_v7, val_main_v6, val_main_cst_0, val_main_v5, val_main_v4, val_main_v3,
    val_main_cst, rinv, msq]
  simp only [v1]

theorem v15 (r : Fin 4112) (k : Fin 1024) :
    val_main_v15 (F := Ideal) x0 x1 x2 (ix2 r k) = hrow x0 x1 r k * rinv width (hrow x0 x1 r) * x2 (ix2 0 k) := by
  pointwise [val_main_v15, val_main_v14, val_main_v13, val_main_v12, val_main_v11, val_main_v2]
  simp only [v1, v10]

/-- The projected rows. -/
theorem v17 (r : Fin 4112) (j : Fin 1024) : val_main_v17 (F := Ideal) x0 x1 x2 x3 (ix2 r j)
    = proj (hrow x0 x1 r) (fun k => x2 (ix2 0 k)) (fun k j => x3 (ix3 0 k j)) j := by
  pointwise [val_main_v17, val_main_v16, proj]
  simp only [v15]

/-- Their rows padded with zeros. -/
theorem v18 (r : Fin 4160) (j : Fin 1024) : val_main_v18 (F := Ideal) x0 x1 x2 x3 (ix2 r j)
    = if h : r.val < 4112 then proj (hrow x0 x1 ⟨r, h⟩) (fun k => x2 (ix2 0 k)) (fun k j => x3 (ix3 0 k j)) j else 0 := by
  pointwise [val_main_v18, val_main_call0_v0, val_main_c]
  rw [show (FloatOps.sitofp FTy.f32 0#32 : Ideal .f32) = (0 : EReal) from sitofp_zero]
  simp only [v17]

/-- The first 512 columns, stacked. -/
theorem v21 (k : Fin 4) (r : Fin 4160) (b : Fin 128) : val_main_v21 (F := Ideal) x0 x1 x2 x3 (ix3 k r b)
    = val_main_v18 (F := Ideal) x0 x1 x2 x3 (ix2 r (stacked k b)) := by
  rw [val_main_v21_apply, val_main_v20_apply, val_main_v19_apply]
  refine congrArg _ (funext fun a => Fin.ext ?_)
  fin_cases a
  · show ((r.val * 4 + k.val) * 128 + b.val) / 512 = r.val
    omega
  · show ((r.val * 4 + k.val) * 128 + b.val) % 512 = 128 * k.val + b.val
    omega

/-- The others. -/
theorem v22 (r : Fin 4160) (j : Fin 512) : val_main_v22 (F := Ideal) x0 x1 x2 x3 (ix2 r j)
    = val_main_v18 (F := Ideal) x0 x1 x2 x3 (ix2 r (rest j)) := by
  pointwise [val_main_v22]
  rfl

end Cert.FwdInRefIdeal.At

end
-- ==== Proof.FwdIn.lean ====
/-
  The input projection's forward call against its forward lines: the two results are the same arrays, whatever the
  arguments hold. The padded rows are zero on both sides: the norm of a zero row is zero, and so is its product.
-/
module

public import proofs.«01_k».proof.Defs
public import proofs.«01_k».proof.Proof.FwdInArrays
public import proofs.«01_k».proof.Proof.FwdInRef
public import proofs.«01_k».proof.Proof.Gen.FwdInIdeal.Value
public import proofs.«01_k».proof.Proof.Gen.FwdInRefIdeal
public import proofs.«01_k».proof.Proof.Gen.FwdInRefIdeal.Run

@[expose] public section

noncomputable section

namespace Cert.FwdInEqual

open Idealize.ShloMosaic Idealize.ShloMosaic.TcCoe Idealize.SL.Sem
open Cert.FwdInIdeal Cert.FwdInIdeal.Gen Cert.FwdInIdeal.Arrays Cert.FwdInIdeal.Point Cert.FwdInRefIdeal.At

variable (m : (ℓ : Loc nD τ sig) → Buf (Elt Ideal) ℓ) (c : Dev nD)

/-- The projected rows are the same. -/
theorem full_eq (r : Fin 4160) (j : Fin 1024) : full m c r j = Cert.FwdInRefIdeal.Read.val_main_v18 (F := Ideal) (x0 m c) (x1 m c) (x2 m c) (x3 m c) (ix2 r j) := by
  rw [v18]
  unfold full
  by_cases h : r.val < 4112
  · rw [dif_pos h]
    rw [show (fun k => aH m c (ix2 r k)) = hrow (x0 m c) (x1 m c) ⟨r, h⟩ from funext fun k => by rw [aH_at, dif_pos h]; rfl,
      show (fun k => aG m c (ix2 0 k)) = _ from funext (aG_at m c), show (fun k j => aW m c (ix2 k j)) = _ from funext₂ (aW_at m c)]
  · rw [dif_neg h]
    exact proj_zero (fun k => by rw [aH_at, dif_neg h]) _ _ j

theorem stacked_eq : ((dats m 0 c).arrAt 3 cfg0.N : FVec Ideal S4x4160x128 .f32)
    = Cert.FwdInRefIdeal.Read.val_main_v21 (x0 m c) (x1 m c) (x2 m c) (x3 m c) := by
  funext y
  obtain ⟨k, r, b, rfl⟩ : ∃ k p b, y = ix3 k p b := ⟨y 0, y 1, y 2, by pointwise⟩
  exact (final3 m c k r b).trans ((full_eq m c r _).trans (v21 _ _ _ _ k r b).symm)

theorem rest_eq : ((dats m 0 c).arrAt 4 cfg0.N : FVec Ideal S4160x512 .f32)
    = Cert.FwdInRefIdeal.Read.val_main_v22 (x0 m c) (x1 m c) (x2 m c) (x3 m c) := by
  funext y
  obtain ⟨r, j, rfl⟩ : ∃ p k, y = ix2 p k := ⟨y 0, y 1, by pointwise⟩
  exact (final4 m c r j).trans ((full_eq m c r _).trans (v22 _ _ _ _ r j).symm)

/-- The claim. -/
theorem algebraic : Cert.algebraic_FwdInIdeal_FwdInRefIdeal := by
  intro m g m' g' _ ha
  refine ⟨fun c => (dats m 0 c).arrAt 3 cfg0.N, fun c => (dats m 0 c).arrAt 4 cfg0.N,
    Cert.FwdInIdeal.Value.run_blocks m g, (θ_run Cert.FwdInRefIdeal.defs _ _).mono ?_ (Cert.FwdInRefIdeal.Value.run m' g')⟩
  intro r h c
  obtain ⟨h3, h4, hk⟩ := h c
  obtain ⟨a0, a1, a2, a3⟩ := ha c
  change m' ((c : Thread nD τ).loc Cert.FwdInRefIdeal.main_arg0) = x0 m c at a0
  change m' ((c : Thread nD τ).loc Cert.FwdInRefIdeal.main_arg1) = x1 m c at a1
  change m' ((c : Thread nD τ).loc Cert.FwdInRefIdeal.main_arg2) = x2 m c at a2
  change m' ((c : Thread nD τ).loc Cert.FwdInRefIdeal.main_arg3) = x3 m c at a3
  refine ⟨h3.trans ?_, h4.trans ?_, hk⟩
  · refine (Cert.FwdInRefIdeal.Read.val_main_v21_eq _ _ _ _).trans ?_
    rw [a0, a1, a2, a3]
    exact (stacked_eq m c).symm
  · refine (Cert.FwdInRefIdeal.Read.val_main_v22_eq _ _ _ _).trans ?_
    rw [a0, a1, a2, a3]
    exact (rest_eq m c).symm

end Cert.FwdInEqual

end
-- ==== Proof.BwdOutPoint.lean ====
/-
  What one grid point of the output projection's backward kernel leaves in its three result blocks: the cotangent's rows
  through the transposed matrix, the first 512 columns as four stacked blocks of 128 (window 4), the others as they stand
  (window 5); and the matrix's gradient added to (window 6), which the first point sets to zero before.
-/
module

public import proofs.«01_k».proof.Proof.Gen.BwdOutIdeal.Value
public import proofs.«01_k».proof.Proof.FwdInPoint
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.BwdOutIdeal.Point

open Idealize.ShloMosaic Idealize.ShloMosaic.TcCoe Idealize.SL.Sem
open Cert.BwdOutIdeal Cert.BwdOutIdeal.Gen Cert.Pieces
open Cert.FwdInIdeal.Point (stacked rest canon_blocks)

variable {n : ℕ} (d : FVec Ideal ⟨2, ![n, 1024]⟩ .f32) (s : FVec Ideal ⟨2, ![n, 512]⟩ .bf16) (q : FVec Ideal ⟨2, ![n, 512]⟩ .bf16)
  (w : FVec Ideal S1024x1024 .bf16)

/-- A row of the cotangent through the transposed matrix. -/
def back (p : Fin n) (k : Fin 1024) : EReal := ∑ j : Fin 1024, d (ix2 p j) * w (ix2 k j)

/-- What a row adds to the matrix's gradient. -/
def termW (k j : Fin 1024) (p : Fin n) : EReal :=
  (if h : k.val < 512 then s (ix2 p ⟨k, h⟩) else q (ix2 p ⟨k - 512, by omega⟩) : EReal) * d (ix2 p j)

variable (x0 : Vec Ideal S832x1024 .f32) (x1 : Vec Ideal S832x512 .bf16) (x2 : Vec Ideal S832x512 .bf16)
  (x3 : Vec Ideal S1024x1024 .bf16) (xo6 : Vec Ideal S1024x1024 .f32)

/-- The loads of the matrix's two row halves. -/
abbrev wt : Vec Ideal S512x1024 .bf16 := View.ld x3 (Rect.unit ![0, 0] ![512, 1024] inb_S1024x1024_S512x1024_0_0)
abbrev wb : Vec Ideal S512x1024 .bf16 := View.ld x3 (Rect.unit ![512, 0] ![512, 1024] inb_S1024x1024_S512x1024_512_0)

theorem pay5_apply (p : Fin 832) (j : Fin 512) : (k0_pay5 (F := Ideal) x0 (wt x3) (ix2 p j) : EReal) = back x0 x3 p ⟨j, by omega⟩ := by
  pointwise [k0_pay5, k0_pay4, wt, back]

theorem pay6_apply (p : Fin 832) (b : Fin 128) : (k0_pay6 (F := Ideal) x0 (wt x3) (ix3 0 p b) : EReal) = back x0 x3 p (stacked 0 b) := by
  pointwise [k0_pay6]
  exact (pay5_apply x0 x3 p _).trans (congrArg _ (Fin.ext (by simp [stacked])))

theorem pay7_apply (p : Fin 832) (b : Fin 128) : (k0_pay7 (F := Ideal) x0 (wt x3) (ix3 0 p b) : EReal) = back x0 x3 p (stacked 1 b) := by
  pointwise [k0_pay7]
  exact (pay5_apply x0 x3 p _).trans (congrArg _ (Fin.ext (by simp [stacked])))

theorem pay8_apply (p : Fin 832) (b : Fin 128) : (k0_pay8 (F := Ideal) x0 (wt x3) (ix3 0 p b) : EReal) = back x0 x3 p (stacked 2 b) := by
  pointwise [k0_pay8]
  exact (pay5_apply x0 x3 p _).trans (congrArg _ (Fin.ext (by simp [stacked])))

theorem pay9_apply (p : Fin 832) (b : Fin 128) : (k0_pay9 (F := Ideal) x0 (wt x3) (ix3 0 p b) : EReal) = back x0 x3 p (stacked 3 b) := by
  pointwise [k0_pay9]
  exact (pay5_apply x0 x3 p _).trans (congrArg _ (Fin.ext (by simp [stacked])))

theorem pay10_apply (p : Fin 832) (j : Fin 512) : (k0_pay10 (F := Ideal) x0 (wb x3) (ix2 p j) : EReal) = back x0 x3 p (rest j) := by
  pointwise [k0_pay10, k0_pay4, wb, back, rest]

theorem pay1_apply (v : Vec Ideal S512x1024 .f32) (k : Fin 512) (j : Fin 1024) :
    (k0_pay1 (F := Ideal) (k0_pay4 (F := Ideal) x0) v x1 (ix2 k j) : EReal) = v (ix2 k j) + ∑ p : Fin 832, termW x0 x1 x2 ⟨k, by omega⟩ j p := by
  pointwise [k0_pay1, k0_pay4]
  simp only [termW, dif_pos k.isLt]

theorem pay2_apply (v : Vec Ideal S512x1024 .f32) (k : Fin 512) (j : Fin 1024) :
    (k0_pay2 (F := Ideal) (k0_pay4 (F := Ideal) x0) v x2 (ix2 k j) : EReal) = v (ix2 k j) + ∑ p : Fin 832, termW x0 x1 x2 ⟨512 + k, by omega⟩ j p := by
  pointwise [k0_pay2, k0_pay4]
  have h : ¬ (512 + k.val < 512) := by omega
  simp only [termW, dif_neg h, Nat.add_sub_cancel_left]

/-- Two stores of row halves tile the accumulator. -/
theorem canon_rows (w0 w1 : Vec Ideal S512x1024 .f32) (L : List (View.Piece (Elt Ideal) S1024x1024 .f32)) (G : S1024x1024.Idx → EReal)
    (h0 : ∀ (k : Fin 512) (j : Fin 1024), w0 (ix2 k j) = G (ix2 ⟨k, by omega⟩ j))
    (h1 : ∀ (k : Fin 512) (j : Fin 1024), w1 (ix2 k j) = G (ix2 ⟨512 + k, by omega⟩ j)) (y : S1024x1024.Idx) :
    View.canon (⟨Rect.unit ![512, 0] ![512, 1024] inb_S1024x1024_S512x1024_512_0, w1⟩
      :: ⟨Rect.unit ![0, 0] ![512, 1024] inb_S1024x1024_S512x1024_0_0, w0⟩ :: L) y = G y := by
  obtain ⟨k, j, rfl⟩ : ∃ k j, y = ix2 k j := ⟨y 0, y 1, by pointwise⟩
  by_cases hk : k.val < 512
  · rw [canon_miss _ _ _ _ _ (by omega), canon_hit _ _ _ _ _ ⟨k, hk⟩ j (by simp) (by simp), h0]
  · rw [canon_hit _ _ _ _ _ ⟨k - 512, by omega⟩ j (by simp; omega) (by simp), h1]
    congr 2; apply Fin.ext; simp; omega

section Outs

variable (c : Dev nD) (i : grid0.Coords) (a1 : Memref sig .tc .vmem S832x1024 .f32) (h1 : a1.IsWhole) (a2 : Memref sig .tc .vmem S832x512 .bf16) (h2 : a2.IsWhole)
  (a3 : Memref sig .tc .vmem S832x512 .bf16) (h3 : a3.IsWhole) (a4 : Memref sig .tc .vmem S1024x1024 .bf16) (h4 : a4.IsWhole)
  (a6 : Memref sig .tc .vmem S4x832x128 .f32) (h6 : a6.IsWhole) (a7 : Memref sig .tc .vmem S832x512 .f32) (h7 : a7.IsWhole)
  (a8 : Memref sig .tc .vmem S1024x1024 .f32) (h8 : a8.IsWhole)

theorem out_A_4 (hc : cond0_0 i) (k : Fin 4) (p : Fin 832) (b : Fin 128) :
    (out0_A_4 c i a1 h1 a2 h2 a3 h3 a4 h4 a6 h6 a7 h7 a8 h8 hc x0 x1 x2 x3 (ix3 k p b) : EReal) = back x0 x3 p (stacked k b) := by
  unfold out0_A_4
  rw [View.read_writes_junk_eq_canon]
  unfold kernelRun0_A
  dsimp only
  sl_unfold_words
  simp only [View.readAt_eq_ld, h1.read_unread, h4.read_unread, View.ld_unit_zero (S := S832x1024) hz]
  exact canon_blocks _ _ _ _ (fun k p b => back x0 x3 p (stacked k b)) (pay6_apply x0 x3) (pay7_apply x0 x3) (pay8_apply x0 x3) (pay9_apply x0 x3) k p b

theorem out_B_4 (hc : ¬cond0_0 i) (k : Fin 4) (p : Fin 832) (b : Fin 128) :
    (out0_B_4 c i a1 h1 a2 h2 a3 h3 a4 h4 a6 h6 a7 h7 a8 h8 hc x0 x1 x2 x3 xo6 (ix3 k p b) : EReal) = back x0 x3 p (stacked k b) := by
  unfold out0_B_4
  rw [View.read_writes_junk_eq_canon]
  unfold kernelRun0_B
  dsimp only
  sl_unfold_words
  simp only [View.readAt_eq_ld, h1.read_unread, h4.read_unread, View.ld_unit_zero (S := S832x1024) hz]
  exact canon_blocks _ _ _ _ (fun k p b => back x0 x3 p (stacked k b)) (pay6_apply x0 x3) (pay7_apply x0 x3) (pay8_apply x0 x3) (pay9_apply x0 x3) k p b

theorem out_A_5 (hc : cond0_0 i) (p : Fin 832) (j : Fin 512) :
    (out0_A_5 c i a1 h1 a2 h2 a3 h3 a4 h4 a6 h6 a7 h7 a8 h8 hc x0 x1 x2 x3 (ix2 p j) : EReal) = back x0 x3 p (rest j) := by
  unfold out0_A_5
  rw [View.read_writes_junk_eq_canon]
  unfold kernelRun0_A
  dsimp only
  sl_unfold_words
  rw [View.canon_unit_zero hz]
  simp only [View.readAt_eq_ld, h1.read_unread, h4.read_unread, View.ld_unit_zero (S := S832x1024) hz]
  exact pay10_apply x0 x3 p j

theorem out_B_5 (hc : ¬cond0_0 i) (p : Fin 832) (j : Fin 512) :
    (out0_B_5 c i a1 h1 a2 h2 a3 h3 a4 h4 a6 h6 a7 h7 a8 h8 hc x0 x1 x2 x3 xo6 (ix2 p j) : EReal) = back x0 x3 p (rest j) := by
  unfold out0_B_5
  rw [View.read_writes_junk_eq_canon]
  unfold kernelRun0_B
  dsimp only
  sl_unfold_words
  rw [View.canon_unit_zero hz]
  simp only [View.readAt_eq_ld, h1.read_unread, h4.read_unread, View.ld_unit_zero (S := S832x1024) hz]
  exact pay10_apply x0 x3 p j

theorem out_B_6 (hc : ¬cond0_0 i) (k j : Fin 1024) :
    (out0_B_6 c i a1 h1 a2 h2 a3 h3 a4 h4 a6 h6 a7 h7 a8 h8 hc x0 x1 x2 x3 xo6 (ix2 k j) : EReal)
      = xo6 (ix2 k j) + ∑ p : Fin 832, termW x0 x1 x2 k j p := by
  unfold out0_B_6
  rw [View.read_writes_junk_eq_canon]
  unfold kernelRun0_B
  dsimp only
  sl_unfold_words
  simp only [View.readAt_eq_ld, h1.read_unread, h2.read_unread, h3.read_unread, h8.read_unread,
    View.ld_unit_zero (S := S832x512) hz, View.ld_unit_zero (S := S832x1024) hz]
  refine canon_rows _ _ [] (fun y => xo6 y + ∑ p : Fin 832, termW x0 x1 x2 (y 0) (y 1) p) (fun k j => ?_) (fun k j => ?_) (ix2 k j)
  · rw [pay1_apply x0 x1 x2]; pointwise
  · rw [pay2_apply x0 x1 x2]; pointwise

theorem out_A_6 (hc : cond0_0 i) (k j : Fin 1024) :
    (out0_A_6 c i a1 h1 a2 h2 a3 h3 a4 h4 a6 h6 a7 h7 a8 h8 hc x0 x1 x2 x3 (ix2 k j) : EReal) = ∑ p : Fin 832, termW x0 x1 x2 k j p := by
  unfold out0_A_6
  rw [View.read_writes_junk_eq_canon]
  unfold kernelRun0_A
  dsimp only
  sl_unfold_words
  simp only [View.readAt_eq_ld, h1.read_unread, h2.read_unread, h3.read_unread,
    View.ld_unit_zero (S := S832x512) hz, View.ld_unit_zero (S := S832x1024) hz]
  have hz0 : ∀ r : Rect S1024x1024, a8.view.readCov (Val := Elt Ideal)
      [⟨Rect.unit ![0, 0] ![1024, 1024] inb_S1024x1024_S1024x1024_0_0, k0_pay3 (F := Ideal)⟩] r.toLoadRect = View.ld (Val := Elt Ideal) (e' := .f32) (k0_pay3 (F := Ideal)) r :=
    fun r => by
      rw [View.readCov_eq_canon', View.canon_unit_zero (S := S1024x1024) hz]
  refine canon_rows _ _ _ (fun y => ∑ p : Fin 832, termW x0 x1 x2 (y 0) (y 1) p) (fun k j => ?_) (fun k j => ?_) (ix2 k j)
  · rw [pay1_apply x0 x1 x2, hz0]; pointwise [k0_pay3]
  · rw [pay2_apply x0 x1 x2, View.readCov_skip _ _ _ _ _ (by decide +kernel), hz0]; pointwise [k0_pay3]

end Outs

end Cert.BwdOutIdeal.Point

end
-- ==== Proof.BwdOutArrays.lean ====
/-
  The output projection's backward kernel as a whole: its three result arrays after the last grid point, as functions of
  the arrays the region is entered with, and those in terms of the program's arguments.
-/
module

public import proofs.«01_k».proof.Proof.BwdOutPoint
public import Idealize.ShloMosaic.Lib.Pipeline.ValueKit.Geometry
public import Idealize.ShloMosaic.Lib.Pipeline.ValueKit.Acc

@[expose] public section

noncomputable section

namespace Cert.BwdOutIdeal.Arrays

open Idealize.ShloMosaic Idealize.ShloMosaic.TcCoe Idealize.SL.Sem
open Cert.BwdOutIdeal Cert.BwdOutIdeal.Gen Cert.BwdOutIdeal.Point
open Cert.FwdInIdeal.Point (stacked rest)

variable (m : (ℓ : Loc nD τ sig) → Buf (Elt Ideal) ℓ) (c : Dev nD)

/-- The arrays the region is entered with: the cotangent, the mixed rows' two halves, the matrix. -/
abbrev aD : FVec Ideal S4160x1024 .f32 := V m c main_v6
abbrev aS : FVec Ideal S4160x512 .bf16 := V m c main_v3
abbrev aP : FVec Ideal S4160x512 .bf16 := V m c main_v5
abbrev aW : FVec Ideal S1024x1024 .bf16 := V m c main_v8

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, t.val, 0] := (by decide +kernel : ∀ t : Fin grid0.N, _)
theorem at5 : ∀ t : Fin cfg0.N, win0_5.index t = ![t.val, 0] := (by decide +kernel : ∀ t : Fin grid0.N, _)

/-- The array row of a block's row. -/
def gr (t : Fin cfg0.N) (p : Fin 832) : Fin 4160 :=
  ⟨t.val * 832 + p.val, by have : t.val < 5 := lt_of_lt_of_eq t.isLt N_0; omega⟩

theorem blk0 (t : Fin cfg0.N) (p : Fin 832) (j : Fin 1024) : (iblk m c 0 t : FVec Ideal S832x1024 .f32) (ix2 p j) = aD m c (ix2 (gr t p) j) := by
  blk_simp [iblk]; refine congrArg (V m c main_v6) ?_; blk_ext [at0] <;> rfl
theorem blk1 (t : Fin cfg0.N) (p : Fin 832) (j : Fin 512) : (iblk m c 1 t : FVec Ideal S832x512 .bf16) (ix2 p j) = aS m c (ix2 (gr t p) j) := by
  blk_simp [iblk]; refine congrArg (V m c main_v3) ?_; blk_ext [at1] <;> rfl
theorem blk2 (t : Fin cfg0.N) (p : Fin 832) (j : Fin 512) : (iblk m c 2 t : FVec Ideal S832x512 .bf16) (ix2 p j) = aP m c (ix2 (gr t p) j) := by
  blk_simp [iblk]; refine congrArg (V m c main_v5) ?_; blk_ext [at2] <;> rfl
theorem blk3 (t : Fin cfg0.N) (k j : Fin 1024) : (iblk m c 3 t : FVec Ideal S1024x1024 .bf16) (ix2 k j) = aW m c (ix2 k j) := by
  blk_simp [iblk]; refine congrArg (V m c main_v8) ?_; blk_ext [at3]

theorem back_blk (t : Fin cfg0.N) (p : Fin 832) (k : Fin 1024) : back (iblk m c 0 t) (iblk m c 3 t) p k = back (aD m c) (aW m c) (gr t p) k := by
  unfold back
  exact Finset.sum_congr rfl fun j _ => congrArg₂ (· * ·) (blk0 m c t p j) (blk3 m c t k j)

theorem termW_blk (t : Fin cfg0.N) (p : Fin 832) (k j : Fin 1024) :
    termW (iblk m c 0 t) (iblk m c 1 t) (iblk m c 2 t) k j p = termW (aD m c) (aS m c) (aP m c) k j (gr t p) := by
  unfold termW
  rw [blk0]
  refine congrArg (· * _) (dite_congr rfl (fun h => blk1 m c t p _) (fun h => blk2 m c t p _))

/-- The stacked columns. -/
theorem final4 (k : Fin 4) (r : Fin 4160) (b : Fin 128) :
    (((dats m 0 c).arrAt 4 cfg0.N : FVec Ideal S4x4160x128 .f32) (ix3 k r b) : EReal) = back (aD m c) (aW m c) r (stacked k b) := by
  have h := (dats m 0 c).arrAt_eq_of_covers 4
    (fun y : S4x4160x128.Idx => back (aD m c) (aW m c) (y 1) (stacked (y 0) (y 2)))
    (by decide +kernel) fun t hf y => ?_
  · exact congrFun h (ix3 k r b)
  · blk_simp
    rw [after0_4]
    obtain ⟨k, p, b, rfl⟩ : ∃ (k : Fin 4) (p : Fin 832) (b : Fin 128), y = ix3 k p b := ⟨y 0, y 1, y 2, by pointwise⟩
    have e : ((win0_4.blk t).view.emb (ix3 k p b : S4x832x128.Idx) : S4x4160x128.Idx) = ix3 k (gr t p) b := by blk_ext [at4] <;> rfl
    rw [e]
    show _ = back (aD m c) (aW m c) (gr t p) (stacked k b)
    rw [← back_blk]
    by_cases h0 : t.val % 5 = 0
    · rw [outsAt0_A m c t h0]; dsimp only; rw [out_A_4]
    · rw [outsAt0_B m c t h0]; dsimp only; rw [out_B_4]

/-- The others. -/
theorem final5 (r : Fin 4160) (j : Fin 512) :
    (((dats m 0 c).arrAt 5 cfg0.N : FVec Ideal S4160x512 .f32) (ix2 r j) : EReal) = back (aD m c) (aW m c) r (rest j) := by
  have h := (dats m 0 c).arrAt_eq_of_covers 5
    (fun y : S4160x512.Idx => back (aD m c) (aW m c) (y 0) (rest (y 1)))
    (by decide +kernel) fun t hf y => ?_
  · exact congrFun h (ix2 r j)
  · blk_simp
    rw [after0_5]
    obtain ⟨p, j, rfl⟩ : ∃ (p : Fin 832) (j : Fin 512), y = ix2 p j := ⟨y 0, y 1, by pointwise⟩
    have e : ((win0_5.blk t).view.emb (ix2 p j : S832x512.Idx) : S4160x512.Idx) = ix2 (gr t p) j := by blk_ext [at5] <;> rfl
    rw [e]
    show _ = back (aD m c) (aW m c) (gr t p) (rest j)
    rw [← back_blk]
    by_cases h0 : t.val % 5 = 0
    · rw [outsAt0_A m c t h0]; dsimp only; rw [out_A_5]
    · rw [outsAt0_B m c t h0]; dsimp only; rw [out_B_5]

/-- The matrix's gradient. -/
theorem final6 (k j : Fin 1024) :
    (((dats m 0 c).arrAt 6 cfg0.N : FVec Ideal S1024x1024 .f32) (ix2 k j) : EReal) = ∑ r : Fin 4160, termW (aD m c) (aS m c) (aP m c) k j r := by
  refine ((dats m 0 c).arrAt_emb_eq_after_last 6 t0_4 (by decide +kernel) (ix2 k j : S1024x1024.Idx)).trans ?_
  blk_simp
  rw [after0_6]
  have := Pipeline.eq_sum_fin_of_reset_step_apply_last (ι := Fin 1024 × Fin 1024) (N := cfg0.N)
    (fun n h i => ((outsAt0 m c n h).2.2 : FVec Ideal S1024x1024 .f32) (ix2 i.1 i.2)) 5 (fun _ => (0 : EReal))
    (fun t i => ∑ p : Fin 832, termW (aD m c) (aS m c) (aP m c) i.1 i.2 (gr t p))
    (fun t h i => by
      rw [outsAt0_A m c t h]; dsimp only; rw [out_A_6, zero_add]; exact Finset.sum_congr rfl fun p _ => termW_blk ..)
    (fun t h i => by
      rw [outsAt0_B m c t h]; dsimp only; rw [out_B_6]; exact congrArg _ (Finset.sum_congr rfl fun p _ => termW_blk ..))
    (by decide) t0_4 rfl (k, j)
  refine Eq.trans ?_ (this.trans ((zero_add _).trans (Fin.sum_mul_add_fin 5 832 (fun r => termW (aD m c) (aS m c) (aP m c) k j r) rfl)))
  rfl

/-- The arguments. -/
abbrev x0 : FVec Ideal S4112x1024 .f32 := m ((c : Thread nD τ).loc main_arg0)
abbrev x1 : FVec Ideal S1x1024x1024 .f32 := m ((c : Thread nD τ).loc main_arg1)
abbrev x2 : FVec Ideal S4112x1024 .f32 := m ((c : Thread nD τ).loc main_arg2)

theorem aD_at (r : Fin 4160) (k : Fin 1024) : (aD m c (ix2 r k) : EReal) = if h : r.val < 4112 then x2 m c (ix2 ⟨r, h⟩ k) else 0 := by
  unfold aD V
  simp only [hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  pointwise
  rw [Rows.sitofp_zero]

theorem aS_at (r : Fin 4160) (k : Fin 512) : (aS m c (ix2 r k) : EReal) = if h : r.val < 4112 then x0 m c (ix2 ⟨r, h⟩ ⟨k, by omega⟩) else 0 := by
  unfold aS V
  simp only [hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  pointwise
  rw [Rows.sitofp_zero]

theorem aP_at (r : Fin 4160) (k : Fin 512) : (aP m c (ix2 r k) : EReal) = if h : r.val < 4112 then x0 m c (ix2 ⟨r, h⟩ (rest k)) else 0 := by
  unfold aP V
  simp only [hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  pointwise
  rw [Rows.sitofp_zero]
  rfl

theorem aW_at (k j : Fin 1024) : (aW m c (ix2 k j) : EReal) = x1 m c (ix3 0 k j) := by
  unfold aW V
  simp only [hostOps0, hostOps0_1, hostOps0_2, hostOps0_3, hostOps0_4, hostOps0_5, hostOps0_6, List.flatten_cons, List.flatten_nil, List.append_nil,
    List.cons_append, List.nil_append, StableHlo.TRef.binary, StableHlo.TRef.unary, StableHlo.TRef.toBuf, StableHlo.TRef.ofBuf, cast_eq]
  after_results_simp
  pointwise

end Cert.BwdOutIdeal.Arrays

end
-- ==== Proof.BwdOutRef.lean ====
/-
  The output projection's backward reference read at an index: the cotangent through the transposed matrix, zero rows
  after the last, the columns as the call returns them; the matrix's gradient.
-/
module

public import proofs.«01_k».proof.Proof.Gen.BwdOutRefIdeal.Read
public import proofs.«01_k».proof.Proof.Rows
public import proofs.«01_k».proof.Proof.FwdInPoint

@[expose] public section

noncomputable section

namespace Cert.BwdOutRefIdeal.At

open Idealize.ShloMosaic
open Cert.BwdOutRefIdeal Cert.BwdOutRefIdeal.Read Cert.Rows
open Cert.FwdInIdeal.Point (stacked rest)

variable (x0 : FVec Ideal S4112x1024 .f32) (x1 : FVec Ideal S1x1024x1024 .f32) (x2 : FVec Ideal S4112x1024 .f32)

/-- The mixed rows' gradient, padded with zero rows. -/
theorem v6 (r : Fin 4160) (k : Fin 1024) : val_main_v6 (F := Ideal) x1 x2 (ix2 r k)
    = if h : r.val < 4112 then ∑ j : Fin 1024, x2 (ix2 ⟨r, h⟩ j) * x1 (ix3 0 k j) else 0 := by
  pointwise [val_main_v6, val_main_call0_v0, val_main_c, val_main_v4, val_main_v0]
  rw [show (FloatOps.sitofp FTy.f32 0#32 : Ideal .f32) = (0 : EReal) from sitofp_zero]

/-- The first 512 columns, stacked. -/
theorem v9 (k : Fin 4) (r : Fin 4160) (b : Fin 128) : val_main_v9 (F := Ideal) x1 x2 (ix3 k r b)
    = val_main_v6 (F := Ideal) x1 x2 (ix2 r (stacked k b)) := by
  rw [val_main_v9_apply, val_main_v8_apply, val_main_v7_apply]
  refine congrArg _ (funext fun a => Fin.ext ?_)
  fin_cases a
  · show ((r.val * 4 + k.val) * 128 + b.val) / 512 = r.val
    omega
  · show ((r.val * 4 + k.val) * 128 + b.val) % 512 = 128 * k.val + b.val
    omega

/-- The others. -/
theorem v10 (r : Fin 4160) (j : Fin 512) : val_main_v10 (F := Ideal) x1 x2 (ix2 r j)
    = val_main_v6 (F := Ideal) x1 x2 (ix2 r (rest j)) := by
  pointwise [val_main_v10]
  rfl

/-- The matrix's gradient. -/
theorem v11 (k j : Fin 1024) : (val_main_v11 (F := Ideal) x0 x2 (ix2 k j) : EReal)
    = ∑ r : Fin 4112, x2 (ix2 r j) * x0 (ix2 r k) := by
  pointwise [val_main_v11, val_main_v5, val_main_v3, val_main_v2]

end Cert.BwdOutRefIdeal.At

end
-- ==== Proof.BwdOut.lean ====
/-
  The output projection's backward call computes what its reference computes: the padded rows of the cotangent are zero,
  so they give zero rows and add nothing to the matrix's gradient.
-/
module

public import proofs.«01_k».proof.Defs
public import proofs.«01_k».proof.Proof.BwdOutArrays
public import proofs.«01_k».proof.Proof.BwdOutRef
public import proofs.«01_k».proof.Proof.BwdIn
public import proofs.«01_k».proof.Proof.Gen.BwdOutRefIdeal.Run
public import Idealize.ShloMosaic.Lib.Claim

@[expose] public section

noncomputable section

namespace Cert.BwdOutEqual

open Idealize.ShloMosaic Idealize.ShloMosaic.TcCoe Idealize.SL.Sem
open Cert.BwdOutIdeal Cert.BwdOutIdeal.Gen Cert.BwdOutIdeal.Arrays Cert.BwdOutIdeal.Point Cert.BwdOutRefIdeal.At

variable (m : (ℓ : Loc nD τ sig) → Buf (Elt Ideal) ℓ) (c : Dev nD)

/-- A row of the mixed rows' gradient. -/
theorem back_eq (r : Fin 4160) (k : Fin 1024) :
    back (aD m c) (aW m c) r k = Cert.BwdOutRefIdeal.Read.val_main_v6 (F := Ideal) (x1 m c) (x2 m c) (ix2 r k) := by
  rw [v6]
  unfold back
  by_cases h : r.val < 4112
  · rw [dif_pos h]
    exact Finset.sum_congr rfl fun j _ => by rw [aD_at, dif_pos h, aW_at]
  · rw [dif_neg h]
    exact Finset.sum_eq_zero fun j _ => by rw [aD_at, dif_neg h, zero_mul]

theorem stacked_eq : ((dats m 0 c).arrAt 4 cfg0.N : FVec Ideal S4x4160x128 .f32)
    = Cert.BwdOutRefIdeal.Read.val_main_v9 (x1 m c) (x2 m c) := by
  funext y
  obtain ⟨k, r, b, rfl⟩ : ∃ k p b, y = ix3 k p b := ⟨y 0, y 1, y 2, by pointwise⟩
  exact (final4 m c k r b).trans ((back_eq m c r _).trans (v9 _ _ k r b).symm)

theorem rest_eq : ((dats m 0 c).arrAt 5 cfg0.N : FVec Ideal S4160x512 .f32)
    = Cert.BwdOutRefIdeal.Read.val_main_v10 (x1 m c) (x2 m c) := by
  funext y
  obtain ⟨r, j, rfl⟩ : ∃ p k, y = ix2 p k := ⟨y 0, y 1, by pointwise⟩
  exact (final5 m c r j).trans ((back_eq m c r _).trans (v10 _ _ r j).symm)

/-- What a row of the arguments adds to the matrix's gradient. -/
theorem term_eq (k j : Fin 1024) (r : Fin 4160) (h : r.val < 4112) :
    termW (aD m c) (aS m c) (aP m c) k j r = x2 m c (ix2 ⟨r, h⟩ j) * x0 m c (ix2 ⟨r, h⟩ k) := by
  unfold termW
  rw [aD_at, dif_pos h, mul_comm]
  refine congrArg (_ * ·) ?_
  by_cases hk : k.val < 512
  · rw [dif_pos hk, aS_at, dif_pos h]
  · rw [dif_neg hk, aP_at, dif_pos h]
    refine congrArg (fun i => x0 m c (ix2 _ i)) (Fin.ext ?_)
    simp only [Cert.FwdInIdeal.Point.rest]
    omega

theorem grad_eq : ((dats m 0 c).arrAt 6 cfg0.N : FVec Ideal S1024x1024 .f32)
    = Cert.BwdOutRefIdeal.Read.val_main_v11 (x0 m c) (x2 m c) := by
  funext y
  obtain ⟨k, j, rfl⟩ : ∃ p k, y = ix2 p k := ⟨y 0, y 1, by pointwise⟩
  refine (final6 m c k j).trans (Eq.trans (α := EReal) (Cert.BwdInEqual.sum_rows _ fun r h => ?_) (Eq.trans (α := EReal) ?_ (v11 _ _ k j).symm))
  · unfold termW
    rw [aD_at, dif_neg h, mul_zero]
  · exact Finset.sum_congr rfl fun r _ => term_eq m c k j ⟨r, by omega⟩ r.isLt

/-- The claim. -/
theorem algebraic : Cert.algebraic_BwdOutIdeal_BwdOutRefIdeal := by
  intro m g m' g' _ ha
  refine ⟨fun c => (dats m 0 c).arrAt 4 cfg0.N, fun c => (dats m 0 c).arrAt 5 cfg0.N, fun c => (dats m 0 c).arrAt 6 cfg0.N,
    Cert.BwdOutIdeal.Value.run_blocks m g, (θ_run Cert.BwdOutRefIdeal.defs _ _).mono ?_ (Cert.BwdOutRefIdeal.Value.run m' g')⟩
  intro r h c
  obtain ⟨h4, h5, h6, hk⟩ := h c
  obtain ⟨a0, a1, a2⟩ := ha c
  change m' ((c : Thread nD τ).loc Cert.BwdOutRefIdeal.main_arg0) = x0 m c at a0
  change m' ((c : Thread nD τ).loc Cert.BwdOutRefIdeal.main_arg1) = x1 m c at a1
  change m' ((c : Thread nD τ).loc Cert.BwdOutRefIdeal.main_arg2) = x2 m c at a2
  refine ⟨h4.trans ?_, h5.trans ?_, h6.trans ?_, hk⟩
  · refine (Cert.BwdOutRefIdeal.Read.val_main_v9_eq _ _).trans ?_
    rw [a1, a2]
    exact (stacked_eq m c).symm
  · refine (Cert.BwdOutRefIdeal.Read.val_main_v10_eq _ _).trans ?_
    rw [a1, a2]
    exact (rest_eq m c).symm
  · refine (Cert.BwdOutRefIdeal.Read.val_main_v11_eq _ _).trans ?_
    rw [a0, a2]
    exact (grad_eq m c).symm

end Cert.BwdOutEqual

end
-- ==== Proof.GradFfnPoint.lean ====
/-
  What one grid point of the gated product's weight gradients leaves in its three result blocks: the products over the
  point's rows, set at a quarter's first point and added at the others.
-/
module

public import proofs.«01_k».proof.Proof.Gen.GradFfnIdeal.Value
public import proofs.«01_k».proof.Proof.Pieces
public import Idealize.ShloMosaic.Lib.Pipeline.Value
public import Idealize.ShloMosaic.Lib.Pipeline.ReadBack
public import Idealize.ShloMosaic.Lib.Pointwise
public import Idealize.ShloMosaic.Lib.Tactic

@[expose] public section

set_option maxRecDepth 16384

noncomputable section

namespace Cert.GradFfnIdeal.Point

open Idealize.ShloMosaic Idealize.ShloMosaic.TcCoe Idealize.SL.Sem
open Cert.GradFfnIdeal Cert.GradFfnIdeal.Gen Cert.Pieces

theorem hz3 : (![0, 0, 0] : Fin 3 → Nat) = fun _ => 0 := funext fun a => by fin_cases a <;> rfl

/-- The product over a block's rows. -/
def tn (x : Vec Ideal S1x1040x704 .bf16) (y : Vec Ideal S1040x1024 .bf16) (k : Fin 704) (j : Fin 1024) : EReal :=
  ∑ p : Fin 1040, x (ix3 0 p k) * y (ix2 p j)

variable (x0 : Vec Ideal S1040x1024 .bf16) (x1 x2 x3 : Vec Ideal S1x1040x704 .bf16) (x4 : Vec Ideal S1040x1024 .bf16)
  (xo5 xo6 xo7 : Vec Ideal S1x704x1024 .f32)

theorem set5 (k : Fin 704) (j : Fin 1024) : (k0_pay5 (F := Ideal) x0 x1 (ix3 0 k j) : EReal) = tn x1 x0 k j := by
  pointwise [k0_pay5, k0_pay2, k0_pay1, tn]
theorem set6 (k : Fin 704) (j : Fin 1024) : (k0_pay6 (F := Ideal) x0 x2 (ix3 0 k j) : EReal) = tn x2 x0 k j := by
  pointwise [k0_pay6, k0_pay3, k0_pay1, tn]
theorem set7 (k : Fin 704) (j : Fin 1024) : (k0_pay7 (F := Ideal) x3 x4 (ix3 0 k j) : EReal) = tn x3 x4 k j := by
  pointwise [k0_pay7, k0_pay4, tn]
theorem add5 (k : Fin 704) (j : Fin 1024) : (k0_pay8 (F := Ideal) x0 x1 xo5 (ix3 0 k j) : EReal) = xo5 (ix3 0 k j) + tn x1 x0 k j := by
  pointwise [k0_pay8, k0_pay2, k0_pay1, tn]
theorem add6 (k : Fin 704) (j : Fin 1024) : (k0_pay9 (F := Ideal) x0 x2 xo6 (ix3 0 k j) : EReal) = xo6 (ix3 0 k j) + tn x2 x0 k j := by
  pointwise [k0_pay9, k0_pay3, k0_pay1, tn]
theorem add7 (k : Fin 704) (j : Fin 1024) : (k0_pay10 (F := Ideal) x3 x4 xo7 (ix3 0 k j) : EReal) = xo7 (ix3 0 k j) + tn x3 x4 k j := by
  pointwise [k0_pay10, k0_pay4, tn]

section Outs

variable (c : Dev nD) (i : grid0.Coords) (a1 : Memref sig .tc .vmem S1040x1024 .bf16) (h1 : a1.IsWhole) (a2 : Memref sig .tc .vmem S1x1040x704 .bf16) (h2 : a2.IsWhole)
  (a3 : Memref sig .tc .vmem S1x1040x704 .bf16) (h3 : a3.IsWhole) (a4 : Memref sig .tc .vmem S1x1040x704 .bf16) (h4 : a4.IsWhole)
  (a5 : Memref sig .tc .vmem S1040x1024 .bf16) (h5 : a5.IsWhole) (a6 : Memref sig .tc .vmem S1x704x1024 .f32) (h6 : a6.IsWhole)
  (a7 : Memref sig .tc .vmem S1x704x1024 .f32) (h7 : a7.IsWhole) (a8 : Memref sig .tc .vmem S1x704x1024 .f32) (h8 : a8.IsWhole)

theorem out_A_5 (hc : cond0_0 i) (hd : ¬cond0_1 i) (k : Fin 704) (j : Fin 1024) :
    (out0_A_5 c i a1 h1 a2 h2 a3 h3 a4 h4 a5 h5 a6 h6 a7 h7 a8 h8 hc hd x0 x1 x2 x3 x4 (ix3 0 k j) : EReal) = tn x1 x0 k j := by
  unfold out0_A_5
  rw [View.read_writes_junk_eq_canon]
  unfold kernelRun0_A
  dsimp only
  sl_unfold_words
  rw [View.canon_unit_zero hz3]
  simp only [View.readAt_eq_ld, h1.read_unread, h2.read_unread, h3.read_unread, h4.read_unread, h5.read_unread, h6.read_unread,
    View.ld_unit_zero (S := S1040x1024) hz, View.ld_unit_zero (S := S1x1040x704) hz3, View.ld_unit_zero (S := S1x704x1024) hz3]
  exact set5 x0 x1 k j

theorem out_B_5 (hc : ¬cond0_0 i) (hd : cond0_1 i) (k : Fin 704) (j : Fin 1024) :
    (out0_B_5 c i a1 h1 a2 h2 a3 h3 a4 h4 a5 h5 a6 h6 a7 h7 a8 h8 hc hd x0 x1 x2 x3 x4 xo5 xo6 xo7 (ix3 0 k j) : EReal) = xo5 (ix3 0 k j) + tn x1 x0 k j := by
  unfold out0_B_5
  rw [View.read_writes_junk_eq_canon]
  unfold kernelRun0_B
  dsimp only
  sl_unfold_words
  rw [View.canon_unit_zero hz3]
  simp only [View.readAt_eq_ld, h1.read_unread, h2.read_unread, h3.read_unread, h4.read_unread, h5.read_unread, h6.read_unread,
    View.ld_unit_zero (S := S1040x1024) hz, View.ld_unit_zero (S := S1x1040x704) hz3, View.ld_unit_zero (S := S1x704x1024) hz3]
  exact add5 x0 x1 xo5 k j

theorem out_A_6 (hc : cond0_0 i) (hd : ¬cond0_1 i) (k : Fin 704) (j : Fin 1024) :
    (out0_A_6 c i a1 h1 a2 h2 a3 h3 a4 h4 a5 h5 a6 h6 a7 h7 a8 h8 hc hd x0 x1 x2 x3 x4 (ix3 0 k j) : EReal) = tn x2 x0 k j := by
  unfold out0_A_6
  rw [View.read_writes_junk_eq_canon]
  unfold kernelRun0_A
  dsimp only
  sl_unfold_words
  rw [View.canon_unit_zero hz3]
  simp only [View.readAt_eq_ld, h1.read_unread, h2.read_unread, h3.read_unread, h4.read_unread, h5.read_unread, h7.read_unread,
    View.ld_unit_zero (S := S1040x1024) hz, View.ld_unit_zero (S := S1x1040x704) hz3, View.ld_unit_zero (S := S1x704x1024) hz3]
  exact set6 x0 x2 k j

theorem out_B_6 (hc : ¬cond0_0 i) (hd : cond0_1 i) (k : Fin 704) (j : Fin 1024) :
    (out0_B_6 c i a1 h1 a2 h2 a3 h3 a4 h4 a5 h5 a6 h6 a7 h7 a8 h8 hc hd x0 x1 x2 x3 x4 xo5 xo6 xo7 (ix3 0 k j) : EReal) = xo6 (ix3 0 k j) + tn x2 x0 k j := by
  unfold out0_B_6
  rw [View.read_writes_junk_eq_canon]
  unfold kernelRun0_B
  dsimp only
  sl_unfold_words
  rw [View.canon_unit_zero hz3]
  simp only [View.readAt_eq_ld, h1.read_unread, h2.read_unread, h3.read_unread, h4.read_unread, h5.read_unread, h7.read_unread,
    View.ld_unit_zero (S := S1040x1024) hz, View.ld_unit_zero (S := S1x1040x704) hz3, View.ld_unit_zero (S := S1x704x1024) hz3]
  exact add6 x0 x2 xo6 k j

theorem out_A_7 (hc : cond0_0 i) (hd : ¬cond0_1 i) (k : Fin 704) (j : Fin 1024) :
    (out0_A_7 c i a1 h1 a2 h2 a3 h3 a4 h4 a5 h5 a6 h6 a7 h7 a8 h8 hc hd x0 x1 x2 x3 x4 (ix3 0 k j) : EReal) = tn x3 x4 k j := by
  unfold out0_A_7
  rw [View.read_writes_junk_eq_canon]
  unfold kernelRun0_A
  dsimp only
  sl_unfold_words
  rw [View.canon_unit_zero hz3]
  simp only [View.readAt_eq_ld, h1.read_unread, h2.read_unread, h3.read_unread, h4.read_unread, h5.read_unread, h8.read_unread,
    View.ld_unit_zero (S := S1040x1024) hz, View.ld_unit_zero (S := S1x1040x704) hz3, View.ld_unit_zero (S := S1x704x1024) hz3]
  exact set7 x3 x4 k j

theorem out_B_7 (hc : ¬cond0_0 i) (hd : cond0_1 i) (k : Fin 704) (j : Fin 1024) :
    (out0_B_7 c i a1 h1 a2 h2 a3 h3 a4 h4 a5 h5 a6 h6 a7 h7 a8 h8 hc hd x0 x1 x2 x3 x4 xo5 xo6 xo7 (ix3 0 k j) : EReal) = xo7 (ix3 0 k j) + tn x3 x4 k j := by
  unfold out0_B_7
  rw [View.read_writes_junk_eq_canon]
  unfold kernelRun0_B
  dsimp only
  sl_unfold_words
  rw [View.canon_unit_zero hz3]
  simp only [View.readAt_eq_ld, h1.read_unread, h2.read_unread, h3.read_unread, h4.read_unread, h5.read_unread, h8.read_unread,
    View.ld_unit_zero (S := S1040x1024) hz, View.ld_unit_zero (S := S1x1040x704) hz3, View.ld_unit_zero (S := S1x704x1024) hz3]
  exact add7 x3 x4 xo7 k j

end Outs

end Cert.GradFfnIdeal.Point

end
-- ==== Proof.GradFfnArrays.lean ====
/-
  The gated product's weight gradients as a whole: the three result arrays after the last grid point, a quarter's block
  being the sum of its four points' products, and the arrays the region is entered with in terms of the arguments.
-/
module

public import proofs.«01_k».proof.Proof.GradFfnPoint
public import proofs.«01_k».proof.Proof.Rows
public import Idealize.ShloMosaic.Lib.Pipeline.ValueKit.Geometry
public import Idealize.ShloMosaic.Lib.Pipeline.ValueKit.Acc

@[expose] public section

noncomputable section

namespace Cert.GradFfnIdeal.Arrays

open Idealize.ShloMosaic Idealize.ShloMosaic.TcCoe Idealize.SL.Sem
open Cert.GradFfnIdeal Cert.GradFfnIdeal.Gen Cert.GradFfnIdeal.Point

variable (m : (ℓ : Loc nD τ sig) → Buf (Elt Ideal) ℓ) (c : Dev nD)

/-- The arrays the region is entered with: the normed rows, the two cotangents and the gated product in quarters of their
    columns, the result's cotangent. -/
abbrev aN : FVec Ideal S4160x1024 .bf16 := V m c main_v1
abbrev aA : FVec Ideal S4x4160x704 .bf16 := V m c main_v5
abbrev aB : FVec Ideal S4x4160x704 .bf16 := V m c main_v9
abbrev aF : FVec Ideal S4x4160x704 .bf16 := V m c main_v13
abbrev aH : FVec Ideal S4160x1024 .bf16 := V m c main_v15

theorem at0 : ∀ t : Fin cfg0.N, win0_0.index t = ![t.val % 4, 0] := (by decide +kernel : ∀ t : Fin grid0.N, _)
theorem at4 : ∀ t : Fin cfg0.N, win0_4.index t = ![t.val % 4, 0] := (by decide +kernel : ∀ t : Fin grid0.N, _)
theorem at1 : ∀ t : Fin cfg0.N, win0_1.index t = ![t.val / 4, t.val % 4, 0] := (by decide +kernel : ∀ t : Fin grid0.N, _)
theorem at2 : ∀ t : Fin cfg0.N, win0_2.index t = ![t.val / 4, t.val % 4, 0] := (by decide +kernel : ∀ t : Fin grid0.N, _)
theorem at3 : ∀ t : Fin cfg0.N, win0_3.index t = ![t.val / 4, t.val % 4, 0] := (by decide +kernel : ∀ t : Fin grid0.N, _)
theorem at5 : ∀ t : Fin cfg0.N, win0_5.index t = ![t.val / 4, 0, 0] := (by decide +kernel : ∀ t : Fin grid0.N, _)
theorem at6 : ∀ t : Fin cfg0.N, win0_6.index t = ![t.val / 4, 0, 0] := (by decide +kernel : ∀ t : Fin grid0.N, _)
theorem at7 : ∀ t : Fin cfg0.N, win0_7.index t = ![t.val / 4, 0, 0] := (by decide +kernel : ∀ t : Fin grid0.N, _)
theorem last5 : ∀ t : Fin cfg0.N, (cfg0.win 5).flush t = true → t.val % 4 = 3 := (by decide +kernel : ∀ t : Fin grid0.N, _)
theorem last6 : ∀ t : Fin cfg0.N, (cfg0.win 6).flush t = true → t.val % 4 = 3 := (by decide +kernel : ∀ t : Fin grid0.N, _)
theorem last7 : ∀ t : Fin cfg0.N, (cfg0.win 7).flush t = true → t.val % 4 = 3 := (by decide +kernel : ∀ t : Fin grid0.N, _)

/-- A block's index. -/
theorem one (y : S1x704x1024.Idx) : ∃ (k : Fin 704) (j : Fin 1024), y = ix3 0 k j :=
  ⟨y 1, y 2, funext fun a => match a with
    | 0 => Subsingleton.elim (α := Fin 1) _ _
    | 1 => rfl
    | 2 => rfl⟩

/-- The quarter a point works on. -/
def qu (t : Fin cfg0.N) : Fin 4 := ⟨t.val / 4, by have : t.val < 16 := lt_of_lt_of_eq t.isLt N_0; omega⟩
/-- The array row of a block's row. -/
def gr (t : Fin cfg0.N) (p : Fin 1040) : Fin 4160 := ⟨t.val % 4 * 1040 + p.val, by omega⟩

theorem blk0 (t : Fin cfg0.N) (p : Fin 1040) (j : Fin 1024) : (iblk m c 0 t : FVec Ideal S1040x1024 .bf16) (ix2 p j) = aN m c (ix2 (gr t p) j) := by
  blk_simp [iblk]; refine congrArg (V m c main_v1) ?_; blk_ext [at0] <;> rfl
theorem blk4 (t : Fin cfg0.N) (p : Fin 1040) (j : Fin 1024) : (iblk m c 4 t : FVec Ideal S1040x1024 .bf16) (ix2 p j) = aH m c (ix2 (gr t p) j) := by
  blk_simp [iblk]; refine congrArg (V m c main_v15) ?_; blk_ext [at4] <;> rfl
theorem blk1 (t : Fin cfg0.N) (p : Fin 1040) (k : Fin 704) : (iblk m c 1 t : FVec Ideal S1x1040x704 .bf16) (ix3 0 p k) = aA m c (ix3 (qu t) (gr t p) k) := by
  blk_simp [iblk]; refine congrArg (V m c main_v5) ?_; blk_ext [at1] <;> rfl
theorem blk2 (t : Fin cfg0.N) (p : Fin 1040) (k : Fin 704) : (iblk m c 2 t : FVec Ideal S1x1040x704 .bf16) (ix3 0 p k) = aB m c (ix3 (qu t) (gr t p) k) := by
  blk_simp [iblk]; refine congrArg (V m c main_v9) ?_; blk_ext [at2] <;> rfl
theorem blk3 (t : Fin cfg0.N) (p : Fin 1040) (k : Fin 704) : (iblk m c 3 t : FVec Ideal S1x1040x704 .bf16) (ix3 0 p k) = aF m c (ix3 (qu t) (gr t p) k) := by
  blk_simp [iblk]; refine congrArg (V m c main_v13) ?_; blk_ext [at3] <;> rfl

/-- A row's product. -/
def term (x : FVec Ideal S4x4160x704 .bf16) (y : FVec Ideal S4160x1024 .bf16) (q : Fin 4) (k : Fin 704) (j : Fin 1024) (r : Fin 4160) : EReal :=
  x (ix3 q r k) * y (ix2 r j)

/-- Its sum over all rows. -/
def full (x : FVec Ideal S4x4160x704 .bf16) (y : FVec Ideal S4160x1024 .bf16) (q : Fin 4) (k : Fin 704) (j : Fin 1024) : EReal :=
  ∑ r : Fin 4160, term x y q k j r

/-- A point's product out of the arrays. -/
def part (x : FVec Ideal S4x4160x704 .bf16) (y : FVec Ideal S4160x1024 .bf16) (t : Fin cfg0.N) (i : Fin 704 × Fin 1024) : EReal :=
  ∑ p : Fin 1040, term x y (qu t) i.1 i.2 (gr t p)

/-- A quarter's four points make the sum over all rows. -/
theorem sum_parts (x : FVec Ideal S4x4160x704 .bf16) (y : FVec Ideal S4160x1024 .bf16) (t : Fin cfg0.N) (k : Fin 704) (j : Fin 1024)
    (h : ∀ s : Fin 4, 4 * (t.val / 4) + s.val < cfg0.N) :
    ∑ s : Fin 4, part x y ⟨4 * (t.val / 4) + s.val, h s⟩ (k, j) = full x y (qu t) k j := by
  refine (Finset.sum_congr rfl fun s _ => Finset.sum_congr rfl fun p _ => ?_).trans (Fin.sum_mul_add_fin 4 1040 (term x y (qu t) k j) rfl)
  refine congrArg₂ (fun a b => term x y a k j b) (Fin.ext ?_) (Fin.ext ?_)
  · show (4 * (t.val / 4) + s.val) / 4 = t.val / 4
    omega
  · show (4 * (t.val / 4) + s.val) % 4 * 1040 + p.val = s.val * 1040 + p.val
    omega

theorem part5 (t : Fin cfg0.N) (k : Fin 704) (j : Fin 1024) : tn (iblk m c 1 t) (iblk m c 0 t) k j = part (aA m c) (aN m c) t (k, j) :=
  Finset.sum_congr rfl fun p _ => congrArg₂ (· * ·) (blk1 m c t p k) (blk0 m c t p j)

theorem final5 (q : Fin 4) (k : Fin 704) (j : Fin 1024) :
    (((dats m 0 c).arrAt 5 cfg0.N : FVec Ideal S4x704x1024 .f32) (ix3 q k j) : EReal) = full (aA m c) (aN m c) q k j := by
  have h := (dats m 0 c).arrAt_eq_of_covers 5 (fun y : S4x704x1024.Idx => full (aA m c) (aN m c) (y 0) (y 1) (y 2))
    (by decide +kernel) fun t hf y => ?_
  · exact congrFun h (ix3 q k j)
  · blk_simp
    rw [after0_5]
    obtain ⟨k, j, rfl⟩ := one y
    have e : ((win0_5.blk t).view.emb (ix3 0 k j : S1x704x1024.Idx) : S4x704x1024.Idx) = ix3 (qu t) k j := by blk_ext [at5] <;> rfl
    rw [e]
    refine (Pipeline.eq_sum_fin_of_reset_step_apply_of_flush (ι := Fin 704 × Fin 1024) (N := cfg0.N)
      (fun n h i => ((outsAt0 m c n h).1 : FVec Ideal S1x704x1024 .f32) (ix3 0 i.1 i.2)) 4 (fun _ => (0 : EReal)) (part (aA m c) (aN m c))
      (fun t h i => by
        rw [outsAt0_A m c t h (by omega)]; dsimp only; rw [out_A_5, zero_add]; exact part5 m c t i.1 i.2)
      (fun t h i => by
        rw [outsAt0_B m c t h (by omega)]; dsimp only; rw [out_B_5]; exact congrArg _ (part5 m c t i.1 i.2))
      t (last5 t hf) (k, j)).trans ((zero_add _).trans (sum_parts _ _ t k j _))

theorem part6 (t : Fin cfg0.N) (k : Fin 704) (j : Fin 1024) : tn (iblk m c 2 t) (iblk m c 0 t) k j = part (aB m c) (aN m c) t (k, j) :=
  Finset.sum_congr rfl fun p _ => congrArg₂ (· * ·) (blk2 m c t p k) (blk0 m c t p j)

theorem final6 (q : Fin 4) (k : Fin 704) (j : Fin 1024) :
    (((dats m 0 c).arrAt 6 cfg0.N : FVec Ideal S4x704x1024 .f32) (ix3 q k j) : EReal) = full (aB m c) (aN m c) q k j := by
  have h := (dats m 0 c).arrAt_eq_of_covers 6 (fun y : S4x704x1024.Idx => full (aB m c) (aN m c) (y 0) (y 1) (y 2))
    (by decide +kernel) fun t hf y => ?_
  · exact congrFun h (ix3 q k j)
  · blk_simp
    rw [after0_6]
    obtain ⟨k, j, rfl⟩ := one y
    have e : ((win0_6.blk t).view.emb (ix3 0 k j : S1x704x1024.Idx) : S4x704x1024.Idx) = ix3 (qu t) k j := by blk_ext [at6] <;> rfl
    rw [e]
    refine (Pipeline.eq_sum_fin_of_reset_step_apply_of_flush (ι := Fin 704 × Fin 1024) (N := cfg0.N)
      (fun n h i => ((outsAt0 m c n h).2.1 : FVec Ideal S1x704x1024 .f32) (ix3 0 i.1 i.2)) 4 (fun _ => (0 : EReal)) (part (aB m c) (aN m c))
      (fun t h i => by
        rw [outsAt0_A m c t h (by omega)]; dsimp only; rw [out_A_6, zero_add]; exact part6 m c t i.1 i.2)
      (fun t h i => by
        rw [outsAt0_B m c t h (by omega)]; dsimp only; rw [out_B_6]; exact congrArg _ (part6 m c t i.1 i.2))
      t (last6 t hf) (k, j)).trans ((zero_add _).trans (sum_parts _ _ t k j _))

theorem part7 (t : Fin cfg0.N) (k : Fin 704) (j : Fin 1024) : tn (iblk m c 3 t) (iblk m c 4 t) k j = part (aF m c) (aH m c) t (k, j) :=
  Finset.sum_congr rfl fun p _ => congrArg₂ (· * ·) (blk3 m c t p k) (blk4 m c t p j)

theorem final7 (q : Fin 4) (k : Fin 704) (j : Fin 1024) :
    (((dats m 0 c).arrAt 7 cfg0.N : FVec Ideal S4x704x1024 .f32) (ix3 q k j) : EReal) = full (aF m c) (aH m c) q k j := by
  have h := (dats m 0 c).arrAt_eq_of_covers 7 (fun y : S4x704x1024.Idx => full (aF m c) (aH m c) (y 0) (y 1) (y 2))
    (by decide +kernel) fun t hf y => ?_
  · exact congrFun h (ix3 q k j)
  · blk_simp
    rw [after0_7]
    obtain ⟨k, j, rfl⟩ := one y
    have e : ((win0_7.blk t).view.emb (ix3 0 k j : S1x704x1024.Idx) : S4x704x1024.Idx) = ix3 (qu t) k j := by blk_ext [at7] <;> rfl
    rw [e]
    refine (Pipeline.eq_sum_fin_of_reset_step_apply_of_flush (ι := Fin 704 × Fin 1024) (N := cfg0.N)
      (fun n h i => ((outsAt0 m c n h).2.2 : FVec Ideal S1x704x1024 .f32) (ix3 0 i.1 i.2)) 4 (fun _ => (0 : EReal)) (part (aF m c) (aH m c))
      (fun t h i => by
        rw [outsAt0_A m c t h (by omega)]; dsimp only; rw [out_A_7, zero_add]; exact part7 m c t i.1 i.2)
      (fun t h i => by
        rw [outsAt0_B m c t h (by omega)]; dsimp only; rw [out_B_7]; exact congrArg _ (part7 m c t i.1 i.2))
      t (last7 t hf) (k, j)).trans ((zero_add _).trans (sum_parts _ _ t k j _))

/-- The arguments. -/
abbrev x0 : FVec Ideal S4112x1024 .f32 := m ((c : Thread nD τ).loc main_arg0)
abbrev x1 : FVec Ideal S4112x2816 .f32 := m ((c : Thread nD τ).loc main_arg1)
abbrev x2 : FVec Ideal S4112x2816 .f32 := m ((c : Thread nD τ).loc main_arg2)
abbrev x3 : FVec Ideal S4112x2816 .f32 := m ((c : Thread nD τ).loc main_arg3)
abbrev x4 : FVec Ideal S4112x1024 .f32 := m ((c : Thread nD τ).loc main_arg4)

/-- A quarter's column. -/
def col (q : Fin 4) (k : Fin 704) : Fin 2816 := ⟨q * 704 + k, by omega⟩

theorem aN_at (r : Fin 4160) (k : Fin 1024) : (aN m c (ix2 r k) : EReal) = if h : r.val < 4112 then x0 m c (ix2 ⟨r, h⟩ k) else 0 := by
  unfold aN V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.toBuf, StableHlo.TRef.ofBuf, cast_eq]
  after_results_simp
  pointwise
  rw [Rows.sitofp_zero]

theorem aH_at (r : Fin 4160) (k : Fin 1024) : (aH m c (ix2 r k) : EReal) = if h : r.val < 4112 then x4 m c (ix2 ⟨r, h⟩ k) else 0 := by
  unfold aH V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.toBuf, StableHlo.TRef.ofBuf, cast_eq]
  after_results_simp
  pointwise
  rw [Rows.sitofp_zero]

theorem aA_at (q : Fin 4) (r : Fin 4160) (k : Fin 704) : (aA m c (ix3 q r k) : EReal) = if h : r.val < 4112 then x2 m c (ix2 ⟨r, h⟩ (col q k)) else 0 := by
  unfold aA V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.toBuf, StableHlo.TRef.ofBuf, cast_eq]
  after_results_simp
  pointwise
  rw [Rows.sitofp_zero]
  by_cases h : r.val < 4112
  · rw [dif_pos ⟨h, (col q k).isLt⟩, dif_pos h]; rfl
  · rw [dif_neg fun e => h e.1, dif_neg h]

theorem aB_at (q : Fin 4) (r : Fin 4160) (k : Fin 704) : (aB m c (ix3 q r k) : EReal) = if h : r.val < 4112 then x3 m c (ix2 ⟨r, h⟩ (col q k)) else 0 := by
  unfold aB V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.toBuf, StableHlo.TRef.ofBuf, cast_eq]
  after_results_simp
  pointwise
  rw [Rows.sitofp_zero]
  by_cases h : r.val < 4112
  · rw [dif_pos ⟨h, (col q k).isLt⟩, dif_pos h]; rfl
  · rw [dif_neg fun e => h e.1, dif_neg h]

theorem aF_at (q : Fin 4) (r : Fin 4160) (k : Fin 704) : (aF m c (ix3 q r k) : EReal) = if h : r.val < 4112 then x1 m c (ix2 ⟨r, h⟩ (col q k)) else 0 := by
  unfold aF V
  simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append,
    StableHlo.TRef.binary, StableHlo.TRef.unary, StableHlo.TRef.toBuf, StableHlo.TRef.ofBuf, cast_eq]
  after_results_simp
  pointwise
  rw [Rows.sitofp_zero]
  by_cases h : r.val < 4112
  · rw [dif_pos ⟨h, (col q k).isLt⟩, dif_pos h]; rfl
  · rw [dif_neg fun e => h e.1, dif_neg h]

end Cert.GradFfnIdeal.Arrays

end
-- ==== Proof.GradFfnRef.lean ====
/-
  The weight gradients' reference read at an index: a quarter's columns of the products over all rows.
-/
module

public import proofs.«01_k».proof.Proof.Gen.GradFfnRefIdeal.Read
public import proofs.«01_k».proof.Proof.GradFfnArrays

@[expose] public section

noncomputable section

namespace Cert.GradFfnRefIdeal.At

open Idealize.ShloMosaic
open Cert.GradFfnRefIdeal Cert.GradFfnRefIdeal.Read
open Cert.GradFfnIdeal.Arrays (col)

variable (x0 : FVec Ideal S4112x1024 .f32) (x1 x2 x3 : FVec Ideal S4112x2816 .f32) (x4 : FVec Ideal S4112x1024 .f32)

theorem v12 (q : Fin 4) (k : Fin 704) (j : Fin 1024) : (val_main_v12 (F := Ideal) x0 x2 (ix3 q k j) : EReal)
    = ∑ r : Fin 4112, x2 (ix2 r (col q k)) * x0 (ix2 r j) := by
  pointwise [val_main_v12, val_main_v11, val_main_v10, val_main_v9]
  rfl

theorem v14 (q : Fin 4) (k : Fin 704) (j : Fin 1024) : (val_main_v14 (F := Ideal) x0 x3 (ix3 q k j) : EReal)
    = ∑ r : Fin 4112, x3 (ix2 r (col q k)) * x0 (ix2 r j) := by
  pointwise [val_main_v14, val_main_v13, val_main_v8, val_main_v7]
  rfl

theorem v15 (q : Fin 4) (k : Fin 704) (j : Fin 1024) : (val_main_v15 (F := Ideal) x1 x4 (ix3 q k j) : EReal)
    = ∑ r : Fin 4112, x4 (ix2 r j) * x1 (ix2 r (col q k)) := by
  pointwise [val_main_v15, val_main_v6, val_main_v5]
  rfl

end Cert.GradFfnRefIdeal.At

end
-- ==== Proof.GradFfn.lean ====
/-
  The weight gradients' call computes what its reference computes: the padded rows of one factor are zero, so they add
  nothing.
-/
module

public import proofs.«01_k».proof.Defs
public import proofs.«01_k».proof.Proof.GradFfnArrays
public import proofs.«01_k».proof.Proof.GradFfnRef
public import proofs.«01_k».proof.Proof.BwdIn
public import proofs.«01_k».proof.Proof.Gen.GradFfnRefIdeal.Run
public import Idealize.ShloMosaic.Lib.Claim

@[expose] public section

noncomputable section

namespace Cert.GradFfnEqual

open Idealize.ShloMosaic Idealize.ShloMosaic.TcCoe Idealize.SL.Sem
open Cert.GradFfnIdeal Cert.GradFfnIdeal.Gen Cert.GradFfnIdeal.Arrays Cert.GradFfnIdeal.Point Cert.GradFfnRefIdeal.At

variable (m : (ℓ : Loc nD τ sig) → Buf (Elt Ideal) ℓ) (c : Dev nD)

/-- The sum over the padded rows is the sum over the rows, when the arrays are the arguments padded with zeros. -/
theorem full_eq (x : FVec Ideal S4x4160x704 .bf16) (y : FVec Ideal S4160x1024 .bf16) (u : FVec Ideal S4112x2816 .f32) (v : FVec Ideal S4112x1024 .f32)
    (hx : ∀ q r k, (x (ix3 q r k) : EReal) = if h : r.val < 4112 then u (ix2 ⟨r, h⟩ (col q k)) else 0)
    (hy : ∀ r k, (y (ix2 r k) : EReal) = if h : r.val < 4112 then v (ix2 ⟨r, h⟩ k) else 0) (q : Fin 4) (k : Fin 704) (j : Fin 1024) :
    full x y q k j = ∑ r : Fin 4112, (u (ix2 r (col q k)) * v (ix2 r j) : EReal) := by
  refine (Cert.BwdInEqual.sum_rows _ fun r h => ?_).trans (Finset.sum_congr rfl fun r _ => ?_)
  · unfold term
    rw [hx, dif_neg h, zero_mul]
  · unfold term
    rw [hx, hy, dif_pos r.isLt, dif_pos r.isLt]

theorem same5 : ((dats m 0 c).arrAt 5 cfg0.N : FVec Ideal S4x704x1024 .f32)
    = Cert.GradFfnRefIdeal.Read.val_main_v12 (x0 m c) (x2 m c) := by
  funext y
  obtain ⟨q, k, j, rfl⟩ : ∃ q k j, y = ix3 q k j := ⟨y 0, y 1, y 2, by pointwise⟩
  exact (final5 m c q k j).trans ((full_eq _ _ (x2 m c) (x0 m c) (aA_at m c) (aN_at m c) q k j).trans
    (v12 _ _ q k j).symm)

theorem same6 : ((dats m 0 c).arrAt 6 cfg0.N : FVec Ideal S4x704x1024 .f32)
    = Cert.GradFfnRefIdeal.Read.val_main_v14 (x0 m c) (x3 m c) := by
  funext y
  obtain ⟨q, k, j, rfl⟩ : ∃ q k j, y = ix3 q k j := ⟨y 0, y 1, y 2, by pointwise⟩
  exact (final6 m c q k j).trans ((full_eq _ _ (x3 m c) (x0 m c) (aB_at m c) (aN_at m c) q k j).trans
    (v14 _ _ q k j).symm)

theorem same7 : ((dats m 0 c).arrAt 7 cfg0.N : FVec Ideal S4x704x1024 .f32)
    = Cert.GradFfnRefIdeal.Read.val_main_v15 (x1 m c) (x4 m c) := by
  funext y
  obtain ⟨q, k, j, rfl⟩ : ∃ q k j, y = ix3 q k j := ⟨y 0, y 1, y 2, by pointwise⟩
  exact (final7 m c q k j).trans ((full_eq _ _ (x1 m c) (x4 m c) (aF_at m c) (aH_at m c) q k j).trans
    ((Finset.sum_congr rfl fun r _ => mul_comm _ _).trans (v15 _ _ q k j).symm))

/-- The claim. -/
theorem algebraic : Cert.algebraic_GradFfnIdeal_GradFfnRefIdeal := by
  intro m g m' g' _ ha
  refine ⟨fun c => (dats m 0 c).arrAt 5 cfg0.N, fun c => (dats m 0 c).arrAt 6 cfg0.N, fun c => (dats m 0 c).arrAt 7 cfg0.N,
    Cert.GradFfnIdeal.Value.run_blocks m g, (θ_run Cert.GradFfnRefIdeal.defs _ _).mono ?_ (Cert.GradFfnRefIdeal.Value.run m' g')⟩
  intro r h c
  obtain ⟨h5, h6, h7, hk⟩ := h c
  obtain ⟨a0, a1, a2, a3, a4⟩ := ha c
  change m' ((c : Thread nD τ).loc Cert.GradFfnRefIdeal.main_arg0) = x0 m c at a0
  change m' ((c : Thread nD τ).loc Cert.GradFfnRefIdeal.main_arg1) = x1 m c at a1
  change m' ((c : Thread nD τ).loc Cert.GradFfnRefIdeal.main_arg2) = x2 m c at a2
  change m' ((c : Thread nD τ).loc Cert.GradFfnRefIdeal.main_arg3) = x3 m c at a3
  change m' ((c : Thread nD τ).loc Cert.GradFfnRefIdeal.main_arg4) = x4 m c at a4
  refine ⟨h5.trans ?_, h6.trans ?_, h7.trans ?_, hk⟩
  · refine (Cert.GradFfnRefIdeal.Read.val_main_v12_eq _ _).trans ?_
    rw [a0, a2]
    exact (same5 m c).symm
  · refine (Cert.GradFfnRefIdeal.Read.val_main_v14_eq _ _).trans ?_
    rw [a0, a3]
    exact (same6 m c).symm
  · refine (Cert.GradFfnRefIdeal.Read.val_main_v15_eq _ _).trans ?_
    rw [a1, a4]
    exact (same7 m c).symm

end Cert.GradFfnEqual

end
-- ==== Proof.Adamw.lean ====
/-
  The optimiser's call on the learned tokens' shard against AdamW's formulas: the weight's change and the two new moments
  are the same arrays, whatever the arguments hold. Both sides take the same operations in the same order, entry by entry.
-/
module

public import proofs.«01_k».proof.Defs
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read

@[expose] public section

noncomputable section

namespace Cert.AdamwEqual

open Idealize.ShloMosaic Idealize.ShloMosaic.TcCoe Idealize.SL.Sem
open Cert.AdamwIdeal Cert.AdamwIdeal.Value Cert.AdamwRefIdeal.Read

variable (x0 x1 x2 x3 : FVec Ideal S16x256 .f32)

/-- The first moment. -/
theorem first : (G5 (F := Ideal) x1 x2 : FVec Ideal S16x256 .f32) = val_main_v4 (F := Ideal) x1 x2 := by
  funext i
  rw [val_main_v4_apply, val_main_v1_apply, val_main_v3_apply, val_main_v0_apply, val_main_v2_apply]
  rfl

/-- The second moment. -/
theorem second : (G6 (F := Ideal) x1 x3 : FVec Ideal S16x256 .f32) = val_main_v10 (F := Ideal) x1 x3 := by
  funext i
  rw [val_main_v10_apply, val_main_v6_apply, val_main_v9_apply, val_main_v7_apply, val_main_v5_apply, val_main_v8_apply]
  rfl

/-- The weight's change. -/
theorem change : (G4 (F := Ideal) x0 x1 x2 x3 : FVec Ideal S16x256 .f32) = val_main_v23 (F := Ideal) x0 x1 x2 x3 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, ← first, ← second]
  rfl

/-- The claim. -/
theorem algebraic : Cert.algebraic_AdamwIdeal_AdamwRefIdeal := by
  intro m g m' g' _ ha
  refine ⟨_, _, _, Cert.AdamwIdeal.Value.run m g, (θ_run Cert.AdamwRefIdeal.defs _ _).mono ?_ (Cert.AdamwRefIdeal.Value.run m' g')⟩
  intro r h c
  obtain ⟨h4, h5, h6, hk⟩ := h c
  obtain ⟨a0, a1, a2, a3⟩ := ha c
  change m' ((c : Thread nD τ).loc Cert.AdamwRefIdeal.main_arg0) = m ((c : Thread nD τ).loc main_arg0) at a0
  change m' ((c : Thread nD τ).loc Cert.AdamwRefIdeal.main_arg1) = m ((c : Thread nD τ).loc main_arg1) at a1
  change m' ((c : Thread nD τ).loc Cert.AdamwRefIdeal.main_arg2) = m ((c : Thread nD τ).loc main_arg2) at a2
  change m' ((c : Thread nD τ).loc Cert.AdamwRefIdeal.main_arg3) = m ((c : Thread nD τ).loc main_arg3) at a3
  refine ⟨h4.trans ?_, h5.trans ?_, h6.trans ?_, hk⟩
  · refine (Cert.AdamwRefIdeal.Read.val_main_v23_eq _ _ _ _).trans ?_
    rw [a0, a1, a2, a3]
    exact (change _ _ _ _).symm
  · refine (Cert.AdamwRefIdeal.Read.val_main_v4_eq _ _).trans ?_
    rw [a1, a2]
    exact (first _ _).symm
  · refine (Cert.AdamwRefIdeal.Read.val_main_v10_eq _ _).trans ?_
    rw [a1, a3]
    exact (second _ _).symm

end Cert.AdamwEqual

end
-- ==== Proof.S5FwdHost.lean ====
/- The host code before the diagonal recurrence's forward call: it runs to the call, and the twelve arguments stand
   there as they were launched. -/
module

public import proofs.«01_k».proof.Proof.Gen.S5Fwd.Launch
public import Idealize.ShloMosaic.Lib.Pipeline.FrameBody

@[expose] public section

set_option maxRecDepth 16384

noncomputable section

namespace Cert.S5FwdHost

open Idealize.ShloMosaic Idealize.ShloMosaic.TcCoe
open Idealize.SL Idealize.SL.RA Idealize.SL.Sem
open Cert.S5Fwd Cert.S5Fwd.Gen

variable {F : FTy → Type} [FloatOps F]
variable (m : (ℓ : Loc nD τ sig) → Buf (Elt F) ℓ)

/-- The lines of host operations before the call. -/
abbrev lines : List (List (HloOp τ sig (Elt F))) :=
  [hostOps0, hostOps0_1, hostOps0_2, hostOps0_3, hostOps0_4, hostOps0_5, hostOps0_6]

/-- The core's buffers where the call begins. -/
abbrev V (c : Dev nD) (b : Ref sig .tc) : Buf (Elt F) ((c : Thread nD τ).loc b) :=
  StableHlo.after (List.flatten lines) (fun d => m (c, d)) b

/-- The arguments: the first twelve arrays. -/
def isArg (b : Ref sig .tc) : Bool := b.space == .hbm && decide (b.idx.val < 12)

theorem other {b d : Ref sig .tc} (hb : isArg b = true) (hd : isArg d = false) :
    Proc.devRef (τ := τ) .tc b ≠ Proc.devRef .tc d :=
  StableHlo.devRef_ne_of_ne fun h => by rw [h, hd] at hb; exact Bool.noConfusion hb

set_option maxHeartbeats 8000000 in
/-- No line writes an argument. -/
theorem spared (b : Ref sig .tc) (hb : isArg b = true) :
    (lines (F := F)).Forall fun l => l.Forall fun op => Proc.devRef .tc b ∉ op.writes := by
  simp only [lines, hostOps0, hostOps0_1, hostOps0_2, hostOps0_3, hostOps0_4, hostOps0_5, hostOps0_6, List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.mem_singleton]
  repeat' apply And.intro
  all_goals exact other hb rfl

theorem argument (c : Dev nD) (b : Ref sig .tc) (hb : isArg b = true) : V m c b = m ((c : Thread nD τ).loc b) :=
  StableHlo.after_of_forall_not_mem (b := Proc.devRef .tc b) _ _ fun op hop => by
    obtain ⟨l, hl, h⟩ := List.mem_flatten.1 hop
    exact List.forall_iff_forall_mem.1 (List.forall_iff_forall_mem.1 (spared b hb) l hl) op h

set_option maxHeartbeats 8000000 in
/-- No line needs memory of its own. -/
theorem fresh : (lines (F := F)).Forall fun l => l.Forall fun op => op.fresh = ∅ := by
  simp only [lines, hostOps0, hostOps0_1, hostOps0_2, hostOps0_3, hostOps0_4, hostOps0_5, hostOps0_6, List.Forall]
  repeat' constructor

set_option maxHeartbeats 8000000 in
/-- The host code runs to the call. -/
theorem reaches (𝒱 : Variants) : Pipeline.HMain (Ix := Unit) (Name := ℕ) (U := UR sig nD τ) (Lvl := ℕ) cfgs 0 defs₀ 𝒱 m (main (F := F)) (V m) :=
  Pipeline.hmain_prefixes cfgs 0 defs₀ 𝒱 m main lines
    (by simp only [List.Forall]; exact ⟨hostOps0_sub, hostOps0_1_sub, hostOps0_2_sub, hostOps0_3_sub, hostOps0_4_sub, hostOps0_5_sub,
      hostOps0_6_sub⟩)
    fresh main_chain

end Cert.S5FwdHost

end
-- ==== Proof.S5FwdBody.lean ====
/- The body of the diagonal recurrence's forward call keeps any assertion that holds its staging buffers and its
   scratch: it only loads and stores them, in a fixed order, through counted loops and one branch. -/
module

public import proofs.«01_k».proof.Proof.Gen.S5Fwd.Skeleton
public import proofs.«01_k».proof.Proof.Keeps

@[expose] public section

noncomputable section

namespace Cert.S5FwdBody

open Idealize.ShloMosaic Idealize.ShloMosaic.TcCoe
open Idealize.SL Idealize.SL.RA Idealize.SL.BI
open scoped Idealize.SL.BI
open Cert.S5Fwd Cert.S5Fwd.Gen Cert.Keeps

variable {F : FTy → Type} [FloatOps F]
variable {P : sProp (MT nD τ sig Unit (Elt F) ℕ (UR sig nD τ) ℕ)}

set_option maxHeartbeats 4000000 in
set_option maxRecDepth 65536 in
/-- The body keeps what holds the buffers it touches. -/
theorem keeps (𝒱 : Variants) (c : Dev nD) (i : grid0.Coords)
    (arg1 : Memref sig .tc .vmem S4x320x128 .f32) (harg1 : arg1.IsWhole)
    (arg2 : Memref sig .tc .vmem S8x2048 .f32) (harg2 : arg2.IsWhole)
    (arg3 : Memref sig .tc .vmem S4x128x512 .bf16) (harg3 : arg3.IsWhole)
    (arg4 : Memref sig .tc .vmem S4x128x512 .bf16) (harg4 : arg4.IsWhole)
    (arg5 : Memref sig .tc .vmem S4x512x128 .bf16) (harg5 : arg5.IsWhole)
    (arg6 : Memref sig .tc .vmem S4x512x128 .bf16) (harg6 : arg6.IsWhole)
    (arg7 : Memref sig .tc .vmem S8x512 .f32) (harg7 : arg7.IsWhole)
    (arg8 : Memref sig .tc .vmem S4x128x128 .bf16) (harg8 : arg8.IsWhole)
    (arg9 : Memref sig .tc .vmem S320x2048 .f32) (harg9 : arg9.IsWhole)
    (arg10 : Memref sig .tc .vmem S320x2048 .f32) (harg10 : arg10.IsWhole)
    (arg11 : Memref sig .tc .vmem S320x512 .f32) (harg11 : arg11.IsWhole)
    (arg12 : Memref sig .tc .vmem S320x512 .bf16) (harg12 : arg12.IsWhole)
    (arg13 : Memref sig .tc .vmem S8x2048 .f32) (harg13 : arg13.IsWhole)
    (arg14 : Memref sig .tc .vmem S8x2048 .f32) (harg14 : arg14.IsWhole)
    (arg15 : Memref sig .tc .vmem S320x2048 .f32) (harg15 : arg15.IsWhole)
    (arg16 : Memref sig .tc .vmem S320x2048 .f32) (harg16 : arg16.IsWhole)
    (arg17 : Memref sig .tc .vmem S4x320x128 .f32) (harg17 : arg17.IsWhole)
    (karg1 : Holds (U := UR sig nD τ) P c arg1)
    (karg2 : Holds (U := UR sig nD τ) P c arg2)
    (karg3 : Holds (U := UR sig nD τ) P c arg3)
    (karg4 : Holds (U := UR sig nD τ) P c arg4)
    (karg5 : Holds (U := UR sig nD τ) P c arg5)
    (karg6 : Holds (U := UR sig nD τ) P c arg6)
    (karg7 : Holds (U := UR sig nD τ) P c arg7)
    (karg8 : Holds (U := UR sig nD τ) P c arg8)
    (karg9 : Holds (U := UR sig nD τ) P c arg9)
    (karg10 : Holds (U := UR sig nD τ) P c arg10)
    (karg11 : Holds (U := UR sig nD τ) P c arg11)
    (karg12 : Holds (U := UR sig nD τ) P c arg12)
    (karg13 : Holds (U := UR sig nD τ) P c arg13)
    (karg14 : Holds (U := UR sig nD τ) P c arg14)
    (karg15 : Holds (U := UR sig nD τ) P c arg15)
    (karg16 : Holds (U := UR sig nD τ) P c arg16)
    (karg17 : Holds (U := UR sig nD τ) P c arg17)
    : Keeps (U := UR sig nD τ) (defs₀ (F := F)) 𝒱 c none Set.univ P
      (cc0_s5_fwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_s5_fwd_eq_skeleton]
  unfold cc0_s5_fwd_skel
  repeat' first
    | with_reducible assumption
    | with_reducible apply seq
    | with_reducible apply loads
    | with_reducible apply stores
    | with_reducible apply ret
    | with_reducible apply loop
    | with_reducible apply branch
    | with_reducible intro _
    | (with_reducible change Keeps (U := UR sig nD τ) _ _ _ _ _ _ (Idealize.SL.Sem.Prog.lift _); apply loads)
    | apply seq
    | apply ret
    | apply loop
    | apply branch

end Cert.S5FwdBody

end
-- ==== Proof.S5FwdFrame.lean ====
/- The frame of the diagonal recurrence's forward call: the program runs to its end at every point and leaves its
   arguments and the counters as they were. What stands at every point is the staging buffers and the scratch at some
   contents, which the body keeps (S5FwdBody.lean). The same holds over the extended reals, whose program is the printed
   one read there. -/
module

public import proofs.«01_k».proof.Defs
public import proofs.«01_k».proof.Proof.Gen.S5Fwd.Launch
public import proofs.«01_k».proof.Proof.Gen.S5Fwd.Points
public import proofs.«01_k».proof.Proof.S5FwdHost
public import proofs.«01_k».proof.Proof.S5FwdBody
public import Idealize.ShloMosaic.Lib.Claim

@[expose] public section

set_option maxRecDepth 9436
set_option backward.isDefEq.respectTransparency.types false

noncomputable section

namespace Cert.S5FwdFrame

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)
open Cert.S5Fwd Cert.S5Fwd.Gen Cert.Keeps Cert.S5FwdHost

section

variable {F : FTy → Type} [FloatOps F]
variable (m : (ℓ : Loc nD τ sig) → Buf (Elt F) ℓ) (ρ : Dev nD → PrngReg)

/-- The call's arrays as the host code leaves them; nothing said of what a point leaves. -/
def dats (_ : Fin 1) (c : Dev nD) : Dat τ (Elt F) Unit ℕ (UR sig nD τ) ℕ cfg0 c where
  A w := V m c (Pipeline.arrRef spec0 w)
  after := Pipeline.Dat.unnamed (cfg := cfg0)
  Φ _ := Pipeline.ΦA spec0 c
  q w := Pipeline.shareOf spec0 w
  owed _ := 0

/-- Every window is left at some contents. -/
abbrev any : Fin cfg0.W → Bool := fun _ => true

/-- What stands before and after the body at a point. -/
def held (c : Dev nD) (t : Fin cfg0.N) : sProp (MT nD τ sig Unit (Elt F) ℕ (UR sig nD τ) ℕ) :=
  iprop(Pipeline.ΦA spec0 c ∗ (dats m 0 c).owesAt () t.castSucc
    ∗ bigSep Finset.univ fun w : Fin cfg0.W =>
        iprop(∃ X, owns (c : Thread nD τ) ((cfg0.win w).stage (cfg0.slots t w)) fullShare X))

/-- It holds every staging buffer, -/
theorem staged (c : Dev nD) (t : Fin cfg0.N) (w : Fin cfg0.W) :
    Holds (U := UR sig nD τ) (held m c t) c ((cfg0.win w).stage (cfg0.slots t w)) :=
  right (right (member (Finset.mem_univ w) (owned _)))

/-- and every scratch buffer. -/
theorem scratch (c : Dev nD) (t : Fin cfg0.N) (b : Ref sig .tc) (hb : b.isScoped = true)
    (hw : ∀ p : (w : Fin 12) × Fin (spec0 w).nbuf, Pipeline.stageRef spec0 p ≠ b) :
    Holds (U := UR sig nD τ) (held m c t) c (Memref.whole b) := by
  unfold held Pipeline.ΦA Pipeline.scopedRest
  refine left (left (member (i := b) ?_ (whole b)))
  simp only [Finset.mem_sdiff, Finset.mem_filter, Finset.mem_univ, true_and, Finset.mem_image, not_exists]
  exact ⟨hb, hw⟩

/-- The body at a point. -/
theorem point (c : Dev nD) (t : Fin cfg0.N) :
    Keeps (U := UR sig nD τ) (defs₀ (F := F)) Variants.none c none Set.univ (held m c t) (bodyAt0 t) :=
  S5FwdBody.keeps Variants.none c (grid0.coords t)
      (karg1 := staged m c t 0) (karg2 := staged m c t 1) (karg3 := staged m c t 2)
      (karg4 := staged m c t 3) (karg5 := staged m c t 4) (karg6 := staged m c t 5)
      (karg7 := staged m c t 6) (karg8 := staged m c t 7) (karg9 := staged m c t 8)
      (karg10 := staged m c t 9) (karg11 := staged m c t 10) (karg12 := staged m c t 11)
      (karg13 := scratch m c t cc0_scratch0 rfl (by decide)) (karg14 := scratch m c t cc0_scratch1 rfl (by decide)) (karg15 := scratch m c t cc0_scratch2 rfl (by decide))
      (karg16 := scratch m c t cc0_scratch3 rfl (by decide)) (karg17 := scratch m c t cc0_scratch4 rfl (by decide)) ..

theorem obligation (c : Dev nD) : BodyObligation (dats m 0 c) defs₀ Variants.none () Set.univ any := fun t => by
  have h := point m c t
  unfold Keeps held at h
  exact h

set_option maxHeartbeats 2000000 in
/-- The run: no counter is left up, and an array no window is on keeps what the host code left there. -/
theorem run : θ_run defs (onTc (τ := τ) (main (F := F))) (s₀ m ρ)
    (fun r => Pipeline.RDat.FramePost (cfgs 0) (fun c => (dats m 0 c).toRForget any) (V m) r ∧ r.2.sem = fun _ => 0) :=
  Pipeline.θ_run_frame_forget_shared cfgs (dats m) (0 : Fin 1) launch0.to₀ defs₀ Variants.none any m ρ main
    (hbody := fun c => (obligation m c).loose) (hq := fun _ _ _ => by dsimp only [dats]) (howed := fun _ _ => by dsimp only [dats])
    (V := V m) (hmain := reaches m Variants.none) (hA := fun _ _ => by dsimp only [dats]) (hΦ := fun _ _ => by dsimp only [dats])
    (Q' := _) (hQ' := fun _ h => h)

/-- An array no window is on ends as the host code left it. -/
theorem rest (c : Dev nD) (b : Ref sig .tc) (hb : isArg b = true) (hs : b.isScoped = false)
    (hw : ∀ w : Fin 12, Pipeline.arrRef spec0 w ≠ b) (r : PUnit × MemSt nD τ sig (Elt F))
    (h : ∀ b ∈ Pipeline.restRefs sig spec0, r.2.mem ((c : Thread nD τ).loc b) = V m c b) :
    r.2.mem ((c : Thread nD τ).loc b) = m ((c : Thread nD τ).loc b) :=
  (h b (Pipeline.mem_restRefs_of b hs hw)).trans (argument m c b hb)

theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11))
      ∧ r.2.sem = fun _ => 0) :=
  (θ_run defs _ _).mono (fun r h => ⟨fun c => ⟨rest m c main_arg0 rfl (by decide) (by decide) r (h.1 c).2,
    rest m c main_arg1 rfl (by decide) (by decide) r (h.1 c).2,
    rest m c main_arg2 rfl (by decide) (by decide) r (h.1 c).2,
    rest m c main_arg3 rfl (by decide) (by decide) r (h.1 c).2,
    rest m c main_arg4 rfl (by decide) (by decide) r (h.1 c).2,
    rest m c main_arg5 rfl (by decide) (by decide) r (h.1 c).2,
    rest m c main_arg6 rfl (by decide) (by decide) r (h.1 c).2,
    rest m c main_arg7 rfl (by decide) (by decide) r (h.1 c).2,
    rest m c main_arg8 rfl (by decide) (by decide) r (h.1 c).2,
    rest m c main_arg9 rfl (by decide) (by decide) r (h.1 c).2,
    rest m c main_arg10 rfl (by decide) (by decide) r (h.1 c).2,
    rest m c main_arg11 rfl (by decide) (by decide) r (h.1 c).2⟩, h.2⟩) (run m ρ)

end

variable [h : S5Fwd.Facts] [h' : S5FwdIdeal.Facts]

/-- The printed program, -/
theorem printed : Cert.quiescent_S5Fwd := fun m ρ _ => frame (F := Bits) m ρ

set_option maxHeartbeats 8000000 in
theorem body_same : Cert.S5FwdIdeal.defs₀ (F := Ideal) = Cert.S5Fwd.defs₀ (F := Ideal) := by
  unfold Cert.S5FwdIdeal.defs₀ Cert.S5Fwd.defs₀
  refine congrArg _ ?_
  funext l a
  match l with
  | 0 => rfl

theorem defs_same : Cert.S5FwdIdeal.defs (F := Ideal) = Cert.S5Fwd.defs (F := Ideal) :=
  congrArg (Pipeline.defs (Cert.S5Fwd.pcfgs (F := Ideal))) body_same

set_option maxHeartbeats 8000000 in
/-- and the same program over the extended reals. -/
theorem ideal : Cert.quiescent_S5FwdIdeal := fun m ρ _ => by
  rw [defs_same]; exact frame (F := Ideal) m ρ

end Cert.S5FwdFrame

end
-- ==== Proof.S5FwdRef.lean ====
module
public import proofs.«01_k».proof.Defs
public import proofs.«01_k».proof.Proof.Gen.S5FwdRefIdeal.Run
@[expose] public section
noncomputable section
namespace Cert.S5FwdRef
open Idealize.ShloMosaic Idealize.SL.Sem
theorem frame : Cert.quiescent_S5FwdRefIdeal := fun m ρ _ =>
  (θ_run Cert.S5FwdRefIdeal.defs _ _).mono
    (fun r h => ⟨fun c => (h c).2.2.2.2, Idealize.ShloMosaic.sem_eq_zero_of_no_sems rfl r.2⟩)
    (Cert.S5FwdRefIdeal.Value.run m ρ)
end Cert.S5FwdRef
end
-- ==== Proof.lean ====
module

public import proofs.«01_k».proof.Defs
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInRefIdeal
public import proofs.«01_k».proof.Proof.Gen.BwdInIdeal.Value
public import proofs.«01_k».proof.Proof.Gen.BwdInRefIdeal.Run
public import proofs.«01_k».proof.Proof.Gen.BwdInRefIdeal.Read
public import proofs.«01_k».proof.Proof.Gen.Pre_finite_in
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdIdeal.Value
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.Gen.Pre_finite_pool
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.Pre_finite_ffn
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossRefIdeal
public import proofs.«01_k».proof.Proof.Gen.LossRefIdeal.Run
public import proofs.«01_k».proof.Proof.Gen.S5Bwd
public import proofs.«01_k».proof.Proof.Gen.S5Bwd.Skeleton
public import proofs.«01_k».proof.Proof.Gen.S5Bwd.Launch
public import proofs.«01_k».proof.Proof.Gen.S5Bwd.Points
public import proofs.«01_k».proof.Proof.Gen.S5BwdIdeal
public import proofs.«01_k».proof.Proof.Gen.S5BwdRefIdeal
public import proofs.«01_k».proof.Proof.Gen.S5BwdRefIdeal.Run
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.Gen.Pre_finite_pool_fwd
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Launch
public import proofs.«01_k».proof.Proof.Gen.FwdInIdeal.Points
public import proofs.«01_k».proof.Proof.Gen.FwdInIdeal.Frame
public import proofs.«01_k».proof.Proof.Gen.FwdInIdeal.Value
public import proofs.«01_k».proof.Proof.Gen.FwdInRefIdeal
public import proofs.«01_k».proof.Proof.Gen.FwdInRefIdeal.Run
public import proofs.«01_k».proof.Proof.Gen.FwdInRefIdeal.Read
public import proofs.«01_k».proof.Proof.Gen.S5Fwd
public import proofs.«01_k».proof.Proof.Gen.S5Fwd.Skeleton
public import proofs.«01_k».proof.Proof.Gen.S5Fwd.Launch
public import proofs.«01_k».proof.Proof.Gen.S5Fwd.Points
public import proofs.«01_k».proof.Proof.Gen.S5FwdIdeal
public import proofs.«01_k».proof.Proof.Gen.S5FwdRefIdeal
public import proofs.«01_k».proof.Proof.Gen.S5FwdRefIdeal.Run
public import proofs.«01_k».proof.Proof.BwdIn
public import proofs.«01_k».proof.Proof.PoolBwd
public import proofs.«01_k».proof.Proof.PoolFwd
public import proofs.«01_k».proof.Proof.FfnBwd
public import proofs.«01_k».proof.Proof.LossFrame
public import proofs.«01_k».proof.Proof.S5Frame
public import proofs.«01_k».proof.Proof.S5Ref
public import proofs.«01_k».proof.Proof.Gen.BwdOut
public import proofs.«01_k».proof.Proof.Gen.BwdOut.Skeleton
public import proofs.«01_k».proof.Proof.Gen.BwdOut.Launch
public import proofs.«01_k».proof.Proof.Gen.BwdOut.Points
public import proofs.«01_k».proof.Proof.Gen.BwdOut.Frame
public import proofs.«01_k».proof.Proof.Gen.BwdOutIdeal
public import proofs.«01_k».proof.Proof.Gen.BwdOutIdeal.Skeleton
public import proofs.«01_k».proof.Proof.Gen.BwdOutIdeal.Launch
public import proofs.«01_k».proof.Proof.Gen.BwdOutIdeal.Points
public import proofs.«01_k».proof.Proof.Gen.BwdOutIdeal.Frame
public import proofs.«01_k».proof.Proof.Gen.BwdOutIdeal.Value
public import proofs.«01_k».proof.Proof.Gen.BwdOutRefIdeal
public import proofs.«01_k».proof.Proof.Gen.BwdOutRefIdeal.Run
public import proofs.«01_k».proof.Proof.Gen.BwdOutRefIdeal.Read
public import proofs.«01_k».proof.Proof.Gen.GradFfn
public import proofs.«01_k».proof.Proof.Gen.GradFfn.Skeleton
public import proofs.«01_k».proof.Proof.Gen.GradFfn.Launch
public import proofs.«01_k».proof.Proof.Gen.GradFfn.Points
public import proofs.«01_k».proof.Proof.Gen.GradFfn.Frame
public import proofs.«01_k».proof.Proof.Gen.GradFfnIdeal
public import proofs.«01_k».proof.Proof.Gen.GradFfnIdeal.Skeleton
public import proofs.«01_k».proof.Proof.Gen.GradFfnIdeal.Launch
public import proofs.«01_k».proof.Proof.Gen.GradFfnIdeal.Points
public import proofs.«01_k».proof.Proof.Gen.GradFfnIdeal.Frame
public import proofs.«01_k».proof.Proof.Gen.GradFfnIdeal.Value
public import proofs.«01_k».proof.Proof.Gen.GradFfnRefIdeal
public import proofs.«01_k».proof.Proof.Gen.GradFfnRefIdeal.Run
public import proofs.«01_k».proof.Proof.Gen.GradFfnRefIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.FwdIn
public import proofs.«01_k».proof.Proof.BwdOut
public import proofs.«01_k».proof.Proof.GradFfn
public import proofs.«01_k».proof.Proof.Adamw
public import proofs.«01_k».proof.Proof.S5FwdFrame
public import proofs.«01_k».proof.Proof.S5FwdRef
public import Idealize.ShloMosaic.Adequacy
public import Idealize.ShloMosaic.Init

@[expose] public section

noncomputable section

namespace Cert.Proof

open Idealize.ShloMosaic Idealize.SL.Sem Cert.BwdIn

/-! The references are host operations only: they run, keep their arguments, and declare no semaphore. -/

theorem ref_in : Cert.quiescent_BwdInRefIdeal := fun m ρ _ =>
  (θ_run Cert.BwdInRefIdeal.defs _ _).mono
    (fun r h => ⟨fun c => (h c).2.2.2, Idealize.ShloMosaic.sem_eq_zero_of_no_sems rfl r.2⟩)
    (Cert.BwdInRefIdeal.Value.run m ρ)

theorem ref_pool : Cert.quiescent_PoolBwdRefIdeal := fun m ρ _ =>
  (θ_run Cert.PoolBwdRefIdeal.defs _ _).mono
    (fun r h => ⟨fun c => (h c).2.2.2, Idealize.ShloMosaic.sem_eq_zero_of_no_sems rfl r.2⟩)
    (Cert.PoolBwdRefIdeal.Value.run m ρ)

theorem ref_ffn : Cert.quiescent_FfnBwdRefIdeal := fun m ρ _ =>
  (θ_run Cert.FfnBwdRefIdeal.defs _ _).mono
    (fun r h => ⟨fun c => (h c).2.2.2.2, Idealize.ShloMosaic.sem_eq_zero_of_no_sems rfl r.2⟩)
    (Cert.FfnBwdRefIdeal.Value.run m ρ)

theorem ref_loss : Cert.quiescent_LossRefIdeal := fun m ρ _ =>
  (θ_run Cert.LossRefIdeal.defs _ _).mono
    (fun r h => ⟨fun c => (h c).2.2.2.2.2.2.2.2.2, Idealize.ShloMosaic.sem_eq_zero_of_no_sems rfl r.2⟩)
    (Cert.LossRefIdeal.Value.run m ρ)

theorem ref_pool_fwd : Cert.quiescent_PoolFwdRefIdeal := fun m ρ _ =>
  (θ_run Cert.PoolFwdRefIdeal.defs _ _).mono
    (fun r h => ⟨fun c => (h c).2.2, Idealize.ShloMosaic.sem_eq_zero_of_no_sems rfl r.2⟩)
    (Cert.PoolFwdRefIdeal.Value.run m ρ)

theorem ref_fwd_in : Cert.quiescent_FwdInRefIdeal := fun m ρ _ =>
  (θ_run Cert.FwdInRefIdeal.defs _ _).mono
    (fun r h => ⟨fun c => (h c).2.2, Idealize.ShloMosaic.sem_eq_zero_of_no_sems rfl r.2⟩)
    (Cert.FwdInRefIdeal.Value.run m ρ)

theorem ref_out : Cert.quiescent_BwdOutRefIdeal := fun m ρ _ =>
  (θ_run Cert.BwdOutRefIdeal.defs _ _).mono
    (fun r h => ⟨fun c => (h c).2.2.2, Idealize.ShloMosaic.sem_eq_zero_of_no_sems rfl r.2⟩)
    (Cert.BwdOutRefIdeal.Value.run m ρ)

theorem ref_grad : Cert.quiescent_GradFfnRefIdeal := fun m ρ _ =>
  (θ_run Cert.GradFfnRefIdeal.defs _ _).mono
    (fun r h => ⟨fun c => (h c).2.2.2, Idealize.ShloMosaic.sem_eq_zero_of_no_sems rfl r.2⟩)
    (Cert.GradFfnRefIdeal.Value.run m ρ)

theorem ref_adamw : Cert.quiescent_AdamwRefIdeal := fun m ρ _ =>
  (θ_run Cert.AdamwRefIdeal.defs _ _).mono
    (fun r h => ⟨fun c => (h c).2.2.2, Idealize.ShloMosaic.sem_eq_zero_of_no_sems rfl r.2⟩)
    (Cert.AdamwRefIdeal.Value.run m ρ)

theorem claim : Cert.Claim := ⟨Cert.BwdIn.Gen.facts, Cert.BwdInIdeal.Gen.facts, Cert.BwdInRefIdeal.Gen.facts,
  Cert.PoolBwd.Gen.facts, Cert.PoolBwdIdeal.Gen.facts, Cert.PoolBwdRefIdeal.Gen.facts,
  Cert.FfnBwd.Gen.facts, Cert.FfnBwdIdeal.Gen.facts, Cert.FfnBwdRefIdeal.Gen.facts,
  Cert.Loss.Gen.facts, Cert.LossIdeal.Gen.facts, Cert.LossRefIdeal.Gen.facts,
  Cert.S5Bwd.Gen.facts, Cert.S5BwdIdeal.Gen.facts, Cert.S5BwdRefIdeal.Gen.facts,
  Cert.PoolFwd.Gen.facts, Cert.PoolFwdIdeal.Gen.facts, Cert.PoolFwdRefIdeal.Gen.facts,
  Cert.FwdIn.Gen.facts, Cert.FwdInIdeal.Gen.facts, Cert.FwdInRefIdeal.Gen.facts,
  Cert.S5Fwd.Gen.facts, Cert.S5FwdIdeal.Gen.facts, Cert.S5FwdRefIdeal.Gen.facts,
  Cert.BwdOut.Gen.facts, Cert.BwdOutIdeal.Gen.facts, Cert.BwdOutRefIdeal.Gen.facts,
  Cert.GradFfn.Gen.facts, Cert.GradFfnIdeal.Gen.facts, Cert.GradFfnRefIdeal.Gen.facts,
  Cert.Adamw.Gen.facts, Cert.AdamwIdeal.Gen.facts, Cert.AdamwRefIdeal.Gen.facts,
  Cert.Pre_finite_in.Gen.facts, Cert.Pre_finite_pool.Gen.facts, Cert.Pre_finite_ffn.Gen.facts, Cert.Pre_finite_pool_fwd.Gen.facts,
  fun m ρ _ => Cert.BwdIn.Gen.frame m ρ,
  fun m ρ _ => Cert.BwdInIdeal.Gen.frame m ρ,
  fun m ρ _ => Cert.BwdInIdeal.Gen.frame m ρ,
  ref_in,
  fun m ρ _ => ref_in m ρ trivial,
  fun m ρ _ => Cert.PoolBwd.Gen.frame m ρ,
  fun m ρ _ => Cert.PoolBwdIdeal.Gen.frame m ρ,
  fun m ρ _ => Cert.PoolBwdIdeal.Gen.frame m ρ,
  ref_pool,
  fun m ρ _ => ref_pool m ρ trivial,
  fun m ρ _ => Cert.FfnBwd.Gen.frame m ρ,
  fun m ρ _ => Cert.FfnBwdIdeal.Gen.frame m ρ,
  fun m ρ _ => Cert.FfnBwdIdeal.Gen.frame m ρ,
  ref_ffn,
  fun m ρ _ => ref_ffn m ρ trivial,
  Cert.LossFrame.printed, Cert.LossFrame.ideal, ref_loss,
  Cert.S5Frame.printed, Cert.S5Frame.ideal, Cert.S5Ref.frame,
  fun m ρ _ => Cert.PoolFwd.Gen.frame m ρ,
  fun m ρ _ => Cert.PoolFwdIdeal.Gen.frame m ρ,
  fun m ρ _ => Cert.PoolFwdIdeal.Gen.frame m ρ,
  ref_pool_fwd,
  fun m ρ _ => ref_pool_fwd m ρ trivial,
  fun m ρ _ => Cert.FwdIn.Gen.frame m ρ,
  fun m ρ _ => Cert.FwdInIdeal.Gen.frame m ρ,
  ref_fwd_in,
  Cert.S5FwdFrame.printed, Cert.S5FwdFrame.ideal, Cert.S5FwdRef.frame,
  fun m ρ _ => Cert.BwdOut.Gen.frame m ρ,
  fun m ρ _ => Cert.BwdOutIdeal.Gen.frame m ρ,
  ref_out,
  fun m ρ _ => Cert.GradFfn.Gen.frame m ρ,
  fun m ρ _ => Cert.GradFfnIdeal.Gen.frame m ρ,
  ref_grad,
  fun m ρ _ => Cert.Adamw.Gen.frame m ρ,
  fun m ρ _ => Cert.AdamwIdeal.Gen.frame m ρ,
  ref_adamw,
  trivial, Cert.BwdInEqual.algebraic, trivial, Cert.PoolBwdEqual.algebraic, trivial, Cert.FfnBwdEqual.algebraic, trivial, trivial,
  trivial, Cert.PoolFwdEqual.algebraic, trivial, Cert.FwdInEqual.algebraic, trivial,
  trivial, Cert.BwdOutEqual.algebraic, trivial, Cert.GradFfnEqual.algebraic, trivial, Cert.AdamwEqual.algebraic⟩

end Cert.Proof

end
